-- ==== Defs.lean ====
def Pre_FGate (m : (ℓ : Loc Cert.FGate.nD Cert.FGate.τ Cert.FGate.sig) → Buf (Elt Bits) ℓ) : Prop :=
  True

def Pre_FGateIdeal (m : (ℓ : Loc Cert.FGateIdeal.nD Cert.FGateIdeal.τ Cert.FGateIdeal.sig) → Buf (Elt Ideal) ℓ) : Prop :=
  True

def Pre_FGateIdeal_fgate_finite [hPre_fgate_finite : Cert.Pre_fgate_finite.Facts] (m : (ℓ : Loc Cert.FGateIdeal.nD Cert.FGateIdeal.τ Cert.FGateIdeal.sig) → Buf (Elt Ideal) ℓ) : Prop :=
  ∀ c : Dev Cert.FGateIdeal.nD,
    (Cert.Pre_fgate_finite.fn (F := Ideal) (m ((c.tc : Thread Cert.FGateIdeal.nD Cert.FGateIdeal.τ).loc Cert.FGateIdeal.main_arg0)) (m ((c.tc : Thread Cert.FGateIdeal.nD Cert.FGateIdeal.τ).loc Cert.FGateIdeal.main_arg1)) (m ((c.tc : Thread Cert.FGateIdeal.nD Cert.FGateIdeal.τ).loc Cert.FGateIdeal.main_arg2)) (m ((c.tc : Thread Cert.FGateIdeal.nD Cert.FGateIdeal.τ).loc Cert.FGateIdeal.main_arg3))) = (fun _ => 1#1)

def Pre_FGateRefIdeal (m : (ℓ : Loc Cert.FGateRefIdeal.nD Cert.FGateRefIdeal.τ Cert.FGateRefIdeal.sig) → Buf (Elt Ideal) ℓ) : Prop :=
  True

def Pre_FGateRefIdeal_fgate_finite [hPre_fgate_finite : Cert.Pre_fgate_finite.Facts] (m : (ℓ : Loc Cert.FGateRefIdeal.nD Cert.FGateRefIdeal.τ Cert.FGateRefIdeal.sig) → Buf (Elt Ideal) ℓ) : Prop :=
  ∀ c : Dev Cert.FGateRefIdeal.nD,
    (Cert.Pre_fgate_finite.fn (F := Ideal) (m ((c.tc : Thread Cert.FGateRefIdeal.nD Cert.FGateRefIdeal.τ).loc Cert.FGateRefIdeal.main_arg0)) (m ((c.tc : Thread Cert.FGateRefIdeal.nD Cert.FGateRefIdeal.τ).loc Cert.FGateRefIdeal.main_arg1)) (m ((c.tc : Thread Cert.FGateRefIdeal.nD Cert.FGateRefIdeal.τ).loc Cert.FGateRefIdeal.main_arg2)) (m ((c.tc : Thread Cert.FGateRefIdeal.nD Cert.FGateRefIdeal.τ).loc Cert.FGateRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_inproj_finite [hPre_inproj_finite : Cert.Pre_inproj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_inproj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_inproj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.1 = (fun _ => 1#1)
    ∧ (Cert.Pre_inproj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.1 = (fun _ => 1#1)
    ∧ (Cert.Pre_inproj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_inproj_finite [hPre_inproj_finite : Cert.Pre_inproj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_inproj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_inproj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.1 = (fun _ => 1#1)
    ∧ (Cert.Pre_inproj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.1 = (fun _ => 1#1)
    ∧ (Cert.Pre_inproj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))).2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))).2.2.2.2 = (fun _ => 1#1)

def Pre_ConvPw (m : (ℓ : Loc Cert.ConvPw.nD Cert.ConvPw.τ Cert.ConvPw.sig) → Buf (Elt Bits) ℓ) : Prop :=
  True

def Pre_ConvPwIdeal (m : (ℓ : Loc Cert.ConvPwIdeal.nD Cert.ConvPwIdeal.τ Cert.ConvPwIdeal.sig) → Buf (Elt Ideal) ℓ) : Prop :=
  True

def Pre_ConvPwIdeal_pw_finite [hPre_pw_finite : Cert.Pre_pw_finite.Facts] (m : (ℓ : Loc Cert.ConvPwIdeal.nD Cert.ConvPwIdeal.τ Cert.ConvPwIdeal.sig) → Buf (Elt Ideal) ℓ) : Prop :=
  ∀ c : Dev Cert.ConvPwIdeal.nD,
    (Cert.Pre_pw_finite.fn (F := Ideal) (m ((c.tc : Thread Cert.ConvPwIdeal.nD Cert.ConvPwIdeal.τ).loc Cert.ConvPwIdeal.main_arg0)) (m ((c.tc : Thread Cert.ConvPwIdeal.nD Cert.ConvPwIdeal.τ).loc Cert.ConvPwIdeal.main_arg1)) (m ((c.tc : Thread Cert.ConvPwIdeal.nD Cert.ConvPwIdeal.τ).loc Cert.ConvPwIdeal.main_arg2)) (m ((c.tc : Thread Cert.ConvPwIdeal.nD Cert.ConvPwIdeal.τ).loc Cert.ConvPwIdeal.main_arg3)) (m ((c.tc : Thread Cert.ConvPwIdeal.nD Cert.ConvPwIdeal.τ).loc Cert.ConvPwIdeal.main_arg4)) (m ((c.tc : Thread Cert.ConvPwIdeal.nD Cert.ConvPwIdeal.τ).loc Cert.ConvPwIdeal.main_arg5)) (m ((c.tc : Thread Cert.ConvPwIdeal.nD Cert.ConvPwIdeal.τ).loc Cert.ConvPwIdeal.main_arg6)) (m ((c.tc : Thread Cert.ConvPwIdeal.nD Cert.ConvPwIdeal.τ).loc Cert.ConvPwIdeal.main_arg7)) (m ((c.tc : Thread Cert.ConvPwIdeal.nD Cert.ConvPwIdeal.τ).loc Cert.ConvPwIdeal.main_arg8))).1 = (fun _ => 1#1)
    ∧ (Cert.Pre_pw_finite.fn (F := Ideal) (m ((c.tc : Thread Cert.ConvPwIdeal.nD Cert.ConvPwIdeal.τ).loc Cert.ConvPwIdeal.main_arg0)) (m ((c.tc : Thread Cert.ConvPwIdeal.nD Cert.ConvPwIdeal.τ).loc Cert.ConvPwIdeal.main_arg1)) (m ((c.tc : Thread Cert.ConvPwIdeal.nD Cert.ConvPwIdeal.τ).loc Cert.ConvPwIdeal.main_arg2)) (m ((c.tc : Thread Cert.ConvPwIdeal.nD Cert.ConvPwIdeal.τ).loc Cert.ConvPwIdeal.main_arg3)) (m ((c.tc : Thread Cert.ConvPwIdeal.nD Cert.ConvPwIdeal.τ).loc Cert.ConvPwIdeal.main_arg4)) (m ((c.tc : Thread Cert.ConvPwIdeal.nD Cert.ConvPwIdeal.τ).loc Cert.ConvPwIdeal.main_arg5)) (m ((c.tc : Thread Cert.ConvPwIdeal.nD Cert.ConvPwIdeal.τ).loc Cert.ConvPwIdeal.main_arg6)) (m ((c.tc : Thread Cert.ConvPwIdeal.nD Cert.ConvPwIdeal.τ).loc Cert.ConvPwIdeal.main_arg7)) (m ((c.tc : Thread Cert.ConvPwIdeal.nD Cert.ConvPwIdeal.τ).loc Cert.ConvPwIdeal.main_arg8))).2.1 = (fun _ => 1#1)
    ∧ (Cert.Pre_pw_finite.fn (F := Ideal) (m ((c.tc : Thread Cert.ConvPwIdeal.nD Cert.ConvPwIdeal.τ).loc Cert.ConvPwIdeal.main_arg0)) (m ((c.tc : Thread Cert.ConvPwIdeal.nD Cert.ConvPwIdeal.τ).loc Cert.ConvPwIdeal.main_arg1)) (m ((c.tc : Thread Cert.ConvPwIdeal.nD Cert.ConvPwIdeal.τ).loc Cert.ConvPwIdeal.main_arg2)) (m ((c.tc : Thread Cert.ConvPwIdeal.nD Cert.ConvPwIdeal.τ).loc Cert.ConvPwIdeal.main_arg3)) (m ((c.tc : Thread Cert.ConvPwIdeal.nD Cert.ConvPwIdeal.τ).loc Cert.ConvPwIdeal.main_arg4)) (m ((c.tc : Thread Cert.ConvPwIdeal.nD Cert.ConvPwIdeal.τ).loc Cert.ConvPwIdeal.main_arg5)) (m ((c.tc : Thread Cert.ConvPwIdeal.nD Cert.ConvPwIdeal.τ).loc Cert.ConvPwIdeal.main_arg6)) (m ((c.tc : Thread Cert.ConvPwIdeal.nD Cert.ConvPwIdeal.τ).loc Cert.ConvPwIdeal.main_arg7)) (m ((c.tc : Thread Cert.ConvPwIdeal.nD Cert.ConvPwIdeal.τ).loc Cert.ConvPwIdeal.main_arg8))).2.2.1 = (fun _ => 1#1)
    ∧ (Cert.Pre_pw_finite.fn (F := Ideal) (m ((c.tc : Thread Cert.ConvPwIdeal.nD Cert.ConvPwIdeal.τ).loc Cert.ConvPwIdeal.main_arg0)) (m ((c.tc : Thread Cert.ConvPwIdeal.nD Cert.ConvPwIdeal.τ).loc Cert.ConvPwIdeal.main_arg1)) (m ((c.tc : Thread Cert.ConvPwIdeal.nD Cert.ConvPwIdeal.τ).loc Cert.ConvPwIdeal.main_arg2)) (m ((c.tc : Thread Cert.ConvPwIdeal.nD Cert.ConvPwIdeal.τ).loc Cert.ConvPwIdeal.main_arg3)) (m ((c.tc : Thread Cert.ConvPwIdeal.nD Cert.ConvPwIdeal.τ).loc Cert.ConvPwIdeal.main_arg4)) (m ((c.tc : Thread Cert.ConvPwIdeal.nD Cert.ConvPwIdeal.τ).loc Cert.ConvPwIdeal.main_arg5)) (m ((c.tc : Thread Cert.ConvPwIdeal.nD Cert.ConvPwIdeal.τ).loc Cert.ConvPwIdeal.main_arg6)) (m ((c.tc : Thread Cert.ConvPwIdeal.nD Cert.ConvPwIdeal.τ).loc Cert.ConvPwIdeal.main_arg7)) (m ((c.tc : Thread Cert.ConvPwIdeal.nD Cert.ConvPwIdeal.τ).loc Cert.ConvPwIdeal.main_arg8))).2.2.2.1 = (fun _ => 1#1)
    ∧ (Cert.Pre_pw_finite.fn (F := Ideal) (m ((c.tc : Thread Cert.ConvPwIdeal.nD Cert.ConvPwIdeal.τ).loc Cert.ConvPwIdeal.main_arg0)) (m ((c.tc : Thread Cert.ConvPwIdeal.nD Cert.ConvPwIdeal.τ).loc Cert.ConvPwIdeal.main_arg1)) (m ((c.tc : Thread Cert.ConvPwIdeal.nD Cert.ConvPwIdeal.τ).loc Cert.ConvPwIdeal.main_arg2)) (m ((c.tc : Thread Cert.ConvPwIdeal.nD Cert.ConvPwIdeal.τ).loc Cert.ConvPwIdeal.main_arg3)) (m ((c.tc : Thread Cert.ConvPwIdeal.nD Cert.ConvPwIdeal.τ).loc Cert.ConvPwIdeal.main_arg4)) (m ((c.tc : Thread Cert.ConvPwIdeal.nD Cert.ConvPwIdeal.τ).loc Cert.ConvPwIdeal.main_arg5)) (m ((c.tc : Thread Cert.ConvPwIdeal.nD Cert.ConvPwIdeal.τ).loc Cert.ConvPwIdeal.main_arg6)) (m ((c.tc : Thread Cert.ConvPwIdeal.nD Cert.ConvPwIdeal.τ).loc Cert.ConvPwIdeal.main_arg7)) (m ((c.tc : Thread Cert.ConvPwIdeal.nD Cert.ConvPwIdeal.τ).loc Cert.ConvPwIdeal.main_arg8))).2.2.2.2.1 = (fun _ => 1#1)
    ∧ (Cert.Pre_pw_finite.fn (F := Ideal) (m ((c.tc : Thread Cert.ConvPwIdeal.nD Cert.ConvPwIdeal.τ).loc Cert.ConvPwIdeal.main_arg0)) (m ((c.tc : Thread Cert.ConvPwIdeal.nD Cert.ConvPwIdeal.τ).loc Cert.ConvPwIdeal.main_arg1)) (m ((c.tc : Thread Cert.ConvPwIdeal.nD Cert.ConvPwIdeal.τ).loc Cert.ConvPwIdeal.main_arg2)) (m ((c.tc : Thread Cert.ConvPwIdeal.nD Cert.ConvPwIdeal.τ).loc Cert.ConvPwIdeal.main_arg3)) (m ((c.tc : Thread Cert.ConvPwIdeal.nD Cert.ConvPwIdeal.τ).loc Cert.ConvPwIdeal.main_arg4)) (m ((c.tc : Thread Cert.ConvPwIdeal.nD Cert.ConvPwIdeal.τ).loc Cert.ConvPwIdeal.main_arg5)) (m ((c.tc : Thread Cert.ConvPwIdeal.nD Cert.ConvPwIdeal.τ).loc Cert.ConvPwIdeal.main_arg6)) (m ((c.tc : Thread Cert.ConvPwIdeal.nD Cert.ConvPwIdeal.τ).loc Cert.ConvPwIdeal.main_arg7)) (m ((c.tc : Thread Cert.ConvPwIdeal.nD Cert.ConvPwIdeal.τ).loc Cert.ConvPwIdeal.main_arg8))).2.2.2.2.2 = (fun _ => 1#1)

def Pre_ConvPwRefIdeal (m : (ℓ : Loc Cert.ConvPwRefIdeal.nD Cert.ConvPwRefIdeal.τ Cert.ConvPwRefIdeal.sig) → Buf (Elt Ideal) ℓ) : Prop :=
  True

def Pre_ConvPwRefIdeal_pw_finite [hPre_pw_finite : Cert.Pre_pw_finite.Facts] (m : (ℓ : Loc Cert.ConvPwRefIdeal.nD Cert.ConvPwRefIdeal.τ Cert.ConvPwRefIdeal.sig) → Buf (Elt Ideal) ℓ) : Prop :=
  ∀ c : Dev Cert.ConvPwRefIdeal.nD,
    (Cert.Pre_pw_finite.fn (F := Ideal) (m ((c.tc : Thread Cert.ConvPwRefIdeal.nD Cert.ConvPwRefIdeal.τ).loc Cert.ConvPwRefIdeal.main_arg0)) (m ((c.tc : Thread Cert.ConvPwRefIdeal.nD Cert.ConvPwRefIdeal.τ).loc Cert.ConvPwRefIdeal.main_arg1)) (m ((c.tc : Thread Cert.ConvPwRefIdeal.nD Cert.ConvPwRefIdeal.τ).loc Cert.ConvPwRefIdeal.main_arg2)) (m ((c.tc : Thread Cert.ConvPwRefIdeal.nD Cert.ConvPwRefIdeal.τ).loc Cert.ConvPwRefIdeal.main_arg3)) (m ((c.tc : Thread Cert.ConvPwRefIdeal.nD Cert.ConvPwRefIdeal.τ).loc Cert.ConvPwRefIdeal.main_arg4)) (m ((c.tc : Thread Cert.ConvPwRefIdeal.nD Cert.ConvPwRefIdeal.τ).loc Cert.ConvPwRefIdeal.main_arg5)) (m ((c.tc : Thread Cert.ConvPwRefIdeal.nD Cert.ConvPwRefIdeal.τ).loc Cert.ConvPwRefIdeal.main_arg6)) (m ((c.tc : Thread Cert.ConvPwRefIdeal.nD Cert.ConvPwRefIdeal.τ).loc Cert.ConvPwRefIdeal.main_arg7)) (m ((c.tc : Thread Cert.ConvPwRefIdeal.nD Cert.ConvPwRefIdeal.τ).loc Cert.ConvPwRefIdeal.main_arg8))).1 = (fun _ => 1#1)
    ∧ (Cert.Pre_pw_finite.fn (F := Ideal) (m ((c.tc : Thread Cert.ConvPwRefIdeal.nD Cert.ConvPwRefIdeal.τ).loc Cert.ConvPwRefIdeal.main_arg0)) (m ((c.tc : Thread Cert.ConvPwRefIdeal.nD Cert.ConvPwRefIdeal.τ).loc Cert.ConvPwRefIdeal.main_arg1)) (m ((c.tc : Thread Cert.ConvPwRefIdeal.nD Cert.ConvPwRefIdeal.τ).loc Cert.ConvPwRefIdeal.main_arg2)) (m ((c.tc : Thread Cert.ConvPwRefIdeal.nD Cert.ConvPwRefIdeal.τ).loc Cert.ConvPwRefIdeal.main_arg3)) (m ((c.tc : Thread Cert.ConvPwRefIdeal.nD Cert.ConvPwRefIdeal.τ).loc Cert.ConvPwRefIdeal.main_arg4)) (m ((c.tc : Thread Cert.ConvPwRefIdeal.nD Cert.ConvPwRefIdeal.τ).loc Cert.ConvPwRefIdeal.main_arg5)) (m ((c.tc : Thread Cert.ConvPwRefIdeal.nD Cert.ConvPwRefIdeal.τ).loc Cert.ConvPwRefIdeal.main_arg6)) (m ((c.tc : Thread Cert.ConvPwRefIdeal.nD Cert.ConvPwRefIdeal.τ).loc Cert.ConvPwRefIdeal.main_arg7)) (m ((c.tc : Thread Cert.ConvPwRefIdeal.nD Cert.ConvPwRefIdeal.τ).loc Cert.ConvPwRefIdeal.main_arg8))).2.1 = (fun _ => 1#1)
    ∧ (Cert.Pre_pw_finite.fn (F := Ideal) (m ((c.tc : Thread Cert.ConvPwRefIdeal.nD Cert.ConvPwRefIdeal.τ).loc Cert.ConvPwRefIdeal.main_arg0)) (m ((c.tc : Thread Cert.ConvPwRefIdeal.nD Cert.ConvPwRefIdeal.τ).loc Cert.ConvPwRefIdeal.main_arg1)) (m ((c.tc : Thread Cert.ConvPwRefIdeal.nD Cert.ConvPwRefIdeal.τ).loc Cert.ConvPwRefIdeal.main_arg2)) (m ((c.tc : Thread Cert.ConvPwRefIdeal.nD Cert.ConvPwRefIdeal.τ).loc Cert.ConvPwRefIdeal.main_arg3)) (m ((c.tc : Thread Cert.ConvPwRefIdeal.nD Cert.ConvPwRefIdeal.τ).loc Cert.ConvPwRefIdeal.main_arg4)) (m ((c.tc : Thread Cert.ConvPwRefIdeal.nD Cert.ConvPwRefIdeal.τ).loc Cert.ConvPwRefIdeal.main_arg5)) (m ((c.tc : Thread Cert.ConvPwRefIdeal.nD Cert.ConvPwRefIdeal.τ).loc Cert.ConvPwRefIdeal.main_arg6)) (m ((c.tc : Thread Cert.ConvPwRefIdeal.nD Cert.ConvPwRefIdeal.τ).loc Cert.ConvPwRefIdeal.main_arg7)) (m ((c.tc : Thread Cert.ConvPwRefIdeal.nD Cert.ConvPwRefIdeal.τ).loc Cert.ConvPwRefIdeal.main_arg8))).2.2.1 = (fun _ => 1#1)
    ∧ (Cert.Pre_pw_finite.fn (F := Ideal) (m ((c.tc : Thread Cert.ConvPwRefIdeal.nD Cert.ConvPwRefIdeal.τ).loc Cert.ConvPwRefIdeal.main_arg0)) (m ((c.tc : Thread Cert.ConvPwRefIdeal.nD Cert.ConvPwRefIdeal.τ).loc Cert.ConvPwRefIdeal.main_arg1)) (m ((c.tc : Thread Cert.ConvPwRefIdeal.nD Cert.ConvPwRefIdeal.τ).loc Cert.ConvPwRefIdeal.main_arg2)) (m ((c.tc : Thread Cert.ConvPwRefIdeal.nD Cert.ConvPwRefIdeal.τ).loc Cert.ConvPwRefIdeal.main_arg3)) (m ((c.tc : Thread Cert.ConvPwRefIdeal.nD Cert.ConvPwRefIdeal.τ).loc Cert.ConvPwRefIdeal.main_arg4)) (m ((c.tc : Thread Cert.ConvPwRefIdeal.nD Cert.ConvPwRefIdeal.τ).loc Cert.ConvPwRefIdeal.main_arg5)) (m ((c.tc : Thread Cert.ConvPwRefIdeal.nD Cert.ConvPwRefIdeal.τ).loc Cert.ConvPwRefIdeal.main_arg6)) (m ((c.tc : Thread Cert.ConvPwRefIdeal.nD Cert.ConvPwRefIdeal.τ).loc Cert.ConvPwRefIdeal.main_arg7)) (m ((c.tc : Thread Cert.ConvPwRefIdeal.nD Cert.ConvPwRefIdeal.τ).loc Cert.ConvPwRefIdeal.main_arg8))).2.2.2.1 = (fun _ => 1#1)
    ∧ (Cert.Pre_pw_finite.fn (F := Ideal) (m ((c.tc : Thread Cert.ConvPwRefIdeal.nD Cert.ConvPwRefIdeal.τ).loc Cert.ConvPwRefIdeal.main_arg0)) (m ((c.tc : Thread Cert.ConvPwRefIdeal.nD Cert.ConvPwRefIdeal.τ).loc Cert.ConvPwRefIdeal.main_arg1)) (m ((c.tc : Thread Cert.ConvPwRefIdeal.nD Cert.ConvPwRefIdeal.τ).loc Cert.ConvPwRefIdeal.main_arg2)) (m ((c.tc : Thread Cert.ConvPwRefIdeal.nD Cert.ConvPwRefIdeal.τ).loc Cert.ConvPwRefIdeal.main_arg3)) (m ((c.tc : Thread Cert.ConvPwRefIdeal.nD Cert.ConvPwRefIdeal.τ).loc Cert.ConvPwRefIdeal.main_arg4)) (m ((c.tc : Thread Cert.ConvPwRefIdeal.nD Cert.ConvPwRefIdeal.τ).loc Cert.ConvPwRefIdeal.main_arg5)) (m ((c.tc : Thread Cert.ConvPwRefIdeal.nD Cert.ConvPwRefIdeal.τ).loc Cert.ConvPwRefIdeal.main_arg6)) (m ((c.tc : Thread Cert.ConvPwRefIdeal.nD Cert.ConvPwRefIdeal.τ).loc Cert.ConvPwRefIdeal.main_arg7)) (m ((c.tc : Thread Cert.ConvPwRefIdeal.nD Cert.ConvPwRefIdeal.τ).loc Cert.ConvPwRefIdeal.main_arg8))).2.2.2.2.1 = (fun _ => 1#1)
    ∧ (Cert.Pre_pw_finite.fn (F := Ideal) (m ((c.tc : Thread Cert.ConvPwRefIdeal.nD Cert.ConvPwRefIdeal.τ).loc Cert.ConvPwRefIdeal.main_arg0)) (m ((c.tc : Thread Cert.ConvPwRefIdeal.nD Cert.ConvPwRefIdeal.τ).loc Cert.ConvPwRefIdeal.main_arg1)) (m ((c.tc : Thread Cert.ConvPwRefIdeal.nD Cert.ConvPwRefIdeal.τ).loc Cert.ConvPwRefIdeal.main_arg2)) (m ((c.tc : Thread Cert.ConvPwRefIdeal.nD Cert.ConvPwRefIdeal.τ).loc Cert.ConvPwRefIdeal.main_arg3)) (m ((c.tc : Thread Cert.ConvPwRefIdeal.nD Cert.ConvPwRefIdeal.τ).loc Cert.ConvPwRefIdeal.main_arg4)) (m ((c.tc : Thread Cert.ConvPwRefIdeal.nD Cert.ConvPwRefIdeal.τ).loc Cert.ConvPwRefIdeal.main_arg5)) (m ((c.tc : Thread Cert.ConvPwRefIdeal.nD Cert.ConvPwRefIdeal.τ).loc Cert.ConvPwRefIdeal.main_arg6)) (m ((c.tc : Thread Cert.ConvPwRefIdeal.nD Cert.ConvPwRefIdeal.τ).loc Cert.ConvPwRefIdeal.main_arg7)) (m ((c.tc : Thread Cert.ConvPwRefIdeal.nD Cert.ConvPwRefIdeal.τ).loc Cert.ConvPwRefIdeal.main_arg8))).2.2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def quiescent_FGate [hFGate : Cert.FGate.Facts] : Prop :=
  ∀ (m : (ℓ : Loc Cert.FGate.nD Cert.FGate.τ Cert.FGate.sig) → Buf (Elt Bits) ℓ) (g : Dev Cert.FGate.nD → PrngReg), Pre_FGate m →
    θ_run (Cert.FGate.defs (F := Bits)) (onTc (τ := Cert.FGate.τ) (Cert.FGate.main (F := Bits))) ⟨m, fun _ => 0, g⟩ (fun r => (∀ c : Dev Cert.FGate.nD,
      r.2.mem ((c.tc : Thread Cert.FGate.nD Cert.FGate.τ).loc Cert.FGate.main_arg0) = m ((c.tc : Thread Cert.FGate.nD Cert.FGate.τ).loc Cert.FGate.main_arg0)
      ∧ r.2.mem ((c.tc : Thread Cert.FGate.nD Cert.FGate.τ).loc Cert.FGate.main_arg1) = m ((c.tc : Thread Cert.FGate.nD Cert.FGate.τ).loc Cert.FGate.main_arg1)
      ∧ r.2.mem ((c.tc : Thread Cert.FGate.nD Cert.FGate.τ).loc Cert.FGate.main_arg2) = m ((c.tc : Thread Cert.FGate.nD Cert.FGate.τ).loc Cert.FGate.main_arg2)
      ∧ r.2.mem ((c.tc : Thread Cert.FGate.nD Cert.FGate.τ).loc Cert.FGate.main_arg3) = m ((c.tc : Thread Cert.FGate.nD Cert.FGate.τ).loc Cert.FGate.main_arg3))
      ∧ r.2.sem = fun _ => 0)

def quiescent_FGateIdeal [hFGateIdeal : Cert.FGateIdeal.Facts] : Prop :=
  ∀ (m : (ℓ : Loc Cert.FGateIdeal.nD Cert.FGateIdeal.τ Cert.FGateIdeal.sig) → Buf (Elt Ideal) ℓ) (g : Dev Cert.FGateIdeal.nD → PrngReg), Pre_FGateIdeal m →
    θ_run (Cert.FGateIdeal.defs (F := Ideal)) (onTc (τ := Cert.FGateIdeal.τ) (Cert.FGateIdeal.main (F := Ideal))) ⟨m, fun _ => 0, g⟩ (fun r => (∀ c : Dev Cert.FGateIdeal.nD,
      r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
      ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1)
      ∧ r.2.mem ((c.tc : Thread Cert.FGateIdeal.nD Cert.FGateIdeal.τ).loc Cert.FGateIdeal.main_arg2) = m ((c.tc : Thread Cert.FGateIdeal.nD Cert.FGateIdeal.τ).loc Cert.FGateIdeal.main_arg2)
      ∧ r.2.mem ((c.tc : Thread Cert.FGateIdeal.nD Cert.FGateIdeal.τ).loc Cert.FGateIdeal.main_arg3) = m ((c.tc : Thread Cert.FGateIdeal.nD Cert.FGateIdeal.τ).loc Cert.FGateIdeal.main_arg3))
      ∧ r.2.sem = fun _ => 0)

def quiescent_FGateIdeal_pre_fgate_finite [hFGateIdeal : Cert.FGateIdeal.Facts] [hPre_fgate_finite : Cert.Pre_fgate_finite.Facts] : Prop :=
  ∀ (m : (ℓ : Loc Cert.FGateIdeal.nD Cert.FGateIdeal.τ Cert.FGateIdeal.sig) → Buf (Elt Ideal) ℓ) (g : Dev Cert.FGateIdeal.nD → PrngReg), Pre_FGateIdeal_fgate_finite m →
    θ_run (Cert.FGateIdeal.defs (F := Ideal)) (onTc (τ := Cert.FGateIdeal.τ) (Cert.FGateIdeal.main (F := Ideal))) ⟨m, fun _ => 0, g⟩ (fun r => (∀ c : Dev Cert.FGateIdeal.nD,
      r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
      ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1)
      ∧ r.2.mem ((c.tc : Thread Cert.FGateIdeal.nD Cert.FGateIdeal.τ).loc Cert.FGateIdeal.main_arg2) = m ((c.tc : Thread Cert.FGateIdeal.nD Cert.FGateIdeal.τ).loc Cert.FGateIdeal.main_arg2)
      ∧ r.2.mem ((c.tc : Thread Cert.FGateIdeal.nD Cert.FGateIdeal.τ).loc Cert.FGateIdeal.main_arg3) = m ((c.tc : Thread Cert.FGateIdeal.nD Cert.FGateIdeal.τ).loc Cert.FGateIdeal.main_arg3))
      ∧ r.2.sem = fun _ => 0)

def quiescent_FGateRefIdeal [hFGateRefIdeal : Cert.FGateRefIdeal.Facts] : Prop :=
  ∀ (m : (ℓ : Loc Cert.FGateRefIdeal.nD Cert.FGateRefIdeal.τ Cert.FGateRefIdeal.sig) → Buf (Elt Ideal) ℓ) (g : Dev Cert.FGateRefIdeal.nD → PrngReg), Pre_FGateRefIdeal m →
    θ_run (Cert.FGateRefIdeal.defs (F := Ideal)) (onTc (τ := Cert.FGateRefIdeal.τ) (Cert.FGateRefIdeal.main (F := Ideal))) ⟨m, fun _ => 0, g⟩ (fun r => (∀ c : Dev Cert.FGateRefIdeal.nD,
      r.2.mem ((c.tc : Thread Cert.FGateRefIdeal.nD Cert.FGateRefIdeal.τ).loc Cert.FGateRefIdeal.main_arg0) = m ((c.tc : Thread Cert.FGateRefIdeal.nD Cert.FGateRefIdeal.τ).loc Cert.FGateRefIdeal.main_arg0)
      ∧ r.2.mem ((c.tc : Thread Cert.FGateRefIdeal.nD Cert.FGateRefIdeal.τ).loc Cert.FGateRefIdeal.main_arg1) = m ((c.tc : Thread Cert.FGateRefIdeal.nD Cert.FGateRefIdeal.τ).loc Cert.FGateRefIdeal.main_arg1)
      ∧ r.2.mem ((c.tc : Thread Cert.FGateRefIdeal.nD Cert.FGateRefIdeal.τ).loc Cert.FGateRefIdeal.main_arg2) = m ((c.tc : Thread Cert.FGateRefIdeal.nD Cert.FGateRefIdeal.τ).loc Cert.FGateRefIdeal.main_arg2)
      ∧ r.2.mem ((c.tc : Thread Cert.FGateRefIdeal.nD Cert.FGateRefIdeal.τ).loc Cert.FGateRefIdeal.main_arg3) = m ((c.tc : Thread Cert.FGateRefIdeal.nD Cert.FGateRefIdeal.τ).loc Cert.FGateRefIdeal.main_arg3))
      ∧ r.2.sem = fun _ => 0)

def quiescent_FGateRefIdeal_pre_fgate_finite [hFGateRefIdeal : Cert.FGateRefIdeal.Facts] [hPre_fgate_finite : Cert.Pre_fgate_finite.Facts] : Prop :=
  ∀ (m : (ℓ : Loc Cert.FGateRefIdeal.nD Cert.FGateRefIdeal.τ Cert.FGateRefIdeal.sig) → Buf (Elt Ideal) ℓ) (g : Dev Cert.FGateRefIdeal.nD → PrngReg), Pre_FGateRefIdeal_fgate_finite m →
    θ_run (Cert.FGateRefIdeal.defs (F := Ideal)) (onTc (τ := Cert.FGateRefIdeal.τ) (Cert.FGateRefIdeal.main (F := Ideal))) ⟨m, fun _ => 0, g⟩ (fun r => (∀ c : Dev Cert.FGateRefIdeal.nD,
      r.2.mem ((c.tc : Thread Cert.FGateRefIdeal.nD Cert.FGateRefIdeal.τ).loc Cert.FGateRefIdeal.main_arg0) = m ((c.tc : Thread Cert.FGateRefIdeal.nD Cert.FGateRefIdeal.τ).loc Cert.FGateRefIdeal.main_arg0)
      ∧ r.2.mem ((c.tc : Thread Cert.FGateRefIdeal.nD Cert.FGateRefIdeal.τ).loc Cert.FGateRefIdeal.main_arg1) = m ((c.tc : Thread Cert.FGateRefIdeal.nD Cert.FGateRefIdeal.τ).loc Cert.FGateRefIdeal.main_arg1)
      ∧ r.2.mem ((c.tc : Thread Cert.FGateRefIdeal.nD Cert.FGateRefIdeal.τ).loc Cert.FGateRefIdeal.main_arg2) = m ((c.tc : Thread Cert.FGateRefIdeal.nD Cert.FGateRefIdeal.τ).loc Cert.FGateRefIdeal.main_arg2)
      ∧ r.2.mem ((c.tc : Thread Cert.FGateRefIdeal.nD Cert.FGateRefIdeal.τ).loc Cert.FGateRefIdeal.main_arg3) = m ((c.tc : Thread Cert.FGateRefIdeal.nD Cert.FGateRefIdeal.τ).loc Cert.FGateRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_inproj_finite [hInProjIdeal : Cert.InProjIdeal.Facts] [hPre_inproj_finite : Cert.Pre_inproj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_inproj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_inproj_finite [hInProjRefIdeal : Cert.InProjRefIdeal.Facts] [hPre_inproj_finite : Cert.Pre_inproj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_inproj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_ConvPw [hConvPw : Cert.ConvPw.Facts] : Prop :=
  ∀ (m : (ℓ : Loc Cert.ConvPw.nD Cert.ConvPw.τ Cert.ConvPw.sig) → Buf (Elt Bits) ℓ) (g : Dev Cert.ConvPw.nD → PrngReg), Pre_ConvPw m →
    θ_run (Cert.ConvPw.defs (F := Bits)) (onTc (τ := Cert.ConvPw.τ) (Cert.ConvPw.main (F := Bits))) ⟨m, fun _ => 0, g⟩ (fun r => (∀ c : Dev Cert.ConvPw.nD,
      r.2.mem ((c.tc : Thread Cert.ConvPw.nD Cert.ConvPw.τ).loc Cert.ConvPw.main_arg0) = m ((c.tc : Thread Cert.ConvPw.nD Cert.ConvPw.τ).loc Cert.ConvPw.main_arg0)
      ∧ r.2.mem ((c.tc : Thread Cert.ConvPw.nD Cert.ConvPw.τ).loc Cert.ConvPw.main_arg1) = m ((c.tc : Thread Cert.ConvPw.nD Cert.ConvPw.τ).loc Cert.ConvPw.main_arg1)
      ∧ r.2.mem ((c.tc : Thread Cert.ConvPw.nD Cert.ConvPw.τ).loc Cert.ConvPw.main_arg2) = m ((c.tc : Thread Cert.ConvPw.nD Cert.ConvPw.τ).loc Cert.ConvPw.main_arg2)
      ∧ r.2.mem ((c.tc : Thread Cert.ConvPw.nD Cert.ConvPw.τ).loc Cert.ConvPw.main_arg3) = m ((c.tc : Thread Cert.ConvPw.nD Cert.ConvPw.τ).loc Cert.ConvPw.main_arg3)
      ∧ r.2.mem ((c.tc : Thread Cert.ConvPw.nD Cert.ConvPw.τ).loc Cert.ConvPw.main_arg4) = m ((c.tc : Thread Cert.ConvPw.nD Cert.ConvPw.τ).loc Cert.ConvPw.main_arg4)
      ∧ r.2.mem ((c.tc : Thread Cert.ConvPw.nD Cert.ConvPw.τ).loc Cert.ConvPw.main_arg5) = m ((c.tc : Thread Cert.ConvPw.nD Cert.ConvPw.τ).loc Cert.ConvPw.main_arg5)
      ∧ r.2.mem ((c.tc : Thread Cert.ConvPw.nD Cert.ConvPw.τ).loc Cert.ConvPw.main_arg6) = m ((c.tc : Thread Cert.ConvPw.nD Cert.ConvPw.τ).loc Cert.ConvPw.main_arg6)
      ∧ r.2.mem ((c.tc : Thread Cert.ConvPw.nD Cert.ConvPw.τ).loc Cert.ConvPw.main_arg7) = m ((c.tc : Thread Cert.ConvPw.nD Cert.ConvPw.τ).loc Cert.ConvPw.main_arg7)
      ∧ r.2.mem ((c.tc : Thread Cert.ConvPw.nD Cert.ConvPw.τ).loc Cert.ConvPw.main_arg8) = m ((c.tc : Thread Cert.ConvPw.nD Cert.ConvPw.τ).loc Cert.ConvPw.main_arg8))
      ∧ r.2.sem = fun _ => 0)

def quiescent_ConvPwIdeal [hConvPwIdeal : Cert.ConvPwIdeal.Facts] : Prop :=
  ∀ (m : (ℓ : Loc Cert.ConvPwIdeal.nD Cert.ConvPwIdeal.τ Cert.ConvPwIdeal.sig) → Buf (Elt Ideal) ℓ) (g : Dev Cert.ConvPwIdeal.nD → PrngReg), Pre_ConvPwIdeal m →
    θ_run (Cert.ConvPwIdeal.defs (F := Ideal)) (onTc (τ := Cert.ConvPwIdeal.τ) (Cert.ConvPwIdeal.main (F := Ideal))) ⟨m, fun _ => 0, g⟩ (fun r => (∀ c : Dev Cert.ConvPwIdeal.nD,
      r.2.mem ((c.tc : Thread Cert.ConvPwIdeal.nD Cert.ConvPwIdeal.τ).loc Cert.ConvPwIdeal.main_arg0) = m ((c.tc : Thread Cert.ConvPwIdeal.nD Cert.ConvPwIdeal.τ).loc Cert.ConvPwIdeal.main_arg0)
      ∧ r.2.mem ((c.tc : Thread Cert.ConvPwIdeal.nD Cert.ConvPwIdeal.τ).loc Cert.ConvPwIdeal.main_arg1) = m ((c.tc : Thread Cert.ConvPwIdeal.nD Cert.ConvPwIdeal.τ).loc Cert.ConvPwIdeal.main_arg1)
      ∧ r.2.mem ((c.tc : Thread Cert.ConvPwIdeal.nD Cert.ConvPwIdeal.τ).loc Cert.ConvPwIdeal.main_arg2) = m ((c.tc : Thread Cert.ConvPwIdeal.nD Cert.ConvPwIdeal.τ).loc Cert.ConvPwIdeal.main_arg2)
      ∧ r.2.mem ((c.tc : Thread Cert.ConvPwIdeal.nD Cert.ConvPwIdeal.τ).loc Cert.ConvPwIdeal.main_arg3) = m ((c.tc : Thread Cert.ConvPwIdeal.nD Cert.ConvPwIdeal.τ).loc Cert.ConvPwIdeal.main_arg3)
      ∧ r.2.mem ((c.tc : Thread Cert.ConvPwIdeal.nD Cert.ConvPwIdeal.τ).loc Cert.ConvPwIdeal.main_arg4) = m ((c.tc : Thread Cert.ConvPwIdeal.nD Cert.ConvPwIdeal.τ).loc Cert.ConvPwIdeal.main_arg4)
      ∧ r.2.mem ((c.tc : Thread Cert.ConvPwIdeal.nD Cert.ConvPwIdeal.τ).loc Cert.ConvPwIdeal.main_arg5) = m ((c.tc : Thread Cert.ConvPwIdeal.nD Cert.ConvPwIdeal.τ).loc Cert.ConvPwIdeal.main_arg5)
      ∧ r.2.mem ((c.tc : Thread Cert.ConvPwIdeal.nD Cert.ConvPwIdeal.τ).loc Cert.ConvPwIdeal.main_arg6) = m ((c.tc : Thread Cert.ConvPwIdeal.nD Cert.ConvPwIdeal.τ).loc Cert.ConvPwIdeal.main_arg6)
      ∧ r.2.mem ((c.tc : Thread Cert.ConvPwIdeal.nD Cert.ConvPwIdeal.τ).loc Cert.ConvPwIdeal.main_arg7) = m ((c.tc : Thread Cert.ConvPwIdeal.nD Cert.ConvPwIdeal.τ).loc Cert.ConvPwIdeal.main_arg7)
      ∧ r.2.mem ((c.tc : Thread Cert.ConvPwIdeal.nD Cert.ConvPwIdeal.τ).loc Cert.ConvPwIdeal.main_arg8) = m ((c.tc : Thread Cert.ConvPwIdeal.nD Cert.ConvPwIdeal.τ).loc Cert.ConvPwIdeal.main_arg8))
      ∧ r.2.sem = fun _ => 0)

def quiescent_ConvPwIdeal_pre_pw_finite [hConvPwIdeal : Cert.ConvPwIdeal.Facts] [hPre_pw_finite : Cert.Pre_pw_finite.Facts] : Prop :=
  ∀ (m : (ℓ : Loc Cert.ConvPwIdeal.nD Cert.ConvPwIdeal.τ Cert.ConvPwIdeal.sig) → Buf (Elt Ideal) ℓ) (g : Dev Cert.ConvPwIdeal.nD → PrngReg), Pre_ConvPwIdeal_pw_finite m →
    θ_run (Cert.ConvPwIdeal.defs (F := Ideal)) (onTc (τ := Cert.ConvPwIdeal.τ) (Cert.ConvPwIdeal.main (F := Ideal))) ⟨m, fun _ => 0, g⟩ (fun r => (∀ c : Dev Cert.ConvPwIdeal.nD,
      r.2.mem ((c.tc : Thread Cert.ConvPwIdeal.nD Cert.ConvPwIdeal.τ).loc Cert.ConvPwIdeal.main_arg0) = m ((c.tc : Thread Cert.ConvPwIdeal.nD Cert.ConvPwIdeal.τ).loc Cert.ConvPwIdeal.main_arg0)
      ∧ r.2.mem ((c.tc : Thread Cert.ConvPwIdeal.nD Cert.ConvPwIdeal.τ).loc Cert.ConvPwIdeal.main_arg1) = m ((c.tc : Thread Cert.ConvPwIdeal.nD Cert.ConvPwIdeal.τ).loc Cert.ConvPwIdeal.main_arg1)
      ∧ r.2.mem ((c.tc : Thread Cert.ConvPwIdeal.nD Cert.ConvPwIdeal.τ).loc Cert.ConvPwIdeal.main_arg2) = m ((c.tc : Thread Cert.ConvPwIdeal.nD Cert.ConvPwIdeal.τ).loc Cert.ConvPwIdeal.main_arg2)
      ∧ r.2.mem ((c.tc : Thread Cert.ConvPwIdeal.nD Cert.ConvPwIdeal.τ).loc Cert.ConvPwIdeal.main_arg3) = m ((c.tc : Thread Cert.ConvPwIdeal.nD Cert.ConvPwIdeal.τ).loc Cert.ConvPwIdeal.main_arg3)
      ∧ r.2.mem ((c.tc : Thread Cert.ConvPwIdeal.nD Cert.ConvPwIdeal.τ).loc Cert.ConvPwIdeal.main_arg4) = m ((c.tc : Thread Cert.ConvPwIdeal.nD Cert.ConvPwIdeal.τ).loc Cert.ConvPwIdeal.main_arg4)
      ∧ r.2.mem ((c.tc : Thread Cert.ConvPwIdeal.nD Cert.ConvPwIdeal.τ).loc Cert.ConvPwIdeal.main_arg5) = m ((c.tc : Thread Cert.ConvPwIdeal.nD Cert.ConvPwIdeal.τ).loc Cert.ConvPwIdeal.main_arg5)
      ∧ r.2.mem ((c.tc : Thread Cert.ConvPwIdeal.nD Cert.ConvPwIdeal.τ).loc Cert.ConvPwIdeal.main_arg6) = m ((c.tc : Thread Cert.ConvPwIdeal.nD Cert.ConvPwIdeal.τ).loc Cert.ConvPwIdeal.main_arg6)
      ∧ r.2.mem ((c.tc : Thread Cert.ConvPwIdeal.nD Cert.ConvPwIdeal.τ).loc Cert.ConvPwIdeal.main_arg7) = m ((c.tc : Thread Cert.ConvPwIdeal.nD Cert.ConvPwIdeal.τ).loc Cert.ConvPwIdeal.main_arg7)
      ∧ r.2.mem ((c.tc : Thread Cert.ConvPwIdeal.nD Cert.ConvPwIdeal.τ).loc Cert.ConvPwIdeal.main_arg8) = m ((c.tc : Thread Cert.ConvPwIdeal.nD Cert.ConvPwIdeal.τ).loc Cert.ConvPwIdeal.main_arg8))
      ∧ r.2.sem = fun _ => 0)

def quiescent_ConvPwRefIdeal [hConvPwRefIdeal : Cert.ConvPwRefIdeal.Facts] : Prop :=
  ∀ (m : (ℓ : Loc Cert.ConvPwRefIdeal.nD Cert.ConvPwRefIdeal.τ Cert.ConvPwRefIdeal.sig) → Buf (Elt Ideal) ℓ) (g : Dev Cert.ConvPwRefIdeal.nD → PrngReg), Pre_ConvPwRefIdeal m →
    θ_run (Cert.ConvPwRefIdeal.defs (F := Ideal)) (onTc (τ := Cert.ConvPwRefIdeal.τ) (Cert.ConvPwRefIdeal.main (F := Ideal))) ⟨m, fun _ => 0, g⟩ (fun r => (∀ c : Dev Cert.ConvPwRefIdeal.nD,
      r.2.mem ((c.tc : Thread Cert.ConvPwRefIdeal.nD Cert.ConvPwRefIdeal.τ).loc Cert.ConvPwRefIdeal.main_arg0) = m ((c.tc : Thread Cert.ConvPwRefIdeal.nD Cert.ConvPwRefIdeal.τ).loc Cert.ConvPwRefIdeal.main_arg0)
      ∧ r.2.mem ((c.tc : Thread Cert.ConvPwRefIdeal.nD Cert.ConvPwRefIdeal.τ).loc Cert.ConvPwRefIdeal.main_arg1) = m ((c.tc : Thread Cert.ConvPwRefIdeal.nD Cert.ConvPwRefIdeal.τ).loc Cert.ConvPwRefIdeal.main_arg1)
      ∧ r.2.mem ((c.tc : Thread Cert.ConvPwRefIdeal.nD Cert.ConvPwRefIdeal.τ).loc Cert.ConvPwRefIdeal.main_arg2) = m ((c.tc : Thread Cert.ConvPwRefIdeal.nD Cert.ConvPwRefIdeal.τ).loc Cert.ConvPwRefIdeal.main_arg2)
      ∧ r.2.mem ((c.tc : Thread Cert.ConvPwRefIdeal.nD Cert.ConvPwRefIdeal.τ).loc Cert.ConvPwRefIdeal.main_arg3) = m ((c.tc : Thread Cert.ConvPwRefIdeal.nD Cert.ConvPwRefIdeal.τ).loc Cert.ConvPwRefIdeal.main_arg3)
      ∧ r.2.mem ((c.tc : Thread Cert.ConvPwRefIdeal.nD Cert.ConvPwRefIdeal.τ).loc Cert.ConvPwRefIdeal.main_arg4) = m ((c.tc : Thread Cert.ConvPwRefIdeal.nD Cert.ConvPwRefIdeal.τ).loc Cert.ConvPwRefIdeal.main_arg4)
      ∧ r.2.mem ((c.tc : Thread Cert.ConvPwRefIdeal.nD Cert.ConvPwRefIdeal.τ).loc Cert.ConvPwRefIdeal.main_arg5) = m ((c.tc : Thread Cert.ConvPwRefIdeal.nD Cert.ConvPwRefIdeal.τ).loc Cert.ConvPwRefIdeal.main_arg5)
      ∧ r.2.mem ((c.tc : Thread Cert.ConvPwRefIdeal.nD Cert.ConvPwRefIdeal.τ).loc Cert.ConvPwRefIdeal.main_arg6) = m ((c.tc : Thread Cert.ConvPwRefIdeal.nD Cert.ConvPwRefIdeal.τ).loc Cert.ConvPwRefIdeal.main_arg6)
      ∧ r.2.mem ((c.tc : Thread Cert.ConvPwRefIdeal.nD Cert.ConvPwRefIdeal.τ).loc Cert.ConvPwRefIdeal.main_arg7) = m ((c.tc : Thread Cert.ConvPwRefIdeal.nD Cert.ConvPwRefIdeal.τ).loc Cert.ConvPwRefIdeal.main_arg7)
      ∧ r.2.mem ((c.tc : Thread Cert.ConvPwRefIdeal.nD Cert.ConvPwRefIdeal.τ).loc Cert.ConvPwRefIdeal.main_arg8) = m ((c.tc : Thread Cert.ConvPwRefIdeal.nD Cert.ConvPwRefIdeal.τ).loc Cert.ConvPwRefIdeal.main_arg8))
      ∧ r.2.sem = fun _ => 0)

def quiescent_ConvPwRefIdeal_pre_pw_finite [hConvPwRefIdeal : Cert.ConvPwRefIdeal.Facts] [hPre_pw_finite : Cert.Pre_pw_finite.Facts] : Prop :=
  ∀ (m : (ℓ : Loc Cert.ConvPwRefIdeal.nD Cert.ConvPwRefIdeal.τ Cert.ConvPwRefIdeal.sig) → Buf (Elt Ideal) ℓ) (g : Dev Cert.ConvPwRefIdeal.nD → PrngReg), Pre_ConvPwRefIdeal_pw_finite m →
    θ_run (Cert.ConvPwRefIdeal.defs (F := Ideal)) (onTc (τ := Cert.ConvPwRefIdeal.τ) (Cert.ConvPwRefIdeal.main (F := Ideal))) ⟨m, fun _ => 0, g⟩ (fun r => (∀ c : Dev Cert.ConvPwRefIdeal.nD,
      r.2.mem ((c.tc : Thread Cert.ConvPwRefIdeal.nD Cert.ConvPwRefIdeal.τ).loc Cert.ConvPwRefIdeal.main_arg0) = m ((c.tc : Thread Cert.ConvPwRefIdeal.nD Cert.ConvPwRefIdeal.τ).loc Cert.ConvPwRefIdeal.main_arg0)
      ∧ r.2.mem ((c.tc : Thread Cert.ConvPwRefIdeal.nD Cert.ConvPwRefIdeal.τ).loc Cert.ConvPwRefIdeal.main_arg1) = m ((c.tc : Thread Cert.ConvPwRefIdeal.nD Cert.ConvPwRefIdeal.τ).loc Cert.ConvPwRefIdeal.main_arg1)
      ∧ r.2.mem ((c.tc : Thread Cert.ConvPwRefIdeal.nD Cert.ConvPwRefIdeal.τ).loc Cert.ConvPwRefIdeal.main_arg2) = m ((c.tc : Thread Cert.ConvPwRefIdeal.nD Cert.ConvPwRefIdeal.τ).loc Cert.ConvPwRefIdeal.main_arg2)
      ∧ r.2.mem ((c.tc : Thread Cert.ConvPwRefIdeal.nD Cert.ConvPwRefIdeal.τ).loc Cert.ConvPwRefIdeal.main_arg3) = m ((c.tc : Thread Cert.ConvPwRefIdeal.nD Cert.ConvPwRefIdeal.τ).loc Cert.ConvPwRefIdeal.main_arg3)
      ∧ r.2.mem ((c.tc : Thread Cert.ConvPwRefIdeal.nD Cert.ConvPwRefIdeal.τ).loc Cert.ConvPwRefIdeal.main_arg4) = m ((c.tc : Thread Cert.ConvPwRefIdeal.nD Cert.ConvPwRefIdeal.τ).loc Cert.ConvPwRefIdeal.main_arg4)
      ∧ r.2.mem ((c.tc : Thread Cert.ConvPwRefIdeal.nD Cert.ConvPwRefIdeal.τ).loc Cert.ConvPwRefIdeal.main_arg5) = m ((c.tc : Thread Cert.ConvPwRefIdeal.nD Cert.ConvPwRefIdeal.τ).loc Cert.ConvPwRefIdeal.main_arg5)
      ∧ r.2.mem ((c.tc : Thread Cert.ConvPwRefIdeal.nD Cert.ConvPwRefIdeal.τ).loc Cert.ConvPwRefIdeal.main_arg6) = m ((c.tc : Thread Cert.ConvPwRefIdeal.nD Cert.ConvPwRefIdeal.τ).loc Cert.ConvPwRefIdeal.main_arg6)
      ∧ r.2.mem ((c.tc : Thread Cert.ConvPwRefIdeal.nD Cert.ConvPwRefIdeal.τ).loc Cert.ConvPwRefIdeal.main_arg7) = m ((c.tc : Thread Cert.ConvPwRefIdeal.nD Cert.ConvPwRefIdeal.τ).loc Cert.ConvPwRefIdeal.main_arg7)
      ∧ r.2.mem ((c.tc : Thread Cert.ConvPwRefIdeal.nD Cert.ConvPwRefIdeal.τ).loc Cert.ConvPwRefIdeal.main_arg8) = m ((c.tc : Thread Cert.ConvPwRefIdeal.nD Cert.ConvPwRefIdeal.τ).loc Cert.ConvPwRefIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def preserves_FGate_FGateIdeal : Prop :=
  True

def algebraic_FGateIdeal_FGateRefIdeal_pre_fgate_finite [hFGateIdeal : Cert.FGateIdeal.Facts] [hFGateRefIdeal : Cert.FGateRefIdeal.Facts] [hPre_fgate_finite : Cert.Pre_fgate_finite.Facts] : Prop :=
  ∀ (m : (ℓ : Loc Cert.FGateIdeal.nD Cert.FGateIdeal.τ Cert.FGateIdeal.sig) → Buf (Elt Ideal) ℓ) (g : Dev Cert.FGateIdeal.nD → PrngReg)
    (m' : (ℓ : Loc Cert.FGateRefIdeal.nD Cert.FGateRefIdeal.τ Cert.FGateRefIdeal.sig) → Buf (Elt Ideal) ℓ) (g' : Dev Cert.FGateRefIdeal.nD → PrngReg), Pre_FGateIdeal_fgate_finite m →
    (∀ c : Dev Cert.FGateIdeal.nD,
      m' ((c.tc : Thread Cert.FGateRefIdeal.nD Cert.FGateRefIdeal.τ).loc Cert.FGateRefIdeal.main_arg0) = m ((c.tc : Thread Cert.FGateIdeal.nD Cert.FGateIdeal.τ).loc Cert.FGateIdeal.main_arg0)
      ∧ m' ((c.tc : Thread Cert.FGateRefIdeal.nD Cert.FGateRefIdeal.τ).loc Cert.FGateRefIdeal.main_arg1) = m ((c.tc : Thread Cert.FGateIdeal.nD Cert.FGateIdeal.τ).loc Cert.FGateIdeal.main_arg1)
      ∧ m' ((c.tc : Thread Cert.FGateRefIdeal.nD Cert.FGateRefIdeal.τ).loc Cert.FGateRefIdeal.main_arg2) = m ((c.tc : Thread Cert.FGateIdeal.nD Cert.FGateIdeal.τ).loc Cert.FGateIdeal.main_arg2)
      ∧ m' ((c.tc : Thread Cert.FGateRefIdeal.nD Cert.FGateRefIdeal.τ).loc Cert.FGateRefIdeal.main_arg3) = m ((c.tc : Thread Cert.FGateIdeal.nD Cert.FGateIdeal.τ).loc Cert.FGateIdeal.main_arg3)) →
    ∃ (v0 : (c : Dev Cert.FGateIdeal.nD) → Buf (Elt Ideal) ((c.tc : Thread Cert.FGateIdeal.nD Cert.FGateIdeal.τ).loc Cert.FGateIdeal.main_v14_0)) (v1 : (c : Dev Cert.FGateIdeal.nD) → Buf (Elt Ideal) ((c.tc : Thread Cert.FGateIdeal.nD Cert.FGateIdeal.τ).loc Cert.FGateIdeal.main_v14_1)),
      θ_run (Cert.FGateIdeal.defs (F := Ideal)) (onTc (τ := Cert.FGateIdeal.τ) (Cert.FGateIdeal.main (F := Ideal))) ⟨m, fun _ => 0, g⟩ (fun r => ∀ c : Dev Cert.FGateIdeal.nD,
          r.2.mem ((c.tc : Thread Cert.FGateIdeal.nD Cert.FGateIdeal.τ).loc Cert.FGateIdeal.main_v14_0) = v0 c
          ∧ r.2.mem ((c.tc : Thread Cert.FGateIdeal.nD Cert.FGateIdeal.τ).loc Cert.FGateIdeal.main_v14_1) = v1 c
          ∧ r.2.mem ((c.tc : Thread Cert.FGateIdeal.nD Cert.FGateIdeal.τ).loc Cert.FGateIdeal.main_arg0) = m ((c.tc : Thread Cert.FGateIdeal.nD Cert.FGateIdeal.τ).loc Cert.FGateIdeal.main_arg0)
          ∧ r.2.mem ((c.tc : Thread Cert.FGateIdeal.nD Cert.FGateIdeal.τ).loc Cert.FGateIdeal.main_arg1) = m ((c.tc : Thread Cert.FGateIdeal.nD Cert.FGateIdeal.τ).loc Cert.FGateIdeal.main_arg1)
          ∧ r.2.mem ((c.tc : Thread Cert.FGateIdeal.nD Cert.FGateIdeal.τ).loc Cert.FGateIdeal.main_arg2) = m ((c.tc : Thread Cert.FGateIdeal.nD Cert.FGateIdeal.τ).loc Cert.FGateIdeal.main_arg2)
          ∧ r.2.mem ((c.tc : Thread Cert.FGateIdeal.nD Cert.FGateIdeal.τ).loc Cert.FGateIdeal.main_arg3) = m ((c.tc : Thread Cert.FGateIdeal.nD Cert.FGateIdeal.τ).loc Cert.FGateIdeal.main_arg3))
      ∧ θ_run (Cert.FGateRefIdeal.defs (F := Ideal)) (onTc (τ := Cert.FGateRefIdeal.τ) (Cert.FGateRefIdeal.main (F := Ideal))) ⟨m', fun _ => 0, g'⟩ (fun r => ∀ c : Dev Cert.FGateRefIdeal.nD,
          r.2.mem ((c.tc : Thread Cert.FGateRefIdeal.nD Cert.FGateRefIdeal.τ).loc Cert.FGateRefIdeal.main_v16) = v0 c
          ∧ r.2.mem ((c.tc : Thread Cert.FGateRefIdeal.nD Cert.FGateRefIdeal.τ).loc Cert.FGateRefIdeal.main_v18) = v1 c
          ∧ r.2.mem ((c.tc : Thread Cert.FGateRefIdeal.nD Cert.FGateRefIdeal.τ).loc Cert.FGateRefIdeal.main_arg0) = m' ((c.tc : Thread Cert.FGateRefIdeal.nD Cert.FGateRefIdeal.τ).loc Cert.FGateRefIdeal.main_arg0)
          ∧ r.2.mem ((c.tc : Thread Cert.FGateRefIdeal.nD Cert.FGateRefIdeal.τ).loc Cert.FGateRefIdeal.main_arg1) = m' ((c.tc : Thread Cert.FGateRefIdeal.nD Cert.FGateRefIdeal.τ).loc Cert.FGateRefIdeal.main_arg1)
          ∧ r.2.mem ((c.tc : Thread Cert.FGateRefIdeal.nD Cert.FGateRefIdeal.τ).loc Cert.FGateRefIdeal.main_arg2) = m' ((c.tc : Thread Cert.FGateRefIdeal.nD Cert.FGateRefIdeal.τ).loc Cert.FGateRefIdeal.main_arg2)
          ∧ r.2.mem ((c.tc : Thread Cert.FGateRefIdeal.nD Cert.FGateRefIdeal.τ).loc Cert.FGateRefIdeal.main_arg3) = m' ((c.tc : Thread Cert.FGateRefIdeal.nD Cert.FGateRefIdeal.τ).loc Cert.FGateRefIdeal.main_arg3))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v164_0)) (v1 : (c : Dev Cert.AttnIdeal.nD) → Buf (Elt Ideal) ((c.tc : Thread Cert.AttnIdeal.nD Cert.AttnIdeal.τ).loc Cert.AttnIdeal.main_v164_1)) (v2 : (c : Dev Cert.AttnIdeal.nD) → Buf (Elt Ideal) ((c.tc : Thread Cert.AttnIdeal.nD Cert.AttnIdeal.τ).loc Cert.AttnIdeal.main_v164_2)) (v3 : (c : Dev Cert.AttnIdeal.nD) → Buf (Elt Ideal) ((c.tc : Thread Cert.AttnIdeal.nD Cert.AttnIdeal.τ).loc Cert.AttnIdeal.main_v164_3)) (v4 : (c : Dev Cert.AttnIdeal.nD) → Buf (Elt Ideal) ((c.tc : Thread Cert.AttnIdeal.nD Cert.AttnIdeal.τ).loc Cert.AttnIdeal.main_v164_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v164_0) = v0 c
          ∧ r.2.mem ((c.tc : Thread Cert.AttnIdeal.nD Cert.AttnIdeal.τ).loc Cert.AttnIdeal.main_v164_1) = v1 c
          ∧ r.2.mem ((c.tc : Thread Cert.AttnIdeal.nD Cert.AttnIdeal.τ).loc Cert.AttnIdeal.main_v164_2) = v2 c
          ∧ r.2.mem ((c.tc : Thread Cert.AttnIdeal.nD Cert.AttnIdeal.τ).loc Cert.AttnIdeal.main_v164_3) = v3 c
          ∧ r.2.mem ((c.tc : Thread Cert.AttnIdeal.nD Cert.AttnIdeal.τ).loc Cert.AttnIdeal.main_v164_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v96) = v0 c
          ∧ r.2.mem ((c.tc : Thread Cert.AttnRefIdeal.nD Cert.AttnRefIdeal.τ).loc Cert.AttnRefIdeal.main_v98) = v1 c
          ∧ r.2.mem ((c.tc : Thread Cert.AttnRefIdeal.nD Cert.AttnRefIdeal.τ).loc Cert.AttnRefIdeal.main_v100) = v2 c
          ∧ r.2.mem ((c.tc : Thread Cert.AttnRefIdeal.nD Cert.AttnRefIdeal.τ).loc Cert.AttnRefIdeal.main_v101) = v3 c
          ∧ r.2.mem ((c.tc : Thread Cert.AttnRefIdeal.nD Cert.AttnRefIdeal.τ).loc Cert.AttnRefIdeal.main_v102) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v56) = v0 c
          ∧ r.2.mem ((c.tc : Thread Cert.LossHeadRefIdeal.nD Cert.LossHeadRefIdeal.τ).loc Cert.LossHeadRefIdeal.main_v57) = v1 c
          ∧ r.2.mem ((c.tc : Thread Cert.LossHeadRefIdeal.nD Cert.LossHeadRefIdeal.τ).loc Cert.LossHeadRefIdeal.main_v58) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_InProj_InProjIdeal : Prop :=
  True

def algebraic_InProjIdeal_InProjRefIdeal_pre_inproj_finite [hInProjIdeal : Cert.InProjIdeal.Facts] [hInProjRefIdeal : Cert.InProjRefIdeal.Facts] [hPre_inproj_finite : Cert.Pre_inproj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_inproj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v39) = v0 c
          ∧ r.2.mem ((c.tc : Thread Cert.InProjRefIdeal.nD Cert.InProjRefIdeal.τ).loc Cert.InProjRefIdeal.main_v40) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v28_0)) (v1 : (c : Dev Cert.MlpIdeal.nD) → Buf (Elt Ideal) ((c.tc : Thread Cert.MlpIdeal.nD Cert.MlpIdeal.τ).loc Cert.MlpIdeal.main_v28_1)) (v2 : (c : Dev Cert.MlpIdeal.nD) → Buf (Elt Ideal) ((c.tc : Thread Cert.MlpIdeal.nD Cert.MlpIdeal.τ).loc Cert.MlpIdeal.main_v28_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v28_0) = v0 c
          ∧ r.2.mem ((c.tc : Thread Cert.MlpIdeal.nD Cert.MlpIdeal.τ).loc Cert.MlpIdeal.main_v28_1) = v1 c
          ∧ r.2.mem ((c.tc : Thread Cert.MlpIdeal.nD Cert.MlpIdeal.τ).loc Cert.MlpIdeal.main_v28_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v56) = v0 c
          ∧ r.2.mem ((c.tc : Thread Cert.MlpRefIdeal.nD Cert.MlpRefIdeal.τ).loc Cert.MlpRefIdeal.main_v57) = v1 c
          ∧ r.2.mem ((c.tc : Thread Cert.MlpRefIdeal.nD Cert.MlpRefIdeal.τ).loc Cert.MlpRefIdeal.main_v58) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_ConvPw_ConvPwIdeal : Prop :=
  True

def algebraic_ConvPwIdeal_ConvPwRefIdeal_pre_pw_finite [hConvPwIdeal : Cert.ConvPwIdeal.Facts] [hConvPwRefIdeal : Cert.ConvPwRefIdeal.Facts] [hPre_pw_finite : Cert.Pre_pw_finite.Facts] : Prop :=
  ∀ (m : (ℓ : Loc Cert.ConvPwIdeal.nD Cert.ConvPwIdeal.τ Cert.ConvPwIdeal.sig) → Buf (Elt Ideal) ℓ) (g : Dev Cert.ConvPwIdeal.nD → PrngReg)
    (m' : (ℓ : Loc Cert.ConvPwRefIdeal.nD Cert.ConvPwRefIdeal.τ Cert.ConvPwRefIdeal.sig) → Buf (Elt Ideal) ℓ) (g' : Dev Cert.ConvPwRefIdeal.nD → PrngReg), Pre_ConvPwIdeal_pw_finite m →
    (∀ c : Dev Cert.ConvPwIdeal.nD,
      m' ((c.tc : Thread Cert.ConvPwRefIdeal.nD Cert.ConvPwRefIdeal.τ).loc Cert.ConvPwRefIdeal.main_arg0) = m ((c.tc : Thread Cert.ConvPwIdeal.nD Cert.ConvPwIdeal.τ).loc Cert.ConvPwIdeal.main_arg0)
      ∧ m' ((c.tc : Thread Cert.ConvPwRefIdeal.nD Cert.ConvPwRefIdeal.τ).loc Cert.ConvPwRefIdeal.main_arg1) = m ((c.tc : Thread Cert.ConvPwIdeal.nD Cert.ConvPwIdeal.τ).loc Cert.ConvPwIdeal.main_arg1)
      ∧ m' ((c.tc : Thread Cert.ConvPwRefIdeal.nD Cert.ConvPwRefIdeal.τ).loc Cert.ConvPwRefIdeal.main_arg2) = m ((c.tc : Thread Cert.ConvPwIdeal.nD Cert.ConvPwIdeal.τ).loc Cert.ConvPwIdeal.main_arg2)
      ∧ m' ((c.tc : Thread Cert.ConvPwRefIdeal.nD Cert.ConvPwRefIdeal.τ).loc Cert.ConvPwRefIdeal.main_arg3) = m ((c.tc : Thread Cert.ConvPwIdeal.nD Cert.ConvPwIdeal.τ).loc Cert.ConvPwIdeal.main_arg3)
      ∧ m' ((c.tc : Thread Cert.ConvPwRefIdeal.nD Cert.ConvPwRefIdeal.τ).loc Cert.ConvPwRefIdeal.main_arg4) = m ((c.tc : Thread Cert.ConvPwIdeal.nD Cert.ConvPwIdeal.τ).loc Cert.ConvPwIdeal.main_arg4)
      ∧ m' ((c.tc : Thread Cert.ConvPwRefIdeal.nD Cert.ConvPwRefIdeal.τ).loc Cert.ConvPwRefIdeal.main_arg5) = m ((c.tc : Thread Cert.ConvPwIdeal.nD Cert.ConvPwIdeal.τ).loc Cert.ConvPwIdeal.main_arg5)
      ∧ m' ((c.tc : Thread Cert.ConvPwRefIdeal.nD Cert.ConvPwRefIdeal.τ).loc Cert.ConvPwRefIdeal.main_arg6) = m ((c.tc : Thread Cert.ConvPwIdeal.nD Cert.ConvPwIdeal.τ).loc Cert.ConvPwIdeal.main_arg6)
      ∧ m' ((c.tc : Thread Cert.ConvPwRefIdeal.nD Cert.ConvPwRefIdeal.τ).loc Cert.ConvPwRefIdeal.main_arg7) = m ((c.tc : Thread Cert.ConvPwIdeal.nD Cert.ConvPwIdeal.τ).loc Cert.ConvPwIdeal.main_arg7)
      ∧ m' ((c.tc : Thread Cert.ConvPwRefIdeal.nD Cert.ConvPwRefIdeal.τ).loc Cert.ConvPwRefIdeal.main_arg8) = m ((c.tc : Thread Cert.ConvPwIdeal.nD Cert.ConvPwIdeal.τ).loc Cert.ConvPwIdeal.main_arg8)) →
    ∃ (v0 : (c : Dev Cert.ConvPwIdeal.nD) → Buf (Elt Ideal) ((c.tc : Thread Cert.ConvPwIdeal.nD Cert.ConvPwIdeal.τ).loc Cert.ConvPwIdeal.main_v7_0)) (v1 : (c : Dev Cert.ConvPwIdeal.nD) → Buf (Elt Ideal) ((c.tc : Thread Cert.ConvPwIdeal.nD Cert.ConvPwIdeal.τ).loc Cert.ConvPwIdeal.main_v7_1)) (v2 : (c : Dev Cert.ConvPwIdeal.nD) → Buf (Elt Ideal) ((c.tc : Thread Cert.ConvPwIdeal.nD Cert.ConvPwIdeal.τ).loc Cert.ConvPwIdeal.main_v7_2)),
      θ_run (Cert.ConvPwIdeal.defs (F := Ideal)) (onTc (τ := Cert.ConvPwIdeal.τ) (Cert.ConvPwIdeal.main (F := Ideal))) ⟨m, fun _ => 0, g⟩ (fun r => ∀ c : Dev Cert.ConvPwIdeal.nD,
          r.2.mem ((c.tc : Thread Cert.ConvPwIdeal.nD Cert.ConvPwIdeal.τ).loc Cert.ConvPwIdeal.main_v7_0) = v0 c
          ∧ r.2.mem ((c.tc : Thread Cert.ConvPwIdeal.nD Cert.ConvPwIdeal.τ).loc Cert.ConvPwIdeal.main_v7_1) = v1 c
          ∧ r.2.mem ((c.tc : Thread Cert.ConvPwIdeal.nD Cert.ConvPwIdeal.τ).loc Cert.ConvPwIdeal.main_v7_2) = v2 c
          ∧ r.2.mem ((c.tc : Thread Cert.ConvPwIdeal.nD Cert.ConvPwIdeal.τ).loc Cert.ConvPwIdeal.main_arg0) = m ((c.tc : Thread Cert.ConvPwIdeal.nD Cert.ConvPwIdeal.τ).loc Cert.ConvPwIdeal.main_arg0)
          ∧ r.2.mem ((c.tc : Thread Cert.ConvPwIdeal.nD Cert.ConvPwIdeal.τ).loc Cert.ConvPwIdeal.main_arg1) = m ((c.tc : Thread Cert.ConvPwIdeal.nD Cert.ConvPwIdeal.τ).loc Cert.ConvPwIdeal.main_arg1)
          ∧ r.2.mem ((c.tc : Thread Cert.ConvPwIdeal.nD Cert.ConvPwIdeal.τ).loc Cert.ConvPwIdeal.main_arg2) = m ((c.tc : Thread Cert.ConvPwIdeal.nD Cert.ConvPwIdeal.τ).loc Cert.ConvPwIdeal.main_arg2)
          ∧ r.2.mem ((c.tc : Thread Cert.ConvPwIdeal.nD Cert.ConvPwIdeal.τ).loc Cert.ConvPwIdeal.main_arg3) = m ((c.tc : Thread Cert.ConvPwIdeal.nD Cert.ConvPwIdeal.τ).loc Cert.ConvPwIdeal.main_arg3)
          ∧ r.2.mem ((c.tc : Thread Cert.ConvPwIdeal.nD Cert.ConvPwIdeal.τ).loc Cert.ConvPwIdeal.main_arg4) = m ((c.tc : Thread Cert.ConvPwIdeal.nD Cert.ConvPwIdeal.τ).loc Cert.ConvPwIdeal.main_arg4)
          ∧ r.2.mem ((c.tc : Thread Cert.ConvPwIdeal.nD Cert.ConvPwIdeal.τ).loc Cert.ConvPwIdeal.main_arg5) = m ((c.tc : Thread Cert.ConvPwIdeal.nD Cert.ConvPwIdeal.τ).loc Cert.ConvPwIdeal.main_arg5)
          ∧ r.2.mem ((c.tc : Thread Cert.ConvPwIdeal.nD Cert.ConvPwIdeal.τ).loc Cert.ConvPwIdeal.main_arg6) = m ((c.tc : Thread Cert.ConvPwIdeal.nD Cert.ConvPwIdeal.τ).loc Cert.ConvPwIdeal.main_arg6)
          ∧ r.2.mem ((c.tc : Thread Cert.ConvPwIdeal.nD Cert.ConvPwIdeal.τ).loc Cert.ConvPwIdeal.main_arg7) = m ((c.tc : Thread Cert.ConvPwIdeal.nD Cert.ConvPwIdeal.τ).loc Cert.ConvPwIdeal.main_arg7)
          ∧ r.2.mem ((c.tc : Thread Cert.ConvPwIdeal.nD Cert.ConvPwIdeal.τ).loc Cert.ConvPwIdeal.main_arg8) = m ((c.tc : Thread Cert.ConvPwIdeal.nD Cert.ConvPwIdeal.τ).loc Cert.ConvPwIdeal.main_arg8))
      ∧ θ_run (Cert.ConvPwRefIdeal.defs (F := Ideal)) (onTc (τ := Cert.ConvPwRefIdeal.τ) (Cert.ConvPwRefIdeal.main (F := Ideal))) ⟨m', fun _ => 0, g'⟩ (fun r => ∀ c : Dev Cert.ConvPwRefIdeal.nD,
          r.2.mem ((c.tc : Thread Cert.ConvPwRefIdeal.nD Cert.ConvPwRefIdeal.τ).loc Cert.ConvPwRefIdeal.main_v118) = v0 c
          ∧ r.2.mem ((c.tc : Thread Cert.ConvPwRefIdeal.nD Cert.ConvPwRefIdeal.τ).loc Cert.ConvPwRefIdeal.main_v112) = v1 c
          ∧ r.2.mem ((c.tc : Thread Cert.ConvPwRefIdeal.nD Cert.ConvPwRefIdeal.τ).loc Cert.ConvPwRefIdeal.main_v119) = v2 c
          ∧ r.2.mem ((c.tc : Thread Cert.ConvPwRefIdeal.nD Cert.ConvPwRefIdeal.τ).loc Cert.ConvPwRefIdeal.main_arg0) = m' ((c.tc : Thread Cert.ConvPwRefIdeal.nD Cert.ConvPwRefIdeal.τ).loc Cert.ConvPwRefIdeal.main_arg0)
          ∧ r.2.mem ((c.tc : Thread Cert.ConvPwRefIdeal.nD Cert.ConvPwRefIdeal.τ).loc Cert.ConvPwRefIdeal.main_arg1) = m' ((c.tc : Thread Cert.ConvPwRefIdeal.nD Cert.ConvPwRefIdeal.τ).loc Cert.ConvPwRefIdeal.main_arg1)
          ∧ r.2.mem ((c.tc : Thread Cert.ConvPwRefIdeal.nD Cert.ConvPwRefIdeal.τ).loc Cert.ConvPwRefIdeal.main_arg2) = m' ((c.tc : Thread Cert.ConvPwRefIdeal.nD Cert.ConvPwRefIdeal.τ).loc Cert.ConvPwRefIdeal.main_arg2)
          ∧ r.2.mem ((c.tc : Thread Cert.ConvPwRefIdeal.nD Cert.ConvPwRefIdeal.τ).loc Cert.ConvPwRefIdeal.main_arg3) = m' ((c.tc : Thread Cert.ConvPwRefIdeal.nD Cert.ConvPwRefIdeal.τ).loc Cert.ConvPwRefIdeal.main_arg3)
          ∧ r.2.mem ((c.tc : Thread Cert.ConvPwRefIdeal.nD Cert.ConvPwRefIdeal.τ).loc Cert.ConvPwRefIdeal.main_arg4) = m' ((c.tc : Thread Cert.ConvPwRefIdeal.nD Cert.ConvPwRefIdeal.τ).loc Cert.ConvPwRefIdeal.main_arg4)
          ∧ r.2.mem ((c.tc : Thread Cert.ConvPwRefIdeal.nD Cert.ConvPwRefIdeal.τ).loc Cert.ConvPwRefIdeal.main_arg5) = m' ((c.tc : Thread Cert.ConvPwRefIdeal.nD Cert.ConvPwRefIdeal.τ).loc Cert.ConvPwRefIdeal.main_arg5)
          ∧ r.2.mem ((c.tc : Thread Cert.ConvPwRefIdeal.nD Cert.ConvPwRefIdeal.τ).loc Cert.ConvPwRefIdeal.main_arg6) = m' ((c.tc : Thread Cert.ConvPwRefIdeal.nD Cert.ConvPwRefIdeal.τ).loc Cert.ConvPwRefIdeal.main_arg6)
          ∧ r.2.mem ((c.tc : Thread Cert.ConvPwRefIdeal.nD Cert.ConvPwRefIdeal.τ).loc Cert.ConvPwRefIdeal.main_arg7) = m' ((c.tc : Thread Cert.ConvPwRefIdeal.nD Cert.ConvPwRefIdeal.τ).loc Cert.ConvPwRefIdeal.main_arg7)
          ∧ r.2.mem ((c.tc : Thread Cert.ConvPwRefIdeal.nD Cert.ConvPwRefIdeal.τ).loc Cert.ConvPwRefIdeal.main_arg8) = m' ((c.tc : Thread Cert.ConvPwRefIdeal.nD Cert.ConvPwRefIdeal.τ).loc Cert.ConvPwRefIdeal.main_arg8))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v16) = v0 c
          ∧ r.2.mem ((c.tc : Thread Cert.OutProjRefIdeal.nD Cert.OutProjRefIdeal.τ).loc Cert.OutProjRefIdeal.main_v18) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v8_0)) (v1 : (c : Dev Cert.MlpFwdIdeal.nD) → Buf (Elt Ideal) ((c.tc : Thread Cert.MlpFwdIdeal.nD Cert.MlpFwdIdeal.τ).loc Cert.MlpFwdIdeal.main_v8_1)) (v2 : (c : Dev Cert.MlpFwdIdeal.nD) → Buf (Elt Ideal) ((c.tc : Thread Cert.MlpFwdIdeal.nD Cert.MlpFwdIdeal.τ).loc Cert.MlpFwdIdeal.main_v8_2)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v8_0) = v0 c
          ∧ r.2.mem ((c.tc : Thread Cert.MlpFwdIdeal.nD Cert.MlpFwdIdeal.τ).loc Cert.MlpFwdIdeal.main_v8_1) = v1 c
          ∧ r.2.mem ((c.tc : Thread Cert.MlpFwdIdeal.nD Cert.MlpFwdIdeal.τ).loc Cert.MlpFwdIdeal.main_v8_2) = v2 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v4) = v0 c
          ∧ r.2.mem ((c.tc : Thread Cert.MlpFwdRefIdeal.nD Cert.MlpFwdRefIdeal.τ).loc Cert.MlpFwdRefIdeal.main_v6) = v1 c
          ∧ r.2.mem ((c.tc : Thread Cert.MlpFwdRefIdeal.nD Cert.MlpFwdRefIdeal.τ).loc Cert.MlpFwdRefIdeal.main_v9) = v2 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def Claim : Prop :=
  ∃ (hFGate : Cert.FGate.Facts) (hFGateIdeal : Cert.FGateIdeal.Facts) (hFGateRefIdeal : Cert.FGateRefIdeal.Facts) (hAttn : Cert.Attn.Facts) (hAttnIdeal : Cert.AttnIdeal.Facts) (hAttnRefIdeal : Cert.AttnRefIdeal.Facts) (hLossHead : Cert.LossHead.Facts) (hLossHeadIdeal : Cert.LossHeadIdeal.Facts) (hLossHeadRefIdeal : Cert.LossHeadRefIdeal.Facts) (hInProj : Cert.InProj.Facts) (hInProjIdeal : Cert.InProjIdeal.Facts) (hInProjRefIdeal : Cert.InProjRefIdeal.Facts) (hMlp : Cert.Mlp.Facts) (hMlpIdeal : Cert.MlpIdeal.Facts) (hMlpRefIdeal : Cert.MlpRefIdeal.Facts) (hConvPw : Cert.ConvPw.Facts) (hConvPwIdeal : Cert.ConvPwIdeal.Facts) (hConvPwRefIdeal : Cert.ConvPwRefIdeal.Facts) (hOutProj : Cert.OutProj.Facts) (hOutProjIdeal : Cert.OutProjIdeal.Facts) (hOutProjRefIdeal : Cert.OutProjRefIdeal.Facts) (hMlpFwd : Cert.MlpFwd.Facts) (hMlpFwdIdeal : Cert.MlpFwdIdeal.Facts) (hMlpFwdRefIdeal : Cert.MlpFwdRefIdeal.Facts) (hPre_fgate_finite : Cert.Pre_fgate_finite.Facts) (hPre_attn_finite : Cert.Pre_attn_finite.Facts) (hPre_loss_finite : Cert.Pre_loss_finite.Facts) (hPre_inproj_finite : Cert.Pre_inproj_finite.Facts) (hPre_mlp_finite : Cert.Pre_mlp_finite.Facts) (hPre_pw_finite : Cert.Pre_pw_finite.Facts),
    quiescent_FGate (hFGate := hFGate)
    ∧ quiescent_FGateIdeal (hFGateIdeal := hFGateIdeal)
    ∧ quiescent_FGateIdeal_pre_fgate_finite (hFGateIdeal := hFGateIdeal) (hPre_fgate_finite := hPre_fgate_finite)
    ∧ quiescent_FGateRefIdeal (hFGateRefIdeal := hFGateRefIdeal)
    ∧ quiescent_FGateRefIdeal_pre_fgate_finite (hFGateRefIdeal := hFGateRefIdeal) (hPre_fgate_finite := hPre_fgate_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_InProj (hInProj := hInProj)
    ∧ quiescent_InProjIdeal (hInProjIdeal := hInProjIdeal)
    ∧ quiescent_InProjIdeal_pre_inproj_finite (hInProjIdeal := hInProjIdeal) (hPre_inproj_finite := hPre_inproj_finite)
    ∧ quiescent_InProjRefIdeal (hInProjRefIdeal := hInProjRefIdeal)
    ∧ quiescent_InProjRefIdeal_pre_inproj_finite (hInProjRefIdeal := hInProjRefIdeal) (hPre_inproj_finite := hPre_inproj_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_ConvPw (hConvPw := hConvPw)
    ∧ quiescent_ConvPwIdeal (hConvPwIdeal := hConvPwIdeal)
    ∧ quiescent_ConvPwIdeal_pre_pw_finite (hConvPwIdeal := hConvPwIdeal) (hPre_pw_finite := hPre_pw_finite)
    ∧ quiescent_ConvPwRefIdeal (hConvPwRefIdeal := hConvPwRefIdeal)
    ∧ quiescent_ConvPwRefIdeal_pre_pw_finite (hConvPwRefIdeal := hConvPwRefIdeal) (hPre_pw_finite := hPre_pw_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ preserves_FGate_FGateIdeal
    ∧ algebraic_FGateIdeal_FGateRefIdeal_pre_fgate_finite (hFGateIdeal := hFGateIdeal) (hFGateRefIdeal := hFGateRefIdeal) (hPre_fgate_finite := hPre_fgate_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_InProj_InProjIdeal
    ∧ algebraic_InProjIdeal_InProjRefIdeal_pre_inproj_finite (hInProjIdeal := hInProjIdeal) (hInProjRefIdeal := hInProjRefIdeal) (hPre_inproj_finite := hPre_inproj_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_ConvPw_ConvPwIdeal
    ∧ algebraic_ConvPwIdeal_ConvPwRefIdeal_pre_pw_finite (hConvPwIdeal := hConvPwIdeal) (hConvPwRefIdeal := hConvPwRefIdeal) (hPre_pw_finite := hPre_pw_finite)
    ∧ preserves_OutProj_OutProjIdeal
    ∧ algebraic_OutProjIdeal_OutProjRefIdeal (hOutProjIdeal := hOutProjIdeal) (hOutProjRefIdeal := hOutProjRefIdeal)
    ∧ preserves_MlpFwd_MlpFwdIdeal
    ∧ algebraic_MlpFwdIdeal_MlpFwdRefIdeal (hMlpFwdIdeal := hMlpFwdIdeal) (hMlpFwdRefIdeal := hMlpFwdRefIdeal)
-- ==== Pre_attn_finite.lean ====
abbrev S8208x512 : Shape := ⟨2, ![8208, 512]⟩
abbrev S8208x8 : Shape := ⟨2, ![8208, 8]⟩
abbrev S_ : Shape := ⟨0, ![]⟩

class Facts : Prop where
  bcast_S_S8208x512 : S_.BroadcastsInDim S8208x512 (![] : Fin 0 → Fin S8208x512.rank)
  bcast_S_S8208x8 : S_.BroadcastsInDim S8208x8 (![] : Fin 0 → Fin S8208x8.rank)

variable [Facts]

def fn {F : FTy → Type} [FloatOps F] (main_arg0 : FVec F S8208x512 .f32) (main_arg1 : FVec F S8208x512 .f32) (main_arg2 : FVec F S8208x512 .f32) (main_arg3 : FVec F S8208x8 .f32) (main_arg4 : FVec F S8208x512 .f32) : IVec S8208x512 1 × IVec S8208x8 1 :=
  let main_v0 : FVec F S8208x512 .f32 := Host.absf main_arg0
  let main_cst : FVec F S_ .f32 := constant S_ .f32 0x7F800000#32
  let main_v1 : FVec F S8208x512 .f32 := broadcastInDim S8208x512 ![] bcast_S_S8208x512 main_cst
  let main_v2 : IVec S8208x512 1 := cmpf .olt main_v0 main_v1
  let main_v3 : FVec F S8208x512 .f32 := Host.absf main_arg1
  let main_cst_0 : FVec F S_ .f32 := constant S_ .f32 0x7F800000#32
  let main_v4 : FVec F S8208x512 .f32 := broadcastInDim S8208x512 ![] bcast_S_S8208x512 main_cst_0
  let main_v5 : IVec S8208x512 1 := cmpf .olt main_v3 main_v4
  let main_v6 : IVec S8208x512 1 := andi main_v2 main_v5
  let main_v7 : FVec F S8208x512 .f32 := Host.absf main_arg2
  let main_cst_1 : FVec F S_ .f32 := constant S_ .f32 0x7F800000#32
  let main_v8 : FVec F S8208x512 .f32 := broadcastInDim S8208x512 ![] bcast_S_S8208x512 main_cst_1
  let main_v9 : IVec S8208x512 1 := cmpf .olt main_v7 main_v8
  let main_v10 : IVec S8208x512 1 := andi main_v6 main_v9
  let main_v11 : FVec F S8208x512 .f32 := Host.absf main_arg4
  let main_cst_2 : FVec F S_ .f32 := constant S_ .f32 0x7F800000#32
  let main_v12 : FVec F S8208x512 .f32 := broadcastInDim S8208x512 ![] bcast_S_S8208x512 main_cst_2
  let main_v13 : IVec S8208x512 1 := cmpf .olt main_v11 main_v12
  let main_v14 : IVec S8208x512 1 := andi main_v10 main_v13
  let main_v15 : FVec F S8208x8 .f32 := Host.absf main_arg3
  let main_cst_3 : FVec F S_ .f32 := constant S_ .f32 0x7F800000#32
  let main_v16 : FVec F S8208x8 .f32 := broadcastInDim S8208x8 ![] bcast_S_S8208x8 main_cst_3
  let main_v17 : IVec S8208x8 1 := cmpf .olt main_v15 main_v16
  (main_v14, main_v17)
-- ==== Pre_fgate_finite.lean ====
abbrev S8208x8 : Shape := ⟨2, ![8208, 8]⟩
abbrev S8 : Shape := ⟨1, ![8]⟩
abbrev S8x8208 : Shape := ⟨2, ![8, 8208]⟩
abbrev S_ : Shape := ⟨0, ![]⟩

class Facts : Prop where
  bcast_S_S8208x8 : S_.BroadcastsInDim S8208x8 (![] : Fin 0 → Fin S8208x8.rank)
  transposes_S8x8208_S8208x8_1_0 : S8x8208.Transposes [1, 0] S8208x8

variable [Facts]

def fn {F : FTy → Type} [FloatOps F] (main_arg0 : FVec F S8208x8 .f32) (main_arg1 : FVec F S8 .f32) (main_arg2 : FVec F S8208x8 .f32) (main_arg3 : FVec F S8x8208 .f32) : IVec S8208x8 1 :=
  let main_v0 : FVec F S8208x8 .f32 := Host.absf main_arg2
  let main_cst : FVec F S_ .f32 := constant S_ .f32 0x7F800000#32
  let main_v1 : FVec F S8208x8 .f32 := broadcastInDim S8208x8 ![] bcast_S_S8208x8 main_cst
  let main_v2 : IVec S8208x8 1 := cmpf .olt main_v0 main_v1
  let main_v3 : FVec F S8208x8 .f32 := (transpose S8208x8 [1, 0] · transposes_S8x8208_S8208x8_1_0) main_arg3
  let main_v4 : FVec F S8208x8 .f32 := Host.absf main_v3
  let main_cst_0 : FVec F S_ .f32 := constant S_ .f32 0x7F800000#32
  let main_v5 : FVec F S8208x8 .f32 := broadcastInDim S8208x8 ![] bcast_S_S8208x8 main_cst_0
  let main_v6 : IVec S8208x8 1 := cmpf .olt main_v4 main_v5
  let main_v7 : IVec S8208x8 1 := andi main_v2 main_v6
  main_v7
-- ==== Pre_inproj_finite.lean ====
abbrev S8208x1024 : Shape := ⟨2, ![8208, 1024]⟩
abbrev S1024 : Shape := ⟨1, ![1024]⟩
abbrev S1024x2824 : Shape := ⟨2, ![1024, 2824]⟩
abbrev S8208x2824 : Shape := ⟨2, ![8208, 2824]⟩
abbrev S_ : Shape := ⟨0, ![]⟩

class Facts : Prop where
  bcast_S_S8208x1024 : S_.BroadcastsInDim S8208x1024 (![] : Fin 0 → Fin S8208x1024.rank)
  bcast_S_S1024 : S_.BroadcastsInDim S1024 (![] : Fin 0 → Fin S1024.rank)
  bcast_S_S1024x2824 : S_.BroadcastsInDim S1024x2824 (![] : Fin 0 → Fin S1024x2824.rank)
  bcast_S_S8208x2824 : S_.BroadcastsInDim S8208x2824 (![] : Fin 0 → Fin S8208x2824.rank)

variable [Facts]

def fn {F : FTy → Type} [FloatOps F] (main_arg0 : FVec F S8208x1024 .f32) (main_arg1 : FVec F S1024 .f32) (main_arg2 : FVec F S1024x2824 .f32) (main_arg3 : FVec F S8208x2824 .f32) (main_arg4 : FVec F S8208x1024 .f32) : IVec S8208x1024 1 × IVec S1024 1 × IVec S1024x2824 1 × IVec S8208x2824 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2824 .f32 := Host.absf main_arg2
  let main_cst_1 : FVec F S_ .f32 := constant S_ .f32 0x7F800000#32
  let main_v7 : FVec F S1024x2824 .f32 := broadcastInDim S1024x2824 ![] bcast_S_S1024x2824 main_cst_1
  let main_v8 : IVec S1024x2824 1 := cmpf .olt main_v6 main_v7
  let main_v9 : FVec F S8208x2824 .f32 := Host.absf main_arg3
  let main_cst_2 : FVec F S_ .f32 := constant S_ .f32 0x7F800000#32
  let main_v10 : FVec F S8208x2824 .f32 := broadcastInDim S8208x2824 ![] bcast_S_S8208x2824 main_cst_2
  let main_v11 : IVec S8208x2824 1 := cmpf .olt main_v9 main_v10
  (main_v2, main_v5, main_v8, main_v11)
-- ==== Pre_loss_finite.lean ====
abbrev S8320x1024 : Shape := ⟨2, ![8320, 1024]⟩
abbrev S1x8192x1024 : Shape := ⟨3, ![1, 8192, 1024]⟩
abbrev S1024 : Shape := ⟨1, ![1024]⟩
abbrev S_ : Shape := ⟨0, ![]⟩

class Facts : Prop where
  bcast_S_S8320x1024 : S_.BroadcastsInDim S8320x1024 (![] : Fin 0 → Fin S8320x1024.rank)
  bcast_S_S1x8192x1024 : S_.BroadcastsInDim S1x8192x1024 (![] : Fin 0 → Fin S1x8192x1024.rank)
  bcast_S_S1024 : S_.BroadcastsInDim S1024 (![] : Fin 0 → Fin S1024.rank)

variable [Facts]

def fn {F : FTy → Type} [FloatOps F] (main_arg0 : FVec F S8320x1024 .f32) (main_arg1 : FVec F S1x8192x1024 .f32) (main_arg2 : FVec F S1024 .f32) : IVec S8320x1024 1 × IVec S1x8192x1024 1 × IVec S1024 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_mlp_finite.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8208x1024 : S_.BroadcastsInDim S8208x1024 (![] : Fin 0 → Fin S8208x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8208x1024 .f32) (main_arg1 : FVec F S1024 .f32) (main_arg2 : FVec F S1024x4096 .f32) (main_arg3 : FVec F S4096x1024 .f32) (main_arg4 : FVec F S8208x1024 .f32) : IVec S8208x1024 1 × IVec S1024 1 × IVec S1024x4096 1 × IVec S4096x1024 1 × IVec S8208x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S8208x1024 .f32 := Host.absf main_arg4
  let main_cst_3 : FVec F S_ .f32 := constant S_ .f32 0x7F800000#32
  let main_v13 : FVec F S8208x1024 .f32 := broadcastInDim S8208x1024 ![] bcast_S_S8208x1024 main_cst_3
  let main_v14 : IVec S8208x1024 1 := cmpf .olt main_v12 main_v13
  (main_v2, main_v5, main_v8, main_v11, main_v14)
-- ==== Pre_pw_finite.lean ====
abbrev S8320x256 : Shape := ⟨2, ![8320, 256]⟩
abbrev S256 : Shape := ⟨1, ![256]⟩
abbrev S256x256 : Shape := ⟨2, ![256, 256]⟩
abbrev S8320x1280 : Shape := ⟨2, ![8320, 1280]⟩
abbrev S8320x512 : Shape := ⟨2, ![8320, 512]⟩
abbrev S_ : Shape := ⟨0, ![]⟩

class Facts : Prop where
  bcast_S_S8320x256 : S_.BroadcastsInDim S8320x256 (![] : Fin 0 → Fin S8320x256.rank)
  bcast_S_S256 : S_.BroadcastsInDim S256 (![] : Fin 0 → Fin S256.rank)
  bcast_S_S256x256 : S_.BroadcastsInDim S256x256 (![] : Fin 0 → Fin S256x256.rank)
  bcast_S_S8320x512 : S_.BroadcastsInDim S8320x512 (![] : Fin 0 → Fin S8320x512.rank)

variable [Facts]

def fn {F : FTy → Type} [FloatOps F] (main_arg0 : FVec F S8320x256 .f32) (main_arg1 : FVec F S256 .f32) (main_arg2 : FVec F S256 .f32) (main_arg3 : FVec F S256 .f32) (main_arg4 : FVec F S256x256 .f32) (main_arg5 : FVec F S256 .f32) (main_arg6 : FVec F S8320x1280 .f32) (main_arg7 : FVec F S8320x256 .f32) (main_arg8 : FVec F S8320x512 .f32) : IVec S8320x256 1 × IVec S256 1 × IVec S256 1 × IVec S256 1 × IVec S256x256 1 × IVec S8320x512 1 :=
  let main_v0 : FVec F S8320x256 .f32 := Host.absf main_arg0
  let main_cst : FVec F S_ .f32 := constant S_ .f32 0x7F800000#32
  let main_v1 : FVec F S8320x256 .f32 := broadcastInDim S8320x256 ![] bcast_S_S8320x256 main_cst
  let main_v2 : IVec S8320x256 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x256 .f32 := Host.absf main_arg4
  let main_cst_3 : FVec F S_ .f32 := constant S_ .f32 0x7F800000#32
  let main_v13 : FVec F S256x256 .f32 := broadcastInDim S256x256 ![] bcast_S_S256x256 main_cst_3
  let main_v14 : IVec S256x256 1 := cmpf .olt main_v12 main_v13
  let main_v15 : FVec F S8320x512 .f32 := Host.absf main_arg8
  let main_cst_4 : FVec F S_ .f32 := constant S_ .f32 0x7F800000#32
  let main_v16 : FVec F S8320x512 .f32 := broadcastInDim S8320x512 ![] bcast_S_S8320x512 main_cst_4
  let main_v17 : IVec S8320x512 1 := cmpf .olt main_v15 main_v16
  (main_v2, main_v5, main_v8, main_v11, main_v14, main_v17)
-- ==== FGate.lean ====
abbrev S8208x8 : Shape := ⟨2, ![8208, 8]⟩
abbrev S8 : Shape := ⟨1, ![8]⟩
abbrev S8x8208 : Shape := ⟨2, ![8, 8208]⟩
abbrev S_ : Shape := ⟨0, ![]⟩
abbrev S8320x128 : Shape := ⟨2, ![8320, 128]⟩
abbrev S1x8 : Shape := ⟨2, ![1, 8]⟩
abbrev S1x128 : Shape := ⟨2, ![1, 128]⟩
abbrev S8x8320 : Shape := ⟨2, ![8, 8320]⟩
abbrev S8320x8 : Shape := ⟨2, ![8320, 8]⟩
abbrev S640x128 : Shape := ⟨2, ![640, 128]⟩
abbrev S640x640 : Shape := ⟨2, ![640, 640]⟩
abbrev S640x384 : Shape := ⟨2, ![640, 384]⟩
abbrev S128 : Shape := ⟨1, ![128]⟩

abbrev nBuf : Space → Nat
  | .hbm => 32
  | .vmem => 10
  | .smem => 0
  | _ => 0

abbrev bufTy : (tb : Table) → Fin (tcTables nBuf tb) → BufTy
  | .hbm, ⟨0, _⟩ => ⟨S8208x8, .f32⟩
  | .hbm, ⟨1, _⟩ => ⟨S8, .f32⟩
  | .hbm, ⟨2, _⟩ => ⟨S8208x8, .f32⟩
  | .hbm, ⟨3, _⟩ => ⟨S8x8208, .f32⟩
  | .hbm, ⟨4, _⟩ => ⟨S_, .i32⟩
  | .hbm, ⟨5, _⟩ => ⟨S_, .f32⟩
  | .hbm, ⟨6, _⟩ => ⟨S8320x128, .f32⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S8320x128, .f32⟩
  | .hbm, ⟨12, _⟩ => ⟨S8320x128, .f32⟩
  | .hbm, ⟨13, _⟩ => ⟨S8320x128, .f32⟩
  | .hbm, ⟨14, _⟩ => ⟨S_, .f32⟩
  | .hbm, ⟨15, _⟩ => ⟨S8320x128, .f32⟩
  | .hbm, ⟨16, _⟩ => ⟨S8320x128, .f32⟩
  | .hbm, ⟨17, _⟩ => ⟨S_, .f32⟩
  | .hbm, ⟨18, _⟩ => ⟨S8320x128, .f32⟩
  | .hbm, ⟨19, _⟩ => ⟨S8320x128, .f32⟩
  | .hbm, ⟨20, _⟩ => ⟨S_, .i32⟩
  | .hbm, ⟨21, _⟩ => ⟨S_, .f32⟩
  | .hbm, ⟨22, _⟩ => ⟨S8320x128, .f32⟩
  | .hbm, ⟨23, _⟩ => ⟨S_, .i32⟩
  | .hbm, ⟨24, _⟩ => ⟨S_, .f32⟩
  | .hbm, ⟨25, _⟩ => ⟨S8x8320, .f32⟩
  | .hbm, ⟨26, _⟩ => ⟨S8320x8, .f32⟩
  | .hbm, ⟨27, _⟩ => ⟨S_, .i32⟩
  | .hbm, ⟨28, _⟩ => ⟨S_, .f32⟩
  | .hbm, ⟨29, _⟩ => ⟨S8320x128, .f32⟩
  | .hbm, ⟨30, _⟩ => ⟨S8320x128, .bf16⟩
  | .hbm, ⟨31, _⟩ => ⟨S1x128, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S640x128, .f32⟩
  | .local _ .vmem, ⟨5, _⟩ => ⟨S640x128, .f32⟩
  | .local _ .vmem, ⟨6, _⟩ => ⟨S640x128, .bf16⟩
  | .local _ .vmem, ⟨7, _⟩ => ⟨S640x128, .bf16⟩
  | .local _ .vmem, ⟨8, _⟩ => ⟨S1x128, .f32⟩
  | .local _ .vmem, ⟨9, _⟩ => ⟨S1x128, .f32⟩
  | _, _ => ⟨S8208x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call2_v0 : Ref sig .tc := ⟨.hbm, 21, rfl⟩
abbrev main_v10 : Ref sig .tc := ⟨.hbm, 22, rfl⟩
abbrev main_c_3 : Ref sig .tc := ⟨.hbm, 23, rfl⟩
abbrev main_call3_v0 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_call4_v0 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FGateRefIdeal.lean ====
abbrev S8208x8 : Shape := ⟨2, ![8208, 8]⟩
abbrev S8 : Shape := ⟨1, ![8]⟩
abbrev S8x8208 : Shape := ⟨2, ![8, 8208]⟩
abbrev S1x8 : Shape := ⟨2, ![1, 8]⟩
abbrev S_ : Shape := ⟨0, ![]⟩
abbrev S8320x128 : Shape := ⟨2, ![8320, 128]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S8208x8, .f32⟩
  | .hbm, ⟨1, _⟩ => ⟨S8, .f32⟩
  | .hbm, ⟨2, _⟩ => ⟨S8208x8, .f32⟩
  | .hbm, ⟨3, _⟩ => ⟨S8x8208, .f32⟩
  | .hbm, ⟨4, _⟩ => ⟨S1x8, .f32⟩
  | .hbm, ⟨5, _⟩ => ⟨S8208x8, .f32⟩
  | .hbm, ⟨6, _⟩ => ⟨S8208x8, .f32⟩
  | .hbm, ⟨7, _⟩ => ⟨S8208x8, .f32⟩
  | .hbm, ⟨8, _⟩ => ⟨S_, .f32⟩
  | .hbm, ⟨9, _⟩ => ⟨S8208x8, .f32⟩
  | .hbm, ⟨10, _⟩ => ⟨S8208x8, .f32⟩
  | .hbm, ⟨11, _⟩ => ⟨S8208x8, .f32⟩
  | .hbm, ⟨12, _⟩ => ⟨S8208x8, .f32⟩
  | .hbm, ⟨13, _⟩ => ⟨S8208x8, .i1⟩
  | .hbm, ⟨14, _⟩ => ⟨S8208x8, .f32⟩
  | .hbm, ⟨15, _⟩ => ⟨S8208x8, .f32⟩
  | .hbm, ⟨16, _⟩ => ⟨S8208x8, .f32⟩
  | .hbm, ⟨17, _⟩ => ⟨S8208x8, .f32⟩
  | .hbm, ⟨18, _⟩ => ⟨S8208x8, .f32⟩
  | .hbm, ⟨19, _⟩ => ⟨S8208x8, .f32⟩
  | .hbm, ⟨20, _⟩ => ⟨S8208x8, .f32⟩
  | .hbm, ⟨21, _⟩ => ⟨S8208x8, .f32⟩
  | .hbm, ⟨22, _⟩ => ⟨S_, .f32⟩
  | .hbm, ⟨23, _⟩ => ⟨S8208x8, .f32⟩
  | .hbm, ⟨24, _⟩ => ⟨S8208x8, .i1⟩
  | .hbm, ⟨25, _⟩ => ⟨S_, .f32⟩
  | .hbm, ⟨26, _⟩ => ⟨S8208x8, .f32⟩
  | .hbm, ⟨27, _⟩ => ⟨S8208x8, .f32⟩
  | .hbm, ⟨28, _⟩ => ⟨S_, .f32⟩
  | .hbm, ⟨29, _⟩ => ⟨S8208x8, .f32⟩
  | .hbm, ⟨30, _⟩ => ⟨S8208x8, .i1⟩
  | .hbm, ⟨31, _⟩ => ⟨S_, .f32⟩
  | .hbm, ⟨32, _⟩ => ⟨S8208x8, .f32⟩
  | .hbm, ⟨33, _⟩ => ⟨S8208x8, .f32⟩
  | .hbm, ⟨34, _⟩ => ⟨S8208x8, .f32⟩
  | .hbm, ⟨35, _⟩ => ⟨S8208x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8208x8, .f32⟩
  | .hbm, ⟨44, _⟩ => ⟨S8208x8, .i1⟩
  | .hbm, ⟨45, _⟩ => ⟨S_, .f32⟩
  | .hbm, ⟨46, _⟩ => ⟨S8208x8, .f32⟩
  | .hbm, ⟨47, _⟩ => ⟨S8208x8, .f32⟩
  | .hbm, ⟨48, _⟩ => ⟨S8208x8, .f32⟩
  | .hbm, ⟨49, _⟩ => ⟨S8208x8, .f32⟩
  | .hbm, ⟨50, _⟩ => ⟨S8208x8, .f32⟩
  | .hbm, ⟨51, _⟩ => ⟨S_, .f32⟩
  | .hbm, ⟨52, _⟩ => ⟨S8208x8, .f32⟩
  | .hbm, ⟨53, _⟩ => ⟨S8208x8, .f32⟩
  | .hbm, ⟨54, _⟩ => ⟨S8208x8, .f32⟩
  | .hbm, ⟨55, _⟩ => ⟨S_, .f32⟩
  | .hbm, ⟨56, _⟩ => ⟨S_, .f32⟩
  | .hbm, ⟨57, _⟩ => ⟨S8208x8, .f32⟩
  | .hbm, ⟨58, _⟩ => ⟨S8x8208, .f32⟩
  | .hbm, ⟨59, _⟩ => ⟨S8x8208, .f32⟩
  | .hbm, ⟨60, _⟩ => ⟨S8x8208, .f32⟩
  | .hbm, ⟨61, _⟩ => ⟨S8208x8, .f32⟩
  | .hbm, ⟨62, _⟩ => ⟨S8208x8, .f32⟩
  | .hbm, ⟨63, _⟩ => ⟨S_, .f32⟩
  | .hbm, ⟨64, _⟩ => ⟨S_, .f32⟩
  | .hbm, ⟨65, _⟩ => ⟨S8208x8, .f32⟩
  | .hbm, ⟨66, _⟩ => ⟨S8208x8, .f32⟩
  | .hbm, ⟨67, _⟩ => ⟨S8208x8, .f32⟩
  | .hbm, ⟨68, _⟩ => ⟨S8208x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S_, .f32⟩
  | .hbm, ⟨73, _⟩ => ⟨S8, .f32⟩
  | .hbm, ⟨74, _⟩ => ⟨S8208x8, .bf16⟩
  | .hbm, ⟨75, _⟩ => ⟨S_, .i32⟩
  | .hbm, ⟨76, _⟩ => ⟨S_, .bf16⟩
  | .hbm, ⟨77, _⟩ => ⟨S8320x128, .bf16⟩
  | .hbm, ⟨78, _⟩ => ⟨S1x8, .f32⟩
  | .hbm, ⟨79, _⟩ => ⟨S_, .i32⟩
  | .hbm, ⟨80, _⟩ => ⟨S_, .f32⟩
  | .hbm, ⟨81, _⟩ => ⟨S1x128, .f32⟩
  | _, _ => ⟨S8208x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_call2_call0_cst : Ref sig .tc := ⟨.hbm, 63, rfl⟩
abbrev main_call2_call0_v0 : Ref sig .tc := ⟨.hbm, 64, rfl⟩
abbrev main_v10 : Ref sig .tc := ⟨.hbm, 65, rfl⟩
abbrev main_call3_v0 : Ref sig .tc := ⟨.hbm, 66, rfl⟩
abbrev main_call3_v1 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_cst_0 : Ref sig .tc := ⟨.hbm, 72, rfl⟩
abbrev main_v14 : Ref sig .tc := ⟨.hbm, 73, rfl⟩
abbrev main_v15 : Ref sig .tc := ⟨.hbm, 74, rfl⟩
abbrev main_c : Ref sig .tc := ⟨.hbm, 75, rfl⟩
abbrev main_call4_v0 : Ref sig .tc := ⟨.hbm, 76, rfl⟩
abbrev main_v16 : Ref sig .tc := ⟨.hbm, 77, rfl⟩
abbrev main_v17 : Ref sig .tc := ⟨.hbm, 78, rfl⟩
abbrev main_c_1 : Ref sig .tc := ⟨.hbm, 79, rfl⟩
abbrev main_call5_v0 : Ref sig .tc := ⟨.hbm, 80, rfl⟩
abbrev main_v18 : Ref sig .tc := ⟨.hbm, 81, rfl⟩

abbrev nD : Nat := 1
abbrev τ : Topo := Topo.v7x

variable {F : FTy → Type} [FloatOps F]
-- ==== Attn.lean ====
abbrev S8208x512 : Shape := ⟨2, ![8208, 512]⟩
abbrev S8208x8 : Shape := ⟨2, ![8208, 8]⟩
abbrev S91 : Shape := ⟨1, ![91]⟩
abbrev S_ : Shape := ⟨0, ![]⟩
abbrev S112x512 : Shape := ⟨2, ![112, 512]⟩
abbrev S8320x512 : Shape := ⟨2, ![8320, 512]⟩
abbrev S112x8 : Shape := ⟨2, ![112, 8]⟩
abbrev S8320x8 : Shape := ⟨2, ![8320, 8]⟩
abbrev S8320x8x64 : Shape := ⟨3, ![8320, 8, 64]⟩
abbrev S8x8320x64 : Shape := ⟨3, ![8, 8320, 64]⟩
abbrev S8x8320x8320 : Shape := ⟨3, ![8, 8320, 8320]⟩
abbrev S8x8320 : Shape := ⟨2, ![8, 8320]⟩
abbrev S8x8320x1 : Shape := ⟨3, ![8, 8320, 1]⟩
abbrev S8x1x8320 : Shape := ⟨3, ![8, 1, 8320]⟩
abbrev S8320 : Shape := ⟨1, ![8320]⟩
abbrev S8320x1 : Shape := ⟨2, ![8320, 1]⟩
abbrev S1x8320 : Shape := ⟨2, ![1, 8320]⟩
abbrev S8320x8320 : Shape := ⟨2, ![8320, 8320]⟩
abbrev S8320x8x1 : Shape := ⟨3, ![8320, 8, 1]⟩
abbrev S8320x8x55 : Shape := ⟨3, ![8320, 8, 55]⟩
abbrev S8320x4x128 : Shape := ⟨3, ![8320, 4, 128]⟩
abbrev S8320x4x64 : Shape := ⟨3, ![8320, 4, 64]⟩
abbrev S8320x4x256 : Shape := ⟨3, ![8320, 4, 256]⟩
abbrev S8320x1024 : Shape := ⟨2, ![8320, 1024]⟩
abbrev S8320x8x60 : Shape := ⟨3, ![8320, 8, 60]⟩
abbrev S1024x8320 : Shape := ⟨2, ![1024, 8320]⟩
abbrev S8320x128 : Shape := ⟨2, ![8320, 128]⟩
abbrev S640x1024 : Shape := ⟨2, ![640, 1024]⟩
abbrev S1 : Shape := ⟨1, ![1]⟩
abbrev S1024x640 : Shape := ⟨2, ![1024, 640]⟩
abbrev S640x512 : Shape := ⟨2, ![640, 512]⟩
abbrev S8x640 : Shape := ⟨2, ![8, 640]⟩
abbrev S2 : Shape := ⟨1, ![2]⟩
abbrev S640x128 : Shape := ⟨2, ![640, 128]⟩
abbrev S640x640 : Shape := ⟨2, ![640, 640]⟩
abbrev S128x640 : Shape := ⟨2, ![128, 640]⟩
abbrev S640 : Shape := ⟨1, ![640]⟩
abbrev S640x1 : Shape := ⟨2, ![640, 1]⟩
abbrev S1x640 : Shape := ⟨2, ![1, 640]⟩

abbrev nBuf : Space → Nat
  | .hbm => 204
  | .vmem => 24
  | .smem => 2
  | _ => 0

abbrev hbmTy0_0 (i : Nat) : BufTy := match i % 128 with
  | 0 => ⟨S8208x512, .f32⟩
  | 1 => ⟨S8208x512, .f32⟩
  | 2 => ⟨S8208x512, .f32⟩
  | 3 => ⟨S8208x8, .f32⟩
  | 4 => ⟨S8208x512, .f32⟩
  | 5 => ⟨S_, .f32⟩
  | 6 => ⟨S112x512, .f32⟩
  | 7 => ⟨S8320x512, .f32⟩
  | 8 => ⟨S_, .f32⟩
  | 9 => ⟨S112x512, .f32⟩
  | 10 => ⟨S8320x512, .f32⟩
  | 11 => ⟨S_, .f32⟩
  | 12 => ⟨S112x512, .f32⟩
  | 13 => ⟨S8320x512, .f32⟩
  | 14 => ⟨S_, .f32⟩
  | 15 => ⟨S112x8, .f32⟩
  | 16 => ⟨S8320x8, .f32⟩
  | 17 => ⟨S_, .f32⟩
  | 18 => ⟨S112x512, .f32⟩
  | 19 => ⟨S8320x512, .f32⟩
  | 20 => ⟨S_, .f32⟩
  | 21 => ⟨S8320x512, .f32⟩
  | 22 => ⟨S8320x512, .f32⟩
  | 23 => ⟨S8320x8x64, .f32⟩
  | 24 => ⟨S8x8320x64, .f32⟩
  | 25 => ⟨S8320x8x64, .f32⟩
  | 26 => ⟨S8x8320x64, .f32⟩
  | 27 => ⟨S8x8320x8320, .f32⟩
  | 28 => ⟨S8x8320, .f32⟩
  | 29 => ⟨S8x8320x1, .f32⟩
  | 30 => ⟨S8x8320x8320, .f32⟩
  | 31 => ⟨S8x8320x8320, .f32⟩
  | 32 => ⟨S8x8320, .f32⟩
  | 33 => ⟨S8x1x8320, .f32⟩
  | 34 => ⟨S8x8320x8320, .f32⟩
  | 35 => ⟨S8x8320x8320, .f32⟩
  | 36 => ⟨S8320, .i32⟩
  | 37 => ⟨S8320x1, .i32⟩
  | 38 => ⟨S1x8320, .i32⟩
  | 39 => ⟨S8320x8320, .i32⟩
  | 40 => ⟨S8320x8320, .i32⟩
  | 41 => ⟨S8320x8320, .i1⟩
  | 42 => ⟨S8x8320x8320, .i1⟩
  | 43 => ⟨S_, .f32⟩
  | 44 => ⟨S8x8320x8320, .f32⟩
  | 45 => ⟨S8x8320x8320, .f32⟩
  | 46 => ⟨S_, .f32⟩
  | 47 => ⟨S8x8320, .f32⟩
  | 48 => ⟨S8x8320x1, .f32⟩
  | 49 => ⟨S8x8320x8320, .f32⟩
  | 50 => ⟨S8x8320x8320, .f32⟩
  | 51 => ⟨S8x8320x8320, .f32⟩
  | 52 => ⟨S_, .f32⟩
  | 53 => ⟨S8x8320, .f32⟩
  | 54 => ⟨S8x8320x1, .f32⟩
  | 55 => ⟨S8320x8x64, .f32⟩
  | 56 => ⟨S8x8320x64, .f32⟩
  | 57 => ⟨S8x8320x64, .f32⟩
  | 58 => ⟨S_, .f32⟩
  | 59 => ⟨S8x8320x1, .f32⟩
  | 60 => ⟨S8x8320x1, .f32⟩
  | 61 => ⟨S8x8320x64, .f32⟩
  | 62 => ⟨S8x8320x64, .f32⟩
  | 63 => ⟨S8320x8x64, .f32⟩
  | 64 => ⟨S8320x8x64, .bf16⟩
  | 65 => ⟨S8x8320x1, .f32⟩
  | 66 => ⟨S8x8320x1, .f32⟩
  | 67 => ⟨S8x8320, .f32⟩
  | 68 => ⟨S8320x8, .f32⟩
  | 69 => ⟨S8320x8, .bf16⟩
  | 70 => ⟨S8320x8, .f32⟩
  | 71 => ⟨S8320x8, .f32⟩
  | 72 => ⟨S8320x8, .bf16⟩
  | 73 => ⟨S8320x8, .f32⟩
  | 74 => ⟨S8320x8, .f32⟩
  | 75 => ⟨S8320x8, .f32⟩
  | 76 => ⟨S8320x8, .bf16⟩
  | 77 => ⟨S8320x8, .f32⟩
  | 78 => ⟨S8320x8x64, .f32⟩
  | 79 => ⟨S8320x8, .f32⟩
  | 80 => ⟨S8320x8, .f32⟩
  | 81 => ⟨S8320x8, .f32⟩
  | 82 => ⟨S_, .f32⟩
  | 83 => ⟨S8320x8x1, .f32⟩
  | 84 => ⟨S_, .f32⟩
  | 85 => ⟨S8320x8x1, .f32⟩
  | 86 => ⟨S_, .f32⟩
  | 87 => ⟨S8320x8x1, .f32⟩
  | 88 => ⟨S8320x8x1, .f32⟩
  | 89 => ⟨S8320x8x1, .f32⟩
  | 90 => ⟨S8320x8x1, .f32⟩
  | 91 => ⟨S_, .f32⟩
  | 92 => ⟨S8320x8x1, .f32⟩
  | 93 => ⟨S_, .f32⟩
  | 94 => ⟨S8320x8x1, .f32⟩
  | 95 => ⟨S_, .f32⟩
  | 96 => ⟨S8320x8x1, .f32⟩
  | 97 => ⟨S_, .f32⟩
  | 98 => ⟨S8320x8x55, .f32⟩
  | 99 => ⟨S8320x8x64, .f32⟩
  | 100 => ⟨S8320x4x128, .f32⟩
  | 101 => ⟨S8320x4x128, .f32⟩
  | 102 => ⟨S8320x4x64, .f32⟩
  | 103 => ⟨S8320x4x64, .f32⟩
  | 104 => ⟨S8320x4x256, .f32⟩
  | 105 => ⟨S8320x1024, .f32⟩
  | 106 => ⟨S8320x1024, .bf16⟩
  | 107 => ⟨S8320x8x64, .f32⟩
  | 108 => ⟨S_, .f32⟩
  | 109 => ⟨S8320x8x1, .f32⟩
  | 110 => ⟨S_, .f32⟩
  | 111 => ⟨S8320x8x1, .f32⟩
  | 112 => ⟨S_, .f32⟩
  | 113 => ⟨S8320x8x1, .f32⟩
  | 114 => ⟨S_, .f32⟩
  | 115 => ⟨S8320x8x1, .f32⟩
  | 116 => ⟨S_, .f32⟩
  | 117 => ⟨S8320x8x60, .f32⟩
  | 118 => ⟨S8320x8x64, .f32⟩
  | 119 => ⟨S8320x4x128, .f32⟩
  | 120 => ⟨S8320x4x128, .f32⟩
  | 121 => ⟨S8320x4x64, .f32⟩
  | 122 => ⟨S8320x4x64, .f32⟩
  | 123 => ⟨S8320x4x256, .f32⟩
  | 124 => ⟨S8320x1024, .f32⟩
  | 125 => ⟨S8320x1024, .bf16⟩
  | 126 => ⟨S8320x8x64, .f32⟩
  | 127 => ⟨S8320x8x64, .f32⟩
  | _ => ⟨S8208x512, .f32⟩

abbrev hbmTy0_1 (i : Nat) : BufTy := match i % 128 with
  | 0 => ⟨S8320x8x64, .f32⟩
  | 1 => ⟨S_, .f32⟩
  | 2 => ⟨S8320x8, .f32⟩
  | 3 => ⟨S8320x8x64, .f32⟩
  | 4 => ⟨S_, .f32⟩
  | 5 => ⟨S8320x8x64, .f32⟩
  | 6 => ⟨S8320x8x64, .f32⟩
  | 7 => ⟨S8320x8, .bf16⟩
  | 8 => ⟨S8320x8, .f32⟩
  | 9 => ⟨S8320x8, .f32⟩
  | 10 => ⟨S8320x8, .bf16⟩
  | 11 => ⟨S8320x8, .f32⟩
  | 12 => ⟨S8320x8, .f32⟩
  | 13 => ⟨S8320x8, .f32⟩
  | 14 => ⟨S8320x8, .bf16⟩
  | 15 => ⟨S8320x8, .f32⟩
  | 16 => ⟨S8320x8, .f32⟩
  | 17 => ⟨S8320x8, .f32⟩
  | 18 => ⟨S8320x8, .f32⟩
  | 19 => ⟨S8320x8x1, .f32⟩
  | 20 => ⟨S8320x8x1, .f32⟩
  | 21 => ⟨S8320x8x1, .f32⟩
  | 22 => ⟨S_, .f32⟩
  | 23 => ⟨S8320x8x1, .f32⟩
  | 24 => ⟨S_, .f32⟩
  | 25 => ⟨S8320x8x1, .f32⟩
  | 26 => ⟨S_, .f32⟩
  | 27 => ⟨S8320x8x1, .f32⟩
  | 28 => ⟨S8320x8x1, .f32⟩
  | 29 => ⟨S8320x8x1, .f32⟩
  | 30 => ⟨S8320x8x1, .f32⟩
  | 31 => ⟨S_, .f32⟩
  | 32 => ⟨S8320x8x55, .f32⟩
  | 33 => ⟨S8320x8x64, .f32⟩
  | 34 => ⟨S8320x4x128, .f32⟩
  | 35 => ⟨S8320x4x128, .f32⟩
  | 36 => ⟨S8320x4x64, .f32⟩
  | 37 => ⟨S8320x4x64, .f32⟩
  | 38 => ⟨S8320x4x256, .f32⟩
  | 39 => ⟨S8320x1024, .f32⟩
  | 40 => ⟨S8320x1024, .bf16⟩
  | 41 => ⟨S8320x8x64, .f32⟩
  | 42 => ⟨S8320x8, .bf16⟩
  | 43 => ⟨S8320x8, .f32⟩
  | 44 => ⟨S8320x8, .f32⟩
  | 45 => ⟨S8320x8, .bf16⟩
  | 46 => ⟨S8320x8, .f32⟩
  | 47 => ⟨S8320x8, .f32⟩
  | 48 => ⟨S8320x8, .f32⟩
  | 49 => ⟨S8320x8, .bf16⟩
  | 50 => ⟨S8320x8, .f32⟩
  | 51 => ⟨S8320x8, .f32⟩
  | 52 => ⟨S8320x8, .f32⟩
  | 53 => ⟨S8320x8, .f32⟩
  | 54 => ⟨S_, .f32⟩
  | 55 => ⟨S8320x8x1, .f32⟩
  | 56 => ⟨S8320x8x1, .f32⟩
  | 57 => ⟨S8320x8x1, .f32⟩
  | 58 => ⟨S8320x8x1, .f32⟩
  | 59 => ⟨S_, .f32⟩
  | 60 => ⟨S8320x8x60, .f32⟩
  | 61 => ⟨S8320x8x64, .f32⟩
  | 62 => ⟨S8320x4x128, .f32⟩
  | 63 => ⟨S8320x4x128, .f32⟩
  | 64 => ⟨S8320x4x64, .f32⟩
  | 65 => ⟨S8320x4x64, .f32⟩
  | 66 => ⟨S8320x4x256, .f32⟩
  | 67 => ⟨S8320x1024, .f32⟩
  | 68 => ⟨S8320x1024, .bf16⟩
  | 69 => ⟨S1024x8320, .bf16⟩
  | 70 => ⟨S1024x8320, .bf16⟩
  | 71 => ⟨S8320x512, .bf16⟩
  | 72 => ⟨S8320x512, .bf16⟩
  | 73 => ⟨S8320x512, .bf16⟩
  | 74 => ⟨S8320x128, .f32⟩
  | 75 => ⟨S8x8320, .f32⟩
  | _ => ⟨S8208x512, .f32⟩

abbrev hbmTy (i : Nat) : BufTy := match i / 128 with
  | 0 => hbmTy0_0 i
  | 1 => hbmTy0_1 i
  | _ => ⟨S8208x512, .f32⟩

abbrev bufTy : (tb : Table) → Fin (tcTables nBuf tb) → BufTy
  | .hbm, ⟨i, _⟩ => hbmTy i
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .bf16⟩
  | .local _ .vmem, ⟨7, _⟩ => ⟨S1024x640, .bf16⟩
  | .local _ .vmem, ⟨8, _⟩ => ⟨S640x1024, .bf16⟩
  | .local _ .vmem, ⟨9, _⟩ => ⟨S640x1024, .bf16⟩
  | .local _ .vmem, ⟨10, _⟩ => ⟨S640x1024, .bf16⟩
  | .local _ .vmem, ⟨11, _⟩ => ⟨S640x1024, .bf16⟩
  | .local _ .vmem, ⟨12, _⟩ => ⟨S640x512, .bf16⟩
  | .local _ .vmem, ⟨13, _⟩ => ⟨S640x512, .bf16⟩
  | .local _ .vmem, ⟨14, _⟩ => ⟨S640x512, .bf16⟩
  | .local _ .vmem, ⟨15, _⟩ => ⟨S640x512, .bf16⟩
  | .local _ .vmem, ⟨16, _⟩ => ⟨S8x640, .f32⟩
  | .local _ .vmem, ⟨17, _⟩ => ⟨S8x640, .f32⟩
  | .local _ .vmem, ⟨18, _⟩ => ⟨S8320x512, .f32⟩
  | .local _ .vmem, ⟨19, _⟩ => ⟨S8320x128, .f32⟩
  | .local _ .vmem, ⟨20, _⟩ => ⟨S1024x640, .f32⟩
  | .local _ .vmem, ⟨21, _⟩ => ⟨S1024x640, .f32⟩
  | .local _ .vmem, ⟨22, _⟩ => ⟨S8x640, .f32⟩
  | .local _ .vmem, ⟨23, _⟩ => ⟨S640x512, .bf16⟩
  | .local _ .smem, ⟨0, _⟩ => ⟨S91, .i32⟩
  | .local _ .smem, ⟨1, _⟩ => ⟨S91, .i32⟩
  | _, _ => ⟨S8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_10 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_cst_14 : Ref sig .tc := ⟨.hbm, 93, rfl⟩
abbrev main_v74 : Ref sig .tc := ⟨.hbm, 94, rfl⟩
abbrev main_cst_15 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_17 : Ref sig .tc := ⟨.hbm, 108, rfl⟩
abbrev main_v86 : Ref sig .tc := ⟨.hbm, 109, rfl⟩
abbrev main_cst_18 : Ref sig .tc := ⟨.hbm, 110, rfl⟩
abbrev main_v87 : Ref sig .tc := ⟨.hbm, 111, rfl⟩
abbrev main_cst_19 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_22 : Ref sig .tc := ⟨.hbm, 129, rfl⟩
abbrev main_v102 : Ref sig .tc := ⟨.hbm, 130, rfl⟩
abbrev main_v103 : Ref sig .tc := ⟨.hbm, 131, rfl⟩
abbrev main_cst_23 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_24 : Ref sig .tc := ⟨.hbm, 150, rfl⟩
abbrev main_v121 : Ref sig .tc := ⟨.hbm, 151, rfl⟩
abbrev main_cst_25 : Ref sig .tc := ⟨.hbm, 152, rfl⟩
abbrev main_v122 : Ref sig .tc := ⟨.hbm, 153, rfl⟩
abbrev main_cst_26 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_27 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_28 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_29 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164_0 : Ref sig .tc := ⟨.hbm, 199, rfl⟩
abbrev main_v164_1 : Ref sig .tc := ⟨.hbm, 200, rfl⟩
abbrev main_v164_2 : Ref sig .tc := ⟨.hbm, 201, rfl⟩
abbrev main_v164_3 : Ref sig .tc := ⟨.hbm, 202, rfl⟩
abbrev main_v164_4 : Ref sig .tc := ⟨.hbm, 203, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![91], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v3 : BitVec 32) : BitVec 32 :=
  let c640_i32 : BitVec 32 := 640#32
  let v19 : BitVec 32 := Scalar.muli v3 c640_i32
  v19
def k0_cond3 (v1 : BitVec 32) (v3 : BitVec 32) : BitVec 1 :=
  let v10 : BitVec 1 := Scalar.cmpi .sgt v3 v1
  let v11 : BitVec 32 := Scalar.extui v10
  let c0_i32_2 : BitVec 32 := 0#32
  let v12 : BitVec 1 := Scalar.cmpi .ne v11 c0_i32_2
  v12

def k0_off2 (v3 : BitVec 32) : Fin 2 → Nat :=
  let c640_i32 : BitVec 32 := 640#32
  let v19 : BitVec 32 := Scalar.muli v3 c640_i32
  let v20 : BitVec 32 := v19
  let v21 : Index := Scalar.indexCast v20
  let c0 : Index := 0#32
  ![v21.toNat, 0]
def k0_off3 (v3 : BitVec 32) : Fin 2 → Nat :=
  let c640_i32 : BitVec 32 := 640#32
  let v19 : BitVec 32 := Scalar.muli v3 c640_i32
  let v20 : BitVec 32 := v19
  let v106 : Index := Scalar.indexCast v20
  let c0_65 : Index := 0#32
  ![v106.toNat, 0]
def k0_off4 (v3 : BitVec 32) : Fin 2 → Nat :=
  let c640_i32 : BitVec 32 := 640#32
  let v19 : BitVec 32 := Scalar.muli v3 c640_i32
  let v20 : BitVec 32 := v19
  let v214 : Index := Scalar.indexCast v20
  let c128_131 : Index := 128#32
  ![v214.toNat, 128]
def k0_off5 (v3 : BitVec 32) : Fin 2 → Nat :=
  let c640_i32 : BitVec 32 := 640#32
  let v19 : BitVec 32 := Scalar.muli v3 c640_i32
  let v20 : BitVec 32 := v19
  let v322 : Index := Scalar.indexCast v20
  let c256_198 : Index := 256#32
  ![v322.toNat, 256]
def k0_off6 (v3 : BitVec 32) : Fin 2 → Nat :=
  let c640_i32 : BitVec 32 := 640#32
  let v19 : BitVec 32 := Scalar.muli v3 c640_i32
  let v20 : BitVec 32 := v19
  let v430 : Index := Scalar.indexCast v20
  let c384_265 : Index := 384#32
  ![v430.toNat, 384]
def k0_mult2 (v3 : BitVec 32) : BitVec 32 :=
  let c640_i32 : BitVec 32 := 640#32
  let v19 : BitVec 32 := Scalar.muli v3 c640_i32
  v19
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off7 (v3 : BitVec 32) : Fin 2 → Nat :=
  let c640_i32 : BitVec 32 := 640#32
  let v19 : BitVec 32 := Scalar.muli v3 c640_i32
  let v20 : BitVec 32 := v19
  let v21 : Index := Scalar.indexCast v20
  let c0 : Index := 0#32
  ![v21.toNat, 0]
def k0_off8 (v3 : BitVec 32) : Fin 2 → Nat :=
  let c640_i32 : BitVec 32 := 640#32
  let v19 : BitVec 32 := Scalar.muli v3 c640_i32
  let v20 : BitVec 32 := v19
  let v113 : Index := Scalar.indexCast v20
  let c0_67 : Index := 0#32
  ![v113.toNat, 0]
def k0_off9 (v3 : BitVec 32) : Fin 2 → Nat :=
  let c640_i32 : BitVec 32 := 640#32
  let v19 : BitVec 32 := Scalar.muli v3 c640_i32
  let v20 : BitVec 32 := v19
  let v225 : Index := Scalar.indexCast v20
  let c128_135 : Index := 128#32
  ![v225.toNat, 128]
def k0_off10 (v3 : BitVec 32) : Fin 2 → Nat :=
  let c640_i32 : BitVec 32 := 640#32
  let v19 : BitVec 32 := Scalar.muli v3 c640_i32
  let v20 : BitVec 32 := v19
  let v337 : Index := Scalar.indexCast v20
  let c256_204 : Index := 256#32
  ![v337.toNat, 256]
def k0_off11 (v3 : BitVec 32) : Fin 2 → Nat :=
  let c640_i32 : BitVec 32 := 640#32
  let v19 : BitVec 32 := Scalar.muli v3 c640_i32
  let v20 : BitVec 32 := v19
  let v449 : Index := Scalar.indexCast v20
  let c384_273 : Index := 384#32
  ![v449.toNat, 384]
def k0_off12 (v3 : BitVec 32) : Fin 2 → Nat :=
  let c640_i32 : BitVec 32 := 640#32
  let v19 : BitVec 32 := Scalar.muli v3 c640_i32
  let v20 : BitVec 32 := v19
  let v479 : Index := Scalar.indexCast v20
  let c0_283 : Index := 0#32
  ![v479.toNat, 0]
def k0_off13 (v3 : BitVec 32) : Fin 2 → Nat :=
  let c640_i32 : BitVec 32 := 640#32
  let v19 : BitVec 32 := Scalar.muli v3 c640_i32
  let v20 : BitVec 32 := v19
  let c0_i32_288 : BitVec 32 := 0#32
  ![v20.toNat, 0]
def k0_off14 (v3 : BitVec 32) : Fin 2 → Nat :=
  let c640_i32 : BitVec 32 := 640#32
  let v19 : BitVec 32 := Scalar.muli v3 c640_i32
  let v20 : BitVec 32 := v19
  let c0_i32_290 : BitVec 32 := 0#32
  ![v20.toNat, 0]

def k0_chk1 (v1 : BitVec 32) (v3 : BitVec 32) : Prop :=
  (∀ (k0_h3 : k0_cond3 v1 v3 = 1#1), 640 ∣ (k0_mult1 v3).toNat) ∧
  (∀ (k0_h3 : k0_cond3 v1 v3 = 1#1), ∀ a, (k0_off2 v3) a + S640x128.size a ≤ S8320x128.size a) ∧
  (∀ (k0_h3 : k0_cond3 v1 v3 = 1#1), ∀ a, (k0_off3 v3) a + S640x128.size a ≤ S8320x512.size a) ∧
  (∀ (k0_h3 : k0_cond3 v1 v3 = 1#1), ∀ a, (k0_off4 v3) a + S640x128.size a ≤ S8320x512.size a) ∧
  (∀ (k0_h3 : k0_cond3 v1 v3 = 1#1), ∀ a, (k0_off5 v3) a + S640x128.size a ≤ S8320x512.size a) ∧
  (∀ (k0_h3 : k0_cond3 v1 v3 = 1#1), ∀ a, (k0_off6 v3) a + S640x128.size a ≤ S8320x512.size a) ∧
  (∀ (k0_h4 : k0_cond4 v1 v3 = 1#1), 640 ∣ (k0_mult2 v3).toNat) ∧
  (∀ (k0_h4 : k0_cond4 v1 v3 = 1#1), ∀ a, (k0_off7 v3) a + S640x128.size a ≤ S8320x128.size a) ∧
  (∀ (k0_h4 : k0_cond4 v1 v3 = 1#1), ∀ a, (k0_off8 v3) a + S640x128.size a ≤ S8320x512.size a) ∧
  (∀ (k0_h4 : k0_cond4 v1 v3 = 1#1), ∀ a, (k0_off9 v3) a + S640x128.size a ≤ S8320x512.size a) ∧
  (∀ (k0_h4 : k0_cond4 v1 v3 = 1#1), ∀ a, (k0_off10 v3) a + S640x128.size a ≤ S8320x512.size a) ∧
  (∀ (k0_h4 : k0_cond4 v1 v3 = 1#1), ∀ a, (k0_off11 v3) a + S640x128.size a ≤ S8320x512.size a) ∧
  (∀ (k0_h4 : k0_cond4 v1 v3 = 1#1), ∀ a, (k0_off12 v3) a + S640x512.size a ≤ S8320x512.size a) ∧
  (∀ (k0_h4 : k0_cond4 v1 v3 = 1#1), ∀ a, (k0_off13 v3) a + S640x512.size a ≤ S8320x512.size a) ∧
  (∀ (k0_h4 : k0_cond4 v1 v3 = 1#1), ∀ (hinb : ∀ a, (k0_off13 v3) a + S640x512.size a ≤ S8320x512.size a), (Rect.unit (s := S8320x512) (k0_off13 v3) S640x512.size hinb).WholeWords (EltTy.packing .bf16)) ∧
  (∀ (k0_h4 : k0_cond4 v1 v3 = 1#1), ∀ a, (k0_off14 v3) a + S640x128.size a ≤ S8320x128.size a)
theorem k0_mult1_dvd : ∀ (v1 : BitVec 32) (v3 : BitVec 32) (k0_hw1 : k0_chk1 v1 v3), ∀ (k0_h3 : k0_cond3 v1 v3 = 1#1), 640 ∣ (k0_mult1 v3).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v3) a + S640x128.size a ≤ S8320x128.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v3) a + S640x128.size a ≤ S8320x512.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v3) a + S640x128.size a ≤ S8320x512.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v3) a + S640x128.size a ≤ S8320x512.size a := fun v1 v3 k0_hw1 k0_h3 => k0_hw1.2.2.2.2.1 k0_h3
theorem k0_off6_inb : ∀ (v1 : BitVec 32) (v3 : BitVec 32) (k0_hw1 : k0_chk1 v1 v3), ∀ (k0_h3 : k0_cond3 v1 v3 = 1#1), ∀ a, (k0_off6 v3) a + S640x128.size a ≤ S8320x512.size a := fun v1 v3 k0_hw1 k0_h3 => k0_hw1.2.2.2.2.2.1 k0_h3
theorem k0_mult2_dvd : ∀ (v1 : BitVec 32) (v3 : BitVec 32) (k0_hw1 : k0_chk1 v1 v3), ∀ (k0_h4 : k0_cond4 v1 v3 = 1#1), 640 ∣ (k0_mult2 v3).toNat := fun v1 v3 k0_hw1 k0_h4 => k0_hw1.2.2.2.2.2.2.1 k0_h4
theorem k0_off7_inb : ∀ (v1 : BitVec 32) (v3 : BitVec 32) (k0_hw1 : k0_chk1 v1 v3), ∀ (k0_h4 : k0_cond4 v1 v3 = 1#1), ∀ a, (k0_off7 v3) a + S640x128.size a ≤ S8320x128.size a := fun v1 v3 k0_hw1 k0_h4 => k0_hw1.2.2.2.2.2.2.2.1 k0_h4
theorem k0_off8_inb : ∀ (v1 : BitVec 32) (v3 : BitVec 32) (k0_hw1 : k0_chk1 v1 v3), ∀ (k0_h4 : k0_cond4 v1 v3 = 1#1), ∀ a, (k0_off8 v3) a + S640x128.size a ≤ S8320x512.size a := fun v1 v3 k0_hw1 k0_h4 => k0_hw1.2.2.2.2.2.2.2.2.1 k0_h4
theorem k0_off9_inb : ∀ (v1 : BitVec 32) (v3 : BitVec 32) (k0_hw1 : k0_chk1 v1 v3), ∀ (k0_h4 : k0_cond4 v1 v3 = 1#1), ∀ a, (k0_off9 v3) a + S640x128.size a ≤ S8320x512.size a := fun v1 v3 k0_hw1 k0_h4 => k0_hw1.2.2.2.2.2.2.2.2.2.1 k0_h4
theorem k0_off10_inb : ∀ (v1 : BitVec 32) (v3 : BitVec 32) (k0_hw1 : k0_chk1 v1 v3), ∀ (k0_h4 : k0_cond4 v1 v3 = 1#1), ∀ a, (k0_off10 v3) a + S640x128.size a ≤ S8320x512.size a := fun v1 v3 k0_hw1 k0_h4 => k0_hw1.2.2.2.2.2.2.2.2.2.2.1 k0_h4
theorem k0_off11_inb : ∀ (v1 : BitVec 32) (v3 : BitVec 32) (k0_hw1 : k0_chk1 v1 v3), ∀ (k0_h4 : k0_cond4 v1 v3 = 1#1), ∀ a, (k0_off11 v3) a + S640x128.size a ≤ S8320x512.size a := fun v1 v3 k0_hw1 k0_h4 => k0_hw1.2.2.2.2.2.2.2.2.2.2.2.1 k0_h4
theorem k0_off12_inb : ∀ (v1 : BitVec 32) (v3 : BitVec 32) (k0_hw1 : k0_chk1 v1 v3), ∀ (k0_h4 : k0_cond4 v1 v3 = 1#1), ∀ a, (k0_off12 v3) a + S640x512.size a ≤ S8320x512.size a := fun v1 v3 k0_hw1 k0_h4 => k0_hw1.2.2.2.2.2.2.2.2.2.2.2.2.1 k0_h4
theorem k0_off13_inb : ∀ (v1 : BitVec 32) (v3 : BitVec 32) (k0_hw1 : k0_chk1 v1 v3), ∀ (k0_h4 : k0_cond4 v1 v3 = 1#1), ∀ a, (k0_off13 v3) a + S640x512.size a ≤ S8320x512.size a := fun v1 v3 k0_hw1 k0_h4 => k0_hw1.2.2.2.2.2.2.2.2.2.2.2.2.2.1 k0_h4
theorem k0_off13_wordsbf16 : ∀ (v1 : BitVec 32) (v3 : BitVec 32) (k0_hw1 : k0_chk1 v1 v3), ∀ (k0_h4 : k0_cond4 v1 v3 = 1#1), (Rect.unit (s := S8320x512) (k0_off13 v3) S640x512.size (k0_off13_inb v1 v3 k0_hw1 k0_h4)).WholeWords (EltTy.packing .bf16) := fun v1 v3 k0_hw1 k0_h4 => k0_hw1.2.2.2.2.2.2.2.2.2.2.2.2.2.2.1 k0_h4 (k0_off13_inb v1 v3 k0_hw1 k0_h4)
theorem k0_off14_inb : ∀ (v1 : BitVec 32) (v3 : BitVec 32) (k0_hw1 : k0_chk1 v1 v3), ∀ (k0_h4 : k0_cond4 v1 v3 = 1#1), ∀ a, (k0_off14 v3) a + S640x128.size a ≤ S8320x128.size a := fun v1 v3 k0_hw1 k0_h4 => k0_hw1.2.2.2.2.2.2.2.2.2.2.2.2.2.2.2 k0_h4

def k0_cond5 (v3 : BitVec 32) : BitVec 1 :=
  let c12_i32 : BitVec 32 := 12#32
  let v16 : BitVec 1 := Scalar.cmpi .eq v3 c12_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S91) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S91) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S91) ![v0.toNat] S1.size (k0_off1_inb i)) numel1_S1
  let c0_i32 : BitVec 32 := 0#32
  let c0_i32_0 : BitVec 32 := 0#32
  ![c0_i32.toNat, v1.toNat]

def cc0_transform_3 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S91) ![v0.toNat] S1.size (k0_off1_inb i)) numel1_S1
  let c0_i32 : BitVec 32 := 0#32
  let c0_i32_0 : BitVec 32 := 0#32
  ![c0_i32.toNat, v1.toNat]

def cc0_transform_4 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S91) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S91) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S91) ![v0.toNat] S1.size (k0_off1_inb i)) numel1_S1
  let c0_i32 : BitVec 32 := 0#32
  let c0_i32_0 : BitVec 32 := 0#32
  ![v1.toNat, c0_i32.toNat]

def cc0_transform_8 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S91) ![v0.toNat] S1.size (k0_off1_inb i)) numel1_S1
  let c0_i32 : BitVec 32 := 0#32
  let c0_i32_0 : BitVec 32 := 0#32
  ![v1.toNat, c0_i32.toNat]

def cc0_transform_10 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S91) ![v0.toNat] S1.size (k0_off1_inb i)) numel1_S1
  let c0_i32 : BitVec 32 := 0#32
  let c0_i32_0 : BitVec 32 := 0#32
  ![c0_i32.toNat, v1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S8208x512 : Shape := ⟨2, ![8208, 512]⟩
abbrev S8208x8 : Shape := ⟨2, ![8208, 8]⟩
abbrev S8x8208 : Shape := ⟨2, ![8, 8208]⟩
abbrev S8208x8x64 : Shape := ⟨3, ![8208, 8, 64]⟩
abbrev S8x8208x64 : Shape := ⟨3, ![8, 8208, 64]⟩
abbrev S8x8208x8208 : Shape := ⟨3, ![8, 8208, 8208]⟩
abbrev S_ : Shape := ⟨0, ![]⟩
abbrev S8x8208x1 : Shape := ⟨3, ![8, 8208, 1]⟩
abbrev S8x1x8208 : Shape := ⟨3, ![8, 1, 8208]⟩
abbrev S8208 : Shape := ⟨1, ![8208]⟩
abbrev S8208x1 : Shape := ⟨2, ![8208, 1]⟩
abbrev S1x8208 : Shape := ⟨2, ![1, 8208]⟩
abbrev S8208x8208 : Shape := ⟨2, ![8208, 8208]⟩
abbrev S8x64x8208 : Shape := ⟨3, ![8, 64, 8208]⟩
abbrev S8320x512 : Shape := ⟨2, ![8320, 512]⟩
abbrev S8320x128 : Shape := ⟨2, ![8320, 128]⟩
abbrev S8x8320 : Shape := ⟨2, ![8, 8320]⟩

abbrev nBuf : Space → Nat
  | .hbm => 139
  | .vmem => 0
  | .smem => 0
  | _ => 0

abbrev hbmTy0_0 (i : Nat) : BufTy := match i % 128 with
  | 0 => ⟨S8208x512, .f32⟩
  | 1 => ⟨S8208x512, .f32⟩
  | 2 => ⟨S8208x512, .f32⟩
  | 3 => ⟨S8208x8, .f32⟩
  | 4 => ⟨S8208x512, .f32⟩
  | 5 => ⟨S8x8208, .f32⟩
  | 6 => ⟨S8x8208, .f32⟩
  | 7 => ⟨S8208x8x64, .f32⟩
  | 8 => ⟨S8x8208x64, .f32⟩
  | 9 => ⟨S8208x8x64, .f32⟩
  | 10 => ⟨S8x8208x64, .f32⟩
  | 11 => ⟨S8x8208x8208, .f32⟩
  | 12 => ⟨S_, .f32⟩
  | 13 => ⟨S8x8208x8208, .f32⟩
  | 14 => ⟨S8x8208x8208, .f32⟩
  | 15 => ⟨S8x8208, .f32⟩
  | 16 => ⟨S8x8208x1, .f32⟩
  | 17 => ⟨S8x8208x8208, .f32⟩
  | 18 => ⟨S8x8208x8208, .f32⟩
  | 19 => ⟨S8x1x8208, .f32⟩
  | 20 => ⟨S8x8208x8208, .f32⟩
  | 21 => ⟨S8x8208x8208, .f32⟩
  | 22 => ⟨S8208, .i32⟩
  | 23 => ⟨S8208x1, .i32⟩
  | 24 => ⟨S1x8208, .i32⟩
  | 25 => ⟨S8208x8208, .i32⟩
  | 26 => ⟨S8208x8208, .i32⟩
  | 27 => ⟨S8208x8208, .i1⟩
  | 28 => ⟨S8x8208x8208, .i1⟩
  | 29 => ⟨S_, .f32⟩
  | 30 => ⟨S8x8208x8208, .f32⟩
  | 31 => ⟨S8x8208x8208, .f32⟩
  | 32 => ⟨S_, .f32⟩
  | 33 => ⟨S8x8208x8208, .f32⟩
  | 34 => ⟨S_, .f32⟩
  | 35 => ⟨S8x8208, .f32⟩
  | 36 => ⟨S8x8208x1, .f32⟩
  | 37 => ⟨S8x8208x8208, .f32⟩
  | 38 => ⟨S8x8208x8208, .i1⟩
  | 39 => ⟨S8x8208x8208, .f32⟩
  | 40 => ⟨S_, .f32⟩
  | 41 => ⟨S8x8208, .f32⟩
  | 42 => ⟨S_, .f32⟩
  | 43 => ⟨S8x8208, .f32⟩
  | 44 => ⟨S8x8208, .f32⟩
  | 45 => ⟨S_, .f32⟩
  | 46 => ⟨S8x8208, .f32⟩
  | 47 => ⟨S8x8208, .i1⟩
  | 48 => ⟨S_, .f32⟩
  | 49 => ⟨S8x8208, .f32⟩
  | 50 => ⟨S8x8208, .i1⟩
  | 51 => ⟨S_, .f32⟩
  | 52 => ⟨S8x8208, .f32⟩
  | 53 => ⟨S_, .f32⟩
  | 54 => ⟨S8x8208, .f32⟩
  | 55 => ⟨S_, .f32⟩
  | 56 => ⟨S8x8208, .f32⟩
  | 57 => ⟨S8x8208, .f32⟩
  | 58 => ⟨S8x8208, .f32⟩
  | 59 => ⟨S8x8208x1, .f32⟩
  | 60 => ⟨S8x8208x8208, .f32⟩
  | 61 => ⟨S8x8208x8208, .f32⟩
  | 62 => ⟨S8x8208x8208, .f32⟩
  | 63 => ⟨S_, .f32⟩
  | 64 => ⟨S8x8208, .f32⟩
  | 65 => ⟨S8x8208x1, .f32⟩
  | 66 => ⟨S8x8208x8208, .f32⟩
  | 67 => ⟨S8x8208x8208, .f32⟩
  | 68 => ⟨S8x8208x1, .f32⟩
  | 69 => ⟨S_, .f32⟩
  | 70 => ⟨S8x8208x1, .f32⟩
  | 71 => ⟨S8x8208x1, .f32⟩
  | 72 => ⟨S8208x8x64, .f32⟩
  | 73 => ⟨S8x8208x64, .f32⟩
  | 74 => ⟨S8x8208x64, .f32⟩
  | 75 => ⟨S8208x8x64, .f32⟩
  | 76 => ⟨S8208x512, .f32⟩
  | 77 => ⟨S8208x8x64, .f32⟩
  | 78 => ⟨S8x8208x64, .f32⟩
  | 79 => ⟨S8x64x8208, .f32⟩
  | 80 => ⟨S8x8208x64, .f32⟩
  | 81 => ⟨S8x8208x8208, .f32⟩
  | 82 => ⟨S8208x8x64, .f32⟩
  | 83 => ⟨S8208x512, .f32⟩
  | 84 => ⟨S8x8208x8208, .f32⟩
  | 85 => ⟨S8x8208x8208, .f32⟩
  | 86 => ⟨S8x8208x8208, .f32⟩
  | 87 => ⟨S_, .f32⟩
  | 88 => ⟨S8x8208, .f32⟩
  | 89 => ⟨S8x8208x1, .f32⟩
  | 90 => ⟨S8x8208x1, .f32⟩
  | 91 => ⟨S8x8208x8208, .f32⟩
  | 92 => ⟨S8x8208x8208, .f32⟩
  | 93 => ⟨S_, .f32⟩
  | 94 => ⟨S8x8208, .f32⟩
  | 95 => ⟨S8x8208x8208, .f32⟩
  | 96 => ⟨S8x8208x8208, .f32⟩
  | 97 => ⟨S8x8208x8208, .f32⟩
  | 98 => ⟨S_, .f32⟩
  | 99 => ⟨S8x8208x8208, .f32⟩
  | 100 => ⟨S8x8208x8208, .f32⟩
  | 101 => ⟨S_, .f32⟩
  | 102 => ⟨S8x8208, .f32⟩
  | 103 => ⟨S8x1x8208, .f32⟩
  | 104 => ⟨S_, .f32⟩
  | 105 => ⟨S8x8208, .f32⟩
  | 106 => ⟨S_, .f32⟩
  | 107 => ⟨S8x8208, .f32⟩
  | 108 => ⟨S8x8208x1, .f32⟩
  | 109 => ⟨S_, .f32⟩
  | 110 => ⟨S8x8208, .f32⟩
  | 111 => ⟨S8208x8, .f32⟩
  | 112 => ⟨S_, .f32⟩
  | 113 => ⟨S8x8208x8208, .f32⟩
  | 114 => ⟨S8x8208x8208, .f32⟩
  | 115 => ⟨S8x8208x64, .f32⟩
  | 116 => ⟨S8x8208x64, .f32⟩
  | 117 => ⟨S8208x8x64, .f32⟩
  | 118 => ⟨S8208x512, .f32⟩
  | 119 => ⟨S8208x8x64, .f32⟩
  | 120 => ⟨S8208x512, .f32⟩
  | 121 => ⟨S8208x512, .bf16⟩
  | 122 => ⟨S_, .i32⟩
  | 123 => ⟨S_, .bf16⟩
  | 124 => ⟨S8320x512, .bf16⟩
  | 125 => ⟨S8208x512, .bf16⟩
  | 126 => ⟨S_, .i32⟩
  | 127 => ⟨S_, .bf16⟩
  | _ => ⟨S8208x512, .f32⟩

abbrev hbmTy0_1 (i : Nat) : BufTy := match i % 128 with
  | 0 => ⟨S8320x512, .bf16⟩
  | 1 => ⟨S8208x512, .bf16⟩
  | 2 => ⟨S_, .i32⟩
  | 3 => ⟨S_, .bf16⟩
  | 4 => ⟨S8320x512, .bf16⟩
  | 5 => ⟨S_, .i32⟩
  | 6 => ⟨S_, .f32⟩
  | 7 => ⟨S8320x128, .f32⟩
  | 8 => ⟨S_, .i32⟩
  | 9 => ⟨S_, .f32⟩
  | 10 => ⟨S8x8320, .f32⟩
  | _ => ⟨S8208x512, .f32⟩

abbrev hbmTy (i : Nat) : BufTy := match i / 128 with
  | 0 => hbmTy0_0 i
  | 1 => hbmTy0_1 i
  | _ => ⟨S8208x512, .f32⟩

abbrev bufTy : (tb : Table) → Fin (tcTables nBuf tb) → BufTy
  | .hbm, ⟨i, _⟩ => hbmTy i
  | _, _ => ⟨S8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_14 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_cst_18 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c : Ref sig .tc := ⟨.hbm, 122, rfl⟩
abbrev main_call0_v0 : Ref sig .tc := ⟨.hbm, 123, rfl⟩
abbrev main_v96 : Ref sig .tc := ⟨.hbm, 124, rfl⟩
abbrev main_v97 : Ref sig .tc := ⟨.hbm, 125, rfl⟩
abbrev main_c_20 : Ref sig .tc := ⟨.hbm, 126, rfl⟩
abbrev main_call1_v0 : Ref sig .tc := ⟨.hbm, 127, rfl⟩
abbrev main_v98 : Ref sig .tc := ⟨.hbm, 128, rfl⟩
abbrev main_v99 : Ref sig .tc := ⟨.hbm, 129, rfl⟩
abbrev main_c_21 : Ref sig .tc := ⟨.hbm, 130, rfl⟩
abbrev main_call2_v0 : Ref sig .tc := ⟨.hbm, 131, rfl⟩
abbrev main_v100 : Ref sig .tc := ⟨.hbm, 132, rfl⟩
abbrev main_c_22 : Ref sig .tc := ⟨.hbm, 133, rfl⟩
abbrev main_call3_v0 : Ref sig .tc := ⟨.hbm, 134, rfl⟩
abbrev main_v101 : Ref sig .tc := ⟨.hbm, 135, rfl⟩
abbrev main_c_23 : Ref sig .tc := ⟨.hbm, 136, rfl⟩
abbrev main_call4_v0 : Ref sig .tc := ⟨.hbm, 137, rfl⟩
abbrev main_v102 : Ref sig .tc := ⟨.hbm, 138, rfl⟩

abbrev nD : Nat := 1
abbrev τ : Topo := Topo.v7x

variable {F : FTy → Type} [FloatOps F]
-- ==== LossHead.lean ====
abbrev S8320x1024 : Shape := ⟨2, ![8320, 1024]⟩
abbrev S1x8192x1024 : Shape := ⟨3, ![1, 8192, 1024]⟩
abbrev S1024 : Shape := ⟨1, ![1024]⟩
abbrev S8192x1024 : Shape := ⟨2, ![8192, 1024]⟩
abbrev S_ : Shape := ⟨0, ![]⟩
abbrev S1x1024 : Shape := ⟨2, ![1, 1024]⟩
abbrev S8x128 : Shape := ⟨2, ![8, 128]⟩
abbrev S640x1024 : Shape := ⟨2, ![640, 1024]⟩
abbrev S640 : Shape := ⟨1, ![640]⟩
abbrev S640x1 : Shape := ⟨2, ![640, 1]⟩
abbrev S1x640x1024 : Shape := ⟨3, ![1, 640, 1024]⟩
abbrev S1 : Shape := ⟨1, ![1]⟩
abbrev S1x1x1 : Shape := ⟨3, ![1, 1, 1]⟩

abbrev nBuf : Space → Nat
  | .hbm => 11
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S1x8192x1024, .f32⟩
  | .hbm, ⟨2, _⟩ => ⟨S1024, .f32⟩
  | .hbm, ⟨3, _⟩ => ⟨S8192x1024, .f32⟩
  | .hbm, ⟨4, _⟩ => ⟨S_, .i32⟩
  | .hbm, ⟨5, _⟩ => ⟨S_, .f32⟩
  | .hbm, ⟨6, _⟩ => ⟨S8320x1024, .f32⟩
  | .hbm, ⟨7, _⟩ => ⟨S1x1024, .f32⟩
  | .hbm, ⟨8, _⟩ => ⟨S8320x1024, .f32⟩
  | .hbm, ⟨9, _⟩ => ⟨S8x128, .f32⟩
  | .hbm, ⟨10, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S640x1024, .f32⟩
  | .local _ .vmem, ⟨6, _⟩ => ⟨S640x1024, .f32⟩
  | .local _ .vmem, ⟨7, _⟩ => ⟨S8x128, .f32⟩
  | .local _ .vmem, ⟨8, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8320x1024 : Shape := ⟨2, ![8320, 1024]⟩
abbrev S1x8192x1024 : Shape := ⟨3, ![1, 8192, 1024]⟩
abbrev S1024 : Shape := ⟨1, ![1024]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8192x1024 : Shape := ⟨2, ![8192, 1024]⟩
abbrev S1x8192 : Shape := ⟨2, ![1, 8192]⟩
abbrev S8x128 : Shape := ⟨2, ![8, 128]⟩

abbrev nBuf : Space → Nat
  | .hbm => 82
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x8192x1024, .f32⟩
  | .hbm, ⟨2, _⟩ => ⟨S1024, .f32⟩
  | .hbm, ⟨3, _⟩ => ⟨S8208x1024, .f32⟩
  | .hbm, ⟨4, _⟩ => ⟨S8208x1024, .f32⟩
  | .hbm, ⟨5, _⟩ => ⟨S_, .f32⟩
  | .hbm, ⟨6, _⟩ => ⟨S8208, .f32⟩
  | .hbm, ⟨7, _⟩ => ⟨S8208x1, .f32⟩
  | .hbm, ⟨8, _⟩ => ⟨S_, .f32⟩
  | .hbm, ⟨9, _⟩ => ⟨S8208x1, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S_, .f32⟩
  | .hbm, ⟨17, _⟩ => ⟨S8208x1, .f32⟩
  | .hbm, ⟨18, _⟩ => ⟨S8208x1, .f32⟩
  | .hbm, ⟨19, _⟩ => ⟨S8208x1024, .f32⟩
  | .hbm, ⟨20, _⟩ => ⟨S8208x1024, .f32⟩
  | .hbm, ⟨21, _⟩ => ⟨S1x1024, .f32⟩
  | .hbm, ⟨22, _⟩ => ⟨S8208x1024, .f32⟩
  | .hbm, ⟨23, _⟩ => ⟨S8208x1024, .f32⟩
  | .hbm, ⟨24, _⟩ => ⟨S8192x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x8192x1024, .f32⟩
  | .hbm, ⟨30, _⟩ => ⟨S1x8192x1024, .f32⟩
  | .hbm, ⟨31, _⟩ => ⟨S_, .f32⟩
  | .hbm, ⟨32, _⟩ => ⟨S1x8192, .f32⟩
  | .hbm, ⟨33, _⟩ => ⟨S_, .f32⟩
  | .hbm, ⟨34, _⟩ => ⟨S1x8192, .f32⟩
  | .hbm, ⟨35, _⟩ => ⟨S1x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x8192, .f32⟩
  | .hbm, ⟨44, _⟩ => ⟨S_, .f32⟩
  | .hbm, ⟨45, _⟩ => ⟨S1x8192, .f32⟩
  | .hbm, ⟨46, _⟩ => ⟨S1x8192, .f32⟩
  | .hbm, ⟨47, _⟩ => ⟨S1x8192x1024, .f32⟩
  | .hbm, ⟨48, _⟩ => ⟨S1x8192x1024, .f32⟩
  | .hbm, ⟨49, _⟩ => ⟨S_, .f32⟩
  | .hbm, ⟨50, _⟩ => ⟨S8192x1024, .f32⟩
  | .hbm, ⟨51, _⟩ => ⟨S_, .f32⟩
  | .hbm, ⟨52, _⟩ => ⟨S8208x1024, .f32⟩
  | .hbm, ⟨53, _⟩ => ⟨S8208x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8208x1024, .f32⟩
  | .hbm, ⟨58, _⟩ => ⟨S8208x1024, .f32⟩
  | .hbm, ⟨59, _⟩ => ⟨S_, .f32⟩
  | .hbm, ⟨60, _⟩ => ⟨S1024, .f32⟩
  | .hbm, ⟨61, _⟩ => ⟨S8208x1024, .f32⟩
  | .hbm, ⟨62, _⟩ => ⟨S_, .f32⟩
  | .hbm, ⟨63, _⟩ => ⟨S8208, .f32⟩
  | .hbm, ⟨64, _⟩ => ⟨S8208x1, .f32⟩
  | .hbm, ⟨65, _⟩ => ⟨S8208x1024, .f32⟩
  | .hbm, ⟨66, _⟩ => ⟨S8208x1024, .f32⟩
  | .hbm, ⟨67, _⟩ => ⟨S8208x1, .f32⟩
  | .hbm, ⟨68, _⟩ => ⟨S_, .f32⟩
  | .hbm, ⟨69, _⟩ => ⟨S8208x1, .f32⟩
  | .hbm, ⟨70, _⟩ => ⟨S8208x1, .f32⟩
  | .hbm, ⟨71, _⟩ => ⟨S_, .f32⟩
  | .hbm, ⟨72, _⟩ => ⟨S8208, .f32⟩
  | .hbm, ⟨73, _⟩ => ⟨S8208x1024, .f32⟩
  | .hbm, ⟨74, _⟩ => ⟨S8208x1024, .f32⟩
  | .hbm, ⟨75, _⟩ => ⟨S8208x1024, .f32⟩
  | .hbm, ⟨76, _⟩ => ⟨S8208x1024, .f32⟩
  | .hbm, ⟨77, _⟩ => ⟨S8208x1024, .f32⟩
  | .hbm, ⟨78, _⟩ => ⟨S_, .f32⟩
  | .hbm, ⟨79, _⟩ => ⟨S8320x1024, .f32⟩
  | .hbm, ⟨80, _⟩ => ⟨S8x128, .f32⟩
  | .hbm, ⟨81, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_cst_13 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_cst_15 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_cst_17 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== InProj.lean ====
abbrev S8208x1024 : Shape := ⟨2, ![8208, 1024]⟩
abbrev S1024 : Shape := ⟨1, ![1024]⟩
abbrev S1024x2824 : Shape := ⟨2, ![1024, 2824]⟩
abbrev S8208x2824 : Shape := ⟨2, ![8208, 2824]⟩
abbrev S_ : Shape := ⟨0, ![]⟩
abbrev S1024x120 : Shape := ⟨2, ![1024, 120]⟩
abbrev S1024x1536 : Shape := ⟨2, ![1024, 1536]⟩
abbrev S1024x1280 : Shape := ⟨2, ![1024, 1280]⟩
abbrev S1024x8 : Shape := ⟨2, ![1024, 8]⟩
abbrev S1024x2944 : Shape := ⟨2, ![1024, 2944]⟩
abbrev S8320x2824 : Shape := ⟨2, ![8320, 2824]⟩
abbrev S8320x120 : Shape := ⟨2, ![8320, 120]⟩
abbrev S8320x1536 : Shape := ⟨2, ![8320, 1536]⟩
abbrev S8320x1280 : Shape := ⟨2, ![8320, 1280]⟩
abbrev S8320x8 : Shape := ⟨2, ![8320, 8]⟩
abbrev S8320x2944 : Shape := ⟨2, ![8320, 2944]⟩
abbrev S8320x1024 : Shape := ⟨2, ![8320, 1024]⟩
abbrev S1x1024 : Shape := ⟨2, ![1, 1024]⟩
abbrev S640x2944 : Shape := ⟨2, ![640, 2944]⟩
abbrev S640x1024 : Shape := ⟨2, ![640, 1024]⟩
abbrev S640 : Shape := ⟨1, ![640]⟩
abbrev S640x1 : Shape := ⟨2, ![640, 1]⟩

abbrev nBuf : Space → Nat
  | .hbm => 31
  | .vmem => 11
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x2824, .f32⟩
  | .hbm, ⟨3, _⟩ => ⟨S8208x2824, .f32⟩
  | .hbm, ⟨4, _⟩ => ⟨S8208x1024, .f32⟩
  | .hbm, ⟨5, _⟩ => ⟨S1024x2824, .bf16⟩
  | .hbm, ⟨6, _⟩ => ⟨S_, .bf16⟩
  | .hbm, ⟨7, _⟩ => ⟨S1024x120, .bf16⟩
  | .hbm, ⟨8, _⟩ => ⟨S1024x1536, .bf16⟩
  | .hbm, ⟨9, _⟩ => ⟨S1024x1280, .bf16⟩
  | .hbm, ⟨10, _⟩ => ⟨S1024x8, .bf16⟩
  | .hbm, ⟨11, _⟩ => ⟨S1024x2944, .bf16⟩
  | .hbm, ⟨12, _⟩ => ⟨S_, .i32⟩
  | .hbm, ⟨13, _⟩ => ⟨S_, .f32⟩
  | .hbm, ⟨14, _⟩ => ⟨S8320x2824, .f32⟩
  | .hbm, ⟨15, _⟩ => ⟨S8320x2824, .bf16⟩
  | .hbm, ⟨16, _⟩ => ⟨S_, .bf16⟩
  | .hbm, ⟨17, _⟩ => ⟨S8320x120, .bf16⟩
  | .hbm, ⟨18, _⟩ => ⟨S8320x1536, .bf16⟩
  | .hbm, ⟨19, _⟩ => ⟨S8320x1280, .bf16⟩
  | .hbm, ⟨20, _⟩ => ⟨S8320x8, .bf16⟩
  | .hbm, ⟨21, _⟩ => ⟨S8320x2944, .bf16⟩
  | .hbm, ⟨22, _⟩ => ⟨S_, .i32⟩
  | .hbm, ⟨23, _⟩ => ⟨S_, .f32⟩
  | .hbm, ⟨24, _⟩ => ⟨S8320x1024, .f32⟩
  | .hbm, ⟨25, _⟩ => ⟨S1x1024, .f32⟩
  | .hbm, ⟨26, _⟩ => ⟨S_, .i32⟩
  | .hbm, ⟨27, _⟩ => ⟨S_, .f32⟩
  | .hbm, ⟨28, _⟩ => ⟨S8320x1024, .f32⟩
  | .hbm, ⟨29, _⟩ => ⟨S8320x1024, .f32⟩
  | .hbm, ⟨30, _⟩ => ⟨S1x1024, .f32⟩
  | .local _ .vmem, ⟨0, _⟩ => ⟨S640x2944, .bf16⟩
  | .local _ .vmem, ⟨1, _⟩ => ⟨S640x2944, .bf16⟩
  | .local _ .vmem, ⟨2, _⟩ => ⟨S1024x2944, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call2_v0 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InProjRefIdeal.lean ====
abbrev S8208x1024 : Shape := ⟨2, ![8208, 1024]⟩
abbrev S1024 : Shape := ⟨1, ![1024]⟩
abbrev S1024x2824 : Shape := ⟨2, ![1024, 2824]⟩
abbrev S8208x2824 : Shape := ⟨2, ![8208, 2824]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8320x1024 : Shape := ⟨2, ![8320, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x2824, .f32⟩
  | .hbm, ⟨3, _⟩ => ⟨S8208x2824, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x2824, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8208x1024, .f32⟩
  | .hbm, ⟨32, _⟩ => ⟨S8208x1024, .f32⟩
  | .hbm, ⟨33, _⟩ => ⟨S_, .f32⟩
  | .hbm, ⟨34, _⟩ => ⟨S1024, .f32⟩
  | .hbm, ⟨35, _⟩ => ⟨S8208x1024, .f32⟩
  | .hbm, ⟨36, _⟩ => ⟨S_, .f32⟩
  | .hbm, ⟨37, _⟩ => ⟨S8208, .f32⟩
  | .hbm, ⟨38, _⟩ => ⟨S8208x1, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1, .f32⟩
  | .hbm, ⟨43, _⟩ => ⟨S_, .f32⟩
  | .hbm, ⟨44, _⟩ => ⟨S8208x1, .f32⟩
  | .hbm, ⟨45, _⟩ => ⟨S8208x1, .f32⟩
  | .hbm, ⟨46, _⟩ => ⟨S_, .f32⟩
  | .hbm, ⟨47, _⟩ => ⟨S8208, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S_, .i32⟩
  | .hbm, ⟨54, _⟩ => ⟨S_, .f32⟩
  | .hbm, ⟨55, _⟩ => ⟨S8320x1024, .f32⟩
  | .hbm, ⟨56, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Mlp.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩
abbrev S8320x1024 : Shape := ⟨2, ![8320, 1024]⟩
abbrev S8320x4096 : Shape := ⟨2, ![8320, 4096]⟩
abbrev S640x1024 : Shape := ⟨2, ![640, 1024]⟩
abbrev S640x2048 : Shape := ⟨2, ![640, 2048]⟩
abbrev S4x1024x512 : Shape := ⟨3, ![4, 1024, 512]⟩
abbrev S4x512x1024 : Shape := ⟨3, ![4, 512, 1024]⟩
abbrev S1x512x1024 : Shape := ⟨3, ![1, 512, 1024]⟩
abbrev S512x1024 : Shape := ⟨2, ![512, 1024]⟩
abbrev S640x512 : Shape := ⟨2, ![640, 512]⟩
abbrev S1x1024x512 : Shape := ⟨3, ![1, 1024, 512]⟩
abbrev S1024x512 : Shape := ⟨2, ![1024, 512]⟩
abbrev S640 : Shape := ⟨1, ![640]⟩
abbrev S640x1 : Shape := ⟨2, ![640, 1]⟩

abbrev nBuf : Space → Nat
  | .hbm => 46
  | .vmem => 18
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8208x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S8x512x1024, .bf16⟩
  | .hbm, ⟨10, _⟩ => ⟨S8208x1024, .f32⟩
  | .hbm, ⟨11, _⟩ => ⟨S_, .f32⟩
  | .hbm, ⟨12, _⟩ => ⟨S8208, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S1x1024, .f32⟩
  | .hbm, ⟨24, _⟩ => ⟨S8208x1024, .f32⟩
  | .hbm, ⟨25, _⟩ => ⟨S8208x1024, .f32⟩
  | .hbm, ⟨26, _⟩ => ⟨S8208x1024, .bf16⟩
  | .hbm, ⟨27, _⟩ => ⟨S1024x4096, .bf16⟩
  | .hbm, ⟨28, _⟩ => ⟨S8208x4096, .f32⟩
  | .hbm, ⟨29, _⟩ => ⟨S_, .f32⟩
  | .hbm, ⟨30, _⟩ => ⟨S8208x4096, .f32⟩
  | .hbm, ⟨31, _⟩ => ⟨S8208x4096, .f32⟩
  | .hbm, ⟨32, _⟩ => ⟨S_, .i32⟩
  | .hbm, ⟨33, _⟩ => ⟨S_, .f32⟩
  | .hbm, ⟨34, _⟩ => ⟨S8320x1024, .f32⟩
  | .hbm, ⟨35, _⟩ => ⟨S_, .i32⟩
  | .hbm, ⟨36, _⟩ => ⟨S_, .f32⟩
  | .hbm, ⟨37, _⟩ => ⟨S8320x4096, .f32⟩
  | .hbm, ⟨38, _⟩ => ⟨S8320x4096, .bf16⟩
  | .hbm, ⟨39, _⟩ => ⟨S_, .i32⟩
  | .hbm, ⟨40, _⟩ => ⟨S_, .f32⟩
  | .hbm, ⟨41, _⟩ => ⟨S8320x1024, .f32⟩
  | .hbm, ⟨42, _⟩ => ⟨S1x1024, .f32⟩
  | .hbm, ⟨43, _⟩ => ⟨S8320x4096, .bf16⟩
  | .hbm, ⟨44, _⟩ => ⟨S8320x1024, .f32⟩
  | .hbm, ⟨45, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x2048, .bf16⟩
  | .local _ .vmem, ⟨3, _⟩ => ⟨S640x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S640x1024, .f32⟩
  | .local _ .vmem, ⟨9, _⟩ => ⟨S640x1024, .f32⟩
  | .local _ .vmem, ⟨10, _⟩ => ⟨S1x1024, .f32⟩
  | .local _ .vmem, ⟨11, _⟩ => ⟨S640x2048, .bf16⟩
  | .local _ .vmem, ⟨12, _⟩ => ⟨S640x2048, .bf16⟩
  | .local _ .vmem, ⟨13, _⟩ => ⟨S640x1024, .f32⟩
  | .local _ .vmem, ⟨14, _⟩ => ⟨S640x1024, .f32⟩
  | .local _ .vmem, ⟨15, _⟩ => ⟨S1x1024, .f32⟩
  | .local _ .vmem, ⟨16, _⟩ => ⟨S640x1024, .f32⟩
  | .local _ .vmem, ⟨17, _⟩ => ⟨S640x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_c_3 : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_call2_v0 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![13, 2], ![false, false]⟩

def k0_cond3 (i : grid0.Coords) : BitVec 1 :=
  let arg1 : BitVec 32 := BitVec.ofNat 32 (i 1).val
  let c1_i32 : BitVec 32 := 1#32
  let v88 : BitVec 1 := Scalar.cmpi .eq arg1 c1_i32
  let v89 : BitVec 32 := Scalar.extui v88
  let c0_i32_72 : BitVec 32 := 0#32
  let v90 : BitVec 1 := Scalar.cmpi .ne v89 c0_i32_72
  v90

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== MlpRefIdeal.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8208x4096 : Shape := ⟨2, ![8208, 4096]⟩
abbrev S8208 : Shape := ⟨1, ![8208]⟩
abbrev S8208x1 : Shape := ⟨2, ![8208, 1]⟩
abbrev S1x1024 : Shape := ⟨2, ![1, 1024]⟩
abbrev S8320x4096 : Shape := ⟨2, ![8320, 4096]⟩
abbrev S8320x1024 : Shape := ⟨2, ![8320, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8208x1024, .f32⟩
  | .hbm, ⟨5, _⟩ => ⟨S_, .f32⟩
  | .hbm, ⟨6, _⟩ => ⟨S8208x4096, .f32⟩
  | .hbm, ⟨7, _⟩ => ⟨S8208x1024, .f32⟩
  | .hbm, ⟨8, _⟩ => ⟨S_, .f32⟩
  | .hbm, ⟨9, _⟩ => ⟨S8208, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S8208x1, .f32⟩
  | .hbm, ⟨19, _⟩ => ⟨S_, .f32⟩
  | .hbm, ⟨20, _⟩ => ⟨S8208x1, .f32⟩
  | .hbm, ⟨21, _⟩ => ⟨S8208x1, .f32⟩
  | .hbm, ⟨22, _⟩ => ⟨S8208x1024, .f32⟩
  | .hbm, ⟨23, _⟩ => ⟨S8208x1024, .f32⟩
  | .hbm, ⟨24, _⟩ => ⟨S1x1024, .f32⟩
  | .hbm, ⟨25, _⟩ => ⟨S8208x1024, .f32⟩
  | .hbm, ⟨26, _⟩ => ⟨S8208x1024, .f32⟩
  | .hbm, ⟨27, _⟩ => ⟨S8208x4096, .f32⟩
  | .hbm, ⟨28, _⟩ => ⟨S8208x4096, .f32⟩
  | .hbm, ⟨29, _⟩ => ⟨S_, .f32⟩
  | .hbm, ⟨30, _⟩ => ⟨S8208x4096, .f32⟩
  | .hbm, ⟨31, _⟩ => ⟨S8208x4096, .f32⟩
  | .hbm, ⟨32, _⟩ => ⟨S_, .f32⟩
  | .hbm, ⟨33, _⟩ => ⟨S8208x4096, .f32⟩
  | .hbm, ⟨34, _⟩ => ⟨S8208x4096, .i1⟩
  | .hbm, ⟨35, _⟩ => ⟨S_, .f32⟩
  | .hbm, ⟨36, _⟩ => ⟨S8208x4096, .f32⟩
  | .hbm, ⟨37, _⟩ => ⟨S8208x4096, .f32⟩
  | .hbm, ⟨38, _⟩ => ⟨S_, .f32⟩
  | .hbm, ⟨39, _⟩ => ⟨S8208x4096, .f32⟩
  | .hbm, ⟨40, _⟩ => ⟨S8208x4096, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x4096, .f32⟩
  | .hbm, ⟨45, _⟩ => ⟨S8208x4096, .f32⟩
  | .hbm, ⟨46, _⟩ => ⟨S_, .f32⟩
  | .hbm, ⟨47, _⟩ => ⟨S8208x4096, .f32⟩
  | .hbm, ⟨48, _⟩ => ⟨S8208x4096, .f32⟩
  | .hbm, ⟨49, _⟩ => ⟨S8208x1024, .f32⟩
  | .hbm, ⟨50, _⟩ => ⟨S8208x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8208x1024, .f32⟩
  | .hbm, ⟨55, _⟩ => ⟨S8208x1024, .f32⟩
  | .hbm, ⟨56, _⟩ => ⟨S_, .f32⟩
  | .hbm, ⟨57, _⟩ => ⟨S1024, .f32⟩
  | .hbm, ⟨58, _⟩ => ⟨S8208x1024, .f32⟩
  | .hbm, ⟨59, _⟩ => ⟨S_, .f32⟩
  | .hbm, ⟨60, _⟩ => ⟨S8208, .f32⟩
  | .hbm, ⟨61, _⟩ => ⟨S8208x1, .f32⟩
  | .hbm, ⟨62, _⟩ => ⟨S8208x1024, .f32⟩
  | .hbm, ⟨63, _⟩ => ⟨S8208x1024, .f32⟩
  | .hbm, ⟨64, _⟩ => ⟨S8208x1024, .f32⟩
  | .hbm, ⟨65, _⟩ => ⟨S8208x1, .f32⟩
  | .hbm, ⟨66, _⟩ => ⟨S_, .f32⟩
  | .hbm, ⟨67, _⟩ => ⟨S8208x1, .f32⟩
  | .hbm, ⟨68, _⟩ => ⟨S8208x1, .f32⟩
  | .hbm, ⟨69, _⟩ => ⟨S_, .f32⟩
  | .hbm, ⟨70, _⟩ => ⟨S8208, .f32⟩
  | .hbm, ⟨71, _⟩ => ⟨S8208x1024, .f32⟩
  | .hbm, ⟨72, _⟩ => ⟨S8208x1024, .f32⟩
  | .hbm, ⟨73, _⟩ => ⟨S8208x1024, .f32⟩
  | .hbm, ⟨74, _⟩ => ⟨S8208x1024, .f32⟩
  | .hbm, ⟨75, _⟩ => ⟨S8208x1024, .f32⟩
  | .hbm, ⟨76, _⟩ => ⟨S_, .i32⟩
  | .hbm, ⟨77, _⟩ => ⟨S_, .f32⟩
  | .hbm, ⟨78, _⟩ => ⟨S8320x4096, .f32⟩
  | .hbm, ⟨79, _⟩ => ⟨S8320x4096, .bf16⟩
  | .hbm, ⟨80, _⟩ => ⟨S_, .i32⟩
  | .hbm, ⟨81, _⟩ => ⟨S_, .f32⟩
  | .hbm, ⟨82, _⟩ => ⟨S8320x1024, .f32⟩
  | .hbm, ⟨83, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_call2_v0 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== ConvPw.lean ====
abbrev S8320x256 : Shape := ⟨2, ![8320, 256]⟩
abbrev S256 : Shape := ⟨1, ![256]⟩
abbrev S256x256 : Shape := ⟨2, ![256, 256]⟩
abbrev S8320x1280 : Shape := ⟨2, ![8320, 1280]⟩
abbrev S8320x512 : Shape := ⟨2, ![8320, 512]⟩
abbrev S1x256 : Shape := ⟨2, ![1, 256]⟩
abbrev S8x256 : Shape := ⟨2, ![8, 256]⟩
abbrev S640x512 : Shape := ⟨2, ![640, 512]⟩
abbrev S640x256 : Shape := ⟨2, ![640, 256]⟩
abbrev S640 : Shape := ⟨1, ![640]⟩
abbrev S640x1 : Shape := ⟨2, ![640, 1]⟩

abbrev nBuf : Space → Nat
  | .hbm => 19
  | .vmem => 14
  | .smem => 0
  | _ => 0

abbrev bufTy : (tb : Table) → Fin (tcTables nBuf tb) → BufTy
  | .hbm, ⟨0, _⟩ => ⟨S8320x256, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S8320x1280, .f32⟩
  | .hbm, ⟨7, _⟩ => ⟨S8320x256, .f32⟩
  | .hbm, ⟨8, _⟩ => ⟨S8320x512, .f32⟩
  | .hbm, ⟨9, _⟩ => ⟨S1x256, .f32⟩
  | .hbm, ⟨10, _⟩ => ⟨S8320x256, .f32⟩
  | .hbm, ⟨11, _⟩ => ⟨S8320x256, .f32⟩
  | .hbm, ⟨12, _⟩ => ⟨S8320x512, .f32⟩
  | .hbm, ⟨13, _⟩ => ⟨S1x256, .f32⟩
  | .hbm, ⟨14, _⟩ => ⟨S1x256, .f32⟩
  | .hbm, ⟨15, _⟩ => ⟨S256x256, .bf16⟩
  | .hbm, ⟨16, _⟩ => ⟨S8320x512, .f32⟩
  | .hbm, ⟨17, _⟩ => ⟨S8320x256, .bf16⟩
  | .hbm, ⟨18, _⟩ => ⟨S8x256, .f32⟩
  | .local _ .vmem, ⟨0, _⟩ => ⟨S640x512, .f32⟩
  | .local _ .vmem, ⟨1, _⟩ => ⟨S640x512, .f32⟩
  | .local _ .vmem, ⟨2, _⟩ => ⟨S640x512, .f32⟩
  | .local _ .vmem, ⟨3, _⟩ => ⟨S640x512, .f32⟩
  | .local _ .vmem, ⟨4, _⟩ => ⟨S640x256, .f32⟩
  | .local _ .vmem, ⟨5, _⟩ => ⟨S640x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S640x512, .f32⟩
  | .local _ .vmem, ⟨10, _⟩ => ⟨S640x512, .f32⟩
  | .local _ .vmem, ⟨11, _⟩ => ⟨S640x256, .bf16⟩
  | .local _ .vmem, ⟨12, _⟩ => ⟨S640x256, .bf16⟩
  | .local _ .vmem, ⟨13, _⟩ => ⟨S8x256, .f32⟩
  | _, _ => ⟨S8320x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvPwRefIdeal.lean ====
abbrev S8320x256 : Shape := ⟨2, ![8320, 256]⟩
abbrev S256 : Shape := ⟨1, ![256]⟩
abbrev S256x256 : Shape := ⟨2, ![256, 256]⟩
abbrev S8320x1280 : Shape := ⟨2, ![8320, 1280]⟩
abbrev S8320x512 : Shape := ⟨2, ![8320, 512]⟩
abbrev S1x256 : Shape := ⟨2, ![1, 256]⟩
abbrev S_ : Shape := ⟨0, ![]⟩
abbrev S8320 : Shape := ⟨1, ![8320]⟩
abbrev S8320x1 : Shape := ⟨2, ![8320, 1]⟩
abbrev S4x256 : Shape := ⟨2, ![4, 256]⟩
abbrev S8x256 : Shape := ⟨2, ![8, 256]⟩

abbrev nBuf : Space → Nat
  | .hbm => 181
  | .vmem => 0
  | .smem => 0
  | _ => 0

abbrev hbmTy0_0 (i : Nat) : BufTy := match i % 128 with
  | 0 => ⟨S8320x256, .f32⟩
  | 1 => ⟨S256, .f32⟩
  | 2 => ⟨S256, .f32⟩
  | 3 => ⟨S256, .f32⟩
  | 4 => ⟨S256x256, .f32⟩
  | 5 => ⟨S256, .f32⟩
  | 6 => ⟨S8320x1280, .f32⟩
  | 7 => ⟨S8320x256, .f32⟩
  | 8 => ⟨S8320x512, .f32⟩
  | 9 => ⟨S8320x256, .f32⟩
  | 10 => ⟨S1x256, .f32⟩
  | 11 => ⟨S8320x256, .f32⟩
  | 12 => ⟨S8320x256, .f32⟩
  | 13 => ⟨S_, .f32⟩
  | 14 => ⟨S8320, .f32⟩
  | 15 => ⟨S8320x1, .f32⟩
  | 16 => ⟨S_, .f32⟩
  | 17 => ⟨S8320x1, .f32⟩
  | 18 => ⟨S8320x1, .f32⟩
  | 19 => ⟨S8320x256, .f32⟩
  | 20 => ⟨S8320x256, .f32⟩
  | 21 => ⟨S8320x256, .f32⟩
  | 22 => ⟨S_, .f32⟩
  | 23 => ⟨S8320x256, .f32⟩
  | 24 => ⟨S8320x256, .f32⟩
  | 25 => ⟨S_, .f32⟩
  | 26 => ⟨S8320, .f32⟩
  | 27 => ⟨S8320x1, .f32⟩
  | 28 => ⟨S_, .f32⟩
  | 29 => ⟨S8320x1, .f32⟩
  | 30 => ⟨S8320x1, .f32⟩
  | 31 => ⟨S8320x256, .f32⟩
  | 32 => ⟨S8320x256, .f32⟩
  | 33 => ⟨S_, .f32⟩
  | 34 => ⟨S8320x1, .f32⟩
  | 35 => ⟨S8320x1, .f32⟩
  | 36 => ⟨S8320x1, .f32⟩
  | 37 => ⟨S8320x1, .f32⟩
  | 38 => ⟨S_, .f32⟩
  | 39 => ⟨S8320x1, .f32⟩
  | 40 => ⟨S8320x1, .f32⟩
  | 41 => ⟨S8320x256, .f32⟩
  | 42 => ⟨S8320x256, .f32⟩
  | 43 => ⟨S1x256, .f32⟩
  | 44 => ⟨S8320x256, .f32⟩
  | 45 => ⟨S8320x256, .f32⟩
  | 46 => ⟨S1x256, .f32⟩
  | 47 => ⟨S8320x256, .f32⟩
  | 48 => ⟨S8320x256, .f32⟩
  | 49 => ⟨S8320x256, .f32⟩
  | 50 => ⟨S8320x256, .f32⟩
  | 51 => ⟨S_, .f32⟩
  | 52 => ⟨S8320x256, .f32⟩
  | 53 => ⟨S8320x256, .f32⟩
  | 54 => ⟨S_, .f32⟩
  | 55 => ⟨S8320x256, .f32⟩
  | 56 => ⟨S8320x256, .f32⟩
  | 57 => ⟨S_, .f32⟩
  | 58 => ⟨S8320x256, .f32⟩
  | 59 => ⟨S8320x256, .f32⟩
  | 60 => ⟨S8320x256, .f32⟩
  | 61 => ⟨S8320x256, .f32⟩
  | 62 => ⟨S8320x256, .f32⟩
  | 63 => ⟨S1x256, .f32⟩
  | 64 => ⟨S8320x256, .f32⟩
  | 65 => ⟨S8320x256, .f32⟩
  | 66 => ⟨S8320x256, .f32⟩
  | 67 => ⟨S8320x512, .f32⟩
  | 68 => ⟨S8320x256, .f32⟩
  | 69 => ⟨S8320x256, .f32⟩
  | 70 => ⟨S8320x256, .f32⟩
  | 71 => ⟨S_, .f32⟩
  | 72 => ⟨S256, .f32⟩
  | 73 => ⟨S1x256, .f32⟩
  | 74 => ⟨S_, .f32⟩
  | 75 => ⟨S256, .f32⟩
  | 76 => ⟨S8320x256, .f32⟩
  | 77 => ⟨S8320x256, .f32⟩
  | 78 => ⟨S8320x256, .f32⟩
  | 79 => ⟨S8320x256, .f32⟩
  | 80 => ⟨S8320x256, .f32⟩
  | 81 => ⟨S_, .f32⟩
  | 82 => ⟨S256, .f32⟩
  | 83 => ⟨S1x256, .f32⟩
  | 84 => ⟨S_, .f32⟩
  | 85 => ⟨S256, .f32⟩
  | 86 => ⟨S8320x256, .f32⟩
  | 87 => ⟨S_, .f32⟩
  | 88 => ⟨S256, .f32⟩
  | 89 => ⟨S1x256, .f32⟩
  | 90 => ⟨S8320x256, .f32⟩
  | 91 => ⟨S8320x256, .f32⟩
  | 92 => ⟨S_, .f32⟩
  | 93 => ⟨S256, .f32⟩
  | 94 => ⟨S8320x256, .f32⟩
  | 95 => ⟨S_, .f32⟩
  | 96 => ⟨S8320, .f32⟩
  | 97 => ⟨S8320x1, .f32⟩
  | 98 => ⟨S8320x256, .f32⟩
  | 99 => ⟨S8320x256, .f32⟩
  | 100 => ⟨S8320x1, .f32⟩
  | 101 => ⟨S8320x256, .f32⟩
  | 102 => ⟨S_, .f32⟩
  | 103 => ⟨S8320, .f32⟩
  | 104 => ⟨S8320x1, .f32⟩
  | 105 => ⟨S_, .f32⟩
  | 106 => ⟨S8320x1, .f32⟩
  | 107 => ⟨S8320x1, .f32⟩
  | 108 => ⟨S_, .f32⟩
  | 109 => ⟨S8320, .f32⟩
  | 110 => ⟨S8320x256, .f32⟩
  | 111 => ⟨S8320x256, .f32⟩
  | 112 => ⟨S8320x256, .f32⟩
  | 113 => ⟨S_, .f32⟩
  | 114 => ⟨S8320, .f32⟩
  | 115 => ⟨S8320x1, .f32⟩
  | 116 => ⟨S8320x256, .f32⟩
  | 117 => ⟨S8320x1, .f32⟩
  | 118 => ⟨S_, .f32⟩
  | 119 => ⟨S8320x1, .f32⟩
  | 120 => ⟨S8320x1, .f32⟩
  | 121 => ⟨S_, .f32⟩
  | 122 => ⟨S8320, .f32⟩
  | 123 => ⟨S8320x256, .f32⟩
  | 124 => ⟨S8320x256, .f32⟩
  | 125 => ⟨S_, .f32⟩
  | 126 => ⟨S256, .f32⟩
  | 127 => ⟨S1x256, .f32⟩
  | _ => ⟨S8320x256, .f32⟩

abbrev hbmTy0_1 (i : Nat) : BufTy := match i % 128 with
  | 0 => ⟨S_, .f32⟩
  | 1 => ⟨S256, .f32⟩
  | 2 => ⟨S1x256, .f32⟩
  | 3 => ⟨S8320x256, .f32⟩
  | 4 => ⟨S8320x256, .f32⟩
  | 5 => ⟨S_, .f32⟩
  | 6 => ⟨S8320, .f32⟩
  | 7 => ⟨S8320x1, .f32⟩
  | 8 => ⟨S_, .f32⟩
  | 9 => ⟨S8320x1, .f32⟩
  | 10 => ⟨S8320x1, .f32⟩
  | 11 => ⟨S8320x256, .f32⟩
  | 12 => ⟨S8320x256, .f32⟩
  | 13 => ⟨S8320x256, .f32⟩
  | 14 => ⟨S_, .f32⟩
  | 15 => ⟨S8320, .f32⟩
  | 16 => ⟨S8320x1, .f32⟩
  | 17 => ⟨S_, .f32⟩
  | 18 => ⟨S8320x1, .f32⟩
  | 19 => ⟨S8320x1, .f32⟩
  | 20 => ⟨S8320x256, .f32⟩
  | 21 => ⟨S8320x256, .f32⟩
  | 22 => ⟨S_, .f32⟩
  | 23 => ⟨S8320x1, .f32⟩
  | 24 => ⟨S8320x1, .f32⟩
  | 25 => ⟨S8320x1, .f32⟩
  | 26 => ⟨S8320x256, .f32⟩
  | 27 => ⟨S8320x256, .f32⟩
  | 28 => ⟨S1x256, .f32⟩
  | 29 => ⟨S8320x256, .f32⟩
  | 30 => ⟨S8320x256, .f32⟩
  | 31 => ⟨S1x256, .f32⟩
  | 32 => ⟨S8320x256, .f32⟩
  | 33 => ⟨S8320x256, .f32⟩
  | 34 => ⟨S8320x256, .f32⟩
  | 35 => ⟨S8320x256, .f32⟩
  | 36 => ⟨S_, .f32⟩
  | 37 => ⟨S8320x256, .f32⟩
  | 38 => ⟨S8320x256, .f32⟩
  | 39 => ⟨S_, .f32⟩
  | 40 => ⟨S8320x256, .f32⟩
  | 41 => ⟨S8320x256, .f32⟩
  | 42 => ⟨S8320x256, .f32⟩
  | 43 => ⟨S8320x256, .bf16⟩
  | 44 => ⟨S1x256, .f32⟩
  | 45 => ⟨S1x256, .f32⟩
  | 46 => ⟨S1x256, .f32⟩
  | 47 => ⟨S1x256, .f32⟩
  | 48 => ⟨S4x256, .f32⟩
  | 49 => ⟨S8320x512, .f32⟩
  | 50 => ⟨S_, .i32⟩
  | 51 => ⟨S_, .f32⟩
  | 52 => ⟨S8x256, .f32⟩
  | _ => ⟨S8320x256, .f32⟩

abbrev hbmTy (i : Nat) : BufTy := match i / 128 with
  | 0 => hbmTy0_0 i
  | 1 => hbmTy0_1 i
  | _ => ⟨S8320x256, .f32⟩

abbrev bufTy : (tb : Table) → Fin (tcTables nBuf tb) → BufTy
  | .hbm, ⟨i, _⟩ => hbmTy i
  | _, _ => ⟨S8320x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v33_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v33_1 : Ref sig .tc := ⟨.hbm, 60, rfl⟩
abbrev main_v33_0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_v49 : Ref sig .tc := ⟨.hbm, 83, rfl⟩
abbrev main_cst_9 : Ref sig .tc := ⟨.hbm, 84, rfl⟩
abbrev main_v50 : Ref sig .tc := ⟨.hbm, 85, rfl⟩
abbrev main_v51 : Ref sig .tc := ⟨.hbm, 86, rfl⟩
abbrev main_cst_10 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_11 : Ref sig .tc := ⟨.hbm, 92, rfl⟩
abbrev main_v56 : Ref sig .tc := ⟨.hbm, 93, rfl⟩
abbrev main_v57 : Ref sig .tc := ⟨.hbm, 94, rfl⟩
abbrev main_cst_12 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_v65 : Ref sig .tc := ⟨.hbm, 104, rfl⟩
abbrev main_cst_14 : Ref sig .tc := ⟨.hbm, 105, rfl⟩
abbrev main_v66 : Ref sig .tc := ⟨.hbm, 106, rfl⟩
abbrev main_v67 : Ref sig .tc := ⟨.hbm, 107, rfl⟩
abbrev main_cst_15 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_16 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_17 : Ref sig .tc := ⟨.hbm, 118, rfl⟩
abbrev main_v76 : Ref sig .tc := ⟨.hbm, 119, rfl⟩
abbrev main_v77 : Ref sig .tc := ⟨.hbm, 120, rfl⟩
abbrev main_cst_18 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_19 : Ref sig .tc := ⟨.hbm, 125, rfl⟩
abbrev main_v81 : Ref sig .tc := ⟨.hbm, 126, rfl⟩
abbrev main_v82 : Ref sig .tc := ⟨.hbm, 127, rfl⟩
abbrev main_cst_20 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_21 : Ref sig .tc := ⟨.hbm, 133, rfl⟩
abbrev main_v87 : Ref sig .tc := ⟨.hbm, 134, rfl⟩
abbrev main_v88 : Ref sig .tc := ⟨.hbm, 135, rfl⟩
abbrev main_cst_22 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_23 : Ref sig .tc := ⟨.hbm, 142, rfl⟩
abbrev main_v94 : Ref sig .tc := ⟨.hbm, 143, rfl⟩
abbrev main_v95 : Ref sig .tc := ⟨.hbm, 144, rfl⟩
abbrev main_cst_24 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_25 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call2_v0 : Ref sig .tc := ⟨.hbm, 162, rfl⟩
abbrev main_call2_v1 : Ref sig .tc := ⟨.hbm, 163, rfl⟩
abbrev main_call2_cst : Ref sig .tc := ⟨.hbm, 164, rfl⟩
abbrev main_call2_v2 : Ref sig .tc := ⟨.hbm, 165, rfl⟩
abbrev main_call2_v3 : Ref sig .tc := ⟨.hbm, 166, rfl⟩
abbrev main_call2_cst_0 : Ref sig .tc := ⟨.hbm, 167, rfl⟩
abbrev main_call2_v4 : Ref sig .tc := ⟨.hbm, 168, rfl⟩
abbrev main_call2_v5 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_c : Ref sig .tc := ⟨.hbm, 178, rfl⟩
abbrev main_call3_v0 : Ref sig .tc := ⟨.hbm, 179, rfl⟩
abbrev main_v119 : Ref sig .tc := ⟨.hbm, 180, rfl⟩

abbrev nD : Nat := 1
abbrev τ : Topo := Topo.v7x

variable {F : FTy → Type} [FloatOps F]
-- ==== OutProj.lean ====
abbrev S8208x1024 : Shape := ⟨2, ![8208, 1024]⟩
abbrev S8208x512 : Shape := ⟨2, ![8208, 512]⟩
abbrev S1024x1024 : Shape := ⟨2, ![1024, 1024]⟩
abbrev S1024 : Shape := ⟨1, ![1024]⟩
abbrev S_ : Shape := ⟨0, ![]⟩
abbrev S8320x1024 : Shape := ⟨2, ![8320, 1024]⟩
abbrev S8320x512 : Shape := ⟨2, ![8320, 512]⟩
abbrev S8x128x1024 : Shape := ⟨3, ![8, 128, 1024]⟩
abbrev S1x1024 : Shape := ⟨2, ![1, 1024]⟩
abbrev S640x1024 : Shape := ⟨2, ![640, 1024]⟩
abbrev S640x512 : Shape := ⟨2, ![640, 512]⟩
abbrev S512x1024 : Shape := ⟨2, ![512, 1024]⟩
abbrev S640 : Shape := ⟨1, ![640]⟩
abbrev S640x1 : Shape := ⟨2, ![640, 1]⟩

abbrev nBuf : Space → Nat
  | .hbm => 21
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S8208x512, .f32⟩
  | .hbm, ⟨2, _⟩ => ⟨S8208x512, .f32⟩
  | .hbm, ⟨3, _⟩ => ⟨S1024x1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S8320x1024, .f32⟩
  | .hbm, ⟨8, _⟩ => ⟨S_, .i32⟩
  | .hbm, ⟨9, _⟩ => ⟨S_, .f32⟩
  | .hbm, ⟨10, _⟩ => ⟨S8320x512, .f32⟩
  | .hbm, ⟨11, _⟩ => ⟨S8320x512, .bf16⟩
  | .hbm, ⟨12, _⟩ => ⟨S_, .i32⟩
  | .hbm, ⟨13, _⟩ => ⟨S_, .f32⟩
  | .hbm, ⟨14, _⟩ => ⟨S8320x512, .f32⟩
  | .hbm, ⟨15, _⟩ => ⟨S8320x512, .bf16⟩
  | .hbm, ⟨16, _⟩ => ⟨S1024x1024, .bf16⟩
  | .hbm, ⟨17, _⟩ => ⟨S8x128x1024, .bf16⟩
  | .hbm, ⟨18, _⟩ => ⟨S1x1024, .f32⟩
  | .hbm, ⟨19, _⟩ => ⟨S8320x1024, .f32⟩
  | .hbm, ⟨20, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S640x512, .bf16⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S8x128x1024, .bf16⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8208x1024 : Shape := ⟨2, ![8208, 1024]⟩
abbrev S8208x512 : Shape := ⟨2, ![8208, 512]⟩
abbrev S1024x1024 : Shape := ⟨2, ![1024, 1024]⟩
abbrev S1024 : Shape := ⟨1, ![1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8320x1024 : Shape := ⟨2, ![8320, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x512, .f32⟩
  | .hbm, ⟨2, _⟩ => ⟨S8208x512, .f32⟩
  | .hbm, ⟨3, _⟩ => ⟨S1024x1024, .f32⟩
  | .hbm, ⟨4, _⟩ => ⟨S1024, .f32⟩
  | .hbm, ⟨5, _⟩ => ⟨S8208x1024, .f32⟩
  | .hbm, ⟨6, _⟩ => ⟨S8208x1024, .f32⟩
  | .hbm, ⟨7, _⟩ => ⟨S8208x1024, .f32⟩
  | .hbm, ⟨8, _⟩ => ⟨S8208x1024, .f32⟩
  | .hbm, ⟨9, _⟩ => ⟨S_, .f32⟩
  | .hbm, ⟨10, _⟩ => ⟨S8208, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S_, .f32⟩
  | .hbm, ⟨16, _⟩ => ⟨S8208x1, .f32⟩
  | .hbm, ⟨17, _⟩ => ⟨S8208x1, .f32⟩
  | .hbm, ⟨18, _⟩ => ⟨S8208x1, .f32⟩
  | .hbm, ⟨19, _⟩ => ⟨S8208x1024, .f32⟩
  | .hbm, ⟨20, _⟩ => ⟨S8208x1024, .f32⟩
  | .hbm, ⟨21, _⟩ => ⟨S1x1024, .f32⟩
  | .hbm, ⟨22, _⟩ => ⟨S8208x1024, .f32⟩
  | .hbm, ⟨23, _⟩ => ⟨S8208x1024, .f32⟩
  | .hbm, ⟨24, _⟩ => ⟨S_, .i32⟩
  | .hbm, ⟨25, _⟩ => ⟨S_, .f32⟩
  | .hbm, ⟨26, _⟩ => ⟨S8320x1024, .f32⟩
  | .hbm, ⟨27, _⟩ => ⟨S_, .i32⟩
  | .hbm, ⟨28, _⟩ => ⟨S_, .f32⟩
  | .hbm, ⟨29, _⟩ => ⟨S8320x1024, .f32⟩
  | .hbm, ⟨30, _⟩ => ⟨S8320x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_c_2 : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== MlpFwd.lean ====
abbrev S8208x1024 : Shape := ⟨2, ![8208, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S_ : Shape := ⟨0, ![]⟩
abbrev S8320x1024 : Shape := ⟨2, ![8320, 1024]⟩
abbrev S8320x4096 : Shape := ⟨2, ![8320, 4096]⟩
abbrev S640x1024 : Shape := ⟨2, ![640, 1024]⟩
abbrev S4x1024x512 : Shape := ⟨3, ![4, 1024, 512]⟩
abbrev S4x512x1024 : Shape := ⟨3, ![4, 512, 1024]⟩
abbrev S640x2048 : Shape := ⟨2, ![640, 2048]⟩
abbrev S1x1024x512 : Shape := ⟨3, ![1, 1024, 512]⟩
abbrev S1024x512 : Shape := ⟨2, ![1024, 512]⟩
abbrev S640x512 : Shape := ⟨2, ![640, 512]⟩
abbrev S1x512x1024 : Shape := ⟨3, ![1, 512, 1024]⟩
abbrev S512x1024 : Shape := ⟨2, ![512, 1024]⟩

abbrev nBuf : Space → Nat
  | .hbm => 19
  | .vmem => 15
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S4096x1024, .bf16⟩
  | .hbm, ⟨8, _⟩ => ⟨S8x512x1024, .bf16⟩
  | .hbm, ⟨9, _⟩ => ⟨S_, .i32⟩
  | .hbm, ⟨10, _⟩ => ⟨S_, .f32⟩
  | .hbm, ⟨11, _⟩ => ⟨S8320x1024, .f32⟩
  | .hbm, ⟨12, _⟩ => ⟨S8320x1024, .bf16⟩
  | .hbm, ⟨13, _⟩ => ⟨S_, .i32⟩
  | .hbm, ⟨14, _⟩ => ⟨S_, .f32⟩
  | .hbm, ⟨15, _⟩ => ⟨S8320x1024, .f32⟩
  | .hbm, ⟨16, _⟩ => ⟨S8320x4096, .bf16⟩
  | .hbm, ⟨17, _⟩ => ⟨S8320x4096, .bf16⟩
  | .hbm, ⟨18, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .f32⟩
  | .local _ .vmem, ⟨3, _⟩ => ⟨S640x1024, .f32⟩
  | .local _ .vmem, ⟨4, _⟩ => ⟨S4x1024x512, .bf16⟩
  | .local _ .vmem, ⟨5, _⟩ => ⟨S4x1024x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S640x2048, .bf16⟩
  | .local _ .vmem, ⟨9, _⟩ => ⟨S640x2048, .bf16⟩
  | .local _ .vmem, ⟨10, _⟩ => ⟨S640x2048, .bf16⟩
  | .local _ .vmem, ⟨11, _⟩ => ⟨S640x2048, .bf16⟩
  | .local _ .vmem, ⟨12, _⟩ => ⟨S640x1024, .f32⟩
  | .local _ .vmem, ⟨13, _⟩ => ⟨S640x1024, .f32⟩
  | .local _ .vmem, ⟨14, _⟩ => ⟨S640x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![13, 2], ![false, false]⟩

def k0_cond2 (i : grid0.Coords) : BitVec 1 :=
  let arg1 : BitVec 32 := BitVec.ofNat 32 (i 1).val
  let c1_i32 : BitVec 32 := 1#32
  let v83 : BitVec 1 := Scalar.cmpi .eq arg1 c1_i32
  let v84 : BitVec 32 := Scalar.extui v83
  let c0_i32_69 : BitVec 32 := 0#32
  let v85 : BitVec 1 := Scalar.cmpi .ne v84 c0_i32_69
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpFwdRefIdeal.lean ====
abbrev S8208x1024 : Shape := ⟨2, ![8208, 1024]⟩
abbrev S1024x4096 : Shape := ⟨2, ![1024, 4096]⟩
abbrev S4096x1024 : Shape := ⟨2, ![4096, 1024]⟩
abbrev S8208x4096 : Shape := ⟨2, ![8208, 4096]⟩
abbrev S_ : Shape := ⟨0, ![]⟩
abbrev S8320x4096 : Shape := ⟨2, ![8320, 4096]⟩
abbrev S8320x1024 : Shape := ⟨2, ![8320, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x4096, .f32⟩
  | .hbm, ⟨3, _⟩ => ⟨S4096x1024, .f32⟩
  | .hbm, ⟨4, _⟩ => ⟨S8208x4096, .f32⟩
  | .hbm, ⟨5, _⟩ => ⟨S_, .f32⟩
  | .hbm, ⟨6, _⟩ => ⟨S8208x4096, .f32⟩
  | .hbm, ⟨7, _⟩ => ⟨S8208x4096, .f32⟩
  | .hbm, ⟨8, _⟩ => ⟨S8208x4096, .f32⟩
  | .hbm, ⟨9, _⟩ => ⟨S_, .i32⟩
  | .hbm, ⟨10, _⟩ => ⟨S_, .f32⟩
  | .hbm, ⟨11, _⟩ => ⟨S8320x4096, .f32⟩
  | .hbm, ⟨12, _⟩ => ⟨S8320x4096, .bf16⟩
  | .hbm, ⟨13, _⟩ => ⟨S_, .i32⟩
  | .hbm, ⟨14, _⟩ => ⟨S_, .f32⟩
  | .hbm, ⟨15, _⟩ => ⟨S8320x4096, .f32⟩
  | .hbm, ⟨16, _⟩ => ⟨S8320x4096, .bf16⟩
  | .hbm, ⟨17, _⟩ => ⟨S8208x1024, .f32⟩
  | .hbm, ⟨18, _⟩ => ⟨S8208x1024, .f32⟩
  | .hbm, ⟨19, _⟩ => ⟨S_, .i32⟩
  | .hbm, ⟨20, _⟩ => ⟨S_, .f32⟩
  | .hbm, ⟨21, _⟩ => ⟨S8320x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call3_v0 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Proof.FGateCases.lean ====
/-
  The forget gate's gradient, point by point: what one grid point of the kernel leaves in the block of `dz`, in the sum
  `db` and in the carried row, as the kernel's own payloads of the point's input blocks and of what the point before left.
-/
module

public import proofs.«01_k».proof.Proof.Gen.FGateIdeal.Value

@[expose] public section

set_option maxRecDepth 16384

noncomputable section

namespace Cert.FGateIdeal.Hand

open Cert.FGateIdeal Cert.FGateIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

section Cases

variable (c : Dev nD) (i : grid0.Coords)
  (a1 : Memref sig .tc .vmem S640x128 .f32) (h1 : a1.IsWhole) (a2 : Memref sig .tc .vmem S640x128 .f32) (h2 : a2.IsWhole)
  (a3 : Memref sig .tc .vmem S640x128 .f32) (h3 : a3.IsWhole) (a4 : Memref sig .tc .vmem S640x128 .bf16) (h4 : a4.IsWhole)
  (a5 : Memref sig .tc .vmem S1x128 .f32) (h5 : a5.IsWhole) (a6 : Memref sig .tc .vmem S1x128 .f32) (h6 : a6.IsWhole)
  (x0 x1 x2 : Vec F S640x128 .f32) (xo xs : Vec F S1x128 .f32)

theorem dz_B (hc : ¬cond0_0 i) : out0_B_3 c i a1 h1 a2 h2 a3 h3 a4 h4 a5 h5 a6 h6 hc x0 x1 x2 xo xs
    = k0_pay1 (k0_pay7 x0 x1 xs x2) := by
  unfold out0_B_3
  rw [View.read_writes_eq_canon _ _ _ (cover0_B_3 c i a1 h1 a2 h2 a3 h3 a4 h4 a5 h5 a6 h6 hc x0 x1 x2 xo xs)]
  unfold kernelRun0_B
  dsimp only
  sl_unfold_words
  rw [View.canon_unit_zero hz]
  simp only [View.readAt_eq_ld, h1.read_unread, h2.read_unread, h3.read_unread, h5.read_unread, h6.read_unread,
    View.ld_unit_zero (S := S640x128) hz, View.ld_unit_zero (S := S1x128) hz]

theorem db_B (hc : ¬cond0_0 i) : out0_B_4 c i a1 h1 a2 h2 a3 h3 a4 h4 a5 h5 a6 h6 hc x0 x1 x2 xo xs
    = k0_pay2 (k0_pay7 x0 x1 xs x2) xo := by
  unfold out0_B_4
  rw [View.read_writes_eq_canon _ _ _ (cover0_B_4 c i a1 h1 a2 h2 a3 h3 a4 h4 a5 h5 a6 h6 hc x0 x1 x2 xo xs)]
  unfold kernelRun0_B
  dsimp only
  sl_unfold_words
  rw [View.canon_unit_zero hz]
  simp only [View.readAt_eq_ld, h1.read_unread, h2.read_unread, h3.read_unread, h5.read_unread, h6.read_unread,
    View.ld_unit_zero (S := S640x128) hz, View.ld_unit_zero (S := S1x128) hz]

theorem carry_B (hc : ¬cond0_0 i) : sout0_B_0 c i a1 h1 a2 h2 a3 h3 a4 h4 a5 h5 a6 h6 hc x0 x1 x2 xo xs
    = k0_pay6 x0 x1 xs := by
  unfold sout0_B_0
  rw [View.read_writes_eq_canon _ _ _ (scover0_B_0 c i a1 h1 a2 h2 a3 h3 a4 h4 a5 h5 a6 h6 hc x0 x1 x2 xo xs)]
  unfold kernelRun0_B
  dsimp only
  sl_unfold_words
  rw [View.canon_unit_zero hz]
  simp only [View.readAt_eq_ld, h1.read_unread, h2.read_unread, h3.read_unread, h5.read_unread, h6.read_unread,
    View.ld_unit_zero (S := S640x128) hz, View.ld_unit_zero (S := S1x128) hz]

theorem dz_A (hc : cond0_0 i) : out0_A_3 c i a1 h1 a2 h2 a3 h3 a4 h4 a5 h5 a6 h6 hc x0 x1 x2
    = k0_pay1 (k0_pay7 x0 x1 k0_pay3 x2) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readCov_unit_zero (S := S1x128) _ hz, View.readAt_eq_ld, h1.read_unread, h2.read_unread, h3.read_unread,
    View.ld_unit_zero (S := S640x128) hz, View.ld_unit_zero (S := S1x128) hz]

theorem db_A (hc : cond0_0 i) : out0_A_4 c i a1 h1 a2 h2 a3 h3 a4 h4 a5 h5 a6 h6 hc x0 x1 x2
    = k0_pay2 (k0_pay7 x0 x1 k0_pay3 x2) k0_pay4 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz]
  simp only [View.readCov_unit_zero (S := S1x128) _ hz, View.readAt_eq_ld, h1.read_unread, h2.read_unread, h3.read_unread,
    View.ld_unit_zero (S := S640x128) hz, View.ld_unit_zero (S := S1x128) hz]

theorem carry_A (hc : cond0_0 i) : sout0_A_0 c i a1 h1 a2 h2 a3 h3 a4 h4 a5 h5 a6 h6 hc x0 x1 x2
    = k0_pay6 x0 x1 k0_pay3 := by
  unfold sout0_A_0
  rw [View.read_writes_eq_canon _ _ _ (scover0_A_0 c i a1 h1 a2 h2 a3 h3 a4 h4 a5 h5 a6 h6 hc x0 x1 x2)]
  unfold kernelRun0_A
  dsimp only
  sl_unfold_words
  rw [View.canon_cons_unit_zero (S := S1x128) hz]
  simp only [View.readCov_unit_zero (S := S1x128) _ hz, View.readAt_eq_ld, h1.read_unread, h2.read_unread, h3.read_unread,
    View.ld_unit_zero (S := S640x128) hz, View.ld_unit_zero (S := S1x128) hz]

end Cases

end Cert.FGateIdeal.Hand

end
-- ==== Proof.FGatePayload.lean ====
/-
  The forget gate's payloads at one element, over the extended reals: the triangular product of a finite block is a suffix
  sum, although the kernel sends it through three pieces.
-/
module

public import proofs.«01_k».proof.Proof.Gen.FGateIdeal.Skeleton
public import Idealize.ShloMosaic.Lib.Pointwise
public import Idealize.ShloMosaic.Lib.Tactic.WordOmega

@[expose] public section

set_option maxRecDepth 16384

noncomputable section

namespace Cert.FGateIdeal.Hand

open Cert.FGateIdeal Cert.FGateIdeal.Gen Idealize.ShloMosaic

/-- The kernel's triangular mask, as a bit over row numbers. -/
theorem mask_select (r x : Fin 640) (a b : EReal) :
    Scalar.select (IntOp.cmpi CmpIPredicate.sle (BitVec.ofNat 32 r.val) (BitVec.ofNat 32 x.val)) a b =
      if r ≤ x then a else b := by
  by_cases h : r ≤ x
  · rw [if_pos h]
    have : IntOp.cmpi CmpIPredicate.sle (BitVec.ofNat 32 r.val) (BitVec.ofNat 32 x.val) = 1#1 := by
      have := Fin.le_def.mp h
      word_omega
    rw [this]; rfl
  · rw [if_neg h]
    have : IntOp.cmpi CmpIPredicate.sle (BitVec.ofNat 32 r.val) (BitVec.ofNat 32 x.val) = 0#1 := by
      have := fun h' => h (Fin.le_def.mpr h')
      word_omega
    rw [this]; rfl

/-- What is left of a finite value when it is taken from itself. -/
theorem sub_self_of_real {x : EReal} (h : ∃ a : ℝ, x = a) : x - x = 0 := by
  obtain ⟨a, rfl⟩ := h
  rw [← EReal.coe_sub, sub_self, EReal.coe_zero]

theorem pay5_apply (x0 x1 : Vec Ideal S640x128 .f32) (xs : Vec Ideal S1x128 .f32) (r : Fin 640) (l : Fin 128)
    (hd : ∀ s, ∃ a : ℝ, x0 (ix2 s l) - x1 (ix2 s l) = a) :
    k0_pay5 x0 x1 xs (ix2 r l) = (∑ s : Fin 640, if r ≤ s then x0 (ix2 s l) - x1 (ix2 s l) else 0) + xs (ix2 0 l) := by
  pointwise [k0_pay5]
  have e : ∀ x : Fin 640, ∀ h, (⟨256 + l.val - 128 - 128, h⟩ : Fin 128) = l := fun x h => Fin.ext (by simp; omega)
  have z : ∀ s, x0 (ix2 s l) - x1 (ix2 s l) - (x0 (ix2 s l) - x1 (ix2 s l)) = 0 := fun s => sub_self_of_real (hd s)
  have n1 : ¬ (256 + l.val < 128) := by omega
  have n2 : ¬ (256 + l.val - 128 < 128) := by omega
  simp only [dif_neg n1, dif_neg n2, e r, z, sub_zero, mask_select, ite_self, Finset.sum_const_zero, add_zero]

theorem pay6_apply (x0 x1 : Vec Ideal S640x128 .f32) (xs : Vec Ideal S1x128 .f32) (l : Fin 128) :
    k0_pay6 x0 x1 xs (ix2 0 l) = k0_pay5 x0 x1 xs (ix2 0 l) := by
  pointwise [k0_pay6]

theorem pay7_apply (x0 x1 x2 : Vec Ideal S640x128 .f32) (xs : Vec Ideal S1x128 .f32) (r : Fin 640) (l : Fin 128) :
    k0_pay7 x0 x1 xs x2 (ix2 r l) = k0_pay5 x0 x1 xs (ix2 r l) * x2 (ix2 r l) := by
  pointwise [k0_pay7]

theorem pay1_eq (x : FVec Ideal S640x128 .f32) : k0_pay1 x = x := rfl

theorem pay2_apply (x : FVec Ideal S640x128 .f32) (v : Vec Ideal S1x128 .f32) (l : Fin 128) :
    k0_pay2 x v (ix2 0 l) = v (ix2 0 l) + ∑ r : Fin 640, x (ix2 r l) := by
  pointwise [k0_pay2]

theorem pay3_apply (l : Fin 128) : k0_pay3 (F := Ideal) (ix2 0 l) = 0 := by
  pointwise [k0_pay3]

theorem pay4_apply (l : Fin 128) : k0_pay4 (F := Ideal) (ix2 0 l) = 0 := by
  pointwise [k0_pay4]

end Cert.FGateIdeal.Hand
-- ==== Proof.FGateArray.lean ====
/-
  What the forget gate's kernel leaves in its two arrays, over the extended reals: `dz` is the suffix sum of
  `dcq - dck` times the gate's slope, `db` the sum of `dz` over all rows.
-/
module

public import proofs.«01_k».proof.Proof.FGateCases
public import proofs.«01_k».proof.Proof.FGatePayload

@[expose] public section

set_option maxRecDepth 16384

noncomputable section

namespace Cert.FGateIdeal.Hand

open Cert.FGateIdeal Cert.FGateIdeal.Gen Idealize.ShloMosaic Idealize.ShloMosaic.TcCoe Idealize.SL.Sem
open Idealize.ShloMosaic.Pipeline (Dat)

/-! ### Suffix sums over row numbers -/

/-- The part of a suffix sum inside one block of `N` rows. -/
theorem suffix_block (f : ℕ → EReal) (b N : ℕ) (r : Fin N) :
    (∑ s : Fin N, if r ≤ s then f (b + s.val) else 0) = ∑ n ∈ Finset.Ico (b + r.val) (b + N), f n := by
  rw [add_comm b r.val, add_comm b N, ← Finset.sum_Ico_add f r.val N b]
  have e := Fin.sum_univ_eq_sum_range (fun s => if r.val ≤ s then f (b + s) else 0) N
  refine (show _ = _ from e).trans ?_
  rw [Finset.range_eq_Ico, ← Finset.sum_Ico_consecutive _ (Nat.zero_le r.val) r.isLt.le,
    Finset.sum_eq_zero (s := Finset.Ico 0 r.val), zero_add]
  · exact Finset.sum_congr rfl fun s hs => if_pos (Finset.mem_Ico.mp hs).1
  · intro s hs
    exact if_neg (by have := (Finset.mem_Ico.mp hs).2; omega)

/-- The part of a suffix sum inside one block of 640 rows, and the rest of it. -/
theorem suffix_step (f : ℕ → EReal) (b : ℕ) (hb : b + 640 ≤ 8320) (r : Fin 640) :
    (∑ s : Fin 640, if r ≤ s then f (b + s.val) else 0) + ∑ n ∈ Finset.Ico (b + 640) 8320, f n =
      ∑ n ∈ Finset.Ico (b + r.val) 8320, f n := by
  rw [suffix_block, Finset.sum_Ico_consecutive f (by omega) hb]

variable (A B G : Vec Ideal S8320x128 .f32)

/-- The difference of the two cotangents at a row. -/
def diff (l : Fin 128) (n : ℕ) : EReal := if h : n < 8320 then A (ix2 ⟨n, h⟩ l) - B (ix2 ⟨n, h⟩ l) else 0

/-- Its sum over the rows from `n` on. -/
def suffix (l : Fin 128) (n : ℕ) : EReal := ∑ k ∈ Finset.Ico n 8320, diff A B l k

/-- The gate's gradient at a row. -/
def slope (l : Fin 128) (n : ℕ) : EReal := if h : n < 8320 then suffix A B l n * G (ix2 ⟨n, h⟩ l) else 0

/-! ### The blocks of the inputs -/

variable (m : (ℓ : Loc nD τ sig) → Buf (Elt Ideal) ℓ) (c : Dev nD)

theorem row_lt (t : Fin cfg0.N) (r : Fin 640) : 640 * (12 - t.val) + r.val < 8320 := by omega

theorem index0 : ∀ t : Fin grid0.N, win0_0.index t 0 = 12 - t.val ∧ win0_0.index t 1 = 0 := by decide +kernel
theorem index1 : ∀ t : Fin grid0.N, win0_1.index t 0 = 12 - t.val ∧ win0_1.index t 1 = 0 := by decide +kernel
theorem index2 : ∀ t : Fin grid0.N, win0_2.index t 0 = 12 - t.val ∧ win0_2.index t 1 = 0 := by decide +kernel
theorem index3 : ∀ t : Fin grid0.N, win0_3.index t 0 = 12 - t.val ∧ win0_3.index t 1 = 0 := by decide +kernel
theorem index4 : ∀ t : Fin grid0.N, win0_4.index t 0 = 0 ∧ win0_4.index t 1 = 0 := by decide +kernel

theorem block0 (t : Fin cfg0.N) (r : Fin 640) (l : Fin 128) :
    (iblk m c 0 t : Vec Ideal S640x128 .f32) (ix2 r l) = V m c main_v10 (ix2 ⟨640 * (12 - t.val) + r.val, row_lt t r⟩ l) := by
  unfold iblk
  rw [View.read_apply]
  show V m c main_v10 _ = _
  congr 1
  funext a
  apply Fin.ext
  match a with
  | 0 => show win0_0.index t 0 * 640 + 1 * r.val = _
         rw [(index0 t).1, one_mul, mul_comm]; rfl
  | 1 => show win0_0.index t 1 * 128 + 1 * l.val = _
         rw [(index0 t).2, one_mul, Nat.zero_mul, Nat.zero_add]; rfl

theorem block1 (t : Fin cfg0.N) (r : Fin 640) (l : Fin 128) :
    (iblk m c 1 t : Vec Ideal S640x128 .f32) (ix2 r l) = V m c main_v13 (ix2 ⟨640 * (12 - t.val) + r.val, row_lt t r⟩ l) := by
  unfold iblk
  rw [View.read_apply]
  show V m c main_v13 _ = _
  congr 1
  funext a
  apply Fin.ext
  match a with
  | 0 => show win0_1.index t 0 * 640 + 1 * r.val = _
         rw [(index1 t).1, one_mul, mul_comm]; rfl
  | 1 => show win0_1.index t 1 * 128 + 1 * l.val = _
         rw [(index1 t).2, one_mul, Nat.zero_mul, Nat.zero_add]; rfl

theorem block2 (t : Fin cfg0.N) (r : Fin 640) (l : Fin 128) :
    (iblk m c 2 t : Vec Ideal S640x128 .f32) (ix2 r l) = V m c main_v9 (ix2 ⟨640 * (12 - t.val) + r.val, row_lt t r⟩ l) := by
  unfold iblk
  rw [View.read_apply]
  show V m c main_v9 _ = _
  congr 1
  funext a
  apply Fin.ext
  match a with
  | 0 => show win0_2.index t 0 * 640 + 1 * r.val = _
         rw [(index2 t).1, one_mul, mul_comm]; rfl
  | 1 => show win0_2.index t 1 * 128 + 1 * l.val = _
         rw [(index2 t).2, one_mul, Nat.zero_mul, Nat.zero_add]; rfl

/-! ### After each point -/

variable (hd : ∀ l n, ∃ a : ℝ, diff (V m c main_v10) (V m c main_v13) l n = a)

include hd in
/-- The payload of a point whose carried row holds the later rows' sum. -/
theorem point_suffix (t : Fin cfg0.N) (xs : Vec Ideal S1x128 .f32) (l : Fin 128)
    (hs : xs (ix2 0 l) = suffix (V m c main_v10) (V m c main_v13) l (640 * (12 - t.val) + 640)) (r : Fin 640) :
    k0_pay5 (iblk m c 0 t) (iblk m c 1 t) xs (ix2 r l) =
      suffix (V m c main_v10) (V m c main_v13) l (640 * (12 - t.val) + r.val) := by
  have hN := t.isLt
  have hN' : cfg0.N = 13 := N_0
  rw [pay5_apply _ _ _ r l (fun s => by rw [block0, block1]; have := hd l (640 * (12 - t.val) + s.val); rwa [diff, dif_pos (row_lt t s)] at this), hs]
  unfold suffix
  rw [← suffix_step (diff (V m c main_v10) (V m c main_v13) l) (640 * (12 - t.val)) (by omega) r]
  refine congrArg (· + _) (Finset.sum_congr rfl fun s _ => ?_)
  rw [block0, block1]
  refine if_congr Iff.rfl ?_ rfl
  rw [diff, dif_pos (row_lt t s)]

include hd in
theorem point_slope (t : Fin cfg0.N) (xs : Vec Ideal S1x128 .f32) (l : Fin 128)
    (hs : xs (ix2 0 l) = suffix (V m c main_v10) (V m c main_v13) l (640 * (12 - t.val) + 640)) (r : Fin 640) :
    k0_pay7 (iblk m c 0 t) (iblk m c 1 t) xs (iblk m c 2 t) (ix2 r l) =
      slope (V m c main_v10) (V m c main_v13) (V m c main_v9) l (640 * (12 - t.val) + r.val) := by
  rw [pay7_apply, point_suffix m c hd t xs l hs r, block2, slope, dif_pos (row_lt t r)]

/-- What the buffers hold after a point. -/
def Holds (n : ℕ) (o : Vec Ideal S640x128 .bf16 × Vec Ideal S1x128 .f32 × Vec Ideal S1x128 .f32) : Prop :=
  (∀ (r : Fin 640) (l : Fin 128), o.1 (ix2 r l) =
      slope (V m c main_v10) (V m c main_v13) (V m c main_v9) l (640 * (12 - n) + r.val)) ∧
  (∀ l : Fin 128, o.2.1 (ix2 0 l) =
      ∑ k ∈ Finset.Ico (640 * (12 - n)) 8320, slope (V m c main_v10) (V m c main_v13) (V m c main_v9) l k) ∧
  (∀ l : Fin 128, o.2.2 (ix2 0 l) = suffix (V m c main_v10) (V m c main_v13) l (640 * (12 - n)))

include hd in
/-- One point's payloads over what the point before left. -/
theorem point_holds (t : Fin cfg0.N) (xs xo : Vec Ideal S1x128 .f32)
    (hs : ∀ l, xs (ix2 0 l) = suffix (V m c main_v10) (V m c main_v13) l (640 * (12 - t.val) + 640))
    (ho : ∀ l, xo (ix2 0 l) = ∑ k ∈ Finset.Ico (640 * (12 - t.val) + 640) 8320,
      slope (V m c main_v10) (V m c main_v13) (V m c main_v9) l k) :
    Holds m c t.val (k0_pay1 (k0_pay7 (iblk m c 0 t) (iblk m c 1 t) xs (iblk m c 2 t)),
      k0_pay2 (k0_pay7 (iblk m c 0 t) (iblk m c 1 t) xs (iblk m c 2 t)) xo,
      k0_pay6 (iblk m c 0 t) (iblk m c 1 t) xs) := by
  have hN := t.isLt
  have hN' : cfg0.N = 13 := N_0
  refine ⟨fun r l => ?_, fun l => ?_, fun l => ?_⟩
  · exact point_slope m c hd t xs l (hs l) r
  · show k0_pay2 _ _ _ = _
    rw [pay2_apply, ho, add_comm]
    have := suffix_step (slope (V m c main_v10) (V m c main_v13) (V m c main_v9) l) (640 * (12 - t.val)) (by omega) 0
    simp only [Fin.zero_le, if_true] at this
    rw [show 640 * (12 - t.val) = 640 * (12 - t.val) + (0 : Fin 640).val from rfl, ← this]
    exact congrArg (· + _) (Finset.sum_congr rfl fun r _ => point_slope m c hd t xs l (hs l) r)
  · show k0_pay6 _ _ _ _ = _
    rw [pay6_apply, point_suffix m c hd t xs l (hs l) 0]
    rfl

include hd in
theorem holds_at (n : ℕ) (h : n < cfg0.N) : Holds m c n (outsAt0 m c n h) := by
  have hN : cfg0.N = 13 := N_0
  induction n with
  | zero =>
    rw [outsAt0_A m c ⟨0, h⟩ rfl, dz_A, db_A, carry_A]
    refine point_holds m c hd ⟨0, h⟩ _ _ (fun l => ?_) (fun l => ?_)
    · rw [pay3_apply]; exact (Finset.sum_eq_zero (by simp)).symm
    · rw [pay4_apply]; exact (Finset.sum_eq_zero (by simp)).symm
  | succ n ih =>
    obtain ⟨-, h2, h3⟩ := ih (by omega)
    have hB : ¬ (n + 1) % 13 = 0 := by omega
    rw [outsAt0_B m c ⟨n + 1, h⟩ hB, dz_B, db_B, carry_B]
    have e : 640 * (12 - n) = 640 * (12 - (n + 1)) + 640 := by omega
    refine point_holds m c hd ⟨n + 1, h⟩ _ _ (fun l => ?_) (fun l => ?_)
    · exact (h3 l).trans (by rw [e])
    · exact (h2 l).trans (by rw [e])

/-! ### The arrays -/

/-- The array of the gate's gradient. -/
def dzArr : Vec Ideal S8320x128 .bf16 := fun i =>
  slope (V m c main_v10) (V m c main_v13) (V m c main_v9) (i 1) (i 0).val

/-- The array of its sum. -/
def dbArr : Vec Ideal S1x128 .f32 := fun i =>
  ∑ k ∈ Finset.Ico 0 8320, slope (V m c main_v10) (V m c main_v13) (V m c main_v9) (i 1) k

theorem mem_blk3 (t : Fin cfg0.N) (i : S8320x128.Idx) :
    i ∈ ((cfg0.win 3).blk t).view.set ↔ 640 * (12 - t.val) ≤ (i 0).val ∧ (i 0).val < 640 * (12 - t.val) + 640 := by
  show i ∈ ((View.whole main_v14_0).slice (win0_3.rect t)).set ↔ _
  rw [View.set_slice_whole, Rect.mem_set_unit]
  constructor
  · intro h
    have h0 : win0_3.index t 0 * 640 ≤ (i 0).val ∧ (i 0).val < win0_3.index t 0 * 640 + 640 := h 0
    rw [(index3 t).1] at h0
    omega
  · intro h a
    match a with
    | 0 => show win0_3.index t 0 * 640 ≤ (i 0).val ∧ (i 0).val < win0_3.index t 0 * 640 + 640
           rw [(index3 t).1]; omega
    | 1 => show win0_3.index t 1 * 128 ≤ (i 1).val ∧ (i 1).val < win0_3.index t 1 * 128 + 128
           have h1 : (i 1).val < 128 := (i 1).isLt
           rw [(index3 t).2]; omega

include hd in
theorem arr3 : (dats m 0 c).arrAt 3 cfg0.N = dzArr m c := by
  have hN : cfg0.N = 13 := N_0
  refine (dats m 0 c).arrAt_eq_of_cover 3 _ (fun t _ => ?_) (fun i => ?_)
  · rw [Value.flushed3]
    show (outsAt0 m c t.val t.isLt).1 = ((cfg0.win 3).blk t).view.read (Elt Ideal) (dzArr m c)
    funext j
    obtain ⟨r, l, rfl⟩ : ∃ (r : Fin 640) (l : Fin 128), j = ix2 r l := ⟨j 0, j 1, eq_ix2 j⟩
    rw [(holds_at m c hd t.val t.isLt).1 r l, View.read_apply]
    show _ = dzArr m c _
    unfold dzArr
    congr 1
    · apply Fin.ext
      show _ = win0_3.index t 1 * 128 + 1 * l.val
      rw [(index3 t).2, one_mul, Nat.zero_mul, Nat.zero_add]
    · show _ = win0_3.index t 0 * 640 + 1 * r.val
      rw [(index3 t).1, one_mul, mul_comm]
  · have hi : (i 0).val < 8320 := (i 0).isLt
    refine ⟨⟨12 - (i 0).val / 640, by omega⟩, flush0_3 _, ?_⟩
    rw [mem_blk3]; dsimp only; omega

theorem mem_blk4 (t : Fin cfg0.N) (i : S1x128.Idx) : i ∈ ((cfg0.win 4).blk t).view.set := by
  show i ∈ ((View.whole main_v14_1).slice (win0_4.rect t)).set
  rw [View.set_slice_whole, Rect.mem_set_unit]
  intro a
  match a with
  | 0 => show win0_4.index t 0 * 1 ≤ (i 0).val ∧ (i 0).val < win0_4.index t 0 * 1 + 1
         have h0 : (i 0).val < 1 := (i 0).isLt
         rw [(index4 t).1]; omega
  | 1 => show win0_4.index t 1 * 128 ≤ (i 1).val ∧ (i 1).val < win0_4.index t 1 * 128 + 128
         have h1 : (i 1).val < 128 := (i 1).isLt
         rw [(index4 t).2]; omega

/-- Only the last point writes the sum back. -/
theorem flush4 : ∀ t : Fin grid0.N, win0_4.flush t = true ↔ t.val = 12 := by decide +kernel

include hd in
theorem arr4 : (dats m 0 c).arrAt 4 cfg0.N = dbArr m c := by
  have hN : cfg0.N = 13 := N_0
  refine (dats m 0 c).arrAt_eq_of_cover 4 _ (fun t ht => ?_) (fun i => ?_)
  · have h12 : t.val = 12 := (flush4 t).mp ht
    rw [Value.flushed4]
    show (outsAt0 m c t.val t.isLt).2.1 = ((cfg0.win 4).blk t).view.read (Elt Ideal) (dbArr m c)
    funext j
    obtain ⟨r, l, rfl⟩ : ∃ (r : Fin 1) (l : Fin 128), j = ix2 r l := ⟨j 0, j 1, eq_ix2 j⟩
    obtain rfl : r = 0 := Subsingleton.elim _ _
    rw [(holds_at m c hd t.val t.isLt).2.1 l, View.read_apply]
    show _ = dbArr m c _
    unfold dbArr
    rw [h12]
    refine Finset.sum_congr rfl fun k _ => congrArg (fun l => slope _ _ _ l k) (Fin.ext ?_)
    show _ = win0_4.index t 1 * 128 + 1 * l.val
    rw [(index4 t).2, one_mul, Nat.zero_mul, Nat.zero_add]
  · exact ⟨⟨12, by omega⟩, (flush4 _).mpr rfl, mem_blk4 _ _⟩

end Cert.FGateIdeal.Hand
-- ==== Proof.Sigmoid.lean ====
/-
  The slope of the logarithm of the sigmoid over the extended reals: as automatic differentiation writes it, and as the
  kernel's host writes it.
-/
module

public import Idealize.ShloMosaic.PureOps.Ideal

@[expose] public section

noncomputable section

namespace Cert.Sigmoid

open Idealize.ShloMosaic

theorem inf_word : Ideal.ofBits .f32 0x7F800000#32 = ⊤ := by simp [Ideal.ofBits, Ideal.ieee]

theorem zero_word (φ : FTy) : FloatOps.sitofp (F := Ideal) φ 0#32 = 0 := by
  show (((0#32).toInt : ℝ) : EReal) = 0
  simp

theorem log_one : Ideal.log 1 = 0 := by
  rw [← EReal.coe_one, Ideal.log_coe, if_neg (by norm_num), Real.log_one, EReal.coe_zero]

theorem exp_zero : Ideal.exp 0 = 1 := by
  rw [← EReal.coe_zero, Ideal.exp_coe, Real.exp_zero, EReal.coe_one]

theorem div_top : Ideal.div 1 (1 + ⊤) = 0 := by
  have h : (1 : EReal) + ⊤ = ⊤ := by rw [← EReal.coe_one]; exact EReal.coe_add_top 1
  rw [h]; simp [Ideal.div]

/-- `max u 0 + log (1 + e^{-|u|})`, as `logaddexp u 0` computes it. -/
def softplus (u : EReal) : EReal := max u 0 + Ideal.log1p (Ideal.exp (-max u (-u)))

theorem softplus_coe (r : ℝ) : softplus r = (Real.log (1 + Real.exp r) : ℝ) := by
  have hr : ∀ x : ℝ, (0 : ℝ) < 1 + Real.exp x := fun x => by positivity
  have e1 : max (r : EReal) 0 = ((max r 0 : ℝ) : EReal) := (EReal.coe_strictMono.monotone.map_max (a := r) (b := 0)).symm
  have e2 : -max (r : EReal) (-r) = ((-|r| : ℝ) : EReal) := by
    rw [← EReal.coe_neg, EReal.coe_neg |r|]
    exact congrArg (-·) (EReal.coe_strictMono.monotone.map_max (a := r) (b := -r)).symm
  unfold softplus Ideal.log1p
  rw [e1, e2, Ideal.exp_coe, ← EReal.coe_one, ← EReal.coe_add, Ideal.log_coe, if_neg (not_le.mpr (hr _)), ← EReal.coe_add]
  congr 1
  rcases le_total 0 r with h | h
  · rw [max_eq_left h, abs_of_nonneg h]
    conv_lhs => rw [← Real.log_exp r]
    rw [← Real.log_mul (Real.exp_ne_zero _) (hr _).ne']
    congr 1
    rw [mul_add, ← Real.exp_add]
    simp [add_comm]
  · rw [max_eq_right h, abs_of_nonpos h, neg_neg, zero_add]

/-- The two spellings of the slope are one function. -/
theorem slope_eq (u : EReal) :
    Ideal.exp ((if u = ⊤ then 0 else u) - if softplus u = ⊤ then 0 else softplus u) = Ideal.div 1 (1 + Ideal.exp (-u)) := by
  induction u with
  | bot =>
    have hs : softplus ⊥ = 0 := by simp [softplus, Ideal.log1p, log_one]
    rw [hs]
    simp [div_top]
  | top =>
    have hs : softplus ⊤ = ⊤ := by simp [softplus, Ideal.log1p, log_one]
    rw [hs]
    simp [Ideal.div, exp_zero]
  | coe r =>
    have h0 : (0 : ℝ) < 1 + Real.exp r := by positivity
    have h1 : (0 : ℝ) < 1 + Real.exp (-r) := by positivity
    rw [softplus_coe, if_neg (EReal.coe_ne_top _), if_neg (EReal.coe_ne_top _), ← EReal.coe_sub, Ideal.exp_coe, ← EReal.coe_neg,
      Ideal.exp_coe, ← EReal.coe_one, ← EReal.coe_add, Ideal.div_coe h1.ne', ← EReal.coe_mul]
    congr 1
    rw [Real.exp_sub, Real.exp_log h0, one_mul, Real.exp_neg]
    field_simp
    ring

/-- The slope is a number between zero and one, so never infinite. -/
theorem slope_real (z : EReal) : ∃ a : ℝ, Ideal.div 1 (1 + Ideal.exp z) = a := by
  induction z with
  | bot => exact ⟨1, by simp [Ideal.div]⟩
  | top => exact ⟨0, by simp [div_top]⟩
  | coe r =>
    have h1 : (0 : ℝ) < 1 + Real.exp r := by positivity
    exact ⟨1 / (1 + Real.exp r), by rw [Ideal.exp_coe, ← EReal.coe_one, ← EReal.coe_add, Ideal.div_coe h1.ne', ← EReal.coe_mul, one_mul]⟩

end Cert.Sigmoid
-- ==== Proof.FGateInputs.lean ====
/-
  The arrays the forget gate's kernel is launched on, element by element, from the arguments.
-/
module

public import proofs.«01_k».proof.Proof.Gen.FGateIdeal.Frame
public import proofs.«01_k».proof.Proof.Sigmoid
public import Idealize.ShloMosaic.Lib.Pointwise
public import Idealize.ShloMosaic.Lib.StableHlo.ReadAt

@[expose] public section

set_option maxRecDepth 16384

noncomputable section

namespace Cert.FGateIdeal.Hand

open Cert.FGateIdeal Cert.FGateIdeal.Gen Idealize.ShloMosaic Idealize.ShloMosaic.TcCoe Idealize.SL.Sem

variable (m : (ℓ : Loc nD τ sig) → Buf (Elt Ideal) ℓ) (c : Dev nD)

theorem dcq_apply (r : Fin 8320) (l : Fin 128) (x : Vec Ideal S8208x8 .f32) (hx : m ((c : Thread nD τ).loc main_arg2) = x) :
    (V m c main_v10 : Vec Ideal S8320x128 .f32) (ix2 r l) =
      if h : r.val < 8208 ∧ l.val < 8 then x (ix2 ⟨r.val, h.1⟩ ⟨l.val, h.2⟩) else 0 := by
  subst hx
  unfold V
  after_reads_at
  rw [Sigmoid.zero_word]

theorem dck_apply (r : Fin 8320) (l : Fin 128) (x : Vec Ideal S8x8208 .f32) (hx : m ((c : Thread nD τ).loc main_arg3) = x) :
    (V m c main_v13 : Vec Ideal S8320x128 .f32) (ix2 r l) =
      if h : r.val < 8208 ∧ l.val < 8 then x (ix2 ⟨l.val, h.2⟩ ⟨r.val, h.1⟩) else 0 := by
  subst hx
  unfold V
  after_reads_at
  rw [Sigmoid.zero_word]
  by_cases h : l.val < 8
  · by_cases h' : r.val < 8208
    · rw [dif_pos h, dif_pos ⟨h, h'⟩, dif_pos ⟨h', h⟩]
    · rw [dif_pos h, dif_neg fun e => h' e.2, dif_neg fun e => h' e.1]
  · rw [dif_neg h, dif_neg fun e => h e.2]

theorem sg_apply (r : Fin 8320) (l : Fin 128) (f : Vec Ideal S8208x8 .f32) (hf : m ((c : Thread nD τ).loc main_arg0) = f)
    (b : Vec Ideal S8 .f32) (hb : m ((c : Thread nD τ).loc main_arg1) = b)  :
    (V m c main_v9 : Vec Ideal S8320x128 .f32) (ix2 r l) =
      Ideal.div 1 (1 + Ideal.exp ((if h : r.val < 8208 ∧ l.val < 8 then f (ix2 ⟨r.val, h.1⟩ ⟨l.val, h.2⟩) else 0) +
        if h : l.val < 8 then b (ix1 ⟨l.val, h⟩) else 0)) := by
  subst hf hb
  unfold V
  after_reads_at
  rw [Sigmoid.zero_word]

end Cert.FGateIdeal.Hand
-- ==== Proof.FGateReference.lean ====
/-
  The forget gate's reference, element by element: its arrays as suffix sums and as sums over the rows.
-/
module

public import proofs.«01_k».proof.Proof.Gen.FGateRefIdeal.Read
public import proofs.«01_k».proof.Proof.Sigmoid
public import Idealize.ShloMosaic.Lib.Pointwise
public import Idealize.ShloMosaic.Lib.ShapeFacts

@[expose] public section

set_option maxRecDepth 16384

noncomputable section

namespace Cert.FGateRefIdeal.Hand

open Cert.FGateRefIdeal Cert.FGateRefIdeal.Read Idealize.ShloMosaic Idealize.ShloMosaic.TcCoe Idealize.SL.Sem

/-! ### A running sum from the end -/

theorem foldl_add_sum {α : Type} (g : α → EReal) (l : List α) (v : EReal) :
    l.foldl (fun a n => a + g n) v = v + (l.map g).sum := by
  induction l generalizing v with
  | nil => simp
  | cons a l ih => rw [List.foldl_cons, ih, List.map_cons, List.sum_cons, add_assoc]

/-- A window of the whole height, padded high by one less: entry `(r, c)` sums the rows from `r` on. -/
theorem suffix_window {R Rm1 C : ℕ} (hR : Rm1 + 1 = R) (x : FVec Ideal ⟨2, ![R, C]⟩ .f32) (init : FVec Ideal ⟨0, ![]⟩ .f32)
    (h : (⟨2, ![R, C]⟩ : Shape).ReduceWindows (![R, 1] : Fin 2 → Nat) ![1, 1] ![0, 0] ![Rm1, 0] ⟨2, ![R, C]⟩)
    (hu : 0 < (⟨0, ![]⟩ : Shape).numel) (hinit : init (Shape.Idx.first hu) = 0) (r : Fin R) (c : Fin C) :
    Host.reduceWindowAdd ![R, 1] ![1, 1] ![0, 0] ![Rm1, 0] x init h hu (ix2 r c) =
      ∑ k ∈ Finset.Ico r.val R, if hk : k < R then x (ix2 ⟨k, hk⟩ c) else 0 := by
  have hnum : (⟨2, ![R, 1]⟩ : Shape).numel = R := (Shape.numel_rank2 _).trans (Nat.mul_one R)
  have hs : ∀ n : Fin (⟨2, ![R, 1]⟩ : Shape).numel, (⟨2, ![R, 1]⟩ : Shape).rowMajor.symm n = ix2 (n.cast hnum) (0 : Fin 1) := by
    intro n
    rw [Equiv.symm_apply_eq]
    apply Fin.ext
    rw [rowMajor_val2 _ 1 rfl]
    show n.val = n.val * 1 + 0
    omega
  have e : Host.reduceWindowAdd ![R, 1] ![1, 1] ![0, 0] ![Rm1, 0] x init h hu (ix2 r c) =
      (List.finRange (⟨2, ![R, 1]⟩ : Shape).numel).foldl
        (fun a n => a + if hk : r.val + n.val < R then x (ix2 ⟨r.val + n.val, hk⟩ c) else 0) 0 := by
    show Host.reduceWindow (fun a b : EReal => a + b) _ _ _ _ x (fun _ => init (Shape.Idx.first hu)) h hu (ix2 r c) = _
    unfold Host.reduceWindow
    rw [hinit]
    refine congrArg (fun g => List.foldl g 0 _) (funext fun a => funext fun n => congrArg (a + ·) ?_)
    have hw0 : ((⟨2, ![R, 1]⟩ : Shape).rowMajor.symm n 0).val = n.val := by rw [hs]; rfl
    have hw1 : ((⟨2, ![R, 1]⟩ : Shape).rowMajor.symm n 1).val = 0 := by rw [hs]; rfl
    have hc := c.isLt
    dsimp only
    split
    · next hin =>
      have h0 := hin 0
      change 0 ≤ r.val * 1 + ((⟨2, ![R, 1]⟩ : Shape).rowMajor.symm n 0).val
        ∧ r.val * 1 + ((⟨2, ![R, 1]⟩ : Shape).rowMajor.symm n 0).val - 0 < R at h0
      rw [hw0] at h0
      rw [dif_pos (by omega)]
      refine congrArg x (funext fun a => Fin.ext ?_)
      match a with
      | ⟨0, _⟩ =>
        show r.val * 1 + ((⟨2, ![R, 1]⟩ : Shape).rowMajor.symm n 0).val - 0 = r.val + n.val
        rw [hw0]; omega
      | ⟨1, _⟩ =>
        show c.val * 1 + ((⟨2, ![R, 1]⟩ : Shape).rowMajor.symm n 1).val - 0 = c.val
        rw [hw1]; omega
    · next hin =>
      rw [dif_neg fun hle => hin fun a => by
        match a with
        | ⟨0, _⟩ =>
          show 0 ≤ r.val * 1 + ((⟨2, ![R, 1]⟩ : Shape).rowMajor.symm n 0).val
            ∧ r.val * 1 + ((⟨2, ![R, 1]⟩ : Shape).rowMajor.symm n 0).val - 0 < R
          rw [hw0]; omega
        | ⟨1, _⟩ =>
          show 0 ≤ c.val * 1 + ((⟨2, ![R, 1]⟩ : Shape).rowMajor.symm n 1).val ∧ c.val * 1 + ((⟨2, ![R, 1]⟩ : Shape).rowMajor.symm n 1).val - 0 < C
          rw [hw1]; omega]
  rw [e, foldl_add_sum, zero_add, ← Fin.sum_univ_def,
    Fin.sum_univ_eq_sum_range (fun n => if hk : r.val + n < R then x (ix2 ⟨r.val + n, hk⟩ c) else 0), hnum]
  have e2 := Finset.sum_Ico_eq_sum_range (fun k => if hk : k < R then x (ix2 ⟨k, hk⟩ c) else 0) r.val (r.val + R)
  rw [Nat.add_sub_cancel_left] at e2
  rw [← e2, ← Finset.sum_Ico_consecutive _ r.isLt.le (Nat.le_add_left R r.val)]
  rw [Finset.sum_eq_zero (s := Finset.Ico R (r.val + R)), add_zero]
  intro k hk
  exact dif_neg (by have := (Finset.mem_Ico.mp hk).1; omega)

variable (f : Vec Ideal S8208x8 .f32) (b : Vec Ideal S8 .f32) (dcq : Vec Ideal S8208x8 .f32) (dck : Vec Ideal S8x8208 .f32)

theorem v18_apply (l : Fin 128) : val_main_v18 (F := Ideal) f b dcq dck (ix2 0 l) =
    if h : l.val < 8 then ∑ r : Fin 8208, val_main_v11 (F := Ideal) f b dcq dck (ix2 r ⟨l.val, h⟩) else 0 := by
  unfold val_main_v18 val_main_v17 val_main_v14 val_main_v13 val_main_v12
  generalize val_main_v11 (F := Ideal) f b dcq dck = y
  pointwise [val_main_cst_0, val_main_cst, val_main_call5_v0, val_main_c_1]
  rw [Sigmoid.zero_word]
  simp only [Finset.univ_unique, Finset.sum_const, Finset.card_singleton, one_smul]

theorem v16_apply (r : Fin 8320) (l : Fin 128) : val_main_v16 (F := Ideal) f b dcq dck (ix2 r l) =
    if h : r.val < 8208 ∧ l.val < 8 then val_main_v11 (F := Ideal) f b dcq dck (ix2 ⟨r.val, h.1⟩ ⟨l.val, h.2⟩) else 0 := by
  unfold val_main_v16 val_main_v15
  generalize val_main_v11 (F := Ideal) f b dcq dck = y
  pointwise [val_main_call4_v0, val_main_c]
  rw [Sigmoid.zero_word]

theorem v9_apply (r : Fin 8208) (l : Fin 8) : val_main_v9 (F := Ideal) dcq dck (ix2 r l) = dcq (ix2 r l) - dck (ix2 l r) := by
  unfold val_main_v9 val_main_v8 val_main_v7
  pointwise
  rfl

theorem v10_apply (r : Fin 8208) (l : Fin 8) : val_main_v10 (F := Ideal) dcq dck (ix2 r l) =
    ∑ k ∈ Finset.Ico r.val 8208, if hk : k < 8208 then dcq (ix2 ⟨k, hk⟩ l) - dck (ix2 l ⟨k, hk⟩) else 0 := by
  unfold val_main_v10
  refine (suffix_window (R := 8208) (Rm1 := 8207) (C := 8) rfl _ _ _ _ ?_ r l).trans ?_
  · unfold val_main_call2_call0_v0 val_main_call2_call0_cst
    pointwise
  · refine Finset.sum_congr rfl fun k _ => ?_
    split
    · exact v9_apply dcq dck _ l
    · rfl

theorem v11_apply (r : Fin 8208) (l : Fin 8) : val_main_v11 (F := Ideal) f b dcq dck (ix2 r l) =
    val_main_v10 (F := Ideal) dcq dck (ix2 r l) * val_main_v3_1 (F := Ideal) f b (ix2 r l) := by
  unfold val_main_v11 val_main_call3_v1 val_main_call3_v0
  generalize val_main_v10 (F := Ideal) dcq dck = y
  generalize hz : val_main_v3_1 (F := Ideal) f b = w
  pointwise
  rw [EReal.neg_mul, neg_neg]

theorem v3_apply (r : Fin 8208) (l : Fin 8) : val_main_v3_1 (F := Ideal) f b (ix2 r l) =
    Ideal.div 1 (1 + Ideal.exp (f (ix2 r l) + b (ix1 l))) := by
  have hu : val_main_call0_v0 (F := Ideal) f b (ix2 r l) = -(f (ix2 r l) + b (ix1 l)) := by
    unfold val_main_call0_v0 val_main_v2 val_main_v1 val_main_v0
    pointwise
  unfold val_main_v3_1 val_main_call0_call0_v21 val_main_call0_call0_v20 val_main_call0_call0_v18 val_main_call0_call0_v16
    val_main_call0_call0_v14 val_main_call0_v1_0 val_main_call0_call0_v4 val_main_call0_call0_v6 val_main_call0_call0_v11
    val_main_call0_call0_v10 val_main_call0_call0_v9 val_main_call0_call0_v8 val_main_call0_call0_v7 val_main_call0_call0_v1
    val_main_call0_call0_v3
  generalize val_main_call0_v0 (F := Ideal) f b = w at hu
  pointwise [val_main_call0_call0_v0, val_main_call0_call0_v2, val_main_call0_call0_v5, val_main_call0_call0_cst,
    val_main_call0_call0_v13, val_main_call0_call0_v15, val_main_call0_call0_v17, val_main_call0_call0_v19,
    val_main_call0_call0_cst_0, val_main_call0_call0_cst_1, val_main_call0_call0_cst_2, val_main_call0_call0_cst_3]
  rw [hu, Sigmoid.inf_word]
  simp only [ne_eq, not_true_eq_false, if_false]
  refine (Sigmoid.slope_eq (-(f (ix2 r l) + b (ix1 l)))).trans ?_
  rw [neg_neg]

end Cert.FGateRefIdeal.Hand
-- ==== Proof.FGateEquation.lean ====
/-
  The forget gate's gradient: the kernel's two arrays are the reference's, where the cotangents are finite.
-/
module

public import proofs.«01_k».proof.Defs
public import proofs.«01_k».proof.Proof.FGateArray
public import proofs.«01_k».proof.Proof.FGateInputs
public import proofs.«01_k».proof.Proof.FGateReference

@[expose] public section

set_option maxRecDepth 16384

noncomputable section

namespace Cert.FGateIdeal.Hand

open Cert.FGateIdeal Cert.FGateIdeal.Gen Idealize.ShloMosaic Idealize.ShloMosaic.TcCoe Idealize.SL.Sem
open Cert.FGateRefIdeal.Read Cert.FGateRefIdeal.Hand

/-- The predicate's one side condition. -/
theorem pre_facts : Cert.Pre_fgate_finite.Facts where
  bcast_S_S8208x8 := Cert.FGateRefIdeal.Gen.facts.bcast_S_S8208x8
  transposes_S8x8208_S8208x8_1_0 := Cert.FGateRefIdeal.Gen.facts.transposes_S8x8208_S8208x8_1_0

theorem real_of_abs {x : EReal} (h : max x (-x) < ⊤) : ∃ a : ℝ, x = a := by
  induction x with
  | bot => exact absurd h (by simp)
  | top => exact absurd h (by simp)
  | coe a => exact ⟨a, rfl⟩

theorem finite_of_pre (f : Vec Ideal S8208x8 .f32) (b : Vec Ideal S8 .f32) (dcq : Vec Ideal S8208x8 .f32)
    (dck : Vec Ideal S8x8208 .f32)
    (h : letI := pre_facts; Cert.Pre_fgate_finite.fn (F := Ideal) f b dcq dck = fun _ => 1#1) (r : Fin 8208) (l : Fin 8) :
    (∃ a : ℝ, dcq (ix2 r l) = a) ∧ ∃ a : ℝ, dck (ix2 l r) = a := by
  have e := congrFun h (ix2 r l)
  pointwise [Cert.Pre_fgate_finite.fn] at e
  rw [Sigmoid.inf_word] at e
  have both : ∀ p q : Bool, IntOp.andi (BitVec.ofBool p) (BitVec.ofBool q) = 1#1 → p = true ∧ q = true := by decide
  obtain ⟨h1, h2⟩ := both _ _ e
  exact ⟨real_of_abs (of_decide_eq_true h1), real_of_abs (of_decide_eq_true h2)⟩

variable (m : (ℓ : Loc nD τ sig) → Buf (Elt Ideal) ℓ) (c : Dev nD)
  (f : Vec Ideal S8208x8 .f32) (hf : m ((c : Thread nD τ).loc main_arg0) = f)
  (b : Vec Ideal S8 .f32) (hb : m ((c : Thread nD τ).loc main_arg1) = b)
  (dcq : Vec Ideal S8208x8 .f32) (hq : m ((c : Thread nD τ).loc main_arg2) = dcq)
  (dck : Vec Ideal S8x8208 .f32) (hk : m ((c : Thread nD τ).loc main_arg3) = dck)

include hq hk in
theorem diff_eq (l : Fin 128) (n : ℕ) : diff (V m c main_v10) (V m c main_v13) l n =
    if h : n < 8208 ∧ l.val < 8 then dcq (ix2 ⟨n, h.1⟩ ⟨l.val, h.2⟩) - dck (ix2 ⟨l.val, h.2⟩ ⟨n, h.1⟩) else 0 := by
  unfold diff
  by_cases h : n < 8320
  · rw [dif_pos h, dcq_apply m c _ l dcq hq, dck_apply m c _ l dck hk]
    by_cases h' : n < 8208 ∧ l.val < 8
    · rw [dif_pos h', dif_pos h', dif_pos h']
    · rw [dif_neg h', dif_neg h', dif_neg h', sub_zero]
  · rw [dif_neg h, dif_neg fun h' => h (by omega)]

include hq hk in
theorem suffix_out (l : Fin 128) (n : ℕ) (h : ¬ (n < 8208 ∧ l.val < 8)) :
    suffix (V m c main_v10) (V m c main_v13) l n = 0 := by
  refine Finset.sum_eq_zero fun k hk' => ?_
  rw [diff_eq m c dcq hq dck hk, dif_neg]
  have := (Finset.mem_Ico.mp hk').1
  omega

include hq hk in
theorem suffix_in (r : Fin 8208) (l : Fin 8) (l' : Fin 128) (hl : l'.val = l.val) :
    suffix (V m c main_v10) (V m c main_v13) l' r.val = val_main_v10 (F := Ideal) dcq dck (ix2 r l) := by
  rw [v10_apply]
  unfold suffix
  rw [← Finset.sum_Ico_consecutive _ r.isLt.le (by omega : 8208 ≤ 8320)]
  have z : ∑ k ∈ Finset.Ico 8208 8320, diff (V m c main_v10) (V m c main_v13) l' k = 0 := by
    refine Finset.sum_eq_zero fun k hk' => ?_
    rw [diff_eq m c dcq hq dck hk, dif_neg]
    have := (Finset.mem_Ico.mp hk').1
    omega
  rw [z, add_zero]
  refine Finset.sum_congr rfl fun k hk' => ?_
  have hk2 := (Finset.mem_Ico.mp hk').2
  rw [diff_eq m c dcq hq dck hk, dif_pos ⟨hk2, by omega⟩, dif_pos hk2]
  have e : ∀ h, (⟨l'.val, h⟩ : Fin 8) = l := fun h => Fin.ext hl
  rw [e]

include hf hb hq hk in
theorem slope_in (r : Fin 8208) (l : Fin 8) (l' : Fin 128) (hl : l'.val = l.val) :
    slope (V m c main_v10) (V m c main_v13) (V m c main_v9) l' r.val = val_main_v11 (F := Ideal) f b dcq dck (ix2 r l) := by
  have hl8 : l'.val < 8 := by omega
  have e : ∀ h, (⟨l'.val, h⟩ : Fin 8) = l := fun h => Fin.ext hl
  unfold slope
  rw [dif_pos (by omega), suffix_in m c dcq hq dck hk r l l' hl, v11_apply, v3_apply, sg_apply m c _ l' f hf b hb]
  rw [dif_pos ⟨r.isLt, hl8⟩, dif_pos hl8, e]

include hq hk in
theorem slope_out (l : Fin 128) (n : ℕ) (h : ¬ (n < 8208 ∧ l.val < 8)) :
    slope (V m c main_v10) (V m c main_v13) (V m c main_v9) l n = 0 := by
  unfold slope
  split
  · rw [suffix_out m c dcq hq dck hk l n h, zero_mul]
  · rfl

include hf hb hq hk in
theorem dz_eq : dzArr m c = val_main_v16 (F := Ideal) f b dcq dck := by
  funext i
  obtain ⟨r, l, rfl⟩ : ∃ (r : Fin 8320) (l : Fin 128), i = ix2 r l := ⟨i 0, i 1, eq_ix2 i⟩
  rw [v16_apply]
  show slope _ _ _ l r.val = _
  by_cases h : r.val < 8208 ∧ l.val < 8
  · rw [dif_pos h]
    exact slope_in m c f hf b hb dcq hq dck hk ⟨r.val, h.1⟩ ⟨l.val, h.2⟩ l rfl
  · rw [dif_neg h, slope_out m c dcq hq dck hk l r.val h]

include hf hb hq hk in
theorem db_eq : dbArr m c = val_main_v18 (F := Ideal) f b dcq dck := by
  funext i
  obtain ⟨r, l, rfl⟩ : ∃ (r : Fin 1) (l : Fin 128), i = ix2 r l := ⟨i 0, i 1, eq_ix2 i⟩
  obtain rfl : r = 0 := Subsingleton.elim _ _
  rw [v18_apply]
  show ∑ k ∈ Finset.Ico 0 8320, slope (V m c main_v10) (V m c main_v13) (V m c main_v9) l k = _
  by_cases h : l.val < 8
  · rw [dif_pos h, ← Finset.sum_Ico_consecutive _ (by omega : 0 ≤ 8208) (by omega : 8208 ≤ 8320),
      Finset.sum_eq_zero (s := Finset.Ico 8208 8320), add_zero, ← Finset.range_eq_Ico]
    · rw [← Fin.sum_univ_eq_sum_range (fun k => slope (V m c main_v10) (V m c main_v13) (V m c main_v9) l k) 8208]
      exact Finset.sum_congr rfl fun r _ => slope_in m c f hf b hb dcq hq dck hk r ⟨l.val, h⟩ l rfl
    · intro k hk'
      have := (Finset.mem_Ico.mp hk').1
      exact slope_out m c dcq hq dck hk l k (by omega)
  · rw [dif_neg h]
    exact Finset.sum_eq_zero fun k _ => slope_out m c dcq hq dck hk l k fun h' => h h'.2

/-- The kernel and the reference, from memories that agree on the arguments. -/
theorem algebraic : letI := Cert.FGateIdeal.Gen.facts; letI := Cert.FGateRefIdeal.Gen.facts; letI := pre_facts
    Cert.algebraic_FGateIdeal_FGateRefIdeal_pre_fgate_finite := by
  intro m g m' g' hpre hagree
  refine ⟨fun c => dzArr m c, fun c => dbArr m c, ?_, ?_⟩
  · refine (θ_run Cert.FGateIdeal.defs _ _).mono (fun r h c => ?_) (Cert.FGateIdeal.Value.run_blocks m g)
    have hd : ∀ l n, ∃ a : ℝ, diff (V m c main_v10) (V m c main_v13) l n = a := by
      intro l n
      rw [diff_eq m c _ rfl _ rfl]
      split
      · next h =>
        obtain ⟨⟨x, hx⟩, y, hy⟩ := finite_of_pre _ _ _ _ (hpre c) ⟨n, h.1⟩ ⟨l.val, h.2⟩
        exact ⟨x - y, by rw [hx, hy, EReal.coe_sub]⟩
      · exact ⟨0, rfl⟩
    obtain ⟨h3, h4, hargs⟩ := h c
    exact ⟨h3.trans (arr3 m c hd), h4.trans (arr4 m c hd), hargs⟩
  · refine (θ_run Cert.FGateRefIdeal.defs _ _).mono (fun r h c => ?_) (Cert.FGateRefIdeal.Value.run m' g')
    obtain ⟨h0, h1, hargs⟩ := h c
    obtain ⟨a0, a1, a2, a3⟩ := hagree c
    refine ⟨h0.trans ?_, h1.trans ?_, hargs⟩
    · rw [Cert.FGateRefIdeal.Read.val_main_v16_eq]
      exact (dz_eq m c _ a0.symm _ a1.symm _ a2.symm _ a3.symm).symm
    · rw [Cert.FGateRefIdeal.Read.val_main_v18_eq]
      exact (db_eq m c _ a0.symm _ a1.symm _ a2.symm _ a3.symm).symm

end Cert.FGateIdeal.Hand
-- ==== Proof.AttnRegions.lean ====
/- THE KERNEL'S BODY AS ITS FIVE GUARDED REGIONS. The printed body is one `do` block; here each region under a condition is a
   program of its own, followed by the rest, and the body is those programs in sequence, by definition. -/
module

public import proofs.«01_k».proof.Proof.Gen.AttnIdeal.Skeleton
public import proofs.«01_k».proof.Proof.Gen.AttnIdeal.Launch
public import Idealize.ShloMosaic.Lib.Pipeline.FrameBody
public import Idealize.ShloMosaic.Lib.Pipeline.FrameValue
public import Idealize.ShloMosaic.Lib.Ring
public import Idealize.ShloMosaic.Lib.Tactic

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

/-- Whether a point is the grid's first, as the kernel computes it. -/
def first (i : grid0.Coords) : BitVec 1 :=
  Scalar.cmpi .ne (Scalar.extui (Scalar.cmpi .eq (BitVec.ofNat 32 (i 0).val) 0#32) : BitVec 32) 0#32

/-- A region of the body, with `rest` after it: the accumulators of the whole query side set to zero. -/
noncomputable def zeroAllProg (i : grid0.Coords) (arg1 : Memref sig .tc .smem S91 .i32) (harg1 : arg1.IsWhole) (arg2 : Memref sig .tc .smem S91 .i32) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg9 : Memref sig .tc .hbm S8320x512 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .hbm S8320x128 .f32) (harg12 : arg12.IsWhole) (arg13 : Memref sig .tc .vmem S8x640 .f32) (harg13 : arg13.IsWhole) (arg14 : Memref sig .tc .vmem S8320x512 .f32) (harg14 : arg14.IsWhole) (arg15 : Memref sig .tc .vmem S8320x128 .f32) (harg15 : arg15.IsWhole) (arg16 : Memref sig .tc .vmem S1024x640 .f32) (harg16 : arg16.IsWhole) (arg17 : Memref sig .tc .vmem S1024x640 .f32) (harg17 : arg17.IsWhole) (arg18 : Memref sig .tc .vmem S8x640 .f32) (harg18 : arg18.IsWhole) (arg19 : Memref sig .tc .vmem S640x512 .bf16) (harg19 : arg19.IsWhole) (arg20 : DmaSems sig S2) (rest : PUnit.{1} → Prog (TpuEff nD τ sig (Elt F) Λ₀ .tc) PUnit) : Prog (TpuEff nD τ sig (Elt F) Λ₀ .tc) PUnit := do
  let v20 : Vec F S8320x512 .f32 ← Prog.lift (.load arg14 (Rect.unit (s := S8320x512) ![0, 0] S8320x512.size inb_S8320x512_S8320x512_0_0).toLoadRect (View.loadsAt_vmem h_S8320x512))
  Prog.lift (.store arg14 (Rect.unit (s := S8320x512) ![0, 0] S8320x512.size inb_S8320x512_S8320x512_0_0) (k0_pay1 (F := F)) Finset.univ (View.stores_vmem_bits_univ h_S8320x512 rfl) (.inl rfl))
  let v24 : Vec F S8320x128 .f32 ← Prog.lift (.load arg15 (Rect.unit (s := S8320x128) ![0, 0] S8320x128.size inb_S8320x128_S8320x128_0_0).toLoadRect (View.loadsAt_vmem h_S8320x128))
  Prog.lift (.store arg15 (Rect.unit (s := S8320x128) ![0, 0] S8320x128.size inb_S8320x128_S8320x128_0_0) (k0_pay2 (F := F)) Finset.univ (View.stores_vmem_bits_univ h_S8320x128 rfl) (.inl rfl))
  rest ⟨⟩

/-- A region of the body, with `rest` after it: the accumulators of one key block set to zero. -/
noncomputable def zeroColsProg (i : grid0.Coords) (arg1 : Memref sig .tc .smem S91 .i32) (harg1 : arg1.IsWhole) (arg2 : Memref sig .tc .smem S91 .i32) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg9 : Memref sig .tc .hbm S8320x512 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .hbm S8320x128 .f32) (harg12 : arg12.IsWhole) (arg13 : Memref sig .tc .vmem S8x640 .f32) (harg13 : arg13.IsWhole) (arg14 : Memref sig .tc .vmem S8320x512 .f32) (harg14 : arg14.IsWhole) (arg15 : Memref sig .tc .vmem S8320x128 .f32) (harg15 : arg15.IsWhole) (arg16 : Memref sig .tc .vmem S1024x640 .f32) (harg16 : arg16.IsWhole) (arg17 : Memref sig .tc .vmem S1024x640 .f32) (harg17 : arg17.IsWhole) (arg18 : Memref sig .tc .vmem S8x640 .f32) (harg18 : arg18.IsWhole) (arg19 : Memref sig .tc .vmem S640x512 .bf16) (harg19 : arg19.IsWhole) (arg20 : DmaSems sig S2) (rest : PUnit.{1} → Prog (TpuEff nD τ sig (Elt F) Λ₀ .tc) PUnit) : Prog (TpuEff nD τ sig (Elt F) Λ₀ .tc) PUnit := do
  let v20 : Vec F S1024x640 .f32 ← Prog.lift (.load arg16 (Rect.unit (s := S1024x640) ![0, 0] S1024x640.size inb_S1024x640_S1024x640_0_0).toLoadRect (View.loadsAt_vmem h_S1024x640))
  Prog.lift (.store arg16 (Rect.unit (s := S1024x640) ![0, 0] S1024x640.size inb_S1024x640_S1024x640_0_0) (k0_pay3 (F := F)) Finset.univ (View.stores_vmem_bits_univ h_S1024x640 rfl) (.inl rfl))
  let v24 : Vec F S1024x640 .f32 ← Prog.lift (.load arg17 (Rect.unit (s := S1024x640) ![0, 0] S1024x640.size inb_S1024x640_S1024x640_0_0).toLoadRect (View.loadsAt_vmem h_S1024x640))
  Prog.lift (.store arg17 (Rect.unit (s := S1024x640) ![0, 0] S1024x640.size inb_S1024x640_S1024x640_0_0) (k0_pay4 (F := F)) Finset.univ (View.stores_vmem_bits_univ h_S1024x640 rfl) (.inl rfl))
  let v28 : Vec F S8x640 .f32 ← Prog.lift (.load arg18 (Rect.unit (s := S8x640) ![0, 0] S8x640.size inb_S8x640_S8x640_0_0).toLoadRect (View.loadsAt_vmem h_S8x640))
  Prog.lift (.store arg18 (Rect.unit (s := S8x640) ![0, 0] S8x640.size inb_S8x640_S8x640_0_0) (k0_pay5 (F := F)) Finset.univ (View.stores_vmem_bits_univ h_S8x640 rfl) (.inl rfl))
  rest ⟨⟩

/-- A region of the body, with `rest` after it: a query block strictly below the key block. -/
noncomputable def offProg (i : grid0.Coords) (arg1 : Memref sig .tc .smem S91 .i32) (harg1 : arg1.IsWhole) (arg2 : Memref sig .tc .smem S91 .i32) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg9 : Memref sig .tc .hbm S8320x512 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .hbm S8320x128 .f32) (harg12 : arg12.IsWhole) (arg13 : Memref sig .tc .vmem S8x640 .f32) (harg13 : arg13.IsWhole) (arg14 : Memref sig .tc .vmem S8320x512 .f32) (harg14 : arg14.IsWhole) (arg15 : Memref sig .tc .vmem S8320x128 .f32) (harg15 : arg15.IsWhole) (arg16 : Memref sig .tc .vmem S1024x640 .f32) (harg16 : arg16.IsWhole) (arg17 : Memref sig .tc .vmem S1024x640 .f32) (harg17 : arg17.IsWhole) (arg18 : Memref sig .tc .vmem S8x640 .f32) (harg18 : arg18.IsWhole) (arg19 : Memref sig .tc .vmem S640x512 .bf16) (harg19 : arg19.IsWhole) (arg20 : DmaSems sig S2) (v1 v3 : BitVec 32) (k0_hw1 : k0_chk1 v1 v3) (k0_h3 : k0_cond3 v1 v3 = 1#1) (rest : PUnit.{1} → Prog (TpuEff nD τ sig (Elt F) Λ₀ .tc) PUnit) : Prog (TpuEff nD τ sig (Elt F) Λ₀ .tc) PUnit := do
  let ⟨v20, v22, v23, v35, v36, v50, v51⟩ : Σ' (v20 : BitVec 32) (v22 : Vec F S640x128 .f32) (v23 : IVec S640x128 32) (v35 : FVec F S640x640 .f32) (v36 : FVec F S640x640 .bf16) (v50 : FVec F S128x640 .f32), Vec F S128x640 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1 k0_h3
  let ⟨v56, v65, v83, v84, v85, v86⟩ : Σ' (v56 : FVec F S640x128 .f32) (v65 : FVec F S640x128 .f32) (v83 : FVec F S640x640 .f32) (v84 : FVec F S640x640 .f32) (v85 : FVec F S640x640 .bf16), Vec F S128x640 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v22 v23 v35 v36 v50 v51
  let ⟨v117, v121, v122⟩ : Σ' (v117 : IVec S640x128 1) (v121 : FVec F S640x128 .f32), FVec F S640x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1 k0_h3 v20 v23 v56 v83 v84 v85 v86
  let ⟨v124, v143, v144, v154⟩ : Σ' (v124 : FVec F S640x128 .f32) (v143 : FVec F S640x640 .f32) (v144 : FVec F S640x640 .bf16), Vec F S128x640 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v65 v84 v117 v121 v122
  let ⟨v164, v173, v185, v187, v189⟩ : Σ' (v164 : FVec F S640x128 .f32) (v173 : FVec F S640x128 .f32) (v185 : FVec F S640x640 .f32) (v187 : FVec F S640x128 .bf16), FVec F S640x128 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v23 v124 v143 v144 v154
  let ⟨v192, v224⟩ : Σ' (v192 : FVec F S640x640 .f32), IVec S640x128 32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1 k0_h3 v20 v23 v164 v185 v187 v189
  let ⟨v232, v251, v252, v258, v259⟩ : Σ' (v232 : FVec F S640x128 .f32) (v251 : FVec F S640x640 .f32) (v252 : FVec F S640x640 .bf16) (v258 : FVec F S128x640 .f32), Vec F S128x640 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v23 v173 v192 v224
  let ⟨v272, v281, v293⟩ : Σ' (v272 : FVec F S640x128 .f32) (v281 : FVec F S640x128 .f32), FVec F S640x640 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v23 v232 v251 v252 v258 v259
  let ⟨v300, v327⟩ : Σ' (v300 : FVec F S640x640 .f32), FVec F S640x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1 k0_h3 v20 v23 v272 v293
  let ⟨v340, v358, v359, v360, v361, v362⟩ : Σ' (v340 : FVec F S640x128 .f32) (v358 : FVec F S640x640 .f32) (v359 : FVec F S640x640 .f32) (v360 : FVec F S640x640 .bf16) (v361 : Vec F S128x640 .f32), Vec F S128x640 .bf16 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1 k0_h3 v20 v23 v281 v300 v327
  let ⟨v380, v389⟩ : Σ' (v380 : FVec F S640x128 .f32), FVec F S640x128 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v23 v340 v358 v359 v360 v361 v362
  let ⟨v408, v429⟩ : Σ' (v408 : FVec F S640x640 .f32), FVec F S640x128 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20
  let v431 : Vec F S640x128 .f32 ← Prog.lift (.load arg14 (Rect.unit (s := S8320x512) (k0_off6 v3) S640x128.size (k0_off6_inb v1 v3 k0_hw1 k0_h3)).toLoadRect (View.loadsAt_vmem h_S640x128))
  let v437 : Vec F S640x128 .f32 ← Prog.lift (.load arg14 (Rect.unit (s := S8320x512) (k0_off6 v3) S640x128.size (k0_off6_inb v1 v3 k0_hw1 k0_h3)).toLoadRect (View.loadsAt_vmem h_S640x128))
  Prog.lift (.store arg14 (Rect.unit (s := S8320x512) (k0_off6 v3) S640x128.size (k0_off6_inb v1 v3 k0_hw1 k0_h3)) (k0_pay6 v23 v380 v429 v431) Finset.univ (View.stores_vmem_bits_univ h_S640x128 rfl) (.inl rfl))
  let v449 : Vec F S1x640 .f32 ← Prog.lift (.load arg18 (Rect.unit (s := S8x640) ![7, 0] S1x640.size inb_S8x640_S1x640_7_0).toLoadRect (View.loadsAt_vmem h_S1x640))
  let v453 : Vec F S1x640 .f32 ← Prog.lift (.load arg18 (Rect.unit (s := S8x640) ![7, 0] S1x640.size inb_S8x640_S1x640_7_0).toLoadRect (View.loadsAt_vmem h_S1x640))
  Prog.lift (.store arg18 (Rect.unit (s := S8x640) ![7, 0] S1x640.size inb_S8x640_S1x640_7_0) (k0_pay7 v408 v449) Finset.univ (View.stores_vmem_bits_univ h_S1x640 rfl) (.inl rfl))
  let v457 : Vec F S640x128 .f32 ← Prog.lift (.load arg15 (Rect.unit (s := S8320x128) (k0_off2 v3) S640x128.size (k0_off2_inb v1 v3 k0_hw1 k0_h3)).toLoadRect (View.loadsAt_vmem h_S640x128))
  Prog.lift (.store arg15 (Rect.unit (s := S8320x128) (k0_off2 v3) S640x128.size (k0_off2_inb v1 v3 k0_hw1 k0_h3)) (k0_pay8 v23 v389 v408) Finset.univ (View.stores_vmem_bits_univ h_S640x128 rfl) (.inl rfl))
  rest ⟨⟩

/-- A region of the body, with `rest` after it: the query block on the diagonal, then the two copies of its finished rows. -/
noncomputable def diagProg (i : grid0.Coords) (arg1 : Memref sig .tc .smem S91 .i32) (harg1 : arg1.IsWhole) (arg2 : Memref sig .tc .smem S91 .i32) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg9 : Memref sig .tc .hbm S8320x512 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .hbm S8320x128 .f32) (harg12 : arg12.IsWhole) (arg13 : Memref sig .tc .vmem S8x640 .f32) (harg13 : arg13.IsWhole) (arg14 : Memref sig .tc .vmem S8320x512 .f32) (harg14 : arg14.IsWhole) (arg15 : Memref sig .tc .vmem S8320x128 .f32) (harg15 : arg15.IsWhole) (arg16 : Memref sig .tc .vmem S1024x640 .f32) (harg16 : arg16.IsWhole) (arg17 : Memref sig .tc .vmem S1024x640 .f32) (harg17 : arg17.IsWhole) (arg18 : Memref sig .tc .vmem S8x640 .f32) (harg18 : arg18.IsWhole) (arg19 : Memref sig .tc .vmem S640x512 .bf16) (harg19 : arg19.IsWhole) (arg20 : DmaSems sig S2) (v1 v3 : BitVec 32) (k0_hw1 : k0_chk1 v1 v3) (k0_h4 : k0_cond4 v1 v3 = 1#1) (rest : PUnit.{1} → Prog (TpuEff nD τ sig (Elt F) Λ₀ .tc) PUnit) : Prog (TpuEff nD τ sig (Elt F) Λ₀ .tc) PUnit := do
  k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1 k0_h4
  let v497 : DmaSems sig S1 := arg20.slice (Rect.unit (s := S2) ![1] S1.size inb_S2_S1_1)
  let v498 : DmaSems sig S_ := v497.squeeze S_ squeezes_S1_S_
  let v499 : Memref sig .tc .hbm S640x128 .f32 := arg12.slice (Rect.unit (s := S8320x128) (k0_off14 v3) S640x128.size (k0_off14_inb v1 v3 k0_hw1 k0_h4)) (fun _ => rfl)
  let v500 : Memref sig .tc .vmem S640x128 .f32 := arg15.slice (Rect.unit (s := S8320x128) (k0_off14 v3) S640x128.size (k0_off14_inb v1 v3 k0_hw1 k0_h4)) (fun _ => rfl)
  Prog.lift (.waitDma2 v498.sem v500 v499 (View.wordExact_bits rfl) (View.wordExact_bits rfl))
  rest ⟨⟩

/-- A region of the body, with `rest` after it: the last query block: the key block's results. -/
noncomputable def flushProg (i : grid0.Coords) (arg1 : Memref sig .tc .smem S91 .i32) (harg1 : arg1.IsWhole) (arg2 : Memref sig .tc .smem S91 .i32) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg9 : Memref sig .tc .hbm S8320x512 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .hbm S8320x128 .f32) (harg12 : arg12.IsWhole) (arg13 : Memref sig .tc .vmem S8x640 .f32) (harg13 : arg13.IsWhole) (arg14 : Memref sig .tc .vmem S8320x512 .f32) (harg14 : arg14.IsWhole) (arg15 : Memref sig .tc .vmem S8320x128 .f32) (harg15 : arg15.IsWhole) (arg16 : Memref sig .tc .vmem S1024x640 .f32) (harg16 : arg16.IsWhole) (arg17 : Memref sig .tc .vmem S1024x640 .f32) (harg17 : arg17.IsWhole) (arg18 : Memref sig .tc .vmem S8x640 .f32) (harg18 : arg18.IsWhole) (arg19 : Memref sig .tc .vmem S640x512 .bf16) (harg19 : arg19.IsWhole) (arg20 : DmaSems sig S2) (rest : PUnit.{1} → Prog (TpuEff nD τ sig (Elt F) Λ₀ .tc) PUnit) : Prog (TpuEff nD τ sig (Elt F) Λ₀ .tc) PUnit := do
  let v52 : FVec F S640x128 .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20
  let v53 : Vec F S128x640 .f32 ← Prog.lift (.load arg17 (Rect.unit (s := S1024x640) ![128, 0] S128x640.size inb_S1024x640_S128x640_128_0).toLoadRect (View.loadsAt_vmem h_S128x640))
  let v55 : Vec F S128x640 .f32 ← Prog.lift (.load arg17 (Rect.unit (s := S1024x640) ![256, 0] S128x640.size inb_S1024x640_S128x640_256_0).toLoadRect (View.loadsAt_vmem h_S128x640))
  let v57 : Vec F S128x640 .f32 ← Prog.lift (.load arg17 (Rect.unit (s := S1024x640) ![384, 0] S128x640.size inb_S1024x640_S128x640_384_0).toLoadRect (View.loadsAt_vmem h_S128x640))
  let v59 : Vec F S128x640 .f32 ← Prog.lift (.load arg17 (Rect.unit (s := S1024x640) ![512, 0] S128x640.size inb_S1024x640_S128x640_512_0).toLoadRect (View.loadsAt_vmem h_S128x640))
  let v61 : Vec F S128x640 .f32 ← Prog.lift (.load arg17 (Rect.unit (s := S1024x640) ![640, 0] S128x640.size inb_S1024x640_S128x640_640_0).toLoadRect (View.loadsAt_vmem h_S128x640))
  let v63 : Vec F S128x640 .f32 ← Prog.lift (.load arg17 (Rect.unit (s := S1024x640) ![768, 0] S128x640.size inb_S1024x640_S128x640_768_0).toLoadRect (View.loadsAt_vmem h_S128x640))
  let v65 : Vec F S128x640 .f32 ← Prog.lift (.load arg17 (Rect.unit (s := S1024x640) ![896, 0] S128x640.size inb_S1024x640_S128x640_896_0).toLoadRect (View.loadsAt_vmem h_S128x640))
  let v82 : Vec F S640x512 .bf16 ← Prog.lift (.load arg11 (Rect.unit (s := S640x512) ![0, 0] S640x512.size inb_S640x512_S640x512_0_0).toLoadRect (View.loadsAt_vmem h_S640x512))
  Prog.lift (.store arg11 (Rect.unit (s := S640x512) ![0, 0] S640x512.size inb_S640x512_S640x512_0_0) (k0_pay9 v52 v53 v55 v57 v59 v61 v63 v65) Finset.univ (View.stores_vmem h_S640x512 (harg11.storeExact_slice rfl _ packedbf16_S640x512_S640x512_0_0) (fun _ => rfl)) (.inl rfl))
  let v83 : Vec F S8x640 .f32 ← Prog.lift (.load arg18 (Rect.unit (s := S8x640) ![0, 0] S8x640.size inb_S8x640_S8x640_0_0).toLoadRect (View.loadsAt_vmem h_S8x640))
  let v84 : Vec F S8x640 .f32 ← Prog.lift (.load arg13 (Rect.unit (s := S8x640) ![0, 0] S8x640.size inb_S8x640_S8x640_0_0).toLoadRect (View.loadsAt_vmem h_S8x640))
  Prog.lift (.store arg13 (Rect.unit (s := S8x640) ![0, 0] S8x640.size inb_S8x640_S8x640_0_0) v83 Finset.univ (View.stores_vmem_bits_univ h_S8x640 rfl) (.inl rfl))
  rest ⟨⟩

/-- The body after the two words of the tables are read: the five regions, each under its condition. -/
noncomputable def tailProg (i : grid0.Coords) (arg1 : Memref sig .tc .smem S91 .i32) (harg1 : arg1.IsWhole) (arg2 : Memref sig .tc .smem S91 .i32) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg9 : Memref sig .tc .hbm S8320x512 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .hbm S8320x128 .f32) (harg12 : arg12.IsWhole) (arg13 : Memref sig .tc .vmem S8x640 .f32) (harg13 : arg13.IsWhole) (arg14 : Memref sig .tc .vmem S8320x512 .f32) (harg14 : arg14.IsWhole) (arg15 : Memref sig .tc .vmem S8320x128 .f32) (harg15 : arg15.IsWhole) (arg16 : Memref sig .tc .vmem S1024x640 .f32) (harg16 : arg16.IsWhole) (arg17 : Memref sig .tc .vmem S1024x640 .f32) (harg17 : arg17.IsWhole) (arg18 : Memref sig .tc .vmem S8x640 .f32) (harg18 : arg18.IsWhole) (arg19 : Memref sig .tc .vmem S640x512 .bf16) (harg19 : arg19.IsWhole) (arg20 : DmaSems sig S2) (v1 v3 : BitVec 32) (k0_hw1 : k0_chk1 v1 v3) : Prog (TpuEff nD τ sig (Elt F) Λ₀ .tc) PUnit :=
  let k4 : PUnit.{1} → Prog (TpuEff nD τ sig (Elt F) Λ₀ .tc) PUnit := fun _ => pure ⟨⟩
  let k3 : PUnit.{1} → Prog (TpuEff nD τ sig (Elt F) Λ₀ .tc) PUnit := fun _ => if _h : k0_cond5 v3 = 1#1 then flushProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k4 else k4 ⟨⟩
  let k2 : PUnit.{1} → Prog (TpuEff nD τ sig (Elt F) Λ₀ .tc) PUnit := fun _ => if k0_h4 : k0_cond4 v1 v3 = 1#1 then diagProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1 k0_h4 k3 else k3 ⟨⟩
  let k1 : PUnit.{1} → Prog (TpuEff nD τ sig (Elt F) Λ₀ .tc) PUnit := fun _ => if k0_h3 : k0_cond3 v1 v3 = 1#1 then offProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1 k0_h3 k2 else k2 ⟨⟩
  let k0 : PUnit.{1} → Prog (TpuEff nD τ sig (Elt F) Λ₀ .tc) PUnit := fun _ => if k0_cond4 v1 v3 = 1#1 then zeroColsProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k1 else k1 ⟨⟩
  if _h : first i = 1#1 then zeroAllProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 k0 else k0 ⟨⟩

/-- The body: two words of the tables, the side condition on them, then the regions. -/
noncomputable def bodyProg (i : grid0.Coords) (arg1 : Memref sig .tc .smem S91 .i32) (harg1 : arg1.IsWhole) (arg2 : Memref sig .tc .smem S91 .i32) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg9 : Memref sig .tc .hbm S8320x512 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .hbm S8320x128 .f32) (harg12 : arg12.IsWhole) (arg13 : Memref sig .tc .vmem S8x640 .f32) (harg13 : arg13.IsWhole) (arg14 : Memref sig .tc .vmem S8320x512 .f32) (harg14 : arg14.IsWhole) (arg15 : Memref sig .tc .vmem S8320x128 .f32) (harg15 : arg15.IsWhole) (arg16 : Memref sig .tc .vmem S1024x640 .f32) (harg16 : arg16.IsWhole) (arg17 : Memref sig .tc .vmem S1024x640 .f32) (harg17 : arg17.IsWhole) (arg18 : Memref sig .tc .vmem S8x640 .f32) (harg18 : arg18.IsWhole) (arg19 : Memref sig .tc .vmem S640x512 .bf16) (harg19 : arg19.IsWhole) (arg20 : DmaSems sig S2) : Prog (TpuEff nD τ sig (Elt F) Λ₀ .tc) PUnit := do
  let v1 : Elt F .i32 ← smemLoad arg1 (Rect.unit (s := S91) (k0_off1 i) S1.size (k0_off1_inb i)) numel1_S1 rfl
  let v3 : Elt F .i32 ← smemLoad arg2 (Rect.unit (s := S91) (k0_off1 i) S1.size (k0_off1_inb i)) numel1_S1 rfl
  have k0_hw1 : k0_chk1 v1 v3 := (← Prog.lift (TpuEff.assume (k0_chk1 v1 v3) (k0_chk1.dec v1 v3))).down
  tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v1 v3 k0_hw1

/-- The printed body is that sequence. -/
theorem body_eq : cc0_attn_bwd (F := F) = bodyProg (F := F) := by
  rw [cc0_attn_bwd_eq_skeleton]; rfl

end Cert.AttnIdeal.Hand

end
-- ==== Proof.AttnBuffers.lean ====
/- THE BUFFERS THE KERNEL KEEPS ACROSS GRID POINTS, by name. -/
module

public import proofs.«01_k».proof.Proof.AttnRegions

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

/-- The first result, in HBM: the gradient of the queries. -/
abbrev dqM : Memref sig .tc .hbm S8320x512 .bf16 := Memref.whole main_v164_0

/-- The result of the row sums, in HBM. -/
abbrev dcqM : Memref sig .tc .hbm S8320x128 .f32 := Memref.whole main_v164_3

/-- The accumulator of the queries' gradient, all rows. -/
abbrev qaccM : Memref sig .tc .vmem S8320x512 .f32 := Memref.whole cc0_scratch0

/-- The accumulator of the row sums, all rows. -/
abbrev saccM : Memref sig .tc .vmem S8320x128 .f32 := Memref.whole cc0_scratch1

/-- The accumulator of one key block's gradient. -/
abbrev kaccM : Memref sig .tc .vmem S1024x640 .f32 := Memref.whole cc0_scratch2

/-- The accumulator of one value block's gradient. -/
abbrev vaccM : Memref sig .tc .vmem S1024x640 .f32 := Memref.whole cc0_scratch3

/-- The accumulator of one key block's column sums. -/
abbrev caccM : Memref sig .tc .vmem S8x640 .f32 := Memref.whole cc0_scratch4

/-- The finished query rows, rounded, before their copy to HBM. -/
abbrev rowM : Memref sig .tc .vmem S640x512 .bf16 := Memref.whole cc0_scratch5

/-- A memref's buffer on core `c` held whole at `f`. -/
abbrev hbPt (c : Dev nD) {sp : Space} {S : Shape} {e : EltTy} (M : Memref sig .tc sp S e) (f : Buf (Elt F) (M.view.loc (c : Thread nD τ))) : sProp 𝕄 :=
  M.view.loc (c : Thread nD τ) ↦{fullShare} f

end Cert.AttnIdeal.Hand

end
-- ==== Proof.AttnZeroAll.lean ====
/- THE FIRST POINT'S REGION: the accumulators of all query rows set to zero. -/
module

public import proofs.«01_k».proof.Proof.AttnBuffers

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

set_option maxHeartbeats 4000000 in
/-- What the region leaves in the buffers it writes, and its triple. -/
noncomputable def zeroAllRun (c : Dev nD) (i : grid0.Coords) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg10 : Memref sig .tc .vmem S640x512 .bf16) (harg10 : arg10.IsWhole) (arg11 : Memref sig .tc .vmem S640x512 .bf16) (harg11 : arg11.IsWhole) (arg13 : Memref sig .tc .vmem S8x640 .f32) (harg13 : arg13.IsWhole)
    (x14 : Vec F S8320x512 .f32) (x15 : Vec F S8320x128 .f32) :
    Σ' (y14 : Vec F S8320x512 .f32), { y15 : Vec F S8320x128 .f32 //
      ∀ (K : PUnit → sProp 𝕄) (rest : PUnit → Prog (TpuEff nD τ sig (Elt F) Λ₀ .tc) PUnit),
        iprop(hbPt c qaccM x14 ∗ hbPt c saccM x15
            ∗ (iprop(hbPt c qaccM y14 ∗ hbPt c saccM y15)
              -∗ wp frame (wpE (defs₀ (F := F)) Variants.none c none) Set.univ (rest ⟨⟩) K))
          ⊢ wp frame (wpE (defs₀ (F := F)) Variants.none c none) Set.univ (zeroAllProg i (Memref.whole main_c) (Memref.isWhole_whole _) (Memref.whole main_c_0) (Memref.isWhole_whole _) arg3 harg3 arg4 harg4 arg5 harg5 arg6 harg6 arg7 harg7 arg8 harg8 dqM (Memref.isWhole_whole _) arg10 harg10 arg11 harg11 dcqM (Memref.isWhole_whole _) arg13 harg13 qaccM (Memref.isWhole_whole _) saccM (Memref.isWhole_whole _) kaccM (Memref.isWhole_whole _) vaccM (Memref.isWhole_whole _) caccM (Memref.isWhole_whole _) rowM (Memref.isWhole_whole _) cc0_scratch6 rest) K } := by
  refine ⟨?_, ?_, fun K rest => ?run⟩
  case run =>
    unfold zeroAllProg

    iintro ⟨H14, H15, Hk⟩
    sl_exec

    iapply Hk
    isplitl [H14]
    · iexact H14
    iexact H15

end Cert.AttnIdeal.Hand

end
-- ==== Proof.AttnZeroCols.lean ====
/- THE REGION THAT BEGINS A KEY BLOCK: its accumulators set to zero. -/
module

public import proofs.«01_k».proof.Proof.AttnBuffers

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

set_option maxHeartbeats 4000000 in
/-- What the region leaves in the buffers it writes, and its triple. -/
noncomputable def zeroColsRun (c : Dev nD) (i : grid0.Coords) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg10 : Memref sig .tc .vmem S640x512 .bf16) (harg10 : arg10.IsWhole) (arg11 : Memref sig .tc .vmem S640x512 .bf16) (harg11 : arg11.IsWhole) (arg13 : Memref sig .tc .vmem S8x640 .f32) (harg13 : arg13.IsWhole)
    (x16 : Vec F S1024x640 .f32) (x17 : Vec F S1024x640 .f32) (x18 : Vec F S8x640 .f32) :
    Σ' (y16 : Vec F S1024x640 .f32), Σ' (y17 : Vec F S1024x640 .f32), { y18 : Vec F S8x640 .f32 //
      ∀ (K : PUnit → sProp 𝕄) (rest : PUnit → Prog (TpuEff nD τ sig (Elt F) Λ₀ .tc) PUnit),
        iprop(hbPt c kaccM x16 ∗ hbPt c vaccM x17 ∗ hbPt c caccM x18
            ∗ (iprop(hbPt c kaccM y16 ∗ hbPt c vaccM y17 ∗ hbPt c caccM y18)
              -∗ wp frame (wpE (defs₀ (F := F)) Variants.none c none) Set.univ (rest ⟨⟩) K))
          ⊢ wp frame (wpE (defs₀ (F := F)) Variants.none c none) Set.univ (zeroColsProg i (Memref.whole main_c) (Memref.isWhole_whole _) (Memref.whole main_c_0) (Memref.isWhole_whole _) arg3 harg3 arg4 harg4 arg5 harg5 arg6 harg6 arg7 harg7 arg8 harg8 dqM (Memref.isWhole_whole _) arg10 harg10 arg11 harg11 dcqM (Memref.isWhole_whole _) arg13 harg13 qaccM (Memref.isWhole_whole _) saccM (Memref.isWhole_whole _) kaccM (Memref.isWhole_whole _) vaccM (Memref.isWhole_whole _) caccM (Memref.isWhole_whole _) rowM (Memref.isWhole_whole _) cc0_scratch6 rest) K } := by
  refine ⟨?_, ?_, ?_, fun K rest => ?run⟩
  case run =>
    unfold zeroColsProg

    iintro ⟨H16, H17, H18, Hk⟩
    sl_exec

    iapply Hk
    isplitl [H16]
    · iexact H16
    isplitl [H17]
    · iexact H17
    iexact H18

end Cert.AttnIdeal.Hand

end
-- ==== Proof.AttnOff.lean ====
/- THE REGION OFF THE DIAGONAL: what one query block strictly below the key block adds to the accumulators. -/
module

public import proofs.«01_k».proof.Proof.AttnBuffers

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

set_option maxHeartbeats 4000000 in
/-- What the region leaves in the buffers it writes, and its triple. -/
noncomputable def offRun (c : Dev nD) (i : grid0.Coords) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg10 : Memref sig .tc .vmem S640x512 .bf16) (harg10 : arg10.IsWhole) (arg11 : Memref sig .tc .vmem S640x512 .bf16) (harg11 : arg11.IsWhole) (arg13 : Memref sig .tc .vmem S8x640 .f32) (harg13 : arg13.IsWhole) (v1 v3 : BitVec 32) (k0_hw1 : k0_chk1 v1 v3) (k0_h : k0_cond3 v1 v3 = 1#1)
    (x3 : Vec F S640x1024 .bf16) (x4 : Vec F S640x1024 .bf16) (x5 : Vec F S1024x640 .bf16) (x6 : Vec F S1024x640 .bf16) (x7 : Vec F S640x1024 .bf16) (x8 : Vec F S640x1024 .bf16) (x14 : Vec F S8320x512 .f32) (x15 : Vec F S8320x128 .f32) (x16 : Vec F S1024x640 .f32) (x17 : Vec F S1024x640 .f32) (x18 : Vec F S8x640 .f32) :
    Σ' (y14 : Vec F S8320x512 .f32), Σ' (y15 : Vec F S8320x128 .f32), Σ' (y16 : Vec F S1024x640 .f32), Σ' (y17 : Vec F S1024x640 .f32), { y18 : Vec F S8x640 .f32 //
      ∀ (K : PUnit → sProp 𝕄) (rest : PUnit → Prog (TpuEff nD τ sig (Elt F) Λ₀ .tc) PUnit),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ hbPt c qaccM x14 ∗ hbPt c saccM x15 ∗ hbPt c kaccM x16 ∗ hbPt c vaccM x17 ∗ hbPt c caccM x18
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ hbPt c qaccM y14 ∗ hbPt c saccM y15 ∗ hbPt c kaccM y16 ∗ hbPt c vaccM y17 ∗ hbPt c caccM y18)
              -∗ wp frame (wpE (defs₀ (F := F)) Variants.none c none) Set.univ (rest ⟨⟩) K))
          ⊢ wp frame (wpE (defs₀ (F := F)) Variants.none c none) Set.univ (offProg i (Memref.whole main_c) (Memref.isWhole_whole _) (Memref.whole main_c_0) (Memref.isWhole_whole _) arg3 harg3 arg4 harg4 arg5 harg5 arg6 harg6 arg7 harg7 arg8 harg8 dqM (Memref.isWhole_whole _) arg10 harg10 arg11 harg11 dcqM (Memref.isWhole_whole _) arg13 harg13 qaccM (Memref.isWhole_whole _) saccM (Memref.isWhole_whole _) kaccM (Memref.isWhole_whole _) vaccM (Memref.isWhole_whole _) caccM (Memref.isWhole_whole _) rowM (Memref.isWhole_whole _) cc0_scratch6 v1 v3 k0_hw1 k0_h rest) K } := by
  refine ⟨?_, ?_, ?_, ?_, ?_, fun K rest => ?run⟩
  case run =>
    unfold offProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, H14, H15, H16, H17, H18, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec

    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H14]
    · iexact H14
    isplitl [H15]
    · iexact H15
    isplitl [H16]
    · iexact H16
    isplitl [H17]
    · iexact H17
    iexact H18

end Cert.AttnIdeal.Hand

end
-- ==== Proof.AttnDiag.lean ====
/- THE REGION ON THE DIAGONAL: what the query block on the diagonal adds to the accumulators, and the copies of its finished rows. -/
module

public import proofs.«01_k».proof.Proof.AttnBuffers

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

set_option maxHeartbeats 4000000 in
/-- What the region leaves in the buffers it writes, and its triple. -/
noncomputable def diagRun (c : Dev nD) (i : grid0.Coords) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg10 : Memref sig .tc .vmem S640x512 .bf16) (harg10 : arg10.IsWhole) (arg11 : Memref sig .tc .vmem S640x512 .bf16) (harg11 : arg11.IsWhole) (arg13 : Memref sig .tc .vmem S8x640 .f32) (harg13 : arg13.IsWhole) (v1 v3 : BitVec 32) (k0_hw1 : k0_chk1 v1 v3) (k0_h : k0_cond4 v1 v3 = 1#1)
    (x3 : Vec F S640x1024 .bf16) (x4 : Vec F S640x1024 .bf16) (x5 : Vec F S1024x640 .bf16) (x6 : Vec F S1024x640 .bf16) (x7 : Vec F S640x1024 .bf16) (x8 : Vec F S640x1024 .bf16) (x9 : Vec F S8320x512 .bf16) (x12 : Vec F S8320x128 .f32) (x14 : Vec F S8320x512 .f32) (x15 : Vec F S8320x128 .f32) (x16 : Vec F S1024x640 .f32) (x17 : Vec F S1024x640 .f32) (x18 : Vec F S8x640 .f32) (x19 : Vec F S640x512 .bf16) :
    Σ' (y9 : Vec F S8320x512 .bf16), Σ' (y12 : Vec F S8320x128 .f32), Σ' (y14 : Vec F S8320x512 .f32), Σ' (y15 : Vec F S8320x128 .f32), Σ' (y16 : Vec F S1024x640 .f32), Σ' (y17 : Vec F S1024x640 .f32), Σ' (y18 : Vec F S8x640 .f32), { y19 : Vec F S640x512 .bf16 //
      ∀ (W : Waits sig Unit) (K : PUnit → sProp 𝕄) (rest : PUnit → Prog (TpuEff nD τ sig (Elt F) Λ₀ .tc) PUnit),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ hbPt c dqM x9 ∗ hbPt c dcqM x12 ∗ hbPt c qaccM x14 ∗ hbPt c saccM x15 ∗ hbPt c kaccM x16 ∗ hbPt c vaccM x17 ∗ hbPt c caccM x18 ∗ hbPt c rowM x19 ∗ semVal ((c : Thread nD τ), SemLoc.dma 18) 0 ∗ semVal ((c : Thread nD τ), SemLoc.dma 19) 0 ∗ owes (c : Thread nD τ) 0 W
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ hbPt c dqM y9 ∗ hbPt c dcqM y12 ∗ hbPt c qaccM y14 ∗ hbPt c saccM y15 ∗ hbPt c kaccM y16 ∗ hbPt c vaccM y17 ∗ hbPt c caccM y18 ∗ hbPt c rowM y19 ∗ semVal ((c : Thread nD τ), SemLoc.dma 18) 0 ∗ semVal ((c : Thread nD τ), SemLoc.dma 19) 0 ∗ (∃ W', owes (c : Thread nD τ) 0 W'))
              -∗ wp frame (wpE (defs₀ (F := F)) Variants.none c none) Set.univ (rest ⟨⟩) K))
          ⊢ wp frame (wpE (defs₀ (F := F)) Variants.none c none) Set.univ (diagProg i (Memref.whole main_c) (Memref.isWhole_whole _) (Memref.whole main_c_0) (Memref.isWhole_whole _) arg3 harg3 arg4 harg4 arg5 harg5 arg6 harg6 arg7 harg7 arg8 harg8 dqM (Memref.isWhole_whole _) arg10 harg10 arg11 harg11 dcqM (Memref.isWhole_whole _) arg13 harg13 qaccM (Memref.isWhole_whole _) saccM (Memref.isWhole_whole _) kaccM (Memref.isWhole_whole _) vaccM (Memref.isWhole_whole _) caccM (Memref.isWhole_whole _) rowM (Memref.isWhole_whole _) cc0_scratch6 v1 v3 k0_hw1 k0_h rest) K } := by
  refine ⟨?_, ?_, ?_, ?_, ?_, ?_, ?_, ?_, fun W K rest => ?run⟩
  case run =>
    unfold diagProg
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, H9, H12, H14, H15, H16, H17, H18, H19, Hq0, Hq1, HW, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec

    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexact H9
    isplitl [H12]
    · iexact H12
    isplitl [H14]
    · iexact H14
    isplitl [H15]
    · iexact H15
    isplitl [H16]
    · iexact H16
    isplitl [H17]
    · iexact H17
    isplitl [H18]
    · iexact H18
    isplitl [H19]
    · iexact H19
    isplitl [Hq0]
    · iexact Hq0
    isplitl [Hq1]
    · iexact Hq1
    iexists _; iexact HW

end Cert.AttnIdeal.Hand

end
-- ==== Proof.AttnFlush.lean ====
/- THE REGION THAT ENDS A KEY BLOCK: its accumulators rounded into the block's results. -/
module

public import proofs.«01_k».proof.Proof.AttnBuffers

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

set_option maxHeartbeats 4000000 in
/-- What the region leaves in the buffers it writes, and its triple. -/
noncomputable def flushRun (c : Dev nD) (i : grid0.Coords) (arg3 : Memref sig .tc .vmem S640x1024 .bf16) (harg3 : arg3.IsWhole) (arg4 : Memref sig .tc .vmem S640x1024 .bf16) (harg4 : arg4.IsWhole) (arg5 : Memref sig .tc .vmem S1024x640 .bf16) (harg5 : arg5.IsWhole) (arg6 : Memref sig .tc .vmem S1024x640 .bf16) (harg6 : arg6.IsWhole) (arg7 : Memref sig .tc .vmem S640x1024 .bf16) (harg7 : arg7.IsWhole) (arg8 : Memref sig .tc .vmem S640x1024 .bf16) (harg8 : arg8.IsWhole) (arg10 : Memref sig .tc .vmem S640x512 .bf16) (harg10 : arg10.IsWhole) (arg11 : Memref sig .tc .vmem S640x512 .bf16) (harg11 : arg11.IsWhole) (arg13 : Memref sig .tc .vmem S8x640 .f32) (harg13 : arg13.IsWhole)
    (x10 : Vec F S640x512 .bf16) (x11 : Vec F S640x512 .bf16) (x13 : Vec F S8x640 .f32) (x16 : Vec F S1024x640 .f32) (x17 : Vec F S1024x640 .f32) (x18 : Vec F S8x640 .f32) :
    Σ' (y10 : Vec F S640x512 .bf16), Σ' (y11 : Vec F S640x512 .bf16), { y13 : Vec F S8x640 .f32 //
      ∀ (K : PUnit → sProp 𝕄) (rest : PUnit → Prog (TpuEff nD τ sig (Elt F) Λ₀ .tc) PUnit),
        iprop(owns (c : Thread nD τ) arg10 fullShare x10 ∗ owns (c : Thread nD τ) arg11 fullShare x11 ∗ owns (c : Thread nD τ) arg13 fullShare x13 ∗ hbPt c kaccM x16 ∗ hbPt c vaccM x17 ∗ hbPt c caccM x18
            ∗ (iprop(owns (c : Thread nD τ) arg10 fullShare y10 ∗ owns (c : Thread nD τ) arg11 fullShare y11 ∗ owns (c : Thread nD τ) arg13 fullShare y13 ∗ hbPt c kaccM x16 ∗ hbPt c vaccM x17 ∗ hbPt c caccM x18)
              -∗ wp frame (wpE (defs₀ (F := F)) Variants.none c none) Set.univ (rest ⟨⟩) K))
          ⊢ wp frame (wpE (defs₀ (F := F)) Variants.none c none) Set.univ (flushProg i (Memref.whole main_c) (Memref.isWhole_whole _) (Memref.whole main_c_0) (Memref.isWhole_whole _) arg3 harg3 arg4 harg4 arg5 harg5 arg6 harg6 arg7 harg7 arg8 harg8 dqM (Memref.isWhole_whole _) arg10 harg10 arg11 harg11 dcqM (Memref.isWhole_whole _) arg13 harg13 qaccM (Memref.isWhole_whole _) saccM (Memref.isWhole_whole _) kaccM (Memref.isWhole_whole _) vaccM (Memref.isWhole_whole _) caccM (Memref.isWhole_whole _) rowM (Memref.isWhole_whole _) cc0_scratch6 rest) K } := by
  refine ⟨?_, ?_, ?_, fun K rest => ?run⟩
  case run =>
    unfold flushProg
    simp only [k0_part27_eq_skeleton]
    unfold owns
    iintro ⟨⟨%f10, %hf10, H10⟩, ⟨%f11, %hf11, H11⟩, ⟨%f13, %hf13, H13⟩, H16, H17, H18, Hk⟩
    obtain rfl := harg10.eq_unread hf10
    obtain rfl := harg11.eq_unread hf11
    obtain rfl := harg13.eq_unread hf13
    sl_exec

    iapply Hk
    isplitl [H10]
    · iexists _; isplitr
      swap; · iexact H10
      ipureintro; rfl
    isplitl [H11]
    · iexists _; isplitr
      swap; · iexact H11
      ipureintro; rfl
    isplitl [H13]
    · iexists _; isplitr
      swap; · iexact H13
      ipureintro; rfl
    isplitl [H16]
    · iexact H16
    isplitl [H17]
    · iexact H17
    iexact H18

end Cert.AttnIdeal.Hand

end
-- ==== Proof.AttnTables.lean ====
/- THE TWO TABLES: the key block and the query block of every grid point. -/
module

public import proofs.«01_k».proof.Proof.AttnBuffers

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

/-- The tables' contents: the key block and the query block of each point, as the program's constants list them. -/
def tabs : pre0.Contents (Elt F) := fun
  | 0 => fun x => lit0 (S91.rowMajor x)
  | 1 => fun x => lit1 (S91.rowMajor x)
  | ⟨_ + 2, h⟩ => absurd h (Nat.not_lt.2 (Nat.le_add_left _ _))

/-- The key block of a point. -/
def kbOf (i : grid0.Coords) : BitVec 32 := lit0 ⟨(i 0).val, (i 0).isLt⟩
/-- The query block of a point. -/
def qbOf (i : grid0.Coords) : BitVec 32 := lit1 ⟨(i 0).val, (i 0).isLt⟩

/-- The table index a point reads is the point's number. -/
theorem rowIdx : ∀ i : grid0.Coords, (S91.rowMajor ((Rect.unit (s := S91) (k0_off1 i) S1.size (k0_off1_inb i)).emb (Shape.Idx.first (numel1_S1.symm ▸ Nat.one_pos)))).val = (i 0).val := by
  decide +kernel

theorem at0 (i : grid0.Coords) : (tabs (F := F)).at 0 (Rect.unit (s := S91) (k0_off1 i) S1.size (k0_off1_inb i)) numel1_S1 = kbOf i :=
  congrArg lit0 (Fin.ext (rowIdx i))
theorem at1 (i : grid0.Coords) : (tabs (F := F)).at 1 (Rect.unit (s := S91) (k0_off1 i) S1.size (k0_off1_inb i)) numel1_S1 = qbOf i :=
  congrArg lit1 (Fin.ext (rowIdx i))

theorem tr0 (i : grid0.Coords) : cc0_transform_0 k0_off1_inb numel1_S1 (tabs (F := F)) i = ![(qbOf i).toNat, 0] := by
  show ![((tabs (F := F)).at 1 (Rect.unit (s := S91) (k0_off1 i) S1.size (k0_off1_inb i)) numel1_S1 : BitVec 32).toNat, 0] = _
  rw [at1]

theorem tr1 (i : grid0.Coords) : cc0_transform_1 k0_off1_inb numel1_S1 (tabs (F := F)) i = ![(qbOf i).toNat, 0] := by
  show ![((tabs (F := F)).at 1 (Rect.unit (s := S91) (k0_off1 i) S1.size (k0_off1_inb i)) numel1_S1 : BitVec 32).toNat, 0] = _
  rw [at1]

theorem tr2 (i : grid0.Coords) : cc0_transform_2 k0_off1_inb numel1_S1 (tabs (F := F)) i = ![0, (qbOf i).toNat] := by
  show ![0, ((tabs (F := F)).at 1 (Rect.unit (s := S91) (k0_off1 i) S1.size (k0_off1_inb i)) numel1_S1 : BitVec 32).toNat] = _
  rw [at1]

theorem tr3 (i : grid0.Coords) : cc0_transform_3 k0_off1_inb numel1_S1 (tabs (F := F)) i = ![0, (qbOf i).toNat] := by
  show ![0, ((tabs (F := F)).at 1 (Rect.unit (s := S91) (k0_off1 i) S1.size (k0_off1_inb i)) numel1_S1 : BitVec 32).toNat] = _
  rw [at1]

theorem tr4 (i : grid0.Coords) : cc0_transform_4 k0_off1_inb numel1_S1 (tabs (F := F)) i = ![(kbOf i).toNat, 0] := by
  show ![((tabs (F := F)).at 0 (Rect.unit (s := S91) (k0_off1 i) S1.size (k0_off1_inb i)) numel1_S1 : BitVec 32).toNat, 0] = _
  rw [at0]

theorem tr5 (i : grid0.Coords) : cc0_transform_5 k0_off1_inb numel1_S1 (tabs (F := F)) i = ![(kbOf i).toNat, 0] := by
  show ![((tabs (F := F)).at 0 (Rect.unit (s := S91) (k0_off1 i) S1.size (k0_off1_inb i)) numel1_S1 : BitVec 32).toNat, 0] = _
  rw [at0]

theorem tr7 (i : grid0.Coords) : cc0_transform_7 k0_off1_inb numel1_S1 (tabs (F := F)) i = ![(kbOf i).toNat, 0] := by
  show ![((tabs (F := F)).at 0 (Rect.unit (s := S91) (k0_off1 i) S1.size (k0_off1_inb i)) numel1_S1 : BitVec 32).toNat, 0] = _
  rw [at0]

theorem tr8 (i : grid0.Coords) : cc0_transform_8 k0_off1_inb numel1_S1 (tabs (F := F)) i = ![(kbOf i).toNat, 0] := by
  show ![((tabs (F := F)).at 0 (Rect.unit (s := S91) (k0_off1 i) S1.size (k0_off1_inb i)) numel1_S1 : BitVec 32).toNat, 0] = _
  rw [at0]

theorem tr10 (i : grid0.Coords) : cc0_transform_10 k0_off1_inb numel1_S1 (tabs (F := F)) i = ![0, (kbOf i).toNat] := by
  show ![0, ((tabs (F := F)).at 0 (Rect.unit (s := S91) (k0_off1 i) S1.size (k0_off1_inb i)) numel1_S1 : BitVec 32).toNat] = _
  rw [at0]

theorem blk0 : ∀ i : grid0.Coords, ∃ h : (∀ a, (![(qbOf i).toNat, 0] a + 1) * S640x1024.size a ≤ S8320x1024.size a), EltTy.bits .bf16 = 32 ∨ (Rect.block (s := S8320x1024) S640x1024.size ![(qbOf i).toNat, 0] h).WholeWords (EltTy.packing .bf16) := by
  decide +kernel

theorem blk1 : ∀ i : grid0.Coords, ∃ h : (∀ a, (![(qbOf i).toNat, 0] a + 1) * S640x1024.size a ≤ S8320x1024.size a), EltTy.bits .bf16 = 32 ∨ (Rect.block (s := S8320x1024) S640x1024.size ![(qbOf i).toNat, 0] h).WholeWords (EltTy.packing .bf16) := by
  decide +kernel

theorem blk2 : ∀ i : grid0.Coords, ∃ h : (∀ a, (![0, (qbOf i).toNat] a + 1) * S1024x640.size a ≤ S1024x8320.size a), EltTy.bits .bf16 = 32 ∨ (Rect.block (s := S1024x8320) S1024x640.size ![0, (qbOf i).toNat] h).WholeWords (EltTy.packing .bf16) := by
  decide +kernel

theorem blk3 : ∀ i : grid0.Coords, ∃ h : (∀ a, (![0, (qbOf i).toNat] a + 1) * S1024x640.size a ≤ S1024x8320.size a), EltTy.bits .bf16 = 32 ∨ (Rect.block (s := S1024x8320) S1024x640.size ![0, (qbOf i).toNat] h).WholeWords (EltTy.packing .bf16) := by
  decide +kernel

theorem blk4 : ∀ i : grid0.Coords, ∃ h : (∀ a, (![(kbOf i).toNat, 0] a + 1) * S640x1024.size a ≤ S8320x1024.size a), EltTy.bits .bf16 = 32 ∨ (Rect.block (s := S8320x1024) S640x1024.size ![(kbOf i).toNat, 0] h).WholeWords (EltTy.packing .bf16) := by
  decide +kernel

theorem blk5 : ∀ i : grid0.Coords, ∃ h : (∀ a, (![(kbOf i).toNat, 0] a + 1) * S640x1024.size a ≤ S8320x1024.size a), EltTy.bits .bf16 = 32 ∨ (Rect.block (s := S8320x1024) S640x1024.size ![(kbOf i).toNat, 0] h).WholeWords (EltTy.packing .bf16) := by
  decide +kernel

theorem blk7 : ∀ i : grid0.Coords, ∃ h : (∀ a, (![(kbOf i).toNat, 0] a + 1) * S640x512.size a ≤ S8320x512.size a), EltTy.bits .bf16 = 32 ∨ (Rect.block (s := S8320x512) S640x512.size ![(kbOf i).toNat, 0] h).WholeWords (EltTy.packing .bf16) := by
  decide +kernel

theorem blk8 : ∀ i : grid0.Coords, ∃ h : (∀ a, (![(kbOf i).toNat, 0] a + 1) * S640x512.size a ≤ S8320x512.size a), EltTy.bits .bf16 = 32 ∨ (Rect.block (s := S8320x512) S640x512.size ![(kbOf i).toNat, 0] h).WholeWords (EltTy.packing .bf16) := by
  decide +kernel

theorem blk10 : ∀ i : grid0.Coords, ∃ h : (∀ a, (![0, (kbOf i).toNat] a + 1) * S8x640.size a ≤ S8x8320.size a), EltTy.bits .f32 = 32 ∨ (Rect.block (s := S8x8320) S8x640.size ![0, (kbOf i).toNat] h).WholeWords (EltTy.packing .f32) := by
  decide +kernel

/-- Every block the tables name lies inside its array, and its words are whole. -/
theorem ok_tabs : ok0 (tabs (F := F)) := by
  unfold ok0
  exact ⟨fun i => by simp only [tr0]; exact blk0 i, fun i => by simp only [tr1]; exact blk1 i, fun i => by simp only [tr2]; exact blk2 i, fun i => by simp only [tr3]; exact blk3 i, fun i => by simp only [tr4]; exact blk4 i, fun i => by simp only [tr5]; exact blk5 i, fun i => by simp only [tr7]; exact blk7 i, fun i => by simp only [tr8]; exact blk8 i, fun i => by simp only [tr10]; exact blk10 i⟩

/-- The tables, admitted. -/
def adm : (pcfg0 (F := F)).Adm := ⟨tabs, ok_tabs⟩

/-- The side conditions the kernel assumes of the two words it reads hold at every point. -/
theorem chk : ∀ i : grid0.Coords, k0_chk1 (kbOf i) (qbOf i) := by
  intro i
  have h : decide (k0_chk1 (kbOf i) (qbOf i)) = true := by revert i; decide +kernel
  exact of_decide_eq_true h

end Cert.AttnIdeal.Hand

end
-- ==== Proof.AttnBody.lean ====
/- THE BODY AT ONE POINT: the five regions composed, as a step from the buffers' contents before the point to those after it. -/
module

public import proofs.«01_k».proof.Proof.AttnZeroAll
public import proofs.«01_k».proof.Proof.AttnZeroCols
public import proofs.«01_k».proof.Proof.AttnOff
public import proofs.«01_k».proof.Proof.AttnDiag
public import proofs.«01_k».proof.Proof.AttnFlush
public import proofs.«01_k».proof.Proof.AttnTables

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

/-- The staging buffers of one point. -/
structure Stg where
  a3 : Memref sig .tc .vmem S640x1024 .bf16
  h3 : a3.IsWhole
  a4 : Memref sig .tc .vmem S640x1024 .bf16
  h4 : a4.IsWhole
  a5 : Memref sig .tc .vmem S1024x640 .bf16
  h5 : a5.IsWhole
  a6 : Memref sig .tc .vmem S1024x640 .bf16
  h6 : a6.IsWhole
  a7 : Memref sig .tc .vmem S640x1024 .bf16
  h7 : a7.IsWhole
  a8 : Memref sig .tc .vmem S640x1024 .bf16
  h8 : a8.IsWhole
  a10 : Memref sig .tc .vmem S640x512 .bf16
  h10 : a10.IsWhole
  a11 : Memref sig .tc .vmem S640x512 .bf16
  h11 : a11.IsWhole
  a13 : Memref sig .tc .vmem S8x640 .f32
  h13 : a13.IsWhole

/-- The six blocks a point reads. -/
structure Blk (F : FTy → Type) [FloatOps F] [Named F] where
  b3 : Vec F S640x1024 .bf16
  b4 : Vec F S640x1024 .bf16
  b5 : Vec F S1024x640 .bf16
  b6 : Vec F S1024x640 .bf16
  b7 : Vec F S640x1024 .bf16
  b8 : Vec F S640x1024 .bf16

/-- The contents of the buffers kept across points: the two results in HBM, the five accumulators, the rounded rows. -/
structure St (F : FTy → Type) [FloatOps F] [Named F] where
  dq : Vec F S8320x512 .bf16
  dcq : Vec F S8320x128 .f32
  q : Vec F S8320x512 .f32
  s : Vec F S8320x128 .f32
  k : Vec F S1024x640 .f32
  v : Vec F S1024x640 .f32
  c : Vec F S8x640 .f32
  row : Vec F S640x512 .bf16

/-- The staging buffers of the inputs, at their blocks. -/
def stages (c : Dev nD) (g : Stg) (b : Blk F) : sProp 𝕄 :=
  iprop(owns (c : Thread nD τ) g.a3 fullShare b.b3 ∗ owns (c : Thread nD τ) g.a4 fullShare b.b4 ∗ owns (c : Thread nD τ) g.a5 fullShare b.b5 ∗ owns (c : Thread nD τ) g.a6 fullShare b.b6 ∗ owns (c : Thread nD τ) g.a7 fullShare b.b7 ∗ owns (c : Thread nD τ) g.a8 fullShare b.b8)
/-- The buffers kept across points. -/
def kept (c : Dev nD) (S : St F) : sProp 𝕄 :=
  iprop(hbPt c dqM S.dq ∗ hbPt c dcqM S.dcq ∗ hbPt c qaccM S.q ∗ hbPt c saccM S.s ∗ hbPt c kaccM S.k ∗ hbPt c vaccM S.v ∗ hbPt c caccM S.c ∗ hbPt c rowM S.row)
/-- The two copy semaphores at rest, and what the core owes. -/
def rest0 (c : Dev nD) : sProp 𝕄 :=
  iprop(semVal ((c : Thread nD τ), SemLoc.dma 18) 0 ∗ semVal ((c : Thread nD τ), SemLoc.dma 19) 0 ∗ ∃ W, owes (c : Thread nD τ) 0 W)
/-- All of these. -/
def inv (c : Dev nD) (g : Stg) (b : Blk F) (S : St F) : sProp 𝕄 := iprop(stages c g b ∗ kept c S ∗ rest0 c)

/-- The accumulators of the query rows set to zero. -/
noncomputable def zeroAllSt (c : Dev nD) (i : grid0.Coords) (g : Stg)  (b : Blk F) (S : St F) : St F :=
  let r := zeroAllRun c i g.a3 g.h3 g.a4 g.h4 g.a5 g.h5 g.a6 g.h6 g.a7 g.h7 g.a8 g.h8 g.a10 g.h10 g.a11 g.h11 g.a13 g.h13 S.q S.s
  { S with q := r.1, s := r.2.1 }

theorem zeroAll_step (c : Dev nD) (i : grid0.Coords) (g : Stg)  (b : Blk F) (S : St F) (K : PUnit → sProp 𝕄) (k : PUnit.{1} → Prog (TpuEff nD τ sig (Elt F) Λ₀ .tc) PUnit) :
    iprop(inv c g b S ∗ (inv c g b (zeroAllSt c i g b S) -∗ wp frame (wpE (defs₀ (F := F)) Variants.none c none) Set.univ (k ⟨⟩) K))
      ⊢ wp frame (wpE (defs₀ (F := F)) Variants.none c none) Set.univ (zeroAllProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 k) K := by
  unfold inv stages kept rest0
  iintro ⟨⟨⟨H3, H4, H5, H6, H7, H8⟩, ⟨H9, H12, H14, H15, H16, H17, H18, H19⟩, ⟨Hq0, Hq1, %W, HW⟩⟩, Hk⟩
  iapply (zeroAllRun c i g.a3 g.h3 g.a4 g.h4 g.a5 g.h5 g.a6 g.h6 g.a7 g.h7 g.a8 g.h8 g.a10 g.h10 g.a11 g.h11 g.a13 g.h13 S.q S.s).2.2 K k
  iframe
  iintro ⟨H14, H15⟩
  iapply Hk
  unfold zeroAllSt
  skip
  iframe
  iexists _; iexact HW

/-- A key block's accumulators set to zero. -/
noncomputable def zeroColsSt (c : Dev nD) (i : grid0.Coords) (g : Stg)  (b : Blk F) (S : St F) : St F :=
  let r := zeroColsRun c i g.a3 g.h3 g.a4 g.h4 g.a5 g.h5 g.a6 g.h6 g.a7 g.h7 g.a8 g.h8 g.a10 g.h10 g.a11 g.h11 g.a13 g.h13 S.k S.v S.c
  { S with k := r.1, v := r.2.1, c := r.2.2.1 }

theorem zeroCols_step (c : Dev nD) (i : grid0.Coords) (g : Stg)  (b : Blk F) (S : St F) (K : PUnit → sProp 𝕄) (k : PUnit.{1} → Prog (TpuEff nD τ sig (Elt F) Λ₀ .tc) PUnit) :
    iprop(inv c g b S ∗ (inv c g b (zeroColsSt c i g b S) -∗ wp frame (wpE (defs₀ (F := F)) Variants.none c none) Set.univ (k ⟨⟩) K))
      ⊢ wp frame (wpE (defs₀ (F := F)) Variants.none c none) Set.univ (zeroColsProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 k) K := by
  unfold inv stages kept rest0
  iintro ⟨⟨⟨H3, H4, H5, H6, H7, H8⟩, ⟨H9, H12, H14, H15, H16, H17, H18, H19⟩, ⟨Hq0, Hq1, %W, HW⟩⟩, Hk⟩
  iapply (zeroColsRun c i g.a3 g.h3 g.a4 g.h4 g.a5 g.h5 g.a6 g.h6 g.a7 g.h7 g.a8 g.h8 g.a10 g.h10 g.a11 g.h11 g.a13 g.h13 S.k S.v S.c).2.2.2 K k
  iframe
  iintro ⟨H16, H17, H18⟩
  iapply Hk
  unfold zeroColsSt
  skip
  iframe
  iexists _; iexact HW

/-- What a query block below the diagonal adds. -/
noncomputable def offSt (c : Dev nD) (i : grid0.Coords) (g : Stg) (v1 v3 : BitVec 32) (hw : k0_chk1 v1 v3) (h : k0_cond3 v1 v3 = 1#1) (b : Blk F) (S : St F) : St F :=
  let r := offRun c i g.a3 g.h3 g.a4 g.h4 g.a5 g.h5 g.a6 g.h6 g.a7 g.h7 g.a8 g.h8 g.a10 g.h10 g.a11 g.h11 g.a13 g.h13 v1 v3 hw h b.b3 b.b4 b.b5 b.b6 b.b7 b.b8 S.q S.s S.k S.v S.c
  { S with q := r.1, s := r.2.1, k := r.2.2.1, v := r.2.2.2.1, c := r.2.2.2.2.1 }

theorem off_step (c : Dev nD) (i : grid0.Coords) (g : Stg) (v1 v3 : BitVec 32) (hw : k0_chk1 v1 v3) (h : k0_cond3 v1 v3 = 1#1) (b : Blk F) (S : St F) (K : PUnit → sProp 𝕄) (k : PUnit.{1} → Prog (TpuEff nD τ sig (Elt F) Λ₀ .tc) PUnit) :
    iprop(inv c g b S ∗ (inv c g b (offSt c i g v1 v3 hw h b S) -∗ wp frame (wpE (defs₀ (F := F)) Variants.none c none) Set.univ (k ⟨⟩) K))
      ⊢ wp frame (wpE (defs₀ (F := F)) Variants.none c none) Set.univ (offProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 v1 v3 hw h k) K := by
  unfold inv stages kept rest0
  iintro ⟨⟨⟨H3, H4, H5, H6, H7, H8⟩, ⟨H9, H12, H14, H15, H16, H17, H18, H19⟩, ⟨Hq0, Hq1, %W, HW⟩⟩, Hk⟩
  iapply (offRun c i g.a3 g.h3 g.a4 g.h4 g.a5 g.h5 g.a6 g.h6 g.a7 g.h7 g.a8 g.h8 g.a10 g.h10 g.a11 g.h11 g.a13 g.h13 v1 v3 hw h b.b3 b.b4 b.b5 b.b6 b.b7 b.b8 S.q S.s S.k S.v S.c).2.2.2.2.2 K k
  iframe
  iintro ⟨H3, H4, H5, H6, H7, H8, H14, H15, H16, H17, H18⟩
  iapply Hk
  unfold offSt
  skip
  iframe
  iexists _; iexact HW

/-- What the query block on the diagonal adds, and its rows' copies. -/
noncomputable def diagSt (c : Dev nD) (i : grid0.Coords) (g : Stg) (v1 v3 : BitVec 32) (hw : k0_chk1 v1 v3) (h : k0_cond4 v1 v3 = 1#1) (b : Blk F) (S : St F) : St F :=
  let r := diagRun c i g.a3 g.h3 g.a4 g.h4 g.a5 g.h5 g.a6 g.h6 g.a7 g.h7 g.a8 g.h8 g.a10 g.h10 g.a11 g.h11 g.a13 g.h13 v1 v3 hw h b.b3 b.b4 b.b5 b.b6 b.b7 b.b8 S.dq S.dcq S.q S.s S.k S.v S.c S.row
  { S with dq := r.1, dcq := r.2.1, q := r.2.2.1, s := r.2.2.2.1, k := r.2.2.2.2.1, v := r.2.2.2.2.2.1, c := r.2.2.2.2.2.2.1, row := r.2.2.2.2.2.2.2.1 }

theorem diag_step (c : Dev nD) (i : grid0.Coords) (g : Stg) (v1 v3 : BitVec 32) (hw : k0_chk1 v1 v3) (h : k0_cond4 v1 v3 = 1#1) (b : Blk F) (S : St F) (K : PUnit → sProp 𝕄) (k : PUnit.{1} → Prog (TpuEff nD τ sig (Elt F) Λ₀ .tc) PUnit) :
    iprop(inv c g b S ∗ (inv c g b (diagSt c i g v1 v3 hw h b S) -∗ wp frame (wpE (defs₀ (F := F)) Variants.none c none) Set.univ (k ⟨⟩) K))
      ⊢ wp frame (wpE (defs₀ (F := F)) Variants.none c none) Set.univ (diagProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 v1 v3 hw h k) K := by
  unfold inv stages kept rest0
  iintro ⟨⟨⟨H3, H4, H5, H6, H7, H8⟩, ⟨H9, H12, H14, H15, H16, H17, H18, H19⟩, ⟨Hq0, Hq1, %W, HW⟩⟩, Hk⟩
  iapply (diagRun c i g.a3 g.h3 g.a4 g.h4 g.a5 g.h5 g.a6 g.h6 g.a7 g.h7 g.a8 g.h8 g.a10 g.h10 g.a11 g.h11 g.a13 g.h13 v1 v3 hw h b.b3 b.b4 b.b5 b.b6 b.b7 b.b8 S.dq S.dcq S.q S.s S.k S.v S.c S.row).2.2.2.2.2.2.2.2 W K k
  iframe
  iintro ⟨H3, H4, H5, H6, H7, H8, H9, H12, H14, H15, H16, H17, H18, H19, Hq0, Hq1, HW⟩
  iapply Hk
  unfold diagSt
  icases HW with ⟨%W2, HW⟩
  iframe
  iexists _; iexact HW

theorem zeroAll_if (c : Dev nD) (i : grid0.Coords) (g : Stg)  (b : Blk F) (S : St F) (K : PUnit → sProp 𝕄) (k : PUnit.{1} → Prog (TpuEff nD τ sig (Elt F) Λ₀ .tc) PUnit) :
    iprop(inv c g b S ∗ (inv c g b (if _h : first i = 1#1 then zeroAllSt c i g b S else S) -∗ wp frame (wpE (defs₀ (F := F)) Variants.none c none) Set.univ (k ⟨⟩) K))
      ⊢ wp frame (wpE (defs₀ (F := F)) Variants.none c none) Set.univ (if _h : first i = 1#1 then zeroAllProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 k else k ⟨⟩) K := by
  by_cases h0 : first i = 1#1
  · simp only [dif_pos h0]; exact zeroAll_step c i g b S K k
  · simp only [dif_neg h0]; iintro ⟨Hi, Hk⟩; iapply Hk; iexact Hi

theorem zeroCols_if (c : Dev nD) (i : grid0.Coords) (g : Stg) (v1 v3 : BitVec 32) (b : Blk F) (S : St F) (K : PUnit → sProp 𝕄) (k : PUnit.{1} → Prog (TpuEff nD τ sig (Elt F) Λ₀ .tc) PUnit) :
    iprop(inv c g b S ∗ (inv c g b (if _h : k0_cond4 v1 v3 = 1#1 then zeroColsSt c i g b S else S) -∗ wp frame (wpE (defs₀ (F := F)) Variants.none c none) Set.univ (k ⟨⟩) K))
      ⊢ wp frame (wpE (defs₀ (F := F)) Variants.none c none) Set.univ (if k0_cond4 v1 v3 = 1#1 then zeroColsProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 k else k ⟨⟩) K := by
  by_cases h0 : k0_cond4 v1 v3 = 1#1
  · simp only [dif_pos h0, if_pos h0]; exact zeroCols_step c i g b S K k
  · simp only [dif_neg h0, if_neg h0]; iintro ⟨Hi, Hk⟩; iapply Hk; iexact Hi

theorem off_if (c : Dev nD) (i : grid0.Coords) (g : Stg) (v1 v3 : BitVec 32) (hw : k0_chk1 v1 v3) (b : Blk F) (S : St F) (K : PUnit → sProp 𝕄) (k : PUnit.{1} → Prog (TpuEff nD τ sig (Elt F) Λ₀ .tc) PUnit) :
    iprop(inv c g b S ∗ (inv c g b (if h : k0_cond3 v1 v3 = 1#1 then offSt c i g v1 v3 hw h b S else S) -∗ wp frame (wpE (defs₀ (F := F)) Variants.none c none) Set.univ (k ⟨⟩) K))
      ⊢ wp frame (wpE (defs₀ (F := F)) Variants.none c none) Set.univ (if h : k0_cond3 v1 v3 = 1#1 then offProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 v1 v3 hw h k else k ⟨⟩) K := by
  by_cases h0 : k0_cond3 v1 v3 = 1#1
  · simp only [dif_pos h0]; exact off_step c i g v1 v3 hw h0 b S K k
  · simp only [dif_neg h0]; iintro ⟨Hi, Hk⟩; iapply Hk; iexact Hi

theorem diag_if (c : Dev nD) (i : grid0.Coords) (g : Stg) (v1 v3 : BitVec 32) (hw : k0_chk1 v1 v3) (b : Blk F) (S : St F) (K : PUnit → sProp 𝕄) (k : PUnit.{1} → Prog (TpuEff nD τ sig (Elt F) Λ₀ .tc) PUnit) :
    iprop(inv c g b S ∗ (inv c g b (if h : k0_cond4 v1 v3 = 1#1 then diagSt c i g v1 v3 hw h b S else S) -∗ wp frame (wpE (defs₀ (F := F)) Variants.none c none) Set.univ (k ⟨⟩) K))
      ⊢ wp frame (wpE (defs₀ (F := F)) Variants.none c none) Set.univ (if h : k0_cond4 v1 v3 = 1#1 then diagProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 v1 v3 hw h k else k ⟨⟩) K := by
  by_cases h0 : k0_cond4 v1 v3 = 1#1
  · simp only [dif_pos h0]; exact diag_step c i g v1 v3 hw h0 b S K k
  · simp only [dif_neg h0]; iintro ⟨Hi, Hk⟩; iapply Hk; iexact Hi

/-- What the last query block of a key block writes into the block's three results. -/
noncomputable def flushV (c : Dev nD) (i : grid0.Coords) (g : Stg) (x10 x11 : Vec F S640x512 .bf16) (x13 : Vec F S8x640 .f32) (S : St F) :
    Vec F S640x512 .bf16 × Vec F S640x512 .bf16 × Vec F S8x640 .f32 :=
  let r := flushRun c i g.a3 g.h3 g.a4 g.h4 g.a5 g.h5 g.a6 g.h6 g.a7 g.h7 g.a8 g.h8 g.a10 g.h10 g.a11 g.h11 g.a13 g.h13 x10 x11 x13 S.k S.v S.c
  (r.1, r.2.1, r.2.2.1)

/-- The results' staging buffers. -/
def outs (c : Dev nD) (g : Stg) (X : Vec F S640x512 .bf16 × Vec F S640x512 .bf16 × Vec F S8x640 .f32) : sProp 𝕄 :=
  iprop(owns (c : Thread nD τ) g.a10 fullShare X.1 ∗ owns (c : Thread nD τ) g.a11 fullShare X.2.1 ∗ owns (c : Thread nD τ) g.a13 fullShare X.2.2)

theorem flush_if (c : Dev nD) (i : grid0.Coords) (g : Stg) (v3 : BitVec 32) (b : Blk F) (S : St F) (X : Vec F S640x512 .bf16 × Vec F S640x512 .bf16 × Vec F S8x640 .f32) (K : PUnit → sProp 𝕄) (k : PUnit.{1} → Prog (TpuEff nD τ sig (Elt F) Λ₀ .tc) PUnit) :
    iprop(inv c g b S ∗ outs c g X ∗ (iprop(inv c g b S ∗ outs c g (if k0_cond5 v3 = 1#1 then flushV c i g X.1 X.2.1 X.2.2 S else X)) -∗ wp frame (wpE (defs₀ (F := F)) Variants.none c none) Set.univ (k ⟨⟩) K))
      ⊢ wp frame (wpE (defs₀ (F := F)) Variants.none c none) Set.univ (if _h : k0_cond5 v3 = 1#1 then flushProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 k else k ⟨⟩) K := by
  by_cases h0 : k0_cond5 v3 = 1#1
  · simp only [dif_pos h0, if_pos h0]
    unfold inv kept outs
    iintro ⟨⟨Hs, ⟨H9, H12, H14, H15, H16, H17, H18, H19⟩, Hr⟩, ⟨H10, H11, H13⟩, Hk⟩
    iapply (flushRun c i g.a3 g.h3 g.a4 g.h4 g.a5 g.h5 g.a6 g.h6 g.a7 g.h7 g.a8 g.h8 g.a10 g.h10 g.a11 g.h11 g.a13 g.h13 X.1 X.2.1 X.2.2 S.k S.v S.c).2.2.2 K k
    iframe
    iintro ⟨H10, H11, H13, H16, H17, H18⟩
    iapply Hk
    unfold flushV
    iframe
  · simp only [dif_neg h0, if_neg h0]
    iintro ⟨Hi, Ho, Hk⟩; iapply Hk; iframe

/-- The contents after a point's first four regions. -/
noncomputable def stepSt (c : Dev nD) (i : grid0.Coords) (g : Stg) (v1 v3 : BitVec 32) (hw : k0_chk1 v1 v3) (b : Blk F) (S : St F) : St F :=
  let S1 := if _h : first i = 1#1 then zeroAllSt c i g b S else S
  let S2 := if _h : k0_cond4 v1 v3 = 1#1 then zeroColsSt c i g b S1 else S1
  let S3 := if h : k0_cond3 v1 v3 = 1#1 then offSt c i g v1 v3 hw h b S2 else S2
  if h : k0_cond4 v1 v3 = 1#1 then diagSt c i g v1 v3 hw h b S3 else S3

theorem tail_step (c : Dev nD) (i : grid0.Coords) (g : Stg) (v1 v3 : BitVec 32) (hw : k0_chk1 v1 v3) (b : Blk F) (S : St F) (X : Vec F S640x512 .bf16 × Vec F S640x512 .bf16 × Vec F S8x640 .f32) (K : PUnit → sProp 𝕄) :
    iprop(inv c g b S ∗ outs c g X ∗ (iprop(inv c g b (stepSt c i g v1 v3 hw b S)
        ∗ outs c g (if k0_cond5 v3 = 1#1 then flushV c i g X.1 X.2.1 X.2.2 (stepSt c i g v1 v3 hw b S) else X)) -∗ K ⟨⟩))
      ⊢ wp frame (wpE (defs₀ (F := F)) Variants.none c none) Set.univ (tailProg i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6 v1 v3 hw) K := by
  unfold tailProg
  iintro ⟨Hi, Ho, Hk⟩
  iapply zeroAll_if c i g b S K
  isplitl [Hi]; · iexact Hi
  iintro Hi
  iapply zeroCols_if c i g v1 v3 b _ K
  isplitl [Hi]; · iexact Hi
  iintro Hi
  iapply off_if c i g v1 v3 hw b _ K
  isplitl [Hi]; · iexact Hi
  iintro Hi
  iapply diag_if c i g v1 v3 hw b _ K
  isplitl [Hi]; · iexact Hi
  iintro Hi
  iapply flush_if c i g v3 b _ X K
  isplitl [Hi]; · iexact Hi
  isplitl [Ho]; · iexact Ho
  iintro HI
  rw [show (pure ⟨⟩ : Prog (TpuEff nD τ sig (Elt F) Λ₀ .tc) PUnit) = Prog.ret ⟨⟩ from rfl, wp_ret]
  imodintro
  iapply Hk
  iexact HI

/-- The two tables' halves the body reads. -/
def tables (c : Dev nD) : sProp 𝕄 := Pipeline.ΦT pre0 (tabs (F := F)) c

/-- THE BODY AT A POINT. -/
theorem body_step (c : Dev nD) (i : grid0.Coords) (g : Stg) (b : Blk F) (S : St F) (X : Vec F S640x512 .bf16 × Vec F S640x512 .bf16 × Vec F S8x640 .f32) (K : PUnit → sProp 𝕄) :
    iprop(tables (F := F) c ∗ inv c g b S ∗ outs c g X ∗ (iprop(tables (F := F) c ∗ inv c g b (stepSt c i g (kbOf i) (qbOf i) (chk i) b S)
        ∗ outs c g (if k0_cond5 (qbOf i) = 1#1 then flushV c i g X.1 X.2.1 X.2.2 (stepSt c i g (kbOf i) (qbOf i) (chk i) b S) else X)) -∗ K ⟨⟩))
      ⊢ wp frame (wpE (defs₀ (F := F)) Variants.none c none) Set.univ (cc0_attn_bwd i (Memref.whole main_c) (Memref.isWhole_whole _) (Memref.whole main_c_0) (Memref.isWhole_whole _) g.a3 g.h3 g.a4 g.h4 g.a5 g.h5 g.a6 g.h6 g.a7 g.h7 g.a8 g.h8 dqM (Memref.isWhole_whole _) g.a10 g.h10 g.a11 g.h11 dcqM (Memref.isWhole_whole _) g.a13 g.h13 qaccM (Memref.isWhole_whole _) saccM (Memref.isWhole_whole _) kaccM (Memref.isWhole_whole _) vaccM (Memref.isWhole_whole _) caccM (Memref.isWhole_whole _) rowM (Memref.isWhole_whole _) cc0_scratch6) K := by
  rw [body_eq]
  unfold bodyProg smemLoad
  simp only [smemLoadElt_bind, Prog.bind_ret]
  obtain ⟨T0, hT0⟩ : ∃ T : Vec F S91 .i32, T = tabs (F := F) 0 := ⟨_, rfl⟩
  obtain ⟨T1, hT1⟩ : ∃ T : Vec F S91 .i32, T = tabs (F := F) 1 := ⟨_, rfl⟩
  have hT : tables (F := F) c = iprop(((Memref.whole main_c : Memref sig .tc .smem S91 .i32).view.loc (c : Thread nD τ) ↦{fullShare.right} T0)
      ∗ ((Memref.whole main_c_0 : Memref sig .tc .smem S91 .i32).view.loc (c : Thread nD τ) ↦{fullShare.right} T1)) := by
    unfold tables Pipeline.ΦT Pipeline.prefHeld
    rw [hT0, hT1]; exact BI.bigSep_univ_two _
  rw [hT]
  iintro ⟨⟨Ht0, Ht1⟩, Hi, Ho, Hk⟩
  named_smem Ht0 (kbOf i) (by subst hT0; exact (at0 (F := F) i).symm)
  named_smem Ht1 (qbOf i) (by subst hT1; exact (at1 (F := F) i).symm)
  iapply wp_assume _ _ _ _ (chk i)
  iapply tail_step c i g _ _ (chk i) b S X K
  isplitl [Hi]; · iexact Hi
  isplitl [Ho]; · iexact Ho
  iintro ⟨Hi, Ho⟩
  iapply Hk
  iframe

end Cert.AttnIdeal.Hand

end
-- ==== Proof.AttnData.lean ====
/- THE PROOF DATA: what the buffers hold before and after every grid point, and the body's obligation. -/
module

public import proofs.«01_k».proof.Proof.AttnBody
public import proofs.«01_k».proof.Proof.Gen.AttnIdeal.Launch
public import Idealize.ShloMosaic.Lib.Pipeline.DatRel
public import Idealize.ShloMosaic.Lib.Pipeline.FrameBody

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

variable (m : (ℓ : Loc nD τ sig) → Buf (Elt F) ℓ) (ρ : Dev nD → PrngReg)

/-- A buffer's contents on core `c` after the host operations. -/
abbrev V (c : Dev nD) (b : Ref sig .tc) : Buf (Elt F) ((c : Thread nD τ).loc b) :=
  StableHlo.after hostOps0 (fun b => m (c, b)) b

/-- The pipeline at the tables' contents. -/
abbrev acfg : Pipeline.Cfg sig Λ₀ := cfg0 (F := F) adm

/-- The staging buffers the pipeline hands the body at point `t`. -/
def stg (t : Fin (acfg (F := F)).N) : Stg where
  a3 := spec0_0.stage ((acfg (F := F)).slots t 0)
  h3 := hstage0_0 (((acfg (F := F)).slots t 0).cast nbuf0_0)
  a4 := spec0_1.stage ((acfg (F := F)).slots t 1)
  h4 := hstage0_1 (((acfg (F := F)).slots t 1).cast nbuf0_1)
  a5 := spec0_2.stage ((acfg (F := F)).slots t 2)
  h5 := hstage0_2 (((acfg (F := F)).slots t 2).cast nbuf0_2)
  a6 := spec0_3.stage ((acfg (F := F)).slots t 3)
  h6 := hstage0_3 (((acfg (F := F)).slots t 3).cast nbuf0_3)
  a7 := spec0_4.stage ((acfg (F := F)).slots t 4)
  h7 := hstage0_4 (((acfg (F := F)).slots t 4).cast nbuf0_4)
  a8 := spec0_5.stage ((acfg (F := F)).slots t 5)
  h8 := hstage0_5 (((acfg (F := F)).slots t 5).cast nbuf0_5)
  a10 := spec0_6.stage ((acfg (F := F)).slots t 6)
  h10 := hstage0_6 (((acfg (F := F)).slots t 6).cast nbuf0_6)
  a11 := spec0_7.stage ((acfg (F := F)).slots t 7)
  h11 := hstage0_7 (((acfg (F := F)).slots t 7).cast nbuf0_7)
  a13 := spec0_8.stage ((acfg (F := F)).slots t 8)
  h13 := hstage0_8 (((acfg (F := F)).slots t 8).cast nbuf0_8)

/-- The windows' arrays as the region finds them. -/
abbrev arrs (c : Dev nD) (w : Fin (acfg (F := F)).W) := V m c (Pipeline.arrRef spec0 w)

/-- The six blocks at point `t`. -/
def blkAt (c : Dev nD) (t : Fin (acfg (F := F)).N) : Blk F where
  b3 := Pipeline.heldIn (acfg (F := F)) (arrs m c) 0 t.val t.isLt
  b4 := Pipeline.heldIn (acfg (F := F)) (arrs m c) 1 t.val t.isLt
  b5 := Pipeline.heldIn (acfg (F := F)) (arrs m c) 2 t.val t.isLt
  b6 := Pipeline.heldIn (acfg (F := F)) (arrs m c) 3 t.val t.isLt
  b7 := Pipeline.heldIn (acfg (F := F)) (arrs m c) 4 t.val t.isLt
  b8 := Pipeline.heldIn (acfg (F := F)) (arrs m c) 5 t.val t.isLt

/-- One point's step. -/
def step (c : Dev nD) (t : Fin (acfg (F := F)).N) (S : St F) : St F :=
  stepSt c (grid0.coords t) (stg t) (kbOf (grid0.coords t)) (qbOf (grid0.coords t)) (chk (grid0.coords t)) (blkAt m c t) S

/-- The buffers' contents after the first `n` points. -/
def run (c : Dev nD) : ℕ → St F → St F
  | 0, S => S
  | n + 1, S => if h : n < (acfg (F := F)).N then step m c ⟨n, h⟩ (run c n S) else run c n S

theorem run_succ (c : Dev nD) (t : Fin (acfg (F := F)).N) (S : St F) : run m c (t.val + 1) S = step m c t (run m c t.val S) :=
  dif_pos t.isLt

/-- What the body leaves in the three blocks of results at a key block's last point. -/
def flushed (c : Dev nD) (t : Fin (acfg (F := F)).N) (X : Vec F S640x512 .bf16 × Vec F S640x512 .bf16 × Vec F S8x640 .f32) (S : St F) :
    Vec F S640x512 .bf16 × Vec F S640x512 .bf16 × Vec F S8x640 .f32 :=
  flushV c (grid0.coords t) (stg t) X.1 X.2.1 X.2.2 (run m c (t.val + 1) S)

/-- Whether point `t` is a key block's last. -/
def isLast (t : Fin (acfg (F := F)).N) : Prop := k0_cond5 (qbOf (grid0.coords t)) = 1#1

/-- The results' windows. -/
def isRes : Fin 9 → Bool := ![false, false, false, false, false, false, true, true, true]

/-- What a result's window holds after point `t`: at a key block's last point, the block's result. -/
def Rl (c : Dev nD) : (w : Fin (acfg (F := F)).W) → (t : Fin (acfg (F := F)).N) → ((((acfg (F := F)).win w).block.Idx → Elt F ((acfg (F := F)).win w).elt)) → Prop
  | 6, t => fun X => isLast t → ∃ X0 S0, X = (flushed m c t X0 S0).1
  | 7, t => fun X => isLast t → ∃ X0 S0, X = (flushed m c t X0 S0).2.1
  | 8, t => fun X => isLast t → ∃ X0 S0, X = (flushed m c t X0 S0).2.2
  | _, _ => fun _ => True

/-- The invariant before point `n`. -/
def Inv (c : Dev nD) (n : ℕ) : sProp 𝕄 :=
  iprop(tables (F := F) c ∗ (∃ r, prngReg c r) ∗ semVal ((c : Thread nD τ), SemLoc.dma 18) 0 ∗ semVal ((c : Thread nD τ), SemLoc.dma 19) 0
    ∗ ∃ S0, kept c (run m c n S0))

/-- The proof data on core `c`. -/
def dat (c : Dev nD) : Dat τ (Elt F) Unit ℕ (Pipeline.UD sig nD τ) ℕ (acfg (F := F)) c where
  A w := V m c (Pipeline.arrRef spec0 w)
  after w t := Pipeline.heldIn (acfg (F := F)) (arrs m c) w t.val t.isLt
  Φ t := Inv m c t.val
  q w := Pipeline.shareOf spec0 w
  owed _ := 0

/-- The body's row of the table. -/
theorem defs₀_row (t : Fin (acfg (F := F)).N) :
    defs₀ (F := F) .tc (acfg (F := F)).body ((acfg (F := F)).bodyArgs t ((acfg (F := F)).slots t))
      = cc0_attn_bwd (grid0.coords t) (Memref.whole main_c) (Memref.isWhole_whole _) (Memref.whole main_c_0) (Memref.isWhole_whole _) (stg t).a3 (stg t).h3 (stg t).a4 (stg t).h4 (stg t).a5 (stg t).h5 (stg t).a6 (stg t).h6 (stg t).a7 (stg t).h7 (stg t).a8 (stg t).h8 dqM (Memref.isWhole_whole _) (stg t).a10 (stg t).h10 (stg t).a11 (stg t).h11 dcqM (Memref.isWhole_whole _) (stg t).a13 (stg t).h13 qaccM (Memref.isWhole_whole _) saccM (Memref.isWhole_whole _) kaccM (Memref.isWhole_whole _) vaccM (Memref.isWhole_whole _) caccM (Memref.isWhole_whole _) rowM (Memref.isWhole_whole _) cc0_scratch6 := by
  unfold defs₀; rw [Defs.onTc_tc]; rfl

theorem res_in : ∀ w : Fin 9, isRes w = false → (spec0 w).isOut = false := by decide

/-- An input's staging buffer holds its block when the body runs. -/
theorem before_in (c : Dev nD) (w : Fin 9) (hw : isRes w = false) (t : Fin (acfg (F := F)).N) (d) :
    (dat m c).before w t d = Pipeline.heldIn (acfg (F := F)) (arrs m c) w t.val t.isLt := by
  refine Dat.before_eq_heldIn (dat m c) w ?_ (fun i => ?_) (fun i a => ?_) (fun _ => rfl) t d
  · exact res_in w hw
  · revert hw; match w with
    | 0 => exact fun _ => rfl
    | 1 => exact fun _ => rfl
    | 2 => exact fun _ => rfl
    | 3 => exact fun _ => rfl
    | 4 => exact fun _ => rfl
    | 5 => exact fun _ => rfl
    | 6 => exact fun h => absurd h (by decide)
    | 7 => exact fun h => absurd h (by decide)
    | 8 => exact fun h => absurd h (by decide)
  · rfl

/-- The inputs' staging buffers at point `t`. -/
theorem stages_eq (c : Dev nD) (t : Fin (acfg (F := F)).N) :
    (stages c (stg t) (blkAt m c t) : sProp 𝕄) = iprop(owns c (((acfg (F := F)).win 0).stage ((acfg (F := F)).slots t 0)) fullShare ((dat m c).after 0 t)
      ∗ owns c (((acfg (F := F)).win 1).stage ((acfg (F := F)).slots t 1)) fullShare ((dat m c).after 1 t)
      ∗ owns c (((acfg (F := F)).win 2).stage ((acfg (F := F)).slots t 2)) fullShare ((dat m c).after 2 t)
      ∗ owns c (((acfg (F := F)).win 3).stage ((acfg (F := F)).slots t 3)) fullShare ((dat m c).after 3 t)
      ∗ owns c (((acfg (F := F)).win 4).stage ((acfg (F := F)).slots t 4)) fullShare ((dat m c).after 4 t)
      ∗ owns c (((acfg (F := F)).win 5).stage ((acfg (F := F)).slots t 5)) fullShare ((dat m c).after 5 t)) := rfl

/-- What the body is called with at point `t`. -/
def bodyPre (c : Dev nD) (t : Fin (acfg (F := F)).N) : sProp 𝕄 :=
  iprop(Inv m c t.val ∗ (dat m c).owesAt () t.castSucc ∗ stages c (stg t) (blkAt m c t) ∗ ∃ X, outs c (stg t) X)
/-- What it returns. -/
def bodyPost (c : Dev nD) (t : Fin (acfg (F := F)).N) : sProp 𝕄 :=
  iprop(Inv m c (t.val + 1) ∗ (dat m c).owesAt () t.castSucc ∗ stages c (stg t) (blkAt m c t)
    ∗ ∃ X, ⌜Rl m c 6 t X.1 ∧ Rl m c 7 t X.2.1 ∧ Rl m c 8 t X.2.2⌝ ∗ outs c (stg t) X)

theorem sound_body (c : Dev nD) (t : Fin (acfg (F := F)).N) :
    bodyPre m c t ⊢ wp frame (wpE (defs₀ (F := F)) Variants.none c none) Set.univ
      (defs₀ (F := F) .tc (acfg (F := F)).body ((acfg (F := F)).bodyArgs t ((acfg (F := F)).slots t))) (fun _ => bodyPost m c t) := by
  rw [defs₀_row]
  unfold bodyPre bodyPost Inv Dat.owesAt Pipeline.owesWithin
  rw [show (dat m c).owed t.castSucc = 0 from rfl]
  iintro ⟨⟨Ht, Hp, Hq0, Hq1, %S0, HS⟩, ⟨%W, %hW, HO⟩, Hs, %X, Ho⟩
  iapply body_step c (grid0.coords t) (stg t) (blkAt m c t) (run m c t.val S0) X _
  isplitl [Ht]; · iexact Ht
  isplitl [Hs HS Hq0 Hq1 HO]
  · unfold inv rest0
    iframe
    iexists _; iexact HO
  isplitl [Ho]; · iexact Ho
  unfold inv rest0
  iintro ⟨Ht, ⟨Hs, HS, Hq0, Hq1, %W', HO⟩, Ho⟩
  isplitl [Ht Hp Hq0 Hq1 HS]
  · iframe
    iexists S0
    rw [run_succ]
    iexact HS
  isplitl [HO]
  · iexists W'; isplitr; · ipureintro; exact fun _ _ => Or.inl trivial
    iexact HO
  isplitl [Hs]; · iexact Hs
  iexists _
  isplitr
  swap; · iexact Ho
  ipureintro
  by_cases hl : k0_cond5 (qbOf (grid0.coords t)) = 1#1
  · rw [if_pos hl]
    refine ⟨fun _ => ⟨X, S0, ?_⟩, fun _ => ⟨X, S0, ?_⟩, fun _ => ⟨X, S0, ?_⟩⟩ <;> unfold flushed <;> rw [run_succ] <;> rfl
  · exact ⟨fun h => absurd h hl, fun h => absurd h hl, fun h => absurd h hl⟩

/-- The library's body obligation. -/
theorem body_obligation (c : Dev nD) :
    Pipeline.BodyObligationRel (dat m c) (defs₀ (F := F)) Variants.none () Set.univ isRes (Rl m c) := fun t => by
  rw [bigSep_W0, bigSep_W0]
  refine triple_restated (sound_body m c t) rfl ?_ fun _ => ?_
  · unfold bodyPre
    show iprop(Inv m c t.val ∗ _ ∗ (∃ d, owns c (((acfg (F := F)).win 0).stage ((acfg (F := F)).slots t 0)) fullShare ((dat m c).before 0 t d))
      ∗ (∃ d, owns c (((acfg (F := F)).win 1).stage ((acfg (F := F)).slots t 1)) fullShare ((dat m c).before 1 t d))
      ∗ (∃ d, owns c (((acfg (F := F)).win 2).stage ((acfg (F := F)).slots t 2)) fullShare ((dat m c).before 2 t d))
      ∗ (∃ d, owns c (((acfg (F := F)).win 3).stage ((acfg (F := F)).slots t 3)) fullShare ((dat m c).before 3 t d))
      ∗ (∃ d, owns c (((acfg (F := F)).win 4).stage ((acfg (F := F)).slots t 4)) fullShare ((dat m c).before 4 t d))
      ∗ (∃ d, owns c (((acfg (F := F)).win 5).stage ((acfg (F := F)).slots t 5)) fullShare ((dat m c).before 5 t d))
      ∗ (∃ Y, ⌜((dat m c).toRRel isRes (Rl m c)).Finds 6 t Y⌝ ∗ owns c (((acfg (F := F)).win 6).stage ((acfg (F := F)).slots t 6)) fullShare Y)
      ∗ (∃ Y, ⌜((dat m c).toRRel isRes (Rl m c)).Finds 7 t Y⌝ ∗ owns c (((acfg (F := F)).win 7).stage ((acfg (F := F)).slots t 7)) fullShare Y)
      ∗ (∃ Y, ⌜((dat m c).toRRel isRes (Rl m c)).Finds 8 t Y⌝ ∗ owns c (((acfg (F := F)).win 8).stage ((acfg (F := F)).slots t 8)) fullShare Y)) ⊢ _
    rw [stages_eq]
    iintro ⟨Hi, HO, ⟨%d0, H0⟩, ⟨%d1, H1⟩, ⟨%d2, H2⟩, ⟨%d3, H3⟩, ⟨%d4, H4⟩, ⟨%d5, H5⟩, ⟨%Y6, -, H6⟩, ⟨%Y7, -, H7⟩, ⟨%Y8, -, H8⟩⟩
    have e0 : (dat m c).before 0 t d0 = (dat m c).after 0 t := before_in m c 0 rfl t d0
    have e1 : (dat m c).before 1 t d1 = (dat m c).after 1 t := before_in m c 1 rfl t d1
    have e2 : (dat m c).before 2 t d2 = (dat m c).after 2 t := before_in m c 2 rfl t d2
    have e3 : (dat m c).before 3 t d3 = (dat m c).after 3 t := before_in m c 3 rfl t d3
    have e4 : (dat m c).before 4 t d4 = (dat m c).after 4 t := before_in m c 4 rfl t d4
    have e5 : (dat m c).before 5 t d5 = (dat m c).after 5 t := before_in m c 5 rfl t d5
    rw [e0, e1, e2, e3, e4, e5]
    isplitl [Hi]; · iexact Hi
    isplitl [HO]; · iexact HO
    isplitl [H0 H1 H2 H3 H4 H5]
    · isplitl [H0]; · iexact H0
      isplitl [H1]; · iexact H1
      isplitl [H2]; · iexact H2
      isplitl [H3]; · iexact H3
      isplitl [H4]; · iexact H4
      iexact H5
    iexists (Y6, Y7, Y8)
    unfold outs
    isplitl [H6]; · iexact H6
    isplitl [H7]; · iexact H7
    iexact H8
  · unfold bodyPost
    show _ ⊢ iprop(Inv m c (t.val + 1) ∗ (dat m c).owesAt () t.castSucc ∗ owns c (((acfg (F := F)).win 0).stage ((acfg (F := F)).slots t 0)) fullShare ((dat m c).after 0 t)
      ∗ owns c (((acfg (F := F)).win 1).stage ((acfg (F := F)).slots t 1)) fullShare ((dat m c).after 1 t)
      ∗ owns c (((acfg (F := F)).win 2).stage ((acfg (F := F)).slots t 2)) fullShare ((dat m c).after 2 t)
      ∗ owns c (((acfg (F := F)).win 3).stage ((acfg (F := F)).slots t 3)) fullShare ((dat m c).after 3 t)
      ∗ owns c (((acfg (F := F)).win 4).stage ((acfg (F := F)).slots t 4)) fullShare ((dat m c).after 4 t)
      ∗ owns c (((acfg (F := F)).win 5).stage ((acfg (F := F)).slots t 5)) fullShare ((dat m c).after 5 t)
      ∗ (∃ X, ⌜Rl m c 6 t X⌝ ∗ owns c (((acfg (F := F)).win 6).stage ((acfg (F := F)).slots t 6)) fullShare X)
      ∗ (∃ X, ⌜Rl m c 7 t X⌝ ∗ owns c (((acfg (F := F)).win 7).stage ((acfg (F := F)).slots t 7)) fullShare X)
      ∗ (∃ X, ⌜Rl m c 8 t X⌝ ∗ owns c (((acfg (F := F)).win 8).stage ((acfg (F := F)).slots t 8)) fullShare X))
    rw [stages_eq]
    iintro ⟨Hi, HO, ⟨H0, H1, H2, H3, H4, H5⟩, %X, %hX, Ho⟩
    unfold outs
    icases Ho with ⟨H6, H7, H8⟩
    isplitl [Hi]; · iexact Hi
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]
    · iexists X.1; isplitr; · ipureintro; exact hX.1
      iexact H6
    isplitl [H7]
    · iexists X.2.1; isplitr; · ipureintro; exact hX.2.1
      iexact H7
    iexists X.2.2; isplitr; · ipureintro; exact hX.2.2
    iexact H8

end Cert.AttnIdeal.Hand

end
-- ==== Proof.AttnLaunch.lean ====
/- THE LAUNCH: the whole program's run from the body's obligation. -/
module

public import proofs.«01_k».proof.Proof.AttnData
public import Idealize.ShloMosaic.Lib.Pipeline.FrameValue
public import Idealize.ShloMosaic.Lib.StableHlo.ReadAt

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

/-- The kernel's own two copy semaphores. -/
abbrev osem0 : Fin 2 → SemLoc sig := fun j => (![SemLoc.dma 18, SemLoc.dma 19] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0) := by
  rw [Pipeline.ownSems0_eq_of_list c osem0 [0, 1] (by decide) (by decide)]; rfl

/-- The two results the kernel copies to itself. -/
def copied : Finset (Ref sig .tc) := {main_v164_0, main_v164_3}
theorem copied_sub : copied ⊆ Pipeline.restRefsP sig pre0 spec0 \ ∅ := by decide
theorem copied_eq (c : Dev nD) (W : (b : Ref sig .tc) → Buf (Elt F) ((c : Thread nD τ).loc b)) :
    (Pipeline.routed copied c W : sProp 𝕄) = iprop(hbPt c dqM (W main_v164_0) ∗ hbPt c dcqM (W main_v164_3)) := by
  unfold Pipeline.routed
  rw [BI.bigSep_eq_bigSepL_of_eq [main_v164_0, main_v164_3] (by decide) (by decide)]; rfl

/-- What the two copied results hold at the end. -/
def Copied (c : Dev nD) (W : (b : Ref sig .tc) → Buf (Elt F) ((c : Thread nD τ).loc b)) : Prop :=
  ∃ S0 : St F, W main_v164_0 = (run m c (acfg (F := F)).N S0).dq ∧ W main_v164_3 = (run m c (acfg (F := F)).N S0).dcq

theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_table0 (c : Dev nD) : V m c main_c = tabs (F := F) 0 := by
  funext i
  show V m c main_c i = _
  unfold V
  after_reads_at
  rfl
theorem V_table1 (c : Dev nD) : V m c main_c_0 = tabs (F := F) 1 := by
  funext i
  show V m c main_c_0 i = _
  unfold V
  after_reads_at
  rfl

theorem h_in (c : Dev nD) : iprop(Pipeline.ΦDRG osem0 spec0 ∅ copied (V m) (V m) c ∗ Pipeline.ΦT pre0 (tabs (F := F)) c) ⊢ Inv m c 0 := by
  unfold Inv tables
  rw [Pipeline.ΦDRG_eq, scopedRest0_eq, ownSems00_eq, copied_eq, BI.bigSep_empty]
  iintro ⟨⟨⟨⟨%f0, H0⟩, ⟨%f1, H1⟩, ⟨%f2, H2⟩, ⟨%f3, H3⟩, ⟨%f4, H4⟩, %f5, H5⟩, Hp, ⟨Hq0, Hq1⟩, -, Hd, Hc⟩, Ht⟩
  isplitl [Ht]; · iexact Ht
  isplitl [Hp]; · iexact Hp
  isplitl [Hq0]; · iexact Hq0
  isplitl [Hq1]; · iexact Hq1
  iexists (⟨V m c main_v164_0, V m c main_v164_3, f0, f1, f2, f3, f4, f5⟩ : St F)
  unfold kept run
  isplitl [Hd]; · iexact Hd
  isplitl [Hc]; · iexact Hc
  isplitl [H0]; · iexact H0
  isplitl [H1]; · iexact H1
  isplitl [H2]; · iexact H2
  isplitl [H3]; · iexact H3
  isplitl [H4]; · iexact H4
  iexact H5

theorem h_out (c : Dev nD) : Inv m c (acfg (F := F)).N ⊢ iprop(Pipeline.ΦD osem0 spec0 ∅ (V m) c ∗ Pipeline.routedSat copied c (Copied m c)) := by
  unfold Inv kept Pipeline.routedSat
  rw [Pipeline.ΦD_eq, scopedRest0_eq, ownSems00_eq, BI.bigSep_empty]
  iintro ⟨-, Hp, Hq0, Hq1, %S0, Hd, Hc, H0, H1, H2, H3, H4, H5⟩
  isplitr [Hd Hc]
  · isplitl [H0 H1 H2 H3 H4 H5]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    isplitl [Hp]; · iexact Hp
    isplitl [Hq0 Hq1]
    · isplitl [Hq0]; · iexact Hq0
      iexact Hq1
    iempintro
  · let W : (b : Ref sig .tc) → Buf (Elt F) ((c : Thread nD τ).loc b) :=
      Function.update (Function.update (V m c) main_v164_0 (run m c (acfg (F := F)).N S0).dq) main_v164_3 (run m c (acfg (F := F)).N S0).dcq
    have h0 : W main_v164_0 = (run m c (acfg (F := F)).N S0).dq := by
      show Function.update _ _ _ _ = _
      rw [Function.update_of_ne (by decide), Function.update_self]
    have h3 : W main_v164_3 = (run m c (acfg (F := F)).N S0).dcq := Function.update_self _ _ _
    iexists W
    isplitr
    · ipureintro; exact ⟨S0, h0, h3⟩
    rw [copied_eq, h0, h3]
    isplitl [Hd]; · iexact Hd
    iexact Hc

/-- The relational proof data. -/
abbrev rdat (c : Dev nD) := (dat m c).toRRel isRes (Rl m c)

/-- What the run leaves: the results' arrays in the data's relation, the copied results as the last point leaves them, every other buffer as the
    host operations left it, every semaphore at zero. -/
def Post (r : PUnit × MemSt nD τ sig (Elt F)) : Prop :=
  (Pipeline.RDat.FramePostR (acfg (F := F)) (rdat m) copied (V m) r
    ∧ ∀ c : Dev nD, ∃ W : (b : Ref sig .tc) → Buf (Elt F) ((c.tc : Thread nD τ).loc b), Copied m c W ∧ ∀ b ∈ copied, r.2.mem ((c.tc : Thread nD τ).loc b) = W b)
  ∧ r.2.sem = fun _ => 0

set_option backward.isDefEq.respectTransparency.types false in
theorem run_main : θ_run (defs (F := F)) (onTc (τ := τ) (main (F := F))) (s₀ m ρ) (Post m) :=
  Pipeline.RDat.θ_run_frameP_dmaRSat_shared (Q' := Post m) (hQ' := fun _ h => h) pcfgs (fun | 0 => adm | ⟨_ + 1, h⟩ => absurd h (Nat.not_lt.2 (Nat.le_add_left _ _))) (0 : Fin 1) launch0.to₀ osem0 defs₀ Variants.none (rdat m)
    ownSemFacts0 ∅ copied (Finset.empty_subset _) copied_sub m ρ main
    (hbody := fun c => (body_obligation m c).toRRel) (hq := fun _ _ _ => rfl) (howed := fun _ _ => rfl) (V := V m) (hmain := hmain m Variants.none)
    (hA := fun _ _ => rfl) (hpf := fun c k => match k with | 0 => V_table0 m c | 1 => V_table1 m c) (PG := Copied m)
    (hin := h_in m) (hout := h_out m)

end Cert.AttnIdeal.Hand

end
-- ==== Proof.AttnFrame.lean ====
/- THE FRAME of the idealized program, at any values. -/
module

public import proofs.«01_k».proof.Proof.AttnLaunch

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Idealize.ShloMosaic.Pipeline.UD sig nD τ) ℕ

variable (m : (ℓ : Loc nD τ sig) → Buf (Elt F) ℓ) (ρ : Dev nD → PrngReg)

/-- The arguments' buffers. -/
def isArg (b : Ref sig .tc) : Prop := b = main_arg0 ∨ b = main_arg1 ∨ b = main_arg2 ∨ b = main_arg3 ∨ b = main_arg4

set_option maxHeartbeats 4000000 in
/-- No host operation writes an argument. -/
theorem V_arg (c : Dev nD) (b : Ref sig .tc) (h : isArg b) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    rcases h with rfl | rfl | rfl | rfl | rfl <;> repeat' apply And.intro
    all_goals exact StableHlo.devRef_ne_of_ne (by decide)))

theorem arg_rest (b : Ref sig .tc) (h : isArg b) : b ∈ Pipeline.restRefs sig spec0 \ copied := by
  rw [Finset.mem_sdiff]
  rcases h with rfl | rfl | rfl | rfl | rfl <;> exact ⟨Pipeline.mem_restRefs_of _ (by decide) (by decide), by decide⟩

/-- An argument holds at the end what it held at launch. -/
theorem final_arg {r : PUnit × MemSt nD τ sig (Elt F)} (h : Post m r) (c : Dev nD) (b : Ref sig .tc) (hb : isArg b) :
    r.2.mem ((c : Thread nD τ).loc b) = m ((c : Thread nD τ).loc b) :=
  ((h.1.1 c).2 b (arg_rest b hb)).trans (V_arg m c b hb)

/-- THE FRAME, at any values. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun _ h => ⟨fun c => ⟨final_arg m h c _ (.inl rfl), final_arg m h c _ (.inr (.inl rfl)), final_arg m h c _ (.inr (.inr (.inl rfl))),
    final_arg m h c _ (.inr (.inr (.inr (.inl rfl)))), final_arg m h c _ (.inr (.inr (.inr (.inr rfl))))⟩, h.2⟩) (run_main m ρ)

end Cert.AttnIdeal.Hand

end
-- ==== Proof.AttnFrameBits.lean ====
/- THE FRAME of the kernel's own program: the idealized program's run at machine values, where the name of the mask is its float. -/
module

public import proofs.«01_k».proof.Proof.AttnFrame
public import proofs.«01_k».proof.Defs
public import proofs.«01_k».proof.Proof.Gen.Attn
public import Idealize.ShloMosaic.Lib.Tactic

@[expose] public section

set_option maxRecDepth 16384

noncomputable section

namespace Cert.AttnIdeal.Hand

open Idealize.ShloMosaic Idealize.ShloMosaic.Tactic Idealize.SL.Sem

/-- At machine values a named constant is the float it stands for. -/
@[reducible] def namedBits : Named Bits where
  named _ _ {φ} bits := FloatOps.ofBits φ bits

/-- What the idealized program's frame says at machine values. -/
def statement : Prop :=
  letI := Cert.AttnIdeal.Gen.facts
  letI := namedBits
  ∀ (m : (ℓ : Loc nD τ sig) → Buf (Elt Bits) ℓ) (ρ : Dev nD → PrngReg), True →
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
theorem statement_holds : statement := fun m ρ _ => @frame Bits _ namedBits m ρ

/-- The kernel's own program and the idealized one are the same program at machine values. -/
theorem statement_eq : statement = @Cert.quiescent_Attn Cert.Attn.Gen.facts := by sl_kernel_rfl

theorem frame_attn : @Cert.quiescent_Attn Cert.Attn.Gen.facts := Eq.mp statement_eq statement_holds

end Cert.AttnIdeal.Hand

end
-- ==== Proof.AttnCore.lean ====
/- THE HEADS' STEPS in one form: what a point adds to each accumulator, for every head alike. -/
module

public import proofs.«01_k».proof.Proof.AttnBody
public import Idealize.ShloMosaic.Lib.WritesUnit
public import Idealize.ShloMosaic.Lib.WindowSumWrites

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

variable {F : FTy → Type} [FloatOps F] [Named F]

/-! ## The tiles -/

theorem inbC (h : Fin 8) : ∀ a, (![0, 128 * h.val] : Fin 2 → ℕ) a + S640x128.size a ≤ S640x1024.size a :=
  Fin.forall_fin_two.mpr ⟨Nat.le_refl 640, by show 128 * h.val + 128 ≤ 1024; omega⟩
theorem inbR (h : Fin 8) : ∀ a, (![128 * h.val, 0] : Fin 2 → ℕ) a + S128x640.size a ≤ S1024x640.size a :=
  Fin.forall_fin_two.mpr ⟨by show 128 * h.val + 128 ≤ 1024; omega, Nat.le_refl 640⟩
theorem inbH (h : Fin 8) : ∀ a, (![h.val, 0] : Fin 2 → ℕ) a + S1x640.size a ≤ S8x640.size a :=
  Fin.forall_fin_two.mpr ⟨by show h.val + 1 ≤ 8; omega, Nat.le_refl 640⟩

/-- Head `h`'s tile of a block with the heads along the columns. -/
def colT (a : Memref sig .tc .vmem S640x1024 .bf16) (ha : a.IsWhole) (x : Vec F S640x1024 .bf16) (h : Fin 8) : Vec F S640x128 .bf16 :=
  View.readAt (Elt F) a.view (Rect.unit (s := S640x1024) ![0, 128 * h.val] S640x128.size (inbC h)).toLoadRect (ha.unread x)
/-- Head `h`'s tile of a block with the heads along the rows. -/
def rowT (a : Memref sig .tc .vmem S1024x640 .bf16) (ha : a.IsWhole) (x : Vec F S1024x640 .bf16) (h : Fin 8) : Vec F S128x640 .bf16 :=
  View.readAt (Elt F) a.view (Rect.unit (s := S1024x640) ![128 * h.val, 0] S128x640.size (inbR h)).toLoadRect (ha.unread x)

/-! ## One head -/

/-- The scores' exponentials, the scores masked by `M`. -/
def pT (M : FVec F S640x640 .f32 → FVec F S640x640 .f32) (q k : Vec F S640x128 .bf16) : FVec F S640x640 .f32 :=
  exp (M (matmul dot_S640x128_S640x128_S640x640_1_1_0_0_n_n none (shapeCast S640x128 q shapeCasts_S640x128_S640x128)
    (shapeCast S640x128 k shapeCasts_S640x128_S640x128) (constant S640x640 .f32 0x00000000#32)))
/-- The scores' gradient. -/
def dsT (M : FVec F S640x640 .f32 → FVec F S640x640 .f32) (q k d v : Vec F S640x128 .bf16) : FVec F S640x640 .f32 :=
  mulf (pT M q k) (matmul dot_S640x128_S640x128_S640x640_1_1_0_0_n_n none (shapeCast S640x128 d shapeCasts_S640x128_S640x128)
    (shapeCast S640x128 v shapeCasts_S640x128_S640x128) (constant S640x640 .f32 0x00000000#32))
/-- An accumulator's tile with a product added. -/
def addT (s : FVec F S640x640 .f32) (old : Vec F S128x640 .f32) (t : Vec F S128x640 .bf16) : FVec F S128x640 .f32 :=
  shapeCast S128x640 (addf old (matmul dot_S128x640_S640x640_S128x640_1_0_0_1_n_n none (shapeCast S128x640 t shapeCasts_S128x640_S128x640)
    (truncf .bf16 s bitsLt_bf16_f32) (constant S128x640 .f32 0x00000000#32))) shapeCasts_S128x640_S128x640
/-- The scores' gradient times the keys. -/
def dqT (s : FVec F S640x640 .f32) (k : Vec F S640x128 .bf16) : FVec F S640x128 .f32 :=
  matmul dot_S640x640_S640x128_S640x128_1_0_0_1_n_n none (truncf .bf16 s bitsLt_bf16_f32)
    (shapeCast S640x128 k shapeCasts_S640x128_S640x128) (constant S640x128 .f32 0x00000000#32)
/-- The lane of each column. -/
def lanes : IVec S640x128 32 := iota .tc S640x128 32 [1] iota_S640x128_d1_w32
/-- A pair of heads' rows added to the queries' accumulator. -/
def pairT (a b : FVec F S640x128 .f32) (old : Vec F S640x128 .f32) : FVec F S640x128 .f32 :=
  shapeCast S640x128 (addf old (select (cmpi .slt lanes (broadcast S640x128 64#32)) a b)) shapeCasts_S640x128_S640x128
/-- A head's row sums added in its lane. -/
def laneT (h : Fin 8) (s : FVec F S640x640 .f32) (old : FVec F S640x128 .f32) : FVec F S640x128 .f32 :=
  addf old (select (cmpi .eq lanes (broadcast S640x128 (BitVec.ofNat 32 h.val)))
    (broadcastTo S640x128 (shapeCast S640x1 (shapeCast S640x1 (multiReduction .add [1] S640 s 0x00000000#32 reduces_S640x640_S640 (.inl rfl) rfl) shapeCasts_S640_S640x1) shapeCasts_S640x1_S640x1) broadcasts_S640x1_S640x128)
    (broadcast S640x128 (Scalar.ofBits .f32 0x00000000#32)))
/-- A head's column sums added in its row. -/
def colSumT (s : FVec F S640x640 .f32) (old : Vec F S1x640 .f32) : FVec F S1x640 .f32 :=
  shapeCast S1x640 (addf old (shapeCast S1x640 (multiReduction .add [0] S640 s 0x00000000#32 reduces_S640x640_S640_2 (.inl rfl) rfl) shapeCasts_S640_S1x640)) shapeCasts_S1x640_S1x640

/-- All heads' rows added in turn. -/
def lanesT (s : Fin 8 → FVec F S640x640 .f32) (old : Vec F S640x128 .f32) : FVec F S640x128 .f32 :=
  shapeCast S640x128 (laneT 7 (s 7) (laneT 6 (s 6) (laneT 5 (s 5) (laneT 4 (s 4) (laneT 3 (s 3) (laneT 2 (s 2) (laneT 1 (s 1) (laneT 0 (s 0) old)))))))) shapeCasts_S640x128_S640x128

/-! ## The accumulators after a point -/

/-- The pieces a point writes into the keys' or the values' accumulator `v`. -/
def rowPieces (v : View sig .tc .vmem S1024x640 .f32) (x : v.ty.Contents (Elt F)) (s : Fin 8 → FVec F S640x640 .f32) (t : Fin 8 → Vec F S128x640 .bf16) :
    List (View.Piece (Elt F) S1024x640 .f32) :=
  View.tilePieces S128x640.size (fun h : Fin 8 => ![128 * h.val, 0]) inbR
    (fun h => addT (s h) (View.readAt (Elt F) v (Rect.unit (s := S1024x640) ![128 * h.val, 0] S128x640.size (inbR h)).toLoadRect x) (t h)) 8 (Nat.le_refl 8)
/-- The pieces a point writes into the accumulator of column sums. -/
def sumPieces (x : Vec F S8x640 .f32) (s : Fin 8 → FVec F S640x640 .f32) : List (View.Piece (Elt F) S8x640 .f32) :=
  View.tilePieces S1x640.size (fun h : Fin 8 => ![h.val, 0]) inbH
    (fun h => colSumT (s h) (View.readAt (Elt F) caccM.view (Rect.unit (s := S8x640) ![h.val, 0] S1x640.size (inbH h)).toLoadRect x)) 8 (Nat.le_refl 8)
/-- The pieces a point writes into the queries' accumulator at the windows `off`. -/
def qPieces (off : Fin 4 → Fin 2 → ℕ) (inb : ∀ i a, off i a + S640x128.size a ≤ S8320x512.size a) (x : Vec F S8320x512 .f32) (d : Fin 8 → FVec F S640x128 .f32) :
    List (View.Piece (Elt F) S8320x512 .f32) :=
  View.accPieces qaccM.view x [] S640x128.size off inb
    (fun i old => pairT (d ⟨2 * i.val, by omega⟩) (d ⟨2 * i.val + 1, by omega⟩) old) 4 (Nat.le_refl 4)

/-! ## Below the diagonal -/

section
variable (c : Dev nD) (i : grid0.Coords) (g : Stg) (v1 v3 : BitVec 32) (hw : k0_chk1 v1 v3) (b : Blk F) (S : St F)

/-- The exponentials of the scores of head `h`. -/
def pAt (M : FVec F S640x640 .f32 → FVec F S640x640 .f32) (h : Fin 8) : FVec F S640x640 .f32 := pT M (colT g.a3 g.h3 b.b3 h) (colT g.a7 g.h7 b.b7 h)
/-- The gradient of the scores of head `h`. -/
def dsAt (M : FVec F S640x640 .f32 → FVec F S640x640 .f32) (h : Fin 8) : FVec F S640x640 .f32 := dsT M (colT g.a3 g.h3 b.b3 h) (colT g.a7 g.h7 b.b7 h) (colT g.a4 g.h4 b.b4 h) (colT g.a8 g.h8 b.b8 h)

/-- The windows of the queries' accumulator. -/
def offO : Fin 4 → Fin 2 → ℕ := ![k0_off3 v3, k0_off4 v3, k0_off5 v3, k0_off6 v3]
include hw in
theorem inbO (h : k0_cond3 v1 v3 = 1#1) : ∀ i a, offO v3 i a + S640x128.size a ≤ S8320x512.size a
  | 0 => k0_off3_inb v1 v3 hw h
  | 1 => k0_off4_inb v1 v3 hw h
  | 2 => k0_off5_inb v1 v3 hw h
  | 3 => k0_off6_inb v1 v3 hw h

variable (h : k0_cond3 v1 v3 = 1#1)

theorem off_k : (offSt c i g v1 v3 hw h b S).k = kaccM.view.writes (Elt F) S.k (rowPieces kaccM.view S.k (dsAt g b id) (rowT g.a5 g.h5 b.b5)) := by sl_kernel_rfl
theorem off_v : (offSt c i g v1 v3 hw h b S).v = vaccM.view.writes (Elt F) S.v (rowPieces vaccM.view S.v (pAt g b id) (rowT g.a6 g.h6 b.b6)) := by sl_kernel_rfl
theorem off_c : (offSt c i g v1 v3 hw h b S).c = caccM.view.writes (Elt F) S.c (sumPieces S.c (dsAt g b id)) := by sl_kernel_rfl
theorem off_s : (offSt c i g v1 v3 hw h b S).s = saccM.view.writes (Elt F) S.s [⟨Rect.unit (s := S8320x128) (k0_off2 v3) S640x128.size (k0_off2_inb v1 v3 hw h),
    lanesT (dsAt g b id) (View.readAt (Elt F) saccM.view (Rect.unit (s := S8320x128) (k0_off2 v3) S640x128.size (k0_off2_inb v1 v3 hw h)).toLoadRect S.s)⟩] := by sl_kernel_rfl
theorem off_q : (offSt c i g v1 v3 hw h b S).q = qaccM.view.writes (Elt F) S.q (qPieces (offO v3) (inbO v1 v3 hw h) S.q (fun h => dqT (dsAt g b id h) (colT g.a7 g.h7 b.b7 h))) := by sl_kernel_rfl

end

/-! ## On the diagonal -/

section
variable (c : Dev nD) (i : grid0.Coords) (g : Stg) (v1 v3 : BitVec 32) (hw : k0_chk1 v1 v3) (b : Blk F) (S : St F)

/-- The mask of the diagonal block. -/
def causal (s : FVec F S640x640 .f32) : FVec F S640x640 .f32 :=
  select (cmpi .sge (iota .tc S640x640 32 [0] iota_S640x640_d0_w32) (iota .tc S640x640 32 [1] iota_S640x640_d1_w32)) s (broadcast S640x640 (Named.named κ "mask" 0xF149F2CA#32))

/-- The windows of the queries' accumulator. -/
def offD : Fin 4 → Fin 2 → ℕ := ![k0_off8 v3, k0_off9 v3, k0_off10 v3, k0_off11 v3]
include hw in
theorem inbD (h : k0_cond4 v1 v3 = 1#1) : ∀ i a, offD v3 i a + S640x128.size a ≤ S8320x512.size a
  | 0 => k0_off8_inb v1 v3 hw h
  | 1 => k0_off9_inb v1 v3 hw h
  | 2 => k0_off10_inb v1 v3 hw h
  | 3 => k0_off11_inb v1 v3 hw h

variable (h : k0_cond4 v1 v3 = 1#1)

theorem diag_k : (diagSt c i g v1 v3 hw h b S).k = kaccM.view.writes (Elt F) S.k (rowPieces kaccM.view S.k (dsAt g b causal) (rowT g.a5 g.h5 b.b5)) := by sl_kernel_rfl
theorem diag_v : (diagSt c i g v1 v3 hw h b S).v = vaccM.view.writes (Elt F) S.v (rowPieces vaccM.view S.v (pAt g b causal) (rowT g.a6 g.h6 b.b6)) := by sl_kernel_rfl
theorem diag_c : (diagSt c i g v1 v3 hw h b S).c = caccM.view.writes (Elt F) S.c (sumPieces S.c (dsAt g b causal)) := by sl_kernel_rfl
theorem diag_s : (diagSt c i g v1 v3 hw h b S).s = saccM.view.writes (Elt F) S.s [⟨Rect.unit (s := S8320x128) (k0_off7 v3) S640x128.size (k0_off7_inb v1 v3 hw h),
    lanesT (dsAt g b causal) (View.readAt (Elt F) saccM.view (Rect.unit (s := S8320x128) (k0_off7 v3) S640x128.size (k0_off7_inb v1 v3 hw h)).toLoadRect S.s)⟩] := by sl_kernel_rfl
theorem diag_q : (diagSt c i g v1 v3 hw h b S).q = qaccM.view.writes (Elt F) S.q (qPieces (offD v3) (inbD v1 v3 hw h) S.q (fun h => dqT (dsAt g b causal h) (colT g.a7 g.h7 b.b7 h))) := by sl_kernel_rfl

/-- The finished query rows. -/
theorem diag_row : (diagSt c i g v1 v3 hw h b S).row = rowM.view.writes (Elt F) S.row [⟨Rect.unit (s := S640x512) ![0, 0] S640x512.size inb_S640x512_S640x512_0_0,
    k0_pay165 (View.readAt (Elt F) qaccM.view (Rect.unit (s := S8320x512) (k0_off12 v3) S640x512.size (k0_off12_inb v1 v3 hw h)).toLoadRect (diagSt c i g v1 v3 hw h b S).q)⟩] := by sl_kernel_rfl
theorem diag_dq : (diagSt c i g v1 v3 hw h b S).dq = dqM.view.writes (Elt F) S.dq [⟨Rect.unit (s := S8320x512) (k0_off13 v3) S640x512.size (k0_off13_inb v1 v3 hw h),
    View.read (Elt F) rowM.view (diagSt c i g v1 v3 hw h b S).row⟩] := by sl_kernel_rfl
theorem diag_dcq : (diagSt c i g v1 v3 hw h b S).dcq = dcqM.view.writes (Elt F) S.dcq [⟨Rect.unit (s := S8320x128) (k0_off14 v3) S640x128.size (k0_off14_inb v1 v3 hw h),
    View.readAt (Elt F) saccM.view (Rect.unit (s := S8320x128) (k0_off14 v3) S640x128.size (k0_off14_inb v1 v3 hw h)).toLoadRect (diagSt c i g v1 v3 hw h b S).s⟩] := by sl_kernel_rfl

end

/-! ## The zeros, and a key block's results -/

section
variable (c : Dev nD) (i : grid0.Coords) (g : Stg) (b : Blk F) (S : St F)

theorem zeroAll_q : (zeroAllSt c i g b S).q = qaccM.view.writes (Elt F) S.q [⟨Rect.unit (s := S8320x512) ![0, 0] ![8320, 512] inb_S8320x512_S8320x512_0_0, k0_pay1⟩] := by sl_kernel_rfl
theorem zeroAll_s : (zeroAllSt c i g b S).s = saccM.view.writes (Elt F) S.s [⟨Rect.unit (s := S8320x128) ![0, 0] ![8320, 128] inb_S8320x128_S8320x128_0_0, k0_pay2⟩] := by sl_kernel_rfl
theorem zeroCols_k : (zeroColsSt c i g b S).k = kaccM.view.writes (Elt F) S.k [⟨Rect.unit (s := S1024x640) ![0, 0] ![1024, 640] inb_S1024x640_S1024x640_0_0, k0_pay3⟩] := by sl_kernel_rfl
theorem zeroCols_v : (zeroColsSt c i g b S).v = vaccM.view.writes (Elt F) S.v [⟨Rect.unit (s := S1024x640) ![0, 0] ![1024, 640] inb_S1024x640_S1024x640_0_0, k0_pay4⟩] := by sl_kernel_rfl
theorem zeroCols_c : (zeroColsSt c i g b S).c = caccM.view.writes (Elt F) S.c [⟨Rect.unit (s := S8x640) ![0, 0] ![8, 640] inb_S8x640_S8x640_0_0, k0_pay5⟩] := by sl_kernel_rfl

/-- Head `h`'s rows of an accumulator, turned. -/
def turnT (A : Vec F S1024x640 .f32) (h : Fin 8) : FVec F S640x128 .f32 :=
  transpose S640x128 [1, 0] (View.readAt (Elt F) kaccM.view (Rect.unit (s := S1024x640) ![128 * h.val, 0] S128x640.size (inbR h)).toLoadRect A) transposes_S128x640_p1_0_S640x128
/-- Two heads' main lanes side by side. -/
def mergeT (x y : FVec F S640x128 .f32) : FVec F S640x128 .f32 := select (cmpi .slt lanes (broadcast S640x128 64#32)) x y
/-- All heads' main lanes side by side. -/
def packT (x : Fin 8 → FVec F S640x128 .f32) : FVec F S640x512 .bf16 :=
  truncf .bf16 (concatenate S640x512 1 [⟨S640x128, mergeT (x 0) (x 1)⟩, ⟨S640x128, mergeT (x 2) (x 3)⟩, ⟨S640x128, mergeT (x 4) (x 5)⟩, ⟨S640x128, mergeT (x 6) (x 7)⟩]
    concatenates_S640x128_S640x128_S640x128_S640x128_S640x512_d1) bitsLt_bf16_f32

variable (x10 x11 : Vec F S640x512 .bf16) (x13 : Vec F S8x640 .f32)
theorem flush_k : (flushV c i g x10 x11 x13 S).1 = View.read (Elt F) g.a10.view (g.a10.view.writes (Elt F) (g.h10.unread x10)
    [⟨Rect.unit (s := S640x512) ![0, 0] S640x512.size inb_S640x512_S640x512_0_0, packT (turnT S.k)⟩]) := by sl_kernel_rfl
theorem flush_v : (flushV c i g x10 x11 x13 S).2.1 = View.read (Elt F) g.a11.view (g.a11.view.writes (Elt F) (g.h11.unread x11)
    [⟨Rect.unit (s := S640x512) ![0, 0] S640x512.size inb_S640x512_S640x512_0_0, packT (turnT S.v)⟩]) := by sl_kernel_rfl
theorem flush_c : (flushV c i g x10 x11 x13 S).2.2 = View.read (Elt F) g.a13.view (g.a13.view.writes (Elt F) (g.h13.unread x13)
    [⟨Rect.unit (s := S8x640) ![0, 0] S8x640.size inb_S8x640_S8x640_0_0, View.readAt (Elt F) caccM.view (Rect.unit (s := S8x640) ![0, 0] S8x640.size inb_S8x640_S8x640_0_0).toLoadRect S.c⟩]) := by sl_kernel_rfl

end

end Cert.AttnIdeal.Hand

end
-- ==== Proof.AttnPoint.lean ====
/- A POINT'S VALUES at an index: what one point adds to each accumulator, as sums over the extended reals. -/
module

public import proofs.«01_k».proof.Proof.AttnCore
public import Idealize.ShloMosaic.Lib.Pointwise
public import Idealize.ShloMosaic.Lib.Tactic.WordOmega

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

/-! ## Reading a buffer -/

section
variable {sp : Space} {d : Fin 2 → ℕ} {e : EltTy}

/-- A read through a window, at an index. -/
theorem readAt_at (v : View sig .tc sp (⟨2, d⟩ : Shape) e) (f : v.ty.Contents (Elt Ideal)) (off size : Fin 2 → ℕ) (inb) (x : (⟨2, size⟩ : Shape).Idx) (y : (⟨2, d⟩ : Shape).Idx)
    (h : ∀ a, (y a).val = off a + (x a).val) :
    View.readAt (Elt Ideal) v (Rect.unit (s := ⟨2, d⟩) off size inb).toLoadRect f x = v.read (Elt Ideal) f y := by
  rw [View.readAt_apply]
  congr 1
  funext a
  apply Fin.ext
  show off a + 1 * (x a).val = (y a).val
  rw [h a, Nat.one_mul]

/-- What a whole write leaves at an index. -/
theorem read_whole_write (v : View sig .tc sp (⟨2, d⟩ : Shape) e) (f : v.ty.Contents (Elt Ideal)) (inb) (w : (⟨2, d⟩ : Shape).Idx → Elt Ideal e) (y : (⟨2, d⟩ : Shape).Idx) :
    v.read (Elt Ideal) (v.writes (Elt Ideal) f [⟨Rect.unit (s := ⟨2, d⟩) ![0, 0] d inb, w⟩]) y = w y :=
  View.read_writes_cons_unit_of_mem v f inb w [] y y rfl
    (Fin.forall_fin_two.mpr ⟨(Nat.zero_add _).symm, (Nat.zero_add _).symm⟩)

variable {size : Fin 2 → ℕ}

/-- Read-modify-writes of windows that do not meet are tiles of one write. -/
theorem accPieces_eq {NB : ℕ} (v : View sig .tc sp (⟨2, d⟩ : Shape) e) (f : v.ty.Contents (Elt Ideal)) (off : Fin NB → Fin 2 → ℕ) (inb : ∀ i a, off i a + size a ≤ d a)
    (X : Fin NB → ((⟨2, size⟩ : Shape).Idx → Elt Ideal e) → (⟨2, size⟩ : Shape).Idx → Elt Ideal e) (ax : Fin 2)
    (hdis : ∀ i j : Fin NB, i < j → off i ax + size ax ≤ off j ax) (j : ℕ) (hj : j ≤ NB) :
    View.accPieces v f [] size off inb X j hj
      = View.tilePieces size off inb (fun i => X i (View.readAt (Elt Ideal) v (Rect.unit (s := ⟨2, d⟩) (off i) size (inb i)).toLoadRect f)) j hj := by
  induction j with
  | zero => rfl
  | succ j ih =>
    rw [View.tilePieces_succ, View.accPieces, ih (Nat.le_of_succ_le hj)]
    congr 3
    funext x
    rw [View.readAt_apply, View.readAt_apply]
    refine View.read_tilePieces_miss v f size off inb _ j _ _ ax fun i' hi' => Or.inr ?_
    show off i' ax + size ax ≤ off ⟨j, hj⟩ ax + 1 * (x ax).val
    have := hdis i' ⟨j, hj⟩ hi'
    omega
end

/-! ## The heads' numbers at a point -/

/-- Column `x` of head `h`'s tile. -/
def hcol (h : Fin 8) (x : Fin 128) : Fin 1024 := ⟨128 * h.val + x.val, by omega⟩

variable (b : Blk Ideal) (D : Bool)

/-- The score of query row `r` and key row `l`. -/
def sc (h : Fin 8) (r l : Fin 640) : EReal := ∑ x : Fin 128, b.b3 (ix2 r (hcol h x)) * b.b7 (ix2 l (hcol h x))
/-- The gradient of the weight of query row `r` and key row `l`. -/
def dp (h : Fin 8) (r l : Fin 640) : EReal := ∑ x : Fin 128, b.b4 (ix2 r (hcol h x)) * b.b8 (ix2 l (hcol h x))
/-- The weight; on the diagonal (`D`) keys after the query have none. -/
def pr (h : Fin 8) (r l : Fin 640) : EReal := Ideal.exp (if D = true ∧ r < l then ⊥ else sc b h r l)
/-- The gradient of the score. -/
def gr (h : Fin 8) (r l : Fin 640) : EReal := pr b D h r l * dp b h r l

/-- The mask a block is taken with. -/
def maskOf : Bool → FVec Ideal S640x640 .f32 → FVec Ideal S640x640 .f32
  | false => id
  | true => causal

theorem select_iff {α : Type} (c : BitVec 1) (p : Prop) [Decidable p] (h : c = 1#1 ↔ p) (x y : α) : Scalar.select c x y = if p then x else y := by
  by_cases hp : p
  · rw [if_pos hp, h.mpr hp]; rfl
  · rw [if_neg hp]
    have hc : c ≠ 1#1 := fun e => hp (h.mp e)
    have : c = 0#1 := by bv_omega
    rw [this]; rfl

theorem mask_word : Named.named (F := Ideal) κ "mask" (φ := .f32) 4048155338#32 = ⊥ := rfl

theorem colT_apply (a : Memref sig .tc .vmem S640x1024 .bf16) (ha : a.IsWhole) (x : Vec Ideal S640x1024 .bf16) (h : Fin 8) (r : Fin 640) (y : Fin 128) :
    colT a ha x h (ix2 r y) = x (ix2 r (hcol h y)) := by
  unfold colT
  rw [readAt_at a.view (ha.unread x) _ _ (inbC h) (ix2 r y) (ix2 r (hcol h y)) (Fin.forall_fin_two.mpr ⟨(Nat.zero_add _).symm, rfl⟩), ha.read_unread]
theorem rowT_apply (a : Memref sig .tc .vmem S1024x640 .bf16) (ha : a.IsWhole) (x : Vec Ideal S1024x640 .bf16) (h : Fin 8) (y : Fin 128) (l : Fin 640) :
    rowT a ha x h (ix2 y l) = x (ix2 (hcol h y) l) := by
  unfold rowT
  rw [readAt_at a.view (ha.unread x) _ _ (inbR h) (ix2 y l) (ix2 (hcol h y) l) (Fin.forall_fin_two.mpr ⟨rfl, (Nat.zero_add _).symm⟩), ha.read_unread]

theorem causal_apply (s : FVec Ideal S640x640 .f32) (r l : Fin 640) : causal s (ix2 r l) = if r < l then ⊥ else s (ix2 r l) := by
  pointwise [causal]
  rw [select_iff _ (l ≤ r) (by rw [WordCmp.cmpi_sge_ofNat (by omega) (by omega), WordCmp.ofBool_decide_eq_one_iff]; exact Iff.rfl), mask_word]
  by_cases h : r < l
  · rw [if_pos h, if_neg (not_le.mpr h)]
  · rw [if_neg h, if_pos (not_lt.mp h)]

variable (g : Stg)

theorem pAt_apply (h : Fin 8) (r l : Fin 640) : pAt g b (maskOf D) h (ix2 r l) = pr b D h r l := by
  unfold pAt pr sc
  cases D
  · pointwise [pT, maskOf]
    rw [id]
    pointwise
    simp only [colT_apply, Bool.false_eq_true, false_and, if_false]
  · pointwise [pT, maskOf]
    rw [causal_apply]
    pointwise
    simp only [colT_apply, true_and]

theorem dsAt_apply (h : Fin 8) (r l : Fin 640) : dsAt g b (maskOf D) h (ix2 r l) = gr b D h r l := by
  unfold dsAt gr dp
  pointwise [dsT]
  simp only [colT_apply]
  rw [← pAt_apply b D g]; rfl

/-! ## The accumulators -/

/-- Row `r` of row block `I`. -/
def rw8 (I : Fin 13) (r : Fin 640) : Fin 8320 := ⟨640 * I.val + r.val, by omega⟩
/-- Lane `x` of the pair of heads `p`. -/
def cl4 (p : Fin 4) (x : Fin 128) : Fin 512 := ⟨128 * p.val + x.val, by omega⟩
/-- The head of lane `x` of a pair: the even one has the first 64 lanes. -/
def hd (p : Fin 4) (x : Fin 128) : Fin 8 := if x.val < 64 then ⟨2 * p.val, by omega⟩ else ⟨2 * p.val + 1, by omega⟩

theorem rowPieces_apply (v : View sig .tc .vmem S1024x640 .f32) (x : v.ty.Contents (Elt Ideal)) (s : Fin 8 → FVec Ideal S640x640 .f32) (t : Fin 8 → Vec Ideal S128x640 .bf16) (h : Fin 8) (y : Fin 128) (l : Fin 640) :
    v.read (Elt Ideal) (v.writes (Elt Ideal) x (rowPieces v x s t)) (ix2 (hcol h y) l) = v.read (Elt Ideal) x (ix2 (hcol h y) l) + (∑ r, t h (ix2 y r) * s h (ix2 r l) : EReal) := by
  unfold rowPieces
  rw [View.read_tilePieces v x S128x640.size (fun h : Fin 8 => ![128 * h.val, 0]) inbR _ 8 (Nat.le_refl 8) (ix2 (hcol h y) l) h h.isLt (ix2 y l)
    (Fin.forall_fin_two.mpr ⟨rfl, (Nat.zero_add _).symm⟩) 0 (fun i' hi => ?_)]
  · pointwise [addT]
    rw [readAt_at v x _ _ (inbR h) (ix2 y l) (ix2 (hcol h y) l) (Fin.forall_fin_two.mpr ⟨rfl, (Nat.zero_add _).symm⟩)]
  · show 128 * h.val + y.val < 128 * i'.val ∨ 128 * i'.val + 128 ≤ 128 * h.val + y.val
    have : i'.val ≠ h.val := fun e => hi (Fin.ext e)
    omega

theorem sumPieces_apply (x : Vec Ideal S8x640 .f32) (s : Fin 8 → FVec Ideal S640x640 .f32) (h : Fin 8) (l : Fin 640) :
    caccM.view.read (Elt Ideal) (caccM.view.writes (Elt Ideal) x (sumPieces x s)) (ix2 h l) = x (ix2 h l) + (∑ r, s h (ix2 r l) : EReal) := by
  unfold sumPieces
  rw [View.read_tilePieces caccM.view x S1x640.size (fun h : Fin 8 => ![h.val, 0]) inbH _ 8 (Nat.le_refl 8) (ix2 h l) h h.isLt (ix2 0 l)
    (Fin.forall_fin_two.mpr ⟨rfl, (Nat.zero_add _).symm⟩) 0 (fun i' hi => ?_)]
  · pointwise [colSumT]
    rw [readAt_at caccM.view x _ _ (inbH h) (ix2 0 l) (ix2 h l) (Fin.forall_fin_two.mpr ⟨rfl, (Nat.zero_add _).symm⟩)]
    rfl
  · show h.val < i'.val ∨ i'.val + 1 ≤ h.val
    have : i'.val ≠ h.val := fun e => hi (Fin.ext e)
    omega

theorem lt64 (x : Fin 128) : IntOp.cmpi .slt (BitVec.ofNat 32 x.val) 64#32 = 1#1 ↔ x.val < 64 := by
  rw [show (64#32 : BitVec 32) = BitVec.ofNat 32 64 from rfl, WordCmp.cmpi_slt_ofNat (by omega) (by omega), WordCmp.ofBool_decide_eq_one_iff]

section
variable (off : Fin 4 → Fin 2 → ℕ) (inb : ∀ i a, off i a + S640x128.size a ≤ S8320x512.size a) (x : Vec Ideal S8320x512 .f32) (d : Fin 8 → FVec Ideal S640x128 .f32)
  (I : Fin 13) (hoff : ∀ p, off p = ![640 * I.val, 128 * p.val])
include hoff

theorem qPieces_eq : qPieces off inb x d = View.tilePieces (s := S8320x512) S640x128.size off inb
    (fun i => pairT (d ⟨2 * i.val, by omega⟩) (d ⟨2 * i.val + 1, by omega⟩) (View.readAt (Elt Ideal) qaccM.view (Rect.unit (s := S8320x512) (off i) S640x128.size (inb i)).toLoadRect x)) 4 (Nat.le_refl 4) := by
  refine accPieces_eq qaccM.view x off inb _ 1 (fun i j hij => ?_) 4 (Nat.le_refl 4)
  rw [hoff, hoff]
  show 128 * i.val + 128 ≤ 128 * j.val
  have : i.val < j.val := hij
  omega

theorem qPieces_apply (r : Fin 640) (p : Fin 4) (y : Fin 128) :
    qaccM.view.read (Elt Ideal) (qaccM.view.writes (Elt Ideal) x (qPieces off inb x d)) (ix2 (rw8 I r) (cl4 p y)) = x (ix2 (rw8 I r) (cl4 p y)) + d (hd p y) (ix2 r y) := by
  rw [qPieces_eq off inb x d I hoff]
  rw [View.read_tilePieces qaccM.view x S640x128.size off inb _ 4 (Nat.le_refl 4) (ix2 (rw8 I r) (cl4 p y)) p p.isLt (ix2 r y)
    (by rw [hoff]; exact Fin.forall_fin_two.mpr ⟨rfl, rfl⟩) 1 (fun i' hi => ?_)]
  · pointwise [pairT, lanes]
    rw [readAt_at qaccM.view x _ _ (inb p) (ix2 r y) (ix2 (rw8 I r) (cl4 p y)) (by rw [hoff]; exact Fin.forall_fin_two.mpr ⟨rfl, rfl⟩),
      select_iff _ _ (lt64 y)]
    unfold hd
    split <;> rfl
  · rw [hoff]
    show 128 * p.val + y.val < 128 * i'.val ∨ 128 * i'.val + 128 ≤ 128 * p.val + y.val
    have : i'.val ≠ p.val := fun e => hi (Fin.ext e)
    omega

theorem qPieces_miss (I' : Fin 13) (hI : I' ≠ I) (r : Fin 640) (e : Fin 512) :
    qaccM.view.read (Elt Ideal) (qaccM.view.writes (Elt Ideal) x (qPieces off inb x d)) (ix2 (rw8 I' r) e) = qaccM.view.read (Elt Ideal) x (ix2 (rw8 I' r) e) := by
  rw [qPieces_eq off inb x d I hoff]
  refine View.read_tilePieces_miss qaccM.view x S640x128.size off inb _ 4 (Nat.le_refl 4) _ 0 fun i' _ => ?_
  rw [hoff]
  show 640 * I'.val + r.val < 640 * I.val ∨ 640 * I.val + 640 ≤ 640 * I'.val + r.val
  have : I'.val ≠ I.val := fun e => hI (Fin.ext e)
  omega
end

theorem laneT_apply (h : Fin 8) (s : FVec Ideal S640x640 .f32) (old : FVec Ideal S640x128 .f32) (r : Fin 640) (y : Fin 128) :
    laneT h s old (ix2 r y) = old (ix2 r y) + (if y.val = h.val then ∑ l, s (ix2 r l) else 0 : EReal) := by
  pointwise [laneT, lanes]
  rw [select_iff _ (y.val = h.val) (by rw [WordCmp.cmpi_eq_ofNat (by omega) (by omega), WordCmp.ofBool_decide_eq_one_iff])]

/-- Row `r`'s sum of head `y`, nothing past the heads. -/
def laneSum (s : Fin 8 → FVec Ideal S640x640 .f32) (r : Fin 640) (y : Fin 128) : EReal := if h : y.val < 8 then ∑ l, s ⟨y.val, h⟩ (ix2 r l) else 0

theorem lanesT_apply (s : Fin 8 → FVec Ideal S640x640 .f32) (old : Vec Ideal S640x128 .f32) (r : Fin 640) (y : Fin 128) :
    lanesT s old (ix2 r y) = old (ix2 r y) + laneSum s r y := by
  pointwise [lanesT]
  simp only [laneT_apply]
  unfold laneSum
  by_cases h : y.val < 8
  · rw [dif_pos h]
    obtain ⟨y, hy⟩ := y
    interval_cases y <;> simp
  · rw [dif_neg h]
    have : ∀ k : Fin 8, ¬ y.val = k.val := fun k e => h (e ▸ k.isLt)
    simp only [this, if_false, add_zero]

section
variable (off : Fin 2 → ℕ) (I : Fin 13) (hoff : off = ![640 * I.val, 0]) (x : Vec Ideal S8320x128 .f32) (inb : ∀ a, off a + S640x128.size a ≤ S8320x128.size a)
include hoff

theorem rows_readAt (r : Fin 640) (y : Fin 128) : View.readAt (Elt Ideal) saccM.view (Rect.unit (s := S8320x128) off S640x128.size inb).toLoadRect x (ix2 r y) = x (ix2 (rw8 I r) y) :=
  readAt_at saccM.view x _ _ inb (ix2 r y) (ix2 (rw8 I r) y) (by subst hoff; exact Fin.forall_fin_two.mpr ⟨rfl, (Nat.zero_add _).symm⟩)

theorem rows_write {sp : Space} (v : View sig .tc sp S8320x128 .f32) (f : v.ty.Contents (Elt Ideal)) (w : Vec Ideal S640x128 .f32) (r : Fin 640) (y : Fin 128) :
    v.read (Elt Ideal) (v.writes (Elt Ideal) f [⟨Rect.unit (s := S8320x128) off S640x128.size inb, w⟩]) (ix2 (rw8 I r) y) = w (ix2 r y) :=
  View.read_writes_cons_unit_of_mem v f inb w [] _ (ix2 r y) rfl (by subst hoff; exact Fin.forall_fin_two.mpr ⟨rfl, (Nat.zero_add _).symm⟩)

theorem rows_miss {sp : Space} (v : View sig .tc sp S8320x128 .f32) (f : v.ty.Contents (Elt Ideal)) (w : Vec Ideal S640x128 .f32) (I' : Fin 13) (hI : I' ≠ I) (r : Fin 640) (y : Fin 128) :
    v.read (Elt Ideal) (v.writes (Elt Ideal) f [⟨Rect.unit (s := S8320x128) off S640x128.size inb, w⟩]) (ix2 (rw8 I' r) y) = v.read (Elt Ideal) f (ix2 (rw8 I' r) y) :=
  View.read_writes_cons_unit_of_not_mem v f inb w [] _ rfl 0 (by
    subst hoff
    show 640 * I'.val + r.val < 640 * I.val ∨ 640 * I.val + 640 ≤ 640 * I'.val + r.val
    have : I'.val ≠ I.val := fun e => hI (Fin.ext e)
    omega)
end

section
variable (off : Fin 2 → ℕ) (I : Fin 13) (hoff : off = ![640 * I.val, 0]) (inb : ∀ a, off a + S640x512.size a ≤ S8320x512.size a)
include hoff

theorem wide_readAt (x : Vec Ideal S8320x512 .f32) (r : Fin 640) (y : Fin 512) : View.readAt (Elt Ideal) qaccM.view (Rect.unit (s := S8320x512) off S640x512.size inb).toLoadRect x (ix2 r y) = x (ix2 (rw8 I r) y) :=
  readAt_at qaccM.view x _ _ inb (ix2 r y) (ix2 (rw8 I r) y) (by subst hoff; exact Fin.forall_fin_two.mpr ⟨rfl, (Nat.zero_add _).symm⟩)

theorem wide_write (x : Vec Ideal S8320x512 .bf16) (w : Vec Ideal S640x512 .bf16) (r : Fin 640) (y : Fin 512) :
    dqM.view.read (Elt Ideal) (dqM.view.writes (Elt Ideal) x [⟨Rect.unit (s := S8320x512) off S640x512.size inb, w⟩]) (ix2 (rw8 I r) y) = w (ix2 r y) :=
  View.read_writes_cons_unit_of_mem dqM.view x inb w [] _ (ix2 r y) rfl (by subst hoff; exact Fin.forall_fin_two.mpr ⟨rfl, (Nat.zero_add _).symm⟩)

theorem wide_miss (x : Vec Ideal S8320x512 .bf16) (w : Vec Ideal S640x512 .bf16) (I' : Fin 13) (hI : I' ≠ I) (r : Fin 640) (y : Fin 512) :
    dqM.view.read (Elt Ideal) (dqM.view.writes (Elt Ideal) x [⟨Rect.unit (s := S8320x512) off S640x512.size inb, w⟩]) (ix2 (rw8 I' r) y) = dqM.view.read (Elt Ideal) x (ix2 (rw8 I' r) y) :=
  View.read_writes_cons_unit_of_not_mem dqM.view x inb w [] _ rfl 0 (by
    subst hoff
    show 640 * I'.val + r.val < 640 * I.val ∨ 640 * I.val + 640 ≤ 640 * I'.val + r.val
    have : I'.val ≠ I.val := fun e => hI (Fin.ext e)
    omega)
end

/-! ## The offsets -/

section
variable (v3 : BitVec 32) (I : Fin 13) (hI : v3.toNat = I.val)
include hI

theorem row_off : (Scalar.indexCast (Scalar.muli v3 640#32)).toNat = 640 * I.val := by
  have hv : v3 = BitVec.ofNat 32 I.val := by rw [← hI]; simp
  subst hv
  fin_cases I <;> rfl

theorem offO_eq (p : Fin 4) : offO v3 p = ![640 * I.val, 128 * p.val] := by
  fin_cases p <;> (simp only [offO]; show ![_, _] = _; rw [row_off v3 I hI])
theorem offD_eq (p : Fin 4) : offD v3 p = ![640 * I.val, 128 * p.val] := by
  fin_cases p <;> (simp only [offD]; show ![_, _] = _; rw [row_off v3 I hI])
theorem off2_eq : k0_off2 v3 = ![640 * I.val, 0] := congrArg (fun n : ℕ => ![n, 0]) (row_off v3 I hI)
theorem off7_eq : k0_off7 v3 = ![640 * I.val, 0] := congrArg (fun n : ℕ => ![n, 0]) (row_off v3 I hI)
theorem off12_eq : k0_off12 v3 = ![640 * I.val, 0] := congrArg (fun n : ℕ => ![n, 0]) (row_off v3 I hI)
theorem off13_eq : k0_off13 v3 = ![640 * I.val, 0] := congrArg (fun n : ℕ => ![n, 0]) (row_off v3 I hI)
theorem off14_eq : k0_off14 v3 = ![640 * I.val, 0] := congrArg (fun n : ℕ => ![n, 0]) (row_off v3 I hI)
end

end Cert.AttnIdeal.Hand

end
-- ==== Proof.AttnStep.lean ====
/- ONE POINT'S STEP at an index: the accumulators and the query rows after a point, off and on the diagonal. -/
module

public import proofs.«01_k».proof.Proof.AttnPoint

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

section
variable {F : FTy → Type} [FloatOps F] [Named F]
variable (c : Dev nD) (i : grid0.Coords) (g : Stg) (v1 v3 : BitVec 32) (hw : k0_chk1 v1 v3) (b : Blk F) (S : St F)

theorem zeroAll_keep : (zeroAllSt c i g b S).k = S.k ∧ (zeroAllSt c i g b S).v = S.v ∧ (zeroAllSt c i g b S).c = S.c ∧ (zeroAllSt c i g b S).dq = S.dq ∧ (zeroAllSt c i g b S).dcq = S.dcq := by
  refine ⟨?_, ?_, ?_, ?_, ?_⟩ <;> sl_kernel_rfl
theorem zeroCols_keep : (zeroColsSt c i g b S).q = S.q ∧ (zeroColsSt c i g b S).s = S.s ∧ (zeroColsSt c i g b S).dq = S.dq ∧ (zeroColsSt c i g b S).dcq = S.dcq := by
  refine ⟨?_, ?_, ?_, ?_⟩ <;> sl_kernel_rfl
theorem off_keep (h : k0_cond3 v1 v3 = 1#1) : (offSt c i g v1 v3 hw h b S).dq = S.dq ∧ (offSt c i g v1 v3 hw h b S).dcq = S.dcq := by
  refine ⟨?_, ?_⟩ <;> sl_kernel_rfl
end

variable (c : Dev nD) (i : grid0.Coords) (g : Stg) (v1 v3 : BitVec 32) (hw : k0_chk1 v1 v3) (b : Blk Ideal) (S : St Ideal) (I : Fin 13) (hI : v3.toNat = I.val)

/-! ## The zeros -/

theorem zeroAll_q_apply (r : Fin 8320) (e : Fin 512) : (zeroAllSt c i g b S).q (ix2 r e) = 0 := by
  rw [zeroAll_q]
  refine (read_whole_write qaccM.view S.q inb_S8320x512_S8320x512_0_0 (k0_pay1 (F := Ideal)) (ix2 r e)).trans ?_
  pointwise [k0_pay1]
theorem zeroAll_s_apply (r : Fin 8320) (e : Fin 128) : (zeroAllSt c i g b S).s (ix2 r e) = 0 := by
  rw [zeroAll_s]
  refine (read_whole_write saccM.view S.s inb_S8320x128_S8320x128_0_0 (k0_pay2 (F := Ideal)) (ix2 r e)).trans ?_
  pointwise [k0_pay2]
theorem zeroCols_k_apply (r : Fin 1024) (e : Fin 640) : (zeroColsSt c i g b S).k (ix2 r e) = 0 := by
  rw [zeroCols_k]
  refine (read_whole_write kaccM.view S.k inb_S1024x640_S1024x640_0_0 (k0_pay3 (F := Ideal)) (ix2 r e)).trans ?_
  pointwise [k0_pay3]
theorem zeroCols_v_apply (r : Fin 1024) (e : Fin 640) : (zeroColsSt c i g b S).v (ix2 r e) = 0 := by
  rw [zeroCols_v]
  refine (read_whole_write vaccM.view S.v inb_S1024x640_S1024x640_0_0 (k0_pay4 (F := Ideal)) (ix2 r e)).trans ?_
  pointwise [k0_pay4]
theorem zeroCols_c_apply (r : Fin 8) (e : Fin 640) : (zeroColsSt c i g b S).c (ix2 r e) = 0 := by
  rw [zeroCols_c]
  refine (read_whole_write caccM.view S.c inb_S8x640_S8x640_0_0 (k0_pay5 (F := Ideal)) (ix2 r e)).trans ?_
  pointwise [k0_pay5]

/-! ## What a point adds -/

/-- Head `h`'s contribution to row `r` of the queries' gradient. -/
def addQ (D : Bool) (p : Fin 4) (y : Fin 128) (r : Fin 640) : EReal := ∑ l, gr b D (hd p y) r l * b.b7 (ix2 l (hcol (hd p y) y))
/-- The row sums. -/
def addS (D : Bool) (r : Fin 640) (y : Fin 128) : EReal := if h : y.val < 8 then ∑ l, gr b D ⟨y.val, h⟩ r l else 0
/-- The contribution to the keys' gradient. -/
def addK (D : Bool) (h : Fin 8) (y : Fin 128) (l : Fin 640) : EReal := ∑ r, b.b5 (ix2 (hcol h y) r) * gr b D h r l
/-- The contribution to the values' gradient. -/
def addV (D : Bool) (h : Fin 8) (y : Fin 128) (l : Fin 640) : EReal := ∑ r, b.b6 (ix2 (hcol h y) r) * pr b D h r l
/-- The column sums. -/
def addC (D : Bool) (h : Fin 8) (l : Fin 640) : EReal := ∑ r, gr b D h r l

/-- The accumulators' contents `S'` are those of `S` with a point's contributions added. -/
structure Adds (D : Bool) (S S' : St Ideal) : Prop where
  q (r : Fin 640) (p : Fin 4) (y : Fin 128) : S'.q (ix2 (rw8 I r) (cl4 p y)) = S.q (ix2 (rw8 I r) (cl4 p y)) + addQ b D p y r
  q' (I' : Fin 13) (h : I' ≠ I) (r : Fin 640) (e : Fin 512) : S'.q (ix2 (rw8 I' r) e) = S.q (ix2 (rw8 I' r) e)
  s (r : Fin 640) (y : Fin 128) : S'.s (ix2 (rw8 I r) y) = S.s (ix2 (rw8 I r) y) + addS b D r y
  s' (I' : Fin 13) (h : I' ≠ I) (r : Fin 640) (y : Fin 128) : S'.s (ix2 (rw8 I' r) y) = S.s (ix2 (rw8 I' r) y)
  k (h : Fin 8) (y : Fin 128) (l : Fin 640) : S'.k (ix2 (hcol h y) l) = S.k (ix2 (hcol h y) l) + addK b D h y l
  v (h : Fin 8) (y : Fin 128) (l : Fin 640) : S'.v (ix2 (hcol h y) l) = S.v (ix2 (hcol h y) l) + addV b D h y l
  c (h : Fin 8) (l : Fin 640) : S'.c (ix2 h l) = S.c (ix2 h l) + addC b D h l

variable (D : Bool)

theorem q_read (f : Vec Ideal S8320x512 .f32) : qaccM.view.read (Elt Ideal) f = f := rfl
theorem s_read (f : Vec Ideal S8320x128 .f32) : saccM.view.read (Elt Ideal) f = f := rfl
theorem k_read (f : Vec Ideal S1024x640 .f32) : kaccM.view.read (Elt Ideal) f = f := rfl
theorem v_read (f : Vec Ideal S1024x640 .f32) : vaccM.view.read (Elt Ideal) f = f := rfl
theorem c_read (f : Vec Ideal S8x640 .f32) : caccM.view.read (Elt Ideal) f = f := rfl
theorem dq_read (f : Vec Ideal S8320x512 .bf16) : dqM.view.read (Elt Ideal) f = f := rfl
theorem dcq_read (f : Vec Ideal S8320x128 .f32) : dcqM.view.read (Elt Ideal) f = f := rfl

theorem q_miss (off : Fin 4 → Fin 2 → ℕ) (inb) (hoff : ∀ p, off p = ![640 * I.val, 128 * p.val]) (I' : Fin 13) (h : I' ≠ I) (r : Fin 640) (e : Fin 512) :
    (qaccM.view.writes (Elt Ideal) S.q (qPieces off inb S.q (fun h => dqT (dsAt g b (maskOf D) h) (colT g.a7 g.h7 b.b7 h))) : Vec Ideal S8320x512 .f32) (ix2 (rw8 I' r) e)
      = S.q (ix2 (rw8 I' r) e) := by
  have := qPieces_miss off inb S.q (fun h => dqT (dsAt g b (maskOf D) h) (colT g.a7 g.h7 b.b7 h)) I hoff I' h r e
  rw [q_read, q_read] at this
  exact this

theorem q_new (off : Fin 4 → Fin 2 → ℕ) (inb) (hoff : ∀ p, off p = ![640 * I.val, 128 * p.val]) (r : Fin 640) (p : Fin 4) (y : Fin 128) :
    (qaccM.view.read (Elt Ideal) (qaccM.view.writes (Elt Ideal) S.q (qPieces off inb S.q (fun h => dqT (dsAt g b (maskOf D) h) (colT g.a7 g.h7 b.b7 h))))) (ix2 (rw8 I r) (cl4 p y))
      = S.q (ix2 (rw8 I r) (cl4 p y)) + addQ b D p y r := by
  rw [qPieces_apply off inb S.q _ I hoff]
  unfold addQ
  pointwise [dqT]
  simp only [dsAt_apply, colT_apply]

theorem s_new (off : Fin 2 → ℕ) (inb) (hoff : off = ![640 * I.val, 0]) (r : Fin 640) (y : Fin 128) :
    (saccM.view.read (Elt Ideal) (saccM.view.writes (Elt Ideal) S.s [⟨Rect.unit (s := S8320x128) off S640x128.size inb,
      lanesT (dsAt g b (maskOf D)) (View.readAt (Elt Ideal) saccM.view (Rect.unit (s := S8320x128) off S640x128.size inb).toLoadRect S.s)⟩])) (ix2 (rw8 I r) y)
      = S.s (ix2 (rw8 I r) y) + addS b D r y := by
  rw [rows_write off I hoff inb saccM.view S.s, lanesT_apply, rows_readAt off I hoff S.s inb]
  unfold addS laneSum
  simp only [dsAt_apply]

theorem s_miss (off : Fin 2 → ℕ) (inb) (hoff : off = ![640 * I.val, 0]) (I' : Fin 13) (h : I' ≠ I) (r : Fin 640) (y : Fin 128) :
    (saccM.view.read (Elt Ideal) (saccM.view.writes (Elt Ideal) S.s [⟨Rect.unit (s := S8320x128) off S640x128.size inb,
      lanesT (dsAt g b (maskOf D)) (View.readAt (Elt Ideal) saccM.view (Rect.unit (s := S8320x128) off S640x128.size inb).toLoadRect S.s)⟩])) (ix2 (rw8 I' r) y)
      = saccM.view.read (Elt Ideal) S.s (ix2 (rw8 I' r) y) :=
  rows_miss off I hoff inb saccM.view S.s _ I' h r y

theorem k_new (h : Fin 8) (y : Fin 128) (l : Fin 640) :
    kaccM.view.read (Elt Ideal) (kaccM.view.writes (Elt Ideal) S.k (rowPieces kaccM.view S.k (dsAt g b (maskOf D)) (rowT g.a5 g.h5 b.b5))) (ix2 (hcol h y) l)
      = S.k (ix2 (hcol h y) l) + addK b D h y l := by
  rw [rowPieces_apply]
  unfold addK
  simp only [dsAt_apply, rowT_apply]
  rfl

theorem v_new (h : Fin 8) (y : Fin 128) (l : Fin 640) :
    vaccM.view.read (Elt Ideal) (vaccM.view.writes (Elt Ideal) S.v (rowPieces vaccM.view S.v (pAt g b (maskOf D)) (rowT g.a6 g.h6 b.b6))) (ix2 (hcol h y) l)
      = S.v (ix2 (hcol h y) l) + addV b D h y l := by
  rw [rowPieces_apply]
  unfold addV
  simp only [pAt_apply, rowT_apply]
  rfl

theorem c_new (h : Fin 8) (l : Fin 640) :
    caccM.view.read (Elt Ideal) (caccM.view.writes (Elt Ideal) S.c (sumPieces S.c (dsAt g b (maskOf D)))) (ix2 h l) = S.c (ix2 h l) + addC b D h l := by
  rw [sumPieces_apply]
  unfold addC
  simp only [dsAt_apply]

include hI

theorem off_adds (h : k0_cond3 v1 v3 = 1#1) : Adds b I false S (offSt c i g v1 v3 hw h b S) where
  q r p y := by rw [off_q]; have := q_new g b S I false (offO v3) (inbO v1 v3 hw h) (offO_eq v3 I hI) r p y; rw [q_read] at this; exact this
  q' I' h' r e := by rw [off_q]; exact q_miss g b S I false _ _ (offO_eq v3 I hI) I' h' r e
  s r y := by rw [off_s]; have := s_new g b S I false (k0_off2 v3) (k0_off2_inb v1 v3 hw h) (off2_eq v3 I hI) r y; rw [s_read] at this; exact this
  s' I' h' r y := by rw [off_s]; have := s_miss g b S I false (k0_off2 v3) (k0_off2_inb v1 v3 hw h) (off2_eq v3 I hI) I' h' r y; rw [s_read, s_read] at this; exact this
  k h y l := by rw [off_k]; have := k_new g b S false h y l; rw [k_read] at this; exact this
  v h y l := by rw [off_v]; have := v_new g b S false h y l; rw [v_read] at this; exact this
  c h l := by rw [off_c]; have := c_new g b S false h l; rw [c_read] at this; exact this

theorem diag_adds (h : k0_cond4 v1 v3 = 1#1) : Adds b I true S (diagSt c i g v1 v3 hw h b S) where
  q r p y := by rw [diag_q]; have := q_new g b S I true (offD v3) (inbD v1 v3 hw h) (offD_eq v3 I hI) r p y; rw [q_read] at this; exact this
  q' I' h' r e := by rw [diag_q]; exact q_miss g b S I true _ _ (offD_eq v3 I hI) I' h' r e
  s r y := by rw [diag_s]; have := s_new g b S I true (k0_off7 v3) (k0_off7_inb v1 v3 hw h) (off7_eq v3 I hI) r y; rw [s_read] at this; exact this
  s' I' h' r y := by rw [diag_s]; have := s_miss g b S I true (k0_off7 v3) (k0_off7_inb v1 v3 hw h) (off7_eq v3 I hI) I' h' r y; rw [s_read, s_read] at this; exact this
  k h y l := by rw [diag_k]; have := k_new g b S true h y l; rw [k_read] at this; exact this
  v h y l := by rw [diag_v]; have := v_new g b S true h y l; rw [v_read] at this; exact this
  c h l := by rw [diag_c]; have := c_new g b S true h l; rw [c_read] at this; exact this

/-- The finished query rows of a diagonal point. -/
theorem diag_dq_apply (h : k0_cond4 v1 v3 = 1#1) (I' : Fin 13) (r : Fin 640) (e : Fin 512) :
    (diagSt c i g v1 v3 hw h b S).dq (ix2 (rw8 I' r) e) = if I' = I then (diagSt c i g v1 v3 hw h b S).q (ix2 (rw8 I r) e) * (Ideal.ofBits .f32 0x3E000000#32) else S.dq (ix2 (rw8 I' r) e) := by
  rw [diag_dq]
  have hr : ∀ r, View.read (Elt Ideal) rowM.view (diagSt c i g v1 v3 hw h b S).row (ix2 r e) = (diagSt c i g v1 v3 hw h b S).q (ix2 (rw8 I r) e) * (Ideal.ofBits .f32 0x3E000000#32) := fun r => by
    rw [diag_row]
    refine (read_whole_write rowM.view S.row inb_S640x512_S640x512_0_0 _ (ix2 r e)).trans ?_
    generalize (diagSt c i g v1 v3 hw h b S).q = x
    pointwise [k0_pay165]
    rw [wide_readAt _ I (off12_eq v3 I hI)]
  generalize View.read (Elt Ideal) rowM.view (diagSt c i g v1 v3 hw h b S).row = w at hr ⊢
  rw [← hr]
  by_cases e' : I' = I
  · subst e'
    rw [if_pos rfl]
    have := wide_write (k0_off13 v3) I' (off13_eq v3 I' hI) (k0_off13_inb v1 v3 hw h) S.dq w r e
    rw [dq_read] at this
    exact this
  · rw [if_neg e']
    have := wide_miss (k0_off13 v3) I (off13_eq v3 I hI) (k0_off13_inb v1 v3 hw h) S.dq w I' e' r e
    rw [dq_read, dq_read] at this
    exact this

/-- The finished row sums of a diagonal point. -/
theorem diag_dcq_apply (h : k0_cond4 v1 v3 = 1#1) (I' : Fin 13) (r : Fin 640) (y : Fin 128) :
    (diagSt c i g v1 v3 hw h b S).dcq (ix2 (rw8 I' r) y) = if I' = I then (diagSt c i g v1 v3 hw h b S).s (ix2 (rw8 I r) y) else S.dcq (ix2 (rw8 I' r) y) := by
  rw [diag_dcq]
  generalize (diagSt c i g v1 v3 hw h b S).s = x
  have hr := rows_readAt (k0_off14 v3) I (off14_eq v3 I hI) x (k0_off14_inb v1 v3 hw h) r y
  generalize View.readAt (Elt Ideal) saccM.view (Rect.unit (s := S8320x128) (k0_off14 v3) S640x128.size (k0_off14_inb v1 v3 hw h)).toLoadRect x = w at hr ⊢
  rw [← hr]
  by_cases e' : I' = I
  · subst e'
    rw [if_pos rfl]
    have := rows_write (k0_off14 v3) I' (off14_eq v3 I' hI) (k0_off14_inb v1 v3 hw h) dcqM.view S.dcq w r y
    rw [dcq_read] at this
    exact this
  · rw [if_neg e']
    have := rows_miss (k0_off14 v3) I (off14_eq v3 I hI) (k0_off14_inb v1 v3 hw h) dcqM.view S.dcq w I' e' r y
    rw [dcq_read, dcq_read] at this
    exact this

/-- The contents a point starts from, with the zeros it writes first. -/
structure Starts (z d : Prop) [Decidable z] [Decidable d] (S S' : St Ideal) : Prop where
  q (r : Fin 8320) (e : Fin 512) : S'.q (ix2 r e) = if z then 0 else S.q (ix2 r e)
  s (r : Fin 8320) (e : Fin 128) : S'.s (ix2 r e) = if z then 0 else S.s (ix2 r e)
  k (r : Fin 1024) (e : Fin 640) : S'.k (ix2 r e) = if d then 0 else S.k (ix2 r e)
  v (r : Fin 1024) (e : Fin 640) : S'.v (ix2 r e) = if d then 0 else S.v (ix2 r e)
  c (r : Fin 8) (e : Fin 640) : S'.c (ix2 r e) = if d then 0 else S.c (ix2 r e)
  dq : S'.dq = S.dq
  dcq : S'.dcq = S.dcq

omit hI in
theorem starts (z d : Prop) [Decidable z] [Decidable d] (hz : first i = 1#1 ↔ z) (hd : k0_cond4 v1 v3 = 1#1 ↔ d) :
    Starts z d S (if _h : k0_cond4 v1 v3 = 1#1 then zeroColsSt c i g b (if _h : first i = 1#1 then zeroAllSt c i g b S else S) else (if _h : first i = 1#1 then zeroAllSt c i g b S else S)) := by
  have h1 : Starts z False S (if _h : first i = 1#1 then zeroAllSt c i g b S else S) := by
    obtain ⟨a1, a2, a3, a4, a5⟩ := zeroAll_keep c i g b S
    by_cases h : first i = 1#1
    · simp only [dif_pos h]
      have hz' := hz.mp h
      exact ⟨fun r e => by rw [if_pos hz', zeroAll_q_apply], fun r e => by rw [if_pos hz', zeroAll_s_apply], fun r e => by rw [a1]; rfl, fun r e => by rw [a2]; rfl, fun r e => by rw [a3]; rfl, a4, a5⟩
    · simp only [dif_neg h]
      have hz' := fun k => h (hz.mpr k)
      exact ⟨fun r e => by rw [if_neg hz'], fun r e => by rw [if_neg hz'], fun r e => rfl, fun r e => rfl, fun r e => rfl, rfl, rfl⟩
  generalize (if _h : first i = 1#1 then zeroAllSt c i g b S else S) = S1 at h1 ⊢
  obtain ⟨a1, a2, a4, a5⟩ := zeroCols_keep c i g b S1
  by_cases h : k0_cond4 v1 v3 = 1#1
  · simp only [dif_pos h]
    have hd' := hd.mp h
    exact ⟨fun r e => by rw [a1, h1.q], fun r e => by rw [a2, h1.s], fun r e => by rw [if_pos hd', zeroCols_k_apply], fun r e => by rw [if_pos hd', zeroCols_v_apply], fun r e => by rw [if_pos hd', zeroCols_c_apply],
      a4.trans h1.dq, a5.trans h1.dcq⟩
  · simp only [dif_neg h]
    have hd' := fun k => h (hd.mpr k)
    exact ⟨h1.q, h1.s, fun r e => by rw [if_neg hd', h1.k]; rfl, fun r e => by rw [if_neg hd', h1.v]; rfl, fun r e => by rw [if_neg hd', h1.c]; rfl, h1.dq, h1.dcq⟩

/-- A point's step: the zeros, the contributions, and on the diagonal the finished query rows. -/
structure Step (z : Prop) [Decidable z] (D : Bool) (S S' : St Ideal) : Prop where
  q (I' : Fin 13) (r : Fin 640) (p : Fin 4) (y : Fin 128) : S'.q (ix2 (rw8 I' r) (cl4 p y)) = (if z then 0 else S.q (ix2 (rw8 I' r) (cl4 p y))) + (if I = I' then addQ b D p y r else 0)
  s (I' : Fin 13) (r : Fin 640) (y : Fin 128) : S'.s (ix2 (rw8 I' r) y) = (if z then 0 else S.s (ix2 (rw8 I' r) y)) + (if I = I' then addS b D r y else 0)
  k (h : Fin 8) (y : Fin 128) (l : Fin 640) : S'.k (ix2 (hcol h y) l) = (if D = true then 0 else S.k (ix2 (hcol h y) l)) + addK b D h y l
  v (h : Fin 8) (y : Fin 128) (l : Fin 640) : S'.v (ix2 (hcol h y) l) = (if D = true then 0 else S.v (ix2 (hcol h y) l)) + addV b D h y l
  c (h : Fin 8) (l : Fin 640) : S'.c (ix2 h l) = (if D = true then 0 else S.c (ix2 h l)) + addC b D h l
  dq (I' : Fin 13) (r : Fin 640) (e : Fin 512) : S'.dq (ix2 (rw8 I' r) e) = if D = true ∧ I = I' then S'.q (ix2 (rw8 I' r) e) * (Ideal.ofBits .f32 0x3E000000#32) else S.dq (ix2 (rw8 I' r) e)
  dcq (I' : Fin 13) (r : Fin 640) (y : Fin 128) : S'.dcq (ix2 (rw8 I' r) y) = if D = true ∧ I = I' then S'.s (ix2 (rw8 I' r) y) else S.dcq (ix2 (rw8 I' r) y)

omit hI in
theorem step_of (z : Prop) [Decidable z] {S S1 S2 : St Ideal} (hs : Starts z (D = true) S S1) (ha : Adds b I D S1 S2)
    (hq : ∀ I' r e, S2.dq (ix2 (rw8 I' r) e) = if D = true ∧ I = I' then S2.q (ix2 (rw8 I' r) e) * (Ideal.ofBits .f32 0x3E000000#32) else S1.dq (ix2 (rw8 I' r) e))
    (hc : ∀ I' r y, S2.dcq (ix2 (rw8 I' r) y) = if D = true ∧ I = I' then S2.s (ix2 (rw8 I' r) y) else S1.dcq (ix2 (rw8 I' r) y)) : Step b I z D S S2 where
  q I' r p y := by
    by_cases h : I = I'
    · subst h; rw [ha.q, hs.q, if_pos rfl]
    · rw [ha.q' I' (Ne.symm h), hs.q, if_neg h, add_zero]
  s I' r y := by
    by_cases h : I = I'
    · subst h; rw [ha.s, hs.s, if_pos rfl]
    · rw [ha.s' I' (Ne.symm h), hs.s, if_neg h, add_zero]
  k h y l := by rw [ha.k, hs.k]
  v h y l := by rw [ha.v, hs.v]
  c h l := by rw [ha.c, hs.c]
  dq I' r e := by rw [hq, hs.dq]
  dcq I' r y := by rw [hc, hs.dcq]

theorem stepSt_step (z : Prop) [Decidable z] (hz : first i = 1#1 ↔ z) (hd : k0_cond4 v1 v3 = 1#1 ↔ D = true) (ho : k0_cond3 v1 v3 = 1#1 ↔ D = false) :
    Step b I z D S (stepSt c i g v1 v3 hw b S) := by
  have hs := starts c i g v1 v3 b S z (D = true) hz hd
  unfold stepSt
  dsimp only
  generalize (if _h : k0_cond4 v1 v3 = 1#1 then zeroColsSt c i g b (if _h : first i = 1#1 then zeroAllSt c i g b S else S) else (if _h : first i = 1#1 then zeroAllSt c i g b S else S)) = S1 at hs ⊢
  cases D
  · have h3 := ho.mpr rfl
    have h4 : ¬ k0_cond4 v1 v3 = 1#1 := fun h => absurd (hd.mp h) (by decide)
    rw [dif_pos h3, dif_neg h4]
    obtain ⟨e1, e2⟩ := off_keep c i g v1 v3 hw b S1 h3
    exact step_of b I false z hs (off_adds c i g v1 v3 hw b S1 I hI h3) (fun I' r e => by rw [e1, if_neg (fun k => absurd k.1 (by decide))]) (fun I' r e => by rw [e2, if_neg (fun k => absurd k.1 (by decide))])
  · have h4 := hd.mpr rfl
    have h3 : ¬ k0_cond3 v1 v3 = 1#1 := fun h => absurd (ho.mp h) (by decide)
    rw [dif_neg h3, dif_pos h4]
    refine step_of b I true z hs (diag_adds c i g v1 v3 hw b S1 I hI h4) (fun I' r e => ?_) (fun I' r e => ?_)
    · rw [diag_dq_apply c i g v1 v3 hw b S1 I hI h4]
      by_cases h : I = I'
      · subst h; rw [if_pos rfl, if_pos ⟨rfl, rfl⟩]
      · rw [if_neg (Ne.symm h), if_neg (fun k => h k.2)]
    · rw [diag_dcq_apply c i g v1 v3 hw b S1 I hI h4]
      by_cases h : I = I'
      · subst h; rw [if_pos rfl, if_pos ⟨rfl, rfl⟩]
      · rw [if_neg (Ne.symm h), if_neg (fun k => h k.2)]

/-! ## A key block's results -/

omit hI
variable (x10 x11 : Vec Ideal S640x512 .bf16) (x13 : Vec Ideal S8x640 .f32)

theorem mergeT_apply (x y : FVec Ideal S640x128 .f32) (r : Fin 640) (z : Fin 128) : mergeT x y (ix2 r z) = if z.val < 64 then x (ix2 r z) else y (ix2 r z) := by
  pointwise [mergeT, lanes]
  rw [select_iff _ _ (lt64 z)]

theorem packT_apply (A : Vec Ideal S1024x640 .f32) (l : Fin 640) (p : Fin 4) (y : Fin 128) : packT (turnT A) (ix2 l (cl4 p y)) = A (ix2 (hcol (hd p y) y) l) := by
  have ht : ∀ h : Fin 8, turnT A h (ix2 l y) = A (ix2 (hcol h y) l) := fun h => by
    pointwise [turnT]
    exact readAt_at kaccM.view A _ _ (inbR h) (ix2 y l) (ix2 (hcol h y) l) (Fin.forall_fin_two.mpr ⟨rfl, (Nat.zero_add _).symm⟩)
  have hm : packT (turnT A) (ix2 l (cl4 p y)) = mergeT (turnT A ⟨2 * p.val, by omega⟩) (turnT A ⟨2 * p.val + 1, by omega⟩) (ix2 l y) := by
    have hy := y.isLt
    unfold packT cl4
    fin_cases p <;> pointwise
    · rw [dif_neg (by omega), dif_neg (by omega), dif_pos (by omega)]
      exact congrArg (fun z => mergeT _ _ (ix2 l z)) (Fin.ext (by show 256 + y.val - 128 - 128 = y.val; omega))
    · rw [dif_neg (by omega), dif_neg (by omega), dif_neg (by omega)]
      exact congrArg (fun z => mergeT _ _ (ix2 l z)) (Fin.ext (by show 384 + y.val - 128 - 128 - 128 = y.val; omega))
  rw [hm, mergeT_apply, ht, ht]
  unfold hd
  split <;> rfl

theorem flush_k_apply (l : Fin 640) (p : Fin 4) (y : Fin 128) : (flushV c i g x10 x11 x13 S).1 (ix2 l (cl4 p y)) = S.k (ix2 (hcol (hd p y) y) l) := by
  rw [flush_k]
  exact (read_whole_write g.a10.view _ inb_S640x512_S640x512_0_0 _ _).trans (packT_apply S.k l p y)
theorem flush_v_apply (l : Fin 640) (p : Fin 4) (y : Fin 128) : (flushV c i g x10 x11 x13 S).2.1 (ix2 l (cl4 p y)) = S.v (ix2 (hcol (hd p y) y) l) := by
  rw [flush_v]
  exact (read_whole_write g.a11.view _ inb_S640x512_S640x512_0_0 _ _).trans (packT_apply S.v l p y)
theorem flush_c_apply (h : Fin 8) (l : Fin 640) : (flushV c i g x10 x11 x13 S).2.2 (ix2 h l) = S.c (ix2 h l) := by
  rw [flush_c]
  refine (read_whole_write g.a13.view _ inb_S8x640_S8x640_0_0 _ _).trans ?_
  exact readAt_at caccM.view S.c _ _ inb_S8x640_S8x640_0_0 (ix2 h l) (ix2 h l) (Fin.forall_fin_two.mpr ⟨(Nat.zero_add _).symm, (Nat.zero_add _).symm⟩)

end Cert.AttnIdeal.Hand

end
-- ==== Proof.AttnOrder.lean ====
/- THE ORDER OF THE POINTS: which key and query block each point takes, and sums over the points as sums over rows. -/
module

public import proofs.«01_k».proof.Proof.AttnStep
public import Mathlib.Logic.Equiv.Fin.Basic

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

/-! ## The tables -/

theorem kb_lt : ∀ t : Fin grid0.N, (kbOf (grid0.coords t)).toNat < 13 := by decide +kernel
theorem qb_lt : ∀ t : Fin grid0.N, (qbOf (grid0.coords t)).toNat < 13 := by decide +kernel

/-- The key block of point `t`. -/
def kI (t : Fin grid0.N) : Fin 13 := ⟨(kbOf (grid0.coords t)).toNat, kb_lt t⟩
/-- The query block of point `t`. -/
def qI (t : Fin grid0.N) : Fin 13 := ⟨(qbOf (grid0.coords t)).toNat, qb_lt t⟩
/-- Whether point `t` is on the diagonal. -/
def dI (t : Fin grid0.N) : Bool := decide (kI t = qI t)

theorem first_iff : ∀ t : Fin grid0.N, first (grid0.coords t) = 1#1 ↔ t.val = 0 := by decide +kernel
theorem diag_iff : ∀ t : Fin grid0.N, k0_cond4 (kbOf (grid0.coords t)) (qbOf (grid0.coords t)) = 1#1 ↔ dI t = true := by decide +kernel
theorem off_iff : ∀ t : Fin grid0.N, k0_cond3 (kbOf (grid0.coords t)) (qbOf (grid0.coords t)) = 1#1 ↔ dI t = false := by decide +kernel
theorem kI_le : ∀ t : Fin grid0.N, (kI t).val ≤ (qI t).val := by decide +kernel
/-- A diagonal point is the first of its key block. -/
theorem diag_new : ∀ t : Fin grid0.N, dI t = true → ∀ t' : Fin grid0.N, t'.val < t.val → kI t' ≠ kI t := by decide +kernel
/-- A diagonal point is the last of its query block. -/
theorem diag_last : ∀ t : Fin grid0.N, dI t = true → ∀ t' : Fin grid0.N, t.val < t'.val → qI t' ≠ qI t := by decide +kernel
/-- A point off the diagonal goes on with the key block of the point before. -/
theorem off_prev : ∀ t : Fin grid0.N, dI t = false → 0 < t.val ∧ ∀ t' : Fin grid0.N, t'.val + 1 = t.val → kI t' = kI t := by decide +kernel
/-- A key block's last point. -/
theorem last_kb : ∀ t : Fin grid0.N, k0_cond5 (qbOf (grid0.coords t)) = 1#1 → ∀ t' : Fin grid0.N, t.val < t'.val → kI t' ≠ kI t := by decide +kernel
theorem pt_inj : ∀ t t' : Fin grid0.N, kI t = kI t' → qI t = qI t' → t = t' := by decide +kernel
theorem pt_ex : ∀ J I : Fin 13, J.val ≤ I.val → ∃ t : Fin grid0.N, kI t = J ∧ qI t = I := by decide +kernel
theorem last_ex : ∀ J : Fin 13, ∃ t : Fin grid0.N, kI t = J ∧ k0_cond5 (qbOf (grid0.coords t)) = 1#1 := by decide +kernel

/-! ## Sums over the points -/

/-- The sum of `f` over the first `n` points that satisfy `p`. -/
def psum (p : Fin grid0.N → Prop) [DecidablePred p] (f : Fin grid0.N → EReal) (n : ℕ) : EReal := ∑ t, if t.val < n ∧ p t then f t else 0

section
variable (p : Fin grid0.N → Prop) [DecidablePred p] (f : Fin grid0.N → EReal)

theorem psum_zero : psum p f 0 = 0 := Finset.sum_eq_zero fun t _ => if_neg fun h => Nat.not_lt_zero _ h.1

theorem psum_succ (t : Fin grid0.N) : psum p f (t.val + 1) = psum p f t.val + if p t then f t else 0 := by
  have : (if p t then f t else 0) = ∑ t' : Fin grid0.N, if t' = t then (if p t then f t else 0) else 0 := by
    rw [Finset.sum_ite_eq' Finset.univ t (fun _ => if p t then f t else 0), if_pos (Finset.mem_univ _)]
  rw [this]
  unfold psum
  rw [← Finset.sum_add_distrib]
  refine Finset.sum_congr rfl fun t' _ => ?_
  by_cases e : t' = t
  · subst e
    rw [if_neg (fun h : t'.val < t'.val ∧ p t' => Nat.lt_irrefl _ h.1), if_pos rfl, zero_add]
    by_cases hp : p t'
    · rw [if_pos ⟨Nat.lt_succ_self _, hp⟩, if_pos hp]
    · rw [if_neg (fun h => hp h.2), if_neg hp]
  · rw [if_neg e, add_zero]
    have : t'.val ≠ t.val := fun h => e (Fin.ext h)
    refine if_congr ⟨fun h => ⟨by have := h.1; omega, h.2⟩, fun h => ⟨by have := h.1; omega, h.2⟩⟩ rfl rfl

theorem psum_none (n : ℕ) (h : ∀ t : Fin grid0.N, t.val < n → ¬ p t) : psum p f n = 0 :=
  Finset.sum_eq_zero fun t _ => if_neg fun k => h t k.1 k.2

theorem psum_all (n : ℕ) (h : ∀ t : Fin grid0.N, n ≤ t.val → ¬ p t) : psum p f n = ∑ t, if p t then f t else 0 :=
  Finset.sum_congr rfl fun t _ => if_congr ⟨fun k => k.2, fun k => ⟨Nat.lt_of_not_le fun hl => h t hl k, k⟩⟩ rfl rfl
end

/-- The points of a query block run over the key blocks up to it. -/
theorem sum_keys (I : Fin 13) (f : Fin 13 → EReal) : (∑ t, if qI t = I then f (kI t) else 0) = ∑ J : Fin 13, if J.val ≤ I.val then f J else 0 := by
  rw [← Finset.sum_filter, ← Finset.sum_filter]
  refine Finset.sum_bij (fun t _ => kI t) (fun t ht => ?_) (fun t ht t' ht' e => ?_) (fun J hJ => ?_) (fun t ht => rfl)
  · rw [Finset.mem_filter] at ht ⊢
    exact ⟨Finset.mem_univ _, ht.2 ▸ kI_le t⟩
  · rw [Finset.mem_filter] at ht ht'
    exact pt_inj t t' e (ht.2.trans ht'.2.symm)
  · rw [Finset.mem_filter] at hJ
    obtain ⟨t, h1, h2⟩ := pt_ex J I hJ.2
    exact ⟨t, Finset.mem_filter.mpr ⟨Finset.mem_univ _, h2⟩, h1⟩

/-- The points of a key block run over the query blocks from it on. -/
theorem sum_queries (J : Fin 13) (f : Fin 13 → EReal) : (∑ t, if kI t = J then f (qI t) else 0) = ∑ I : Fin 13, if J.val ≤ I.val then f I else 0 := by
  rw [← Finset.sum_filter, ← Finset.sum_filter]
  refine Finset.sum_bij (fun t _ => qI t) (fun t ht => ?_) (fun t ht t' ht' e => ?_) (fun I hI => ?_) (fun t ht => rfl)
  · rw [Finset.mem_filter] at ht ⊢
    exact ⟨Finset.mem_univ _, ht.2 ▸ kI_le t⟩
  · rw [Finset.mem_filter] at ht ht'
    exact pt_inj t t' (ht.2.trans ht'.2.symm) e
  · rw [Finset.mem_filter] at hI
    obtain ⟨t, h1, h2⟩ := pt_ex J I hI.2
    exact ⟨t, Finset.mem_filter.mpr ⟨Finset.mem_univ _, h1⟩, h2⟩

/-- A sum over all rows, block by block. -/
theorem sum_rows (f : Fin 8320 → EReal) : (∑ R, f R) = ∑ J : Fin 13, ∑ l : Fin 640, f (rw8 J l) := by
  rw [← Finset.sum_product']
  symm
  refine Fintype.sum_equiv (finProdFinEquiv (m := 13) (n := 640)) (fun x : Fin 13 × Fin 640 => f (rw8 x.1 x.2)) f fun x => ?_
  refine congrArg f (Fin.ext ?_)
  show 640 * x.1.val + x.2.val = x.2.val + 640 * x.1.val
  omega

theorem sum_upTo (I : Fin 13) (f : Fin 8320 → EReal) (h : ∀ J : Fin 13, I.val < J.val → ∀ l, f (rw8 J l) = 0) :
    (∑ J : Fin 13, if J.val ≤ I.val then ∑ l : Fin 640, f (rw8 J l) else 0) = ∑ R, f R := by
  rw [sum_rows]
  refine Finset.sum_congr rfl fun J _ => ?_
  by_cases hJ : J.val ≤ I.val
  · rw [if_pos hJ]
  · rw [if_neg hJ]; exact (Finset.sum_eq_zero fun l _ => h J (by omega) l).symm

theorem sum_from (J : Fin 13) (f : Fin 8320 → EReal) (h : ∀ I : Fin 13, I.val < J.val → ∀ l, f (rw8 I l) = 0) :
    (∑ I : Fin 13, if J.val ≤ I.val then ∑ l : Fin 640, f (rw8 I l) else 0) = ∑ R, f R := by
  rw [sum_rows]
  refine Finset.sum_congr rfl fun I _ => ?_
  by_cases hJ : J.val ≤ I.val
  · rw [if_pos hJ]
  · rw [if_neg hJ]; exact (Finset.sum_eq_zero fun l _ => h I (by omega) l).symm

/-- Every row is one of a block. -/
theorem row_cases (R : Fin 8320) : ∃ (I : Fin 13) (r : Fin 640), R = rw8 I r :=
  ⟨⟨R.val / 640, by omega⟩, ⟨R.val % 640, by omega⟩, Fin.ext (by show R.val = 640 * (R.val / 640) + R.val % 640; omega)⟩
theorem col_cases (e : Fin 512) : ∃ (p : Fin 4) (y : Fin 128), e = cl4 p y :=
  ⟨⟨e.val / 128, by omega⟩, ⟨e.val % 128, by omega⟩, Fin.ext (by show e.val = 128 * (e.val / 128) + e.val % 128; omega)⟩

end Cert.AttnIdeal.Hand

end
-- ==== Proof.AttnBlocks.lean ====
/- THE BLOCKS of a point at an index: rows or columns of the arrays the region finds. -/
module

public import proofs.«01_k».proof.Proof.AttnOrder
public import proofs.«01_k».proof.Proof.AttnData
public import Idealize.ShloMosaic.Lib.Pipeline.FrameBody

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- A property every fetched block has, and which an unmoved window keeps, is a property of what the window holds at every point. -/
theorem held_induct (w : Fin 9) (hw : isRes w = false) (Q : (t : Fin (acfg (F := Ideal)).N) → (((acfg (F := Ideal)).win w).block.Idx → Elt Ideal ((acfg (F := Ideal)).win w).elt) → Prop)
    (h1 : ∀ t, Q t (((acfg (F := Ideal)).win w).fill ((acfg (F := Ideal)).grid.coords t) (fun _ => Classical.arbitrary _) ((((acfg (F := Ideal)).win w).blk t).view.read (Elt Ideal) (arrs m c w))))
    (h2 : ∀ (t t' : Fin (acfg (F := Ideal)).N) X, ((acfg (F := Ideal)).win w).index t = ((acfg (F := Ideal)).win w).index t' → Q t' X → Q t X) :
    ∀ t : Fin (acfg (F := Ideal)).N, Q t (Pipeline.heldIn (acfg (F := Ideal)) (arrs m c) w t.val t.isLt) := by
  have hio : ((acfg (F := Ideal)).win w).isOut = false := res_in w hw
  intro ⟨n, hn⟩
  induction n with
  | zero => exact h1 ⟨0, hn⟩
  | succ n ih =>
    by_cases hf : ((acfg (F := Ideal)).win w).fetch ⟨n + 1, hn⟩ = true
    · have := Pipeline.heldIn_of_fetch (arrs m c) w ⟨n + 1, hn⟩ hf
      show Q _ (Pipeline.heldIn (acfg (F := Ideal)) (arrs m c) w (n + 1) hn)
      rw [this]
      exact h1 ⟨n + 1, hn⟩
    · have hf' := Bool.eq_false_iff.mpr hf
      show Q _ (Pipeline.heldIn (acfg (F := Ideal)) (arrs m c) w (n + 1) hn)
      rw [Pipeline.heldIn_of_not_fetch (arrs m c) w n hn hf']
      exact h2 _ ⟨n, Nat.lt_of_succ_lt hn⟩ _ (((acfg (F := Ideal)).win w).index_eq_of_fetch hio ⟨n + 1, hn⟩ hf').2 (ih (Nat.lt_of_succ_lt hn))

theorem ix_q (t t' : Fin grid0.N) (a b : ℕ) (h : ![(qbOf (grid0.coords t)).toNat, a] = ![(qbOf (grid0.coords t')).toNat, b]) : qI t' = qI t :=
  Fin.ext (congrFun h 0).symm
theorem ix_q' (t t' : Fin grid0.N) (a b : ℕ) (h : ![a, (qbOf (grid0.coords t)).toNat] = ![b, (qbOf (grid0.coords t')).toNat]) : qI t' = qI t :=
  Fin.ext (congrFun h 1).symm
theorem ix_k (t t' : Fin grid0.N) (a b : ℕ) (h : ![(kbOf (grid0.coords t)).toNat, a] = ![(kbOf (grid0.coords t')).toNat, b]) : kI t' = kI t :=
  Fin.ext (congrFun h 0).symm

/-- The query tiles, as the region finds them. -/
def qbA : Vec Ideal S8320x1024 .bf16 := V m c main_v135
/-- The cotangent tiles, as the region finds them. -/
def dobA : Vec Ideal S8320x1024 .bf16 := V m c main_v161
/-- The query tiles turned, as the region finds them. -/
def qbtA : Vec Ideal S1024x8320 .bf16 := V m c main_v162
/-- The cotangent tiles turned, as the region finds them. -/
def dobtA : Vec Ideal S1024x8320 .bf16 := V m c main_v163
/-- The key tiles, as the region finds them. -/
def kaA : Vec Ideal S8320x1024 .bf16 := V m c main_v84
/-- The value tiles, as the region finds them. -/
def vaA : Vec Ideal S8320x1024 .bf16 := V m c main_v98

theorem b3_at (t : Fin (acfg (F := Ideal)).N) : ∀ (r : Fin 640) (e : Fin 1024), (blkAt m c t).b3 (ix2 r e) = qbA m c (ix2 (rw8 (qI t) r) e) :=
  held_induct m c 0 rfl (fun t X => ∀ (r : Fin 640) (e : Fin 1024), X (ix2 r e) = qbA m c (ix2 (rw8 (qI t) r) e))
    (fun t r e => by
      refine (((acfg (F := Ideal)).win 0).fill_xinj ((acfg (F := Ideal)).grid.coords t) _ _ (ix2 r e)).trans ?_
      rw [View.read_apply]
      show V m c main_v135 _ = _
      congr 1
      funext a
      apply Fin.ext
      match a with
      | 0 =>
        show cc0_transform_0 k0_off1_inb numel1_S1 (tabs (F := Ideal)) (grid0.coords t) 0 * 640 + 1 * r.val = 640 * (qbOf (grid0.coords t)).toNat + r.val
        rw [tr0]
        show (qbOf (grid0.coords t)).toNat * 640 + 1 * r.val = _
        omega
      | 1 =>
        show cc0_transform_0 k0_off1_inb numel1_S1 (tabs (F := Ideal)) (grid0.coords t) 1 * 1024 + 1 * e.val = e.val
        rw [tr0]
        show 0 * 1024 + 1 * e.val = _
        omega)
    (fun t t' X h hX r e => by
      have h' : cc0_transform_0 k0_off1_inb numel1_S1 (tabs (F := Ideal)) (grid0.coords t) = cc0_transform_0 k0_off1_inb numel1_S1 (tabs (F := Ideal)) (grid0.coords t') := h
      rw [tr0, tr0] at h'
      rw [← ix_q t t' 0 0 h']
      exact hX r e) t

theorem b4_at (t : Fin (acfg (F := Ideal)).N) : ∀ (r : Fin 640) (e : Fin 1024), (blkAt m c t).b4 (ix2 r e) = dobA m c (ix2 (rw8 (qI t) r) e) :=
  held_induct m c 1 rfl (fun t X => ∀ (r : Fin 640) (e : Fin 1024), X (ix2 r e) = dobA m c (ix2 (rw8 (qI t) r) e))
    (fun t r e => by
      refine (((acfg (F := Ideal)).win 1).fill_xinj ((acfg (F := Ideal)).grid.coords t) _ _ (ix2 r e)).trans ?_
      rw [View.read_apply]
      show V m c main_v161 _ = _
      congr 1
      funext a
      apply Fin.ext
      match a with
      | 0 =>
        show cc0_transform_1 k0_off1_inb numel1_S1 (tabs (F := Ideal)) (grid0.coords t) 0 * 640 + 1 * r.val = 640 * (qbOf (grid0.coords t)).toNat + r.val
        rw [tr1]
        show (qbOf (grid0.coords t)).toNat * 640 + 1 * r.val = _
        omega
      | 1 =>
        show cc0_transform_1 k0_off1_inb numel1_S1 (tabs (F := Ideal)) (grid0.coords t) 1 * 1024 + 1 * e.val = e.val
        rw [tr1]
        show 0 * 1024 + 1 * e.val = _
        omega)
    (fun t t' X h hX r e => by
      have h' : cc0_transform_1 k0_off1_inb numel1_S1 (tabs (F := Ideal)) (grid0.coords t) = cc0_transform_1 k0_off1_inb numel1_S1 (tabs (F := Ideal)) (grid0.coords t') := h
      rw [tr1, tr1] at h'
      rw [← ix_q t t' 0 0 h']
      exact hX r e) t

theorem b5_at (t : Fin (acfg (F := Ideal)).N) : ∀ (e : Fin 1024) (r : Fin 640), (blkAt m c t).b5 (ix2 e r) = qbtA m c (ix2 e (rw8 (qI t) r)) :=
  held_induct m c 2 rfl (fun t X => ∀ (e : Fin 1024) (r : Fin 640), X (ix2 e r) = qbtA m c (ix2 e (rw8 (qI t) r)))
    (fun t e r => by
      refine (((acfg (F := Ideal)).win 2).fill_xinj ((acfg (F := Ideal)).grid.coords t) _ _ (ix2 e r)).trans ?_
      rw [View.read_apply]
      show V m c main_v162 _ = _
      congr 1
      funext a
      apply Fin.ext
      match a with
      | 0 =>
        show cc0_transform_2 k0_off1_inb numel1_S1 (tabs (F := Ideal)) (grid0.coords t) 0 * 1024 + 1 * e.val = e.val
        rw [tr2]
        show 0 * 1024 + 1 * e.val = _
        omega
      | 1 =>
        show cc0_transform_2 k0_off1_inb numel1_S1 (tabs (F := Ideal)) (grid0.coords t) 1 * 640 + 1 * r.val = 640 * (qbOf (grid0.coords t)).toNat + r.val
        rw [tr2]
        show (qbOf (grid0.coords t)).toNat * 640 + 1 * r.val = _
        omega)
    (fun t t' X h hX e r => by
      have h' : cc0_transform_2 k0_off1_inb numel1_S1 (tabs (F := Ideal)) (grid0.coords t) = cc0_transform_2 k0_off1_inb numel1_S1 (tabs (F := Ideal)) (grid0.coords t') := h
      rw [tr2, tr2] at h'
      rw [← ix_q' t t' 0 0 h']
      exact hX e r) t

theorem b6_at (t : Fin (acfg (F := Ideal)).N) : ∀ (e : Fin 1024) (r : Fin 640), (blkAt m c t).b6 (ix2 e r) = dobtA m c (ix2 e (rw8 (qI t) r)) :=
  held_induct m c 3 rfl (fun t X => ∀ (e : Fin 1024) (r : Fin 640), X (ix2 e r) = dobtA m c (ix2 e (rw8 (qI t) r)))
    (fun t e r => by
      refine (((acfg (F := Ideal)).win 3).fill_xinj ((acfg (F := Ideal)).grid.coords t) _ _ (ix2 e r)).trans ?_
      rw [View.read_apply]
      show V m c main_v163 _ = _
      congr 1
      funext a
      apply Fin.ext
      match a with
      | 0 =>
        show cc0_transform_3 k0_off1_inb numel1_S1 (tabs (F := Ideal)) (grid0.coords t) 0 * 1024 + 1 * e.val = e.val
        rw [tr3]
        show 0 * 1024 + 1 * e.val = _
        omega
      | 1 =>
        show cc0_transform_3 k0_off1_inb numel1_S1 (tabs (F := Ideal)) (grid0.coords t) 1 * 640 + 1 * r.val = 640 * (qbOf (grid0.coords t)).toNat + r.val
        rw [tr3]
        show (qbOf (grid0.coords t)).toNat * 640 + 1 * r.val = _
        omega)
    (fun t t' X h hX e r => by
      have h' : cc0_transform_3 k0_off1_inb numel1_S1 (tabs (F := Ideal)) (grid0.coords t) = cc0_transform_3 k0_off1_inb numel1_S1 (tabs (F := Ideal)) (grid0.coords t') := h
      rw [tr3, tr3] at h'
      rw [← ix_q' t t' 0 0 h']
      exact hX e r) t

theorem b7_at (t : Fin (acfg (F := Ideal)).N) : ∀ (r : Fin 640) (e : Fin 1024), (blkAt m c t).b7 (ix2 r e) = kaA m c (ix2 (rw8 (kI t) r) e) :=
  held_induct m c 4 rfl (fun t X => ∀ (r : Fin 640) (e : Fin 1024), X (ix2 r e) = kaA m c (ix2 (rw8 (kI t) r) e))
    (fun t r e => by
      refine (((acfg (F := Ideal)).win 4).fill_xinj ((acfg (F := Ideal)).grid.coords t) _ _ (ix2 r e)).trans ?_
      rw [View.read_apply]
      show V m c main_v84 _ = _
      congr 1
      funext a
      apply Fin.ext
      match a with
      | 0 =>
        show cc0_transform_4 k0_off1_inb numel1_S1 (tabs (F := Ideal)) (grid0.coords t) 0 * 640 + 1 * r.val = 640 * (kbOf (grid0.coords t)).toNat + r.val
        rw [tr4]
        show (kbOf (grid0.coords t)).toNat * 640 + 1 * r.val = _
        omega
      | 1 =>
        show cc0_transform_4 k0_off1_inb numel1_S1 (tabs (F := Ideal)) (grid0.coords t) 1 * 1024 + 1 * e.val = e.val
        rw [tr4]
        show 0 * 1024 + 1 * e.val = _
        omega)
    (fun t t' X h hX r e => by
      have h' : cc0_transform_4 k0_off1_inb numel1_S1 (tabs (F := Ideal)) (grid0.coords t) = cc0_transform_4 k0_off1_inb numel1_S1 (tabs (F := Ideal)) (grid0.coords t') := h
      rw [tr4, tr4] at h'
      rw [← ix_k t t' 0 0 h']
      exact hX r e) t

theorem b8_at (t : Fin (acfg (F := Ideal)).N) : ∀ (r : Fin 640) (e : Fin 1024), (blkAt m c t).b8 (ix2 r e) = vaA m c (ix2 (rw8 (kI t) r) e) :=
  held_induct m c 5 rfl (fun t X => ∀ (r : Fin 640) (e : Fin 1024), X (ix2 r e) = vaA m c (ix2 (rw8 (kI t) r) e))
    (fun t r e => by
      refine (((acfg (F := Ideal)).win 5).fill_xinj ((acfg (F := Ideal)).grid.coords t) _ _ (ix2 r e)).trans ?_
      rw [View.read_apply]
      show V m c main_v98 _ = _
      congr 1
      funext a
      apply Fin.ext
      match a with
      | 0 =>
        show cc0_transform_5 k0_off1_inb numel1_S1 (tabs (F := Ideal)) (grid0.coords t) 0 * 640 + 1 * r.val = 640 * (kbOf (grid0.coords t)).toNat + r.val
        rw [tr5]
        show (kbOf (grid0.coords t)).toNat * 640 + 1 * r.val = _
        omega
      | 1 =>
        show cc0_transform_5 k0_off1_inb numel1_S1 (tabs (F := Ideal)) (grid0.coords t) 1 * 1024 + 1 * e.val = e.val
        rw [tr5]
        show 0 * 1024 + 1 * e.val = _
        omega)
    (fun t t' X h hX r e => by
      have h' : cc0_transform_5 k0_off1_inb numel1_S1 (tabs (F := Ideal)) (grid0.coords t) = cc0_transform_5 k0_off1_inb numel1_S1 (tabs (F := Ideal)) (grid0.coords t') := h
      rw [tr5, tr5] at h'
      rw [← ix_k t t' 0 0 h']
      exact hX r e) t

/-! ## The heads' numbers over all rows -/

/-- The score of query row `R` and key row `L`. -/
def scG (h : Fin 8) (R L : Fin 8320) : EReal := ∑ x : Fin 128, qbA m c (ix2 R (hcol h x)) * kaA m c (ix2 L (hcol h x))
/-- The gradient of the weight. -/
def dpG (h : Fin 8) (R L : Fin 8320) : EReal := ∑ x : Fin 128, dobA m c (ix2 R (hcol h x)) * vaA m c (ix2 L (hcol h x))
/-- The weight, of the keys up to the query. -/
def prG (h : Fin 8) (R L : Fin 8320) : EReal := Ideal.exp (if R < L then ⊥ else scG m c h R L)
/-- The gradient of the score. -/
def grG (h : Fin 8) (R L : Fin 8320) : EReal := prG m c h R L * dpG m c h R L

theorem prG_zero (h : Fin 8) (R L : Fin 8320) (hl : R < L) : prG m c h R L = 0 := by unfold prG; rw [if_pos hl]; exact Ideal.exp_bot
theorem grG_zero (h : Fin 8) (R L : Fin 8320) (hl : R < L) : grG m c h R L = 0 := by unfold grG; rw [prG_zero m c h R L hl, zero_mul]

variable (t : Fin grid0.N)

theorem after_iff (r l : Fin 640) : (dI t = true ∧ r < l) ↔ rw8 (qI t) r < rw8 (kI t) l := by
  have hle := kI_le t
  unfold dI
  rw [decide_eq_true_iff, Fin.lt_def, Fin.lt_def]
  show _ ↔ 640 * (qI t).val + r.val < 640 * (kI t).val + l.val
  constructor
  · intro ⟨h1, h2⟩; rw [h1]; omega
  · intro h
    have hv : (kI t).val = (qI t).val := by omega
    exact ⟨Fin.ext hv, by omega⟩

theorem pr_at (h : Fin 8) (r l : Fin 640) : pr (blkAt m c t) (dI t) h r l = prG m c h (rw8 (qI t) r) (rw8 (kI t) l) := by
  unfold pr prG sc scG
  simp only [b3_at m c t, b7_at m c t, after_iff]
theorem gr_at (h : Fin 8) (r l : Fin 640) : gr (blkAt m c t) (dI t) h r l = grG m c h (rw8 (qI t) r) (rw8 (kI t) l) := by
  unfold gr grG dp dpG
  simp only [b4_at m c t, b8_at m c t, pr_at]

theorem addQ_at (p : Fin 4) (y : Fin 128) (r : Fin 640) : addQ (blkAt m c t) (dI t) p y r
    = ∑ l : Fin 640, grG m c (hd p y) (rw8 (qI t) r) (rw8 (kI t) l) * kaA m c (ix2 (rw8 (kI t) l) (hcol (hd p y) y)) := by
  unfold addQ
  simp only [gr_at, b7_at m c t]
theorem addS_at (r : Fin 640) (y : Fin 128) : addS (blkAt m c t) (dI t) r y
    = if h : y.val < 8 then ∑ l : Fin 640, grG m c ⟨y.val, h⟩ (rw8 (qI t) r) (rw8 (kI t) l) else 0 := by
  unfold addS
  simp only [gr_at]
theorem addK_at (h : Fin 8) (y : Fin 128) (l : Fin 640) : addK (blkAt m c t) (dI t) h y l
    = ∑ r : Fin 640, qbtA m c (ix2 (hcol h y) (rw8 (qI t) r)) * grG m c h (rw8 (qI t) r) (rw8 (kI t) l) := by
  unfold addK
  simp only [gr_at, b5_at m c t]
theorem addV_at (h : Fin 8) (y : Fin 128) (l : Fin 640) : addV (blkAt m c t) (dI t) h y l
    = ∑ r : Fin 640, dobtA m c (ix2 (hcol h y) (rw8 (qI t) r)) * prG m c h (rw8 (qI t) r) (rw8 (kI t) l) := by
  unfold addV
  simp only [pr_at, b6_at m c t]
theorem addC_at (h : Fin 8) (l : Fin 640) : addC (blkAt m c t) (dI t) h l = ∑ r : Fin 640, grG m c h (rw8 (qI t) r) (rw8 (kI t) l) := by
  unfold addC
  simp only [gr_at]

end Cert.AttnIdeal.Hand

end
-- ==== Proof.AttnRun.lean ====
/- THE ACCUMULATORS over the points: what the query rows and a key block's results hold when they are finished. -/
module

public import proofs.«01_k».proof.Proof.AttnBlocks

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

/-! ## Sequences of numbers over the points -/

/-- A number set to zero at the first point, to which some points add. -/
theorem acc_q (x : ℕ → EReal) (f : Fin grid0.N → EReal) (p : Fin grid0.N → Prop) [DecidablePred p]
    (h : ∀ t : Fin grid0.N, x (t.val + 1) = (if t.val = 0 then 0 else x t.val) + if p t then f t else 0) (t : Fin grid0.N) : x (t.val + 1) = psum p f (t.val + 1) := by
  obtain ⟨n, hn⟩ := t
  induction n with
  | zero => rw [h ⟨0, hn⟩, if_pos rfl, psum_succ, psum_zero]
  | succ n ih =>
    rw [h ⟨n + 1, hn⟩, if_neg (Nat.succ_ne_zero n), psum_succ]
    exact congrArg (· + _) (ih (Nat.lt_of_succ_lt hn))

/-- A number set to zero at each diagonal point, to which every point adds. -/
theorem acc_k (x : ℕ → EReal) (f : Fin grid0.N → EReal)
    (h : ∀ t : Fin grid0.N, x (t.val + 1) = (if dI t = true then 0 else x t.val) + f t) (t : Fin grid0.N) : x (t.val + 1) = psum (fun t' => kI t' = kI t) f (t.val + 1) := by
  obtain ⟨n, hn⟩ := t
  induction n with
  | zero =>
    rw [h ⟨0, hn⟩, psum_succ, psum_zero, if_pos rfl]
    by_cases hd : dI ⟨0, hn⟩ = true
    · rw [if_pos hd]
    · exact absurd (off_prev ⟨0, hn⟩ (Bool.eq_false_iff.mpr hd)).1 (Nat.lt_irrefl 0)
  | succ n ih =>
    rw [h ⟨n + 1, hn⟩, psum_succ, if_pos rfl]
    by_cases hd : dI ⟨n + 1, hn⟩ = true
    · rw [if_pos hd, psum_none _ f _ fun t' ht' => diag_new ⟨n + 1, hn⟩ hd t' ht']
    · rw [if_neg hd]
      have hk := (off_prev ⟨n + 1, hn⟩ (Bool.eq_false_iff.mpr hd)).2 ⟨n, Nat.lt_of_succ_lt hn⟩ rfl
      have := ih (Nat.lt_of_succ_lt hn)
      rw [hk] at this
      exact congrArg (· + _) this

/-- A number written at the diagonal point of query block `I` alone. -/
theorem acc_d (x y : ℕ → EReal) (I : Fin 13) (h : ∀ t : Fin grid0.N, x (t.val + 1) = if dI t = true ∧ qI t = I then y (t.val + 1) else x t.val)
    (t : Fin grid0.N) (hd : dI t = true) (hI : qI t = I) (n : ℕ) (hn : n ≤ grid0.N) (hlt : t.val < n) : x n = y (t.val + 1) := by
  induction n with
  | zero => exact absurd hlt (Nat.not_lt_zero _)
  | succ n ih =>
    by_cases e : t.val = n
    · subst e; rw [h t, if_pos ⟨hd, hI⟩]
    · have h' : t.val < n := by omega
      have := h ⟨n, hn⟩
      rw [if_neg (fun k => diag_last t hd ⟨n, hn⟩ h' (k.2.trans hI.symm))] at this
      exact this.trans (ih (Nat.le_of_succ_le hn) h')

theorem diag_ex (I : Fin 13) : ∃ t : Fin grid0.N, dI t = true ∧ qI t = I := by
  obtain ⟨t, h1, h2⟩ := pt_ex I I (Nat.le_refl _)
  exact ⟨t, decide_eq_true (h1.trans h2.symm), h2⟩

/-- The sum of a query block's points is done at its diagonal point. -/
theorem psum_diag (t : Fin grid0.N) (hd : dI t = true) (f : Fin grid0.N → EReal) : psum (fun t' => qI t' = qI t) f (t.val + 1) = ∑ t', if qI t' = qI t then f t' else 0 :=
  psum_all _ f _ fun t' h => diag_last t hd t' h
/-- The sum of a key block's points is done at its last point. -/
theorem psum_last (t : Fin grid0.N) (hl : k0_cond5 (qbOf (grid0.coords t)) = 1#1) (f : Fin grid0.N → EReal) : psum (fun t' => kI t' = kI t) f (t.val + 1) = ∑ t', if kI t' = kI t then f t' else 0 :=
  psum_all _ f _ fun t' h => last_kb t hl t' h

/-! ## The run -/

variable (m : (ℓ : Loc nD τ sig) → Buf (Elt Ideal) ℓ) (c : Dev nD) (S0 : St Ideal)

theorem run_step (t : Fin grid0.N) : Step (blkAt m c t) (qI t) (t.val = 0) (dI t) (run m c t.val S0) (run m c (t.val + 1) S0) := by
  rw [run_succ m c t S0]
  exact stepSt_step c (grid0.coords t) (stg t) (kbOf (grid0.coords t)) (qbOf (grid0.coords t)) (chk (grid0.coords t)) (blkAt m c t) _ (qI t) rfl (dI t) _ (first_iff t) (diag_iff t) (off_iff t)

/-- The finished query rows. -/
theorem dq_final (R : Fin 8320) (p : Fin 4) (y : Fin 128) :
    (run m c grid0.N S0).dq (ix2 R (cl4 p y)) = (∑ L, grG m c (hd p y) R L * kaA m c (ix2 L (hcol (hd p y) y))) * Ideal.ofBits .f32 0x3E000000#32 := by
  obtain ⟨I, r, rfl⟩ := row_cases R
  obtain ⟨t, hd', rfl⟩ := diag_ex I
  rw [acc_d (fun n => (run m c n S0).dq (ix2 (rw8 (qI t) r) (cl4 p y))) (fun n => (run m c n S0).q (ix2 (rw8 (qI t) r) (cl4 p y)) * Ideal.ofBits .f32 0x3E000000#32) (qI t)
    (fun t' => (run_step m c S0 t').dq (qI t) r (cl4 p y)) t hd' rfl grid0.N (Nat.le_refl _) t.isLt]
  have hq := acc_q (fun n => (run m c n S0).q (ix2 (rw8 (qI t) r) (cl4 p y))) (fun t' => addQ (blkAt m c t') (dI t') p y r) (fun t' => qI t' = qI t)
    (fun t' => (run_step m c S0 t').q (qI t) r p y) t
  rw [hq, psum_diag t hd', ← sum_upTo (qI t) _ fun J hJ l => by rw [grG_zero m c _ _ _ (by rw [Fin.lt_def]; show 640 * (qI t).val + r.val < 640 * J.val + l.val; omega), zero_mul], ← sum_keys]
  refine congrArg (· * _) (Finset.sum_congr rfl fun t' _ => ?_)
  by_cases h : qI t' = qI t
  · rw [if_pos h, if_pos h, addQ_at, h]
  · rw [if_neg h, if_neg h]

/-- The finished row sums. -/
theorem dcq_final (R : Fin 8320) (y : Fin 128) :
    (run m c grid0.N S0).dcq (ix2 R y) = if h : y.val < 8 then ∑ L, grG m c ⟨y.val, h⟩ R L else 0 := by
  obtain ⟨I, r, rfl⟩ := row_cases R
  obtain ⟨t, hd', rfl⟩ := diag_ex I
  rw [acc_d (fun n => (run m c n S0).dcq (ix2 (rw8 (qI t) r) y)) (fun n => (run m c n S0).s (ix2 (rw8 (qI t) r) y)) (qI t)
    (fun t' => (run_step m c S0 t').dcq (qI t) r y) t hd' rfl grid0.N (Nat.le_refl _) t.isLt]
  have hq := acc_q (fun n => (run m c n S0).s (ix2 (rw8 (qI t) r) y)) (fun t' => addS (blkAt m c t') (dI t') r y) (fun t' => qI t' = qI t)
    (fun t' => (run_step m c S0 t').s (qI t) r y) t
  rw [hq, psum_diag t hd']
  by_cases hy : y.val < 8
  · rw [dif_pos hy, ← sum_upTo (qI t) _ fun J hJ l => grG_zero m c _ _ _ (by rw [Fin.lt_def]; show 640 * (qI t).val + r.val < 640 * J.val + l.val; omega), ← sum_keys]
    refine Finset.sum_congr rfl fun t' _ => ?_
    by_cases h : qI t' = qI t
    · rw [if_pos h, if_pos h, addS_at, h, dif_pos hy]
    · rw [if_neg h, if_neg h]
  · rw [dif_neg hy]
    refine Finset.sum_eq_zero fun t' _ => ?_
    by_cases h : qI t' = qI t
    · rw [if_pos h, addS_at, dif_neg hy]
    · rw [if_neg h]

variable (t : Fin grid0.N) (hl : k0_cond5 (qbOf (grid0.coords t)) = 1#1)
include hl

/-- A key block's sum over the points, as one over the query rows. -/
theorem keys_final (x : ℕ → EReal) (f : Fin grid0.N → EReal) (g : Fin 8320 → EReal) (l : Fin 640)
    (h : ∀ t : Fin grid0.N, x (t.val + 1) = (if dI t = true then 0 else x t.val) + f t)
    (hf : ∀ t' : Fin grid0.N, kI t' = kI t → f t' = ∑ r : Fin 640, g (rw8 (qI t') r))
    (hg : ∀ R, R < rw8 (kI t) l → g R = 0) (hg' : ∀ I : Fin 13, I.val < (kI t).val → ∀ r, g (rw8 I r) = 0) : x (t.val + 1) = ∑ R, g R := by
  rw [acc_k x f h t, psum_last t hl, ← sum_from (kI t) g hg', ← sum_queries]
  refine Finset.sum_congr rfl fun t' _ => ?_
  by_cases e : kI t' = kI t
  · rw [if_pos e, if_pos e, hf t' e]
  · rw [if_neg e, if_neg e]

theorem k_final (h : Fin 8) (y : Fin 128) (l : Fin 640) :
    (run m c (t.val + 1) S0).k (ix2 (hcol h y) l) = ∑ R, qbtA m c (ix2 (hcol h y) R) * grG m c h R (rw8 (kI t) l) :=
  keys_final t hl (fun n => (run m c n S0).k (ix2 (hcol h y) l)) (fun t' => addK (blkAt m c t') (dI t') h y l) (fun R => qbtA m c (ix2 (hcol h y) R) * grG m c h R (rw8 (kI t) l)) l
    (fun t' => (run_step m c S0 t').k h y l) (fun t' e => by rw [addK_at, e]) (fun R hR => by rw [grG_zero m c h R _ hR, mul_zero])
    (fun I hI r => by rw [grG_zero m c h _ _ (by rw [Fin.lt_def]; show 640 * I.val + r.val < 640 * (kI t).val + l.val; omega), mul_zero])

theorem v_final (h : Fin 8) (y : Fin 128) (l : Fin 640) :
    (run m c (t.val + 1) S0).v (ix2 (hcol h y) l) = ∑ R, dobtA m c (ix2 (hcol h y) R) * prG m c h R (rw8 (kI t) l) :=
  keys_final t hl (fun n => (run m c n S0).v (ix2 (hcol h y) l)) (fun t' => addV (blkAt m c t') (dI t') h y l) (fun R => dobtA m c (ix2 (hcol h y) R) * prG m c h R (rw8 (kI t) l)) l
    (fun t' => (run_step m c S0 t').v h y l) (fun t' e => by rw [addV_at, e]) (fun R hR => by rw [prG_zero m c h R _ hR, mul_zero])
    (fun I hI r => by rw [prG_zero m c h _ _ (by rw [Fin.lt_def]; show 640 * I.val + r.val < 640 * (kI t).val + l.val; omega), mul_zero])

theorem c_final (h : Fin 8) (l : Fin 640) :
    (run m c (t.val + 1) S0).c (ix2 h l) = ∑ R, grG m c h R (rw8 (kI t) l) :=
  keys_final t hl (fun n => (run m c n S0).c (ix2 h l)) (fun t' => addC (blkAt m c t') (dI t') h l) (fun R => grG m c h R (rw8 (kI t) l)) l
    (fun t' => (run_step m c S0 t').c h l) (fun t' e => by rw [addC_at, e]) (fun R hR => grG_zero m c h R _ hR)
    (fun I hI r => grG_zero m c h _ _ (by rw [Fin.lt_def]; show 640 * I.val + r.val < 640 * (kI t).val + l.val; omega))

end Cert.AttnIdeal.Hand

end
-- ==== Proof.AttnArrays.lean ====
/- THE RESULTS' ARRAYS after the run, at every index. -/
module

public import proofs.«01_k».proof.Proof.AttnRun
public import proofs.«01_k».proof.Proof.AttnLaunch
public import Idealize.ShloMosaic.Lib.Pipeline.ArrRel

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

/-- The head of column `e` of the results. -/
def hOf (e : Fin 512) : Fin 8 := ⟨e.val / 64, by omega⟩
/-- Its column among the heads' tiles. -/
def tcol (e : Fin 512) : Fin 1024 := hcol (hOf e) ⟨e.val % 128, by omega⟩

theorem hd_eq (p : Fin 4) (y : Fin 128) : hd p y = hOf (cl4 p y) := by
  unfold hd hOf cl4
  split <;> (apply Fin.ext; dsimp only; omega)
theorem tcol_eq (p : Fin 4) (y : Fin 128) : hcol (hd p y) y = tcol (cl4 p y) := by
  unfold tcol
  rw [← hd_eq]
  refine congrArg _ (Fin.ext ?_)
  show y.val = (128 * p.val + y.val) % 128
  omega

variable (m : (ℓ : Loc nD τ sig) → Buf (Elt Ideal) ℓ) (c : Dev nD)

/-- The queries' gradient. -/
def dqArr : Vec Ideal S8320x512 .bf16 := fun i => (∑ L, grG m c (hOf (i 1)) (i 0) L * kaA m c (ix2 L (tcol (i 1)))) * Ideal.ofBits .f32 0x3E000000#32
/-- The row sums of the scores' gradient. -/
def dcqArr : Vec Ideal S8320x128 .f32 := fun i => if h : (i 1).val < 8 then ∑ L, grG m c ⟨(i 1).val, h⟩ (i 0) L else (0 : EReal)
/-- The keys' gradient. -/
def dkArr : Vec Ideal S8320x512 .bf16 := fun i => (∑ R, qbtA m c (ix2 (tcol (i 1)) R) * grG m c (hOf (i 1)) R (i 0) : EReal)
/-- The values' gradient. -/
def dvArr : Vec Ideal S8320x512 .bf16 := fun i => (∑ R, dobtA m c (ix2 (tcol (i 1)) R) * prG m c (hOf (i 1)) R (i 0) : EReal)
/-- The column sums of the scores' gradient. -/
def dckArr : Vec Ideal S8x8320 .f32 := fun i => (∑ R, grG m c (i 0) R (i 1) : EReal)

theorem copied_dq (S0 : St Ideal) : (run m c (acfg (F := Ideal)).N S0).dq = dqArr m c := by
  funext i
  obtain ⟨R, e, rfl⟩ : ∃ (R : Fin 8320) (e : Fin 512), i = ix2 R e := ⟨i 0, i 1, eq_ix2 i⟩
  obtain ⟨p, y, rfl⟩ := col_cases e
  refine (dq_final m c S0 R p y).trans ?_
  rw [tcol_eq, hd_eq]
  rfl
theorem copied_dcq (S0 : St Ideal) : (run m c (acfg (F := Ideal)).N S0).dcq = dcqArr m c := by
  funext i
  obtain ⟨R, e, rfl⟩ : ∃ (R : Fin 8320) (e : Fin 128), i = ix2 R e := ⟨i 0, i 1, eq_ix2 i⟩
  exact dcq_final m c S0 R e

/-! ## The blocks that are written back -/

theorem cond_of_flush : ∀ t : Fin grid0.N, (t.val + 1 = grid0.N ∨ ∃ h : t.val + 1 < grid0.N, kI ⟨t.val + 1, h⟩ ≠ kI t) → k0_cond5 (qbOf (grid0.coords t)) = 1#1 := by decide +kernel

section
variable (w : Fin 9) (hw : isRes w = true)

theorem res_out : ∀ w : Fin 9, isRes w = true → (spec0 w).isOut = true := by decide

theorem last_of_flush (t : Fin (acfg (F := Ideal)).N) (h : ((acfg (F := Ideal)).win w).isOut = true)
    (hx : ∀ t t' : Fin (acfg (F := Ideal)).N, kI t = kI t' → ((acfg (F := Ideal)).win w).index t = ((acfg (F := Ideal)).win w).index t')
    (hf : ((acfg (F := Ideal)).win w).flush t = true) : k0_cond5 (qbOf (grid0.coords t)) = 1#1 := by
  refine cond_of_flush t ?_
  rcases (((acfg (F := Ideal)).win w).flush_out h t).mp hf with h1 | ⟨h1, h2⟩
  · exact Or.inl h1
  · exact Or.inr ⟨h1, fun e => h2 (hx _ _ e)⟩

theorem flush_of_last (t : Fin (acfg (F := Ideal)).N) (h : ((acfg (F := Ideal)).win w).isOut = true)
    (hx : ∀ t t' : Fin (acfg (F := Ideal)).N, ((acfg (F := Ideal)).win w).index t = ((acfg (F := Ideal)).win w).index t' → kI t = kI t')
    (hl : k0_cond5 (qbOf (grid0.coords t)) = 1#1) : ((acfg (F := Ideal)).win w).flush t = true := by
  refine (((acfg (F := Ideal)).win w).flush_out h t).mpr ?_
  by_cases e : t.val + 1 = (acfg (F := Ideal)).N
  · exact Or.inl e
  · have h1 : t.val + 1 < (acfg (F := Ideal)).N := by have := t.isLt; omega
    exact Or.inr ⟨h1, fun e => last_kb t hl ⟨t.val + 1, h1⟩ (Nat.lt_succ_self _) (hx _ _ e)⟩
end

theorem index6 (t : Fin (acfg (F := Ideal)).N) : ((acfg (F := Ideal)).win 6).index t = ![(kI t).val, 0] := tr7 (grid0.coords t)
theorem index7 (t : Fin (acfg (F := Ideal)).N) : ((acfg (F := Ideal)).win 7).index t = ![(kI t).val, 0] := tr8 (grid0.coords t)
theorem index8 (t : Fin (acfg (F := Ideal)).N) : ((acfg (F := Ideal)).win 8).index t = ![0, (kI t).val] := tr10 (grid0.coords t)

section
variable (D : Pipeline.Dat τ (Elt Ideal) Unit ℕ (Pipeline.UD sig nD τ) ℕ (acfg (F := Ideal)) c)

theorem arr6 (hD : ∀ t, ((acfg (F := Ideal)).win 6).flush t = true → Rl m c 6 t (D.after 6 t)) : D.arrAt 6 (acfg (F := Ideal)).N = dkArr m c := by
  refine D.arrAt_eq_of_cover 6 _ (fun t ht => ?_) (fun i => ?_)
  · have hl : k0_cond5 (qbOf (grid0.coords t)) = 1#1 := last_of_flush 6 t rfl (fun t t' e => by rw [index6, index6, e]) ht
    obtain ⟨X0, S0, hX⟩ := hD t ht hl
    funext j
    obtain ⟨l, e, rfl⟩ : ∃ (l : Fin 640) (e : Fin 512), j = ix2 l e := ⟨j 0, j 1, eq_ix2 j⟩
    obtain ⟨p, y, rfl⟩ := col_cases e
    rw [View.read_apply]
    show D.after 6 t (ix2 l (cl4 p y)) = dkArr m c _
    rw [hX]
    refine (flush_k_apply c (grid0.coords t) (stg t) _ _ _ _ l p y).trans ?_
    rw [k_final m c S0 t hl, tcol_eq, hd_eq]
    unfold dkArr
    have h0 : (((acfg (F := Ideal)).win 6).blk t).view.emb (ix2 l (cl4 p y)) = ix2 (rw8 (kI t) l) (cl4 p y) := by
      funext a
      apply Fin.ext
      match a with
      | 0 => show ((acfg (F := Ideal)).win 6).index t 0 * 640 + 1 * l.val = 640 * (kI t).val + l.val
             rw [index6]; show (kI t).val * 640 + 1 * l.val = _; omega
      | 1 => show ((acfg (F := Ideal)).win 6).index t 1 * 512 + 1 * (cl4 p y).val = (cl4 p y).val
             rw [index6]; show 0 * 512 + 1 * (cl4 p y).val = _; omega
    rw [h0]
    rfl
  · have hi : (i 0).val < 8320 := (i 0).isLt
    obtain ⟨t, h1, hl⟩ := last_ex ⟨(i 0).val / 640, by omega⟩
    refine ⟨t, flush_of_last 6 t rfl (fun t t' e => ?_) hl, ?_⟩
    · rw [index6, index6] at e; exact Fin.ext (congrFun e 0)
    · have hk : (kI t).val = (i 0).val / 640 := congrArg Fin.val h1
      show i ∈ ((View.whole main_v164_1).slice (((acfg (F := Ideal)).win 6).rect t)).set
      rw [View.set_slice_whole, Rect.mem_set_unit]
      intro a
      match a with
      | 0 => show ((acfg (F := Ideal)).win 6).index t 0 * 640 ≤ (i 0).val ∧ (i 0).val < ((acfg (F := Ideal)).win 6).index t 0 * 640 + 640
             rw [index6]; show (kI t).val * 640 ≤ (i 0).val ∧ (i 0).val < (kI t).val * 640 + 640; omega
      | 1 => show ((acfg (F := Ideal)).win 6).index t 1 * 512 ≤ (i 1).val ∧ (i 1).val < ((acfg (F := Ideal)).win 6).index t 1 * 512 + 512
             have h1 : (i 1).val < 512 := (i 1).isLt
             rw [index6]; show 0 * 512 ≤ (i 1).val ∧ (i 1).val < 0 * 512 + 512; omega
end

section
variable (D : Pipeline.Dat τ (Elt Ideal) Unit ℕ (Pipeline.UD sig nD τ) ℕ (acfg (F := Ideal)) c)

theorem arr7 (hD : ∀ t, ((acfg (F := Ideal)).win 7).flush t = true → Rl m c 7 t (D.after 7 t)) : D.arrAt 7 (acfg (F := Ideal)).N = dvArr m c := by
  refine D.arrAt_eq_of_cover 7 _ (fun t ht => ?_) (fun i => ?_)
  · have hl : k0_cond5 (qbOf (grid0.coords t)) = 1#1 := last_of_flush 7 t rfl (fun t t' e => by rw [index7, index7, e]) ht
    obtain ⟨X0, S0, hX⟩ := hD t ht hl
    funext j
    obtain ⟨l, e, rfl⟩ : ∃ (l : Fin 640) (e : Fin 512), j = ix2 l e := ⟨j 0, j 1, eq_ix2 j⟩
    obtain ⟨p, y, rfl⟩ := col_cases e
    rw [View.read_apply]
    show D.after 7 t (ix2 l (cl4 p y)) = dvArr m c _
    rw [hX]
    refine (flush_v_apply c (grid0.coords t) (stg t) _ _ _ _ l p y).trans ?_
    rw [v_final m c S0 t hl, tcol_eq, hd_eq]
    unfold dvArr
    have h0 : (((acfg (F := Ideal)).win 7).blk t).view.emb (ix2 l (cl4 p y)) = ix2 (rw8 (kI t) l) (cl4 p y) := by
      funext a
      apply Fin.ext
      match a with
      | 0 => show ((acfg (F := Ideal)).win 7).index t 0 * 640 + 1 * l.val = 640 * (kI t).val + l.val
             rw [index7]; show (kI t).val * 640 + 1 * l.val = _; omega
      | 1 => show ((acfg (F := Ideal)).win 7).index t 1 * 512 + 1 * (cl4 p y).val = (cl4 p y).val
             rw [index7]; show 0 * 512 + 1 * (cl4 p y).val = _; omega
    rw [h0]
    rfl
  · have hi : (i 0).val < 8320 := (i 0).isLt
    obtain ⟨t, h1, hl⟩ := last_ex ⟨(i 0).val / 640, by omega⟩
    refine ⟨t, flush_of_last 7 t rfl (fun t t' e => ?_) hl, ?_⟩
    · rw [index7, index7] at e; exact Fin.ext (congrFun e 0)
    · have hk : (kI t).val = (i 0).val / 640 := congrArg Fin.val h1
      show i ∈ ((View.whole main_v164_2).slice (((acfg (F := Ideal)).win 7).rect t)).set
      rw [View.set_slice_whole, Rect.mem_set_unit]
      intro a
      match a with
      | 0 => show ((acfg (F := Ideal)).win 7).index t 0 * 640 ≤ (i 0).val ∧ (i 0).val < ((acfg (F := Ideal)).win 7).index t 0 * 640 + 640
             rw [index7]; show (kI t).val * 640 ≤ (i 0).val ∧ (i 0).val < (kI t).val * 640 + 640; omega
      | 1 => show ((acfg (F := Ideal)).win 7).index t 1 * 512 ≤ (i 1).val ∧ (i 1).val < ((acfg (F := Ideal)).win 7).index t 1 * 512 + 512
             have h1 : (i 1).val < 512 := (i 1).isLt
             rw [index7]; show 0 * 512 ≤ (i 1).val ∧ (i 1).val < 0 * 512 + 512; omega
end

section
variable (D : Pipeline.Dat τ (Elt Ideal) Unit ℕ (Pipeline.UD sig nD τ) ℕ (acfg (F := Ideal)) c)

theorem arr8 (hD : ∀ t, ((acfg (F := Ideal)).win 8).flush t = true → Rl m c 8 t (D.after 8 t)) : D.arrAt 8 (acfg (F := Ideal)).N = dckArr m c := by
  refine D.arrAt_eq_of_cover 8 _ (fun t ht => ?_) (fun i => ?_)
  · have hl : k0_cond5 (qbOf (grid0.coords t)) = 1#1 := last_of_flush 8 t rfl (fun t t' e => by rw [index8, index8, e]) ht
    obtain ⟨X0, S0, hX⟩ := hD t ht hl
    funext j
    obtain ⟨h, l, rfl⟩ : ∃ (h : Fin 8) (l : Fin 640), j = ix2 h l := ⟨j 0, j 1, eq_ix2 j⟩
    rw [View.read_apply]
    show D.after 8 t (ix2 h l) = dckArr m c _
    rw [hX]
    refine (flush_c_apply c (grid0.coords t) (stg t) _ _ _ _ h l).trans ?_
    rw [c_final m c S0 t hl]
    unfold dckArr
    have h0 : (((acfg (F := Ideal)).win 8).blk t).view.emb (ix2 h l) = ix2 h (rw8 (kI t) l) := by
      funext a
      apply Fin.ext
      match a with
      | 0 => show ((acfg (F := Ideal)).win 8).index t 0 * 8 + 1 * h.val = h.val
             rw [index8]; show 0 * 8 + 1 * h.val = _; omega
      | 1 => show ((acfg (F := Ideal)).win 8).index t 1 * 640 + 1 * l.val = 640 * (kI t).val + l.val
             rw [index8]; show (kI t).val * 640 + 1 * l.val = _; omega
    rw [h0]
    rfl
  · have hi : (i 1).val < 8320 := (i 1).isLt
    obtain ⟨t, h1, hl⟩ := last_ex ⟨(i 1).val / 640, by omega⟩
    refine ⟨t, flush_of_last 8 t rfl (fun t t' e => ?_) hl, ?_⟩
    · rw [index8, index8] at e; exact Fin.ext (congrFun e 1)
    · have hk : (kI t).val = (i 1).val / 640 := congrArg Fin.val h1
      show i ∈ ((View.whole main_v164_4).slice (((acfg (F := Ideal)).win 8).rect t)).set
      rw [View.set_slice_whole, Rect.mem_set_unit]
      intro a
      match a with
      | 0 => show ((acfg (F := Ideal)).win 8).index t 0 * 8 ≤ (i 0).val ∧ (i 0).val < ((acfg (F := Ideal)).win 8).index t 0 * 8 + 8
             have h1 : (i 0).val < 8 := (i 0).isLt
             rw [index8]; show 0 * 8 ≤ (i 0).val ∧ (i 0).val < 0 * 8 + 8; omega
      | 1 => show ((acfg (F := Ideal)).win 8).index t 1 * 640 ≤ (i 1).val ∧ (i 1).val < ((acfg (F := Ideal)).win 8).index t 1 * 640 + 640
             rw [index8]; show (kI t).val * 640 ≤ (i 1).val ∧ (i 1).val < (kI t).val * 640 + 640; omega
end

/-- The five results' arrays after the run. -/
theorem results (r : PUnit × MemSt nD τ sig (Elt Ideal)) (h : Post m r) (c : Dev nD) :
    r.2.mem ((c : Thread nD τ).loc main_v164_0) = dqArr m c ∧ r.2.mem ((c : Thread nD τ).loc main_v164_1) = dkArr m c
      ∧ r.2.mem ((c : Thread nD τ).loc main_v164_2) = dvArr m c ∧ r.2.mem ((c : Thread nD τ).loc main_v164_3) = dcqArr m c
      ∧ r.2.mem ((c : Thread nD τ).loc main_v164_4) = dckArr m c := by
  obtain ⟨⟨hp, hc⟩, -⟩ := h
  obtain ⟨W, ⟨S0, h0, h3⟩, hW⟩ := hc c
  obtain ⟨after, hL, hA⟩ := Pipeline.RDat.FramePostR.exists_exact hp c
  have hD : ∀ w : Fin 9, isRes w = true → ∀ t, ((acfg (F := Ideal)).win w).flush t = true → Rl m c w t (after w t) :=
    fun w hw t hf => Pipeline.Dat.toRRel_leaves (dat m c) hw (hL w t hf)
  refine ⟨?_, ?_, ?_, ?_, ?_⟩
  · exact (hW main_v164_0 (by decide)).trans (h0.trans (copied_dq m c S0))
  · exact (hA 6).trans (arr6 m c _ (hD 6 rfl))
  · exact (hA 7).trans (arr7 m c _ (hD 7 rfl))
  · exact (hW main_v164_3 (by decide)).trans (h3.trans (copied_dcq m c S0))
  · exact (hA 8).trans (arr8 m c _ (hD 8 rfl))

end Cert.AttnIdeal.Hand

end
-- ==== Proof.AttnHost.lean ====
/- THE HOST LINES before the kernel, as functions of the arrays they take, and the arrays the kernel finds in their terms. -/
module

public import proofs.«01_k».proof.Proof.AttnBlocks
public import Idealize.ShloMosaic.Lib.StableHlo.ReadAt

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

/-- A scalar constant. -/
abbrev word (w : BitVec 32) : FVec Ideal S_ .f32 := constant (F := Ideal) S_ .f32 w

/-- Rows of zeros below an array. -/
def padV (x : FVec Ideal S8208x512 .f32) : FVec Ideal S8320x512 .f32 :=
  concatenate S8320x512 0 [⟨S8208x512, x⟩, ⟨S112x512, broadcastInDim S112x512 ![] bcast_S_S112x512 (word 0x00000000#32)⟩] concatenates_S8208x512_S112x512_S8320x512_d0

/-- Rows of zeros below the running sums. -/
def padC (x : FVec Ideal S8208x8 .f32) : FVec Ideal S8320x8 .f32 :=
  concatenate S8320x8 0 [⟨S8208x8, x⟩, ⟨S112x8, broadcastInDim S112x8 ![] bcast_S_S112x8 (word 0x00000000#32)⟩] concatenates_S8208x8_S112x8_S8320x8_d0

/-- A row's lanes by head. -/
def lanesV (x : FVec Ideal S8320x512 .f32) : FVec Ideal S8320x8x64 .f32 := shapeCast S8320x8x64 x shapeCasts_S8320x512_S8320x8x64

/-- The heads of an array. -/
def headsV (x : FVec Ideal S8320x512 .f32) : FVec Ideal S8x8320x64 .f32 := transpose S8x8320x64 [1, 0, 2] (lanesV x) transposes_S8320x8x64_S8x8320x64_1_0_2

/-- The masked scores of all rows. -/
def scoresV (q k : FVec Ideal S8320x512 .f32) (c : FVec Ideal S8320x8 .f32) : FVec Ideal S8x8320x8320 .f32 :=
  select
    (broadcastInDim S8x8320x8320 ![1, 2] bcast_S8320x8320_S8x8320x8320_1_2
      (cmpi .sge (broadcastInDim S8320x8320 ![0, 1] bcast_S8320x1_S8320x8320_0_1 (broadcastInDim S8320x1 ![0] bcast_S8320_S8320x1_0 (iotaInDim S8320 32 0)))
        (broadcastInDim S8320x8320 ![0, 1] bcast_S1x8320_S8320x8320_0_1 (broadcastInDim S1x8320 ![1] bcast_S8320_S1x8320_1 (iotaInDim S8320 32 0)))))
    (subf
      (addf
        (Host.dotGeneral (F := Ideal) (φ₁ := .f32) (φ₂ := .f32) dot_S8x8320x64_S8x8320x64_S8x8320x8320_2_2_1_1_0_0 none
          (headsV (mulf (F := Ideal) q (broadcastInDim S8320x512 ![] bcast_S_S8320x512 (word 0x3E000000#32))))
          (headsV k))
        (broadcastInDim S8x8320x8320 ![0, 1, 2] bcast_S8x8320x1_S8x8320x8320_0_1_2 (broadcastInDim S8x8320x1 ![0, 1] bcast_S8x8320_S8x8320x1_0_1 (transpose S8x8320 [1, 0] c transposes_S8320x8_S8x8320_1_0))))
      (broadcastInDim S8x8320x8320 ![0, 1, 2] bcast_S8x1x8320_S8x8320x8320_0_1_2 (broadcastInDim S8x1x8320 ![0, 2] bcast_S8x8320_S8x1x8320_0_2 (transpose S8x8320 [1, 0] c transposes_S8320x8_S8x8320_1_0))))
    (broadcastInDim S8x8320x8320 ![] bcast_S_S8x8320x8320 (word 0xFF800000#32))

/-- The greatest score of each row. -/
def maxV (s : FVec Ideal S8x8320x8320 .f32) : FVec Ideal S8x8320 .f32 :=
  Host.reduce (FloatOps.maximumf (F := Ideal) (φ := .f32)) s (word 0xFF800000#32) reducesTo_S8x8320x8320_S8x8320_d2 h_S_

/-- The exponentials of the scores over the row's greatest. -/
def expV (s : FVec Ideal S8x8320x8320 .f32) (mx : FVec Ideal S8x8320 .f32) : FVec Ideal S8x8320x8320 .f32 :=
  Host.exp (F := Ideal) (subf (F := Ideal) s (broadcastInDim S8x8320x8320 ![0, 1, 2] bcast_S8x8320x1_S8x8320x8320_0_1_2 (broadcastInDim S8x8320x1 ![0, 1] bcast_S8x8320_S8x8320x1_0_1 mx)))

/-- Their sums over each row. -/
def sumV (e : FVec Ideal S8x8320x8320 .f32) : FVec Ideal S8x8320 .f32 :=
  Host.reduceAdd (F := Ideal) e (word 0x00000000#32) reducesTo_S8x8320x8320_S8x8320_d2 h_S_

/-- The attention's output, by row, head and lane. -/
def outV (e : FVec Ideal S8x8320x8320 .f32) (l : FVec Ideal S8x8320 .f32) (v : FVec Ideal S8320x512 .f32) : FVec Ideal S8320x8x64 .bf16 :=
  truncf (F := Ideal) .bf16 (transpose S8320x8x64 [1, 0, 2]
    (mulf (F := Ideal) (Host.dotGeneral (F := Ideal) (φ₁ := .f32) (φ₂ := .f32) dot_S8x8320x8320_S8x8320x64_S8x8320x64_2_1_1_2_0_0 none e
        (headsV v))
      (broadcastInDim S8x8320x64 ![0, 1, 2] bcast_S8x8320x1_S8x8320x64_0_1_2
        (Host.divf (F := Ideal) (broadcastInDim S8x8320x1 ![] bcast_S_S8x8320x1 (word 0x3F800000#32)) (broadcastInDim S8x8320x1 ![0, 1] bcast_S8x8320_S8x8320x1_0_1 l)))) transposes_S8x8320x64_S8320x8x64_1_0_2) bitsLt_bf16_f32

/-- The log-sum of each row. -/
def lseV (mx l : FVec Ideal S8x8320 .f32) : FVec Ideal S8320x8 .f32 :=
  transpose S8320x8 [1, 0]
    (shapeCast S8x8320 (addf (F := Ideal) (broadcastInDim S8x8320x1 ![0, 1] bcast_S8x8320_S8x8320x1_0_1 mx) (Host.log (F := Ideal) (broadcastInDim S8x8320x1 ![0, 1] bcast_S8x8320_S8x8320x1_0_1 l))) shapeCasts_S8x8320x1_S8x8320) transposes_S8x8320_S8320x8_1_0

/-- The row sums of the cotangent times the output. -/
def rowdotV (d : FVec Ideal S8320x512 .f32) (o : FVec Ideal S8320x8x64 .bf16) : FVec Ideal S8320x8 .f32 :=
  Host.reduceAdd (F := Ideal) (mulf (F := Ideal) (lanesV d) (extf (F := Ideal) .f32 o bitsLt_bf16_f32)) (word 0x00000000#32) reducesTo_S8320x8x64_S8320x8_d2 h_S_

/-- A number to half precision and back. -/
def roundV (x : FVec Ideal S8320x8 .f32) : FVec Ideal S8320x8 .f32 := extf (F := Ideal) .f32 (truncf (F := Ideal) .bf16 x bitsLt_bf16_f32) bitsLt_bf16_f32
/-- The three parts of a number. -/
def hiV (x : FVec Ideal S8320x8 .f32) : FVec Ideal S8320x8 .f32 := roundV x
def midV (x : FVec Ideal S8320x8 .f32) : FVec Ideal S8320x8 .f32 := roundV (subf (F := Ideal) x (hiV x))
def loV (x : FVec Ideal S8320x8 .f32) : FVec Ideal S8320x8 .f32 := roundV (subf (F := Ideal) (subf (F := Ideal) x (hiV x)) (midV x))

/-- A column of each head's tile. -/
def colV (x : FVec Ideal S8320x8 .f32) : FVec Ideal S8320x8x1 .f32 := broadcastInDim S8320x8x1 ![0, 1] bcast_S8320x8_S8320x8x1_0_1 x
/-- A constant column of each head's tile. -/
def cstV (w : BitVec 32) : FVec Ideal S8320x8x1 .f32 := broadcastInDim S8320x8x1 ![] bcast_S_S8320x8x1 (word w)

/-- Nine further columns of each head's tile. -/
def nineV (a b c d e f g h i : FVec Ideal S8320x8x1 .f32) : FVec Ideal S8320x8x64 .f32 :=
  concatenate S8320x8x64 2 [⟨S8320x8x1, a⟩, ⟨S8320x8x1, b⟩, ⟨S8320x8x1, c⟩, ⟨S8320x8x1, d⟩, ⟨S8320x8x1, e⟩, ⟨S8320x8x1, f⟩, ⟨S8320x8x1, g⟩, ⟨S8320x8x1, h⟩, ⟨S8320x8x1, i⟩, ⟨S8320x8x55, broadcastInDim S8320x8x55 ![] bcast_S_S8320x8x55 (word 0x00000000#32)⟩] concatenates_S8320x8x1_S8320x8x1_S8320x8x1_S8320x8x1_S8320x8x1_S8320x8x1_S8320x8x1_S8320x8x1_S8320x8x1_S8320x8x55_S8320x8x64_d2

/-- Four further columns of each head's tile. -/
def fourV (a b c d : FVec Ideal S8320x8x1 .f32) : FVec Ideal S8320x8x64 .f32 :=
  concatenate S8320x8x64 2 [⟨S8320x8x1, a⟩, ⟨S8320x8x1, b⟩, ⟨S8320x8x1, c⟩, ⟨S8320x8x1, d⟩, ⟨S8320x8x60, broadcastInDim S8320x8x60 ![] bcast_S_S8320x8x60 (word 0x00000000#32)⟩] concatenates_S8320x8x1_S8320x8x1_S8320x8x1_S8320x8x1_S8320x8x60_S8320x8x64_d2

/-- The tiles: an even head's own lanes before the further columns, an odd head's after them. -/
def tilesV (main aug : FVec Ideal S8320x8x64 .f32) : FVec Ideal S8320x1024 .bf16 :=
  truncf (F := Ideal) .bf16 (shapeCast S8320x1024
    (concatenate S8320x4x256 2
      [⟨S8320x4x64, extractStridedSlice S8320x4x64 ![0, 0, 0] (shapeCast S8320x4x128 main shapeCasts_S8320x8x64_S8320x4x128) slices_S8320x4x128_S8320x4x64_0_0_0⟩,
       ⟨S8320x4x128, shapeCast S8320x4x128 aug shapeCasts_S8320x8x64_S8320x4x128⟩,
       ⟨S8320x4x64, extractStridedSlice S8320x4x64 ![0, 0, 64] (shapeCast S8320x4x128 main shapeCasts_S8320x8x64_S8320x4x128) slices_S8320x4x128_S8320x4x64_0_0_64⟩]
      concatenates_S8320x4x64_S8320x4x128_S8320x4x64_S8320x4x256_d2) shapeCasts_S8320x4x256_S8320x1024) bitsLt_bf16_f32

variable (m : (ℓ : Loc nD τ sig) → Buf (Elt Ideal) ℓ) (c : Dev nD)

/-- The padded arguments. -/
def qP : FVec Ideal S8320x512 .f32 := padV (m ((c : Thread nD τ).loc main_arg0))
def kP : FVec Ideal S8320x512 .f32 := padV (m ((c : Thread nD τ).loc main_arg1))
def vP : FVec Ideal S8320x512 .f32 := padV (m ((c : Thread nD τ).loc main_arg2))
def cP : FVec Ideal S8320x8 .f32 := padC (m ((c : Thread nD τ).loc main_arg3))
def gP : FVec Ideal S8320x512 .f32 := padV (m ((c : Thread nD τ).loc main_arg4))

/-- What the forward lines leave. -/
def scP : FVec Ideal S8x8320x8320 .f32 := scoresV (qP m c) (kP m c) (cP m c)
def mxP : FVec Ideal S8x8320 .f32 := maxV (scP m c)
def exP : FVec Ideal S8x8320x8320 .f32 := expV (scP m c) (mxP m c)
def smP : FVec Ideal S8x8320 .f32 := sumV (exP m c)
def outP : FVec Ideal S8320x8x64 .bf16 := outV (exP m c) (smP m c) (vP m c)
def lseP : FVec Ideal S8320x8 .f32 := lseV (mxP m c) (smP m c)
def ddP : FVec Ideal S8320x8 .f32 := rowdotV (gP m c) (outP m c)

end Cert.AttnIdeal.Hand
-- ==== Proof.AttnTiles.lean ====
/- THE ARRAYS the kernel finds, in terms of the arguments. -/
module

public import proofs.«01_k».proof.Proof.AttnHost

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

theorem ka_eq : kaA m c = tilesV (lanesV (kP m c)) (nineV (cstV 0x3F800000#32) (cstV 0x3F800000#32) (cstV 0x3F800000#32)
    (colV (Host.negf (F := Ideal) (hiV (cP m c)))) (colV (Host.negf (F := Ideal) (midV (cP m c)))) (colV (Host.negf (F := Ideal) (loV (cP m c)))) (cstV 0x3F800000#32) (cstV 0x3F800000#32) (cstV 0x3F800000#32)) := by
  unfold kaA V; after_reads_simp; rfl

theorem va_eq : vaA m c = tilesV (lanesV (vP m c)) (fourV (cstV 0x3F800000#32) (cstV 0x3F800000#32) (cstV 0x3F800000#32) (cstV 0x3F800000#32)) := by
  unfold vaA V; after_reads_simp; rfl

/-- The buffers after the forward lines and the sums they need. -/
def mid : Valuation τ sig (Elt Ideal) := StableHlo.after (hostOps0.take 128) (fun b => m (c, b))

/-- What the lines after those leave. -/
theorem V_mid (b : Ref sig .tc) : V m c b = StableHlo.after (hostOps0.drop 128) (mid m c) (Proc.devRef .tc b) := by
  unfold V
  conv_lhs => rw [← List.take_append_drop 128 (hostOps0 (F := Ideal))]
  rw [StableHlo.after_append]
  rfl

/-- Three pieces side by side as the tiles. -/
def joinV (a : FVec Ideal S8320x4x64 .f32) (b : FVec Ideal S8320x4x128 .f32) (d : FVec Ideal S8320x4x64 .f32) : FVec Ideal S8320x1024 .bf16 :=
  truncf (F := Ideal) .bf16 (shapeCast S8320x1024
    (concatenate S8320x4x256 2 [⟨S8320x4x64, a⟩, ⟨S8320x4x128, b⟩, ⟨S8320x4x64, d⟩] concatenates_S8320x4x64_S8320x4x128_S8320x4x64_S8320x4x256_d2) shapeCasts_S8320x4x256_S8320x1024) bitsLt_bf16_f32

/-- The log-sums. -/
theorem mid_v53 : (mid m c (Proc.devRef .tc main_v53) : FVec Ideal S8320x8 .f32) = lseP m c := by
  unfold mid; after_reads_simp; rfl

/-- The row sums. -/
theorem mid_v102 : (mid m c (Proc.devRef .tc main_v102) : FVec Ideal S8320x8 .f32) = ddP m c := by
  unfold mid; after_reads_simp; rfl

theorem qb_eq : qbA m c = tilesV (mulf (F := Ideal) (lanesV (qP m c)) (broadcastInDim S8320x8x64 ![] bcast_S_S8320x8x64 (word 0x3E000000#32))) (nineV (colV (hiV (cP m c))) (colV (midV (cP m c))) (colV (loV (cP m c)))
    (cstV 0x3F800000#32) (cstV 0x3F800000#32) (cstV 0x3F800000#32)
    (colV (Host.negf (F := Ideal) (hiV (lseP m c)))) (colV (Host.negf (F := Ideal) (midV (lseP m c)))) (colV (Host.negf (F := Ideal) (loV (lseP m c))))) := by
  have h53 := mid_v53 m c
  have h1 : (mid m c (Proc.devRef .tc main_v1) : FVec Ideal S8320x512 .f32) = qP m c := by
    unfold mid; after_reads_simp; rfl
  have h55 : (mid m c (Proc.devRef .tc main_v55) : FVec Ideal S8320x8 .f32) = hiV (cP m c) := by
    unfold mid; after_reads_simp; rfl
  have h58 : (mid m c (Proc.devRef .tc main_v58) : FVec Ideal S8320x8 .f32) = midV (cP m c) := by
    unfold mid; after_reads_simp; rfl
  have h62 : (mid m c (Proc.devRef .tc main_v62) : FVec Ideal S8320x8 .f32) = loV (cP m c) := by
    unfold mid; after_reads_simp; rfl
  unfold qbA
  refine (V_mid m c main_v135).trans ?_
  rw [← h53, ← h1, ← h55, ← h58, ← h62]
  clear h53 h1 h55 h58 h62
  after_reads_simp
  generalize mid m c = W
  change joinV (StableHlo.upto (List.drop 128 (hostOps0 (F := Ideal))) W 35 (Proc.devRef .tc main_v131)) (StableHlo.upto (List.drop 128 (hostOps0 (F := Ideal))) W 35 (Proc.devRef .tc main_v130)) (StableHlo.upto (List.drop 128 (hostOps0 (F := Ideal))) W 35 (Proc.devRef .tc main_v132)) = _
  after_reads_simp
  change joinV _ (shapeCast S8320x4x128 (nineV (StableHlo.upto (List.drop 128 (hostOps0 (F := Ideal))) W 30 (Proc.devRef .tc main_v118)) (StableHlo.upto (List.drop 128 (hostOps0 (F := Ideal))) W 30 (Proc.devRef .tc main_v119)) (StableHlo.upto (List.drop 128 (hostOps0 (F := Ideal))) W 30 (Proc.devRef .tc main_v120)) (StableHlo.upto (List.drop 128 (hostOps0 (F := Ideal))) W 30 (Proc.devRef .tc main_v121)) (StableHlo.upto (List.drop 128 (hostOps0 (F := Ideal))) W 30 (Proc.devRef .tc main_v122)) (StableHlo.upto (List.drop 128 (hostOps0 (F := Ideal))) W 30 (Proc.devRef .tc main_v123)) (StableHlo.upto (List.drop 128 (hostOps0 (F := Ideal))) W 30 (Proc.devRef .tc main_v124)) (StableHlo.upto (List.drop 128 (hostOps0 (F := Ideal))) W 30 (Proc.devRef .tc main_v125)) (StableHlo.upto (List.drop 128 (hostOps0 (F := Ideal))) W 30 (Proc.devRef .tc main_v126))) shapeCasts_S8320x8x64_S8320x4x128) _ = _
  after_reads_simp
  rfl

theorem dob_eq : dobA m c = tilesV (lanesV (gP m c)) (fourV (cstV 0x00000000#32)
    (colV (Host.negf (F := Ideal) (hiV (ddP m c)))) (colV (Host.negf (F := Ideal) (midV (ddP m c)))) (colV (Host.negf (F := Ideal) (loV (ddP m c))))) := by
  have h102 := mid_v102 m c
  have h9 : (mid m c (Proc.devRef .tc main_v9) : FVec Ideal S8320x512 .f32) = gP m c := by
    unfold mid; after_reads_simp; rfl
  unfold dobA
  refine (V_mid m c main_v161).trans ?_
  rw [← h102, ← h9]
  clear h102 h9
  after_reads_simp
  generalize mid m c = W
  change joinV (StableHlo.upto (List.drop 128 (hostOps0 (F := Ideal))) W 63 (Proc.devRef .tc main_v157)) (StableHlo.upto (List.drop 128 (hostOps0 (F := Ideal))) W 63 (Proc.devRef .tc main_v156)) (StableHlo.upto (List.drop 128 (hostOps0 (F := Ideal))) W 63 (Proc.devRef .tc main_v158)) = _
  after_reads_simp
  change joinV _ (shapeCast S8320x4x128 (fourV (StableHlo.upto (List.drop 128 (hostOps0 (F := Ideal))) W 58 (Proc.devRef .tc main_v149)) (StableHlo.upto (List.drop 128 (hostOps0 (F := Ideal))) W 58 (Proc.devRef .tc main_v150)) (StableHlo.upto (List.drop 128 (hostOps0 (F := Ideal))) W 58 (Proc.devRef .tc main_v151)) (StableHlo.upto (List.drop 128 (hostOps0 (F := Ideal))) W 58 (Proc.devRef .tc main_v152))) shapeCasts_S8320x8x64_S8320x4x128) _ = _
  after_reads_simp
  rfl

theorem qbt_eq : qbtA m c = transpose S1024x8320 [1, 0] (qbA m c) transposes_S8320x1024_S1024x8320_1_0 := by
  unfold qbtA qbA V; after_reads_simp

theorem dobt_eq : dobtA m c = transpose S1024x8320 [1, 0] (dobA m c) transposes_S8320x1024_S1024x8320_1_0 := by
  unfold dobtA dobA V; after_reads_simp

end Cert.AttnIdeal.Hand
-- ==== Proof.AttnTileAt.lean ====
/- THE TILES at an index: a head's own lanes and its further columns. -/
module

public import proofs.«01_k».proof.Proof.AttnHost
public import Idealize.ShloMosaic.Lib.WordCmp
public import proofs.«01_k».proof.Proof.Sigmoid

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.Sem

/-- A padded array at an index. -/
theorem padV_apply (x : FVec Ideal S8208x512 .f32) (R : Fin 8320) (e : Fin 512) :
    padV x (ix2 R e) = if h : R.val < 8208 then x (ix2 ⟨R.val, h⟩ e) else 0 := by
  pointwise [padV]

/-- The padded running sums at an index. -/
theorem padC_apply (x : FVec Ideal S8208x8 .f32) (R : Fin 8320) (e : Fin 8) :
    padC x (ix2 R e) = if h : R.val < 8208 then x (ix2 ⟨R.val, h⟩ e) else 0 := by
  pointwise [padC]

/-- A row's lanes by head at an index. -/
theorem lanesV_apply (x : FVec Ideal S8320x512 .f32) (R : Fin 8320) (h : Fin 8) (d : Fin 64) :
    lanesV x (ix3 R h d) = x (ix2 R ⟨h.val * 64 + d.val, by omega⟩) := by
  pointwise [lanesV]

theorem ix3_congr {n0 n1 n2 : ℕ} (R : Fin n0) {a a' : Fin n1} {b b' : Fin n2} (ha : a.val = a'.val) (hb : b.val = b'.val) : ix3 R a b = ix3 R a' b' := by
  rw [Fin.ext ha, Fin.ext hb]

variable (main aug main' aug' : FVec Ideal S8320x8x64 .f32) (R L : Fin 8320) (h : Fin 8)

/-- The first half of a tile. -/
theorem tilesV_lo (x : Fin 64) : tilesV main aug (ix2 R (hcol h (Fin.castAdd 64 x))) = if h.val % 2 = 0 then main (ix3 R h x) else aug (ix3 R h x) := by
  pointwise [tilesV, hcol]
  have hx := x.isLt
  have hh := h.isLt
  simp only [Fin.val_castAdd]
  by_cases hp : h.val % 2 = 0
  · rw [if_pos hp]
    split_ifs <;> first | omega | (refine congrArg main (ix3_congr R ?_ ?_) <;> dsimp only <;> omega)
  · rw [if_neg hp]
    split_ifs <;> first | omega | (refine congrArg aug (ix3_congr R ?_ ?_) <;> dsimp only <;> omega)

/-- The second half of a tile. -/
theorem tilesV_hi (x : Fin 64) : tilesV main aug (ix2 R (hcol h (Fin.natAdd 64 x))) = if h.val % 2 = 0 then aug (ix3 R h x) else main (ix3 R h x) := by
  pointwise [tilesV, hcol]
  have hx := x.isLt
  have hh := h.isLt
  simp only [Fin.val_natAdd]
  by_cases hp : h.val % 2 = 0
  · rw [if_pos hp]
    split_ifs <;> first | omega | (refine congrArg aug (ix3_congr R ?_ ?_) <;> dsimp only <;> omega)
  · rw [if_neg hp]
    split_ifs <;> first | omega | (refine congrArg main (ix3_congr R ?_ ?_) <;> dsimp only <;> omega)

/-- A product of two tiles: over the head's own lanes and over the further columns. -/
theorem tiles_dot : (∑ x : Fin 128, tilesV main aug (ix2 R (hcol h x)) * tilesV main' aug' (ix2 L (hcol h x)))
    = (∑ d : Fin 64, main (ix3 R h d) * main' (ix3 L h d)) + ∑ y : Fin 64, aug (ix3 R h y) * aug' (ix3 L h y) := by
  refine (Fin.sum_univ_add (a := 64) (b := 64) (fun x : Fin 128 => tilesV main aug (ix2 R (hcol h x)) * tilesV main' aug' (ix2 L (hcol h x)))).trans ?_
  simp only [tilesV_lo, tilesV_hi]
  by_cases hp : h.val % 2 = 0
  · simp only [if_pos hp]
  · simp only [if_neg hp]
    exact add_comm _ _

theorem sum_nine (f : Fin 64 → EReal) (hf : ∀ y : Fin 64, 9 ≤ y.val → f y = 0) : (∑ y : Fin 64, f y) = f 0 + f 1 + f 2 + f 3 + f 4 + f 5 + f 6 + f 7 + f 8 := by
  refine (Fin.sum_univ_add (a := 9) (b := 55) f).trans ?_
  rw [Finset.sum_eq_zero (s := Finset.univ) (f := fun i : Fin 55 => f (Fin.natAdd 9 i)) (fun i _ => hf _ (by simp)), add_zero]
  simp only [Fin.sum_univ_castSucc, Fin.sum_univ_zero, zero_add]
  rfl

theorem sum_four (f : Fin 64 → EReal) (hf : ∀ y : Fin 64, 4 ≤ y.val → f y = 0) : (∑ y : Fin 64, f y) = f 0 + f 1 + f 2 + f 3 := by
  refine (Fin.sum_univ_add (a := 4) (b := 60) f).trans ?_
  rw [Finset.sum_eq_zero (s := Finset.univ) (f := fun i : Fin 60 => f (Fin.natAdd 4 i)) (fun i _ => hf _ (by simp)), add_zero, Fin.sum_univ_four]
  rfl

/-- The rounding changes nothing over the reals. -/
theorem parts (x : FVec Ideal S8320x8 .f32) (i : S8320x8.Idx) : hiV x i = x i ∧ midV x i = x i - x i ∧ loV x i = x i - x i - (x i - x i) := by
  refine ⟨?_, ?_, ?_⟩ <;> pointwise [hiV, midV, loV, roundV]

/-- A product of nine further columns. -/
theorem nine_dot (a b c d e f g u v a' b' c' d' e' f' g' u' v' : FVec Ideal S8320x8x1 .f32) :
    (∑ y : Fin 64, nineV a b c d e f g u v (ix3 R h y) * nineV a' b' c' d' e' f' g' u' v' (ix3 L h y))
      = a (ix3 R h 0) * a' (ix3 L h 0) + b (ix3 R h 0) * b' (ix3 L h 0) + c (ix3 R h 0) * c' (ix3 L h 0)
        + d (ix3 R h 0) * d' (ix3 L h 0) + e (ix3 R h 0) * e' (ix3 L h 0) + f (ix3 R h 0) * f' (ix3 L h 0)
        + g (ix3 R h 0) * g' (ix3 L h 0) + u (ix3 R h 0) * u' (ix3 L h 0) + v (ix3 R h 0) * v' (ix3 L h 0) := by
  rw [sum_nine _ (fun y hy => ?_)]
  · pointwise [nineV]
  · pointwise [nineV]
    rw [dif_neg (by omega), dif_neg (by omega), dif_neg (by omega), dif_neg (by omega), dif_neg (by omega), dif_neg (by omega), dif_neg (by omega), dif_neg (by omega), dif_neg (by omega), zero_mul]

/-- A product of four further columns. -/
theorem four_dot (a b c d a' b' c' d' : FVec Ideal S8320x8x1 .f32) :
    (∑ y : Fin 64, fourV a b c d (ix3 R h y) * fourV a' b' c' d' (ix3 L h y))
      = a (ix3 R h 0) * a' (ix3 L h 0) + b (ix3 R h 0) * b' (ix3 L h 0) + c (ix3 R h 0) * c' (ix3 L h 0)
        + d (ix3 R h 0) * d' (ix3 L h 0) := by
  rw [sum_four _ (fun y hy => ?_)]
  · pointwise [fourV]
  · pointwise [fourV]
    rw [dif_neg (by omega), dif_neg (by omega), dif_neg (by omega), dif_neg (by omega), zero_mul]

theorem col_apply (x : FVec Ideal S8320x8 .f32) : colV x (ix3 R h 0) = x (ix2 R h) := by
  pointwise [colV]

theorem neg_apply (x : FVec Ideal S8320x8 .f32) : colV (Host.negf (F := Ideal) x) (ix3 R h 0) = -x (ix2 R h) := by
  pointwise [colV]

theorem one_apply : cstV 0x3F800000#32 (ix3 R h 0) = 1 := by
  pointwise [cstV]

theorem zero_apply : cstV 0x00000000#32 (ix3 R h 0) = 0 := by
  pointwise [cstV]

theorem scaled_apply (x : FVec Ideal S8320x512 .f32) (d : Fin 64) :
    (mulf (F := Ideal) (lanesV x) (broadcastInDim S8320x8x64 ![] bcast_S_S8320x8x64 (word 0x3E000000#32)) : FVec Ideal S8320x8x64 .f32) (ix3 R h d)
      = x (ix2 R ⟨h.val * 64 + d.val, by omega⟩) * Ideal.ofBits .f32 0x3E000000#32 := by
  pointwise [lanesV]

/-- The mask's word for minus infinity. -/
theorem ninf_word : Ideal.ofBits .f32 0xFF800000#32 = ⊥ := by simp [Ideal.ofBits, Ideal.ieee]

/-- The scores. -/
theorem scores_apply (q k : FVec Ideal S8320x512 .f32) (c : FVec Ideal S8320x8 .f32) : scoresV q k c (ix3 h R L) =
    if L ≤ R then (∑ x : Fin 64, q (ix2 R ⟨h.val * 64 + x.val, by omega⟩) * Ideal.ofBits .f32 0x3E000000#32 * k (ix2 L ⟨h.val * 64 + x.val, by omega⟩)) + c (ix2 R h) - c (ix2 L h) else ⊥ := by
  pointwise [scoresV, headsV, lanesV]
  rw [ninf_word, WordCmp.cmpi_sge_ofNat (by have := R.isLt; omega) (by have := L.isLt; omega)]
  by_cases hl : L ≤ R
  · rw [if_pos hl, decide_eq_true (show L.val ≤ R.val from hl)]; rfl
  · rw [if_neg hl, decide_eq_false (show ¬ L.val ≤ R.val from hl)]; rfl

/-- The greatest score of a row. -/
theorem max_apply (s : FVec Ideal S8x8320x8320 .f32) : maxV s (ix2 h R) = Finset.fold max ⊥ (fun x => s (ix3 h R x)) Finset.univ := by
  rw [← ninf_word]
  pointwise [maxV]

/-- The exponentials. -/
theorem exp_apply (s : FVec Ideal S8x8320x8320 .f32) (mx : FVec Ideal S8x8320 .f32) : expV s mx (ix3 h R L) = Ideal.exp (s (ix3 h R L) - mx (ix2 h R)) := by
  pointwise [expV]

/-- Their sum. -/
theorem sum_apply (s : FVec Ideal S8x8320x8320 .f32) : sumV s (ix2 h R) = ∑ x, s (ix3 h R x) := by
  pointwise [sumV]

/-- The output. -/
theorem out_apply (s : FVec Ideal S8x8320x8320 .f32) (l : FVec Ideal S8x8320 .f32) (v : FVec Ideal S8320x512 .f32) (d : Fin 64) :
    outV s l v (ix3 R h d) = (∑ x, s (ix3 h R x) * v (ix2 x ⟨h.val * 64 + d.val, by omega⟩)) * Ideal.div 1 (l (ix2 h R)) := by
  pointwise [outV, headsV, lanesV]

/-- The log-sum. -/
theorem lse_apply (mx l : FVec Ideal S8x8320 .f32) : lseV mx l (ix2 R h) = mx (ix2 h R) + Ideal.log (l (ix2 h R)) := by
  pointwise [lseV]

/-- The row sum. -/
theorem rowdot_apply (g : FVec Ideal S8320x512 .f32) (o : FVec Ideal S8320x8x64 .bf16) : rowdotV g o (ix2 R h) = ∑ x : Fin 64, g (ix2 R ⟨h.val * 64 + x.val, by omega⟩) * o (ix3 R h x) := by
  pointwise [rowdotV, lanesV]

end Cert.AttnIdeal.Hand
-- ==== Proof.AttnReal.lean ====
/- THE ATTENTION'S GRADIENT over the reals: the weights, their gradients, and what rows of zeros below the arrays change. -/
module

public import proofs.«01_k».proof.Defs
public import Mathlib.Analysis.SpecialFunctions.Log.Basic

@[expose] public section

noncomputable section

namespace Cert.Attention

/-- The queries, keys, values, running sums and cotangent of `n` rows. -/
structure Args (n : ℕ) where
  q : Fin n → Fin 8 → Fin 64 → ℝ
  k : Fin n → Fin 8 → Fin 64 → ℝ
  v : Fin n → Fin 8 → Fin 64 → ℝ
  c : Fin n → Fin 8 → ℝ
  g : Fin n → Fin 8 → Fin 64 → ℝ

variable {n : ℕ} (A : Args n) (h : Fin 8) (R L : Fin n)

/-- The score. -/
def score : ℝ := (∑ d : Fin 64, A.q R h d * (1 / 8) * A.k L h d) + A.c R h - A.c L h
/-- The exponential of the score less `μ`, of the keys up to the query. -/
def expo (μ : ℝ) : ℝ := if L ≤ R then Real.exp (score A h R L - μ) else 0
/-- The row's sum. -/
def total (μ : ℝ) : ℝ := ∑ L, expo A h R L μ
/-- The weight. -/
def weight : ℝ := expo A h R L 0 / total A h R 0
/-- The weight's gradient. -/
def dweight : ℝ := ∑ d : Fin 64, A.g R h d * A.v L h d
/-- The row sum of the weights times their gradients. -/
def rowsum : ℝ := ∑ L, weight A h R L * dweight A h R L
/-- The score's gradient. -/
def dscore : ℝ := weight A h R L * (dweight A h R L - rowsum A h R)

theorem expo_shift (μ : ℝ) : expo A h R L μ = Real.exp (-μ) * expo A h R L 0 := by
  unfold expo
  split_ifs
  · rw [← Real.exp_add]; congr 1; ring
  · rw [mul_zero]

theorem total_shift (μ : ℝ) : total A h R μ = Real.exp (-μ) * total A h R 0 := by
  unfold total
  rw [Finset.mul_sum]
  exact Finset.sum_congr rfl fun L _ => expo_shift A h R L μ

theorem expo_nonneg (μ : ℝ) : 0 ≤ expo A h R L μ := by
  unfold expo; split_ifs
  · exact (Real.exp_pos _).le
  · exact le_rfl

theorem total_pos (μ : ℝ) : 0 < total A h R μ :=
  Finset.sum_pos' (fun L _ => expo_nonneg A h R L μ) ⟨R, Finset.mem_univ _, by unfold expo; rw [if_pos le_rfl]; exact Real.exp_pos _⟩

/-- The weights do not depend on what is subtracted from the scores. -/
theorem weight_eq (μ : ℝ) : expo A h R L μ / total A h R μ = weight A h R L := by
  rw [expo_shift, total_shift, mul_div_mul_left _ _ (Real.exp_pos _).ne']; rfl

theorem weight_lse (μ : ℝ) : (if L ≤ R then Real.exp (score A h R L - (μ + Real.log (total A h R μ))) else 0) = weight A h R L := by
  rw [← weight_eq A h R L μ]
  unfold expo
  split_ifs
  · rw [← sub_sub, Real.exp_sub, Real.exp_log (total_pos A h R μ)]
  · rw [zero_div]

theorem weight_zero (hl : R < L) : weight A h R L = 0 := by
  unfold weight expo; rw [if_neg (not_le.mpr hl), zero_div]

theorem dscore_zero (hl : R < L) : dscore A h R L = 0 := by
  unfold dscore; rw [weight_zero A h R L hl, zero_mul]

/-- The row sum from the output. -/
theorem rowsum_out : (∑ d : Fin 64, A.g R h d * ∑ L, weight A h R L * A.v L h d) = rowsum A h R := by
  unfold rowsum dweight
  simp only [Finset.mul_sum]
  rw [Finset.sum_comm]
  exact Finset.sum_congr rfl fun L _ => Finset.sum_congr rfl fun d _ => by ring

/-! ## Rows of zeros below -/

/-- A sum of terms that vanish from `n` on. -/
theorem sum_restrict {N n : ℕ} (hn : n ≤ N) (f : Fin N → ℝ) (hf : ∀ L : Fin N, n ≤ L.val → f L = 0) : (∑ L, f L) = ∑ L : Fin n, f (Fin.castLE hn L) := by
  obtain ⟨k, rfl⟩ := Nat.exists_eq_add_of_le hn
  rw [Fin.sum_univ_add, Finset.sum_eq_zero (s := Finset.univ) (f := fun i : Fin k => f (Fin.natAdd n i)) (fun i _ => hf _ (by simp)), add_zero]
  rfl

/-- The arguments with rows of zeros below. -/
def Args.pad {n : ℕ} (A : Args n) (N : ℕ) : Args N where
  q R h d := if hr : R.val < n then A.q ⟨R.val, hr⟩ h d else 0
  k R h d := if hr : R.val < n then A.k ⟨R.val, hr⟩ h d else 0
  v R h d := if hr : R.val < n then A.v ⟨R.val, hr⟩ h d else 0
  c R h := if hr : R.val < n then A.c ⟨R.val, hr⟩ h else 0
  g R h d := if hr : R.val < n then A.g ⟨R.val, hr⟩ h d else 0

variable {N : ℕ} (hn : n ≤ N)

theorem pad_score : score (A.pad N) h (Fin.castLE hn R) (Fin.castLE hn L) = score A h R L := by
  unfold score Args.pad
  simp

theorem pad_expo (μ : ℝ) : expo (A.pad N) h (Fin.castLE hn R) (Fin.castLE hn L) μ = expo A h R L μ := by
  unfold expo
  rw [pad_score]
  simp

theorem pad_total (μ : ℝ) : total (A.pad N) h (Fin.castLE hn R) μ = total A h R μ := by
  unfold total
  rw [sum_restrict hn _ (fun L hl => ?_)]
  · exact Finset.sum_congr rfl fun L _ => pad_expo A h R L hn μ
  · unfold expo
    rw [if_neg]
    have := R.isLt
    simp only [Fin.le_def, Fin.val_castLE]
    omega

theorem pad_weight : weight (A.pad N) h (Fin.castLE hn R) (Fin.castLE hn L) = weight A h R L := by
  unfold weight; rw [pad_expo, pad_total]

theorem pad_dweight : dweight (A.pad N) h (Fin.castLE hn R) (Fin.castLE hn L) = dweight A h R L := by
  unfold dweight Args.pad; simp

theorem pad_rowsum : rowsum (A.pad N) h (Fin.castLE hn R) = rowsum A h R := by
  unfold rowsum
  rw [sum_restrict hn _ (fun L hl => ?_)]
  · exact Finset.sum_congr rfl fun L _ => by rw [pad_weight, pad_dweight]
  · have := R.isLt
    rw [weight_zero _ _ _ _ (by simp only [Fin.lt_def, Fin.val_castLE]; omega), zero_mul]

theorem pad_dscore : dscore (A.pad N) h (Fin.castLE hn R) (Fin.castLE hn L) = dscore A h R L := by
  unfold dscore; rw [pad_weight, pad_dweight, pad_rowsum]

/-- A row of zeros of the cotangent has no gradient. -/
theorem pad_dscore_row (R' L' : Fin N) (hr : n ≤ R'.val) : dscore (A.pad N) h R' L' = 0 := by
  have hg : ∀ d, (A.pad N).g R' h d = 0 := fun d => dif_neg (not_lt.mpr hr)
  have hd : ∀ L, dweight (A.pad N) h R' L = 0 := fun L => Finset.sum_eq_zero fun d _ => by rw [hg, zero_mul]
  unfold dscore rowsum
  rw [hd, Finset.sum_eq_zero (fun L _ => by rw [hd, mul_zero]), sub_zero, mul_zero]

/-! ## The gradients -/

def dq (d : Fin 64) : ℝ := ∑ L, dscore A h R L * (1 / 8) * A.k L h d
def dk (d : Fin 64) : ℝ := ∑ R, dscore A h R L * (1 / 8) * A.q R h d
def dv (d : Fin 64) : ℝ := ∑ R, A.g R h d * weight A h R L
def dcq : ℝ := ∑ L, dscore A h R L
def dck : ℝ := ∑ R, dscore A h R L

variable (R' L' : Fin N)

include hn

theorem pad_dq (d : Fin 64) : (∑ L, dscore (A.pad N) h R' L * (A.pad N).k L h d) * (1 / 8) = if hr : R'.val < n then dq A h ⟨R'.val, hr⟩ d else 0 := by
  split_ifs with hr
  · obtain ⟨R0, rfl⟩ : ∃ R0 : Fin n, R' = Fin.castLE hn R0 := ⟨⟨R'.val, hr⟩, rfl⟩
    rw [sum_restrict hn _ (fun L hl => ?_), Finset.sum_mul]
    · refine Finset.sum_congr rfl fun L _ => ?_
      rw [pad_dscore]
      have : (A.pad N).k (Fin.castLE hn L) h d = A.k L h d := dif_pos L.isLt
      rw [this]
      show dscore A h R0 L * A.k L h d * (1 / 8) = dscore A h R0 L * (1 / 8) * A.k L h d
      ring
    · rw [dscore_zero _ _ _ _ (by simp only [Fin.lt_def, Fin.val_castLE]; omega), zero_mul]
  · rw [Finset.sum_eq_zero (fun L _ => by rw [pad_dscore_row A h R' L (not_lt.mp hr), zero_mul]), zero_mul]

theorem pad_dk (d : Fin 64) : (∑ R, (A.pad N).q R h d * (1 / 8) * dscore (A.pad N) h R L') = if hl : L'.val < n then dk A h ⟨L'.val, hl⟩ d else 0 := by
  split_ifs with hr
  · obtain ⟨L0, rfl⟩ : ∃ L0 : Fin n, L' = Fin.castLE hn L0 := ⟨⟨L'.val, hr⟩, rfl⟩
    rw [sum_restrict hn _ (fun R hl => by rw [pad_dscore_row A h R _ hl, mul_zero])]
    refine Finset.sum_congr rfl fun R _ => ?_
    rw [pad_dscore]
    have : (A.pad N).q (Fin.castLE hn R) h d = A.q R h d := dif_pos R.isLt
    rw [this]
    show A.q R h d * (1 / 8) * dscore A h R L0 = dscore A h R L0 * (1 / 8) * A.q R h d
    ring
  · refine Finset.sum_eq_zero (fun R _ => ?_)
    by_cases hR : n ≤ R.val
    · rw [pad_dscore_row A h R L' hR, mul_zero]
    · rw [dscore_zero _ _ _ _ (by simp only [Fin.lt_def]; omega), mul_zero]

theorem pad_dv (d : Fin 64) : (∑ R, (A.pad N).g R h d * weight (A.pad N) h R L') = if hl : L'.val < n then dv A h ⟨L'.val, hl⟩ d else 0 := by
  have hg : ∀ R : Fin N, n ≤ R.val → (A.pad N).g R h d = 0 := fun R hr => dif_neg (not_lt.mpr hr)
  split_ifs with hr
  · obtain ⟨L0, rfl⟩ : ∃ L0 : Fin n, L' = Fin.castLE hn L0 := ⟨⟨L'.val, hr⟩, rfl⟩
    rw [sum_restrict hn _ (fun R hl => by rw [hg R hl, zero_mul])]
    refine Finset.sum_congr rfl fun R _ => ?_
    rw [pad_weight]
    have : (A.pad N).g (Fin.castLE hn R) h d = A.g R h d := dif_pos R.isLt
    rw [this]
    rfl
  · refine Finset.sum_eq_zero (fun R _ => ?_)
    by_cases hR : n ≤ R.val
    · rw [hg R hR, zero_mul]
    · rw [weight_zero _ _ _ _ (by simp only [Fin.lt_def]; omega), mul_zero]

theorem pad_dcq : (∑ L, dscore (A.pad N) h R' L) = if hr : R'.val < n then dcq A h ⟨R'.val, hr⟩ else 0 := by
  split_ifs with hr
  · obtain ⟨R0, rfl⟩ : ∃ R0 : Fin n, R' = Fin.castLE hn R0 := ⟨⟨R'.val, hr⟩, rfl⟩
    rw [sum_restrict hn _ (fun L hl => dscore_zero _ _ _ _ (by simp only [Fin.lt_def, Fin.val_castLE]; omega))]
    exact Finset.sum_congr rfl fun L _ => pad_dscore ..
  · exact Finset.sum_eq_zero (fun L _ => pad_dscore_row A h R' L (not_lt.mp hr))

theorem pad_dck : (∑ R, dscore (A.pad N) h R L') = if hl : L'.val < n then dck A h ⟨L'.val, hl⟩ else 0 := by
  split_ifs with hr
  · obtain ⟨L0, rfl⟩ : ∃ L0 : Fin n, L' = Fin.castLE hn L0 := ⟨⟨L'.val, hr⟩, rfl⟩
    rw [sum_restrict hn _ (fun R hl => pad_dscore_row A h R _ hl)]
    exact Finset.sum_congr rfl fun R _ => pad_dscore ..
  · refine Finset.sum_eq_zero (fun R _ => ?_)
    by_cases hR : n ≤ R.val
    · rw [pad_dscore_row A h R L' hR]
    · rw [dscore_zero _ _ _ _ (by simp only [Fin.lt_def]; omega)]

end Cert.Attention
-- ==== Proof.AttnLift.lean ====
/- REAL NUMBERS among the extended ones: sums, the greatest of a row, the scale. -/
module

public import proofs.«01_k».proof.Defs
public import proofs.«01_k».proof.Proof.AttnReal

@[expose] public section

noncomputable section

namespace Cert.Attention

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale's word is an eighth. -/
theorem eighth_word : Ideal.ofBits .f32 0x3E000000#32 = ((1 / 8 : ℝ) : EReal) := by
  simp [Ideal.ofBits, Ideal.ieee]
  rw [← EReal.coe_mul]
  norm_num

/-- The greatest of a row of scores that holds a number is a number. -/
theorem fold_real {ι : Type} [Fintype ι] (f : ι → EReal) (hf : ∀ i, f i < ⊤) (i : ι) (r : ℝ) (hi : f i = r) :
    ∃ μ : ℝ, Finset.fold max ⊥ f Finset.univ = μ := by
  have e : Finset.fold max ⊥ f Finset.univ = Finset.univ.sup f := rfl
  have h1 : Finset.univ.sup f < ⊤ := (Finset.sup_lt_iff (by simp)).mpr fun i _ => hf i
  have h2 : (r : EReal) ≤ Finset.univ.sup f := hi ▸ Finset.le_sup (Finset.mem_univ i)
  exact ⟨(Finset.univ.sup f).toReal, by rw [e, EReal.coe_toReal h1.ne (ne_of_gt (lt_of_lt_of_le (EReal.bot_lt_coe r) h2))]⟩

end Cert.Attention
-- ==== Proof.AttnValue.lean ====
/- THE KERNEL'S FIVE ARRAYS as the attention's gradient over the reals. -/
module

public import proofs.«01_k».proof.Proof.AttnArrays
public import proofs.«01_k».proof.Proof.AttnTiles
public import proofs.«01_k».proof.Proof.AttnTileAt
public import proofs.«01_k».proof.Proof.AttnLift

@[expose] public section

set_option maxRecDepth 16384

noncomputable section

namespace Cert.AttnIdeal.Hand

open Cert.AttnIdeal Cert.AttnIdeal.Gen Cert.Attention
open Idealize.ShloMosaic Idealize.ShloMosaic.TcCoe Idealize.ShloMosaic.Tactic
open Idealize.SL Idealize.SL.Sem

theorem padV_real (x : FVec Ideal S8208x512 .f32) (f : Fin 8208 → Fin 8 → Fin 64 → ℝ)
    (hx : ∀ (R : Fin 8208) (h : Fin 8) (d : Fin 64), x (ix2 R ⟨h.val * 64 + d.val, by omega⟩) = (f R h d : EReal)) (R : Fin 8320) (h : Fin 8) (d : Fin 64) :
    padV x (ix2 R ⟨h.val * 64 + d.val, by omega⟩) = ((if hr : R.val < 8208 then f ⟨R.val, hr⟩ h d else 0 : ℝ) : EReal) := by
  rw [padV_apply]
  split_ifs with hr
  · exact hx ⟨R.val, hr⟩ h d
  · exact EReal.coe_zero.symm

theorem padC_real (x : FVec Ideal S8208x8 .f32) (f : Fin 8208 → Fin 8 → ℝ)
    (hx : ∀ (R : Fin 8208) (h : Fin 8), x (ix2 R h) = (f R h : EReal)) (R : Fin 8320) (h : Fin 8) :
    padC x (ix2 R h) = ((if hr : R.val < 8208 then f ⟨R.val, hr⟩ h else 0 : ℝ) : EReal) := by
  rw [padC_apply]
  split_ifs with hr
  · exact hx ⟨R.val, hr⟩ h
  · exact EReal.coe_zero.symm

variable (m : (ℓ : Loc nD τ sig) → Buf (Elt Ideal) ℓ) (c : Dev nD)

/-- The arguments are the numbers `A`. -/
structure Reals (A : Args 8208) : Prop where
  q : ∀ (R : Fin 8208) (h : Fin 8) (d : Fin 64), (m ((c : Thread nD τ).loc main_arg0) : FVec Ideal S8208x512 .f32) (ix2 R ⟨h.val * 64 + d.val, by omega⟩) = (A.q R h d : EReal)
  k : ∀ (R : Fin 8208) (h : Fin 8) (d : Fin 64), (m ((c : Thread nD τ).loc main_arg1) : FVec Ideal S8208x512 .f32) (ix2 R ⟨h.val * 64 + d.val, by omega⟩) = (A.k R h d : EReal)
  v : ∀ (R : Fin 8208) (h : Fin 8) (d : Fin 64), (m ((c : Thread nD τ).loc main_arg2) : FVec Ideal S8208x512 .f32) (ix2 R ⟨h.val * 64 + d.val, by omega⟩) = (A.v R h d : EReal)
  cs : ∀ (R : Fin 8208) (h : Fin 8), (m ((c : Thread nD τ).loc main_arg3) : FVec Ideal S8208x8 .f32) (ix2 R h) = (A.c R h : EReal)
  g : ∀ (R : Fin 8208) (h : Fin 8) (d : Fin 64), (m ((c : Thread nD τ).loc main_arg4) : FVec Ideal S8208x512 .f32) (ix2 R ⟨h.val * 64 + d.val, by omega⟩) = (A.g R h d : EReal)

variable (A : Args 8208) (H : Reals m c A) (R L : Fin 8320) (h : Fin 8) (d : Fin 64)

include H

theorem qP_real : qP m c (ix2 R ⟨h.val * 64 + d.val, by omega⟩) = ((A.pad 8320).q R h d : EReal) := padV_real _ _ H.q R h d
theorem kP_real : kP m c (ix2 R ⟨h.val * 64 + d.val, by omega⟩) = ((A.pad 8320).k R h d : EReal) := padV_real _ _ H.k R h d
theorem vP_real : vP m c (ix2 R ⟨h.val * 64 + d.val, by omega⟩) = ((A.pad 8320).v R h d : EReal) := padV_real _ _ H.v R h d
theorem gP_real : gP m c (ix2 R ⟨h.val * 64 + d.val, by omega⟩) = ((A.pad 8320).g R h d : EReal) := padV_real _ _ H.g R h d
theorem cP_real : cP m c (ix2 R h) = ((A.pad 8320).c R h : EReal) := padC_real _ _ H.cs R h

theorem scP_real : scP m c (ix3 h R L) = if L ≤ R then (score (A.pad 8320) h R L : EReal) else ⊥ := by
  unfold scP
  rw [scores_apply]
  split_ifs
  · unfold score
    rw [EReal.coe_sub, EReal.coe_add, cP_real m c A H, cP_real m c A H, coe_sum]
    congr 2
    exact Finset.sum_congr rfl fun x _ => by rw [EReal.coe_mul, EReal.coe_mul, qP_real m c A H, kP_real m c A H, eighth_word]
  · rfl

omit H in
/-- The row's greatest score. -/
def top : ℝ := (mxP m c (ix2 h R)).toReal

theorem mxP_real : mxP m c (ix2 h R) = (top m c R h : EReal) := by
  obtain ⟨μ, hμ⟩ : ∃ μ : ℝ, mxP m c (ix2 h R) = μ := by
    unfold mxP
    rw [max_apply]
    refine fold_real _ (fun L => ?_) R (score (A.pad 8320) h R R) ?_
    · rw [scP_real m c A H]
      split_ifs
      · exact EReal.coe_lt_top _
      · exact bot_lt_top
    · rw [scP_real m c A H, if_pos le_rfl]
  unfold top
  rw [hμ, EReal.toReal_coe]

theorem exP_real : exP m c (ix3 h R L) = (expo (A.pad 8320) h R L (top m c R h) : EReal) := by
  unfold exP expo
  rw [exp_apply, scP_real m c A H, mxP_real m c A H]
  split_ifs
  · rw [← EReal.coe_sub, Ideal.exp_coe]
  · rw [EReal.bot_sub, Ideal.exp_bot, EReal.coe_zero]

theorem smP_real : smP m c (ix2 h R) = (total (A.pad 8320) h R (top m c R h) : EReal) := by
  unfold smP total
  rw [sum_apply, coe_sum]
  exact Finset.sum_congr rfl fun L _ => exP_real m c A H R L h

theorem outP_real : outP m c (ix3 R h d) = ((∑ L, weight (A.pad 8320) h R L * (A.pad 8320).v L h d : ℝ) : EReal) := by
  have hp := total_pos (A.pad 8320) h R (top m c R h)
  unfold outP
  rw [out_apply, smP_real m c A H, Ideal.div_coe hp.ne', one_mul]
  have e : (∑ x, exP m c (ix3 h R x) * vP m c (ix2 x ⟨h.val * 64 + d.val, by omega⟩))
      = ((∑ L, expo (A.pad 8320) h R L (top m c R h) * (A.pad 8320).v L h d : ℝ) : EReal) := by
    rw [coe_sum]
    exact Finset.sum_congr rfl fun L _ => by rw [exP_real m c A H, vP_real m c A H, EReal.coe_mul]
  rw [e, ← EReal.coe_mul, Finset.sum_mul]
  refine congrArg Real.toEReal ?_
  refine Finset.sum_congr rfl fun L _ => ?_
  rw [← weight_eq _ h R L (top m c R h)]
  field_simp

theorem lseP_real : lseP m c (ix2 R h) = ((top m c R h + Real.log (total (A.pad 8320) h R (top m c R h)) : ℝ) : EReal) := by
  unfold lseP
  rw [lse_apply, mxP_real m c A H, smP_real m c A H, Ideal.log_coe, if_neg (not_le.mpr (total_pos ..)), EReal.coe_add]

theorem ddP_real : ddP m c (ix2 R h) = (rowsum (A.pad 8320) h R : EReal) := by
  unfold ddP
  rw [rowdot_apply, ← rowsum_out, coe_sum]
  exact Finset.sum_congr rfl fun d _ => by rw [gP_real m c A H, outP_real m c A H, EReal.coe_mul]

omit H in
theorem hi_apply (x : FVec Ideal S8320x8 .f32) : hiV x (ix2 R h) = x (ix2 R h) := by pointwise [hiV, roundV]
omit H in
theorem mid_apply (x : FVec Ideal S8320x8 .f32) : midV x (ix2 R h) = x (ix2 R h) - x (ix2 R h) := by pointwise [midV, hiV, roundV]
omit H in
theorem lo_apply (x : FVec Ideal S8320x8 .f32) : loV x (ix2 R h) = x (ix2 R h) - x (ix2 R h) - (x (ix2 R h) - x (ix2 R h)) := by pointwise [loV, midV, hiV, roundV]

theorem scG_real : scG m c h R L = ((score (A.pad 8320) h R L - (top m c R h + Real.log (total (A.pad 8320) h R (top m c R h))) : ℝ) : EReal) := by
  unfold scG
  rw [qb_eq, ka_eq, tiles_dot, nine_dot]
  have e : (∑ d : Fin 64, (mulf (F := Ideal) (lanesV (qP m c)) (broadcastInDim S8320x8x64 ![] bcast_S_S8320x8x64 (word 0x3E000000#32)) : FVec Ideal S8320x8x64 .f32) (ix3 R h d) * lanesV (kP m c) (ix3 L h d))
      = ((∑ d : Fin 64, (A.pad 8320).q R h d * (1 / 8) * (A.pad 8320).k L h d : ℝ) : EReal) := by
    rw [coe_sum]
    exact Finset.sum_congr rfl fun d _ => by
      rw [scaled_apply, lanesV_apply, qP_real m c A H, kP_real m c A H, eighth_word, EReal.coe_mul, EReal.coe_mul]
  rw [e]
  simp only [neg_apply]
  simp only [col_apply, one_apply, mul_one, one_mul, hi_apply, mid_apply, lo_apply, cP_real m c A H, lseP_real m c A H]
  simp only [← EReal.coe_sub, ← EReal.coe_neg, ← EReal.coe_add]
  refine congrArg Real.toEReal ?_
  unfold score
  ring

theorem dpG_real : dpG m c h R L = ((dweight (A.pad 8320) h R L - rowsum (A.pad 8320) h R : ℝ) : EReal) := by
  unfold dpG
  rw [dob_eq, va_eq, tiles_dot, four_dot]
  have e : (∑ d : Fin 64, lanesV (gP m c) (ix3 R h d) * lanesV (vP m c) (ix3 L h d)) = (dweight (A.pad 8320) h R L : EReal) := by
    unfold dweight
    rw [coe_sum]
    exact Finset.sum_congr rfl fun d _ => by
      rw [lanesV_apply, lanesV_apply, gP_real m c A H, vP_real m c A H, EReal.coe_mul]
  rw [e]
  simp only [neg_apply]
  simp only [col_apply, one_apply, zero_apply, mul_one, one_mul, zero_add, hi_apply, mid_apply, lo_apply, ddP_real m c A H]
  simp only [← EReal.coe_sub, ← EReal.coe_neg, ← EReal.coe_add]
  refine congrArg Real.toEReal ?_
  ring

theorem prG_real : prG m c h R L = (weight (A.pad 8320) h R L : EReal) := by
  unfold prG
  rw [← weight_lse _ h R L (top m c R h), scG_real m c A H]
  by_cases hl : R < L
  · rw [if_pos hl, if_neg (not_le.mpr hl), Ideal.exp_bot, EReal.coe_zero]
  · rw [if_neg hl, if_pos (not_lt.mp hl), Ideal.exp_coe]

theorem grG_real : grG m c h R L = (dscore (A.pad 8320) h R L : EReal) := by
  unfold grG dscore
  rw [prG_real m c A H, dpG_real m c A H, EReal.coe_mul]

end Cert.AttnIdeal.Hand
-- ==== Proof.AttnResults.lean ====
/- THE FIVE ARRAYS' ENTRIES as the attention's gradient over the reals. -/
module

public import proofs.«01_k».proof.Proof.AttnValue
public import proofs.«01_k».proof.Proof.AttnTiles
public import proofs.«01_k».proof.Proof.AttnTileAt
public import proofs.«01_k».proof.Proof.AttnLift

@[expose] public section

set_option maxRecDepth 16384

noncomputable section

namespace Cert.AttnIdeal.Hand

open Cert.AttnIdeal Cert.AttnIdeal.Gen Cert.Attention
open Idealize.ShloMosaic Idealize.ShloMosaic.TcCoe Idealize.ShloMosaic.Tactic
open Idealize.SL Idealize.SL.Sem

variable (m : (ℓ : Loc nD τ sig) → Buf (Elt Ideal) ℓ) (c : Dev nD)

variable (A : Args 8208) (H : Reals m c A) (R L : Fin 8320) (h : Fin 8) (d : Fin 64)

include H

/-! ## The entries of the tiles that a result's column meets -/

omit H in
theorem tiles_own (main aug : FVec Ideal S8320x8x64 .f32) (e : Fin 512) : tilesV main aug (ix2 R (tcol e)) = main (ix3 R (hOf e) ⟨e.val % 64, by omega⟩) := by
  have he := e.isLt
  by_cases hp : (hOf e).val % 2 = 0
  · have e1 : tcol e = hcol (hOf e) (Fin.castAdd 64 (⟨e.val % 64, by omega⟩ : Fin 64)) := by
      simp only [hOf] at hp
      refine Fin.ext ?_
      simp only [tcol, hcol, hOf, Fin.val_castAdd]
      omega
    rw [e1, tilesV_lo, if_pos hp]
  · have e1 : tcol e = hcol (hOf e) (Fin.natAdd 64 (⟨e.val % 64, by omega⟩ : Fin 64)) := by
      simp only [hOf] at hp
      refine Fin.ext ?_
      simp only [tcol, hcol, hOf, Fin.val_natAdd]
      omega
    rw [e1, tilesV_hi, if_neg hp]

omit H in
theorem lane_eq (x : FVec Ideal S8320x512 .f32) (e : Fin 512) : lanesV x (ix3 R (hOf e) ⟨e.val % 64, by omega⟩)
    = x (ix2 R ⟨(hOf e).val * 64 + (⟨e.val % 64, by omega⟩ : Fin 64).val, by have := (hOf e).isLt; dsimp only; omega⟩) := lanesV_apply x R (hOf e) ⟨e.val % 64, by omega⟩

/-- The lane of a column. -/
abbrev lane (e : Fin 512) : Fin 64 := ⟨e.val % 64, by omega⟩

theorem ka_own (e : Fin 512) : kaA m c (ix2 R (tcol e)) = ((A.pad 8320).k R (hOf e) (lane e) : EReal) := by
  rw [ka_eq, tiles_own, lane_eq]
  exact kP_real m c A H R (hOf e) (lane e)

theorem qbt_own (e : Fin 512) : qbtA m c (ix2 (tcol e) R) = (((A.pad 8320).q R (hOf e) (lane e) * (1 / 8) : ℝ) : EReal) := by
  have t : qbtA m c (ix2 (tcol e) R) = qbA m c (ix2 R (tcol e)) := by
    rw [qbt_eq]; pointwise []
  rw [t, qb_eq, tiles_own, scaled_apply, eighth_word, EReal.coe_mul]
  exact congrArg (· * ((1 / 8 : ℝ) : EReal)) (qP_real m c A H R (hOf e) (lane e))

theorem dobt_own (e : Fin 512) : dobtA m c (ix2 (tcol e) R) = ((A.pad 8320).g R (hOf e) (lane e) : EReal) := by
  have t : dobtA m c (ix2 (tcol e) R) = dobA m c (ix2 R (tcol e)) := by
    rw [dobt_eq]; pointwise []
  rw [t, dob_eq, tiles_own, lane_eq]
  exact gP_real m c A H R (hOf e) (lane e)

/-! ## The five arrays -/

theorem dq_real (e : Fin 512) : dqArr m c (ix2 R e) = ((if hr : R.val < 8208 then dq A (hOf e) ⟨R.val, hr⟩ (lane e) else 0 : ℝ) : EReal) := by
  rw [← pad_dq A (hOf e) (by omega : 8208 ≤ 8320) R (lane e)]
  show (∑ L, grG m c (hOf e) R L * kaA m c (ix2 L (tcol e))) * Ideal.ofBits .f32 0x3E000000#32 = _
  have s : (∑ L, grG m c (hOf e) R L * kaA m c (ix2 L (tcol e))) = ((∑ L, dscore (A.pad 8320) (hOf e) R L * (A.pad 8320).k L (hOf e) (lane e) : ℝ) : EReal) := by
    rw [coe_sum]
    exact Finset.sum_congr rfl fun L _ => by rw [grG_real m c A H, ka_own m c A H, EReal.coe_mul]
  rw [s, eighth_word, EReal.coe_mul]

theorem dk_real (e : Fin 512) : dkArr m c (ix2 R e) = ((if hr : R.val < 8208 then dk A (hOf e) ⟨R.val, hr⟩ (lane e) else 0 : ℝ) : EReal) := by
  rw [← pad_dk A (hOf e) (by omega : 8208 ≤ 8320) R (lane e)]
  show (∑ L, qbtA m c (ix2 (tcol e) L) * grG m c (hOf e) L R) = _
  rw [coe_sum]
  exact Finset.sum_congr rfl fun L _ => by rw [qbt_own m c A H, grG_real m c A H, EReal.coe_mul, EReal.coe_mul, EReal.coe_mul]

theorem dv_real (e : Fin 512) : dvArr m c (ix2 R e) = ((if hr : R.val < 8208 then dv A (hOf e) ⟨R.val, hr⟩ (lane e) else 0 : ℝ) : EReal) := by
  rw [← pad_dv A (hOf e) (by omega : 8208 ≤ 8320) R (lane e)]
  show (∑ L, dobtA m c (ix2 (tcol e) L) * prG m c (hOf e) L R) = _
  rw [coe_sum]
  exact Finset.sum_congr rfl fun L _ => by rw [dobt_own m c A H, prG_real m c A H, EReal.coe_mul]

theorem dcq_real (e : Fin 128) : dcqArr m c (ix2 R e) = ((if h : e.val < 8 then if hr : R.val < 8208 then dcq A ⟨e.val, h⟩ ⟨R.val, hr⟩ else 0 else 0 : ℝ) : EReal) := by
  show (if h : e.val < 8 then ∑ L, grG m c ⟨e.val, h⟩ R L else 0) = _
  by_cases h8 : e.val < 8
  · rw [dif_pos h8, dif_pos h8, ← pad_dcq A ⟨e.val, h8⟩ (by omega : 8208 ≤ 8320) R, coe_sum]
    exact Finset.sum_congr rfl fun L _ => grG_real m c A H _ _ _
  · rw [dif_neg h8, dif_neg h8, EReal.coe_zero]

theorem dck_real : dckArr m c (ix2 h L) = ((if hr : L.val < 8208 then dck A h ⟨L.val, hr⟩ else 0 : ℝ) : EReal) := by
  rw [← pad_dck A h (by omega : 8208 ≤ 8320) L]
  show (∑ R, grG m c h R L) = _
  rw [coe_sum]
  exact Finset.sum_congr rfl fun R _ => grG_real m c A H _ _ _

end Cert.AttnIdeal.Hand
-- ==== Proof.AttnReference.lean ====
/- THE REFERENCE'S FIVE RESULTS as the attention's gradient over the reals. -/
module

public import proofs.«01_k».proof.Proof.Gen.AttnRefIdeal.Read
public import proofs.«01_k».proof.Proof.AttnLift
public import Idealize.ShloMosaic.Lib.Pointwise
public import Idealize.ShloMosaic.Lib.WordCmp

@[expose] public section

set_option maxRecDepth 16384

noncomputable section

namespace Cert.AttnRefIdeal.Hand

open Cert.AttnRefIdeal Cert.AttnRefIdeal.Gen Cert.AttnRefIdeal.Read Cert.Attention
open Idealize.ShloMosaic Idealize.ShloMosaic.TcCoe Idealize.ShloMosaic.Tactic
open Idealize.SL Idealize.SL.Sem

variable (q k v g : FVec Ideal S8208x512 .f32) (c : FVec Ideal S8208x8 .f32)

/-- The arguments are the numbers `A`. -/
structure Reals (A : Args 8208) : Prop where
  q : ∀ (R : Fin 8208) (h : Fin 8) (d : Fin 64), q (ix2 R ⟨h.val * 64 + d.val, by omega⟩) = (A.q R h d : EReal)
  k : ∀ (R : Fin 8208) (h : Fin 8) (d : Fin 64), k (ix2 R ⟨h.val * 64 + d.val, by omega⟩) = (A.k R h d : EReal)
  v : ∀ (R : Fin 8208) (h : Fin 8) (d : Fin 64), v (ix2 R ⟨h.val * 64 + d.val, by omega⟩) = (A.v R h d : EReal)
  cs : ∀ (R : Fin 8208) (h : Fin 8), c (ix2 R h) = (A.c R h : EReal)
  g : ∀ (R : Fin 8208) (h : Fin 8) (d : Fin 64), g (ix2 R ⟨h.val * 64 + d.val, by omega⟩) = (A.g R h d : EReal)

variable (R L : Fin 8208) (h : Fin 8) (d : Fin 64)

/-! ## The operations at an index -/

theorem ninf : Ideal.ofBits .f32 0xFF800000#32 = ⊥ := by simp [Ideal.ofBits, Ideal.ieee]

theorem mask_apply {α : Type} (a b : α) : Scalar.select (IntOp.cmpi .sge (BitVec.ofNat 32 R.val) (BitVec.ofNat 32 L.val)) a b = if L ≤ R then a else b := by
  rw [WordCmp.cmpi_sge_ofNat (by have := R.isLt; omega) (by have := L.isLt; omega)]
  by_cases hl : L ≤ R
  · rw [if_pos hl, decide_eq_true (show L.val ≤ R.val from hl)]; rfl
  · rw [if_neg hl, decide_eq_false (show ¬ L.val ≤ R.val from hl)]; rfl

theorem t15 : val_main_v15 (F := Ideal) q k c (ix3 h R L) =
    (∑ x : Fin 64, q (ix2 R ⟨h.val * 64 + x.val, by omega⟩) * k (ix2 L ⟨h.val * 64 + x.val, by omega⟩)) * Ideal.ofBits .f32 0x3E000000#32 + c (ix2 R h) + -c (ix2 L h) := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst]

theorem t24 : val_main_v24 (F := Ideal) q k c (ix3 h R L) = if L ≤ R then val_main_v15 (F := Ideal) q k c (ix3 h R L) else ⊥ := by
  rw [← ninf, ← mask_apply R L]
  pointwise [val_main_v24, val_main_v22, val_main_v21, val_main_v20, val_main_v19, val_main_v18, val_main_v17, val_main_v16, val_main_v23, val_main_cst_0]

theorem t26 : val_main_v26 (F := Ideal) q k c (ix2 h R) = Finset.fold max ⊥ (fun L => val_main_v24 (F := Ideal) q k c (ix3 h R L)) Finset.univ := by
  rw [← ninf]
  unfold val_main_v26
  generalize val_main_v24 (F := Ideal) q k c = s
  pointwise [val_main_cst_2]

theorem t33 : val_main_v33 (F := Ideal) q k c (ix2 h R) = max ⊥ (val_main_v26 (F := Ideal) q k c (ix2 h R)) := by
  rw [← ninf, val_main_v33_apply, val_main_v32_apply, val_main_cst_4_apply]
  generalize val_main_v26 (F := Ideal) q k c (ix2 h R) = s
  rfl

theorem t46 : val_main_v46 (F := Ideal) q k c (ix3 h R L) = Ideal.exp (val_main_v24 (F := Ideal) q k c (ix3 h R L) - val_main_v33 (F := Ideal) q k c (ix2 h R)) := by
  pointwise [val_main_v46, val_main_v45, val_main_v44, val_main_v43]

theorem t47 : val_main_v47 (F := Ideal) q k c (ix2 h R) = ∑ L, val_main_v46 (F := Ideal) q k c (ix3 h R L) := by
  pointwise [val_main_v47, val_main_cst_10]

theorem t50 : val_main_v50 (F := Ideal) q k c (ix3 h R L) = Ideal.div (val_main_v46 (F := Ideal) q k c (ix3 h R L)) (val_main_v47 (F := Ideal) q k c (ix2 h R)) := by
  pointwise [val_main_v50, val_main_v49, val_main_v48]

theorem t53 : val_main_v53 (F := Ideal) q k c (ix3 h R 0) = Ideal.div 1 (val_main_v47 (F := Ideal) q k c (ix2 h R) * val_main_v47 (F := Ideal) q k c (ix2 h R)) := by
  pointwise [val_main_v53, val_main_v52, val_main_cst_11, val_main_v51, val_main_v48]

theorem t63 : val_main_v63 (F := Ideal) v g (ix3 h R L) = ∑ x : Fin 64, g (ix2 R ⟨h.val * 64 + x.val, by omega⟩) * v (ix2 L ⟨h.val * 64 + x.val, by omega⟩) := by
  pointwise [val_main_v63, val_main_v60, val_main_v59, val_main_v55, val_main_v54]

theorem t74 : val_main_v74 (F := Ideal) q k v c g (ix2 h R) = -∑ L, val_main_v63 (F := Ideal) v g (ix3 h R L) * val_main_v53 (F := Ideal) q k c (ix3 h R 0) * val_main_v46 (F := Ideal) q k c (ix3 h R L) := by
  pointwise [val_main_v74, val_main_cst_13, val_main_v71, val_main_v70, val_main_v69, val_main_cst_12, val_main_v68, val_main_v67, val_main_v66]
  exact Fin.sum_univ_one _

theorem t79 : val_main_v79 (F := Ideal) q k v c g (ix3 h R L) = if L ≤ R then (Ideal.div (val_main_v63 (F := Ideal) v g (ix3 h R L)) (val_main_v47 (F := Ideal) q k c (ix2 h R)) + val_main_v74 (F := Ideal) q k v c g (ix2 h R)) * val_main_v46 (F := Ideal) q k c (ix3 h R L) else 0 := by
  rw [← mask_apply R L]
  pointwise [val_main_v79, val_main_v22, val_main_v21, val_main_v20, val_main_v19, val_main_v18, val_main_v17, val_main_v16, val_main_v78, val_main_cst_14, val_main_v77, val_main_v76, val_main_v75, val_main_v73, val_main_v72, val_main_v48]

theorem t65 (e : Fin 512) : val_main_v65 (F := Ideal) q k c g (ix2 L e) = ∑ R, g (ix2 R e) * val_main_v50 (F := Ideal) q k c (ix3 ⟨e.val / 64, by omega⟩ R L) := by
  pointwise [val_main_v65, val_main_v64, val_main_v62, val_main_v61, val_main_v60, val_main_v59]

theorem t92 (e : Fin 512) : val_main_v92 (F := Ideal) q k v c g (ix2 L e) = ∑ R, val_main_v79 (F := Ideal) q k v c g (ix3 ⟨e.val / 64, by omega⟩ R L) * Ideal.ofBits .f32 0x3E000000#32 * q (ix2 R e) := by
  pointwise [val_main_v92, val_main_v91, val_main_v89, val_main_v88, val_main_v87, val_main_cst_19, val_main_v3, val_main_v2]

theorem t94 (e : Fin 512) : val_main_v94 (F := Ideal) q k v c g (ix2 R e) = ∑ L, val_main_v79 (F := Ideal) q k v c g (ix3 ⟨e.val / 64, by omega⟩ R L) * Ideal.ofBits .f32 0x3E000000#32 * k (ix2 L e) := by
  pointwise [val_main_v94, val_main_v93, val_main_v90, val_main_v88, val_main_v87, val_main_cst_19, val_main_v5, val_main_v4]

theorem t82 : val_main_v82 (F := Ideal) q k v c g (ix2 h L) = ∑ R, val_main_v79 (F := Ideal) q k v c g (ix3 h R L) := by
  pointwise [val_main_v82, val_main_v81, val_main_v80, val_main_cst_15, val_main_cst_16]
  exact Fin.sum_univ_one _

theorem t86 : val_main_v86 (F := Ideal) q k v c g (ix2 R h) = ∑ L, val_main_v79 (F := Ideal) q k v c g (ix3 h R L) := by
  pointwise [val_main_v86, val_main_v85, val_main_v84, val_main_v83, val_main_cst_17, val_main_cst_18]
  exact Fin.sum_univ_one _

/-! ## Their numbers -/

variable (A : Args 8208) (H : Reals q k v g c A)

include H

theorem r15 : val_main_v15 (F := Ideal) q k c (ix3 h R L) = (score A h R L : EReal) := by
  have e : (∑ x : Fin 64, q (ix2 R ⟨h.val * 64 + x.val, by omega⟩) * k (ix2 L ⟨h.val * 64 + x.val, by omega⟩)) * Ideal.ofBits .f32 0x3E000000#32
      = ((∑ d : Fin 64, A.q R h d * (1 / 8) * A.k L h d : ℝ) : EReal) := by
    have e1 : (∑ x : Fin 64, q (ix2 R ⟨h.val * 64 + x.val, by omega⟩) * k (ix2 L ⟨h.val * 64 + x.val, by omega⟩)) = ((∑ d : Fin 64, A.q R h d * A.k L h d : ℝ) : EReal) := by
      rw [coe_sum]
      exact Finset.sum_congr rfl fun x _ => by rw [H.q, H.k, EReal.coe_mul]
    rw [e1, eighth_word, ← EReal.coe_mul, Finset.sum_mul]
    exact congrArg Real.toEReal (Finset.sum_congr rfl fun d _ => by ring)
  rw [t15, e, H.cs, H.cs]
  unfold score
  rw [EReal.coe_sub, EReal.coe_add, sub_eq_add_neg]

theorem r24 : val_main_v24 (F := Ideal) q k c (ix3 h R L) = if L ≤ R then (score A h R L : EReal) else ⊥ := by
  rw [t24, r15 q k v g c R L h A H]

omit H in
/-- The row's greatest score. -/
def top : ℝ := (val_main_v33 (F := Ideal) q k c (ix2 h R)).toReal

theorem r33 : val_main_v33 (F := Ideal) q k c (ix2 h R) = (top q k c R h : EReal) := by
  obtain ⟨μ, hμ⟩ : ∃ μ : ℝ, val_main_v33 (F := Ideal) q k c (ix2 h R) = μ := by
    rw [t33, max_eq_right bot_le, t26]
    refine fold_real _ (fun L => ?_) R (score A h R R) ?_
    · rw [r24 q k v g c R L h A H]
      split_ifs
      · exact EReal.coe_lt_top _
      · exact bot_lt_top
    · rw [r24 q k v g c R R h A H, if_pos le_rfl]
  unfold top
  rw [hμ, EReal.toReal_coe]

theorem r46 : val_main_v46 (F := Ideal) q k c (ix3 h R L) = (expo A h R L (top q k c R h) : EReal) := by
  unfold expo
  rw [t46, r24 q k v g c R L h A H, r33 q k v g c R h A H]
  split_ifs
  · rw [← EReal.coe_sub, Ideal.exp_coe]
  · rw [EReal.bot_sub, Ideal.exp_bot, EReal.coe_zero]

theorem r47 : val_main_v47 (F := Ideal) q k c (ix2 h R) = (total A h R (top q k c R h) : EReal) := by
  unfold total
  rw [t47, coe_sum]
  exact Finset.sum_congr rfl fun L _ => r46 q k v g c R L h A H

theorem r50 : val_main_v50 (F := Ideal) q k c (ix3 h R L) = (weight A h R L : EReal) := by
  rw [t50, r46 q k v g c R L h A H, r47 q k v g c R h A H, Ideal.div_coe (total_pos ..).ne', ← EReal.coe_mul, ← weight_eq A h R L (top q k c R h), mul_one_div]

theorem r63 : val_main_v63 (F := Ideal) v g (ix3 h R L) = (dweight A h R L : EReal) := by
  unfold dweight
  rw [t63, coe_sum]
  exact Finset.sum_congr rfl fun x _ => by rw [H.g, H.v, EReal.coe_mul]

theorem r74 : val_main_v74 (F := Ideal) q k v c g (ix2 h R) = ((-(rowsum A h R / total A h R (top q k c R h)) : ℝ) : EReal) := by
  have hp := (total_pos A h R (top q k c R h)).ne'
  have e : (∑ L, val_main_v63 (F := Ideal) v g (ix3 h R L) * val_main_v53 (F := Ideal) q k c (ix3 h R 0) * val_main_v46 (F := Ideal) q k c (ix3 h R L))
      = ((rowsum A h R / total A h R (top q k c R h) : ℝ) : EReal) := by
    unfold rowsum
    rw [Finset.sum_div, coe_sum]
    refine Finset.sum_congr rfl fun L _ => ?_
    rw [t53, r63 q k v g c R L h A H, r46 q k v g c R L h A H, r47 q k v g c R h A H, ← EReal.coe_mul, Ideal.div_coe (mul_ne_zero hp hp), one_mul, ← EReal.coe_mul, ← EReal.coe_mul,
      ← weight_eq A h R L (top q k c R h)]
    refine congrArg Real.toEReal ?_
    field_simp
  rw [t74, e, EReal.coe_neg]

theorem r79 : val_main_v79 (F := Ideal) q k v c g (ix3 h R L) = (dscore A h R L : EReal) := by
  have hp := (total_pos A h R (top q k c R h)).ne'
  rw [t79]
  split_ifs with hl
  · rw [r63 q k v g c R L h A H, r46 q k v g c R L h A H, r47 q k v g c R h A H, r74 q k v g c R h A H, Ideal.div_coe hp, ← EReal.coe_mul, ← EReal.coe_add, ← EReal.coe_mul]
    unfold dscore
    rw [← weight_eq A h R L (top q k c R h)]
    refine congrArg Real.toEReal ?_
    field_simp
    ring
  · rw [dscore_zero A h R L (not_le.mp hl), EReal.coe_zero]

end Cert.AttnRefIdeal.Hand
-- ==== Proof.AttnReferenceOut.lean ====
/- THE REFERENCE'S FIVE RESULTS with the rows of zeros below them. -/
module

public import proofs.«01_k».proof.Proof.AttnReference
public import proofs.«01_k».proof.Proof.Sigmoid
public import Idealize.ShloMosaic.Lib.Pointwise
public import Idealize.ShloMosaic.Lib.WordCmp

@[expose] public section

set_option maxRecDepth 16384

noncomputable section

namespace Cert.AttnRefIdeal.Hand

open Cert.AttnRefIdeal Cert.AttnRefIdeal.Gen Cert.AttnRefIdeal.Read Cert.Attention
open Idealize.ShloMosaic Idealize.ShloMosaic.TcCoe Idealize.ShloMosaic.Tactic
open Idealize.SL Idealize.SL.Sem

variable (q k v g : FVec Ideal S8208x512 .f32) (c : FVec Ideal S8208x8 .f32) (R L : Fin 8320) (h : Fin 8)

theorem o96 (e : Fin 512) : val_main_v96 (F := Ideal) q k v c g (ix2 R e) = if hr : R.val < 8208 then val_main_v94 (F := Ideal) q k v c g (ix2 ⟨R.val, hr⟩ e) else 0 := by
  rw [← Sigmoid.zero_word .bf16]
  unfold val_main_v96 val_main_v95
  generalize val_main_v94 (F := Ideal) q k v c g = s
  pointwise [val_main_call0_v0, val_main_c]

theorem o98 (e : Fin 512) : val_main_v98 (F := Ideal) q k v c g (ix2 R e) = if hr : R.val < 8208 then val_main_v92 (F := Ideal) q k v c g (ix2 ⟨R.val, hr⟩ e) else 0 := by
  rw [← Sigmoid.zero_word .bf16]
  unfold val_main_v98 val_main_v97
  generalize val_main_v92 (F := Ideal) q k v c g = s
  pointwise [val_main_call1_v0, val_main_c_20]

theorem o100 (e : Fin 512) : val_main_v100 (F := Ideal) q k c g (ix2 R e) = if hr : R.val < 8208 then val_main_v65 (F := Ideal) q k c g (ix2 ⟨R.val, hr⟩ e) else 0 := by
  rw [← Sigmoid.zero_word .bf16]
  unfold val_main_v100 val_main_v99
  generalize val_main_v65 (F := Ideal) q k c g = s
  pointwise [val_main_call2_v0, val_main_c_21]

theorem o101 (e : Fin 128) : val_main_v101 (F := Ideal) q k v c g (ix2 R e) = if hr : R.val < 8208 ∧ e.val < 8 then val_main_v86 (F := Ideal) q k v c g (ix2 ⟨R.val, hr.1⟩ ⟨e.val, hr.2⟩) else 0 := by
  rw [← Sigmoid.zero_word .f32]
  unfold val_main_v101
  generalize val_main_v86 (F := Ideal) q k v c g = s
  pointwise [val_main_call3_v0, val_main_c_22]

theorem o102 : val_main_v102 (F := Ideal) q k v c g (ix2 h L) = if hr : L.val < 8208 then val_main_v82 (F := Ideal) q k v c g (ix2 h ⟨L.val, hr⟩) else 0 := by
  rw [← Sigmoid.zero_word .f32]
  unfold val_main_v102
  generalize val_main_v82 (F := Ideal) q k v c g = s
  pointwise [val_main_call4_v0, val_main_c_23]

/-! ## Their numbers -/

variable (A : Args 8208) (H : Reals q k v g c A)

theorem at_col (x : FVec Ideal S8208x512 .f32) (f : Fin 8208 → Fin 8 → Fin 64 → ℝ)
    (hx : ∀ (R : Fin 8208) (h : Fin 8) (d : Fin 64), x (ix2 R ⟨h.val * 64 + d.val, by omega⟩) = (f R h d : EReal)) (R : Fin 8208) (e : Fin 512) :
    x (ix2 R e) = (f R ⟨e.val / 64, by omega⟩ ⟨e.val % 64, by omega⟩ : EReal) := by
  rw [← hx]
  exact congrArg (fun y => x (ix2 R y)) (Fin.ext (by dsimp only; omega))

include H

theorem q96 (e : Fin 512) : val_main_v96 (F := Ideal) q k v c g (ix2 R e) = ((if hr : R.val < 8208 then dq A ⟨e.val / 64, by omega⟩ ⟨R.val, hr⟩ ⟨e.val % 64, by omega⟩ else 0 : ℝ) : EReal) := by
  rw [o96]
  split_ifs with hr
  · unfold dq
    rw [t94, coe_sum]
    exact Finset.sum_congr rfl fun L _ => by rw [r79 q k v g c _ L _ A H, at_col k A.k H.k, eighth_word, EReal.coe_mul, EReal.coe_mul]
  · exact EReal.coe_zero.symm

theorem q98 (e : Fin 512) : val_main_v98 (F := Ideal) q k v c g (ix2 R e) = ((if hr : R.val < 8208 then dk A ⟨e.val / 64, by omega⟩ ⟨R.val, hr⟩ ⟨e.val % 64, by omega⟩ else 0 : ℝ) : EReal) := by
  rw [o98]
  split_ifs with hr
  · unfold dk
    rw [t92, coe_sum]
    exact Finset.sum_congr rfl fun L _ => by rw [r79 q k v g c L _ _ A H, at_col q A.q H.q, eighth_word, EReal.coe_mul, EReal.coe_mul]
  · exact EReal.coe_zero.symm

theorem q100 (e : Fin 512) : val_main_v100 (F := Ideal) q k c g (ix2 R e) = ((if hr : R.val < 8208 then dv A ⟨e.val / 64, by omega⟩ ⟨R.val, hr⟩ ⟨e.val % 64, by omega⟩ else 0 : ℝ) : EReal) := by
  rw [o100]
  split_ifs with hr
  · unfold dv
    rw [t65, coe_sum]
    exact Finset.sum_congr rfl fun L _ => by rw [r50 q k v g c L _ _ A H, at_col g A.g H.g, EReal.coe_mul]
  · exact EReal.coe_zero.symm

theorem q101 (e : Fin 128) : val_main_v101 (F := Ideal) q k v c g (ix2 R e) = ((if h : e.val < 8 then if hr : R.val < 8208 then dcq A ⟨e.val, h⟩ ⟨R.val, hr⟩ else 0 else 0 : ℝ) : EReal) := by
  rw [o101]
  by_cases h8 : e.val < 8
  · by_cases hr : R.val < 8208
    · rw [dif_pos ⟨hr, h8⟩, dif_pos h8, dif_pos hr]
      unfold dcq
      rw [t86, coe_sum]
      exact Finset.sum_congr rfl fun L _ => r79 q k v g c _ L _ A H
    · rw [dif_neg fun h => hr h.1, dif_pos h8, dif_neg hr, EReal.coe_zero]
  · rw [dif_neg fun h => h8 h.2, dif_neg h8, EReal.coe_zero]

theorem q102 : val_main_v102 (F := Ideal) q k v c g (ix2 h L) = ((if hr : L.val < 8208 then dck A h ⟨L.val, hr⟩ else 0 : ℝ) : EReal) := by
  rw [o102]
  split_ifs with hr
  · unfold dck
    rw [t82, coe_sum]
    exact Finset.sum_congr rfl fun R _ => r79 q k v g c R _ _ A H
  · exact EReal.coe_zero.symm

end Cert.AttnRefIdeal.Hand
-- ==== Proof.AttnEquation.lean ====
/- THE ATTENTION'S GRADIENT: the kernel's five arrays are the reference's, where the arguments are finite. -/
module

public import proofs.«01_k».proof.Defs
public import proofs.«01_k».proof.Proof.AttnFrame
public import proofs.«01_k».proof.Proof.AttnResults
public import proofs.«01_k».proof.Proof.AttnReferenceOut
public import proofs.«01_k».proof.Proof.Gen.AttnRefIdeal.Run
public import proofs.«01_k».proof.Proof.Gen.Pre_attn_finite

@[expose] public section

set_option maxRecDepth 16384

noncomputable section

namespace Cert.AttnIdeal.Hand

open Cert.AttnIdeal Cert.AttnIdeal.Gen Cert.Attention
open Idealize.ShloMosaic Idealize.ShloMosaic.TcCoe Idealize.ShloMosaic.Tactic
open Idealize.SL Idealize.SL.Sem
open Cert.AttnRefIdeal.Read

theorem coe_toReal_of_abs {x : EReal} (h : max x (-x) < ⊤) : x = (x.toReal : EReal) := by
  induction x with
  | bot => exact absurd h (by simp)
  | top => exact absurd h (by simp)
  | coe a => rfl

/-- The precondition at an index: every argument is a number there. -/
theorem finite_of_pre (q k v : FVec Ideal S8208x512 .f32) (s : FVec Ideal S8208x8 .f32) (g : FVec Ideal S8208x512 .f32)
    (h : letI := Cert.Pre_attn_finite.Gen.facts; (Cert.Pre_attn_finite.fn (F := Ideal) q k v s g).1 = fun _ => 1#1) (R : Fin 8208) (e : Fin 512) :
    (q (ix2 R e) = ((q (ix2 R e)).toReal : EReal) ∧ k (ix2 R e) = ((k (ix2 R e)).toReal : EReal)) ∧ v (ix2 R e) = ((v (ix2 R e)).toReal : EReal) ∧ g (ix2 R e) = ((g (ix2 R e)).toReal : EReal) := by
  have e := congrFun h (ix2 R e)
  pointwise [Cert.Pre_attn_finite.fn] at e
  rw [Sigmoid.inf_word] at e
  have all : ∀ a b c d : Bool, IntOp.andi (IntOp.andi (IntOp.andi (BitVec.ofBool a) (BitVec.ofBool b)) (BitVec.ofBool c)) (BitVec.ofBool d) = 1#1 → (a = true ∧ b = true) ∧ c = true ∧ d = true := by decide
  obtain ⟨⟨h1, h2⟩, h3, h4⟩ := all _ _ _ _ e
  exact ⟨⟨coe_toReal_of_abs (of_decide_eq_true h1), coe_toReal_of_abs (of_decide_eq_true h2)⟩, coe_toReal_of_abs (of_decide_eq_true h3), coe_toReal_of_abs (of_decide_eq_true h4)⟩

theorem finite_of_pre_sums (q k v : FVec Ideal S8208x512 .f32) (s : FVec Ideal S8208x8 .f32) (g : FVec Ideal S8208x512 .f32)
    (h : letI := Cert.Pre_attn_finite.Gen.facts; (Cert.Pre_attn_finite.fn (F := Ideal) q k v s g).2 = fun _ => 1#1) (R : Fin 8208) (l : Fin 8) :
    s (ix2 R l) = ((s (ix2 R l)).toReal : EReal) := by
  have e := congrFun h (ix2 R l)
  pointwise [Cert.Pre_attn_finite.fn] at e
  rw [Sigmoid.inf_word] at e
  have one : ∀ a : Bool, BitVec.ofBool a = 1#1 → a = true := by decide
  exact coe_toReal_of_abs (of_decide_eq_true (one _ e))

/-- The numbers five arrays of finite entries hold. -/
def numbers (q k v : FVec Ideal S8208x512 .f32) (s : FVec Ideal S8208x8 .f32) (g : FVec Ideal S8208x512 .f32) : Args 8208 where
  q R h d := (q (ix2 R ⟨h.val * 64 + d.val, by omega⟩)).toReal
  k R h d := (k (ix2 R ⟨h.val * 64 + d.val, by omega⟩)).toReal
  v R h d := (v (ix2 R ⟨h.val * 64 + d.val, by omega⟩)).toReal
  c R h := (s (ix2 R h)).toReal
  g R h d := (g (ix2 R ⟨h.val * 64 + d.val, by omega⟩)).toReal

variable (m : (ℓ : Loc nD τ sig) → Buf (Elt Ideal) ℓ) (c : Dev nD)

section

variable (A : Args 8208) (H : Reals m c A) (q k v g : FVec Ideal S8208x512 .f32) (s : FVec Ideal S8208x8 .f32)
  (H' : Cert.AttnRefIdeal.Hand.Reals q k v g s A)

include H H'

theorem dq_eq : dqArr m c = val_main_v96 (F := Ideal) q k v s g := by
  funext i
  obtain ⟨R, e, rfl⟩ : ∃ (R : Fin 8320) (e : Fin 512), i = ix2 R e := ⟨i 0, i 1, eq_ix2 i⟩
  exact (dq_real m c A H R e).trans (Cert.AttnRefIdeal.Hand.q96 q k v g s R A H' e).symm

theorem dk_eq : dkArr m c = val_main_v98 (F := Ideal) q k v s g := by
  funext i
  obtain ⟨R, e, rfl⟩ : ∃ (R : Fin 8320) (e : Fin 512), i = ix2 R e := ⟨i 0, i 1, eq_ix2 i⟩
  exact (dk_real m c A H R e).trans (Cert.AttnRefIdeal.Hand.q98 q k v g s R A H' e).symm

theorem dv_eq : dvArr m c = val_main_v100 (F := Ideal) q k s g := by
  funext i
  obtain ⟨R, e, rfl⟩ : ∃ (R : Fin 8320) (e : Fin 512), i = ix2 R e := ⟨i 0, i 1, eq_ix2 i⟩
  exact (dv_real m c A H R e).trans (Cert.AttnRefIdeal.Hand.q100 q k v g s R A H' e).symm

theorem dcq_eq : dcqArr m c = val_main_v101 (F := Ideal) q k v s g := by
  funext i
  obtain ⟨R, e, rfl⟩ : ∃ (R : Fin 8320) (e : Fin 128), i = ix2 R e := ⟨i 0, i 1, eq_ix2 i⟩
  exact (dcq_real m c A H R e).trans (Cert.AttnRefIdeal.Hand.q101 q k v g s R A H' e).symm

theorem dck_eq : dckArr m c = val_main_v102 (F := Ideal) q k v s g := by
  funext i
  obtain ⟨h, L, rfl⟩ : ∃ (h : Fin 8) (L : Fin 8320), i = ix2 h L := ⟨i 0, i 1, eq_ix2 i⟩
  exact (dck_real m c A H L h).trans (Cert.AttnRefIdeal.Hand.q102 q k v g s L h A H').symm

end

/-- The kernel and the reference, from memories that agree on the arguments. -/
theorem algebraic : letI := Cert.AttnIdeal.Gen.facts; letI := Cert.AttnRefIdeal.Gen.facts; letI := Cert.Pre_attn_finite.Gen.facts
    Cert.algebraic_AttnIdeal_AttnRefIdeal_pre_attn_finite := by
  intro m g m' g' hpre hagree
  refine ⟨fun c => dqArr m c, fun c => dkArr m c, fun c => dvArr m c, fun c => dcqArr m c, fun c => dckArr m c, ?_, ?_⟩
  · refine (θ_run (Cert.AttnIdeal.defs (F := Ideal)) _ _).mono (fun r h c => ?_) (run_main m g)
    obtain ⟨h0, h1, h2, h3, h4⟩ := results m r h c
    exact ⟨h0, h1, h2, h3, h4, final_arg m h c _ (.inl rfl), final_arg m h c _ (.inr (.inl rfl)), final_arg m h c _ (.inr (.inr (.inl rfl))),
      final_arg m h c _ (.inr (.inr (.inr (.inl rfl)))), final_arg m h c _ (.inr (.inr (.inr (.inr rfl))))⟩
  · refine (θ_run Cert.AttnRefIdeal.defs _ _).mono (fun r h c => ?_) (Cert.AttnRefIdeal.Value.run m' g')
    obtain ⟨h0, h1, h2, h3, h4, hargs⟩ := h c
    obtain ⟨a0, a1, a2, a3, a4⟩ := hagree c
    obtain ⟨p1, p2⟩ := hpre c
    have f := finite_of_pre _ _ _ _ _ p1
    have fs := finite_of_pre_sums _ _ _ _ _ p2
    have H : Reals m c (numbers (m ((c : Thread nD τ).loc main_arg0)) (m ((c : Thread nD τ).loc main_arg1)) (m ((c : Thread nD τ).loc main_arg2)) (m ((c : Thread nD τ).loc main_arg3)) (m ((c : Thread nD τ).loc main_arg4))) :=
      ⟨fun R h d => (f R _).1.1, fun R h d => (f R _).1.2, fun R h d => (f R _).2.1, fun R h => fs R h, fun R h d => (f R _).2.2⟩
    have H' : Cert.AttnRefIdeal.Hand.Reals (m ((c : Thread nD τ).loc main_arg0)) (m ((c : Thread nD τ).loc main_arg1)) (m ((c : Thread nD τ).loc main_arg2)) (m ((c : Thread nD τ).loc main_arg4)) (m ((c : Thread nD τ).loc main_arg3))
        (numbers (m ((c : Thread nD τ).loc main_arg0)) (m ((c : Thread nD τ).loc main_arg1)) (m ((c : Thread nD τ).loc main_arg2)) (m ((c : Thread nD τ).loc main_arg3)) (m ((c : Thread nD τ).loc main_arg4))) :=
      ⟨H.q, H.k, H.v, H.cs, H.g⟩
    refine ⟨h0.trans ?_, h1.trans ?_, h2.trans ?_, h3.trans ?_, h4.trans ?_, hargs⟩
    · rw [Cert.AttnRefIdeal.Read.val_main_v96_eq, a0, a1, a2, a3, a4]
      exact (dq_eq m c _ H _ _ _ _ _ H').symm
    · rw [Cert.AttnRefIdeal.Read.val_main_v98_eq, a0, a1, a2, a3, a4]
      exact (dk_eq m c _ H _ _ _ _ _ H').symm
    · rw [Cert.AttnRefIdeal.Read.val_main_v100_eq, a0, a1, a3, a4]
      exact (dv_eq m c _ H _ _ _ _ _ H').symm
    · rw [Cert.AttnRefIdeal.Read.val_main_v101_eq, a0, a1, a2, a3, a4]
      exact (dcq_eq m c _ H _ _ _ _ _ H').symm
    · rw [Cert.AttnRefIdeal.Read.val_main_v102_eq, a0, a1, a2, a3, a4]
      exact (dck_eq m c _ H _ _ _ _ _ H').symm

end Cert.AttnIdeal.Hand
-- ==== Proof.LossCases.lean ====
/-
  The loss and the last norm's gradient, point by point: what one grid point leaves in the block of `dh`, in the loss and in
  the scale's gradient, as the kernel's own payloads of the point's input blocks and of what the point before left.
-/
module

public import proofs.«01_k».proof.Proof.Gen.LossHeadIdeal.Value

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

section Cases

variable (c : Dev nD) (i : grid0.Coords)
  (a1 : Memref sig .tc .vmem S640x1024 .f32) (h1 : a1.IsWhole) (a2 : Memref sig .tc .vmem S640x1024 .f32) (h2 : a2.IsWhole)
  (a3 : Memref sig .tc .vmem S1x1024 .f32) (h3 : a3.IsWhole) (a4 : Memref sig .tc .vmem S640x1024 .f32) (h4 : a4.IsWhole)
  (a5 : Memref sig .tc .vmem S8x128 .f32) (h5 : a5.IsWhole) (a6 : Memref sig .tc .vmem S1x1024 .f32) (h6 : a6.IsWhole)
  (x0 x1 : Vec F S640x1024 .f32) (x2 : Vec F S1x1024 .f32) (xl : Vec F S8x128 .f32) (xg : Vec F S1x1024 .f32)

theorem dh_B (hc : ¬cond0_0 i) : out0_B_3 c i a1 h1 a2 h2 a3 h3 a4 h4 a5 h5 a6 h6 hc x0 x1 x2 xl xg
    = k0_pay4 (k0_pay7 x2) (k0_pay8 x0) (k0_pay9 x0) (k0_pay10 i x0 x2 x1) := by
  unfold out0_B_3
  rw [View.read_writes_eq_canon _ _ _ (cover0_B_3 c i a1 h1 a2 h2 a3 h3 a4 h4 a5 h5 a6 h6 hc x0 x1 x2 xl xg)]
  unfold kernelRun0_B
  dsimp only
  sl_unfold_words
  rw [View.canon_unit_zero hz]
  simp only [View.readAt_eq_ld, h1.read_unread, h2.read_unread, h3.read_unread, h5.read_unread, h6.read_unread,
    View.ld_unit_zero (S := S640x1024) hz, View.ld_unit_zero (S := S1x1024) hz, View.ld_unit_zero (S := S8x128) hz]

theorem loss_B (hc : ¬cond0_0 i) : out0_B_4 c i a1 h1 a2 h2 a3 h3 a4 h4 a5 h5 a6 h6 hc x0 x1 x2 xl xg
    = k0_pay1 (k0_pay11 xl) (k0_pay12 i x0 x2 x1) := by
  unfold out0_B_4
  rw [View.read_writes_eq_canon _ _ _ (cover0_B_4 c i a1 h1 a2 h2 a3 h3 a4 h4 a5 h5 a6 h6 hc x0 x1 x2 xl xg)]
  unfold kernelRun0_B
  dsimp only
  sl_unfold_words
  rw [View.canon_unit_zero hz]
  simp only [View.readAt_eq_ld, h1.read_unread, h2.read_unread, h3.read_unread, h5.read_unread, h6.read_unread,
    View.ld_unit_zero (S := S640x1024) hz, View.ld_unit_zero (S := S1x1024) hz, View.ld_unit_zero (S := S8x128) hz]

theorem dg_B (hc : ¬cond0_0 i) : out0_B_5 c i a1 h1 a2 h2 a3 h3 a4 h4 a5 h5 a6 h6 hc x0 x1 x2 xl xg
    = k0_pay3 (k0_pay9 x0) (k0_pay10 i x0 x2 x1) xg := by
  unfold out0_B_5
  rw [View.read_writes_eq_canon _ _ _ (cover0_B_5 c i a1 h1 a2 h2 a3 h3 a4 h4 a5 h5 a6 h6 hc x0 x1 x2 xl xg)]
  unfold kernelRun0_B
  dsimp only
  sl_unfold_words
  rw [View.canon_unit_zero hz]
  simp only [View.readAt_eq_ld, h1.read_unread, h2.read_unread, h3.read_unread, h5.read_unread, h6.read_unread,
    View.ld_unit_zero (S := S640x1024) hz, View.ld_unit_zero (S := S1x1024) hz, View.ld_unit_zero (S := S8x128) hz]

theorem dh_A (hc : cond0_0 i) : out0_A_3 c i a1 h1 a2 h2 a3 h3 a4 h4 a5 h5 a6 h6 hc x0 x1 x2
    = k0_pay4 (k0_pay7 x2) (k0_pay8 x0) (k0_pay9 x0) (k0_pay10 i x0 x2 x1) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readCov_unit_zero (S := S8x128) _ hz, View.readCov_unit_zero (S := S1x1024) _ hz, View.readAt_eq_ld, h1.read_unread, h2.read_unread, h3.read_unread,
    View.ld_unit_zero (S := S640x1024) hz, View.ld_unit_zero (S := S1x1024) hz, View.ld_unit_zero (S := S8x128) hz]

theorem loss_A (hc : cond0_0 i) : out0_A_4 c i a1 h1 a2 h2 a3 h3 a4 h4 a5 h5 a6 h6 hc x0 x1 x2
    = k0_pay1 (k0_pay11 k0_pay5) (k0_pay12 i x0 x2 x1) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S8x128) hz]
  simp only [View.readCov_unit_zero (S := S8x128) _ hz, View.readCov_unit_zero (S := S1x1024) _ hz, View.readAt_eq_ld, h1.read_unread, h2.read_unread, h3.read_unread,
    View.ld_unit_zero (S := S640x1024) hz, View.ld_unit_zero (S := S1x1024) hz, View.ld_unit_zero (S := S8x128) hz]

theorem dg_A (hc : cond0_0 i) : out0_A_5 c i a1 h1 a2 h2 a3 h3 a4 h4 a5 h5 a6 h6 hc x0 x1 x2
    = k0_pay3 (k0_pay9 x0) (k0_pay10 i x0 x2 x1) k0_pay6 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x1024) hz]
  simp only [View.readCov_unit_zero (S := S8x128) _ hz, View.readCov_unit_zero (S := S1x1024) _ hz, View.readAt_eq_ld, h1.read_unread, h2.read_unread, h3.read_unread,
    View.ld_unit_zero (S := S640x1024) hz, View.ld_unit_zero (S := S1x1024) hz, View.ld_unit_zero (S := S8x128) hz]

end Cases

end Cert.LossHeadIdeal.Hand

end
-- ==== Proof.NormReal.lean ====
/- A ROW'S NORM over the real numbers: the reciprocal root of its mean square, and the gradient through it. -/
module

public import proofs.«01_k».proof.Defs

@[expose] public section

noncomputable section

namespace Cert.Norm

open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- The small number under the root. -/
def eps : ℝ := (8796093 : ℝ) / 8796093022208

theorem eps_pos : 0 < eps := by unfold eps; norm_num

theorem eps_word : Ideal.ofBits .f32 0x358637BD#32 = (eps : EReal) := by
  simp [Ideal.ofBits, Ideal.ieee, eps]
  rw [← EReal.coe_mul]
  norm_num

theorem width_word : Ideal.ofBits .f32 0x44800000#32 = ((1024 : ℝ) : EReal) := by
  simp [Ideal.ofBits, Ideal.ieee]
  try rw [← EReal.coe_mul]
  norm_num

theorem half_word : Ideal.ofBits .f32 0x3F000000#32 = ((1 / 2 : ℝ) : EReal) := by
  simp [Ideal.ofBits, Ideal.ieee]
  try rw [← EReal.coe_mul]
  norm_num

theorem neg_half_word : Ideal.ofBits .f32 0xBF000000#32 = ((-(1 / 2) : ℝ) : EReal) := by
  simp [Ideal.ofBits, Ideal.ieee]
  try rw [← EReal.coe_mul]
  norm_num

theorem part_word : Ideal.ofBits .f32 0x3A800000#32 = ((1 / 1024 : ℝ) : EReal) := by
  simp [Ideal.ofBits, Ideal.ieee]
  try rw [← EReal.coe_mul]
  norm_num

theorem half_part_word : Ideal.ofBits .f32 0x3A000000#32 = ((1 / 2048 : ℝ) : EReal) := by
  simp [Ideal.ofBits, Ideal.ieee]
  try rw [← EReal.coe_mul]
  norm_num

variable (x : Fin 1024 → ℝ)

/-- The mean square of a row, and a little more. -/
def msq : ℝ := (∑ k, x k * x k) / 1024 + eps

theorem msq_pos : 0 < msq x := by
  have : 0 ≤ ∑ k, x k * x k := Finset.sum_nonneg fun k _ => mul_self_nonneg _
  unfold msq
  have := eps_pos
  positivity

/-- The reciprocal of its root. -/
def rs : ℝ := (Real.sqrt (msq x))⁻¹

theorem div_real (a b : ℝ) (hb : b ≠ 0) : Ideal.div (a : EReal) (b : EReal) = ((a / b : ℝ) : EReal) := by
  rw [Ideal.div_coe hb, ← EReal.coe_mul]
  exact congrArg Real.toEReal (by ring)

theorem rsqrt_real {a : ℝ} (ha : 0 < a) : Ideal.rsqrt (a : EReal) = (((Real.sqrt a)⁻¹ : ℝ) : EReal) := by
  rw [Ideal.rsqrt_coe, if_neg (not_lt.mpr ha.le), if_neg ha.ne']

theorem rs_sq : rs x * rs x = 1 / msq x := by
  unfold rs
  rw [← mul_inv, Real.mul_self_sqrt (msq_pos x).le, one_div]

/-- The gradient through the norm: the derivative term by term is the difference with the projection taken off. -/
theorem grad (u : Fin 1024 → ℝ) (j : Fin 1024) :
    (u j * rs x + x j * ((∑ k, x k * u k) * (-(1 / 2) * (rs x / msq x)) / 1024)) +
        (∑ k, x k * u k) * (-(1 / 2) * (rs x / msq x)) / 1024 * x j =
      rs x * (u j - x j * rs x * ((∑ k, u k * (x k * rs x)) / 1024)) := by
  have e : ∑ k, u k * (x k * rs x) = (∑ k, x k * u k) * rs x := by
    rw [Finset.sum_mul]; exact Finset.sum_congr rfl fun k _ => by ring
  have q : rs x / msq x = rs x * (rs x * rs x) := by rw [rs_sq]; ring
  rw [e, q]
  ring

end Cert.Norm
-- ==== Proof.LossReal.lean ====
/- THE LOSS AND ITS GRADIENT over the real numbers, rows numbered by natural numbers: the meta rows and the padding err by zero. -/
module

public import proofs.«01_k».proof.Proof.NormReal

@[expose] public section

noncomputable section

namespace Cert.Loss

open Cert.Norm

variable (X T : ℕ → Fin 1024 → ℝ) (G : Fin 1024 → ℝ)

/-- The error of row `n`. -/
def err (n : ℕ) (k : Fin 1024) : ℝ := if 16 ≤ n ∧ n < 8208 then X n k * rs (X n) * G k - T n k else 0

/-- The gradient of the row's values. -/
def dh (n : ℕ) (k : Fin 1024) : ℝ :=
  rs (X n) * (err X T G n k * (1 / 1024) * G k -
    X n k * rs (X n) * ((∑ x, err X T G n x * (1 / 1024) * G x * (X n x * rs (X n))) / 1024))

/-- What a row adds to the loss. -/
def part (n : ℕ) : ℝ := ∑ k, err X T G n k * err X T G n k

/-- What a row adds to the gradient of the scale. -/
def gain (k : Fin 1024) (n : ℕ) : ℝ := err X T G n k * (1 / 1024) * (X n k * rs (X n))

/-- Nothing from a row that does not err. -/
theorem err_out (n : ℕ) (h : ¬ (16 ≤ n ∧ n < 8208)) (k : Fin 1024) : err X T G n k = 0 := if_neg h

theorem part_out (n : ℕ) (h : ¬ (16 ≤ n ∧ n < 8208)) : part X T G n = 0 :=
  Finset.sum_eq_zero fun k _ => by rw [err_out X T G n h k, mul_zero]

theorem gain_out (k : Fin 1024) (n : ℕ) (h : ¬ (16 ≤ n ∧ n < 8208)) : gain X T G k n = 0 := by
  unfold gain
  rw [err_out X T G n h k, zero_mul, zero_mul]

theorem dh_out (n : ℕ) (h : ¬ (16 ≤ n ∧ n < 8208)) (k : Fin 1024) : dh X T G n k = 0 := by
  unfold dh
  simp only [err_out X T G n h, zero_mul, Finset.sum_const_zero, zero_div, mul_zero, sub_zero]

/-- The rows of one block, after the rows before it. -/
theorem block_step (f : ℕ → ℝ) (b : ℕ) : ∑ n ∈ Finset.range b, f n + ∑ r : Fin 640, f (b + r.val) = ∑ n ∈ Finset.range (b + 640), f n := by
  rw [Finset.sum_range_add, Finset.sum_range (fun x => f (b + x))]

/-- A sum over all rows is one over the rows that err. -/
theorem range_rows (f : ℕ → ℝ) (h : ∀ n, ¬ (16 ≤ n ∧ n < 8208) → f n = 0) :
    ∑ n ∈ Finset.range 8320, f n = ∑ s : Fin 8192, f (16 + s.val) := by
  rw [show 8320 = 16 + 8192 + 112 from rfl, Finset.sum_range_add, Finset.sum_range_add,
    Finset.sum_eq_zero (s := Finset.range 16), Finset.sum_eq_zero (s := Finset.range 112), zero_add, add_zero, Finset.sum_range (fun x => f (16 + x))]
  · exact fun n _ => h _ (by omega)
  · exact fun n hn => h _ (by have := Finset.mem_range.mp hn; omega)

/-- And one over the rows before the padding. -/
theorem range_real (f : ℕ → ℝ) (h : ∀ n, ¬ (16 ≤ n ∧ n < 8208) → f n = 0) :
    ∑ n ∈ Finset.range 8320, f n = ∑ s : Fin 8208, f s.val := by
  rw [show 8320 = 8208 + 112 from rfl, Finset.sum_range_add, Finset.sum_eq_zero (s := Finset.range 112), add_zero, Finset.sum_range]
  exact fun n _ => h _ (by omega)

end Cert.Loss
-- ==== Proof.LossPayload.lean ====
/- The payloads of the loss's kernel at one element, where the blocks hold real numbers. -/
module

public import proofs.«01_k».proof.Proof.Gen.LossHeadIdeal.Skeleton
public import proofs.«01_k».proof.Proof.LossReal
public import proofs.«01_k».proof.Proof.Sigmoid
public import Idealize.ShloMosaic.Lib.Pointwise
public import Idealize.ShloMosaic.Lib.Tactic.WordOmega

@[expose] public section

set_option maxRecDepth 16384

noncomputable section

namespace Cert.LossHeadIdeal.Hand

open Cert.LossHeadIdeal Cert.LossHeadIdeal.Gen Idealize.ShloMosaic Cert.Norm Cert.Loss

/-- The kernel's mask of the rows that err, over row numbers. -/
theorem rows_select (b : Fin 13) (r : Fin 640) (a z : EReal) :
    Scalar.select (IntOp.andi (IntOp.cmpi CmpIPredicate.sge (BitVec.ofNat 32 b.val * 640#32 + BitVec.ofNat 32 r.val) 16#32)
        (IntOp.cmpi CmpIPredicate.slt (BitVec.ofNat 32 b.val * 640#32 + BitVec.ofNat 32 r.val) 8208#32)) a z =
      if 16 ≤ 640 * b.val + r.val ∧ 640 * b.val + r.val < 8208 then a else z := by
  have e : BitVec.ofNat 32 b.val * 640#32 + BitVec.ofNat 32 r.val = BitVec.ofNat 32 (640 * b.val + r.val) := by
    apply BitVec.eq_of_toNat_eq
    simp only [BitVec.toNat_add, BitVec.toNat_mul, BitVec.toNat_ofNat]
    omega
  rw [e]
  have hn : 640 * b.val + r.val < 8320 := by omega
  generalize 640 * b.val + r.val = n at hn
  by_cases h1 : 16 ≤ n
  · have e1 : IntOp.cmpi CmpIPredicate.sge (BitVec.ofNat 32 n) 16#32 = 1#1 := by word_omega
    by_cases h2 : n < 8208
    · have e2 : IntOp.cmpi CmpIPredicate.slt (BitVec.ofNat 32 n) 8208#32 = 1#1 := by word_omega
      rw [e1, e2, if_pos ⟨h1, h2⟩]; rfl
    · have e2 : IntOp.cmpi CmpIPredicate.slt (BitVec.ofNat 32 n) 8208#32 = 0#1 := by word_omega
      rw [e1, e2, if_neg fun h => h2 h.2]; rfl
  · have e1 : IntOp.cmpi CmpIPredicate.sge (BitVec.ofNat 32 n) 16#32 = 0#1 := by word_omega
    rw [e1, if_neg fun h => h1 h.1]
    generalize IntOp.cmpi CmpIPredicate.slt (BitVec.ofNat 32 n) 8208#32 = w
    have : IntOp.andi 0#1 w = 0#1 := by unfold IntOp.andi; exact BitVec.zero_and
    rw [this]; rfl

variable (i : grid0.Coords) (x0 x1 : Vec Ideal S640x1024 .f32) (x2 : Vec Ideal S1x1024 .f32)
  (X T : ℕ → Fin 1024 → ℝ) (G : Fin 1024 → ℝ)
  (h0 : ∀ (r : Fin 640) k, x0 (ix2 r k) = (X (640 * (i 0).val + r.val) k : EReal))
  (h1 : ∀ (r : Fin 640) k, x1 (ix2 r k) = (T (640 * (i 0).val + r.val) k : EReal))
  (h2 : ∀ k, x2 (ix2 0 k) = (G k : EReal))

include h0 in
theorem pay8_real (r : Fin 640) : k0_pay8 x0 (ix2 r 0) = (rs (X (640 * (i 0).val + r.val)) : EReal) := by
  pointwise [k0_pay8]
  simp only [h0, ← EReal.coe_mul, coe_sum, eps_word, width_word]
  rw [div_real _ _ (by norm_num), ← EReal.coe_add]
  exact rsqrt_real (msq_pos (X _))

include h0 in
theorem pay9_real (r : Fin 640) (k : Fin 1024) :
    k0_pay9 x0 (ix2 r k) = ((X (640 * (i 0).val + r.val) k * rs (X (640 * (i 0).val + r.val)) : ℝ) : EReal) := by
  have e := pay8_real i x0 X h0 r
  unfold k0_pay9
  generalize k0_pay8 x0 = s at e
  pointwise []
  rw [h0, e, EReal.coe_mul]

include h0 h1 h2 in
theorem pay10_real (r : Fin 640) (k : Fin 1024) :
    k0_pay10 i x0 x2 x1 (ix2 r k) = (err X T G (640 * (i 0).val + r.val) k : EReal) := by
  have e := pay9_real i x0 X h0 r k
  unfold k0_pay10
  generalize k0_pay9 x0 = s at e
  pointwise [k0_pay7]
  rw [h1, h2, e, ← EReal.coe_mul, ← EReal.coe_sub]
  refine (rows_select (i 0) r _ _).trans ?_
  unfold err
  split <;> rfl

include h0 h1 h2 in
theorem dh_real (r : Fin 640) (k : Fin 1024) :
    k0_pay4 (k0_pay7 x2) (k0_pay8 x0) (k0_pay9 x0) (k0_pay10 i x0 x2 x1) (ix2 r k) = (dh X T G (640 * (i 0).val + r.val) k : EReal) := by
  have e8 := pay8_real i x0 X h0 r
  have e9 := pay9_real i x0 X h0 r
  have e10 := pay10_real i x0 x1 x2 X T G h0 h1 h2 r
  have e7 : ∀ k, k0_pay7 x2 (ix2 0 k) = (G k : EReal) := fun k => by pointwise [k0_pay7]; exact h2 k
  generalize k0_pay8 x0 = s8 at *
  generalize k0_pay9 x0 = s9 at *
  generalize k0_pay10 i x0 x2 x1 = s10 at *
  generalize k0_pay7 x2 = s7 at *
  pointwise [k0_pay4, k0_pay2]
  simp only [e7, e8, e9, e10, part_word, width_word, ← EReal.coe_mul, coe_sum]
  rw [div_real _ _ (by norm_num), ← EReal.coe_mul, ← EReal.coe_sub, ← EReal.coe_mul]
  rfl

include h0 h1 h2 in
theorem loss_real (xl : Vec Ideal S8x128 .f32) (s : ℝ) (p : Fin 8) (q : Fin 128) (hs : xl (ix2 p q) = (s : EReal)) :
    k0_pay1 (k0_pay11 xl) (k0_pay12 i x0 x2 x1) (ix2 p q) =
      ((s + (∑ r : Fin 640, part X T G (640 * (i 0).val + r.val)) * (1 / 2048) : ℝ) : EReal) := by
  have e10 := pay10_real i x0 x1 x2 X T G h0 h1 h2
  have e12 : k0_pay12 i x0 x2 x1 (ix3 0 0 0) = ((∑ r : Fin 640, part X T G (640 * (i 0).val + r.val) : ℝ) : EReal) := by
    unfold k0_pay12
    generalize k0_pay10 i x0 x2 x1 = s10 at *
    pointwise []
    simp only [e10, ← EReal.coe_mul, coe_sum]
    rfl
  generalize k0_pay12 i x0 x2 x1 = w at *
  pointwise [k0_pay1, k0_pay11]
  rw [hs, e12, half_part_word, ← EReal.coe_mul, ← EReal.coe_add]

include h0 h1 h2 in
theorem dg_real (xg : Vec Ideal S1x1024 .f32) (s : ℝ) (k : Fin 1024) (hs : xg (ix2 0 k) = (s : EReal)) :
    k0_pay3 (k0_pay9 x0) (k0_pay10 i x0 x2 x1) xg (ix2 0 k) =
      ((s + ∑ r : Fin 640, gain X T G k (640 * (i 0).val + r.val) : ℝ) : EReal) := by
  have e9 := fun r => pay9_real i x0 X h0 r k
  have e10 := fun r => pay10_real i x0 x1 x2 X T G h0 h1 h2 r k
  generalize k0_pay9 x0 = s9 at *
  generalize k0_pay10 i x0 x2 x1 = s10 at *
  pointwise [k0_pay3, k0_pay2]
  simp only [hs, e9, e10, part_word, ← EReal.coe_mul, coe_sum, ← EReal.coe_add]
  rfl

theorem pay5_real (p : Fin 8) (q : Fin 128) : (k0_pay5 : FVec Ideal S8x128 .f32) (ix2 p q) = ((0 : ℝ) : EReal) := by
  pointwise [k0_pay5]
  rfl

theorem pay6_real (k : Fin 1024) : (k0_pay6 : FVec Ideal S1x1024 .f32) (ix2 0 k) = ((0 : ℝ) : EReal) := by
  pointwise [k0_pay6]
  rfl

end Cert.LossHeadIdeal.Hand
-- ==== Proof.LossArray.lean ====
/-
  What the loss's kernel leaves in its three arrays, where the arrays it is launched on hold real numbers: the gradient row
  by row, the loss and the scale's gradient as sums over all rows.
-/
module

public import proofs.«01_k».proof.Proof.LossCases
public import proofs.«01_k».proof.Proof.LossPayload

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Idealize.ShloMosaic.Pipeline (Dat)
open Cert.Norm Cert.Loss

variable (m : (ℓ : Loc nD τ sig) → Buf (Elt Ideal) ℓ) (c : Dev nD)

theorem row_lt (t : Fin cfg0.N) (r : Fin 640) : 640 * t.val + r.val < 8320 := by
  have hN : cfg0.N = 13 := N_0
  omega

theorem coord : ∀ t : Fin grid0.N, (grid0.coords t 0).val = t.val := by decide +kernel
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel

theorem block0 (t : Fin cfg0.N) (r : Fin 640) (k : Fin 1024) :
    (iblk m c 0 t : Vec Ideal S640x1024 .f32) (ix2 r k) = V m c main_arg0 (ix2 ⟨640 * t.val + r.val, row_lt t r⟩ k) := by
  unfold iblk
  rw [View.read_apply]
  show V m c main_arg0 _ = _
  congr 1
  funext a
  apply Fin.ext
  match a with
  | 0 => show win0_0.index t 0 * 640 + 1 * r.val = _
         rw [(index0 t).1, one_mul, mul_comm]; rfl
  | 1 => show win0_0.index t 1 * 1024 + 1 * k.val = _
         rw [(index0 t).2, one_mul, Nat.zero_mul, Nat.zero_add]; rfl

theorem block1 (t : Fin cfg0.N) (r : Fin 640) (k : Fin 1024) :
    (iblk m c 1 t : Vec Ideal S640x1024 .f32) (ix2 r k) = V m c main_v1 (ix2 ⟨640 * t.val + r.val, row_lt t r⟩ k) := by
  unfold iblk
  rw [View.read_apply]
  show V m c main_v1 _ = _
  congr 1
  funext a
  apply Fin.ext
  match a with
  | 0 => show win0_1.index t 0 * 640 + 1 * r.val = _
         rw [(index1 t).1, one_mul, mul_comm]; rfl
  | 1 => show win0_1.index t 1 * 1024 + 1 * k.val = _
         rw [(index1 t).2, one_mul, Nat.zero_mul, Nat.zero_add]; rfl

theorem block2 (t : Fin cfg0.N) (k : Fin 1024) :
    (iblk m c 2 t : Vec Ideal S1x1024 .f32) (ix2 0 k) = V m c main_v2 (ix2 0 k) := by
  unfold iblk
  rw [View.read_apply]
  show V m c main_v2 _ = _
  congr 1
  funext a
  apply Fin.ext
  match a with
  | 0 => show win0_2.index t 0 * 1 + 1 * 0 = _
         rw [(index2 t).1]; rfl
  | 1 => show win0_2.index t 1 * 1024 + 1 * k.val = _
         rw [(index2 t).2, one_mul, Nat.zero_mul, Nat.zero_add]; rfl

variable (X T : ℕ → Fin 1024 → ℝ) (G : Fin 1024 → ℝ)

/-- The arrays of the launch hold these numbers. -/
structure Reals : Prop where
  x : ∀ (R : Fin 8320) k, (V m c main_arg0 : Vec Ideal S8320x1024 .f32) (ix2 R k) = (X R.val k : EReal)
  t : ∀ (R : Fin 8320) k, (V m c main_v1 : Vec Ideal S8320x1024 .f32) (ix2 R k) = (T R.val k : EReal)
  g : ∀ k, (V m c main_v2 : Vec Ideal S1x1024 .f32) (ix2 0 k) = (G k : EReal)

/-- What the buffers hold after point `n`. -/
def Holds (n : ℕ) (o : Vec Ideal S640x1024 .f32 × Vec Ideal S8x128 .f32 × Vec Ideal S1x1024 .f32) : Prop :=
  (∀ (r : Fin 640) (k : Fin 1024), o.1 (ix2 r k) = (dh X T G (640 * n + r.val) k : EReal)) ∧
  (∀ (p : Fin 8) (q : Fin 128), o.2.1 (ix2 p q) = (((∑ s ∈ Finset.range (640 * n + 640), part X T G s) * (1 / 2048) : ℝ) : EReal)) ∧
  (∀ k : Fin 1024, o.2.2 (ix2 0 k) = ((∑ s ∈ Finset.range (640 * n + 640), gain X T G k s : ℝ) : EReal))

variable (H : Reals m c X T G)

include H in
/-- One point's payloads over what the point before left. -/
theorem point_holds (t : Fin cfg0.N) (xl : Vec Ideal S8x128 .f32) (xg : Vec Ideal S1x1024 .f32)
    (hl : ∀ p q, xl (ix2 p q) = (((∑ s ∈ Finset.range (640 * t.val), part X T G s) * (1 / 2048) : ℝ) : EReal))
    (hg : ∀ k, xg (ix2 0 k) = ((∑ s ∈ Finset.range (640 * t.val), gain X T G k s : ℝ) : EReal)) :
    Holds X T G t.val (k0_pay4 (k0_pay7 (iblk m c 2 t)) (k0_pay8 (iblk m c 0 t)) (k0_pay9 (iblk m c 0 t))
        (k0_pay10 (grid0.coords t) (iblk m c 0 t) (iblk m c 2 t) (iblk m c 1 t)),
      k0_pay1 (k0_pay11 xl) (k0_pay12 (grid0.coords t) (iblk m c 0 t) (iblk m c 2 t) (iblk m c 1 t)),
      k0_pay3 (k0_pay9 (iblk m c 0 t)) (k0_pay10 (grid0.coords t) (iblk m c 0 t) (iblk m c 2 t) (iblk m c 1 t)) xg) := by
  have e := coord t
  have h0 : ∀ (r : Fin 640) k, (iblk m c 0 t : Vec Ideal S640x1024 .f32) (ix2 r k) = (X (640 * (grid0.coords t 0).val + r.val) k : EReal) :=
    fun r k => by rw [block0, e]; exact H.x _ k
  have h1 : ∀ (r : Fin 640) k, (iblk m c 1 t : Vec Ideal S640x1024 .f32) (ix2 r k) = (T (640 * (grid0.coords t 0).val + r.val) k : EReal) :=
    fun r k => by rw [block1, e]; exact H.t _ k
  have h2 : ∀ k, (iblk m c 2 t : Vec Ideal S1x1024 .f32) (ix2 0 k) = (G k : EReal) :=
    fun k => by rw [block2]; exact H.g k
  refine ⟨fun r k => ?_, fun p q => ?_, fun k => ?_⟩
  · show k0_pay4 _ _ _ _ _ = _
    rw [dh_real (grid0.coords t) _ _ _ X T G h0 h1 h2 r k, e]
  · show k0_pay1 _ _ _ = _
    rw [loss_real (grid0.coords t) _ _ _ X T G h0 h1 h2 xl _ p q (hl p q), e, ← add_mul, block_step (part X T G)]
  · show k0_pay3 _ _ _ _ = _
    rw [dg_real (grid0.coords t) _ _ _ X T G h0 h1 h2 xg _ k (hg k), e, block_step (gain X T G k)]

include H in
theorem holds_at (n : ℕ) (h : n < cfg0.N) : Holds X T G n (outsAt0 m c n h) := by
  have hN : cfg0.N = 13 := N_0
  induction n with
  | zero =>
    rw [outsAt0_A m c ⟨0, h⟩ rfl, dh_A, loss_A, dg_A]
    refine point_holds m c X T G H ⟨0, h⟩ _ _ (fun p q => ?_) (fun k => ?_)
    · rw [pay5_real]; simp
    · rw [pay6_real]; simp
  | succ n ih =>
    obtain ⟨-, h2, h3⟩ := ih (by omega)
    have hB : ¬ (n + 1) % 13 = 0 := by omega
    rw [outsAt0_B m c ⟨n + 1, h⟩ hB, dh_B, loss_B, dg_B]
    exact point_holds m c X T G H ⟨n + 1, h⟩ _ _ (fun p q => h2 p q) (fun k => h3 k)

/-! ### The arrays -/

/-- The array of the gradient, the loss's and that of the scale's gradient. -/
def dhArr : Vec Ideal S8320x1024 .f32 := fun i => (dh X T G (i 0).val (i 1) : EReal)
def lossArr : Vec Ideal S8x128 .f32 := fun _ => (((∑ n ∈ Finset.range 8320, part X T G n) * (1 / 2048) : ℝ) : EReal)
def dgArr : Vec Ideal S1x1024 .f32 := fun i => ((∑ n ∈ Finset.range 8320, gain X T G (i 1) n : ℝ) : EReal)

theorem mem_blk3 (t : Fin cfg0.N) (i : S8320x1024.Idx) :
    i ∈ ((cfg0.win 3).blk t).view.set ↔ 640 * t.val ≤ (i 0).val ∧ (i 0).val < 640 * t.val + 640 := by
  show i ∈ ((View.whole main_v3_0).slice (win0_3.rect t)).set ↔ _
  rw [View.set_slice_whole, Rect.mem_set_unit]
  constructor
  · intro h
    have h0 : win0_3.index t 0 * 640 ≤ (i 0).val ∧ (i 0).val < win0_3.index t 0 * 640 + 640 := h 0
    rw [(index3 t).1] at h0
    omega
  · intro h a
    match a with
    | 0 => show win0_3.index t 0 * 640 ≤ (i 0).val ∧ (i 0).val < win0_3.index t 0 * 640 + 640
           rw [(index3 t).1]; omega
    | 1 => show win0_3.index t 1 * 1024 ≤ (i 1).val ∧ (i 1).val < win0_3.index t 1 * 1024 + 1024
           have h1 : (i 1).val < 1024 := (i 1).isLt
           rw [(index3 t).2]; omega

include H in
theorem arr3 : (dats m 0 c).arrAt 3 cfg0.N = dhArr X T G := by
  have hN : cfg0.N = 13 := N_0
  refine (dats m 0 c).arrAt_eq_of_cover 3 _ (fun t _ => ?_) (fun i => ?_)
  · rw [Value.flushed3]
    show (outsAt0 m c t.val t.isLt).1 = ((cfg0.win 3).blk t).view.read (Elt Ideal) (dhArr X T G)
    funext j
    obtain ⟨r, k, rfl⟩ : ∃ (r : Fin 640) (k : Fin 1024), j = ix2 r k := ⟨j 0, j 1, eq_ix2 j⟩
    rw [(holds_at m c X T G H t.val t.isLt).1 r k, View.read_apply]
    show _ = dhArr X T G _
    unfold dhArr
    congr 2
    · show _ = win0_3.index t 0 * 640 + 1 * r.val
      rw [(index3 t).1, one_mul, mul_comm]
    · apply Fin.ext
      show _ = win0_3.index t 1 * 1024 + 1 * k.val
      rw [(index3 t).2, one_mul, Nat.zero_mul, Nat.zero_add]
  · have hi : (i 0).val < 8320 := (i 0).isLt
    refine ⟨⟨(i 0).val / 640, by omega⟩, flush0_3 _, ?_⟩
    rw [mem_blk3]; dsimp only; omega

theorem mem_blk4 (t : Fin cfg0.N) (i : S8x128.Idx) : i ∈ ((cfg0.win 4).blk t).view.set := by
  show i ∈ ((View.whole main_v3_1).slice (win0_4.rect t)).set
  rw [View.set_slice_whole, Rect.mem_set_unit]
  intro a
  match a with
  | 0 => show win0_4.index t 0 * 8 ≤ (i 0).val ∧ (i 0).val < win0_4.index t 0 * 8 + 8
         have h0 : (i 0).val < 8 := (i 0).isLt
         rw [(index4 t).1]; omega
  | 1 => show win0_4.index t 1 * 128 ≤ (i 1).val ∧ (i 1).val < win0_4.index t 1 * 128 + 128
         have h1 : (i 1).val < 128 := (i 1).isLt
         rw [(index4 t).2]; omega

theorem mem_blk5 (t : Fin cfg0.N) (i : S1x1024.Idx) : i ∈ ((cfg0.win 5).blk t).view.set := by
  show i ∈ ((View.whole main_v3_2).slice (win0_5.rect t)).set
  rw [View.set_slice_whole, Rect.mem_set_unit]
  intro a
  match a with
  | 0 => show win0_5.index t 0 * 1 ≤ (i 0).val ∧ (i 0).val < win0_5.index t 0 * 1 + 1
         have h0 : (i 0).val < 1 := (i 0).isLt
         rw [(index5 t).1]; omega
  | 1 => show win0_5.index t 1 * 1024 ≤ (i 1).val ∧ (i 1).val < win0_5.index t 1 * 1024 + 1024
         have h1 : (i 1).val < 1024 := (i 1).isLt
         rw [(index5 t).2]; omega

/-- Only the last point writes the two sums back. -/
theorem flush4 : ∀ t : Fin grid0.N, win0_4.flush t = true ↔ t.val = 12 := by decide +kernel
theorem flush5 : ∀ t : Fin grid0.N, win0_5.flush t = true ↔ t.val = 12 := by decide +kernel

include H in
theorem arr4 : (dats m 0 c).arrAt 4 cfg0.N = lossArr X T G := by
  have hN : cfg0.N = 13 := N_0
  refine (dats m 0 c).arrAt_eq_of_cover 4 _ (fun t ht => ?_) (fun i => ?_)
  · have h12 : t.val = 12 := (flush4 t).mp ht
    rw [Value.flushed4]
    show (outsAt0 m c t.val t.isLt).2.1 = ((cfg0.win 4).blk t).view.read (Elt Ideal) (lossArr X T G)
    funext j
    obtain ⟨p, q, rfl⟩ : ∃ (p : Fin 8) (q : Fin 128), j = ix2 p q := ⟨j 0, j 1, eq_ix2 j⟩
    rw [(holds_at m c X T G H t.val t.isLt).2.1 p q, View.read_apply, h12]
    rfl
  · exact ⟨⟨12, by omega⟩, (flush4 _).mpr rfl, mem_blk4 _ _⟩

include H in
theorem arr5 : (dats m 0 c).arrAt 5 cfg0.N = dgArr X T G := by
  have hN : cfg0.N = 13 := N_0
  refine (dats m 0 c).arrAt_eq_of_cover 5 _ (fun t ht => ?_) (fun i => ?_)
  · have h12 : t.val = 12 := (flush5 t).mp ht
    rw [Value.flushed5]
    show (outsAt0 m c t.val t.isLt).2.2 = ((cfg0.win 5).blk t).view.read (Elt Ideal) (dgArr X T G)
    funext j
    obtain ⟨p, k, rfl⟩ : ∃ (p : Fin 1) (k : Fin 1024), j = ix2 p k := ⟨j 0, j 1, eq_ix2 j⟩
    obtain rfl : p = 0 := Subsingleton.elim _ _
    rw [(holds_at m c X T G H t.val t.isLt).2.2 k, View.read_apply]
    show _ = dgArr X T G _
    unfold dgArr
    rw [h12]
    refine congrArg Real.toEReal (Finset.sum_congr rfl fun n _ => congrArg (fun k => gain X T G k n) (Fin.ext ?_))
    show _ = win0_5.index t 1 * 1024 + 1 * k.val
    rw [(index5 t).2, one_mul, Nat.zero_mul, Nat.zero_add]
  · exact ⟨⟨12, by omega⟩, (flush5 _).mpr rfl, mem_blk5 _ _⟩

end Cert.LossHeadIdeal.Hand
-- ==== Proof.LossReference.lean ====
/- What the reference computes for the loss and the last norm's gradient, where its arguments are real numbers. -/
module

public import proofs.«01_k».proof.Proof.Gen.LossHeadRefIdeal.Read
public import proofs.«01_k».proof.Proof.LossReal
public import proofs.«01_k».proof.Proof.Sigmoid
public import Idealize.ShloMosaic.Lib.Pointwise

@[expose] public section

set_option maxRecDepth 16384

noncomputable section

namespace Cert.LossHeadRefIdeal.Hand

open Cert.LossHeadRefIdeal Cert.LossHeadRefIdeal.Gen Cert.LossHeadRefIdeal.Read Idealize.ShloMosaic Cert.Norm Cert.Loss

variable (x0 : Vec Ideal S8320x1024 .f32) (x1 : Vec Ideal S1x8192x1024 .f32) (x2 : Vec Ideal S1024 .f32)
  (X T : ℕ → Fin 1024 → ℝ) (G : Fin 1024 → ℝ)
  (h0 : ∀ (r : Fin 8320) k, x0 (ix2 r k) = (X r.val k : EReal)) (h1 : ∀ (s : Fin 8192) k, x1 (ix3 0 s k) = (T (16 + s.val) k : EReal))
  (h2 : ∀ k, x2 (ix1 k) = (G k : EReal))

theorem two_word : Ideal.ofBits .f32 0x40000000#32 = ((2 : ℝ) : EReal) := by
  simp [Ideal.ofBits, Ideal.ieee]
  try rw [← EReal.coe_mul]
  norm_num

theorem one_word : Ideal.ofBits .f32 0x3F800000#32 = ((1 : ℝ) : EReal) := by
  simp [Ideal.ofBits, Ideal.ieee]
  try rw [← EReal.coe_mul]
  norm_num

include h0 in
theorem v7_real (R : Fin 8208) : val_main_v7 (F := Ideal) x0 (ix2 R 0) = (msq (X R.val) : EReal) := by
  pointwise [val_main_v7, val_main_v6, val_main_v5, val_main_v4, val_main_v3, val_main_v2, val_main_v1, val_main_v0, val_main_cst, val_main_cst_0, val_main_cst_1]
  simp only [h0, ← EReal.coe_mul, coe_sum, eps_word, width_word]
  rw [div_real _ _ (by norm_num), ← EReal.coe_add]
  rfl

include h0 in
theorem v8_real (R : Fin 8208) : val_main_v8 (F := Ideal) x0 (ix2 R 0) = (rs (X R.val) : EReal) := by
  have e := v7_real x0 X h0 R
  unfold val_main_v8
  generalize val_main_v7 (F := Ideal) x0 = s at e
  pointwise []
  rw [e]
  exact rsqrt_real (msq_pos _)

include h0 in
theorem v11_real (R : Fin 8208) : val_main_v11 (F := Ideal) x0 (ix2 R 0) = ((-(1 / 2) * (rs (X R.val) / msq (X R.val)) : ℝ) : EReal) := by
  have e7 := v7_real x0 X h0 R
  have e8 := v8_real x0 X h0 R
  unfold val_main_v11 val_main_v9
  generalize val_main_v7 (F := Ideal) x0 = s7 at *
  generalize val_main_v8 (F := Ideal) x0 = s8 at *
  pointwise [val_main_v10, val_main_cst_2]
  rw [e7, e8, neg_half_word, div_real _ _ (msq_pos _).ne', ← EReal.coe_mul]

include h0 in
theorem v13_real (R : Fin 8208) (k : Fin 1024) : val_main_v13 (F := Ideal) x0 (ix2 R k) = ((X R.val k * rs (X R.val) : ℝ) : EReal) := by
  have e8 := v8_real x0 X h0 R
  unfold val_main_v13 val_main_v12
  generalize val_main_v8 (F := Ideal) x0 = s8 at *
  pointwise [val_main_v0]
  rw [e8, h0, ← EReal.coe_mul]

include h0 h1 h2 in
theorem v19_real (s : Fin 8192) (k : Fin 1024) : val_main_v19 (F := Ideal) x0 x1 x2 (ix3 0 s k) = (err X T G (16 + s.val) k : EReal) := by
  have e13 := v13_real x0 X h0 ⟨16 + s.val, by omega⟩ k
  unfold val_main_v19 val_main_v18 val_main_v17 val_main_v16
  generalize val_main_v13 (F := Ideal) x0 = s13 at *
  pointwise [val_main_v15, val_main_v14]
  rw [e13, h1, h2, ← EReal.coe_mul, ← EReal.coe_sub]
  unfold err
  rw [if_pos (by omega)]

include h0 h1 h2 in
theorem v27_real (j : S_.Idx) : val_main_v27 (F := Ideal) x0 x1 x2 j = ((1 / 2 * ∑ s : Fin 8192, part X T G (16 + s.val) / 1024 : ℝ) : EReal) := by
  have e := v19_real x0 x1 x2 X T G h0 h1 h2
  unfold val_main_v27 val_main_v26 val_main_v25 val_main_v23 val_main_v20
  generalize val_main_v19 (F := Ideal) x0 x1 x2 = s at *
  pointwise [val_main_v24, val_main_cst_5, val_main_cst_6, val_main_cst_7, val_main_cst_4]
  rw [Fin.sum_univ_one]
  simp only [e, ← EReal.coe_mul, coe_sum, width_word, half_word]
  simp only [div_real _ _ (show (1024 : ℝ) ≠ 0 by norm_num), ← EReal.coe_mul, coe_sum]
  rfl

include h0 h1 h2 in
theorem v35_real (R : Fin 8208) (k : Fin 1024) : val_main_v35 (F := Ideal) x0 x1 x2 (ix2 R k) = ((err X T G R.val k * (1 / 1024) : ℝ) : EReal) := by
  have e := v19_real x0 x1 x2 X T G h0 h1 h2
  unfold val_main_v35 val_main_v34 val_main_v33 val_main_v22
  generalize val_main_v19 (F := Ideal) x0 x1 x2 = s at *
  pointwise [val_main_v32, val_main_v31, val_main_v30, val_main_v29, val_main_v28, val_main_v21, val_main_cst_3, val_main_cst_8, val_main_cst_9, val_main_cst_10, val_main_cst_11, val_main_cst_12]
  simp only [half_word, one_word, two_word, width_word, Sigmoid.zero_word]
  by_cases h : 16 ≤ R.val
  · have hR : R.val - 16 < 8192 := by omega
    rw [dif_pos ⟨h, hR⟩, Fin.sum_univ_one, e ⟨R.val - 16, hR⟩ k, div_real _ _ (by norm_num), ← EReal.coe_mul, ← EReal.coe_mul]
    refine congrArg Real.toEReal ?_
    rw [show 16 + (R.val - 16) = R.val by omega]
    ring
  · rw [dif_neg fun h' => h h'.1, err_out X T G R.val (fun h' => h h'.1), zero_mul]
    rfl

include h0 h1 h2 in
theorem v40_real (R : Fin 8208) (k : Fin 1024) : val_main_v40 (F := Ideal) x0 x1 x2 (ix2 R k) = ((err X T G R.val k * (1 / 1024) * G k : ℝ) : EReal) := by
  have e := v35_real x0 x1 x2 X T G h0 h1 h2 R k
  unfold val_main_v40
  generalize val_main_v35 (F := Ideal) x0 x1 x2 = s at *
  pointwise [val_main_v39, val_main_v14]
  rw [e, h2, ← EReal.coe_mul]

include h0 h1 h2 in
theorem v50_real (R : Fin 8208) : val_main_v50 (F := Ideal) x0 x1 x2 (ix1 R) =
    (((∑ k, X R.val k * (err X T G R.val k * (1 / 1024) * G k)) * (-(1 / 2) * (rs (X R.val) / msq (X R.val))) / 1024 : ℝ) : EReal) := by
  have e := v40_real x0 x1 x2 X T G h0 h1 h2 R
  have e11 := v11_real x0 X h0 R
  unfold val_main_v50 val_main_v49 val_main_v47 val_main_v44 val_main_v43 val_main_v42
  generalize val_main_v40 (F := Ideal) x0 x1 x2 = s at *
  generalize val_main_v11 (F := Ideal) x0 = s11 at *
  pointwise [val_main_v48, val_main_cst_16, val_main_cst_15, val_main_cst_17, val_main_v0]
  rw [Fin.sum_univ_one]
  simp only [h0, e, e11, ← EReal.coe_mul, coe_sum, width_word]
  rw [div_real _ _ (by norm_num)]

include h0 h1 h2 in
theorem v55_real (R : Fin 8208) (k : Fin 1024) : val_main_v55 (F := Ideal) x0 x1 x2 (ix2 R k) = (dh X T G R.val k : EReal) := by
  have e40 := v40_real x0 x1 x2 X T G h0 h1 h2 R k
  have e50 := v50_real x0 x1 x2 X T G h0 h1 h2 R
  have e8 := v8_real x0 X h0 R
  unfold val_main_v55 val_main_v54 val_main_v53 val_main_v52 val_main_v51 val_main_v46 val_main_v45
  generalize val_main_v50 (F := Ideal) x0 x1 x2 = s50 at *
  generalize val_main_v40 (F := Ideal) x0 x1 x2 = s40 at *
  generalize val_main_v8 (F := Ideal) x0 = s8 at *
  pointwise [val_main_v0]
  simp only [h0, e8, e40, e50, ← EReal.coe_mul, ← EReal.coe_add]
  exact congrArg Real.toEReal (grad (X R.val) (fun k => err X T G R.val k * (1 / 1024) * G k) k)

include h0 h1 h2 in
/-- The gradient of the values. -/
theorem v56_real (R : Fin 8320) (k : Fin 1024) : val_main_v56 (F := Ideal) x0 x1 x2 (ix2 R k) = (dh X T G R.val k : EReal) := by
  have e := v55_real x0 x1 x2 X T G h0 h1 h2
  unfold val_main_v56
  generalize val_main_v55 (F := Ideal) x0 x1 x2 = s at *
  pointwise [val_main_cst_18]
  split
  · next h => exact e ⟨R.val, by omega⟩ k
  · rw [dh_out X T G R.val (by omega) k]
    rfl

include h0 h1 h2 in
/-- The loss. -/
theorem v57_real (p : Fin 8) (q : Fin 128) : val_main_v57 (F := Ideal) x0 x1 x2 (ix2 p q) =
    (((∑ n ∈ Finset.range 8320, part X T G n) * (1 / 2048) : ℝ) : EReal) := by
  have e := v27_real x0 x1 x2 X T G h0 h1 h2
  unfold val_main_v57
  generalize val_main_v27 (F := Ideal) x0 x1 x2 = s at *
  pointwise []
  rw [e, range_rows _ (part_out X T G), ← Finset.sum_div]
  exact congrArg Real.toEReal (by ring)

include h0 h1 h2 in
/-- The gradient of the scale. -/
theorem v58_real (k : Fin 1024) : val_main_v58 (F := Ideal) x0 x1 x2 (ix2 0 k) = ((∑ n ∈ Finset.range 8320, gain X T G k n : ℝ) : EReal) := by
  have e := fun R => v35_real x0 x1 x2 X T G h0 h1 h2 R k
  have e13 := fun R => v13_real x0 X h0 R k
  unfold val_main_v58 val_main_v41 val_main_v38 val_main_v37 val_main_v36
  generalize val_main_v35 (F := Ideal) x0 x1 x2 = s at *
  generalize val_main_v13 (F := Ideal) x0 = s13 at *
  pointwise [val_main_cst_13, val_main_cst_14]
  rw [Fin.sum_univ_one]
  simp only [e, e13, ← EReal.coe_mul, coe_sum]
  rw [range_real _ (gain_out X T G k)]
  refine congrArg Real.toEReal (Finset.sum_congr rfl fun R _ => ?_)
  unfold gain
  ring

end Cert.LossHeadRefIdeal.Hand
-- ==== Proof.LossEquation.lean ====
/- The loss and its gradient: the kernel's three arrays are the reference's, where the arguments are finite. -/
module

public import proofs.«01_k».proof.Defs
public import proofs.«01_k».proof.Proof.LossArray
public import proofs.«01_k».proof.Proof.LossReference
public import proofs.«01_k».proof.Proof.Gen.LossHeadRefIdeal.Run
public import proofs.«01_k».proof.Proof.Gen.Pre_loss_finite
public import Idealize.ShloMosaic.Lib.StableHlo.ReadAt

@[expose] public section

set_option maxRecDepth 16384

noncomputable section

namespace Cert.LossHeadIdeal.Hand

open Cert.LossHeadIdeal Cert.LossHeadIdeal.Gen Idealize.ShloMosaic Idealize.ShloMosaic.TcCoe Idealize.SL.Sem
open Cert.LossHeadRefIdeal.Read Cert.Norm Cert.Loss

theorem coe_toReal_of_abs {x : EReal} (h : max x (-x) < ⊤) : x = (x.toReal : EReal) := by
  induction x with
  | bot => exact absurd h (by simp)
  | top => exact absurd h (by simp)
  | coe a => rfl

/-- The precondition at an element of each argument. -/
theorem finite_of_pre (h : Vec Ideal S8320x1024 .f32) (t : Vec Ideal S1x8192x1024 .f32) (g : Vec Ideal S1024 .f32)
    (hp : letI := Cert.Pre_loss_finite.Gen.facts; (Cert.Pre_loss_finite.fn (F := Ideal) h t g).1 = (fun _ => 1#1) ∧
      (Cert.Pre_loss_finite.fn (F := Ideal) h t g).2.1 = (fun _ => 1#1) ∧ (Cert.Pre_loss_finite.fn (F := Ideal) h t g).2.2 = fun _ => 1#1) :
    (∀ (R : Fin 8320) (k : Fin 1024), h (ix2 R k) = ((h (ix2 R k)).toReal : EReal)) ∧
    (∀ (s : Fin 8192) (k : Fin 1024), t (ix3 0 s k) = ((t (ix3 0 s k)).toReal : EReal)) ∧
    (∀ k : Fin 1024, g (ix1 k) = ((g (ix1 k)).toReal : EReal)) := by
  have one : ∀ a : Bool, BitVec.ofBool a = 1#1 → a = true := by decide
  obtain ⟨p0, p1, p2⟩ := hp
  refine ⟨fun R k => ?_, fun s k => ?_, fun k => ?_⟩
  · have e := congrFun p0 (ix2 R k)
    pointwise [Cert.Pre_loss_finite.fn] at e
    rw [Sigmoid.inf_word] at e
    exact coe_toReal_of_abs (of_decide_eq_true (one _ e))
  · have e := congrFun p1 (ix3 0 s k)
    pointwise [Cert.Pre_loss_finite.fn] at e
    rw [Sigmoid.inf_word] at e
    exact coe_toReal_of_abs (of_decide_eq_true (one _ e))
  · have e := congrFun p2 (ix1 k)
    pointwise [Cert.Pre_loss_finite.fn] at e
    rw [Sigmoid.inf_word] at e
    exact coe_toReal_of_abs (of_decide_eq_true (one _ e))

/-- The numbers of the arguments, row by row. -/
def rowsOf (h : Vec Ideal S8320x1024 .f32) (n : ℕ) (k : Fin 1024) : ℝ := if e : n < 8320 then (h (ix2 ⟨n, e⟩ k)).toReal else 0
def targetOf (t : Vec Ideal S1x8192x1024 .f32) (n : ℕ) (k : Fin 1024) : ℝ :=
  if e : 16 ≤ n ∧ n - 16 < 8192 then (t (ix3 0 ⟨n - 16, e.2⟩ k)).toReal else 0
def scaleOf (g : Vec Ideal S1024 .f32) (k : Fin 1024) : ℝ := (g (ix1 k)).toReal

variable (m : (ℓ : Loc nD τ sig) → Buf (Elt Ideal) ℓ) (c : Dev nD)

theorem target_apply (R : Fin 8320) (k : Fin 1024) (t : Vec Ideal S1x8192x1024 .f32) (ht : m ((c : Thread nD τ).loc main_arg1) = t) :
    (V m c main_v1 : Vec Ideal S8320x1024 .f32) (ix2 R k) = if e : 16 ≤ R.val ∧ R.val - 16 < 8192 then t (ix3 0 ⟨R.val - 16, e.2⟩ k) else 0 := by
  subst ht
  unfold V
  after_reads_at
  rw [Sigmoid.zero_word]

theorem scale_apply (k : Fin 1024) (g : Vec Ideal S1024 .f32) (hg : m ((c : Thread nD τ).loc main_arg2) = g) :
    (V m c main_v2 : Vec Ideal S1x1024 .f32) (ix2 0 k) = g (ix1 k) := by
  subst hg
  unfold V
  after_reads_at

/-- The kernel and the reference, from memories that agree on the arguments. -/
theorem algebraic : letI := Cert.LossHeadIdeal.Gen.facts; letI := Cert.LossHeadRefIdeal.Gen.facts; letI := Cert.Pre_loss_finite.Gen.facts
    Cert.algebraic_LossHeadIdeal_LossHeadRefIdeal_pre_loss_finite := by
  intro m g m' g' hpre hagree
  let X := fun c : Dev nD => rowsOf (m ((c : Thread nD τ).loc main_arg0))
  let T := fun c : Dev nD => targetOf (m ((c : Thread nD τ).loc main_arg1))
  let G := fun c : Dev nD => scaleOf (m ((c : Thread nD τ).loc main_arg2))
  refine ⟨fun c => dhArr (X c) (T c) (G c), fun c => lossArr (X c) (T c) (G c), fun c => dgArr (X c) (T c) (G c), ?_, ?_⟩
  · refine (θ_run Cert.LossHeadIdeal.defs _ _).mono (fun r h c => ?_) (Cert.LossHeadIdeal.Value.run_blocks m g)
    obtain ⟨f0, f1, f2⟩ := finite_of_pre _ _ _ (hpre c)
    have H : Reals m c (X c) (T c) (G c) := by
      refine ⟨fun R k => ?_, fun R k => ?_, fun k => ?_⟩
      · rw [V_main_arg0]
        refine (f0 R k).trans ?_
        show _ = ((rowsOf _ _ _ : ℝ) : EReal)
        unfold rowsOf
        rw [dif_pos R.isLt]
      · rw [target_apply m c R k _ rfl]
        show _ = ((targetOf _ _ _ : ℝ) : EReal)
        unfold targetOf
        split
        · exact f1 _ k
        · rfl
      · rw [scale_apply m c k _ rfl]
        exact f2 k
    obtain ⟨h3, h4, h5, hargs⟩ := h c
    exact ⟨h3.trans (arr3 m c _ _ _ H), h4.trans (arr4 m c _ _ _ H), h5.trans (arr5 m c _ _ _ H), hargs⟩
  · refine (θ_run Cert.LossHeadRefIdeal.defs _ _).mono (fun r h c => ?_) (Cert.LossHeadRefIdeal.Value.run m' g')
    obtain ⟨f0, f1, f2⟩ := finite_of_pre _ _ _ (hpre c)
    obtain ⟨a0, a1, a2⟩ := hagree c
    obtain ⟨r0, r1, r2, hargs⟩ := h c
    have h0 : ∀ (R : Fin 8320) k, (m' ((c : Thread Cert.LossHeadRefIdeal.nD Cert.LossHeadRefIdeal.τ).loc Cert.LossHeadRefIdeal.main_arg0) : Vec Ideal S8320x1024 .f32) (ix2 R k) = (X c R.val k : EReal) := fun R k => by
      rw [a0]
      refine (f0 R k).trans ?_
      show _ = ((rowsOf _ _ _ : ℝ) : EReal)
      unfold rowsOf
      rw [dif_pos R.isLt]
    have h1 : ∀ (s : Fin 8192) k, (m' ((c : Thread Cert.LossHeadRefIdeal.nD Cert.LossHeadRefIdeal.τ).loc Cert.LossHeadRefIdeal.main_arg1) : Vec Ideal S1x8192x1024 .f32) (ix3 0 s k) = (T c (16 + s.val) k : EReal) := fun s k => by
      rw [a1]
      refine (f1 s k).trans ?_
      show _ = ((targetOf _ _ _ : ℝ) : EReal)
      unfold targetOf
      rw [dif_pos (by omega)]
      have e : ∀ p, (⟨16 + s.val - 16, p⟩ : Fin 8192) = s := fun p => Fin.ext (by simp)
      rw [e]
    have h2 : ∀ k, (m' ((c : Thread Cert.LossHeadRefIdeal.nD Cert.LossHeadRefIdeal.τ).loc Cert.LossHeadRefIdeal.main_arg2) : Vec Ideal S1024 .f32) (ix1 k) = (G c k : EReal) := fun k => by
      rw [a2]
      exact f2 k
    refine ⟨r0.trans ?_, r1.trans ?_, r2.trans ?_, hargs⟩
    · rw [val_main_v56_eq]
      funext i
      obtain ⟨R, k, rfl⟩ : ∃ (R : Fin 8320) (k : Fin 1024), i = ix2 R k := ⟨i 0, i 1, eq_ix2 i⟩
      exact Cert.LossHeadRefIdeal.Hand.v56_real _ _ _ _ _ _ h0 h1 h2 R k
    · rw [val_main_v57_eq]
      funext i
      obtain ⟨p, q, rfl⟩ : ∃ (p : Fin 8) (q : Fin 128), i = ix2 p q := ⟨i 0, i 1, eq_ix2 i⟩
      exact Cert.LossHeadRefIdeal.Hand.v57_real _ _ _ _ _ _ h0 h1 h2 p q
    · rw [val_main_v58_eq]
      funext i
      obtain ⟨p, k, rfl⟩ : ∃ (p : Fin 1) (k : Fin 1024), i = ix2 p k := ⟨i 0, i 1, eq_ix2 i⟩
      obtain rfl : p = 0 := Subsingleton.elim _ _
      exact Cert.LossHeadRefIdeal.Hand.v58_real _ _ _ _ _ _ h0 h1 h2 k

end Cert.LossHeadIdeal.Hand
-- ==== Proof.InProjCases.lean ====
/- The input projection's gradient, point by point: what one grid point leaves in its two blocks, as the kernel's own payloads. -/
module

public import proofs.«01_k».proof.Proof.Gen.InProjIdeal.Value

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

section Cases

variable (c : Dev nD) (i : grid0.Coords)
  (a1 : Memref sig .tc .vmem S640x2944 .bf16) (h1 : a1.IsWhole) (a2 : Memref sig .tc .vmem S1024x2944 .bf16) (h2 : a2.IsWhole)
  (a3 : Memref sig .tc .vmem S640x1024 .f32) (h3 : a3.IsWhole) (a4 : Memref sig .tc .vmem S1x1024 .f32) (h4 : a4.IsWhole)
  (a5 : Memref sig .tc .vmem S640x1024 .f32) (h5 : a5.IsWhole) (a6 : Memref sig .tc .vmem S640x1024 .f32) (h6 : a6.IsWhole)
  (a7 : Memref sig .tc .vmem S1x1024 .f32) (h7 : a7.IsWhole)
  (x0 : Vec F S640x2944 .bf16) (x1 : Vec F S1024x2944 .bf16) (x2 : Vec F S640x1024 .f32) (x3 : Vec F S1x1024 .f32)
  (x4 : Vec F S640x1024 .f32) (xg : Vec F S1x1024 .f32)

theorem dh_B (hc : ¬cond0_0 i) : out0_B_5 c i a1 h1 a2 h2 a3 h3 a4 h4 a5 h5 a6 h6 a7 h7 hc x0 x1 x2 x3 x4 xg
    = k0_pay1 (k0_pay8 x0 x1 x2 x3) (k0_pay10 x4) := by
  unfold out0_B_5
  rw [View.read_writes_eq_canon _ _ _ (cover0_B_5 c i a1 h1 a2 h2 a3 h3 a4 h4 a5 h5 a6 h6 a7 h7 hc x0 x1 x2 x3 x4 xg)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S640x2944) hz, View.ld_unit_zero (S := S1024x2944) hz, View.ld_unit_zero (S := S640x1024) hz, View.ld_unit_zero (S := S1x1024) hz]

theorem dg_B (hc : ¬cond0_0 i) : out0_B_6 c i a1 h1 a2 h2 a3 h3 a4 h4 a5 h5 a6 h6 a7 h7 hc x0 x1 x2 x3 x4 xg
    = k0_pay2 (k0_pay9 x0 x1 x2) xg := by
  unfold out0_B_6
  rw [View.read_writes_eq_canon _ _ _ (cover0_B_6 c i a1 h1 a2 h2 a3 h3 a4 h4 a5 h5 a6 h6 a7 h7 hc x0 x1 x2 x3 x4 xg)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S640x2944) hz, View.ld_unit_zero (S := S1024x2944) hz, View.ld_unit_zero (S := S640x1024) hz, View.ld_unit_zero (S := S1x1024) hz]

theorem dh_A (hc : cond0_0 i) : out0_A_5 c i a1 h1 a2 h2 a3 h3 a4 h4 a5 h5 a6 h6 a7 h7 hc x0 x1 x2 x3 x4
    = k0_pay1 (k0_pay8 x0 x1 x2 x3) (k0_pay10 x4) := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S640x2944) hz, View.ld_unit_zero (S := S1024x2944) hz, View.ld_unit_zero (S := S640x1024) hz, View.ld_unit_zero (S := S1x1024) hz]

theorem dg_A (hc : cond0_0 i) : out0_A_6 c i a1 h1 a2 h2 a3 h3 a4 h4 a5 h5 a6 h6 a7 h7 hc x0 x1 x2 x3 x4
    = k0_pay2 (k0_pay9 x0 x1 x2) k0_pay3 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz]
  simp only [View.readCov_unit_zero (S := S1x1024) _ hz, View.readAt_eq_ld, h1.read_unread, h2.read_unread, h3.read_unread, h4.read_unread, h5.read_unread,
    View.ld_unit_zero (S := S640x2944) hz, View.ld_unit_zero (S := S1024x2944) hz, View.ld_unit_zero (S := S640x1024) hz, View.ld_unit_zero (S := S1x1024) hz]

end Cases

end Cert.InProjIdeal.Hand
-- ==== Proof.InProjReal.lean ====
/- A norm's gradient and the input projection's, over the real numbers. -/
module

public import proofs.«01_k».proof.Proof.NormReal

@[expose] public section

set_option maxRecDepth 16384

noncomputable section

namespace Cert.Norm

variable (U X : ℕ → Fin 1024 → ℝ) (G : Fin 1024 → ℝ)

/-- The gradient of what the norm is applied to, the gradient of the norm's result being `U`. -/
def dx (n : ℕ) (k : Fin 1024) : ℝ :=
  rs (X n) * (U n k * G k - X n k * rs (X n) * ((∑ e, U n e * G e * (X n e * rs (X n))) / 1024))

/-- What a row adds to the gradient of the norm's scale. -/
def dscale (k : Fin 1024) (n : ℕ) : ℝ := U n k * (X n k * rs (X n))

theorem dx_zero (n : ℕ) (h : ∀ k, U n k = 0) (k : Fin 1024) : dx U X G n k = 0 := by
  unfold dx
  simp [h]

theorem dscale_zero (k : Fin 1024) (n : ℕ) (h : U n k = 0) : dscale U X k n = 0 := by
  unfold dscale
  rw [h, zero_mul]

/-- One block's rows after those before. -/
theorem rows_step (f : ℕ → ℝ) (n : ℕ) :
    (∑ s ∈ Finset.range (640 * n), f s) + ∑ r : Fin 640, f (640 * n + r.val) = ∑ s ∈ Finset.range (640 * n + 640), f s := by
  rw [Finset.sum_range_add, Finset.sum_range fun r => f (640 * n + r)]

/-- Rows of padding add nothing. -/
theorem rows_real (f : ℕ → ℝ) (h : ∀ n, 8208 ≤ n → f n = 0) : ∑ n ∈ Finset.range 8320, f n = ∑ R : Fin 8208, f R.val := by
  rw [show 8320 = 8208 + 112 from rfl, Finset.sum_range_add, Finset.sum_range f, add_eq_left]
  exact Finset.sum_eq_zero fun r _ => h _ (by omega)

end Cert.Norm

namespace Cert.InProj

/-- The columns of the projection in the order of the kernel's blocks, and zeros after them. -/
def cols (a : ℕ → ℝ) (j : ℕ) : ℝ :=
  if j < 1536 then a j else if j < 2816 then a (j + 8) else if j < 2824 then a (j - 1280) else 0

/-- A product over the columns is the same in either order. -/
theorem sum_cols (a b : ℕ → ℝ) : ∑ j : Fin 2944, cols a j.val * cols b j.val = ∑ j : Fin 2824, a j.val * b j.val := by
  rw [← Finset.sum_range fun j => cols a j * cols b j, ← Finset.sum_range fun j => a j * b j,
    show 2944 = 1536 + 1280 + 8 + 120 from rfl, show 2824 = 1536 + 8 + 1280 from rfl]
  simp only [Finset.sum_range_add]
  have h0 : ∑ x ∈ Finset.range 1536, cols a x * cols b x = ∑ x ∈ Finset.range 1536, a x * b x :=
    Finset.sum_congr rfl fun x hx => by
      have := Finset.mem_range.mp hx
      unfold cols
      rw [if_pos this, if_pos this]
  have h1 : ∑ x ∈ Finset.range 1280, cols a (1536 + x) * cols b (1536 + x) = ∑ x ∈ Finset.range 1280, a (1536 + 8 + x) * b (1536 + 8 + x) :=
    Finset.sum_congr rfl fun x hx => by
      have := Finset.mem_range.mp hx
      unfold cols
      rw [if_neg (by omega), if_pos (by omega), if_neg (by omega), if_pos (by omega), show 1536 + x + 8 = 1536 + 8 + x by omega]
  have h2 : ∑ x ∈ Finset.range 8, cols a (1536 + 1280 + x) * cols b (1536 + 1280 + x) = ∑ x ∈ Finset.range 8, a (1536 + x) * b (1536 + x) :=
    Finset.sum_congr rfl fun x hx => by
      have := Finset.mem_range.mp hx
      unfold cols
      rw [if_neg (by omega), if_neg (by omega), if_pos (by omega), if_neg (by omega), if_neg (by omega), if_pos (by omega),
        show 1536 + 1280 + x - 1280 = 1536 + x by omega]
  have h3 : ∑ x ∈ Finset.range 120, cols a (1536 + 1280 + 8 + x) * cols b (1536 + 1280 + 8 + x) = 0 :=
    Finset.sum_eq_zero fun x _ => by
      unfold cols
      rw [if_neg (by omega), if_neg (by omega), if_neg (by omega), zero_mul]
  rw [h0, h1, h2, h3]
  ring

variable (P W : ℕ → ℕ → ℝ)

/-- The gradient of the norm's result: the projection's cotangent through the weights. -/
def dhn (n : ℕ) (k : Fin 1024) : ℝ := ∑ j : Fin 2824, P n j.val * W k.val j.val

end Cert.InProj
-- ==== Proof.InProjPayload.lean ====
/- The payloads of the input projection's gradient at one element, where the blocks hold real numbers. -/
module

public import proofs.«01_k».proof.Proof.Gen.InProjIdeal.Skeleton
public import proofs.«01_k».proof.Proof.InProjReal
public import Idealize.ShloMosaic.Lib.Pointwise

@[expose] public section

set_option maxRecDepth 16384

noncomputable section

namespace Cert.InProjIdeal.Hand

open Cert.InProjIdeal Cert.InProjIdeal.Gen Idealize.ShloMosaic Cert.Norm Cert.InProj

variable (n : ℕ) (x0 : Vec Ideal S640x2944 .bf16) (x1 : Vec Ideal S1024x2944 .bf16) (x2 : Vec Ideal S640x1024 .f32)
  (x3 : Vec Ideal S1x1024 .f32) (x4 : Vec Ideal S640x1024 .f32)
  (P W : ℕ → ℕ → ℝ) (X : ℕ → Fin 1024 → ℝ) (G : Fin 1024 → ℝ) (Y : ℕ → Fin 1024 → EReal)
  (h0 : ∀ (r : Fin 640) (j : Fin 2944), x0 (ix2 r j) = (cols (P (n + r.val)) j.val : EReal))
  (h1 : ∀ (k : Fin 1024) (j : Fin 2944), x1 (ix2 k j) = (cols (W k.val) j.val : EReal))
  (h2 : ∀ (r : Fin 640) k, x2 (ix2 r k) = (X (n + r.val) k : EReal))
  (h3 : ∀ k, x3 (ix2 0 k) = (G k : EReal))
  (h4 : ∀ (r : Fin 640) k, x4 (ix2 r k) = Y (n + r.val) k)

include h0 h1 in
theorem pay4_real (r : Fin 640) (k : Fin 1024) : k0_pay4 x0 x1 (ix2 r k) = (dhn P W (n + r.val) k : EReal) := by
  pointwise [k0_pay4]
  simp only [h0, h1, ← EReal.coe_mul, coe_sum]
  exact congrArg Real.toEReal (sum_cols _ _)

include h2 in
theorem pay6_real (r : Fin 640) : k0_pay6 x2 (ix2 r 0) = (rs (X (n + r.val)) : EReal) := by
  pointwise [k0_pay6, k0_pay5]
  simp only [h2, ← EReal.coe_mul, coe_sum, eps_word, width_word]
  rw [div_real _ _ (by norm_num), ← EReal.coe_add]
  exact rsqrt_real (msq_pos (X _))

include h2 in
theorem pay7_real (r : Fin 640) (k : Fin 1024) : k0_pay7 x2 (ix2 r k) = ((X (n + r.val) k * rs (X (n + r.val)) : ℝ) : EReal) := by
  have e := pay6_real n x2 X h2 r
  unfold k0_pay7
  generalize k0_pay6 x2 = s at e
  pointwise [k0_pay5]
  rw [h2, e, EReal.coe_mul]

include h0 h1 h2 h3 in
theorem pay8_real (r : Fin 640) (k : Fin 1024) : k0_pay8 x0 x1 x2 x3 (ix2 r k) = (dx (dhn P W) X G (n + r.val) k : EReal) := by
  have e4 := pay4_real n x0 x1 P W h0 h1 r
  have e6 := pay6_real n x2 X h2 r
  have e7 := pay7_real n x2 X h2 r
  unfold k0_pay8
  generalize k0_pay4 x0 x1 = s4 at *
  generalize k0_pay6 x2 = s6 at *
  generalize k0_pay7 x2 = s7 at *
  pointwise []
  simp only [e4, e6, e7, h3, width_word, ← EReal.coe_mul, coe_sum]
  rw [div_real _ _ (by norm_num), ← EReal.coe_mul, ← EReal.coe_sub, ← EReal.coe_mul]
  rfl

include h0 h1 h2 h3 h4 in
theorem dh_real (r : Fin 640) (k : Fin 1024) :
    k0_pay1 (k0_pay8 x0 x1 x2 x3) (k0_pay10 x4) (ix2 r k) = Y (n + r.val) k + (dx (dhn P W) X G (n + r.val) k : EReal) := by
  have e := pay8_real n x0 x1 x2 x3 P W X G h0 h1 h2 h3 r k
  generalize k0_pay8 x0 x1 x2 x3 = s at *
  pointwise [k0_pay1, k0_pay10]
  rw [e, h4]

include h0 h1 h2 in
theorem dg_real (xg : Vec Ideal S1x1024 .f32) (s : ℝ) (k : Fin 1024) (hs : xg (ix2 0 k) = (s : EReal)) :
    k0_pay2 (k0_pay9 x0 x1 x2) xg (ix2 0 k) = ((s + ∑ r : Fin 640, dscale (dhn P W) X k (n + r.val) : ℝ) : EReal) := by
  have e4 := fun r => pay4_real n x0 x1 P W h0 h1 r k
  have e7 := fun r => pay7_real n x2 X h2 r k
  unfold k0_pay9
  generalize k0_pay4 x0 x1 = s4 at *
  generalize k0_pay7 x2 = s7 at *
  pointwise [k0_pay2]
  simp only [hs, e4, e7, ← EReal.coe_mul, coe_sum, ← EReal.coe_add]
  rfl

theorem pay3_real (k : Fin 1024) : (k0_pay3 : FVec Ideal S1x1024 .f32) (ix2 0 k) = ((0 : ℝ) : EReal) := by
  pointwise [k0_pay3]
  rfl

end Cert.InProjIdeal.Hand
-- ==== Proof.InProjArray.lean ====
/- What the input projection's gradient leaves in its two arrays, where the arrays it is launched on hold real numbers. -/
module

public import proofs.«01_k».proof.Proof.InProjCases
public import proofs.«01_k».proof.Proof.InProjPayload

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)
open Cert.Norm Cert.InProj

variable (m : (ℓ : Loc nD τ sig) → Buf (Elt Ideal) ℓ) (c : Dev nD)

theorem row_lt (t : Fin cfg0.N) (r : Fin 640) : 640 * t.val + r.val < 8320 := by
  have hN : cfg0.N = 13 := N_0
  omega

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = 0 ∧ win0_6.index t 1 = 0 := by decide +kernel

theorem block0 (t : Fin cfg0.N) (r : Fin 640) (k : Fin 2944) :
    (iblk m c 0 t : Vec Ideal S640x2944 .bf16) (ix2 r k) = V m c main_v12 (ix2 ⟨640 * t.val + r.val, row_lt t r⟩ k) := by
  unfold iblk
  rw [View.read_apply]
  show V m c main_v12 _ = _
  congr 1
  funext a
  apply Fin.ext
  match a with
  | 0 => show win0_0.index t 0 * 640 + 1 * r.val = _
         rw [(index0 t).1, one_mul, mul_comm]; rfl
  | 1 => show win0_0.index t 1 * 2944 + 1 * k.val = _
         rw [(index0 t).2, one_mul, Nat.zero_mul, Nat.zero_add]; rfl

theorem block1 (t : Fin cfg0.N) (r : Fin 1024) (k : Fin 2944) :
    (iblk m c 1 t : Vec Ideal S1024x2944 .bf16) (ix2 r k) = V m c main_v5 (ix2 r k) := by
  unfold iblk
  rw [View.read_apply]
  show V m c main_v5 _ = _
  congr 1
  funext a
  apply Fin.ext
  match a with
  | 0 => show win0_1.index t 0 * 1024 + 1 * r.val = _
         rw [(index1 t).1, one_mul, Nat.zero_mul, Nat.zero_add]; rfl
  | 1 => show win0_1.index t 1 * 2944 + 1 * k.val = _
         rw [(index1 t).2, one_mul, Nat.zero_mul, Nat.zero_add]; rfl

theorem block2 (t : Fin cfg0.N) (r : Fin 640) (k : Fin 1024) :
    (iblk m c 2 t : Vec Ideal S640x1024 .f32) (ix2 r k) = V m c main_v13 (ix2 ⟨640 * t.val + r.val, row_lt t r⟩ k) := by
  unfold iblk
  rw [View.read_apply]
  show V m c main_v13 _ = _
  congr 1
  funext a
  apply Fin.ext
  match a with
  | 0 => show win0_2.index t 0 * 640 + 1 * r.val = _
         rw [(index2 t).1, one_mul, mul_comm]; rfl
  | 1 => show win0_2.index t 1 * 1024 + 1 * k.val = _
         rw [(index2 t).2, one_mul, Nat.zero_mul, Nat.zero_add]; rfl

theorem block3 (t : Fin cfg0.N) (k : Fin 1024) :
    (iblk m c 3 t : Vec Ideal S1x1024 .f32) (ix2 0 k) = V m c main_v14 (ix2 0 k) := by
  unfold iblk
  rw [View.read_apply]
  show V m c main_v14 _ = _
  congr 1
  funext a
  apply Fin.ext
  match a with
  | 0 => show win0_3.index t 0 * 1 + 1 * 0 = _
         rw [(index3 t).1]; rfl
  | 1 => show win0_3.index t 1 * 1024 + 1 * k.val = _
         rw [(index3 t).2, one_mul, Nat.zero_mul, Nat.zero_add]; rfl

theorem block4 (t : Fin cfg0.N) (r : Fin 640) (k : Fin 1024) :
    (iblk m c 4 t : Vec Ideal S640x1024 .f32) (ix2 r k) = V m c main_v15 (ix2 ⟨640 * t.val + r.val, row_lt t r⟩ k) := by
  unfold iblk
  rw [View.read_apply]
  show V m c main_v15 _ = _
  congr 1
  funext a
  apply Fin.ext
  match a with
  | 0 => show win0_4.index t 0 * 640 + 1 * r.val = _
         rw [(index4 t).1, one_mul, mul_comm]; rfl
  | 1 => show win0_4.index t 1 * 1024 + 1 * k.val = _
         rw [(index4 t).2, one_mul, Nat.zero_mul, Nat.zero_add]; rfl

variable (P W : ℕ → ℕ → ℝ) (X : ℕ → Fin 1024 → ℝ) (G : Fin 1024 → ℝ) (Y : ℕ → Fin 1024 → EReal)

/-- The arrays of the launch hold these numbers; the residual's gradient may be any. -/
structure Reals : Prop where
  p : ∀ (R : Fin 8320) (j : Fin 2944), (V m c main_v12 : Vec Ideal S8320x2944 .bf16) (ix2 R j) = (cols (P R.val) j.val : EReal)
  w : ∀ (k : Fin 1024) (j : Fin 2944), (V m c main_v5 : Vec Ideal S1024x2944 .bf16) (ix2 k j) = (cols (W k.val) j.val : EReal)
  x : ∀ (R : Fin 8320) k, (V m c main_v13 : Vec Ideal S8320x1024 .f32) (ix2 R k) = (X R.val k : EReal)
  g : ∀ k, (V m c main_v14 : Vec Ideal S1x1024 .f32) (ix2 0 k) = (G k : EReal)
  y : ∀ (R : Fin 8320) k, (V m c main_v15 : Vec Ideal S8320x1024 .f32) (ix2 R k) = Y R.val k

/-- What the two blocks hold after point `n`. -/
def Holds (n : ℕ) (o : Vec Ideal S640x1024 .f32 × Vec Ideal S1x1024 .f32) : Prop :=
  (∀ (r : Fin 640) (k : Fin 1024), o.1 (ix2 r k) = Y (640 * n + r.val) k + (dx (dhn P W) X G (640 * n + r.val) k : EReal)) ∧
  (∀ k : Fin 1024, o.2 (ix2 0 k) = ((∑ s ∈ Finset.range (640 * n + 640), dscale (dhn P W) X k s : ℝ) : EReal))

variable (H : Reals m c P W X G Y)

include H in
/-- One point's payloads over what the point before left. -/
theorem point_holds (t : Fin cfg0.N) (xg : Vec Ideal S1x1024 .f32)
    (hg : ∀ k, xg (ix2 0 k) = ((∑ s ∈ Finset.range (640 * t.val), dscale (dhn P W) X k s : ℝ) : EReal)) :
    Holds P W X G Y t.val (k0_pay1 (k0_pay8 (iblk m c 0 t) (iblk m c 1 t) (iblk m c 2 t) (iblk m c 3 t)) (k0_pay10 (iblk m c 4 t)),
      k0_pay2 (k0_pay9 (iblk m c 0 t) (iblk m c 1 t) (iblk m c 2 t)) xg) := by
  have h0 : ∀ (r : Fin 640) (j : Fin 2944), (iblk m c 0 t : Vec Ideal S640x2944 .bf16) (ix2 r j) = (cols (P (640 * t.val + r.val)) j.val : EReal) :=
    fun r j => by rw [block0]; exact H.p _ j
  have h1 : ∀ (k : Fin 1024) (j : Fin 2944), (iblk m c 1 t : Vec Ideal S1024x2944 .bf16) (ix2 k j) = (cols (W k.val) j.val : EReal) :=
    fun k j => by rw [block1]; exact H.w k j
  have h2 : ∀ (r : Fin 640) k, (iblk m c 2 t : Vec Ideal S640x1024 .f32) (ix2 r k) = (X (640 * t.val + r.val) k : EReal) :=
    fun r k => by rw [block2]; exact H.x _ k
  have h3 : ∀ k, (iblk m c 3 t : Vec Ideal S1x1024 .f32) (ix2 0 k) = (G k : EReal) :=
    fun k => by rw [block3]; exact H.g k
  have h4 : ∀ (r : Fin 640) k, (iblk m c 4 t : Vec Ideal S640x1024 .f32) (ix2 r k) = Y (640 * t.val + r.val) k :=
    fun r k => by rw [block4]; exact H.y _ k
  refine ⟨fun r k => ?_, fun k => ?_⟩
  · exact dh_real (640 * t.val) _ _ _ _ _ P W X G Y h0 h1 h2 h3 h4 r k
  · show k0_pay2 _ _ _ = _
    rw [dg_real (640 * t.val) _ _ _ P W X h0 h1 h2 xg _ k (hg k), rows_step]

include H in
theorem holds_at (n : ℕ) (h : n < cfg0.N) : Holds P W X G Y n (outsAt0 m c n h) := by
  have hN : cfg0.N = 13 := N_0
  induction n with
  | zero =>
    rw [outsAt0_A m c ⟨0, h⟩ rfl, dh_A, dg_A]
    refine point_holds m c P W X G Y H ⟨0, h⟩ _ (fun k => ?_)
    rw [pay3_real]; simp
  | succ n ih =>
    obtain ⟨-, h2⟩ := ih (by omega)
    have hB : ¬ (n + 1) % 13 = 0 := by omega
    rw [outsAt0_B m c ⟨n + 1, h⟩ hB, dh_B, dg_B]
    exact point_holds m c P W X G Y H ⟨n + 1, h⟩ _ (fun k => h2 k)

/-! ### The arrays -/

/-- The array of the gradient, and that of the scale's. -/
def dhArr : Vec Ideal S8320x1024 .f32 := fun i => Y (i 0).val (i 1) + (dx (dhn P W) X G (i 0).val (i 1) : EReal)
def dgArr : Vec Ideal S1x1024 .f32 := fun i => ((∑ n ∈ Finset.range 8320, dscale (dhn P W) X (i 1) n : ℝ) : EReal)

theorem mem_blk5 (t : Fin cfg0.N) (i : S8320x1024.Idx) :
    i ∈ ((cfg0.win 5).blk t).view.set ↔ 640 * t.val ≤ (i 0).val ∧ (i 0).val < 640 * t.val + 640 := by
  show i ∈ ((View.whole main_v16_0).slice (win0_5.rect t)).set ↔ _
  rw [View.set_slice_whole, Rect.mem_set_unit]
  constructor
  · intro h
    have h0 : win0_5.index t 0 * 640 ≤ (i 0).val ∧ (i 0).val < win0_5.index t 0 * 640 + 640 := h 0
    rw [(index5 t).1] at h0
    omega
  · intro h a
    match a with
    | 0 => show win0_5.index t 0 * 640 ≤ (i 0).val ∧ (i 0).val < win0_5.index t 0 * 640 + 640
           rw [(index5 t).1]; omega
    | 1 => show win0_5.index t 1 * 1024 ≤ (i 1).val ∧ (i 1).val < win0_5.index t 1 * 1024 + 1024
           have h1 : (i 1).val < 1024 := (i 1).isLt
           rw [(index5 t).2]; omega

include H in
theorem arr5 : (dats m 0 c).arrAt 5 cfg0.N = dhArr P W X G Y := by
  have hN : cfg0.N = 13 := N_0
  refine (dats m 0 c).arrAt_eq_of_cover 5 _ (fun t _ => ?_) (fun i => ?_)
  · rw [Value.flushed5]
    show (outsAt0 m c t.val t.isLt).1 = ((cfg0.win 5).blk t).view.read (Elt Ideal) (dhArr P W X G Y)
    funext j
    obtain ⟨r, k, rfl⟩ : ∃ (r : Fin 640) (k : Fin 1024), j = ix2 r k := ⟨j 0, j 1, eq_ix2 j⟩
    rw [(holds_at m c P W X G Y H t.val t.isLt).1 r k, View.read_apply]
    show _ = dhArr P W X G Y _
    have e0 : 640 * t.val + r.val = win0_5.index t 0 * 640 + 1 * r.val := by rw [(index5 t).1, one_mul, mul_comm]
    have e1 : k.val = win0_5.index t 1 * 1024 + 1 * k.val := by rw [(index5 t).2, one_mul, Nat.zero_mul, Nat.zero_add]
    refine (congrFun (congrArg (fun n k => Y n k + (dx (dhn P W) X G n k : EReal)) e0) k).trans ?_
    exact congrArg (fun k => Y _ k + (dx (dhn P W) X G _ k : EReal)) (Fin.ext e1)
  · have hi : (i 0).val < 8320 := (i 0).isLt
    refine ⟨⟨(i 0).val / 640, by omega⟩, flush0_5 _, ?_⟩
    rw [mem_blk5]; dsimp only; omega

theorem mem_blk6 (t : Fin cfg0.N) (i : S1x1024.Idx) : i ∈ ((cfg0.win 6).blk t).view.set := by
  show i ∈ ((View.whole main_v16_1).slice (win0_6.rect t)).set
  rw [View.set_slice_whole, Rect.mem_set_unit]
  intro a
  match a with
  | 0 => show win0_6.index t 0 * 1 ≤ (i 0).val ∧ (i 0).val < win0_6.index t 0 * 1 + 1
         have h0 : (i 0).val < 1 := (i 0).isLt
         rw [(index6 t).1]; omega
  | 1 => show win0_6.index t 1 * 1024 ≤ (i 1).val ∧ (i 1).val < win0_6.index t 1 * 1024 + 1024
         have h1 : (i 1).val < 1024 := (i 1).isLt
         rw [(index6 t).2]; omega

/-- Only the last point writes the sum back. -/
theorem flush6 : ∀ t : Fin grid0.N, win0_6.flush t = true ↔ t.val = 12 := by decide +kernel

include H in
theorem arr6 : (dats m 0 c).arrAt 6 cfg0.N = dgArr P W X := by
  have hN : cfg0.N = 13 := N_0
  refine (dats m 0 c).arrAt_eq_of_cover 6 _ (fun t ht => ?_) (fun i => ?_)
  · have h12 : t.val = 12 := (flush6 t).mp ht
    rw [Value.flushed6]
    show (outsAt0 m c t.val t.isLt).2 = ((cfg0.win 6).blk t).view.read (Elt Ideal) (dgArr P W X)
    funext j
    obtain ⟨p, k, rfl⟩ : ∃ (p : Fin 1) (k : Fin 1024), j = ix2 p k := ⟨j 0, j 1, eq_ix2 j⟩
    obtain rfl : p = 0 := Subsingleton.elim _ _
    rw [(holds_at m c P W X G Y H t.val t.isLt).2 k, View.read_apply]
    show _ = dgArr P W X _
    unfold dgArr
    rw [h12]
    refine congrArg Real.toEReal (Finset.sum_congr rfl fun n _ => congrArg (fun k => dscale (dhn P W) X k n) (Fin.ext ?_))
    show _ = win0_6.index t 1 * 1024 + 1 * k.val
    rw [(index6 t).2, one_mul, Nat.zero_mul, Nat.zero_add]
  · exact ⟨⟨12, by omega⟩, (flush6 _).mpr rfl, mem_blk6 _ _⟩

end Cert.InProjIdeal.Hand
-- ==== Proof.InProjReference.lean ====
/- The reference's gradient of the input projection and its norm, where the arguments are finite. -/
module

public import proofs.«01_k».proof.Proof.Gen.InProjRefIdeal.Read
public import proofs.«01_k».proof.Proof.InProjReal
public import proofs.«01_k».proof.Proof.Sigmoid
public import Idealize.ShloMosaic.Lib.Pointwise

@[expose] public section

set_option maxRecDepth 16384

noncomputable section

namespace Cert.InProjRefIdeal.Hand

open Cert.InProjRefIdeal Cert.InProjRefIdeal.Read Idealize.ShloMosaic Cert.Norm Cert.InProj

variable (x0 : Vec Ideal S8208x1024 .f32) (x1 : Vec Ideal S1024 .f32) (x2 : Vec Ideal S1024x2824 .f32) (x3 : Vec Ideal S8208x2824 .f32)
  (x4 : Vec Ideal S8208x1024 .f32) (P W : ℕ → ℕ → ℝ) (X : ℕ → Fin 1024 → ℝ) (G : Fin 1024 → ℝ) (Y : ℕ → Fin 1024 → EReal)
  (h0 : ∀ (R : Fin 8208) k, x0 (ix2 R k) = (X R.val k : EReal)) (h1 : ∀ k, x1 (ix1 k) = (G k : EReal))
  (h2 : ∀ (k : Fin 1024) (j : Fin 2824), x2 (ix2 k j) = (W k.val j.val : EReal))
  (h3 : ∀ (R : Fin 8208) (j : Fin 2824), x3 (ix2 R j) = (P R.val j.val : EReal))
  (h4 : ∀ (R : Fin 8208) k, x4 (ix2 R k) = Y R.val k)

include h0 in
theorem v6_real (R : Fin 8208) : val_main_v6 (F := Ideal) x0 (ix2 R 0) = (msq (X R.val) : EReal) := by
  pointwise [val_main_v6, val_main_v5, val_main_v4, val_main_v3, val_main_v2, val_main_v1, val_main_v0, val_main_cst, val_main_cst_0, val_main_cst_1]
  simp only [h0, ← EReal.coe_mul, coe_sum, eps_word, width_word]
  rw [div_real _ _ (by norm_num), ← EReal.coe_add]
  rfl

include h0 in
theorem v7_real (R : Fin 8208) : val_main_v7 (F := Ideal) x0 (ix2 R 0) = (rs (X R.val) : EReal) := by
  have e := v6_real x0 X h0 R
  unfold val_main_v7
  generalize val_main_v6 (F := Ideal) x0 = s at e
  pointwise []
  rw [e]
  exact rsqrt_real (msq_pos _)

include h0 in
theorem v10_real (R : Fin 8208) : val_main_v10 (F := Ideal) x0 (ix2 R 0) = ((-(1 / 2) * (rs (X R.val) / msq (X R.val)) : ℝ) : EReal) := by
  have e6 := v6_real x0 X h0 R
  have e7 := v7_real x0 X h0 R
  unfold val_main_v10 val_main_v8
  generalize val_main_v6 (F := Ideal) x0 = s6 at *
  generalize val_main_v7 (F := Ideal) x0 = s7 at *
  pointwise [val_main_v9, val_main_cst_2]
  rw [e6, e7, neg_half_word, div_real _ _ (msq_pos _).ne', ← EReal.coe_mul]

include h0 in
theorem v12_real (R : Fin 8208) (k : Fin 1024) : val_main_v12 (F := Ideal) x0 (ix2 R k) = ((X R.val k * rs (X R.val) : ℝ) : EReal) := by
  have e7 := v7_real x0 X h0 R
  unfold val_main_v12 val_main_v11
  generalize val_main_v7 (F := Ideal) x0 = s7 at *
  pointwise []
  rw [e7, h0, ← EReal.coe_mul]

include h2 h3 in
theorem v17_real (R : Fin 8208) (k : Fin 1024) : val_main_v17 (F := Ideal) x2 x3 (ix2 R k) = (dhn P W R.val k : EReal) := by
  pointwise [val_main_v17]
  simp only [h2, h3, ← EReal.coe_mul, coe_sum]
  rfl

include h1 h2 h3 in
theorem v22_real (R : Fin 8208) (k : Fin 1024) : val_main_v22 (F := Ideal) x1 x2 x3 (ix2 R k) = ((dhn P W R.val k * G k : ℝ) : EReal) := by
  have e := v17_real x2 x3 P W h2 h3 R k
  unfold val_main_v22
  generalize val_main_v17 (F := Ideal) x2 x3 = s at *
  pointwise [val_main_v21, val_main_v13]
  rw [e, h1, ← EReal.coe_mul]

include h0 h1 h2 h3 in
theorem v33_real (R : Fin 8208) : val_main_v33 (F := Ideal) x0 x1 x2 x3 (ix1 R) =
    (((∑ k, X R.val k * (dhn P W R.val k * G k)) * (-(1 / 2) * (rs (X R.val) / msq (X R.val))) / 1024 : ℝ) : EReal) := by
  have e := v22_real x1 x2 x3 P W G h1 h2 h3 R
  have e10 := v10_real x0 X h0 R
  unfold val_main_v33 val_main_v32 val_main_v30 val_main_v26 val_main_v25 val_main_v24
  generalize val_main_v22 (F := Ideal) x1 x2 x3 = s at *
  generalize val_main_v10 (F := Ideal) x0 = s10 at *
  pointwise [val_main_v31, val_main_cst_6, val_main_cst_5, val_main_cst_7]
  rw [Fin.sum_univ_one]
  simp only [h0, e, e10, ← EReal.coe_mul, coe_sum, width_word]
  rw [div_real _ _ (by norm_num)]

include h0 h1 h2 h3 h4 in
theorem v38_real (R : Fin 8208) (k : Fin 1024) : val_main_v38 (F := Ideal) x0 x1 x2 x3 x4 (ix2 R k) = Y R.val k + (dx (dhn P W) X G R.val k : EReal) := by
  have e22 := v22_real x1 x2 x3 P W G h1 h2 h3 R k
  have e33 := v33_real x0 x1 x2 x3 P W X G h0 h1 h2 h3 R
  have e7 := v7_real x0 X h0 R
  unfold val_main_v38 val_main_v37 val_main_v36 val_main_v35 val_main_v34 val_main_v29 val_main_v28 val_main_v27
  generalize val_main_v33 (F := Ideal) x0 x1 x2 x3 = s33 at *
  generalize val_main_v22 (F := Ideal) x1 x2 x3 = s22 at *
  generalize val_main_v7 (F := Ideal) x0 = s7 at *
  pointwise []
  rw [h0, h4, e7, e22, e33, add_assoc, add_assoc]
  simp only [← EReal.coe_mul, ← EReal.coe_add]
  refine congrArg (fun a : ℝ => Y R.val k + (a : EReal)) ?_
  rw [← add_assoc]
  exact grad (X R.val) (fun k => dhn P W R.val k * G k) k

include h0 h1 h2 h3 h4 in
/-- The gradient of the residual. -/
theorem v39_real (hP : ∀ n j, 8208 ≤ n → P n j = 0) (hY : ∀ n k, 8208 ≤ n → Y n k = 0) (R : Fin 8320) (k : Fin 1024) :
    val_main_v39 (F := Ideal) x0 x1 x2 x3 x4 (ix2 R k) = Y R.val k + (dx (dhn P W) X G R.val k : EReal) := by
  have e := v38_real x0 x1 x2 x3 x4 P W X G Y h0 h1 h2 h3 h4
  unfold val_main_v39
  generalize val_main_v38 (F := Ideal) x0 x1 x2 x3 x4 = s at *
  pointwise [val_main_call0_v0, val_main_c]
  split
  · next h => exact e ⟨R.val, by omega⟩ k
  · rw [hY _ _ (by omega), dx_zero _ _ _ _ (fun k => ?_), zero_add]
    · exact Sigmoid.zero_word _
    · unfold dhn
      exact Finset.sum_eq_zero fun j _ => by rw [hP _ _ (by omega), zero_mul]

include h0 h2 h3 in
/-- The gradient of the scale. -/
theorem v40_real (hP : ∀ n j, 8208 ≤ n → P n j = 0) (k : Fin 1024) :
    val_main_v40 (F := Ideal) x0 x2 x3 (ix2 0 k) = ((∑ n ∈ Finset.range 8320, dscale (dhn P W) X k n : ℝ) : EReal) := by
  have e := fun R => v17_real x2 x3 P W h2 h3 R k
  have e12 := fun R => v12_real x0 X h0 R k
  unfold val_main_v40 val_main_v23 val_main_v20 val_main_v19 val_main_v18
  generalize val_main_v17 (F := Ideal) x2 x3 = s at *
  generalize val_main_v12 (F := Ideal) x0 = s12 at *
  pointwise [val_main_cst_3, val_main_cst_4]
  rw [Fin.sum_univ_one]
  simp only [e, e12, ← EReal.coe_mul, coe_sum]
  rw [rows_real _ fun n hn => dscale_zero _ _ _ _ (Finset.sum_eq_zero fun j _ => by rw [hP _ _ hn, zero_mul])]
  refine congrArg Real.toEReal (Finset.sum_congr rfl fun R _ => ?_)
  unfold dscale
  ring

end Cert.InProjRefIdeal.Hand
-- ==== Proof.InProjEquation.lean ====
/- The input projection's gradient and its norm's: the kernel's two arrays are the reference's, where the arguments are finite. -/
module

public import proofs.«01_k».proof.Defs
public import proofs.«01_k».proof.Proof.InProjArray
public import proofs.«01_k».proof.Proof.InProjReference
public import proofs.«01_k».proof.Proof.Gen.InProjRefIdeal.Run
public import proofs.«01_k».proof.Proof.Gen.Pre_inproj_finite
public import Idealize.ShloMosaic.Lib.StableHlo.ReadAt

@[expose] public section

set_option maxRecDepth 16384

noncomputable section

namespace Cert.InProjIdeal.Hand

open Cert.InProjIdeal Cert.InProjIdeal.Gen Idealize.ShloMosaic Idealize.ShloMosaic.TcCoe Idealize.SL.Sem
open Cert.InProjRefIdeal.Read Cert.Norm Cert.InProj

theorem coe_toReal_of_abs {x : EReal} (h : max x (-x) < ⊤) : x = (x.toReal : EReal) := by
  induction x with
  | bot => exact absurd h (by simp)
  | top => exact absurd h (by simp)
  | coe a => rfl

/-- The precondition at an element of each argument that it is about. -/
theorem finite_of_pre (h : Vec Ideal S8208x1024 .f32) (g : Vec Ideal S1024 .f32) (w : Vec Ideal S1024x2824 .f32)
    (d : Vec Ideal S8208x2824 .f32) (y : Vec Ideal S8208x1024 .f32)
    (hp : letI := Cert.Pre_inproj_finite.Gen.facts; (Cert.Pre_inproj_finite.fn (F := Ideal) h g w d y).1 = (fun _ => 1#1) ∧
      (Cert.Pre_inproj_finite.fn (F := Ideal) h g w d y).2.1 = (fun _ => 1#1) ∧
      (Cert.Pre_inproj_finite.fn (F := Ideal) h g w d y).2.2.1 = (fun _ => 1#1) ∧
      (Cert.Pre_inproj_finite.fn (F := Ideal) h g w d y).2.2.2 = fun _ => 1#1) :
    (∀ (R : Fin 8208) (k : Fin 1024), h (ix2 R k) = ((h (ix2 R k)).toReal : EReal)) ∧
    (∀ k : Fin 1024, g (ix1 k) = ((g (ix1 k)).toReal : EReal)) ∧
    (∀ (k : Fin 1024) (j : Fin 2824), w (ix2 k j) = ((w (ix2 k j)).toReal : EReal)) ∧
    (∀ (R : Fin 8208) (j : Fin 2824), d (ix2 R j) = ((d (ix2 R j)).toReal : EReal)) := by
  have one : ∀ a : Bool, BitVec.ofBool a = 1#1 → a = true := by decide
  obtain ⟨p0, p1, p2, p3⟩ := hp
  refine ⟨fun R k => ?_, fun k => ?_, fun k j => ?_, fun R j => ?_⟩
  · have e := congrFun p0 (ix2 R k)
    pointwise [Cert.Pre_inproj_finite.fn] at e
    rw [Sigmoid.inf_word] at e
    exact coe_toReal_of_abs (of_decide_eq_true (one _ e))
  · have e := congrFun p1 (ix1 k)
    pointwise [Cert.Pre_inproj_finite.fn] at e
    rw [Sigmoid.inf_word] at e
    exact coe_toReal_of_abs (of_decide_eq_true (one _ e))
  · have e := congrFun p2 (ix2 k j)
    pointwise [Cert.Pre_inproj_finite.fn] at e
    rw [Sigmoid.inf_word] at e
    exact coe_toReal_of_abs (of_decide_eq_true (one _ e))
  · have e := congrFun p3 (ix2 R j)
    pointwise [Cert.Pre_inproj_finite.fn] at e
    rw [Sigmoid.inf_word] at e
    exact coe_toReal_of_abs (of_decide_eq_true (one _ e))

/-- The numbers of the arguments; rows past the last are zeros. -/
def rowsOf (h : Vec Ideal S8208x1024 .f32) (n : ℕ) (k : Fin 1024) : ℝ := if e : n < 8208 then (h (ix2 ⟨n, e⟩ k)).toReal else 0
def scaleOf (g : Vec Ideal S1024 .f32) (k : Fin 1024) : ℝ := (g (ix1 k)).toReal
def weightOf (w : Vec Ideal S1024x2824 .f32) (k j : ℕ) : ℝ := if e : k < 1024 ∧ j < 2824 then (w (ix2 ⟨k, e.1⟩ ⟨j, e.2⟩)).toReal else 0
def projOf (d : Vec Ideal S8208x2824 .f32) (n j : ℕ) : ℝ := if e : n < 8208 ∧ j < 2824 then (d (ix2 ⟨n, e.1⟩ ⟨j, e.2⟩)).toReal else 0
def residualOf (y : Vec Ideal S8208x1024 .f32) (n : ℕ) (k : Fin 1024) : EReal := if e : n < 8208 then y (ix2 ⟨n, e⟩ k) else 0

variable (m : (ℓ : Loc nD τ sig) → Buf (Elt Ideal) ℓ) (c : Dev nD)

theorem weight_apply (W : ℕ → ℕ → ℝ) (k : Fin 1024) (w : Vec Ideal S1024x2824 .f32) (hw : m ((c : Thread nD τ).loc main_arg2) = w)
    (hW : ∀ j : Fin 2824, w (ix2 k j) = (W k.val j.val : EReal)) (j : Fin 2944) :
    (V m c main_v5 : Vec Ideal S1024x2944 .bf16) (ix2 k j) = (cols (W k.val) j.val : EReal) := by
  subst hw
  unfold V
  after_reads_at
  unfold cols
  split
  · after_reads_at
    exact hW ⟨j.val, by omega⟩
  · split
    · after_reads_at
      rw [if_pos (show j.val < 2816 by omega), show j.val + 8 = 1544 + (j.val - 1536) by omega]
      exact hW ⟨1544 + (j.val - 1536), by omega⟩
    · rw [if_neg (show ¬ j.val < 2816 by omega)]
      split
      · after_reads_at
        rw [if_pos (show j.val < 2824 by omega), show j.val - 1280 = 1536 + (j.val - 1536 - 1280) by omega]
        exact hW ⟨1536 + (j.val - 1536 - 1280), by omega⟩
      · after_reads_at
        rw [if_neg (show ¬ j.val < 2824 by omega)]
        rfl

theorem proj_apply (P : ℕ → ℕ → ℝ) (R : Fin 8320) (d : Vec Ideal S8208x2824 .f32) (hd : m ((c : Thread nD τ).loc main_arg3) = d)
    (hP : ∀ (h : R.val < 8208) (j : Fin 2824), d (ix2 ⟨R.val, h⟩ j) = (P R.val j.val : EReal)) (hP0 : 8208 ≤ R.val → ∀ j, P R.val j = 0)
    (j : Fin 2944) : (V m c main_v12 : Vec Ideal S8320x2944 .bf16) (ix2 R j) = (cols (P R.val) j.val : EReal) := by
  have hd' : ∀ n < 2824, (if h : R.val < 8208 ∧ n < 2824 then d (ix2 ⟨R.val, h.1⟩ ⟨n, h.2⟩) else FloatOps.sitofp (F := Ideal) FTy.f32 0#32) = (P R.val n : EReal) := by
    intro n hn
    split
    · next h => exact hP h.1 ⟨n, hn⟩
    · rw [hP0 (by omega), Sigmoid.zero_word]
      rfl
  subst hd
  unfold V
  after_reads_at
  unfold cols
  split
  · after_reads_at
    exact hd' (j.val) (by omega)
  · split
    · after_reads_at
      refine (hd' (1544 + (j.val - 1536)) (by omega)).trans ?_
      rw [if_pos (show j.val < 2816 by omega), show j.val + 8 = 1544 + (j.val - 1536) by omega]
    · split
      · after_reads_at
        refine (hd' (1536 + (j.val - 1536 - 1280)) (by omega)).trans ?_
        rw [if_neg (show ¬ j.val < 2816 by omega), if_pos (show j.val < 2824 by omega), show j.val - 1280 = 1536 + (j.val - 1536 - 1280) by omega]
      · after_reads_at
        rw [if_neg (show ¬ j.val < 2816 by omega), if_neg (show ¬ j.val < 2824 by omega)]
        rfl

theorem rows_apply (R : Fin 8320) (k : Fin 1024) (h : Vec Ideal S8208x1024 .f32) (hh : m ((c : Thread nD τ).loc main_arg0) = h) :
    (V m c main_v13 : Vec Ideal S8320x1024 .f32) (ix2 R k) = if e : R.val < 8208 then h (ix2 ⟨R.val, e⟩ k) else 0 := by
  subst hh
  unfold V
  after_reads_at
  rw [Sigmoid.zero_word]

theorem residual_apply (R : Fin 8320) (k : Fin 1024) (y : Vec Ideal S8208x1024 .f32) (hy : m ((c : Thread nD τ).loc main_arg4) = y) :
    (V m c main_v15 : Vec Ideal S8320x1024 .f32) (ix2 R k) = if e : R.val < 8208 then y (ix2 ⟨R.val, e⟩ k) else 0 := by
  subst hy
  unfold V
  after_reads_at
  rw [Sigmoid.zero_word]

theorem scale_apply (k : Fin 1024) (g : Vec Ideal S1024 .f32) (hg : m ((c : Thread nD τ).loc main_arg1) = g) :
    (V m c main_v14 : Vec Ideal S1x1024 .f32) (ix2 0 k) = g (ix1 k) := by
  subst hg
  unfold V
  after_reads_at

/-- The kernel and the reference, from memories that agree on the arguments. -/
theorem algebraic : letI := Cert.InProjIdeal.Gen.facts; letI := Cert.InProjRefIdeal.Gen.facts; letI := Cert.Pre_inproj_finite.Gen.facts
    Cert.algebraic_InProjIdeal_InProjRefIdeal_pre_inproj_finite := by
  intro m g m' g' hpre hagree
  let X := fun c : Dev nD => rowsOf (m ((c : Thread nD τ).loc main_arg0))
  let G := fun c : Dev nD => scaleOf (m ((c : Thread nD τ).loc main_arg1))
  let W := fun c : Dev nD => weightOf (m ((c : Thread nD τ).loc main_arg2))
  let P := fun c : Dev nD => projOf (m ((c : Thread nD τ).loc main_arg3))
  let Y := fun c : Dev nD => residualOf (m ((c : Thread nD τ).loc main_arg4))
  have hX : ∀ c (R : Fin 8208) (k : Fin 1024), (m ((c : Thread nD τ).loc main_arg0) : Vec Ideal S8208x1024 .f32) (ix2 R k) = (X c R.val k : EReal) := fun c R k => by
    refine ((finite_of_pre _ _ _ _ _ (hpre c)).1 R k).trans ?_
    show _ = ((rowsOf _ _ _ : ℝ) : EReal)
    unfold rowsOf
    rw [dif_pos R.isLt]
  have hG : ∀ c (k : Fin 1024), (m ((c : Thread nD τ).loc main_arg1) : Vec Ideal S1024 .f32) (ix1 k) = (G c k : EReal) := fun c k =>
    (finite_of_pre _ _ _ _ _ (hpre c)).2.1 k
  have hW : ∀ c (k : Fin 1024) (j : Fin 2824), (m ((c : Thread nD τ).loc main_arg2) : Vec Ideal S1024x2824 .f32) (ix2 k j) = (W c k.val j.val : EReal) := fun c k j => by
    refine ((finite_of_pre _ _ _ _ _ (hpre c)).2.2.1 k j).trans ?_
    show _ = ((weightOf _ _ _ : ℝ) : EReal)
    unfold weightOf
    rw [dif_pos ⟨k.isLt, j.isLt⟩]
  have hP : ∀ c (R : Fin 8208) (j : Fin 2824), (m ((c : Thread nD τ).loc main_arg3) : Vec Ideal S8208x2824 .f32) (ix2 R j) = (P c R.val j.val : EReal) := fun c R j => by
    refine ((finite_of_pre _ _ _ _ _ (hpre c)).2.2.2 R j).trans ?_
    show _ = ((projOf _ _ _ : ℝ) : EReal)
    unfold projOf
    rw [dif_pos ⟨R.isLt, j.isLt⟩]
  have hP0 : ∀ c n j, 8208 ≤ n → P c n j = 0 := fun c n j h => dif_neg fun e => by omega
  have hY : ∀ c (R : Fin 8208) (k : Fin 1024), (m ((c : Thread nD τ).loc main_arg4) : Vec Ideal S8208x1024 .f32) (ix2 R k) = Y c R.val k := fun c R k => by
    show _ = residualOf _ _ _
    unfold residualOf
    rw [dif_pos R.isLt]
  have hY0 : ∀ c n k, 8208 ≤ n → Y c n k = 0 := fun c n k h => dif_neg fun e => by omega
  refine ⟨fun c => dhArr (P c) (W c) (X c) (G c) (Y c), fun c => dgArr (P c) (W c) (X c), ?_, ?_⟩
  · refine (θ_run Cert.InProjIdeal.defs _ _).mono (fun r h c => ?_) (Cert.InProjIdeal.Value.run_blocks m g)
    have H : Reals m c (P c) (W c) (X c) (G c) (Y c) := by
      refine ⟨fun R => ?_, fun k => ?_, fun R k => ?_, fun k => ?_, fun R k => ?_⟩
      · exact proj_apply m c (P c) R _ rfl (fun h j => hP c ⟨R.val, h⟩ j) (fun h j => hP0 c R.val j h)
      · exact weight_apply m c (W c) k _ rfl (hW c k)
      · rw [rows_apply m c R k _ rfl]
        split
        · next e => exact hX c ⟨R.val, e⟩ k
        · next e => exact (congrArg Real.toEReal (show X c R.val k = 0 from dif_neg e)).symm
      · rw [scale_apply m c k _ rfl]
        exact hG c k
      · exact residual_apply m c R k _ rfl
    obtain ⟨h5, h6, hargs⟩ := h c
    exact ⟨h5.trans (arr5 m c _ _ _ _ _ H), h6.trans (arr6 m c _ _ _ _ _ H), hargs⟩
  · refine (θ_run Cert.InProjRefIdeal.defs _ _).mono (fun r h c => ?_) (Cert.InProjRefIdeal.Value.run m' g')
    obtain ⟨a0, a1, a2, a3, a4⟩ := hagree c
    obtain ⟨r0, r1, hargs⟩ := h c
    refine ⟨r0.trans ?_, r1.trans ?_, hargs⟩
    · rw [val_main_v39_eq, a0, a1, a2, a3, a4]
      funext i
      obtain ⟨R, k, rfl⟩ : ∃ (R : Fin 8320) (k : Fin 1024), i = ix2 R k := ⟨i 0, i 1, eq_ix2 i⟩
      exact Cert.InProjRefIdeal.Hand.v39_real _ _ _ _ _ (P c) (W c) (X c) (G c) (Y c) (hX c) (hG c) (hW c) (hP c) (hY c) (hP0 c) (hY0 c) R k
    · rw [val_main_v40_eq, a0, a2, a3]
      funext i
      obtain ⟨p, k, rfl⟩ : ∃ (p : Fin 1) (k : Fin 1024), i = ix2 p k := ⟨i 0, i 1, eq_ix2 i⟩
      obtain rfl : p = 0 := Subsingleton.elim _ _
      exact Cert.InProjRefIdeal.Hand.v40_real _ _ _ (P c) (W c) (X c) (hX c) (hW c) (hP c) (hP0 c) k

end Cert.InProjIdeal.Hand
-- ==== Proof.MlpCases.lean ====
/- The squared-ReLU layer's gradient, point by point: what one grid point leaves in its blocks and its carried buffers, as the kernel's own payloads. -/
module

public import proofs.«01_k».proof.Proof.Gen.MlpIdeal.Value

@[expose] public section

set_option maxRecDepth 16384

noncomputable section

namespace Cert.MlpIdeal.Hand

open Cert.MlpIdeal Cert.MlpIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The sum over the four slices of a point, taken one after the other. -/
def accOf (xd : Vec F S640x1024 .bf16) (x1 : Vec F S640x2048 .bf16) (x2 : Vec F S4x1024x512 .bf16) (x3 : Vec F S4x512x1024 .bf16)
    (xa : Vec F S640x1024 .f32) : Vec F S640x1024 .f32 :=
  k0_pay10 xd (View.ld x3 (Rect.unit ![3, 0, 0] ![1, 512, 1024] inb_S4x512x1024_S1x512x1024_3_0_0))
    (View.ld x1 (Rect.unit ![0, 1536] ![640, 512] inb_S640x2048_S640x512_0_1536))
    (k0_pay10 xd (View.ld x3 (Rect.unit ![2, 0, 0] ![1, 512, 1024] inb_S4x512x1024_S1x512x1024_2_0_0))
      (View.ld x1 (Rect.unit ![0, 1024] ![640, 512] inb_S640x2048_S640x512_0_1024))
      (k0_pay10 xd (View.ld x3 (Rect.unit ![1, 0, 0] ![1, 512, 1024] inb_S4x512x1024_S1x512x1024_1_0_0))
        (View.ld x1 (Rect.unit ![0, 512] ![640, 512] inb_S640x2048_S640x512_0_512))
        (k0_pay10 xd (View.ld x3 (Rect.unit ![0, 0, 0] ![1, 512, 1024] inb_S4x512x1024_S1x512x1024_0_0_0))
          (View.ld x1 (Rect.unit ![0, 0] ![640, 512] inb_S640x2048_S640x512_0_0)) xa
          (View.ld x2 (Rect.unit ![0, 0, 0] ![1, 1024, 512] inb_S4x1024x512_S1x1024x512_0_0_0)))
        (View.ld x2 (Rect.unit ![1, 0, 0] ![1, 1024, 512] inb_S4x1024x512_S1x1024x512_1_0_0)))
      (View.ld x2 (Rect.unit ![2, 0, 0] ![1, 1024, 512] inb_S4x1024x512_S1x1024x512_2_0_0)))
    (View.ld x2 (Rect.unit ![3, 0, 0] ![1, 1024, 512] inb_S4x1024x512_S1x1024x512_3_0_0))

/-- The four slices of the gradient, newest first. -/
def daPieces (xd : Vec F S640x1024 .bf16) (x1 : Vec F S640x2048 .bf16) (x3 : Vec F S4x512x1024 .bf16) : List (View.Piece (Elt F) S640x2048 .bf16) :=
    [⟨Rect.unit ![0, 1536] ![640, 512] inb_S640x2048_S640x512_0_1536,
      k0_pay9 xd (View.ld x3 (Rect.unit ![3, 0, 0] ![1, 512, 1024] inb_S4x512x1024_S1x512x1024_3_0_0))
        (View.ld x1 (Rect.unit ![0, 1536] ![640, 512] inb_S640x2048_S640x512_0_1536))⟩,
      ⟨Rect.unit ![0, 1024] ![640, 512] inb_S640x2048_S640x512_0_1024,
      k0_pay9 xd (View.ld x3 (Rect.unit ![2, 0, 0] ![1, 512, 1024] inb_S4x512x1024_S1x512x1024_2_0_0))
        (View.ld x1 (Rect.unit ![0, 1024] ![640, 512] inb_S640x2048_S640x512_0_1024))⟩,
      ⟨Rect.unit ![0, 512] ![640, 512] inb_S640x2048_S640x512_0_512,
      k0_pay9 xd (View.ld x3 (Rect.unit ![1, 0, 0] ![1, 512, 1024] inb_S4x512x1024_S1x512x1024_1_0_0))
        (View.ld x1 (Rect.unit ![0, 512] ![640, 512] inb_S640x2048_S640x512_0_512))⟩,
      ⟨Rect.unit ![0, 0] ![640, 512] inb_S640x2048_S640x512_0_0,
      k0_pay9 xd (View.ld x3 (Rect.unit ![0, 0, 0] ![1, 512, 1024] inb_S4x512x1024_S1x512x1024_0_0_0))
        (View.ld x1 (Rect.unit ![0, 0] ![640, 512] inb_S640x2048_S640x512_0_0))⟩]

/-- Side by side. -/
def daOf (xd : Vec F S640x1024 .bf16) (x1 : Vec F S640x2048 .bf16) (x3 : Vec F S4x512x1024 .bf16) : Vec F S640x2048 .bf16 :=
  View.canon (daPieces xd x1 x3)

section Cases

variable (c : Dev nD) (i : grid0.Coords)
  (a2 : Memref sig .tc .vmem S640x1024 .f32) (h2 : a2.IsWhole) (a3 : Memref sig .tc .vmem S640x2048 .bf16) (h3 : a3.IsWhole)
  (a4 : Memref sig .tc .vmem S4x1024x512 .bf16) (h4 : a4.IsWhole) (a5 : Memref sig .tc .vmem S4x512x1024 .bf16) (h5 : a5.IsWhole)
  (a6 : Memref sig .tc .vmem S640x1024 .f32) (h6 : a6.IsWhole) (a7 : Memref sig .tc .vmem S1x1024 .f32) (h7 : a7.IsWhole)
  (a8 : Memref sig .tc .vmem S640x2048 .bf16) (h8 : a8.IsWhole) (a9 : Memref sig .tc .vmem S640x1024 .f32) (h9 : a9.IsWhole)
  (a10 : Memref sig .tc .vmem S1x1024 .f32) (h10 : a10.IsWhole) (a11 : Memref sig .tc .vmem S640x1024 .f32) (h11 : a11.IsWhole)
  (a12 : Memref sig .tc .vmem S640x1024 .bf16) (h12 : a12.IsWhole)
  (x0 : Vec F S640x1024 .f32) (x1 : Vec F S640x2048 .bf16) (x2 : Vec F S4x1024x512 .bf16) (x3 : Vec F S4x512x1024 .bf16)
  (x4 : Vec F S640x1024 .f32) (x5 : Vec F S1x1024 .f32) (xg : Vec F S1x1024 .f32) (xa : Vec F S640x1024 .f32) (xd : Vec F S640x1024 .bf16)

theorem da_A (hc0 : cond0_0 i) (hc1 : cond0_1 i) (hc2 : ¬cond0_2 i) : out0_A_6 c i a2 h2 a3 h3 a4 h4 a5 h5 a6 h6 a7 h7 a8 h8 a9 h9 a10 h10 a11 h11 a12 h12 hc0 hc1 hc2 x0 x1 x2 x3 x4 x5
    = daOf (k0_pay8 x0) x1 x3 := by
  unfold out0_A_6
  rw [View.read_writes_eq_canon _ _ _ (cover0_A_6 c i a2 h2 a3 h3 a4 h4 a5 h5 a6 h6 a7 h7 a8 h8 a9 h9 a10 h10 a11 h11 a12 h12 hc0 hc1 hc2 x0 x1 x2 x3 x4 x5)]
  unfold kernelRun0_A
  dsimp only
  sl_unfold_words
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]
  rfl

theorem da_B (hc0 : ¬cond0_0 i) (hc1 : ¬cond0_1 i) (hc2 : cond0_2 i) : out0_B_6 c i a2 h2 a3 h3 a4 h4 a5 h5 a6 h6 a7 h7 a8 h8 a9 h9 a10 h10 a11 h11 a12 h12 hc0 hc1 hc2 x0 x1 x2 x3 x4 x5 xg xa xd
    = daOf xd x1 x3 := by
  unfold out0_B_6
  rw [View.read_writes_eq_canon _ _ _ (cover0_B_6 c i a2 h2 a3 h3 a4 h4 a5 h5 a6 h6 a7 h7 a8 h8 a9 h9 a10 h10 a11 h11 a12 h12 hc0 hc1 hc2 x0 x1 x2 x3 x4 x5 xg xa xd)]
  unfold kernelRun0_B
  dsimp only
  sl_unfold_words
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]
  rfl

theorem da_C (hc0 : ¬cond0_0 i) (hc1 : cond0_1 i) (hc2 : ¬cond0_2 i) : out0_C_6 c i a2 h2 a3 h3 a4 h4 a5 h5 a6 h6 a7 h7 a8 h8 a9 h9 a10 h10 a11 h11 a12 h12 hc0 hc1 hc2 x0 x1 x2 x3 x4 x5
    = daOf (k0_pay8 x0) x1 x3 := by
  unfold out0_C_6
  rw [View.read_writes_eq_canon _ _ _ (cover0_C_6 c i a2 h2 a3 h3 a4 h4 a5 h5 a6 h6 a7 h7 a8 h8 a9 h9 a10 h10 a11 h11 a12 h12 hc0 hc1 hc2 x0 x1 x2 x3 x4 x5)]
  unfold kernelRun0_C
  dsimp only
  sl_unfold_words
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]
  rfl

theorem acc_A (hc0 : cond0_0 i) (hc1 : cond0_1 i) (hc2 : ¬cond0_2 i) : sout0_A_0 c i a2 h2 a3 h3 a4 h4 a5 h5 a6 h6 a7 h7 a8 h8 a9 h9 a10 h10 a11 h11 a12 h12 hc0 hc1 hc2 x0 x1 x2 x3 x4 x5
    = accOf (k0_pay8 x0) x1 x2 x3 k0_pay7 := by
  unfold sout0_A_0
  rw [View.read_writes_eq_canon _ _ _ (scover0_A_0 c i a2 h2 a3 h3 a4 h4 a5 h5 a6 h6 a7 h7 a8 h8 a9 h9 a10 h10 a11 h11 a12 h12 hc0 hc1 hc2 x0 x1 x2 x3 x4 x5)]
  unfold kernelRun0_A
  dsimp only
  sl_unfold_words
  rw [View.canon_cons_unit_zero (S := S640x1024) hz]
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]
  rfl

theorem acc_B (hc0 : ¬cond0_0 i) (hc1 : ¬cond0_1 i) (hc2 : cond0_2 i) : sout0_B_0 c i a2 h2 a3 h3 a4 h4 a5 h5 a6 h6 a7 h7 a8 h8 a9 h9 a10 h10 a11 h11 a12 h12 hc0 hc1 hc2 x0 x1 x2 x3 x4 x5 xg xa xd
    = accOf xd x1 x2 x3 xa := by
  unfold sout0_B_0
  rw [View.read_writes_eq_canon _ _ _ (scover0_B_0 c i a2 h2 a3 h3 a4 h4 a5 h5 a6 h6 a7 h7 a8 h8 a9 h9 a10 h10 a11 h11 a12 h12 hc0 hc1 hc2 x0 x1 x2 x3 x4 x5 xg xa xd)]
  unfold kernelRun0_B
  dsimp only
  sl_unfold_words
  rw [View.canon_cons_unit_zero (S := S640x1024) hz]
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]
  rfl

theorem acc_C (hc0 : ¬cond0_0 i) (hc1 : cond0_1 i) (hc2 : ¬cond0_2 i) : sout0_C_0 c i a2 h2 a3 h3 a4 h4 a5 h5 a6 h6 a7 h7 a8 h8 a9 h9 a10 h10 a11 h11 a12 h12 hc0 hc1 hc2 x0 x1 x2 x3 x4 x5
    = accOf (k0_pay8 x0) x1 x2 x3 k0_pay7 := by
  unfold sout0_C_0
  rw [View.read_writes_eq_canon _ _ _ (scover0_C_0 c i a2 h2 a3 h3 a4 h4 a5 h5 a6 h6 a7 h7 a8 h8 a9 h9 a10 h10 a11 h11 a12 h12 hc0 hc1 hc2 x0 x1 x2 x3 x4 x5)]
  unfold kernelRun0_C
  dsimp only
  sl_unfold_words
  rw [View.canon_cons_unit_zero (S := S640x1024) hz]
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]
  rfl

theorem dhb_A (hc0 : cond0_0 i) (hc1 : cond0_1 i) (hc2 : ¬cond0_2 i) : sout0_A_1 c i a2 h2 a3 h3 a4 h4 a5 h5 a6 h6 a7 h7 a8 h8 a9 h9 a10 h10 a11 h11 a12 h12 hc0 hc1 hc2 x0 x1 x2 x3 x4 x5
    = k0_pay8 x0 := by
  unfold sout0_A_1
  rw [View.read_writes_eq_canon _ _ _ (scover0_A_1 c i a2 h2 a3 h3 a4 h4 a5 h5 a6 h6 a7 h7 a8 h8 a9 h9 a10 h10 a11 h11 a12 h12 hc0 hc1 hc2 x0 x1 x2 x3 x4 x5)]
  unfold kernelRun0_A
  dsimp only
  sl_unfold_words
  rw [View.canon_cons_unit_zero (S := S640x1024) hz]
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]

theorem dhb_C (hc0 : ¬cond0_0 i) (hc1 : cond0_1 i) (hc2 : ¬cond0_2 i) : sout0_C_1 c i a2 h2 a3 h3 a4 h4 a5 h5 a6 h6 a7 h7 a8 h8 a9 h9 a10 h10 a11 h11 a12 h12 hc0 hc1 hc2 x0 x1 x2 x3 x4 x5
    = k0_pay8 x0 := by
  unfold sout0_C_1
  rw [View.read_writes_eq_canon _ _ _ (scover0_C_1 c i a2 h2 a3 h3 a4 h4 a5 h5 a6 h6 a7 h7 a8 h8 a9 h9 a10 h10 a11 h11 a12 h12 hc0 hc1 hc2 x0 x1 x2 x3 x4 x5)]
  unfold kernelRun0_C
  dsimp only
  sl_unfold_words
  rw [View.canon_cons_unit_zero (S := S640x1024) hz]
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]

theorem dg_A (hc0 : cond0_0 i) (hc1 : cond0_1 i) (hc2 : ¬cond0_2 i) : out0_A_8 c i a2 h2 a3 h3 a4 h4 a5 h5 a6 h6 a7 h7 a8 h8 a9 h9 a10 h10 a11 h11 a12 h12 hc0 hc1 hc2 x0 x1 x2 x3 x4 x5
    = k0_pay6 := by
  unfold out0_A_8
  rw [View.read_writes_eq_canon _ _ _ (cover0_A_8 c i a2 h2 a3 h3 a4 h4 a5 h5 a6 h6 a7 h7 a8 h8 a9 h9 a10 h10 a11 h11 a12 h12 hc0 hc1 hc2 x0 x1 x2 x3 x4 x5)]
  unfold kernelRun0_A
  dsimp only
  sl_unfold_words
  rw [View.canon_cons_unit_zero (S := S1x1024) hz]

theorem dg_B (hc0 : ¬cond0_0 i) (hc1 : ¬cond0_1 i) (hc2 : cond0_2 i) : out0_B_8 c i a2 h2 a3 h3 a4 h4 a5 h5 a6 h6 a7 h7 a8 h8 a9 h9 a10 h10 a11 h11 a12 h12 hc0 hc1 hc2 x0 x1 x2 x3 x4 x5 xg xa xd
    = k0_pay5 x4 (accOf xd x1 x2 x3 xa) xg := by
  unfold out0_B_8
  rw [View.read_writes_eq_canon _ _ _ (cover0_B_8 c i a2 h2 a3 h3 a4 h4 a5 h5 a6 h6 a7 h7 a8 h8 a9 h9 a10 h10 a11 h11 a12 h12 hc0 hc1 hc2 x0 x1 x2 x3 x4 x5 xg xa xd)]
  unfold kernelRun0_B
  dsimp only
  sl_unfold_words
  rw [View.canon_cons_unit_zero (S := S1x1024) hz]
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]
  rfl

theorem dh2_B (hc0 : ¬cond0_0 i) (hc1 : ¬cond0_1 i) (hc2 : cond0_2 i) : out0_B_7 c i a2 h2 a3 h3 a4 h4 a5 h5 a6 h6 a7 h7 a8 h8 a9 h9 a10 h10 a11 h11 a12 h12 hc0 hc1 hc2 x0 x1 x2 x3 x4 x5 xg xa xd
    = k0_pay4 x4 x5 (accOf xd x1 x2 x3 xa) x0 := by
  unfold out0_B_7
  rw [View.read_writes_eq_canon _ _ _ (cover0_B_7 c i a2 h2 a3 h3 a4 h4 a5 h5 a6 h6 a7 h7 a8 h8 a9 h9 a10 h10 a11 h11 a12 h12 hc0 hc1 hc2 x0 x1 x2 x3 x4 x5 xg xa xd)]
  unfold kernelRun0_B
  dsimp only
  sl_unfold_words
  rw [View.canon_cons_unit_zero (S := S640x1024) hz]
  simp only [View.readCov_cons_toLoadRect, View.readAt_eq_ld, h2.read_unread, h3.read_unread, h4.read_unread, h5.read_unread, h6.read_unread, h7.read_unread, h10.read_unread, h11.read_unread,
    h12.read_unread, View.ld_unit_zero (S := S640x1024) hz, View.ld_unit_zero (S := S1x1024) hz]
  rfl

theorem dg_C (hc0 : ¬cond0_0 i) (hc1 : cond0_1 i) (hc2 : ¬cond0_2 i) : out0_C_8 c i a2 h2 a3 h3 a4 h4 a5 h5 a6 h6 a7 h7 a8 h8 a9 h9 a10 h10 a11 h11 a12 h12 hc0 hc1 hc2 x0 x1 x2 x3 x4 x5 xg = xg := by
  unfold out0_C_8
  rfl

theorem dhb_B (hc0 : ¬cond0_0 i) (hc1 : ¬cond0_1 i) (hc2 : cond0_2 i) : sout0_B_1 c i a2 h2 a3 h3 a4 h4 a5 h5 a6 h6 a7 h7 a8 h8 a9 h9 a10 h10 a11 h11 a12 h12 hc0 hc1 hc2 x0 x1 x2 x3 x4 x5 xg xa xd = xd := by
  unfold sout0_B_1
  rfl

end Cases

end Cert.MlpIdeal.Hand
-- ==== Proof.MlpReal.lean ====
/- The squared-ReLU layer's gradient over the real numbers. -/
module

public import proofs.«01_k».proof.Proof.InProjReal

@[expose] public section

noncomputable section

namespace Cert.Mlp

open Idealize.ShloMosaic Cert.Norm

theorem two_word : Ideal.ofBits .f32 0x40000000#32 = ((2 : ℝ) : EReal) := by
  simp [Ideal.ofBits, Ideal.ieee]
  try rw [← EReal.coe_mul]
  norm_num

variable (X : ℕ → Fin 1024 → ℝ) (G : Fin 1024 → ℝ) (W1 W2 A D : ℕ → ℕ → ℝ) (Y : ℕ → Fin 1024 → ℝ)

/-- What the ReLU is applied to, and what it leaves. -/
def act (n e : ℕ) : ℝ := ∑ k : Fin 1024, X n k * rs (X n) * G k * W1 k.val e
def relu (n e : ℕ) : ℝ := max (act X G W1 n e) 0

/-- The gradient of what the ReLU, whose result is `A`, is applied to. -/
def da (n e : ℕ) : ℝ := (∑ k : Fin 1024, Y n k * W2 e k.val) * (2 * A n e)

/-- The gradient `D` through the first weights. -/
def dhn (n : ℕ) (k : Fin 1024) : ℝ := ∑ e ∈ Finset.range 4096, D n e * W1 k.val e

theorem da_zero (n e : ℕ) (h : ∀ k, Y n k = 0) : da W2 A Y n e = 0 := by
  unfold da
  simp [h]

theorem dhn_zero (n : ℕ) (k : Fin 1024) (h : ∀ e, D n e = 0) : dhn W1 D n k = 0 := by
  unfold dhn
  simp [h]

/-- One slice of the columns after those before. -/
theorem cols_step (f : ℕ → ℝ) (b : ℕ) :
    (∑ s ∈ Finset.range b, f s) + ∑ r : Fin 512, f (b + r.val) = ∑ s ∈ Finset.range (b + 512), f s := by
  rw [Finset.sum_range_add, Finset.sum_range fun r => f (b + r)]

end Cert.Mlp
-- ==== Proof.MlpPayload.lean ====
/- The payloads of the squared-ReLU layer's gradient at one element, where the blocks hold real numbers. -/
module

public import proofs.«01_k».proof.Proof.MlpCases
public import proofs.«01_k».proof.Proof.MlpReal
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.MlpIdeal.Hand

open Cert.MlpIdeal Cert.MlpIdeal.Gen Idealize.ShloMosaic Cert.Norm Cert.Mlp

variable (n b : ℕ) (xd : Vec Ideal S640x1024 .bf16)
  (X : ℕ → Fin 1024 → ℝ) (G : Fin 1024 → ℝ) (W1 W2 A : ℕ → ℕ → ℝ) (Y : ℕ → Fin 1024 → ℝ)
  (hd : ∀ (r : Fin 640) k, xd (ix2 r k) = (Y (n + r.val) k : EReal))

section Slice

variable (y2 : Vec Ideal S1x1024x512 .bf16) (y3 : Vec Ideal S1x512x1024 .bf16) (y1 : Vec Ideal S640x512 .bf16)
  (g1 : ∀ (r : Fin 640) (e : Fin 512), y1 (ix2 r e) = (A (n + r.val) (b + e.val) : EReal))
  (g2 : ∀ (k : Fin 1024) (e : Fin 512), y2 (ix3 0 k e) = (W1 k.val (b + e.val) : EReal))
  (g3 : ∀ (e : Fin 512) (k : Fin 1024), y3 (ix3 0 e k) = (W2 (b + e.val) k.val : EReal))

include hd g1 g3 in
theorem pay9_real (r : Fin 640) (e : Fin 512) : k0_pay9 xd y3 y1 (ix2 r e) = (da W2 A Y (n + r.val) (b + e.val) : EReal) := by
  pointwise [k0_pay9]
  simp only [hd, g1, g3, two_word, ← EReal.coe_mul, coe_sum]
  rfl

include hd g1 g2 g3 in
theorem pay10_real (xa : Vec Ideal S640x1024 .f32) (r : Fin 640) (k : Fin 1024)
    (ha : xa (ix2 r k) = ((∑ e ∈ Finset.range b, da W2 A Y (n + r.val) e * W1 k.val e : ℝ) : EReal)) :
    k0_pay10 xd y3 y1 xa y2 (ix2 r k) = ((∑ e ∈ Finset.range (b + 512), da W2 A Y (n + r.val) e * W1 k.val e : ℝ) : EReal) := by
  have e8 := pay9_real n b xd W2 A Y hd y3 y1 g1 g3 r
  unfold k0_pay10
  generalize k0_pay9 xd y3 y1 = s at *
  pointwise []
  simp only [e8, ha, g2, ← EReal.coe_mul, coe_sum, ← EReal.coe_add]
  exact congrArg Real.toEReal (cols_step (fun e => da W2 A Y (n + r.val) e * W1 k.val e) b)

end Slice

section Point

variable (x1 : Vec Ideal S640x2048 .bf16) (x2 : Vec Ideal S4x1024x512 .bf16) (x3 : Vec Ideal S4x512x1024 .bf16)
  (g1 : ∀ (r : Fin 640) (e : Fin 2048), x1 (ix2 r e) = (A (n + r.val) (b + e.val) : EReal))
  (g2 : ∀ (s : Fin 4) (k : Fin 1024) (e : Fin 512), x2 (ix3 s k e) = (W1 k.val (b + 512 * s.val + e.val) : EReal))
  (g3 : ∀ (s : Fin 4) (e : Fin 512) (k : Fin 1024), x3 (ix3 s e k) = (W2 (b + 512 * s.val + e.val) k.val : EReal))

include g1 in
theorem slice1 (o : ℕ) (ho : o + 512 ≤ 2048) (inb) (r : Fin 640) (e : Fin 512) :
    View.ld x1 (Rect.unit (s := S640x2048) ![0, o] ![640, 512] inb) (ix2 r e) = (A (n + r.val) (b + o + e.val) : EReal) := by
  rw [View.ld_unit_apply_of x1 _ _ inb (ix2 r e) (ix2 r ⟨o + e.val, by omega⟩) (fun a => by
    match a with
    | 0 => show r.val = 0 + r.val; omega
    | 1 => rfl), g1, Nat.add_assoc]

include g2 in
theorem slice2 (s : Fin 4) (inb) (k : Fin 1024) (e : Fin 512) :
    View.ld x2 (Rect.unit (s := S4x1024x512) ![s.val, 0, 0] ![1, 1024, 512] inb) (ix3 0 k e) = (W1 k.val (b + 512 * s.val + e.val) : EReal) := by
  rw [View.ld_unit_apply_of x2 _ _ inb (ix3 0 k e) (ix3 s k e) (fun a => by
    match a with
    | 0 => rfl
    | 1 => show k.val = 0 + k.val; omega
    | 2 => show e.val = 0 + e.val; omega), g2]

include g3 in
theorem slice3 (s : Fin 4) (inb) (e : Fin 512) (k : Fin 1024) :
    View.ld x3 (Rect.unit (s := S4x512x1024) ![s.val, 0, 0] ![1, 512, 1024] inb) (ix3 0 e k) = (W2 (b + 512 * s.val + e.val) k.val : EReal) := by
  rw [View.ld_unit_apply_of x3 _ _ inb (ix3 0 e k) (ix3 s e k) (fun a => by
    match a with
    | 0 => rfl
    | 1 => show e.val = 0 + e.val; omega
    | 2 => show k.val = 0 + k.val; omega), g3]

include hd g1 g2 g3 in
theorem acc_real (xa : Vec Ideal S640x1024 .f32) (r : Fin 640) (k : Fin 1024)
    (ha : xa (ix2 r k) = ((∑ e ∈ Finset.range b, da W2 A Y (n + r.val) e * W1 k.val e : ℝ) : EReal)) :
    accOf xd x1 x2 x3 xa (ix2 r k) = ((∑ e ∈ Finset.range (b + 2048), da W2 A Y (n + r.val) e * W1 k.val e : ℝ) : EReal) := by
  unfold accOf
  refine pay10_real n (b + 1536) xd W1 W2 A Y hd _ _ _ (slice1 n b A x1 g1 1536 (by omega) _) (slice2 b W1 x2 g2 3 _) (slice3 b W2 x3 g3 3 _) _ r k ?_
  refine pay10_real n (b + 1024) xd W1 W2 A Y hd _ _ _ (slice1 n b A x1 g1 1024 (by omega) _) (slice2 b W1 x2 g2 2 _) (slice3 b W2 x3 g3 2 _) _ r k ?_
  refine pay10_real n (b + 512) xd W1 W2 A Y hd _ _ _ (slice1 n b A x1 g1 512 (by omega) _) (slice2 b W1 x2 g2 1 _) (slice3 b W2 x3 g3 1 _) _ r k ?_
  exact pay10_real n b xd W1 W2 A Y hd _ _ _ (slice1 n b A x1 g1 0 (by omega) _) (slice2 b W1 x2 g2 0 _) (slice3 b W2 x3 g3 0 _) _ r k ha

include hd g1 g3 in
theorem piece_real (s : Fin 4) (inb inb3) (x : (Rect.unit (s := S640x2048) ![0, 512 * s.val] ![640, 512] inb).shape.Idx) :
    k0_pay9 xd (View.ld x3 (Rect.unit (s := S4x512x1024) ![s.val, 0, 0] ![1, 512, 1024] inb3)) (View.ld x1 (Rect.unit (s := S640x2048) ![0, 512 * s.val] ![640, 512] inb)) x
      = (fun i : S640x2048.Idx => (da W2 A Y (n + (i 0).val) (b + (i 1).val) : EReal)) ((Rect.unit (s := S640x2048) ![0, 512 * s.val] ![640, 512] inb).emb x) := by
  obtain ⟨r, e, rfl⟩ : ∃ (r : Fin 640) (e : Fin 512), x = ix2 r e := ⟨x 0, x 1, eq_ix2 x⟩
  have h0 : (((Rect.unit (s := S640x2048) ![0, 512 * s.val] ![640, 512] inb).emb (ix2 r e)) 0).val = r.val := by
    show 0 + 1 * r.val = r.val; omega
  have h1 : (((Rect.unit (s := S640x2048) ![0, 512 * s.val] ![640, 512] inb).emb (ix2 r e)) 1).val = 512 * s.val + e.val := by
    show 512 * s.val + 1 * e.val = _; omega
  rw [pay9_real n (b + 512 * s.val) xd W2 A Y hd _ _ (slice1 n b A x1 g1 (512 * s.val) (by omega) _) (slice3 b W2 x3 g3 s _) r e]
  dsimp only
  rw [h0, h1, Nat.add_assoc]

include hd g1 g3 in
theorem da_real (r : Fin 640) (e : Fin 2048) : daOf xd x1 x3 (ix2 r e) = (da W2 A Y (n + r.val) (b + e.val) : EReal) := by
  unfold daOf
  rw [← List.append_nil (daPieces xd x1 x3)]
  have p := piece_real n b xd W2 A Y hd x1 x3 g1 g3
  refine View.canon_append_of_piecesOf (Val := Elt Ideal) (s := S640x2048) (e := .bf16)
    (fun i => (da W2 A Y (n + (i 0).val) (b + (i 1).val) : EReal)) [] (daPieces xd x1 x3)
    ⟨p 3 _ _, p 2 _ _, p 1 _ _, p 0 _ _, trivial⟩ (ix2 r e) ?_
  have m : ∀ (o : ℕ) (inb), o ≤ e.val → e.val < o + 512 → ix2 r e ∈ (Rect.unit (s := S640x2048) ![0, o] ![640, 512] inb).set := by
    intro o inb h h'
    rw [Rect.mem_set_unit]
    intro a
    match a with
    | 0 => exact ⟨Nat.zero_le _, by show r.val < 0 + 640; omega⟩
    | 1 => exact ⟨h, h'⟩
  have he := e.isLt
  by_cases q3 : 1536 ≤ e.val
  · exact ⟨_, List.mem_cons_self, m 1536 inb_S640x2048_S640x512_0_1536 q3 (by omega)⟩
  by_cases q2 : 1024 ≤ e.val
  · exact ⟨_, List.mem_cons_of_mem _ List.mem_cons_self, m 1024 inb_S640x2048_S640x512_0_1024 q2 (by omega)⟩
  by_cases q1 : 512 ≤ e.val
  · exact ⟨_, List.mem_cons_of_mem _ (List.mem_cons_of_mem _ List.mem_cons_self), m 512 inb_S640x2048_S640x512_0_512 q1 (by omega)⟩
  · exact ⟨_, List.mem_cons_of_mem _ (List.mem_cons_of_mem _ (List.mem_cons_of_mem _ List.mem_cons_self)), m 0 inb_S640x2048_S640x512_0_0 (Nat.zero_le _) (by omega)⟩

end Point

section Norm

variable (x4 : Vec Ideal S640x1024 .f32) (x5 : Vec Ideal S1x1024 .f32) (x0 : Vec Ideal S640x1024 .f32) (acc : Vec Ideal S640x1024 .f32)
  (U : ℕ → Fin 1024 → ℝ)
  (h4 : ∀ (r : Fin 640) k, x4 (ix2 r k) = (X (n + r.val) k : EReal)) (h5 : ∀ k, x5 (ix2 0 k) = (G k : EReal))
  (h0 : ∀ (r : Fin 640) k, x0 (ix2 r k) = (Y (n + r.val) k : EReal)) (hU : ∀ (r : Fin 640) k, acc (ix2 r k) = (U (n + r.val) k : EReal))

include h4 in
theorem pay2_real (r : Fin 640) : k0_pay2 x4 (ix2 r 0) = (rs (X (n + r.val)) : EReal) := by
  pointwise [k0_pay2, k0_pay1]
  simp only [h4, ← EReal.coe_mul, coe_sum, eps_word, width_word]
  rw [div_real _ _ (by norm_num), ← EReal.coe_add]
  exact rsqrt_real (msq_pos (X _))

include h4 in
theorem pay3_real (r : Fin 640) (k : Fin 1024) : k0_pay3 x4 (ix2 r k) = ((X (n + r.val) k * rs (X (n + r.val)) : ℝ) : EReal) := by
  have e := pay2_real n X x4 h4 r
  unfold k0_pay3 k0_pay1
  generalize k0_pay2 x4 = s at e
  pointwise []
  rw [h4, e, EReal.coe_mul]

include h4 h5 h0 hU in
theorem dh2_real (r : Fin 640) (k : Fin 1024) :
    k0_pay4 x4 x5 acc x0 (ix2 r k) = ((Y (n + r.val) k + dx U X G (n + r.val) k : ℝ) : EReal) := by
  have e1 := pay2_real n X x4 h4 r
  have e2 := pay3_real n X x4 h4 r
  unfold k0_pay4
  generalize k0_pay2 x4 = s1 at *
  generalize k0_pay3 x4 = s2 at *
  pointwise []
  simp only [e1, e2, h0, h5, hU, width_word, ← EReal.coe_mul, coe_sum]
  rw [div_real _ _ (by norm_num), ← EReal.coe_mul, ← EReal.coe_sub, ← EReal.coe_mul, ← EReal.coe_add]
  rfl

include h4 hU in
theorem dg_real (xg : Vec Ideal S1x1024 .f32) (s : ℝ) (k : Fin 1024) (hs : xg (ix2 0 k) = (s : EReal)) :
    k0_pay5 x4 acc xg (ix2 0 k) = ((s + ∑ r : Fin 640, dscale U X k (n + r.val) : ℝ) : EReal) := by
  have e2 := fun r => pay3_real n X x4 h4 r k
  unfold k0_pay5
  generalize k0_pay3 x4 = s2 at *
  pointwise []
  simp only [hs, e2, hU, ← EReal.coe_mul, coe_sum, ← EReal.coe_add]
  rfl

include h0 in
theorem pay8_real (r : Fin 640) (k : Fin 1024) : k0_pay8 x0 (ix2 r k) = (Y (n + r.val) k : EReal) := by
  pointwise [k0_pay8]
  exact h0 r k

end Norm

theorem pay6_real (k : Fin 1024) : (k0_pay6 : FVec Ideal S1x1024 .f32) (ix2 0 k) = ((0 : ℝ) : EReal) := by
  pointwise [k0_pay6]
  rfl

theorem pay7_real (r : Fin 640) (k : Fin 1024) : (k0_pay7 : FVec Ideal S640x1024 .f32) (ix2 r k) = ((0 : ℝ) : EReal) := by
  pointwise [k0_pay7]
  rfl

end Cert.MlpIdeal.Hand
-- ==== Proof.MlpArray.lean ====
/- What the squared-ReLU layer's gradient leaves in its three arrays, where the arrays it is launched on hold real numbers. -/
module

public import proofs.«01_k».proof.Proof.MlpPayload

@[expose] public section

set_option maxRecDepth 16384

noncomputable section

namespace Cert.MlpIdeal.Hand

open Cert.MlpIdeal Cert.MlpIdeal.Gen Idealize.ShloMosaic Idealize.ShloMosaic.TcCoe Idealize.SL.Sem
open Idealize.ShloMosaic.Pipeline (Dat)
open Cert.Norm Cert.Mlp

variable (m : (ℓ : Loc nD τ sig) → Buf (Elt Ideal) ℓ) (c : Dev nD)

theorem row_lt (t : Fin cfg0.N) (r : Fin 640) : 640 * (t.val / 2) + r.val < 8320 := by
  have hN : cfg0.N = 26 := N_0
  omega
theorem col_lt (t : Fin cfg0.N) (e : Fin 2048) : 2048 * (t.val % 2) + e.val < 4096 := by omega
theorem slice_lt (t : Fin cfg0.N) (s : Fin 4) : 4 * (t.val % 2) + s.val < 8 := by omega

theorem index0 : ∀ t : Fin grid0.N, win0_0.index t 0 = t.val / 2 ∧ win0_0.index t 1 = 0 := by decide +kernel
theorem index1 : ∀ t : Fin grid0.N, win0_1.index t 0 = t.val / 2 ∧ win0_1.index t 1 = t.val % 2 := by decide +kernel
theorem index2 : ∀ t : Fin grid0.N, win0_2.index t 0 = t.val % 2 ∧ win0_2.index t 1 = 0 ∧ win0_2.index t 2 = 0 := by decide +kernel
theorem index3 : ∀ t : Fin grid0.N, win0_3.index t 0 = t.val % 2 ∧ win0_3.index t 1 = 0 ∧ win0_3.index t 2 = 0 := by decide +kernel
theorem index4 : ∀ t : Fin grid0.N, win0_4.index t 0 = t.val / 2 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val / 2 ∧ win0_6.index t 1 = t.val % 2 := by decide +kernel
theorem index7 : ∀ t : Fin grid0.N, win0_7.index t 0 = t.val / 2 ∧ win0_7.index t 1 = 0 := by decide +kernel
theorem index8 : ∀ t : Fin grid0.N, win0_8.index t 0 = 0 ∧ win0_8.index t 1 = 0 := by decide +kernel

theorem block0 (t : Fin cfg0.N) (r : Fin 640) (k : Fin 1024) :
    (iblk m c 0 t : Vec Ideal S640x1024 .f32) (ix2 r k) = V m c main_v23 (ix2 ⟨640 * (t.val / 2) + r.val, row_lt t r⟩ k) := by
  unfold iblk
  rw [View.read_apply]
  show V m c main_v23 _ = _
  congr 1
  funext a
  apply Fin.ext
  match a with
  | 0 => show win0_0.index t 0 * 640 + 1 * r.val = 640 * (t.val / 2) + r.val
         rw [(index0 t).1]; omega
  | 1 => show win0_0.index t 1 * 1024 + 1 * k.val = k.val
         rw [(index0 t).2]; omega

theorem block4 (t : Fin cfg0.N) (r : Fin 640) (k : Fin 1024) :
    (iblk m c 4 t : Vec Ideal S640x1024 .f32) (ix2 r k) = V m c main_v26 (ix2 ⟨640 * (t.val / 2) + r.val, row_lt t r⟩ k) := by
  unfold iblk
  rw [View.read_apply]
  show V m c main_v26 _ = _
  congr 1
  funext a
  apply Fin.ext
  match a with
  | 0 => show win0_4.index t 0 * 640 + 1 * r.val = 640 * (t.val / 2) + r.val
         rw [(index4 t).1]; omega
  | 1 => show win0_4.index t 1 * 1024 + 1 * k.val = k.val
         rw [(index4 t).2]; omega

theorem block1 (t : Fin cfg0.N) (r : Fin 640) (e : Fin 2048) :
    (iblk m c 1 t : Vec Ideal S640x2048 .bf16) (ix2 r e) = V m c main_v25 (ix2 ⟨640 * (t.val / 2) + r.val, row_lt t r⟩ ⟨2048 * (t.val % 2) + e.val, col_lt t e⟩) := by
  unfold iblk
  rw [View.read_apply]
  show V m c main_v25 _ = _
  congr 1
  funext a
  apply Fin.ext
  match a with
  | 0 => show win0_1.index t 0 * 640 + 1 * r.val = 640 * (t.val / 2) + r.val
         rw [(index1 t).1]; omega
  | 1 => show win0_1.index t 1 * 2048 + 1 * e.val = 2048 * (t.val % 2) + e.val
         rw [(index1 t).2]; omega

theorem block2 (t : Fin cfg0.N) (s : Fin 4) (k : Fin 1024) (e : Fin 512) :
    (iblk m c 2 t : Vec Ideal S4x1024x512 .bf16) (ix3 s k e) = V m c main_v2 (ix3 ⟨4 * (t.val % 2) + s.val, slice_lt t s⟩ k e) := by
  unfold iblk
  rw [View.read_apply]
  show V m c main_v2 _ = _
  congr 1
  funext a
  apply Fin.ext
  match a with
  | 0 => show win0_2.index t 0 * 4 + 1 * s.val = 4 * (t.val % 2) + s.val
         rw [(index2 t).1]; omega
  | 1 => show win0_2.index t 1 * 1024 + 1 * k.val = k.val
         rw [(index2 t).2.1]; omega
  | 2 => show win0_2.index t 2 * 512 + 1 * e.val = e.val
         rw [(index2 t).2.2]; omega

theorem block3 (t : Fin cfg0.N) (s : Fin 4) (e : Fin 512) (k : Fin 1024) :
    (iblk m c 3 t : Vec Ideal S4x512x1024 .bf16) (ix3 s e k) = V m c main_v4 (ix3 ⟨4 * (t.val % 2) + s.val, slice_lt t s⟩ e k) := by
  unfold iblk
  rw [View.read_apply]
  show V m c main_v4 _ = _
  congr 1
  funext a
  apply Fin.ext
  match a with
  | 0 => show win0_3.index t 0 * 4 + 1 * s.val = 4 * (t.val % 2) + s.val
         rw [(index3 t).1]; omega
  | 1 => show win0_3.index t 1 * 512 + 1 * e.val = e.val
         rw [(index3 t).2.1]; omega
  | 2 => show win0_3.index t 2 * 1024 + 1 * k.val = k.val
         rw [(index3 t).2.2]; omega

theorem block5 (t : Fin cfg0.N) (k : Fin 1024) :
    (iblk m c 5 t : Vec Ideal S1x1024 .f32) (ix2 0 k) = V m c main_v27 (ix2 0 k) := by
  unfold iblk
  rw [View.read_apply]
  show V m c main_v27 _ = _
  congr 1
  funext a
  apply Fin.ext
  match a with
  | 0 => show win0_5.index t 0 * 1 + 1 * 0 = 0
         rw [(index5 t).1]
  | 1 => show win0_5.index t 1 * 1024 + 1 * k.val = k.val
         rw [(index5 t).2]; omega

variable (X : ℕ → Fin 1024 → ℝ) (G : Fin 1024 → ℝ) (W1 W2 A : ℕ → ℕ → ℝ) (Y : ℕ → Fin 1024 → ℝ)

/-- The arrays of the launch hold these numbers. -/
structure Reals : Prop where
  y : ∀ (R : Fin 8320) k, (V m c main_v23 : Vec Ideal S8320x1024 .f32) (ix2 R k) = (Y R.val k : EReal)
  a : ∀ (R : Fin 8320) (e : Fin 4096), (V m c main_v25 : Vec Ideal S8320x4096 .bf16) (ix2 R e) = (A R.val e.val : EReal)
  w1 : ∀ (s : Fin 8) (k : Fin 1024) (e : Fin 512), (V m c main_v2 : Vec Ideal S8x1024x512 .bf16) (ix3 s k e) = (W1 k.val (512 * s.val + e.val) : EReal)
  w2 : ∀ (s : Fin 8) (e : Fin 512) (k : Fin 1024), (V m c main_v4 : Vec Ideal S8x512x1024 .bf16) (ix3 s e k) = (W2 (512 * s.val + e.val) k.val : EReal)
  x : ∀ (R : Fin 8320) k, (V m c main_v26 : Vec Ideal S8320x1024 .f32) (ix2 R k) = (X R.val k : EReal)
  g : ∀ k, (V m c main_v27 : Vec Ideal S1x1024 .f32) (ix2 0 k) = (G k : EReal)

/-- The gradient at the norm's result. -/
abbrev back (n : ℕ) (k : Fin 1024) : ℝ := dhn W1 (da W2 A Y) n k

/-- What the blocks and the carried buffers hold after point `n`. -/
structure Holds (n : ℕ) (o : Vec Ideal S640x2048 .bf16 × Vec Ideal S640x1024 .f32 × Vec Ideal S1x1024 .f32 × Vec Ideal S640x1024 .f32 × Vec Ideal S640x1024 .bf16) : Prop where
  da : ∀ (r : Fin 640) (e : Fin 2048), o.1 (ix2 r e) = (da W2 A Y (640 * (n / 2) + r.val) (2048 * (n % 2) + e.val) : EReal)
  dh : n % 2 = 1 → ∀ (r : Fin 640) (k : Fin 1024), o.2.1 (ix2 r k)
    = ((Y (640 * (n / 2) + r.val) k + dx (back W1 W2 A Y) X G (640 * (n / 2) + r.val) k : ℝ) : EReal)
  dg : ∀ k : Fin 1024, o.2.2.1 (ix2 0 k) = ((∑ s ∈ Finset.range (640 * ((n + 1) / 2)), dscale (back W1 W2 A Y) X k s : ℝ) : EReal)
  acc : ∀ (r : Fin 640) (k : Fin 1024), o.2.2.2.1 (ix2 r k)
    = ((∑ e ∈ Finset.range (2048 * (n % 2) + 2048), Cert.Mlp.da W2 A Y (640 * (n / 2) + r.val) e * W1 k.val e : ℝ) : EReal)
  dhb : ∀ (r : Fin 640) (k : Fin 1024), o.2.2.2.2 (ix2 r k) = (Y (640 * (n / 2) + r.val) k : EReal)

variable (H : Reals m c X G W1 W2 A Y)

section Blocks

variable (t : Fin cfg0.N)

include H

theorem b0 (r : Fin 640) (k : Fin 1024) : (iblk m c 0 t : Vec Ideal S640x1024 .f32) (ix2 r k) = (Y (640 * (t.val / 2) + r.val) k : EReal) := by
  rw [block0]; exact H.y _ k
theorem b1 (r : Fin 640) (e : Fin 2048) : (iblk m c 1 t : Vec Ideal S640x2048 .bf16) (ix2 r e) = (A (640 * (t.val / 2) + r.val) (2048 * (t.val % 2) + e.val) : EReal) := by
  rw [block1]; exact H.a _ _
theorem b2 (s : Fin 4) (k : Fin 1024) (e : Fin 512) : (iblk m c 2 t : Vec Ideal S4x1024x512 .bf16) (ix3 s k e) = (W1 k.val (2048 * (t.val % 2) + 512 * s.val + e.val) : EReal) := by
  rw [block2, H.w1, show 512 * (4 * (t.val % 2) + s.val) + e.val = 2048 * (t.val % 2) + 512 * s.val + e.val by omega]
theorem b3 (s : Fin 4) (e : Fin 512) (k : Fin 1024) : (iblk m c 3 t : Vec Ideal S4x512x1024 .bf16) (ix3 s e k) = (W2 (2048 * (t.val % 2) + 512 * s.val + e.val) k.val : EReal) := by
  rw [block3, H.w2, show 512 * (4 * (t.val % 2) + s.val) + e.val = 2048 * (t.val % 2) + 512 * s.val + e.val by omega]
theorem b4 (r : Fin 640) (k : Fin 1024) : (iblk m c 4 t : Vec Ideal S640x1024 .f32) (ix2 r k) = (X (640 * (t.val / 2) + r.val) k : EReal) := by
  rw [block4]; exact H.x _ k
theorem b5 (k : Fin 1024) : (iblk m c 5 t : Vec Ideal S1x1024 .f32) (ix2 0 k) = (G k : EReal) := by
  rw [block5]; exact H.g k

/-- A point that begins a block of rows. -/
theorem even_holds (ht : t.val % 2 = 0) (xh : Vec Ideal S640x1024 .f32) (xg : Vec Ideal S1x1024 .f32)
    (hg : ∀ k, xg (ix2 0 k) = ((∑ s ∈ Finset.range (640 * (t.val / 2)), dscale (back W1 W2 A Y) X k s : ℝ) : EReal)) :
    Holds X G W1 W2 A Y t.val (daOf (k0_pay8 (iblk m c 0 t)) (iblk m c 1 t) (iblk m c 3 t), xh, xg,
      accOf (k0_pay8 (iblk m c 0 t)) (iblk m c 1 t) (iblk m c 2 t) (iblk m c 3 t) (k0_pay7 (F := Ideal)), k0_pay8 (iblk m c 0 t)) := by
  have hd := pay8_real (640 * (t.val / 2)) Y (iblk m c 0 t) (b0 m c X G W1 W2 A Y H t)
  have hda : ∀ (r : Fin 640) (e : Fin 2048), daOf (k0_pay8 (iblk m c 0 t)) (iblk m c 1 t) (iblk m c 3 t) (ix2 r e)
      = (da W2 A Y (640 * (t.val / 2) + r.val) (2048 * (t.val % 2) + e.val) : EReal) := fun r e =>
    da_real (640 * (t.val / 2)) (2048 * (t.val % 2)) _ W2 A Y hd _ _ (b1 m c X G W1 W2 A Y H t) (b3 m c X G W1 W2 A Y H t) r e
  have hacc : ∀ (r : Fin 640) (k : Fin 1024), accOf (k0_pay8 (iblk m c 0 t)) (iblk m c 1 t) (iblk m c 2 t) (iblk m c 3 t) (k0_pay7 (F := Ideal)) (ix2 r k)
      = ((∑ e ∈ Finset.range (2048 * (t.val % 2) + 2048), da W2 A Y (640 * (t.val / 2) + r.val) e * W1 k.val e : ℝ) : EReal) := fun r k => by
    refine acc_real (640 * (t.val / 2)) (2048 * (t.val % 2)) _ W1 W2 A Y hd _ _ _ (b1 m c X G W1 W2 A Y H t) (b2 m c X G W1 W2 A Y H t) (b3 m c X G W1 W2 A Y H t) _ r k ?_
    rw [pay7_real, ht]
    simp
  generalize accOf (k0_pay8 (iblk m c 0 t)) (iblk m c 1 t) (iblk m c 2 t) (iblk m c 3 t) (k0_pay7 (F := Ideal)) = acc at *
  generalize daOf (k0_pay8 (iblk m c 0 t)) (iblk m c 1 t) (iblk m c 3 t) = dd at *
  have hdg : ∀ k : Fin 1024, xg (ix2 0 k) = ((∑ s ∈ Finset.range (640 * ((t.val + 1) / 2)), dscale (back W1 W2 A Y) X k s : ℝ) : EReal) := fun k => by
    rw [show (t.val + 1) / 2 = t.val / 2 by omega]
    exact hg k
  exact ⟨hda, fun h => absurd h (by omega), hdg, hacc, hd⟩

omit H in
/-- The five parts put together. -/
theorem holds_of (dd : Vec Ideal S640x2048 .bf16) (dh : Vec Ideal S640x1024 .f32) (dg : Vec Ideal S1x1024 .f32) (acc : Vec Ideal S640x1024 .f32)
    (xd : Vec Ideal S640x1024 .bf16) (n : ℕ)
    (hda : ∀ (r : Fin 640) (e : Fin 2048), dd (ix2 r e) = (da W2 A Y (640 * (n / 2) + r.val) (2048 * (n % 2) + e.val) : EReal))
    (hdh : ∀ (r : Fin 640) (k : Fin 1024), dh (ix2 r k) = ((Y (640 * (n / 2) + r.val) k + dx (back W1 W2 A Y) X G (640 * (n / 2) + r.val) k : ℝ) : EReal))
    (hdg : ∀ k : Fin 1024, dg (ix2 0 k) = ((∑ s ∈ Finset.range (640 * ((n + 1) / 2)), dscale (back W1 W2 A Y) X k s : ℝ) : EReal))
    (hacc : ∀ (r : Fin 640) (k : Fin 1024), acc (ix2 r k)
      = ((∑ e ∈ Finset.range (2048 * (n % 2) + 2048), da W2 A Y (640 * (n / 2) + r.val) e * W1 k.val e : ℝ) : EReal))
    (hd : ∀ (r : Fin 640) (k : Fin 1024), xd (ix2 r k) = (Y (640 * (n / 2) + r.val) k : EReal)) :
    Holds X G W1 W2 A Y n (dd, dh, dg, acc, xd) := ⟨hda, fun _ => hdh, hdg, hacc, hd⟩

/-- The norm's gradient of a whole block of rows. -/
theorem norm_holds (ht : t.val % 2 = 1) (xg : Vec Ideal S1x1024 .f32) (acc : Vec Ideal S640x1024 .f32)
    (hg : ∀ k, xg (ix2 0 k) = ((∑ s ∈ Finset.range (640 * (t.val / 2)), dscale (back W1 W2 A Y) X k s : ℝ) : EReal))
    (hU : ∀ (r : Fin 640) (k : Fin 1024), acc (ix2 r k) = (back W1 W2 A Y (640 * (t.val / 2) + r.val) k : EReal)) :
    (∀ (r : Fin 640) (k : Fin 1024), k0_pay4 (iblk m c 4 t) (iblk m c 5 t) acc (iblk m c 0 t) (ix2 r k)
      = ((Y (640 * (t.val / 2) + r.val) k + dx (back W1 W2 A Y) X G (640 * (t.val / 2) + r.val) k : ℝ) : EReal)) ∧
    (∀ k : Fin 1024, k0_pay5 (iblk m c 4 t) acc xg (ix2 0 k)
      = ((∑ s ∈ Finset.range (640 * ((t.val + 1) / 2)), dscale (back W1 W2 A Y) X k s : ℝ) : EReal)) := by
  refine ⟨dh2_real (640 * (t.val / 2)) X G Y (iblk m c 4 t) (iblk m c 5 t) (iblk m c 0 t) acc (back W1 W2 A Y)
    (b4 m c X G W1 W2 A Y H t) (b5 m c X G W1 W2 A Y H t) (b0 m c X G W1 W2 A Y H t) hU, fun k => ?_⟩
  rw [dg_real (640 * (t.val / 2)) X (iblk m c 4 t) acc (back W1 W2 A Y) (b4 m c X G W1 W2 A Y H t) hU xg _ k (hg k), rows_step,
    show 640 * ((t.val + 1) / 2) = 640 * (t.val / 2) + 640 by omega]

/-- A point that ends it. -/
theorem odd_holds (ht : t.val % 2 = 1) (xg : Vec Ideal S1x1024 .f32) (xa : Vec Ideal S640x1024 .f32) (xd : Vec Ideal S640x1024 .bf16)
    (hg : ∀ k, xg (ix2 0 k) = ((∑ s ∈ Finset.range (640 * (t.val / 2)), dscale (back W1 W2 A Y) X k s : ℝ) : EReal))
    (ha : ∀ (r : Fin 640) (k : Fin 1024), xa (ix2 r k) = ((∑ e ∈ Finset.range 2048, da W2 A Y (640 * (t.val / 2) + r.val) e * W1 k.val e : ℝ) : EReal))
    (hd : ∀ (r : Fin 640) (k : Fin 1024), xd (ix2 r k) = (Y (640 * (t.val / 2) + r.val) k : EReal)) :
    Holds X G W1 W2 A Y t.val (daOf xd (iblk m c 1 t) (iblk m c 3 t),
      k0_pay4 (iblk m c 4 t) (iblk m c 5 t) (accOf xd (iblk m c 1 t) (iblk m c 2 t) (iblk m c 3 t) xa) (iblk m c 0 t),
      k0_pay5 (iblk m c 4 t) (accOf xd (iblk m c 1 t) (iblk m c 2 t) (iblk m c 3 t) xa) xg,
      accOf xd (iblk m c 1 t) (iblk m c 2 t) (iblk m c 3 t) xa, xd) := by
  have hacc : ∀ (r : Fin 640) (k : Fin 1024), accOf xd (iblk m c 1 t) (iblk m c 2 t) (iblk m c 3 t) xa (ix2 r k)
      = ((∑ e ∈ Finset.range (2048 * (t.val % 2) + 2048), da W2 A Y (640 * (t.val / 2) + r.val) e * W1 k.val e : ℝ) : EReal) := fun r k => by
    refine acc_real (640 * (t.val / 2)) (2048 * (t.val % 2)) _ W1 W2 A Y hd _ _ _ (b1 m c X G W1 W2 A Y H t) (b2 m c X G W1 W2 A Y H t) (b3 m c X G W1 W2 A Y H t) _ r k ?_
    rw [ha, ht]
  have hda : ∀ (r : Fin 640) (e : Fin 2048), daOf xd (iblk m c 1 t) (iblk m c 3 t) (ix2 r e)
      = (da W2 A Y (640 * (t.val / 2) + r.val) (2048 * (t.val % 2) + e.val) : EReal) := fun r e =>
    da_real (640 * (t.val / 2)) (2048 * (t.val % 2)) _ W2 A Y hd _ _ (b1 m c X G W1 W2 A Y H t) (b3 m c X G W1 W2 A Y H t) r e
  have hU : ∀ (r : Fin 640) (k : Fin 1024), accOf xd (iblk m c 1 t) (iblk m c 2 t) (iblk m c 3 t) xa (ix2 r k)
      = (back W1 W2 A Y (640 * (t.val / 2) + r.val) k : EReal) := fun r k => by
    rw [hacc, ht]
    rfl
  have hn := norm_holds m c X G W1 W2 A Y H t ht xg _ hg hU
  exact holds_of X G W1 W2 A Y _ _ _ _ _ t.val hda hn.1 hn.2 hacc hd

end Blocks

include H in
theorem holds_at (n : ℕ) (h : n < cfg0.N) : Holds X G W1 W2 A Y n (outsAt0 m c n h) := by
  have hN : cfg0.N = 26 := N_0
  induction n with
  | zero =>
    rw [outsAt0_A m c ⟨0, h⟩ rfl rfl (by simp), da_A, dg_A, acc_A, dhb_A]
    refine even_holds m c X G W1 W2 A Y H ⟨0, h⟩ rfl _ _ (fun k => ?_)
    rw [pay6_real]; simp
  | succ n ih =>
    have q := ih (by omega)
    have h0 : ¬ (n + 1) % 26 = 0 := by omega
    by_cases h1 : (n + 1) % 2 = 0
    · rw [outsAt0_C m c ⟨n + 1, h⟩ h0 h1 (show ¬ (n + 1) % 2 = 1 by omega), da_C, dg_C, acc_C, dhb_C]
      refine even_holds m c X G W1 W2 A Y H ⟨n + 1, h⟩ h1 _ _ (fun k => ?_)
      exact q.dg k
    · have e : n / 2 = (n + 1) / 2 := by omega
      rw [outsAt0_B m c ⟨n + 1, h⟩ h0 h1 (show (n + 1) % 2 = 1 by omega), da_B, dh2_B, dg_B, acc_B, dhb_B]
      refine odd_holds m c X G W1 W2 A Y H ⟨n + 1, h⟩ (show (n + 1) % 2 = 1 by omega) _ _ _ (fun k => q.dg k) (fun r k => ?_) (fun r k => ?_)
      · refine (q.acc r k).trans ?_
        rw [e, show n % 2 = 0 by omega]
      · refine (q.dhb r k).trans ?_
        rw [e]

/-! ### The arrays -/

/-- The gradient before the ReLU, that of the layer's input, and that of the scale. -/
def daArr : Vec Ideal S8320x4096 .bf16 := fun i => (da W2 A Y (i 0).val (i 1).val : EReal)
def dhArr : Vec Ideal S8320x1024 .f32 := fun i => ((Y (i 0).val (i 1) + dx (back W1 W2 A Y) X G (i 0).val (i 1) : ℝ) : EReal)
def dgArr : Vec Ideal S1x1024 .f32 := fun i => ((∑ n ∈ Finset.range 8320, dscale (back W1 W2 A Y) X (i 1) n : ℝ) : EReal)

theorem mem_blk6 (t : Fin cfg0.N) (i : S8320x4096.Idx) (h0 : 640 * (t.val / 2) ≤ (i 0).val ∧ (i 0).val < 640 * (t.val / 2) + 640)
    (h1 : 2048 * (t.val % 2) ≤ (i 1).val ∧ (i 1).val < 2048 * (t.val % 2) + 2048) : i ∈ ((cfg0.win 6).blk t).view.set := by
  show i ∈ ((View.whole main_v28_0).slice (win0_6.rect t)).set
  rw [View.set_slice_whole, Rect.mem_set_unit]
  intro a
  match a with
  | 0 => show win0_6.index t 0 * 640 ≤ (i 0).val ∧ (i 0).val < win0_6.index t 0 * 640 + 640
         rw [(index6 t).1]; omega
  | 1 => show win0_6.index t 1 * 2048 ≤ (i 1).val ∧ (i 1).val < win0_6.index t 1 * 2048 + 2048
         rw [(index6 t).2]; omega

include H in
theorem arr6 : (dats m 0 c).arrAt 6 cfg0.N = daArr W2 A Y := by
  have hN : cfg0.N = 26 := N_0
  refine (dats m 0 c).arrAt_eq_of_cover 6 _ (fun t _ => ?_) (fun i => ?_)
  · rw [Value.flushed6]
    show (outsAt0 m c t.val t.isLt).1 = ((cfg0.win 6).blk t).view.read (Elt Ideal) (daArr W2 A Y)
    funext j
    obtain ⟨r, e, rfl⟩ : ∃ (r : Fin 640) (e : Fin 2048), j = ix2 r e := ⟨j 0, j 1, eq_ix2 j⟩
    rw [(holds_at m c X G W1 W2 A Y H t.val t.isLt).da r e, View.read_apply]
    show _ = daArr W2 A Y _
    have e0 : 640 * (t.val / 2) + r.val = win0_6.index t 0 * 640 + 1 * r.val := by rw [(index6 t).1]; omega
    have e1 : 2048 * (t.val % 2) + e.val = win0_6.index t 1 * 2048 + 1 * e.val := by rw [(index6 t).2]; omega
    rw [e0, e1]
    rfl
  · have hi : (i 0).val < 8320 := (i 0).isLt
    have hj : (i 1).val < 4096 := (i 1).isLt
    refine ⟨⟨2 * ((i 0).val / 640) + (i 1).val / 2048, by omega⟩, flush0_6 _, mem_blk6 _ _ ?_ ?_⟩
    · dsimp only; omega
    · dsimp only; omega

theorem mem_blk7 (t : Fin cfg0.N) (i : S8320x1024.Idx) (h0 : 640 * (t.val / 2) ≤ (i 0).val ∧ (i 0).val < 640 * (t.val / 2) + 640) :
    i ∈ ((cfg0.win 7).blk t).view.set := by
  show i ∈ ((View.whole main_v28_1).slice (win0_7.rect t)).set
  rw [View.set_slice_whole, Rect.mem_set_unit]
  intro a
  match a with
  | 0 => show win0_7.index t 0 * 640 ≤ (i 0).val ∧ (i 0).val < win0_7.index t 0 * 640 + 640
         rw [(index7 t).1]; omega
  | 1 => show win0_7.index t 1 * 1024 ≤ (i 1).val ∧ (i 1).val < win0_7.index t 1 * 1024 + 1024
         have h1 : (i 1).val < 1024 := (i 1).isLt
         rw [(index7 t).2]; omega

include H in
theorem arr7 : (dats m 0 c).arrAt 7 cfg0.N = dhArr X G W1 W2 A Y := by
  have hN : cfg0.N = 26 := N_0
  refine (dats m 0 c).arrAt_eq_of_cover 7 _ (fun t ht => ?_) (fun i => ?_)
  · rw [Value.flushed7]
    show (outsAt0 m c t.val t.isLt).2.1 = ((cfg0.win 7).blk t).view.read (Elt Ideal) (dhArr X G W1 W2 A Y)
    funext j
    obtain ⟨r, k, rfl⟩ : ∃ (r : Fin 640) (k : Fin 1024), j = ix2 r k := ⟨j 0, j 1, eq_ix2 j⟩
    rw [(holds_at m c X G W1 W2 A Y H t.val t.isLt).dh ((flush0_7 t).mp ht) r k, View.read_apply]
    show _ = dhArr X G W1 W2 A Y _
    have e0 : 640 * (t.val / 2) + r.val = win0_7.index t 0 * 640 + 1 * r.val := by rw [(index7 t).1]; omega
    have e1 : k.val = win0_7.index t 1 * 1024 + 1 * k.val := by rw [(index7 t).2]; omega
    rw [e0]
    exact congrArg (fun k => ((Y _ k + dx (back W1 W2 A Y) X G _ k : ℝ) : EReal)) (Fin.ext e1)
  · have hi : (i 0).val < 8320 := (i 0).isLt
    refine ⟨⟨2 * ((i 0).val / 640) + 1, by omega⟩, (flush0_7 _).mpr (by dsimp only; omega), mem_blk7 _ _ ?_⟩
    dsimp only; omega

theorem mem_blk8 (t : Fin cfg0.N) (i : S1x1024.Idx) : i ∈ ((cfg0.win 8).blk t).view.set := by
  show i ∈ ((View.whole main_v28_2).slice (win0_8.rect t)).set
  rw [View.set_slice_whole, Rect.mem_set_unit]
  intro a
  match a with
  | 0 => show win0_8.index t 0 * 1 ≤ (i 0).val ∧ (i 0).val < win0_8.index t 0 * 1 + 1
         have h0 : (i 0).val < 1 := (i 0).isLt
         rw [(index8 t).1]; omega
  | 1 => show win0_8.index t 1 * 1024 ≤ (i 1).val ∧ (i 1).val < win0_8.index t 1 * 1024 + 1024
         have h1 : (i 1).val < 1024 := (i 1).isLt
         rw [(index8 t).2]; omega

include H in
theorem arr8 : (dats m 0 c).arrAt 8 cfg0.N = dgArr X W1 W2 A Y := by
  have hN : cfg0.N = 26 := N_0
  refine (dats m 0 c).arrAt_eq_of_cover 8 _ (fun t ht => ?_) (fun i => ?_)
  · have h25 : t.val = 25 := by have := (flush0_8 t).mp ht; have := t.isLt; omega
    rw [Value.flushed8]
    show (outsAt0 m c t.val t.isLt).2.2.1 = ((cfg0.win 8).blk t).view.read (Elt Ideal) (dgArr X W1 W2 A Y)
    funext j
    obtain ⟨p, k, rfl⟩ : ∃ (p : Fin 1) (k : Fin 1024), j = ix2 p k := ⟨j 0, j 1, eq_ix2 j⟩
    obtain rfl : p = 0 := Subsingleton.elim _ _
    rw [(holds_at m c X G W1 W2 A Y H t.val t.isLt).dg k, View.read_apply]
    show _ = dgArr X W1 W2 A Y _
    unfold dgArr
    rw [h25]
    refine congrArg Real.toEReal (Finset.sum_congr rfl fun n _ => congrArg (fun k => dscale (back W1 W2 A Y) X k n) (Fin.ext ?_))
    show _ = win0_8.index t 1 * 1024 + 1 * k.val
    rw [(index8 t).2]; omega
  · exact ⟨⟨25, by omega⟩, (flush0_8 _).mpr rfl, mem_blk8 _ _⟩

end Cert.MlpIdeal.Hand
-- ==== Proof.MlpReference.lean ====
/- The reference's gradient of the squared-ReLU layer and its norm, where the arguments are finite. -/
module

public import proofs.«01_k».proof.Proof.Gen.MlpRefIdeal.Read
public import proofs.«01_k».proof.Proof.MlpReal
public import proofs.«01_k».proof.Proof.Sigmoid
public import Idealize.ShloMosaic.Lib.Pointwise

@[expose] public section

set_option maxRecDepth 16384

noncomputable section

namespace Cert.MlpRefIdeal.Hand

open Cert.MlpRefIdeal Cert.MlpRefIdeal.Read Idealize.ShloMosaic Cert.Norm Cert.Mlp

variable (x0 : Vec Ideal S8208x1024 .f32) (x1 : Vec Ideal S1024 .f32) (x2 : Vec Ideal S1024x4096 .f32) (x3 : Vec Ideal S4096x1024 .f32)
  (x4 : Vec Ideal S8208x1024 .f32) (X : ℕ → Fin 1024 → ℝ) (G : Fin 1024 → ℝ) (W1 W2 : ℕ → ℕ → ℝ) (Y : ℕ → Fin 1024 → ℝ)
  (h0 : ∀ (R : Fin 8208) k, x0 (ix2 R k) = (X R.val k : EReal)) (h1 : ∀ k, x1 (ix1 k) = (G k : EReal))
  (h2 : ∀ (k : Fin 1024) (e : Fin 4096), x2 (ix2 k e) = (W1 k.val e.val : EReal))
  (h3 : ∀ (e : Fin 4096) (k : Fin 1024), x3 (ix2 e k) = (W2 e.val k.val : EReal))
  (h4 : ∀ (R : Fin 8208) k, x4 (ix2 R k) = (Y R.val k : EReal))

include h0 in
theorem v7_real (R : Fin 8208) : val_main_v7 (F := Ideal) x0 (ix2 R 0) = (msq (X R.val) : EReal) := by
  pointwise [val_main_v7, val_main_v6, val_main_v5, val_main_v4, val_main_v3, val_main_v2, val_main_v1, val_main_cst_0, val_main_cst_1, val_main_cst_2]
  simp only [h0, ← EReal.coe_mul, coe_sum, eps_word, width_word]
  rw [div_real _ _ (by norm_num), ← EReal.coe_add]
  rfl

include h0 in
theorem v8_real (R : Fin 8208) : val_main_v8 (F := Ideal) x0 (ix2 R 0) = (rs (X R.val) : EReal) := by
  have e := v7_real x0 X h0 R
  unfold val_main_v8
  generalize val_main_v7 (F := Ideal) x0 = s at e
  pointwise []
  rw [e]
  exact rsqrt_real (msq_pos _)

include h0 in
theorem v11_real (R : Fin 8208) : val_main_v11 (F := Ideal) x0 (ix2 R 0) = ((-(1 / 2) * (rs (X R.val) / msq (X R.val)) : ℝ) : EReal) := by
  have e6 := v7_real x0 X h0 R
  have e7 := v8_real x0 X h0 R
  unfold val_main_v11 val_main_v9
  generalize val_main_v7 (F := Ideal) x0 = s6 at *
  generalize val_main_v8 (F := Ideal) x0 = s7 at *
  pointwise [val_main_v10, val_main_cst_3]
  rw [e6, e7, neg_half_word, div_real _ _ (msq_pos _).ne', ← EReal.coe_mul]

include h0 in
theorem v13_real (R : Fin 8208) (k : Fin 1024) : val_main_v13 (F := Ideal) x0 (ix2 R k) = ((X R.val k * rs (X R.val) : ℝ) : EReal) := by
  have e7 := v8_real x0 X h0 R
  unfold val_main_v13 val_main_v12
  generalize val_main_v8 (F := Ideal) x0 = s7 at *
  pointwise []
  rw [e7, h0, ← EReal.coe_mul]

include h0 h1 h2 in
theorem v18_real (R : Fin 8208) (e : Fin 4096) : val_main_v18 (F := Ideal) x0 x1 x2 (ix2 R e) = (act X G W1 R.val e.val : EReal) := by
  have e13 := v13_real x0 X h0 R
  unfold val_main_v18 val_main_v17 val_main_v16
  generalize val_main_v13 (F := Ideal) x0 = s at *
  pointwise [val_main_v15, val_main_v14, val_main_v0, val_main_cst]
  simp only [e13, h1, h2, ← EReal.coe_mul, coe_sum]
  rfl

include h0 h1 h2 h3 h4 in
theorem v32_real (R : Fin 8208) (e : Fin 4096) :
    val_main_v32 (F := Ideal) x0 x1 x2 x3 x4 (ix2 R e) = (da W2 (relu X G W1) Y R.val e.val : EReal) := by
  have e18 := v18_real x0 x1 x2 X G W1 h0 h1 h2 R e
  unfold val_main_v32 val_main_v30 val_main_v21 val_main_v25 val_main_v19
  generalize val_main_v18 (F := Ideal) x0 x1 x2 = s at *
  pointwise [val_main_v29, val_main_v28, val_main_v20, val_main_v24, val_main_v31, val_main_cst_4, val_main_cst_6, val_main_cst_7, val_main_call0_v0, val_main_call0_cst]
  simp only [e18, h3, h4, two_word, ← EReal.coe_mul, coe_sum]
  unfold da relu
  split
  · next h =>
    have hp : 0 < act X G W1 R.val e.val := EReal.coe_pos.mp h
    rw [max_eq_left h.le, max_eq_left hp.le, ← EReal.coe_mul, ← EReal.coe_mul]
  · next h =>
    have hp : ¬ 0 < act X G W1 R.val e.val := fun q => h (EReal.coe_pos.mpr q)
    rw [max_eq_right (not_lt.mp hp), mul_zero, mul_zero]
    rfl

/-- The gradient at the norm's result. -/
abbrev back (n : ℕ) (k : Fin 1024) : ℝ := dhn W1 (da W2 (relu X G W1) Y) n k

include h0 h1 h2 h3 h4 in
theorem v33_real (R : Fin 8208) (k : Fin 1024) : val_main_v33 (F := Ideal) x0 x1 x2 x3 x4 (ix2 R k) = (back X G W1 W2 Y R.val k : EReal) := by
  have e := v32_real x0 x1 x2 x3 x4 X G W1 W2 Y h0 h1 h2 h3 h4 R
  unfold val_main_v33
  generalize val_main_v32 (F := Ideal) x0 x1 x2 x3 x4 = s at *
  pointwise []
  simp only [e, h2, ← EReal.coe_mul, coe_sum]
  unfold back dhn
  rw [Finset.sum_range]

variable (U : ℕ → Fin 1024 → ℝ)

section Norm

variable (hU : ∀ (R : Fin 8208) (k : Fin 1024), val_main_v33 (F := Ideal) x0 x1 x2 x3 x4 (ix2 R k) = (U R.val k : EReal))

include h1 hU in
theorem v38_real (R : Fin 8208) (k : Fin 1024) : val_main_v38 (F := Ideal) x0 x1 x2 x3 x4 (ix2 R k) = ((U R.val k * G k : ℝ) : EReal) := by
  have e := hU R k
  unfold val_main_v38
  generalize val_main_v33 (F := Ideal) x0 x1 x2 x3 x4 = s at *
  pointwise [val_main_v37, val_main_v14]
  rw [e, h1, ← EReal.coe_mul]

include h0 h1 hU in
theorem v49_real (R : Fin 8208) : val_main_v49 (F := Ideal) x0 x1 x2 x3 x4 (ix1 R) =
    (((∑ k, X R.val k * (U R.val k * G k)) * (-(1 / 2) * (rs (X R.val) / msq (X R.val))) / 1024 : ℝ) : EReal) := by
  have e := v38_real x0 x1 x2 x3 x4 G h1 U hU R
  have e10 := v11_real x0 X h0 R
  unfold val_main_v49 val_main_v48 val_main_v46 val_main_v42 val_main_v41 val_main_v40
  generalize val_main_v38 (F := Ideal) x0 x1 x2 x3 x4 = s at *
  generalize val_main_v11 (F := Ideal) x0 = s10 at *
  pointwise [val_main_v47, val_main_cst_10, val_main_cst_11, val_main_cst_12]
  rw [Fin.sum_univ_one]
  simp only [h0, e, e10, ← EReal.coe_mul, coe_sum, width_word]
  rw [div_real _ _ (by norm_num)]

include h0 h1 h4 hU in
theorem v54_real (R : Fin 8208) (k : Fin 1024) : val_main_v54 (F := Ideal) x0 x1 x2 x3 x4 (ix2 R k) = ((Y R.val k + dx U X G R.val k : ℝ) : EReal) := by
  have e38 := v38_real x0 x1 x2 x3 x4 G h1 U hU R k
  have e49 := v49_real x0 x1 x2 x3 x4 X G h0 h1 U hU R
  have e8 := v8_real x0 X h0 R
  unfold val_main_v54 val_main_v53 val_main_v52 val_main_v51 val_main_v50 val_main_v45 val_main_v44 val_main_v43
  generalize val_main_v49 (F := Ideal) x0 x1 x2 x3 x4 = s33 at *
  generalize val_main_v38 (F := Ideal) x0 x1 x2 x3 x4 = s22 at *
  generalize val_main_v8 (F := Ideal) x0 = s7 at *
  pointwise []
  rw [h0, h4, e8, e38, e49]
  simp only [← EReal.coe_mul, ← EReal.coe_add]
  refine congrArg Real.toEReal ?_
  rw [add_assoc, add_assoc]
  refine congrArg (Y R.val k + ·) ?_
  rw [← add_assoc]
  exact grad (X R.val) (fun k => U R.val k * G k) k

include h0 h1 h4 hU in
/-- The gradient of the layer's input. -/
theorem v57_real (hX : ∀ n k, 8208 ≤ n → U n k = 0) (hY : ∀ n k, 8208 ≤ n → Y n k = 0) (R : Fin 8320) (k : Fin 1024) :
    val_main_v57 (F := Ideal) x0 x1 x2 x3 x4 (ix2 R k) = ((Y R.val k + dx U X G R.val k : ℝ) : EReal) := by
  have e := v54_real x0 x1 x2 x3 x4 X G Y h0 h1 h4 U hU
  unfold val_main_v57
  generalize val_main_v54 (F := Ideal) x0 x1 x2 x3 x4 = s at *
  pointwise [val_main_call2_v0, val_main_c_13]
  split
  · next h => exact e ⟨R.val, by omega⟩ k
  · rw [hY _ _ (by omega), dx_zero _ _ _ _ (fun k => hX _ _ (by omega)), add_zero]
    exact Sigmoid.zero_word _

include h0 hU in
/-- The gradient of the scale. -/
theorem v58_real (hX : ∀ n k, 8208 ≤ n → U n k = 0) (k : Fin 1024) :
    val_main_v58 (F := Ideal) x0 x1 x2 x3 x4 (ix2 0 k) = ((∑ n ∈ Finset.range 8320, dscale U X k n : ℝ) : EReal) := by
  have e := fun R => hU R k
  have e12 := fun R => v13_real x0 X h0 R k
  unfold val_main_v58 val_main_v39 val_main_v36 val_main_v35 val_main_v34
  generalize val_main_v33 (F := Ideal) x0 x1 x2 x3 x4 = s at *
  generalize val_main_v13 (F := Ideal) x0 = s12 at *
  pointwise [val_main_cst_8, val_main_cst_9]
  rw [Fin.sum_univ_one]
  simp only [e, e12, ← EReal.coe_mul, coe_sum]
  rw [rows_real _ fun n hn => dscale_zero _ _ _ _ (hX _ _ hn)]
  refine congrArg Real.toEReal (Finset.sum_congr rfl fun R _ => ?_)
  unfold dscale
  ring

end Norm

include h0 h1 h2 h3 h4 in
/-- The gradient before the ReLU. -/
theorem v56_real (hY : ∀ n k, 8208 ≤ n → Y n k = 0) (R : Fin 8320) (e : Fin 4096) :
    val_main_v56 (F := Ideal) x0 x1 x2 x3 x4 (ix2 R e) = (da W2 (relu X G W1) Y R.val e.val : EReal) := by
  have e32 := v32_real x0 x1 x2 x3 x4 X G W1 W2 Y h0 h1 h2 h3 h4
  unfold val_main_v56 val_main_v55
  generalize val_main_v32 (F := Ideal) x0 x1 x2 x3 x4 = s at *
  pointwise [val_main_call1_v0, val_main_c]
  split
  · next h => exact e32 ⟨R.val, by omega⟩ e
  · rw [da_zero _ _ _ _ _ (fun k => hY _ _ (by omega))]
    exact Sigmoid.zero_word _

end Cert.MlpRefIdeal.Hand
-- ==== Proof.MlpEquation.lean ====
/- The squared-ReLU layer's gradient and its norm's: the kernel's three arrays are the reference's, where the arguments are finite. -/
module

public import proofs.«01_k».proof.Defs
public import proofs.«01_k».proof.Proof.MlpArray
public import proofs.«01_k».proof.Proof.MlpReference
public import proofs.«01_k».proof.Proof.Gen.MlpRefIdeal.Run
public import proofs.«01_k».proof.Proof.Gen.Pre_mlp_finite
public import Idealize.ShloMosaic.Lib.StableHlo.ReadAt

@[expose] public section

set_option maxRecDepth 16384

noncomputable section

namespace Cert.MlpIdeal.Hand

open Cert.MlpIdeal Cert.MlpIdeal.Gen Idealize.ShloMosaic Idealize.ShloMosaic.TcCoe Idealize.SL.Sem
open Cert.MlpRefIdeal.Read Cert.Norm Cert.Mlp

theorem coe_toReal_of_abs {x : EReal} (h : max x (-x) < ⊤) : x = (x.toReal : EReal) := by
  induction x with
  | bot => exact absurd h (by simp)
  | top => exact absurd h (by simp)
  | coe a => rfl

/-- The precondition at an element of each argument. -/
theorem finite_of_pre (h : Vec Ideal S8208x1024 .f32) (g : Vec Ideal S1024 .f32) (w : Vec Ideal S1024x4096 .f32)
    (v : Vec Ideal S4096x1024 .f32) (y : Vec Ideal S8208x1024 .f32)
    (hp : letI := Cert.Pre_mlp_finite.Gen.facts; (Cert.Pre_mlp_finite.fn (F := Ideal) h g w v y).1 = (fun _ => 1#1) ∧
      (Cert.Pre_mlp_finite.fn (F := Ideal) h g w v y).2.1 = (fun _ => 1#1) ∧
      (Cert.Pre_mlp_finite.fn (F := Ideal) h g w v y).2.2.1 = (fun _ => 1#1) ∧
      (Cert.Pre_mlp_finite.fn (F := Ideal) h g w v y).2.2.2.1 = (fun _ => 1#1) ∧
      (Cert.Pre_mlp_finite.fn (F := Ideal) h g w v y).2.2.2.2 = fun _ => 1#1) :
    (∀ (R : Fin 8208) (k : Fin 1024), h (ix2 R k) = ((h (ix2 R k)).toReal : EReal)) ∧
    (∀ k : Fin 1024, g (ix1 k) = ((g (ix1 k)).toReal : EReal)) ∧
    (∀ (k : Fin 1024) (e : Fin 4096), w (ix2 k e) = ((w (ix2 k e)).toReal : EReal)) ∧
    (∀ (e : Fin 4096) (k : Fin 1024), v (ix2 e k) = ((v (ix2 e k)).toReal : EReal)) ∧
    (∀ (R : Fin 8208) (k : Fin 1024), y (ix2 R k) = ((y (ix2 R k)).toReal : EReal)) := by
  have one : ∀ a : Bool, BitVec.ofBool a = 1#1 → a = true := by decide
  obtain ⟨p0, p1, p2, p3, p4⟩ := hp
  refine ⟨fun R k => ?_, fun k => ?_, fun k e => ?_, fun e k => ?_, fun R k => ?_⟩
  · have q := congrFun p0 (ix2 R k)
    pointwise [Cert.Pre_mlp_finite.fn] at q
    rw [Sigmoid.inf_word] at q
    exact coe_toReal_of_abs (of_decide_eq_true (one _ q))
  · have q := congrFun p1 (ix1 k)
    pointwise [Cert.Pre_mlp_finite.fn] at q
    rw [Sigmoid.inf_word] at q
    exact coe_toReal_of_abs (of_decide_eq_true (one _ q))
  · have q := congrFun p2 (ix2 k e)
    pointwise [Cert.Pre_mlp_finite.fn] at q
    rw [Sigmoid.inf_word] at q
    exact coe_toReal_of_abs (of_decide_eq_true (one _ q))
  · have q := congrFun p3 (ix2 e k)
    pointwise [Cert.Pre_mlp_finite.fn] at q
    rw [Sigmoid.inf_word] at q
    exact coe_toReal_of_abs (of_decide_eq_true (one _ q))
  · have q := congrFun p4 (ix2 R k)
    pointwise [Cert.Pre_mlp_finite.fn] at q
    rw [Sigmoid.inf_word] at q
    exact coe_toReal_of_abs (of_decide_eq_true (one _ q))

/-- The numbers of the arguments; rows past the last are zeros. -/
def rowsOf (h : Vec Ideal S8208x1024 .f32) (n : ℕ) (k : Fin 1024) : ℝ := if e : n < 8208 then (h (ix2 ⟨n, e⟩ k)).toReal else 0
def scaleOf (g : Vec Ideal S1024 .f32) (k : Fin 1024) : ℝ := (g (ix1 k)).toReal
def weightOf {a b : ℕ} (w : Vec Ideal ⟨2, ![a, b]⟩ .f32) (k j : ℕ) : ℝ := if e : k < a ∧ j < b then (w (ix2 ⟨k, e.1⟩ ⟨j, e.2⟩)).toReal else 0

variable (m : (ℓ : Loc nD τ sig) → Buf (Elt Ideal) ℓ) (c : Dev nD)

theorem w1_apply (w : Vec Ideal S1024x4096 .f32) (hw : m ((c : Thread nD τ).loc main_arg2) = w) (s : Fin 8) (k : Fin 1024) (e : Fin 512) :
    (V m c main_v2 : Vec Ideal S8x1024x512 .bf16) (ix3 s k e) = w (ix2 k ⟨512 * s.val + e.val, by omega⟩) := by
  subst hw
  unfold V
  after_reads_at
  exact congrArg (m ((c : Thread nD τ).loc main_arg2)) (congrArg (ix2 k) (Fin.ext (by dsimp only; omega)))

theorem w2_apply (w : Vec Ideal S4096x1024 .f32) (hw : m ((c : Thread nD τ).loc main_arg3) = w) (s : Fin 8) (e : Fin 512) (k : Fin 1024) :
    (V m c main_v4 : Vec Ideal S8x512x1024 .bf16) (ix3 s e k) = w (ix2 ⟨512 * s.val + e.val, by omega⟩ k) := by
  subst hw
  unfold V
  after_reads_at
  exact congrArg (fun j => m ((c : Thread nD τ).loc main_arg3) (ix2 j k)) (Fin.ext (by dsimp only; omega))

theorem rows_apply (R : Fin 8320) (k : Fin 1024) (h : Vec Ideal S8208x1024 .f32) (hh : m ((c : Thread nD τ).loc main_arg0) = h) :
    (V m c main_v26 : Vec Ideal S8320x1024 .f32) (ix2 R k) = if e : R.val < 8208 then h (ix2 ⟨R.val, e⟩ k) else 0 := by
  subst hh
  unfold V
  after_reads_at
  rw [Sigmoid.zero_word]

theorem cot_apply (R : Fin 8320) (k : Fin 1024) (y : Vec Ideal S8208x1024 .f32) (hy : m ((c : Thread nD τ).loc main_arg4) = y) :
    (V m c main_v23 : Vec Ideal S8320x1024 .f32) (ix2 R k) = if e : R.val < 8208 then y (ix2 ⟨R.val, e⟩ k) else 0 := by
  subst hy
  unfold V
  after_reads_at
  rw [Sigmoid.zero_word]

theorem scale_apply (k : Fin 1024) (g : Vec Ideal S1024 .f32) (hg : m ((c : Thread nD τ).loc main_arg1) = g) :
    (V m c main_v27 : Vec Ideal S1x1024 .f32) (ix2 0 k) = g (ix1 k) := by
  subst hg
  unfold V
  after_reads_at

theorem relu_apply (X : ℕ → Fin 1024 → ℝ) (G : Fin 1024 → ℝ) (W1 : ℕ → ℕ → ℝ)
    (h : Vec Ideal S8208x1024 .f32) (hh : m ((c : Thread nD τ).loc main_arg0) = h)
    (g : Vec Ideal S1024 .f32) (hg : m ((c : Thread nD τ).loc main_arg1) = g)
    (w : Vec Ideal S1024x4096 .f32) (hw : m ((c : Thread nD τ).loc main_arg2) = w)
    (hX : ∀ (R : Fin 8208) k, h (ix2 R k) = (X R.val k : EReal)) (hG : ∀ k, g (ix1 k) = (G k : EReal))
    (hW : ∀ (k : Fin 1024) (e : Fin 4096), w (ix2 k e) = (W1 k.val e.val : EReal))
    (hX0 : ∀ n k, 8208 ≤ n → X n k = 0) (R : Fin 8320) (e : Fin 4096) :
    (V m c main_v25 : Vec Ideal S8320x4096 .bf16) (ix2 R e) = (relu X G W1 R.val e.val : EReal) := by
  subst hh
  subst hg
  subst hw
  unfold V
  after_reads_at
  have hX' : ∀ (R : Fin 8208) k, m (c, Proc.tc.devRef main_arg0) (ix2 R k) = (X R.val k : EReal) := hX
  have hG' : ∀ k, m (c, Proc.tc.devRef main_arg1) (ix1 k) = (G k : EReal) := hG
  have hW' : ∀ (k : Fin 1024) (e : Fin 4096), m (c, Proc.tc.devRef main_arg2) (ix2 k e) = (W1 k.val e.val : EReal) := hW
  have hrs : ∀ x : Fin 1024 → ℝ, Ideal.rsqrt (Ideal.div ((∑ k, x k * x k : ℝ) : EReal) (Ideal.ofBits FTy.f32 0x44800000#32) + Ideal.ofBits FTy.f32 0x358637BD#32) = (rs x : EReal) := fun x => by
    rw [width_word, eps_word, div_real _ _ (by norm_num), ← EReal.coe_add]
    exact rsqrt_real (msq_pos x)
  split
  · next h =>
    simp only [hX', hG', hW', ← EReal.coe_mul, coe_sum]
    rw [hrs]
    simp only [← EReal.coe_mul, coe_sum]
    unfold relu act
    exact (EReal.coe_strictMono.monotone.map_max (a := act X G W1 R.val e.val) (b := 0)).symm
  · rw [Sigmoid.zero_word]
    unfold relu act
    simp [hX0 _ _ (show 8208 ≤ R.val by omega)]

/-- The kernel and the reference, from memories that agree on the arguments. -/
theorem algebraic : letI := Cert.MlpIdeal.Gen.facts; letI := Cert.MlpRefIdeal.Gen.facts; letI := Cert.Pre_mlp_finite.Gen.facts
    Cert.algebraic_MlpIdeal_MlpRefIdeal_pre_mlp_finite := by
  intro m g m' g' hpre hagree
  let X := fun c : Dev nD => rowsOf (m ((c : Thread nD τ).loc main_arg0))
  let G := fun c : Dev nD => scaleOf (m ((c : Thread nD τ).loc main_arg1))
  let W1 := fun c : Dev nD => weightOf (a := 1024) (b := 4096) (m ((c : Thread nD τ).loc main_arg2))
  let W2 := fun c : Dev nD => weightOf (a := 4096) (b := 1024) (m ((c : Thread nD τ).loc main_arg3))
  let Y := fun c : Dev nD => rowsOf (m ((c : Thread nD τ).loc main_arg4))
  have hX : ∀ c (R : Fin 8208) (k : Fin 1024), (m ((c : Thread nD τ).loc main_arg0) : Vec Ideal S8208x1024 .f32) (ix2 R k) = (X c R.val k : EReal) := fun c R k => by
    refine ((finite_of_pre _ _ _ _ _ (hpre c)).1 R k).trans ?_
    show _ = ((rowsOf _ _ _ : ℝ) : EReal)
    unfold rowsOf
    rw [dif_pos R.isLt]
  have hG : ∀ c (k : Fin 1024), (m ((c : Thread nD τ).loc main_arg1) : Vec Ideal S1024 .f32) (ix1 k) = (G c k : EReal) := fun c k =>
    (finite_of_pre _ _ _ _ _ (hpre c)).2.1 k
  have hW1 : ∀ c (k : Fin 1024) (e : Fin 4096), (m ((c : Thread nD τ).loc main_arg2) : Vec Ideal S1024x4096 .f32) (ix2 k e) = (W1 c k.val e.val : EReal) := fun c k e => by
    refine ((finite_of_pre _ _ _ _ _ (hpre c)).2.2.1 k e).trans ?_
    show _ = ((weightOf (a := 1024) (b := 4096) _ _ _ : ℝ) : EReal)
    unfold weightOf
    rw [dif_pos ⟨k.isLt, e.isLt⟩]
  have hW2 : ∀ c (e : Fin 4096) (k : Fin 1024), (m ((c : Thread nD τ).loc main_arg3) : Vec Ideal S4096x1024 .f32) (ix2 e k) = (W2 c e.val k.val : EReal) := fun c e k => by
    refine ((finite_of_pre _ _ _ _ _ (hpre c)).2.2.2.1 e k).trans ?_
    show _ = ((weightOf (a := 4096) (b := 1024) _ _ _ : ℝ) : EReal)
    unfold weightOf
    rw [dif_pos ⟨e.isLt, k.isLt⟩]
  have hY : ∀ c (R : Fin 8208) (k : Fin 1024), (m ((c : Thread nD τ).loc main_arg4) : Vec Ideal S8208x1024 .f32) (ix2 R k) = (Y c R.val k : EReal) := fun c R k => by
    refine ((finite_of_pre _ _ _ _ _ (hpre c)).2.2.2.2 R k).trans ?_
    show _ = ((rowsOf _ _ _ : ℝ) : EReal)
    unfold rowsOf
    rw [dif_pos R.isLt]
  have hX0 : ∀ c n k, 8208 ≤ n → X c n k = 0 := fun c n k h => dif_neg fun e => by omega
  have hY0 : ∀ c n k, 8208 ≤ n → Y c n k = 0 := fun c n k h => dif_neg fun e => by omega
  refine ⟨fun c => daArr (W2 c) (relu (X c) (G c) (W1 c)) (Y c), fun c => dhArr (X c) (G c) (W1 c) (W2 c) (relu (X c) (G c) (W1 c)) (Y c),
    fun c => dgArr (X c) (W1 c) (W2 c) (relu (X c) (G c) (W1 c)) (Y c), ?_, ?_⟩
  · refine (θ_run Cert.MlpIdeal.defs _ _).mono (fun r h c => ?_) (Cert.MlpIdeal.Value.run_blocks m g)
    have H : Reals m c (X c) (G c) (W1 c) (W2 c) (relu (X c) (G c) (W1 c)) (Y c) := by
      refine ⟨fun R k => ?_, fun R e => ?_, fun s k e => ?_, fun s e k => ?_, fun R k => ?_, fun k => ?_⟩
      · rw [cot_apply m c R k _ rfl]
        split
        · next e => exact hY c ⟨R.val, e⟩ k
        · next e => exact (congrArg Real.toEReal (show Y c R.val k = 0 from dif_neg e)).symm
      · exact relu_apply m c (X c) (G c) (W1 c) _ rfl _ rfl _ rfl (hX c) (hG c) (hW1 c) (hX0 c) R e
      · rw [w1_apply m c _ rfl]
        exact hW1 c k ⟨512 * s.val + e.val, by omega⟩
      · rw [w2_apply m c _ rfl]
        exact hW2 c ⟨512 * s.val + e.val, by omega⟩ k
      · rw [rows_apply m c R k _ rfl]
        split
        · next e => exact hX c ⟨R.val, e⟩ k
        · next e => exact (congrArg Real.toEReal (show X c R.val k = 0 from dif_neg e)).symm
      · rw [scale_apply m c k _ rfl]
        exact hG c k
    obtain ⟨h6, h7, h8, hargs⟩ := h c
    exact ⟨h6.trans (arr6 m c _ _ _ _ _ _ H), h7.trans (arr7 m c _ _ _ _ _ _ H), h8.trans (arr8 m c _ _ _ _ _ _ H), hargs⟩
  · refine (θ_run Cert.MlpRefIdeal.defs _ _).mono (fun r h c => ?_) (Cert.MlpRefIdeal.Value.run m' g')
    obtain ⟨a0, a1, a2, a3, a4⟩ := hagree c
    obtain ⟨r0, r1, r2, hargs⟩ := h c
    have hU0 : ∀ n k, 8208 ≤ n → back (W1 c) (W2 c) (relu (X c) (G c) (W1 c)) (Y c) n k = 0 := fun n k h =>
      dhn_zero _ _ _ _ fun e => da_zero _ _ _ _ _ fun k => hY0 c n k h
    have hU := Cert.MlpRefIdeal.Hand.v33_real _ _ _ _ _ (X c) (G c) (W1 c) (W2 c) (Y c) (hX c) (hG c) (hW1 c) (hW2 c) (hY c)
    refine ⟨r0.trans ?_, r1.trans ?_, r2.trans ?_, hargs⟩
    · rw [val_main_v56_eq, a0, a1, a2, a3, a4]
      funext i
      obtain ⟨R, e, rfl⟩ : ∃ (R : Fin 8320) (e : Fin 4096), i = ix2 R e := ⟨i 0, i 1, eq_ix2 i⟩
      exact Cert.MlpRefIdeal.Hand.v56_real _ _ _ _ _ (X c) (G c) (W1 c) (W2 c) (Y c) (hX c) (hG c) (hW1 c) (hW2 c) (hY c) (hY0 c) R e
    · rw [val_main_v57_eq, a0, a1, a2, a3, a4]
      funext i
      obtain ⟨R, k, rfl⟩ : ∃ (R : Fin 8320) (k : Fin 1024), i = ix2 R k := ⟨i 0, i 1, eq_ix2 i⟩
      exact Cert.MlpRefIdeal.Hand.v57_real _ _ _ _ _ (X c) (G c) (Y c) (hX c) (hG c) (hY c) _ hU hU0 (hY0 c) R k
    · rw [val_main_v58_eq, a0, a1, a2, a3, a4]
      funext i
      obtain ⟨p, k, rfl⟩ : ∃ (p : Fin 1) (k : Fin 1024), i = ix2 p k := ⟨i 0, i 1, eq_ix2 i⟩
      obtain rfl : p = 0 := Subsingleton.elim _ _
      exact Cert.MlpRefIdeal.Hand.v58_real _ _ _ _ _ (X c) (hX c) _ hU hU0 k

end Cert.MlpIdeal.Hand
-- ==== Proof.ConvPwCases.lean ====
/- The gradient through the convolution's norm and gate, point by point: what one grid point leaves in its blocks. -/
module

public import proofs.«01_k».proof.Proof.Gen.ConvPwIdeal.Value
public import Idealize.ShloMosaic.Lib.WritesUnit
public import Idealize.ShloMosaic.Lib.Pipeline.ReadBack
public import Idealize.ShloMosaic.Lib.Pointwise

@[expose] public section

set_option maxRecDepth 16384

noncomputable section

namespace Cert.ConvPwIdeal.Hand

open Cert.ConvPwIdeal Cert.ConvPwIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The two halves of a block's columns. -/
def lft (x : Vec F S640x512 .f32) : Vec F S640x256 .f32 := View.ld x (Rect.unit (s := S640x512) ![0, 0] ![640, 256] inb_S640x512_S640x256_0_0)
def rgt (x : Vec F S640x512 .f32) : Vec F S640x256 .f32 := View.ld x (Rect.unit (s := S640x512) ![0, 256] ![640, 256] inb_S640x512_S640x256_0_256)

/-- Four stored rows over what the buffer held. -/
def rowsAt (w0 w1 w2 w3 : Vec F S1x256 .f32) (xg : Vec F S8x256 .f32) (a : Fin 8) (k : Fin 256) : F .f32 :=
  if a.val = 3 then w3 (ix2 0 k) else if a.val = 2 then w2 (ix2 0 k) else if a.val = 1 then w1 (ix2 0 k)
  else if a.val = 0 then w0 (ix2 0 k) else xg (ix2 a k)

section Rows

variable {κ : Kind} {sp : Space} (v : View sig κ sp S8x256 .f32) (f : v.ty.Contents (Elt F)) (L : List (View.Piece (Elt F) S8x256 .f32))

theorem row_read (o : ℕ) (inb) (w : Vec F S1x256 .f32) (a : Fin 8) (k : Fin 256) :
    v.read (Elt F) (v.writes (Elt F) f (⟨Rect.unit (s := S8x256) ![o, 0] ![1, 256] inb, w⟩ :: L)) (ix2 a k) =
      if a.val = o then w (ix2 0 k) else v.read (Elt F) (v.writes (Elt F) f L) (ix2 a k) := by
  split
  · next h => exact View.read_writes_cons_rows_of_mem v f inb w L (ix2 a k) (ix2 0 k) rfl h rfl
  · next h =>
    refine View.read_writes_cons_rows_of_not_mem v f (W := 1) inb w L (ix2 a k) rfl rfl ?_
    show a.val < o ∨ o + 1 ≤ a.val
    omega

theorem fill_read (inb) (Z : Vec F S8x256 .f32) (a : Fin 8) (k : Fin 256) :
    v.read (Elt F) (v.writes (Elt F) f (⟨Rect.unit (s := S8x256) ![0, 0] ![8, 256] inb, Z⟩ :: L)) (ix2 a k) = Z (ix2 a k) :=
  View.read_writes_cons_rows_of_mem v f inb Z L (ix2 a k) (ix2 a k) rfl (Nat.zero_add _).symm rfl

end Rows

/-- What a point leaves in the rows of parameter gradients, from its blocks and what the point before left. -/
def pgNext (x0 x1 : Vec F S640x512 .f32) (x3 x4 : Vec F S1x256 .f32) (x5 : Vec F S256x256 .bf16) (xg : Vec F S8x256 .f32) : Fin 8 → Fin 256 → F .f32 :=
  rowsAt
    (k0_pay1 (lft x0) (k0_pay16 (View.ld xg (Rect.unit (s := S8x256) ![0, 0] ![1, 256] inb_S8x256_S1x256_0_0))))
    (k0_pay2 (k0_pay9 (lft x1)) (k0_pay13 (lft x0) (k0_pay10 x3 (lft x1) x4) (k0_pay11 x3 (lft x1) x4) x5)
      (View.ld xg (Rect.unit (s := S8x256) ![1, 0] ![1, 256] inb_S8x256_S1x256_1_0)))
    (k0_pay3 (k0_pay13 (lft x0) (k0_pay10 x3 (lft x1) x4) (k0_pay11 x3 (lft x1) x4) x5)
      (View.ld xg (Rect.unit (s := S8x256) ![2, 0] ![1, 256] inb_S8x256_S1x256_2_0)))
    (k0_pay4 (k0_pay14 (lft x0) (k0_pay6 x3) (k0_pay8 (lft x1)) (k0_pay9 (lft x1)) (k0_pay10 x3 (lft x1) x4) (k0_pay11 x3 (lft x1) x4) x5)
      (View.ld xg (Rect.unit (s := S8x256) ![3, 0] ![1, 256] inb_S8x256_S1x256_3_0)))
    xg

section Cases

variable (c : Dev nD) (i : grid0.Coords)
  (a1 : Memref sig .tc .vmem S640x512 .f32) (h1 : a1.IsWhole) (a2 : Memref sig .tc .vmem S640x512 .f32) (h2 : a2.IsWhole)
  (a3 : Memref sig .tc .vmem S640x256 .f32) (h3 : a3.IsWhole) (a4 : Memref sig .tc .vmem S1x256 .f32) (h4 : a4.IsWhole)
  (a5 : Memref sig .tc .vmem S1x256 .f32) (h5 : a5.IsWhole) (a6 : Memref sig .tc .vmem S256x256 .bf16) (h6 : a6.IsWhole)
  (a7 : Memref sig .tc .vmem S640x512 .f32) (h7 : a7.IsWhole) (a8 : Memref sig .tc .vmem S640x256 .bf16) (h8 : a8.IsWhole)
  (a9 : Memref sig .tc .vmem S8x256 .f32) (h9 : a9.IsWhole)
  (x0 x1 : Vec F S640x512 .f32) (x2 : Vec F S640x256 .f32) (x3 x4 : Vec F S1x256 .f32) (x5 : Vec F S256x256 .bf16) (xg : Vec F S8x256 .f32)

theorem pg_B (hc : ¬cond0_0 i) (a : Fin 8) (k : Fin 256) :
    out0_B_8 c i a1 h1 a2 h2 a3 h3 a4 h4 a5 h5 a6 h6 a7 h7 a8 h8 a9 h9 hc x0 x1 x2 x3 x4 x5 xg (ix2 a k) = pgNext x0 x1 x3 x4 x5 xg a k := by
  unfold out0_B_8 kernelRun0_B
  dsimp only
  sl_unfold_words
  simp only [View.readAt_eq_ld, h1.read_unread, h2.read_unread, h4.read_unread, h5.read_unread, h6.read_unread, h9.read_unread,
    View.ld_unit_zero (S := S1x256) hz, View.ld_unit_zero (S := S256x256) hz]
  refine (row_read a9.view _ _ 3 _ _ a k).trans ?_
  rw [row_read a9.view _ _ 2 _ _ a k, row_read a9.view _ _ 1 _ _ a k, row_read a9.view _ _ 0 _ _ a k]
  show _ = rowsAt _ _ _ _ _ a k
  unfold rowsAt
  rw [show a9.view.read (Elt F) (a9.view.writes (Elt F) (h9.unread xg) []) (ix2 a k) = xg (ix2 a k) from congrFun (h9.read_unread xg) _]
  rfl

theorem pg_A (hc : cond0_0 i) (a : Fin 8) (k : Fin 256) :
    out0_A_8 c i a1 h1 a2 h2 a3 h3 a4 h4 a5 h5 a6 h6 a7 h7 a8 h8 a9 h9 hc x0 x1 x2 x3 x4 x5 (ix2 a k) = pgNext x0 x1 x3 x4 x5 k0_pay5 a k := by
  unfold out0_A_8 kernelRun0_A
  dsimp only
  sl_unfold_words
  simp (disch := first | rfl | decide) only [View.readCov_skip, View.readCov_fill, View.readAt_eq_ld, h1.read_unread, h2.read_unread, h4.read_unread, h5.read_unread, h6.read_unread,
    View.ld_unit_zero (S := S1x256) hz, View.ld_unit_zero (S := S256x256) hz]
  refine (row_read VO0_8 _ _ 3 _ _ a k).trans ?_
  rw [row_read VO0_8 _ _ 2 _ _ a k, row_read VO0_8 _ _ 1 _ _ a k, row_read VO0_8 _ _ 0 _ _ a k]
  show _ = rowsAt _ _ _ _ _ a k
  unfold rowsAt
  rw [fill_read VO0_8 _ [] _ _ a k]
  rfl

theorem act_B (hc : ¬cond0_0 i) : out0_B_7 c i a1 h1 a2 h2 a3 h3 a4 h4 a5 h5 a6 h6 a7 h7 a8 h8 a9 h9 hc x0 x1 x2 x3 x4 x5 xg
    = k0_pay12 x3 (lft x1) x4 := by
  unfold out0_B_7
  rw [View.read_writes_eq_canon _ _ _ (cover0_B_7 c i a1 h1 a2 h2 a3 h3 a4 h4 a5 h5 a6 h6 a7 h7 a8 h8 a9 h9 hc x0 x1 x2 x3 x4 x5 xg)]
  unfold kernelRun0_B
  dsimp only
  sl_unfold_words
  rw [View.canon_unit_zero hz]
  simp only [View.readAt_eq_ld, h2.read_unread, h4.read_unread, h5.read_unread, View.ld_unit_zero (S := S1x256) hz]
  rfl

theorem act_A (hc : cond0_0 i) : out0_A_7 c i a1 h1 a2 h2 a3 h3 a4 h4 a5 h5 a6 h6 a7 h7 a8 h8 a9 h9 hc x0 x1 x2 x3 x4 x5
    = k0_pay12 x3 (lft x1) x4 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h2.read_unread, h4.read_unread, h5.read_unread, View.ld_unit_zero (S := S1x256) hz]
  rfl

/-- The two halves that a point stores of the gradient. -/
def gcOf : List (View.Piece (Elt F) S640x512 .f32) :=
  [⟨Rect.unit (s := S640x512) ![0, 256] ![640, 256] inb_S640x512_S640x256_0_256, k0_pay15 (rgt x0) x2⟩,
   ⟨Rect.unit (s := S640x512) ![0, 0] ![640, 256] inb_S640x512_S640x256_0_0,
    k0_pay14 (lft x0) (k0_pay6 x3) (k0_pay8 (lft x1)) (k0_pay9 (lft x1)) (k0_pay10 x3 (lft x1) x4) (k0_pay11 x3 (lft x1) x4) x5⟩]

/-- The block they leave. -/
def gcBlk : Vec F S640x512 .f32 := VO0_6.read (Elt F) (VO0_6.writes (Elt F) VO0_6.junk (gcOf x0 x1 x2 x3 x4 x5))

theorem gc_B (hc : ¬cond0_0 i) : out0_B_6 c i a1 h1 a2 h2 a3 h3 a4 h4 a5 h5 a6 h6 a7 h7 a8 h8 a9 h9 hc x0 x1 x2 x3 x4 x5 xg
    = gcBlk x0 x1 x2 x3 x4 x5 := by
  unfold out0_B_6 kernelRun0_B
  dsimp only
  sl_unfold_words
  simp only [View.readAt_eq_ld, h1.read_unread, h2.read_unread, h3.read_unread, h4.read_unread, h5.read_unread, h6.read_unread,
    View.ld_unit_zero (S := S640x256) hz, View.ld_unit_zero (S := S1x256) hz, View.ld_unit_zero (S := S256x256) hz]
  rfl

theorem gc_A (hc : cond0_0 i) : out0_A_6 c i a1 h1 a2 h2 a3 h3 a4 h4 a5 h5 a6 h6 a7 h7 a8 h8 a9 h9 hc x0 x1 x2 x3 x4 x5
    = gcBlk x0 x1 x2 x3 x4 x5 := by
  unfold out0_A_6 kernelRun0_A
  dsimp only
  sl_unfold_words
  simp only [View.readAt_eq_ld, h1.read_unread, h2.read_unread, h3.read_unread, h4.read_unread, h5.read_unread, h6.read_unread,
    View.ld_unit_zero (S := S640x256) hz, View.ld_unit_zero (S := S1x256) hz, View.ld_unit_zero (S := S256x256) hz]
  rfl

/-- The block at an element of its right half, and of its left. -/
theorem gcBlk_right (r : Fin 640) (k : Fin 256) (j : Fin 512) (hj : j.val = 256 + k.val) :
    gcBlk x0 x1 x2 x3 x4 x5 (ix2 r j) = k0_pay15 (rgt x0) x2 (ix2 r k) := by
  unfold gcBlk gcOf
  refine View.read_writes_cons_unit_of_mem VO0_6 _ _ _ _ (ix2 r j) (ix2 r k) rfl (fun a => ?_)
  match a with
  | 0 => exact (Nat.zero_add r.val).symm
  | 1 => exact hj

theorem gcBlk_left (r : Fin 640) (k : Fin 256) (j : Fin 512) (hj : j.val = k.val) :
    gcBlk x0 x1 x2 x3 x4 x5 (ix2 r j) =
      k0_pay14 (lft x0) (k0_pay6 x3) (k0_pay8 (lft x1)) (k0_pay9 (lft x1)) (k0_pay10 x3 (lft x1) x4) (k0_pay11 x3 (lft x1) x4) x5 (ix2 r k) := by
  unfold gcBlk gcOf
  have hk := k.isLt
  rw [View.read_writes_cons_unit_of_not_mem VO0_6 _ _ _ _ (ix2 r j) rfl (1 : Fin 2) (Or.inl (by show j.val < 256; omega))]
  refine View.read_writes_cons_unit_of_mem VO0_6 _ _ _ _ (ix2 r j) (ix2 r k) rfl (fun a => ?_)
  match a with
  | 0 => exact (Nat.zero_add r.val).symm
  | 1 => exact hj.trans (Nat.zero_add _).symm

end Cases

end Cert.ConvPwIdeal.Hand
-- ==== Proof.ConvPwReal.lean ====
/- The gradient through the convolution's norm and gate, over the real numbers. -/
module

public import proofs.«01_k».proof.Proof.NormReal

@[expose] public section

set_option maxRecDepth 16384

noncomputable section

namespace Cert.ConvPw

open Idealize.ShloMosaic Cert.Norm

theorem width256_word : Ideal.ofBits .f32 0x43800000#32 = ((256 : ℝ) : EReal) := by
  simp [Ideal.ofBits, Ideal.ieee]
  try rw [← EReal.coe_mul]
  norm_num

theorem two_word : Ideal.ofBits .f32 0x40000000#32 = ((2 : ℝ) : EReal) := by
  simp [Ideal.ofBits, Ideal.ieee]
  try rw [← EReal.coe_mul]
  norm_num

section Row

variable (d : Fin 256 → ℝ)

/-- A row less its mean. -/
def cen (k : Fin 256) : ℝ := d k - (∑ j, d j) / 256

theorem sum_cen : ∑ k, cen d k = 0 := by
  unfold cen
  rw [Finset.sum_sub_distrib, Finset.sum_const, Finset.card_univ, Fintype.card_fin, nsmul_eq_mul]
  push_cast
  ring

/-- The variance, and a little more. -/
def var : ℝ := (∑ k, cen d k * cen d k) / 256 + eps

theorem var_pos : 0 < var d := by
  have : 0 ≤ ∑ k, cen d k * cen d k := Finset.sum_nonneg fun k _ => mul_self_nonneg _
  unfold var
  have := eps_pos
  positivity

/-- The reciprocal of the deviation. -/
def rsd : ℝ := (Real.sqrt (var d))⁻¹

theorem rsd_sq : rsd d * rsd d = 1 / var d := by
  unfold rsd
  rw [← mul_inv, Real.mul_self_sqrt (var_pos d).le, one_div]

/-- The row normalised. -/
def xh (k : Fin 256) : ℝ := cen d k * rsd d

/-- The gradient through the norm, that of its result before the scale being `a`. -/
def dnorm (a : Fin 256 → ℝ) (k : Fin 256) : ℝ :=
  rsd d * (a k - (∑ j, a j) / 256 - xh d k * ((∑ j, a j * xh d j) / 256))

/-- The derivative term by term is that difference: the deviations sum to zero. -/
theorem grad (a : Fin 256 → ℝ) (k : Fin 256) (c : ℝ) (hc : c = (∑ j, cen d j * a j) * (-(1 / 2) * (rsd d / var d)) / 256) :
    (a k * rsd d + c * (2 * cen d k)) + ((∑ j, -(a j * rsd d)) + ∑ j, -(c * (2 * cen d j))) / 256 = dnorm d a k := by
  have e1 : ∑ j, -(c * (2 * cen d j)) = 0 := by
    rw [Finset.sum_neg_distrib, ← Finset.mul_sum, ← Finset.mul_sum, sum_cen]
    ring
  have e2 : ∑ j, -(a j * rsd d) = -((∑ j, a j) * rsd d) := by rw [Finset.sum_neg_distrib, Finset.sum_mul]
  have e3 : ∑ j, a j * xh d j = (∑ j, cen d j * a j) * rsd d := by
    rw [Finset.sum_mul]
    exact Finset.sum_congr rfl fun j _ => by unfold xh; ring
  have q : rsd d / var d = rsd d * (rsd d * rsd d) := by rw [rsd_sq]; ring
  unfold dnorm
  rw [e1, e2, e3, hc, q]
  unfold xh
  ring

end Row

/-- The sigmoid. -/
def sgm (y : ℝ) : ℝ := 1 / (1 + Real.exp (-y))

theorem sgm_real (y : ℝ) : Ideal.div 1 (1 + Ideal.exp ((-y : ℝ) : EReal)) = (sgm y : EReal) := by
  have h : (0 : ℝ) < 1 + Real.exp (-y) := by positivity
  rw [Ideal.exp_coe, ← EReal.coe_one, ← EReal.coe_add, div_real _ _ h.ne']
  rfl

/-- The slope of the number times its sigmoid. -/
def slp (y : ℝ) : ℝ := sgm y * (1 + y * (1 - sgm y))

variable (D U : ℕ → Fin 256 → ℝ) (G B : Fin 256 → ℝ) (W : Fin 256 → Fin 256 → ℝ)

/-- The norm's result. -/
def lnv (n : ℕ) (k : Fin 256) : ℝ := xh (D n) k * G k + B k

/-- The gradient of the gate's result, and that of the norm's. -/
def dact (n : ℕ) (k : Fin 256) : ℝ := ∑ j, U n j * W k j
def dlnv (n : ℕ) (k : Fin 256) : ℝ := dact U W n k * slp (lnv D G B n k)

/-- The gradient of the convolution's result. -/
def ddw (n : ℕ) (k : Fin 256) : ℝ := dnorm (D n) (fun j => dlnv D U G B W n j * G j) k

/-- What a row adds to each of the eight rows of parameter gradients: four of them, and nothing to the rest. -/
def part (a : Fin 8) (k : Fin 256) (n : ℕ) : ℝ :=
  if a.val = 3 then ddw D U G B W n k
  else if a.val = 2 then dlnv D U G B W n k
  else if a.val = 1 then dlnv D U G B W n k * xh (D n) k
  else if a.val = 0 then U n k
  else 0

/-- One block's rows after those before. -/
theorem rows_step (f : ℕ → ℝ) (n : ℕ) :
    (∑ s ∈ Finset.range (640 * n), f s) + ∑ r : Fin 640, f (640 * n + r.val) = ∑ s ∈ Finset.range (640 * n + 640), f s := by
  rw [Finset.sum_range_add, Finset.sum_range fun r => f (640 * n + r)]

end Cert.ConvPw
-- ==== Proof.ConvPwPayload.lean ====
/- The payloads of the gradient through the convolution's norm and gate at one element, where the blocks hold real numbers. -/
module

public import proofs.«01_k».proof.Proof.Gen.ConvPwIdeal.Skeleton
public import proofs.«01_k».proof.Proof.ConvPwReal
public import Idealize.ShloMosaic.Lib.Pointwise

@[expose] public section

set_option maxRecDepth 16384

noncomputable section

namespace Cert.ConvPwIdeal.Hand

open Cert.ConvPwIdeal Cert.ConvPwIdeal.Gen Idealize.ShloMosaic Cert.Norm Cert.ConvPw

variable (n : ℕ) (u d : Vec Ideal S640x256 .f32) (g b : Vec Ideal S1x256 .f32) (w : Vec Ideal S256x256 .bf16)
  (D U : ℕ → Fin 256 → ℝ) (G B : Fin 256 → ℝ) (W : Fin 256 → Fin 256 → ℝ)
  (hu : ∀ (r : Fin 640) k, u (ix2 r k) = (U (n + r.val) k : EReal))
  (hd : ∀ (r : Fin 640) k, d (ix2 r k) = (D (n + r.val) k : EReal))
  (hg : ∀ k, g (ix2 0 k) = (G k : EReal)) (hb : ∀ k, b (ix2 0 k) = (B k : EReal))
  (hw : ∀ k j, w (ix2 k j) = (W k j : EReal))

include hd in
theorem cen_real (r : Fin 640) (k : Fin 256) : k0_pay7 d (ix2 r k) = (cen (D (n + r.val)) k : EReal) := by
  pointwise [k0_pay7]
  simp only [hd, coe_sum, width256_word]
  rw [div_real _ _ (by norm_num), ← EReal.coe_sub]
  rfl

include hd in
theorem rsd_real (r : Fin 640) : k0_pay8 d (ix2 r 0) = (rsd (D (n + r.val)) : EReal) := by
  have e := cen_real n d D hd r
  unfold k0_pay8
  generalize k0_pay7 d = s at *
  pointwise []
  simp only [e, ← EReal.coe_mul, coe_sum, eps_word, width256_word]
  rw [div_real _ _ (by norm_num), ← EReal.coe_add]
  exact rsqrt_real (var_pos _)

include hd in
theorem xh_real (r : Fin 640) (k : Fin 256) : k0_pay9 d (ix2 r k) = (xh (D (n + r.val)) k : EReal) := by
  have e7 := cen_real n d D hd r
  have e8 := rsd_real n d D hd r
  unfold k0_pay9
  generalize k0_pay7 d = s7 at *
  generalize k0_pay8 d = s8 at *
  pointwise []
  rw [e7, e8, ← EReal.coe_mul]
  rfl

include hd hg hb in
theorem ln_real (r : Fin 640) (k : Fin 256) : k0_pay10 g d b (ix2 r k) = (lnv D G B (n + r.val) k : EReal) := by
  have e := xh_real n d D hd r
  unfold k0_pay10
  generalize k0_pay9 d = s at *
  pointwise [k0_pay6]
  rw [e, hg, hb, ← EReal.coe_mul, ← EReal.coe_add]
  rfl

include hd hg hb in
theorem sgm_at (r : Fin 640) (k : Fin 256) : k0_pay11 g d b (ix2 r k) = (sgm (lnv D G B (n + r.val) k) : EReal) := by
  have e := ln_real n d g b D G B hd hg hb r
  unfold k0_pay11
  generalize k0_pay10 g d b = s at *
  pointwise []
  rw [e, zero_sub, ← EReal.coe_neg]
  exact sgm_real _

include hd hg hb in
theorem act_real (r : Fin 640) (k : Fin 256) :
    k0_pay12 g d b (ix2 r k) = ((lnv D G B (n + r.val) k * sgm (lnv D G B (n + r.val) k) : ℝ) : EReal) := by
  have e := ln_real n d g b D G B hd hg hb r
  have e' := sgm_at n d g b D G B hd hg hb r
  unfold k0_pay12
  generalize k0_pay10 g d b = s at *
  generalize k0_pay11 g d b = s' at *
  pointwise []
  rw [e, e', ← EReal.coe_mul]

include hu hd hg hb hw in
theorem dln_real (r : Fin 640) (k : Fin 256) :
    k0_pay13 u (k0_pay10 g d b) (k0_pay11 g d b) w (ix2 r k) = (dlnv D U G B W (n + r.val) k : EReal) := by
  have e := ln_real n d g b D G B hd hg hb r
  have e' := sgm_at n d g b D G B hd hg hb r
  generalize k0_pay10 g d b = s at *
  generalize k0_pay11 g d b = s' at *
  pointwise [k0_pay13]
  simp only [e, e', hu, hw, ← EReal.coe_one, ← EReal.coe_mul, coe_sum, ← EReal.coe_sub, ← EReal.coe_add]
  rfl

include hu hd hg hb hw in
theorem ddw_real (r : Fin 640) (k : Fin 256) :
    k0_pay14 u (k0_pay6 g) (k0_pay8 d) (k0_pay9 d) (k0_pay10 g d b) (k0_pay11 g d b) w (ix2 r k) = (ddw D U G B W (n + r.val) k : EReal) := by
  have e := dln_real n u d g b w D U G B W hu hd hg hb hw r
  have e8 := rsd_real n d D hd r
  have e9 := xh_real n d D hd r
  unfold k0_pay14
  generalize k0_pay13 u (k0_pay10 g d b) (k0_pay11 g d b) w = s at *
  generalize k0_pay8 d = s8 at *
  generalize k0_pay9 d = s9 at *
  pointwise [k0_pay6]
  simp only [e, e8, e9, hg, ← EReal.coe_mul, coe_sum, width256_word]
  rw [div_real _ _ (by norm_num), div_real _ _ (by norm_num), ← EReal.coe_mul, ← EReal.coe_sub, ← EReal.coe_sub, ← EReal.coe_mul]
  rfl

/-! ### The four sums -/

section Sums

variable (k : Fin 256) (xg : Vec Ideal S1x256 .f32) (s : ℝ) (hs : xg (ix2 0 k) = (s : EReal))

include hu hs in
theorem sum0 : k0_pay1 u (k0_pay16 xg) (ix2 0 k) = ((s + ∑ r : Fin 640, U (n + r.val) k : ℝ) : EReal) := by
  pointwise [k0_pay1, k0_pay16]
  simp only [hs, hu, coe_sum, ← EReal.coe_add]

include hu hd hg hb hw hs in
theorem sum1 : k0_pay2 (k0_pay9 d) (k0_pay13 u (k0_pay10 g d b) (k0_pay11 g d b) w) xg (ix2 0 k) =
    ((s + ∑ r : Fin 640, dlnv D U G B W (n + r.val) k * xh (D (n + r.val)) k : ℝ) : EReal) := by
  have e := fun r => dln_real n u d g b w D U G B W hu hd hg hb hw r k
  have e9 := fun r => xh_real n d D hd r k
  generalize k0_pay13 u (k0_pay10 g d b) (k0_pay11 g d b) w = t at *
  generalize k0_pay9 d = s9 at *
  pointwise [k0_pay2]
  simp only [hs, e, e9, ← EReal.coe_mul, coe_sum, ← EReal.coe_add]

include hu hd hg hb hw hs in
theorem sum2 : k0_pay3 (k0_pay13 u (k0_pay10 g d b) (k0_pay11 g d b) w) xg (ix2 0 k) =
    ((s + ∑ r : Fin 640, dlnv D U G B W (n + r.val) k : ℝ) : EReal) := by
  have e := fun r => dln_real n u d g b w D U G B W hu hd hg hb hw r k
  generalize k0_pay13 u (k0_pay10 g d b) (k0_pay11 g d b) w = t at *
  pointwise [k0_pay3]
  simp only [hs, e, coe_sum, ← EReal.coe_add]

include hu hd hg hb hw hs in
theorem sum3 : k0_pay4 (k0_pay14 u (k0_pay6 g) (k0_pay8 d) (k0_pay9 d) (k0_pay10 g d b) (k0_pay11 g d b) w) xg (ix2 0 k) =
    ((s + ∑ r : Fin 640, ddw D U G B W (n + r.val) k : ℝ) : EReal) := by
  have e := fun r => ddw_real n u d g b w D U G B W hu hd hg hb hw r k
  generalize k0_pay14 u (k0_pay6 g) (k0_pay8 d) (k0_pay9 d) (k0_pay10 g d b) (k0_pay11 g d b) w = t at *
  pointwise [k0_pay4]
  simp only [hs, e, coe_sum, ← EReal.coe_add]

end Sums

theorem zeros_real (a : Fin 8) (k : Fin 256) : (k0_pay5 : FVec Ideal S8x256 .f32) (ix2 a k) = ((0 : ℝ) : EReal) := by
  pointwise [k0_pay5]
  rfl

theorem gate_apply (u v : Vec Ideal S640x256 .f32) (r : Fin 640) (k : Fin 256) : k0_pay15 u v (ix2 r k) = u (ix2 r k) * v (ix2 r k) := by
  pointwise [k0_pay15]

end Cert.ConvPwIdeal.Hand
-- ==== Proof.ConvPwArray.lean ====
/- What the gradient through the convolution's norm and gate leaves in its three arrays, where the arrays it is launched on hold real numbers. -/
module

public import proofs.«01_k».proof.Proof.ConvPwCases
public import proofs.«01_k».proof.Proof.ConvPwPayload
public import Idealize.ShloMosaic.Lib.Pipeline.ValueKit.Tiles

@[expose] public section

set_option maxRecDepth 16384

noncomputable section

namespace Cert.ConvPwIdeal.Hand

open Cert.ConvPwIdeal Cert.ConvPwIdeal.Gen Idealize.ShloMosaic Idealize.ShloMosaic.TcCoe Idealize.SL.Sem
open Idealize.ShloMosaic.Pipeline (Dat)
open Cert.Norm Cert.ConvPw

variable (m : (ℓ : Loc nD τ sig) → Buf (Elt Ideal) ℓ) (c : Dev nD)

theorem row_lt (t : Fin cfg0.N) (r : Fin 640) : 640 * t.val + r.val < 8320 := by
  have hN : cfg0.N = 13 := N_0
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 2 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = 0 ∧ win0_8.index t 1 = 0 := by decide +kernel

theorem block0 (t : Fin cfg0.N) (r : Fin 640) (k : Fin 512) :
    (iblk m c 0 t : Vec Ideal S640x512 .f32) (ix2 r k) = V m c main_arg8 (ix2 ⟨640 * t.val + r.val, row_lt t r⟩ k) := by
  unfold iblk
  rw [View.read_apply]
  show V m c main_arg8 _ = _
  congr 1
  funext a
  apply Fin.ext
  match a with
  | 0 => show win0_0.index t 0 * 640 + 1 * r.val = 640 * t.val + r.val
         rw [(index0 t).1]; omega
  | 1 => show win0_0.index t 1 * 512 + 1 * k.val = k.val
         rw [(index0 t).2]; omega

theorem block1 (t : Fin cfg0.N) (r : Fin 640) (k : Fin 512) :
    (iblk m c 1 t : Vec Ideal S640x512 .f32) (ix2 r k) = V m c main_v3 (ix2 ⟨640 * t.val + r.val, row_lt t r⟩ k) := by
  unfold iblk
  rw [View.read_apply]
  show V m c main_v3 _ = _
  congr 1
  funext a
  apply Fin.ext
  match a with
  | 0 => show win0_1.index t 0 * 640 + 1 * r.val = 640 * t.val + r.val
         rw [(index1 t).1]; omega
  | 1 => show win0_1.index t 1 * 512 + 1 * k.val = k.val
         rw [(index1 t).2]; omega

theorem block2 (t : Fin cfg0.N) (r : Fin 640) (k : Fin 256) :
    (iblk m c 2 t : Vec Ideal S640x256 .f32) (ix2 r k) = V m c main_arg6 (ix2 ⟨640 * t.val + r.val, row_lt t r⟩ ⟨512 + k.val, by omega⟩) := by
  unfold iblk
  rw [View.read_apply]
  show V m c main_arg6 _ = _
  congr 1
  funext a
  apply Fin.ext
  match a with
  | 0 => show win0_2.index t 0 * 640 + 1 * r.val = 640 * t.val + r.val
         rw [(index2 t).1]; omega
  | 1 => show win0_2.index t 1 * 256 + 1 * k.val = 512 + k.val
         rw [(index2 t).2]; omega

theorem block3 (t : Fin cfg0.N) (k : Fin 256) : (iblk m c 3 t : Vec Ideal S1x256 .f32) (ix2 0 k) = V m c main_v4 (ix2 0 k) := by
  unfold iblk
  rw [View.read_apply]
  show V m c main_v4 _ = _
  congr 1
  funext a
  apply Fin.ext
  match a with
  | 0 => show win0_3.index t 0 * 1 + 1 * 0 = 0
         rw [(index3 t).1]
  | 1 => show win0_3.index t 1 * 256 + 1 * k.val = k.val
         rw [(index3 t).2]; omega

theorem block4 (t : Fin cfg0.N) (k : Fin 256) : (iblk m c 4 t : Vec Ideal S1x256 .f32) (ix2 0 k) = V m c main_v5 (ix2 0 k) := by
  unfold iblk
  rw [View.read_apply]
  show V m c main_v5 _ = _
  congr 1
  funext a
  apply Fin.ext
  match a with
  | 0 => show win0_4.index t 0 * 1 + 1 * 0 = 0
         rw [(index4 t).1]
  | 1 => show win0_4.index t 1 * 256 + 1 * k.val = k.val
         rw [(index4 t).2]; omega

theorem block5 (t : Fin cfg0.N) (k j : Fin 256) : (iblk m c 5 t : Vec Ideal S256x256 .bf16) (ix2 k j) = V m c main_v6 (ix2 k j) := by
  unfold iblk
  rw [View.read_apply]
  show V m c main_v6 _ = _
  congr 1
  funext a
  apply Fin.ext
  match a with
  | 0 => show win0_5.index t 0 * 256 + 1 * k.val = k.val
         rw [(index5 t).1]; omega
  | 1 => show win0_5.index t 1 * 256 + 1 * j.val = j.val
         rw [(index5 t).2]; omega

theorem lft_apply (x : Vec Ideal S640x512 .f32) (r : Fin 640) (k : Fin 256) : lft x (ix2 r k) = x (ix2 r ⟨k.val, by omega⟩) :=
  View.ld_unit_apply_of x _ _ _ (ix2 r k) _ (fun a => match a with
    | 0 => (Nat.zero_add r.val).symm
    | 1 => (Nat.zero_add k.val).symm)

theorem rgt_apply (x : Vec Ideal S640x512 .f32) (r : Fin 640) (k : Fin 256) : rgt x (ix2 r k) = x (ix2 r ⟨256 + k.val, by omega⟩) :=
  View.ld_unit_apply_of x _ _ _ (ix2 r k) _ (fun a => match a with
    | 0 => (Nat.zero_add r.val).symm
    | 1 => rfl)

theorem row_apply (xg : Vec Ideal S8x256 .f32) (o : Fin 8) (inb) (k : Fin 256) :
    View.ld xg (Rect.unit (s := S8x256) ![o.val, 0] ![1, 256] inb) (ix2 0 k) = xg (ix2 o k) :=
  View.ld_unit_apply_of xg _ _ _ (ix2 0 k) _ (fun a => match a with
    | 0 => rfl
    | 1 => (Nat.zero_add k.val).symm)

variable (D U : ℕ → Fin 256 → ℝ) (G B : Fin 256 → ℝ) (W : Fin 256 → Fin 256 → ℝ) (C P : ℕ → Fin 256 → EReal)

/-- The arrays of the launch hold these numbers. -/
structure Reals : Prop where
  u : ∀ (R : Fin 8320) (k : Fin 256), (V m c main_arg8 : Vec Ideal S8320x512 .f32) (ix2 R ⟨k.val, by omega⟩) = (U R.val k : EReal)
  u' : ∀ (R : Fin 8320) (k : Fin 256), (V m c main_arg8 : Vec Ideal S8320x512 .f32) (ix2 R ⟨256 + k.val, by omega⟩) = C R.val k
  d : ∀ (R : Fin 8320) (k : Fin 256), (V m c main_v3 : Vec Ideal S8320x512 .f32) (ix2 R ⟨k.val, by omega⟩) = (D R.val k : EReal)
  p : ∀ (R : Fin 8320) (k : Fin 256), (V m c main_arg6 : Vec Ideal S8320x1280 .f32) (ix2 R ⟨512 + k.val, by omega⟩) = P R.val k
  g : ∀ k, (V m c main_v4 : Vec Ideal S1x256 .f32) (ix2 0 k) = (G k : EReal)
  b : ∀ k, (V m c main_v5 : Vec Ideal S1x256 .f32) (ix2 0 k) = (B k : EReal)
  w : ∀ k j, (V m c main_v6 : Vec Ideal S256x256 .bf16) (ix2 k j) = (W k j : EReal)

/-- What the blocks hold after point `n`. -/
structure Holds (n : ℕ) (o : Vec Ideal S640x512 .f32 × Vec Ideal S640x256 .bf16 × Vec Ideal S8x256 .f32) : Prop where
  left : ∀ (r : Fin 640) (k : Fin 256) (j : Fin 512), j.val = k.val → o.1 (ix2 r j) = (ddw D U G B W (640 * n + r.val) k : EReal)
  right : ∀ (r : Fin 640) (k : Fin 256) (j : Fin 512), j.val = 256 + k.val → o.1 (ix2 r j) = C (640 * n + r.val) k * P (640 * n + r.val) k
  act : ∀ (r : Fin 640) (k : Fin 256), o.2.1 (ix2 r k) = ((lnv D G B (640 * n + r.val) k * sgm (lnv D G B (640 * n + r.val) k) : ℝ) : EReal)
  pg : ∀ (a : Fin 8) (k : Fin 256), o.2.2 (ix2 a k) = ((∑ s ∈ Finset.range (640 * n + 640), part D U G B W a k s : ℝ) : EReal)

variable (H : Reals m c D U G B W C P)

section Blocks

variable (t : Fin cfg0.N)

include H

theorem b0 (r : Fin 640) (k : Fin 256) : lft (iblk m c 0 t : Vec Ideal S640x512 .f32) (ix2 r k) = (U (640 * t.val + r.val) k : EReal) := by
  rw [lft_apply, block0]; exact H.u _ k
theorem b0' (r : Fin 640) (k : Fin 256) : rgt (iblk m c 0 t : Vec Ideal S640x512 .f32) (ix2 r k) = C (640 * t.val + r.val) k := by
  rw [rgt_apply, block0]; exact H.u' _ k
theorem b1 (r : Fin 640) (k : Fin 256) : lft (iblk m c 1 t : Vec Ideal S640x512 .f32) (ix2 r k) = (D (640 * t.val + r.val) k : EReal) := by
  rw [lft_apply, block1]; exact H.d _ k
theorem b2 (r : Fin 640) (k : Fin 256) : (iblk m c 2 t : Vec Ideal S640x256 .f32) (ix2 r k) = P (640 * t.val + r.val) k := by
  rw [block2]; exact H.p _ k
theorem b3 (k : Fin 256) : (iblk m c 3 t : Vec Ideal S1x256 .f32) (ix2 0 k) = (G k : EReal) := by
  rw [block3]; exact H.g k
theorem b4 (k : Fin 256) : (iblk m c 4 t : Vec Ideal S1x256 .f32) (ix2 0 k) = (B k : EReal) := by
  rw [block4]; exact H.b k
theorem b5 (k j : Fin 256) : (iblk m c 5 t : Vec Ideal S256x256 .bf16) (ix2 k j) = (W k j : EReal) := by
  rw [block5]; exact H.w k j

theorem left_at (r : Fin 640) (k : Fin 256) (j : Fin 512) (hj : j.val = k.val) :
    gcBlk (iblk m c 0 t) (iblk m c 1 t) (iblk m c 2 t) (iblk m c 3 t) (iblk m c 4 t) (iblk m c 5 t) (ix2 r j) = (ddw D U G B W (640 * t.val + r.val) k : EReal) := by
  rw [gcBlk_left _ _ _ _ _ _ r k j hj]
  exact ddw_real (640 * t.val) _ _ _ _ _ D U G B W (b0 m c D U G B W C P H t) (b1 m c D U G B W C P H t) (b3 m c D U G B W C P H t)
    (b4 m c D U G B W C P H t) (b5 m c D U G B W C P H t) r k

theorem right_at (r : Fin 640) (k : Fin 256) (j : Fin 512) (hj : j.val = 256 + k.val) :
    gcBlk (iblk m c 0 t) (iblk m c 1 t) (iblk m c 2 t) (iblk m c 3 t) (iblk m c 4 t) (iblk m c 5 t) (ix2 r j) = C (640 * t.val + r.val) k * P (640 * t.val + r.val) k := by
  rw [gcBlk_right _ _ _ _ _ _ r k j hj, gate_apply, b0' m c D U G B W C P H t, b2 m c D U G B W C P H t]

theorem act_at (r : Fin 640) (k : Fin 256) : k0_pay12 (iblk m c 3 t) (lft (iblk m c 1 t)) (iblk m c 4 t) (ix2 r k) =
    ((lnv D G B (640 * t.val + r.val) k * sgm (lnv D G B (640 * t.val + r.val) k) : ℝ) : EReal) :=
  act_real (640 * t.val) _ _ _ D G B (b1 m c D U G B W C P H t) (b3 m c D U G B W C P H t) (b4 m c D U G B W C P H t) r k

theorem pg_at (xg : Vec Ideal S8x256 .f32)
    (hg : ∀ (a : Fin 8) (k : Fin 256), xg (ix2 a k) = ((∑ s ∈ Finset.range (640 * t.val), part D U G B W a k s : ℝ) : EReal)) (a : Fin 8) (k : Fin 256) :
    pgNext (iblk m c 0 t) (iblk m c 1 t) (iblk m c 3 t) (iblk m c 4 t) (iblk m c 5 t) xg a k
      = ((∑ s ∈ Finset.range (640 * t.val + 640), part D U G B W a k s : ℝ) : EReal) := by
  have hu := b0 m c D U G B W C P H t
  have hd := b1 m c D U G B W C P H t
  have h3 := b3 m c D U G B W C P H t
  have h4 := b4 m c D U G B W C P H t
  have h5 := b5 m c D U G B W C P H t
  rw [← rows_step]
  unfold pgNext rowsAt
  by_cases e3 : a.val = 3
  · obtain rfl : a = 3 := Fin.ext e3
    rw [if_pos e3]
    exact sum3 (640 * t.val) _ _ _ _ _ D U G B W hu hd h3 h4 h5 k _ _ ((row_apply xg 3 _ k).trans (hg 3 k))
  rw [if_neg e3]
  by_cases e2 : a.val = 2
  · obtain rfl : a = 2 := Fin.ext e2
    rw [if_pos e2]
    exact sum2 (640 * t.val) _ _ _ _ _ D U G B W hu hd h3 h4 h5 k _ _ ((row_apply xg 2 _ k).trans (hg 2 k))
  rw [if_neg e2]
  by_cases e1 : a.val = 1
  · obtain rfl : a = 1 := Fin.ext e1
    rw [if_pos e1]
    exact sum1 (640 * t.val) _ _ _ _ _ D U G B W hu hd h3 h4 h5 k _ _ ((row_apply xg 1 _ k).trans (hg 1 k))
  rw [if_neg e1]
  by_cases e0 : a.val = 0
  · obtain rfl : a = 0 := Fin.ext e0
    rw [if_pos e0]
    exact sum0 (640 * t.val) _ U hu k _ _ ((row_apply xg 0 _ k).trans (hg 0 k))
  rw [if_neg e0, hg]
  have z : ∀ s, part D U G B W a k s = 0 := fun s => by
    unfold part
    rw [if_neg e3, if_neg e2, if_neg e1, if_neg e0]
  simp only [z, Finset.sum_const_zero, add_zero]

omit H in
/-- The four parts put together. -/
theorem holds_of (n : ℕ) (gc : Vec Ideal S640x512 .f32) (ac : Vec Ideal S640x256 .bf16) (pg : Vec Ideal S8x256 .f32)
    (hl : ∀ (r : Fin 640) (k : Fin 256) (j : Fin 512), j.val = k.val → gc (ix2 r j) = (ddw D U G B W (640 * n + r.val) k : EReal))
    (hr : ∀ (r : Fin 640) (k : Fin 256) (j : Fin 512), j.val = 256 + k.val → gc (ix2 r j) = C (640 * n + r.val) k * P (640 * n + r.val) k)
    (ha : ∀ (r : Fin 640) (k : Fin 256), ac (ix2 r k) = ((lnv D G B (640 * n + r.val) k * sgm (lnv D G B (640 * n + r.val) k) : ℝ) : EReal))
    (hp : ∀ (a : Fin 8) (k : Fin 256), pg (ix2 a k) = ((∑ s ∈ Finset.range (640 * n + 640), part D U G B W a k s : ℝ) : EReal)) :
    Holds D U G B W C P n (gc, ac, pg) := ⟨hl, hr, ha, hp⟩

theorem point_holds (gc : Vec Ideal S640x512 .f32) (ac : Vec Ideal S640x256 .bf16) (pg xg : Vec Ideal S8x256 .f32)
    (hgc : gc = gcBlk (iblk m c 0 t) (iblk m c 1 t) (iblk m c 2 t) (iblk m c 3 t) (iblk m c 4 t) (iblk m c 5 t))
    (hac : ac = k0_pay12 (iblk m c 3 t) (lft (iblk m c 1 t)) (iblk m c 4 t))
    (hpg : ∀ a k, pg (ix2 a k) = pgNext (iblk m c 0 t) (iblk m c 1 t) (iblk m c 3 t) (iblk m c 4 t) (iblk m c 5 t) xg a k)
    (hg : ∀ (a : Fin 8) (k : Fin 256), xg (ix2 a k) = ((∑ s ∈ Finset.range (640 * t.val), part D U G B W a k s : ℝ) : EReal)) :
    Holds D U G B W C P t.val (gc, ac, pg) := by
  have hl := left_at m c D U G B W C P H t
  have hr := right_at m c D U G B W C P H t
  have ha := act_at m c D U G B W C P H t
  have hp := fun a k => (hpg a k).trans (pg_at m c D U G B W C P H t xg hg a k)
  rw [← hgc] at hl hr
  rw [← hac] at ha
  exact holds_of D U G B W C P t.val gc ac pg hl hr ha hp

end Blocks

include H in
theorem holds_at (n : ℕ) (h : n < cfg0.N) : Holds D U G B W C P n (outsAt0 m c n h) := by
  have hN : cfg0.N = 13 := N_0
  induction n with
  | zero =>
    rw [outsAt0_A m c ⟨0, h⟩ rfl]
    refine point_holds m c D U G B W C P H ⟨0, h⟩ _ _ _ (k0_pay5 (F := Ideal)) (gc_A ..) (act_A ..) (fun a k => pg_A ..) (fun a k => ?_)
    rw [zeros_real]
    simp
  | succ n ih =>
    have q := ih (by omega)
    have h0 : ¬ (n + 1) % 13 = 0 := by omega
    rw [outsAt0_B m c ⟨n + 1, h⟩ h0]
    exact point_holds m c D U G B W C P H ⟨n + 1, h⟩ _ _ _ _ (gc_B ..) (act_B ..) (fun a k => pg_B ..) (fun a k => q.pg a k)

/-! ### The arrays -/

/-- The gradients of the convolution's result and of what the gate multiplies, side by side. -/
def gcArr : Vec Ideal S8320x512 .f32 := fun i =>
  if h : (i 1).val < 256 then (ddw D U G B W (i 0).val ⟨(i 1).val, h⟩ : EReal)
  else C (i 0).val ⟨(i 1).val - 256, by have h1 : (i 1).val < 512 := (i 1).isLt; omega⟩ * P (i 0).val ⟨(i 1).val - 256, by have h1 : (i 1).val < 512 := (i 1).isLt; omega⟩

/-- What the gate leaves. -/
def actArr : Vec Ideal S8320x256 .bf16 := fun i => ((lnv D G B (i 0).val (i 1) * sgm (lnv D G B (i 0).val (i 1)) : ℝ) : EReal)

/-- The gradients of the parameters. -/
def pgArr : Vec Ideal S8x256 .f32 := fun i => ((∑ n ∈ Finset.range 8320, part D U G B W (i 0) (i 1) n : ℝ) : EReal)

theorem gcArr_left (i : S8320x512.Idx) (k : Fin 256) (h : (i 1).val = k.val) : gcArr D U G B W C P i = (ddw D U G B W (i 0).val k : EReal) := by
  unfold gcArr
  rw [dif_pos (show (i 1).val < 256 by omega)]
  exact congrArg (fun k => (ddw D U G B W (i 0).val k : EReal)) (Fin.ext h)

theorem gcArr_right (i : S8320x512.Idx) (k : Fin 256) (h : (i 1).val = 256 + k.val) : gcArr D U G B W C P i = C (i 0).val k * P (i 0).val k := by
  unfold gcArr
  rw [dif_neg (show ¬ (i 1).val < 256 by omega)]
  exact congrArg (fun k => C (i 0).val k * P (i 0).val k) (Fin.ext (show (i 1).val - 256 = k.val by omega))

theorem mem_blk6 (t : Fin cfg0.N) (i : S8320x512.Idx) (h0 : 640 * t.val ≤ (i 0).val ∧ (i 0).val < 640 * t.val + 640) :
    i ∈ ((cfg0.win 6).blk t).view.set := by
  show i ∈ ((View.whole main_v7_0).slice (win0_6.rect t)).set
  rw [View.set_slice_whole, Rect.mem_set_unit]
  intro a
  match a with
  | 0 => show win0_6.index t 0 * 640 ≤ (i 0).val ∧ (i 0).val < win0_6.index t 0 * 640 + 640
         rw [(index6 t).1]; omega
  | 1 => show win0_6.index t 1 * 512 ≤ (i 1).val ∧ (i 1).val < win0_6.index t 1 * 512 + 512
         have h1 : (i 1).val < 512 := (i 1).isLt
         rw [(index6 t).2]; omega

include H in
theorem arr6 : (dats m 0 c).arrAt 6 cfg0.N = gcArr D U G B W C P := by
  have hN : cfg0.N = 13 := N_0
  refine (dats m 0 c).arrAt_eq_of_cover 6 _ (fun t _ => ?_) (fun i => ?_)
  · rw [Value.flushed6]
    show (outsAt0 m c t.val t.isLt).1 = ((cfg0.win 6).blk t).view.read (Elt Ideal) (gcArr D U G B W C P)
    funext j
    obtain ⟨r, e, rfl⟩ : ∃ (r : Fin 640) (e : Fin 512), j = ix2 r e := ⟨j 0, j 1, eq_ix2 j⟩
    have q := holds_at m c D U G B W C P H t.val t.isLt
    rw [View.read_apply]
    show _ = gcArr D U G B W C P _
    have e0 : 640 * t.val + r.val = win0_6.index t 0 * 640 + 1 * r.val := by rw [(index6 t).1]; omega
    have e1 : e.val = win0_6.index t 1 * 512 + 1 * e.val := by rw [(index6 t).2]; omega
    by_cases he : e.val < 256
    · rw [q.left r ⟨e.val, he⟩ e rfl, gcArr_left D U G B W C P _ ⟨e.val, he⟩ e1.symm, e0]
      rfl
    · have h5 : e.val = 256 + (e.val - 256) := by omega
      rw [q.right r ⟨e.val - 256, by omega⟩ e h5, gcArr_right D U G B W C P _ ⟨e.val - 256, by omega⟩ (e1.symm.trans h5), e0]
      rfl
  · have hi : (i 0).val < 8320 := (i 0).isLt
    refine ⟨⟨(i 0).val / 640, by omega⟩, flush0_6 _, mem_blk6 _ _ ?_⟩
    dsimp only; omega

theorem mem_blk7 (t : Fin cfg0.N) (i : S8320x256.Idx) (h0 : 640 * t.val ≤ (i 0).val ∧ (i 0).val < 640 * t.val + 640) :
    i ∈ ((cfg0.win 7).blk t).view.set := by
  show i ∈ ((View.whole main_v7_1).slice (win0_7.rect t)).set
  rw [View.set_slice_whole, Rect.mem_set_unit]
  intro a
  match a with
  | 0 => show win0_7.index t 0 * 640 ≤ (i 0).val ∧ (i 0).val < win0_7.index t 0 * 640 + 640
         rw [(index7 t).1]; omega
  | 1 => show win0_7.index t 1 * 256 ≤ (i 1).val ∧ (i 1).val < win0_7.index t 1 * 256 + 256
         have h1 : (i 1).val < 256 := (i 1).isLt
         rw [(index7 t).2]; omega

include H in
theorem arr7 : (dats m 0 c).arrAt 7 cfg0.N = actArr D G B := by
  have hN : cfg0.N = 13 := N_0
  refine (dats m 0 c).arrAt_eq_of_cover 7 _ (fun t _ => ?_) (fun i => ?_)
  · rw [Value.flushed7]
    show (outsAt0 m c t.val t.isLt).2.1 = ((cfg0.win 7).blk t).view.read (Elt Ideal) (actArr D G B)
    funext j
    obtain ⟨r, k, rfl⟩ : ∃ (r : Fin 640) (k : Fin 256), j = ix2 r k := ⟨j 0, j 1, eq_ix2 j⟩
    rw [(holds_at m c D U G B W C P H t.val t.isLt).act r k, View.read_apply]
    show _ = actArr D G B _
    have e0 : 640 * t.val + r.val = win0_7.index t 0 * 640 + 1 * r.val := by rw [(index7 t).1]; omega
    have e1 : k.val = win0_7.index t 1 * 256 + 1 * k.val := by rw [(index7 t).2]; omega
    rw [e0]
    exact congrArg (fun k => ((lnv D G B _ k * sgm (lnv D G B _ k) : ℝ) : EReal)) (Fin.ext e1)
  · have hi : (i 0).val < 8320 := (i 0).isLt
    refine ⟨⟨(i 0).val / 640, by omega⟩, flush0_7 _, mem_blk7 _ _ ?_⟩
    dsimp only; omega

theorem mem_blk8 (t : Fin cfg0.N) (i : S8x256.Idx) : i ∈ ((cfg0.win 8).blk t).view.set := by
  show i ∈ ((View.whole main_v7_2).slice (win0_8.rect t)).set
  rw [View.set_slice_whole, Rect.mem_set_unit]
  intro a
  match a with
  | 0 => show win0_8.index t 0 * 8 ≤ (i 0).val ∧ (i 0).val < win0_8.index t 0 * 8 + 8
         have h0 : (i 0).val < 8 := (i 0).isLt
         rw [(index8 t).1]; omega
  | 1 => show win0_8.index t 1 * 256 ≤ (i 1).val ∧ (i 1).val < win0_8.index t 1 * 256 + 256
         have h1 : (i 1).val < 256 := (i 1).isLt
         rw [(index8 t).2]; omega

include H in
theorem arr8 : (dats m 0 c).arrAt 8 cfg0.N = pgArr D U G B W := by
  have hN : cfg0.N = 13 := N_0
  refine (dats m 0 c).arrAt_eq_of_cover 8 _ (fun t ht => ?_) (fun i => ?_)
  · have h12 : t.val = 12 := by have := (flush0_8 t).mp ht; have := t.isLt; omega
    rw [Value.flushed8]
    show (outsAt0 m c t.val t.isLt).2.2 = ((cfg0.win 8).blk t).view.read (Elt Ideal) (pgArr D U G B W)
    funext j
    obtain ⟨a, k, rfl⟩ : ∃ (a : Fin 8) (k : Fin 256), j = ix2 a k := ⟨j 0, j 1, eq_ix2 j⟩
    rw [(holds_at m c D U G B W C P H t.val t.isLt).pg a k, View.read_apply]
    show _ = pgArr D U G B W _
    unfold pgArr
    rw [h12]
    refine congrArg Real.toEReal (Finset.sum_congr rfl fun n _ => congrArg₂ (fun a k => part D U G B W a k n) (Fin.ext ?_) (Fin.ext ?_))
    · show _ = win0_8.index t 0 * 8 + 1 * a.val
      rw [(index8 t).1]; omega
    · show _ = win0_8.index t 1 * 256 + 1 * k.val
      rw [(index8 t).2]; omega
  · exact ⟨⟨12, by omega⟩, (flush0_8 _).mpr rfl, mem_blk8 _ _⟩

end Cert.ConvPwIdeal.Hand
-- ==== Proof.ConvPwReference.lean ====
/- The reference's gradient through the convolution's norm and gate, where the arguments are finite. -/
module

public import proofs.«01_k».proof.Proof.Gen.ConvPwRefIdeal.Read
public import proofs.«01_k».proof.Proof.ConvPwReal
public import proofs.«01_k».proof.Proof.Sigmoid
public import Idealize.ShloMosaic.Lib.Pointwise

@[expose] public section

set_option maxRecDepth 16384

noncomputable section

namespace Cert.ConvPwRefIdeal.Hand

open Cert.ConvPwRefIdeal Cert.ConvPwRefIdeal.Read Idealize.ShloMosaic Cert.Norm Cert.ConvPw

variable (x0 : Vec Ideal S8320x256 .f32) (x1 x2 x3 : Vec Ideal S256 .f32) (x4 : Vec Ideal S256x256 .f32)
  (x6 : Vec Ideal S8320x1280 .f32) (x8 : Vec Ideal S8320x512 .f32)
  (D U : ℕ → Fin 256 → ℝ) (G B : Fin 256 → ℝ) (W : Fin 256 → Fin 256 → ℝ)
  (h0 : ∀ (R : Fin 8320) k, x0 (ix2 R k) + x1 (ix1 k) = (D R.val k : EReal))
  (h2 : ∀ k, x2 (ix1 k) = (G k : EReal)) (h3 : ∀ k, x3 (ix1 k) = (B k : EReal))
  (h4 : ∀ k j, x4 (ix2 k j) = (W k j : EReal))
  (h8 : ∀ (R : Fin 8320) (k : Fin 256) (j : Fin 512), j.val = k.val → x8 (ix2 R j) = (U R.val k : EReal))

include h0 in
theorem v3_real (R : Fin 8320) (k : Fin 256) : val_main_v3 (F := Ideal) x0 x1 (ix2 R k) = (D R.val k : EReal) := by
  pointwise [val_main_v3, val_main_v2, val_main_v1]
  exact h0 R k

include h0 in
theorem v7_real (R : Fin 8320) : val_main_v7 (F := Ideal) x0 x1 (ix2 R 0) = (((∑ j, D R.val j) / 256 : ℝ) : EReal) := by
  have e := v3_real x0 x1 D h0 R
  unfold val_main_v7 val_main_v5 val_main_v4
  generalize val_main_v3 (F := Ideal) x0 x1 = s at *
  pointwise [val_main_v6, val_main_cst, val_main_cst_0]
  simp only [e, coe_sum, width256_word]
  rw [div_real _ _ (by norm_num)]

include h0 in
theorem v18_real (R : Fin 8320) (k : Fin 256) : val_main_v18 (F := Ideal) x0 x1 (ix2 R k) = (cen (D R.val) k : EReal) := by
  have e := v3_real x0 x1 D h0 R
  have e7 := v7_real x0 x1 D h0 R
  unfold val_main_v18 val_main_v17
  generalize val_main_v7 (F := Ideal) x0 x1 = s7 at *
  generalize val_main_v3 (F := Ideal) x0 x1 = s at *
  pointwise []
  rw [e, e7, ← EReal.coe_sub]
  rfl

theorem v9_eq : val_main_v9 (F := Ideal) x0 x1 = val_main_v18 (F := Ideal) x0 x1 := rfl

include h0 in
theorem v20_real (R : Fin 8320) : val_main_v20 (F := Ideal) x0 x1 (ix2 R 0) = (var (D R.val) : EReal) := by
  have e := v18_real x0 x1 D h0 R
  unfold val_main_v20 val_main_v16 val_main_v14 val_main_v13 val_main_v10
  rw [v9_eq]
  generalize val_main_v18 (F := Ideal) x0 x1 = s at *
  pointwise [val_main_v19, val_main_v15, val_main_cst_2, val_main_cst_3, val_main_cst_4]
  simp only [e, ← EReal.coe_mul, coe_sum, width256_word, eps_word]
  rw [div_real _ _ (by norm_num), ← EReal.coe_add]
  rfl

include h0 in
theorem v21_real (R : Fin 8320) : val_main_v21 (F := Ideal) x0 x1 (ix2 R 0) = (rsd (D R.val) : EReal) := by
  have e := v20_real x0 x1 D h0 R
  unfold val_main_v21
  generalize val_main_v20 (F := Ideal) x0 x1 = s at *
  pointwise []
  rw [e]
  exact rsqrt_real (var_pos _)

include h0 in
theorem v24_real (R : Fin 8320) : val_main_v24 (F := Ideal) x0 x1 (ix2 R 0) = ((-(1 / 2) * (rsd (D R.val) / var (D R.val)) : ℝ) : EReal) := by
  have e := v20_real x0 x1 D h0 R
  have e' := v21_real x0 x1 D h0 R
  unfold val_main_v24 val_main_v22
  generalize val_main_v20 (F := Ideal) x0 x1 = s at *
  generalize val_main_v21 (F := Ideal) x0 x1 = s' at *
  pointwise [val_main_v23, val_main_cst_5]
  rw [e, e', neg_half_word, div_real _ _ (var_pos _).ne', ← EReal.coe_mul]

include h0 in
theorem v26_real (R : Fin 8320) (k : Fin 256) : val_main_v26 (F := Ideal) x0 x1 (ix2 R k) = (xh (D R.val) k : EReal) := by
  have e := v18_real x0 x1 D h0 R
  have e' := v21_real x0 x1 D h0 R
  unfold val_main_v26 val_main_v25
  generalize val_main_v18 (F := Ideal) x0 x1 = s at *
  generalize val_main_v21 (F := Ideal) x0 x1 = s' at *
  pointwise []
  rw [e, e', ← EReal.coe_mul]
  rfl

include h0 h2 h3 in
theorem v32_real (R : Fin 8320) (k : Fin 256) : val_main_v32 (F := Ideal) x0 x1 x2 x3 (ix2 R k) = (lnv D G B R.val k : EReal) := by
  have e := v26_real x0 x1 D h0 R
  unfold val_main_v32 val_main_v29
  generalize val_main_v26 (F := Ideal) x0 x1 = s at *
  pointwise [val_main_v28, val_main_v27, val_main_v31, val_main_v30]
  rw [e, h2, h3, ← EReal.coe_mul, ← EReal.coe_add]
  rfl

include h0 h2 h3 in
theorem sgm_at (R : Fin 8320) (k : Fin 256) : val_main_v33_2 (F := Ideal) x0 x1 x2 x3 (ix2 R k) = (sgm (lnv D G B R.val k) : EReal) := by
  have e := v32_real x0 x1 x2 x3 D G B h0 h2 h3 R
  unfold val_main_v33_2 val_main_call0_v3 val_main_call0_v1 val_main_call0_v0
  generalize val_main_v32 (F := Ideal) x0 x1 x2 x3 = s at *
  pointwise [val_main_call0_v2, val_main_call0_v4, val_main_call0_cst, val_main_call0_cst_0]
  rw [e, ← EReal.coe_neg]
  exact sgm_real _

include h8 in
theorem v40_real (R : Fin 8320) (k : Fin 256) : val_main_v40 (F := Ideal) x8 (ix2 R k) = (U R.val k : EReal) := by
  pointwise [val_main_v40]
  exact h8 R k _ rfl

include h4 h8 in
theorem v46_real (R : Fin 8320) (k : Fin 256) : val_main_v46 (F := Ideal) x4 x8 (ix2 R k) = (dact U W R.val k : EReal) := by
  have e := v40_real x8 U h8 R
  unfold val_main_v46
  generalize val_main_v40 (F := Ideal) x8 = s at *
  pointwise []
  simp only [e, h4, ← EReal.coe_mul, coe_sum]
  rfl

include h0 h2 h3 h4 h8 in
theorem v47_real (R : Fin 8320) (k : Fin 256) : val_main_v47 (F := Ideal) x0 x1 x2 x3 x4 x8 (ix2 R k) = (dlnv D U G B W R.val k : EReal) := by
  have e := v32_real x0 x1 x2 x3 D G B h0 h2 h3 R
  have e' := sgm_at x0 x1 x2 x3 D G B h0 h2 h3 R
  have e46 := v46_real x4 x8 U W h4 h8 R
  unfold val_main_v47 val_main_call1_v2 val_main_call1_v1 val_main_call1_v0 val_main_v33_1 val_main_call0_v7
  generalize val_main_v32 (F := Ideal) x0 x1 x2 x3 = s at *
  generalize val_main_v33_2 (F := Ideal) x0 x1 x2 x3 = s' at *
  generalize val_main_v46 (F := Ideal) x4 x8 = s46 at *
  pointwise [val_main_call0_v6, val_main_call0_cst_1]
  simp only [e, e', e46, ← EReal.coe_one, ← EReal.coe_sub, ← EReal.coe_mul, ← EReal.coe_add]
  refine congrArg Real.toEReal ?_
  unfold dlnv slp
  ring

include h0 h2 h3 h4 h8 in
theorem v55_real (R : Fin 8320) (k : Fin 256) : val_main_v55 (F := Ideal) x0 x1 x2 x3 x4 x8 (ix2 R k) = ((dlnv D U G B W R.val k * G k : ℝ) : EReal) := by
  have e := v47_real x0 x1 x2 x3 x4 x8 D U G B W h0 h2 h3 h4 h8 R
  unfold val_main_v55
  generalize val_main_v47 (F := Ideal) x0 x1 x2 x3 x4 x8 = s at *
  pointwise [val_main_v54, val_main_v27]
  rw [e, h2, ← EReal.coe_mul]

include h0 h2 h3 h4 h8 in
theorem v61_real (R : Fin 8320) (k : Fin 256) :
    val_main_v61 (F := Ideal) x0 x1 x2 x3 x4 x8 (ix2 R k) = ((dlnv D U G B W R.val k * G k * rsd (D R.val) : ℝ) : EReal) := by
  have e := v55_real x0 x1 x2 x3 x4 x8 D U G B W h0 h2 h3 h4 h8 R
  have e' := v21_real x0 x1 D h0 R
  unfold val_main_v61 val_main_v60
  generalize val_main_v55 (F := Ideal) x0 x1 x2 x3 x4 x8 = s at *
  generalize val_main_v21 (F := Ideal) x0 x1 = s' at *
  pointwise []
  rw [e, e', ← EReal.coe_mul]

/-- The factor by which the variance's gradient reaches a row. -/
def fac (n : ℕ) : ℝ := (∑ j, cen (D n) j * (dlnv D U G B W n j * G j)) * (-(1 / 2) * (rsd (D n) / var (D n))) / 256

include h0 h2 h3 h4 h8 in
theorem v68_real (R : Fin 8320) : val_main_v68 (F := Ideal) x0 x1 x2 x3 x4 x8 (ix1 R) = (fac D U G B W R.val : EReal) := by
  have e := v55_real x0 x1 x2 x3 x4 x8 D U G B W h0 h2 h3 h4 h8 R
  have e' := v18_real x0 x1 D h0 R
  have e24 := v24_real x0 x1 D h0 R
  unfold val_main_v68 val_main_v67 val_main_v62 val_main_v59 val_main_v58 val_main_v57
  generalize val_main_v55 (F := Ideal) x0 x1 x2 x3 x4 x8 = s at *
  generalize val_main_v18 (F := Ideal) x0 x1 = s' at *
  generalize val_main_v24 (F := Ideal) x0 x1 = s24 at *
  pointwise [val_main_v66, val_main_cst_12, val_main_cst_14, val_main_cst_15]
  rw [Fin.sum_univ_one]
  simp only [e, e', e24, ← EReal.coe_mul, coe_sum, width256_word]
  rw [div_real _ _ (by norm_num)]
  rfl

include h0 h2 h3 h4 h8 in
theorem v70_real (R : Fin 8320) (k : Fin 256) :
    val_main_v70 (F := Ideal) x0 x1 x2 x3 x4 x8 (ix2 R k) = ((fac D U G B W R.val * (2 * cen (D R.val) k) : ℝ) : EReal) := by
  have e := v68_real x0 x1 x2 x3 x4 x8 D U G B W h0 h2 h3 h4 h8 R
  have e' := v18_real x0 x1 D h0 R
  unfold val_main_v70 val_main_v69 val_main_v12
  rw [v9_eq]
  generalize val_main_v68 (F := Ideal) x0 x1 x2 x3 x4 x8 = s at *
  generalize val_main_v18 (F := Ideal) x0 x1 = s' at *
  pointwise [val_main_v11, val_main_cst_1]
  rw [e, e', two_word, ← EReal.coe_mul, ← EReal.coe_mul]

include h0 h2 h3 h4 h8 in
theorem v80_real (R : Fin 8320) (k : Fin 256) :
    val_main_v80 (F := Ideal) x0 x1 x2 x3 x4 x8 (ix2 R k) = (ddw D U G B W R.val k : EReal) := by
  have e := v61_real x0 x1 x2 x3 x4 x8 D U G B W h0 h2 h3 h4 h8 R
  have e' := v70_real x0 x1 x2 x3 x4 x8 D U G B W h0 h2 h3 h4 h8 R
  unfold val_main_v80 val_main_v79 val_main_v78 val_main_v77 val_main_v75 val_main_v65 val_main_v73 val_main_v64 val_main_v72 val_main_v63 val_main_v71 val_main_v74
  generalize val_main_v61 (F := Ideal) x0 x1 x2 x3 x4 x8 = s at *
  generalize val_main_v70 (F := Ideal) x0 x1 x2 x3 x4 x8 = s' at *
  pointwise [val_main_v76, val_main_cst_13, val_main_cst_16, val_main_cst_17, val_main_cst_18]
  rw [Fin.sum_univ_one]
  simp only [e, e', ← EReal.coe_neg, coe_sum, ← EReal.coe_add, width256_word]
  rw [div_real _ _ (by norm_num), ← EReal.coe_add]
  exact congrArg Real.toEReal (grad (D R.val) (fun j => dlnv D U G B W R.val j * G j) k _ rfl)

/-! ### The results -/

include h0 h2 h3 h4 h8 in
/-- The gradients of the convolution's result and of what the gate multiplies. -/
theorem left_real (R : Fin 8320) (k : Fin 256) (j : Fin 512) (hj : j.val = k.val) :
    val_main_v118 (F := Ideal) x0 x1 x2 x3 x4 x6 x8 (ix2 R j) = (ddw D U G B W R.val k : EReal) := by
  have e := v80_real x0 x1 x2 x3 x4 x8 D U G B W h0 h2 h3 h4 h8 R k
  unfold val_main_v118
  generalize val_main_v80 (F := Ideal) x0 x1 x2 x3 x4 x8 = s at *
  generalize val_main_v42 (F := Ideal) x6 x8 = s' at *
  pointwise []
  rw [dif_pos (show j.val < 256 by omega)]
  exact (congrArg (fun k => s (ix2 R k)) (Fin.ext hj)).trans e

theorem v42_apply (R : Fin 8320) (k : Fin 256) :
    val_main_v42 (F := Ideal) x6 x8 (ix2 R k) = x6 (ix2 R ⟨512 + k.val, by omega⟩) * x8 (ix2 R ⟨256 + k.val, by omega⟩) := by
  pointwise [val_main_v42, val_main_v41, val_main_v0]

theorem right_real (R : Fin 8320) (k : Fin 256) (j : Fin 512) (hj : j.val = 256 + k.val) :
    val_main_v118 (F := Ideal) x0 x1 x2 x3 x4 x6 x8 (ix2 R j) = x8 (ix2 R ⟨256 + k.val, by omega⟩) * x6 (ix2 R ⟨512 + k.val, by omega⟩) := by
  have e := v42_apply x6 x8 R k
  unfold val_main_v118
  generalize val_main_v80 (F := Ideal) x0 x1 x2 x3 x4 x8 = s at *
  generalize val_main_v42 (F := Ideal) x6 x8 = s' at *
  pointwise []
  rw [dif_neg (show ¬ j.val < 256 by omega), mul_comm, ← e]
  exact congrArg (fun k => s' (ix2 R k)) (Fin.ext (show j.val - 256 = k.val by omega))

include h0 h2 h3 in
/-- What the gate leaves. -/
theorem v112_real (R : Fin 8320) (k : Fin 256) :
    val_main_v112 (F := Ideal) x0 x1 x2 x3 (ix2 R k) = ((lnv D G B R.val k * sgm (lnv D G B R.val k) : ℝ) : EReal) := by
  have e := v32_real x0 x1 x2 x3 D G B h0 h2 h3 R k
  have e' := sgm_at x0 x1 x2 x3 D G B h0 h2 h3 R k
  show val_main_v33_0 (F := Ideal) x0 x1 x2 x3 (ix2 R k) = _
  unfold val_main_v33_0
  generalize val_main_v32 (F := Ideal) x0 x1 x2 x3 = s at *
  generalize val_main_v33_2 (F := Ideal) x0 x1 x2 x3 = s' at *
  pointwise []
  rw [e, e', ← EReal.coe_mul]

section Parts

variable (k : Fin 256)

include h8 in
theorem v45_real : val_main_v45 (F := Ideal) x8 (ix1 k) = ((∑ n ∈ Finset.range 8320, U n k : ℝ) : EReal) := by
  have e := fun R => v40_real x8 U h8 R k
  unfold val_main_v45 val_main_v44 val_main_v43
  generalize val_main_v40 (F := Ideal) x8 = s at *
  pointwise [val_main_cst_6, val_main_cst_7]
  rw [Fin.sum_univ_one, Finset.sum_range fun n => U n k]
  simp only [e, coe_sum]

include h0 h2 h3 h4 h8 in
theorem v50_real : val_main_v50 (F := Ideal) x0 x1 x2 x3 x4 x8 (ix1 k) = ((∑ n ∈ Finset.range 8320, dlnv D U G B W n k : ℝ) : EReal) := by
  have e := fun R => v47_real x0 x1 x2 x3 x4 x8 D U G B W h0 h2 h3 h4 h8 R k
  unfold val_main_v50 val_main_v49 val_main_v48
  generalize val_main_v47 (F := Ideal) x0 x1 x2 x3 x4 x8 = s at *
  pointwise [val_main_cst_8, val_main_cst_9]
  rw [Fin.sum_univ_one, Finset.sum_range fun n => dlnv D U G B W n k]
  simp only [e, coe_sum]

include h0 h2 h3 h4 h8 in
theorem v56_real : val_main_v56 (F := Ideal) x0 x1 x2 x3 x4 x8 (ix1 k) =
    ((∑ n ∈ Finset.range 8320, dlnv D U G B W n k * xh (D n) k : ℝ) : EReal) := by
  have e := fun R => v47_real x0 x1 x2 x3 x4 x8 D U G B W h0 h2 h3 h4 h8 R k
  have e' := fun R => v26_real x0 x1 D h0 R k
  unfold val_main_v56 val_main_v53 val_main_v52 val_main_v51
  generalize val_main_v47 (F := Ideal) x0 x1 x2 x3 x4 x8 = s at *
  generalize val_main_v26 (F := Ideal) x0 x1 = s' at *
  pointwise [val_main_cst_10, val_main_cst_11]
  rw [Fin.sum_univ_one, Finset.sum_range fun n => dlnv D U G B W n k * xh (D n) k]
  simp only [e, e', ← EReal.coe_mul, coe_sum]
  exact congrArg Real.toEReal (Finset.sum_congr rfl fun n _ => mul_comm _ _)

include h0 h2 h3 h4 h8 in
theorem v83_real : val_main_v83 (F := Ideal) x0 x1 x2 x3 x4 x8 (ix1 k) = ((∑ n ∈ Finset.range 8320, ddw D U G B W n k : ℝ) : EReal) := by
  have e := fun R => v80_real x0 x1 x2 x3 x4 x8 D U G B W h0 h2 h3 h4 h8 R k
  unfold val_main_v83 val_main_v82 val_main_v81
  generalize val_main_v80 (F := Ideal) x0 x1 x2 x3 x4 x8 = s at *
  pointwise [val_main_cst_19, val_main_cst_20]
  rw [Fin.sum_univ_one, Finset.sum_range fun n => ddw D U G B W n k]
  simp only [e, coe_sum]

include h0 h2 h3 h4 h8 in
/-- The gradients of the parameters, row by row. -/
theorem v119_real (a : Fin 8) :
    val_main_v119 (F := Ideal) x0 x1 x2 x3 x4 x8 (ix2 a k) = ((∑ n ∈ Finset.range 8320, part D U G B W a k n : ℝ) : EReal) := by
  have e0 := v45_real x8 U h8 k
  have e1 := v56_real x0 x1 x2 x3 x4 x8 D U G B W h0 h2 h3 h4 h8 k
  have e2 := v50_real x0 x1 x2 x3 x4 x8 D U G B W h0 h2 h3 h4 h8 k
  have e3 := v83_real x0 x1 x2 x3 x4 x8 D U G B W h0 h2 h3 h4 h8 k
  unfold val_main_v119 val_main_v117 val_main_v113 val_main_v114 val_main_v115 val_main_v116
  generalize val_main_v45 (F := Ideal) x8 = s0 at *
  generalize val_main_v56 (F := Ideal) x0 x1 x2 x3 x4 x8 = s1 at *
  generalize val_main_v50 (F := Ideal) x0 x1 x2 x3 x4 x8 = s2 at *
  generalize val_main_v83 (F := Ideal) x0 x1 x2 x3 x4 x8 = s3 at *
  fin_cases a
  all_goals pointwise [val_main_call3_v0, val_main_c]
  all_goals simp [part, e0, e1, e2, e3, Sigmoid.zero_word]

end Parts

end Cert.ConvPwRefIdeal.Hand
-- ==== Proof.ConvPwEquation.lean ====
/- The gradient through the convolution's norm and gate: the kernel's three arrays are the reference's, where the arguments are finite. -/
module

public import proofs.«01_k».proof.Defs
public import proofs.«01_k».proof.Proof.ConvPwArray
public import proofs.«01_k».proof.Proof.ConvPwReference
public import proofs.«01_k».proof.Proof.Gen.ConvPwRefIdeal.Run
public import proofs.«01_k».proof.Proof.Gen.Pre_pw_finite
public import Idealize.ShloMosaic.Lib.StableHlo.ReadAt

@[expose] public section

set_option maxRecDepth 16384

noncomputable section

namespace Cert.ConvPwIdeal.Hand

open Cert.ConvPwIdeal Cert.ConvPwIdeal.Gen Idealize.ShloMosaic Idealize.ShloMosaic.TcCoe Idealize.SL.Sem
open Cert.ConvPwRefIdeal.Read Cert.Norm Cert.ConvPw

theorem coe_toReal_of_abs {x : EReal} (h : max x (-x) < ⊤) : x = (x.toReal : EReal) := by
  induction x with
  | bot => exact absurd h (by simp)
  | top => exact absurd h (by simp)
  | coe a => rfl

/-- The precondition at an element of each argument that it is about. -/
theorem finite_of_pre (x : Vec Ideal S8320x256 .f32) (e g b : Vec Ideal S256 .f32) (w : Vec Ideal S256x256 .f32) (e' : Vec Ideal S256 .f32)
    (p : Vec Ideal S8320x1280 .f32) (v : Vec Ideal S8320x256 .f32) (d : Vec Ideal S8320x512 .f32)
    (hp : letI := Cert.Pre_pw_finite.Gen.facts; (Cert.Pre_pw_finite.fn (F := Ideal) x e g b w e' p v d).1 = (fun _ => 1#1) ∧
      (Cert.Pre_pw_finite.fn (F := Ideal) x e g b w e' p v d).2.1 = (fun _ => 1#1) ∧
      (Cert.Pre_pw_finite.fn (F := Ideal) x e g b w e' p v d).2.2.1 = (fun _ => 1#1) ∧
      (Cert.Pre_pw_finite.fn (F := Ideal) x e g b w e' p v d).2.2.2.1 = (fun _ => 1#1) ∧
      (Cert.Pre_pw_finite.fn (F := Ideal) x e g b w e' p v d).2.2.2.2.1 = (fun _ => 1#1) ∧
      (Cert.Pre_pw_finite.fn (F := Ideal) x e g b w e' p v d).2.2.2.2.2 = fun _ => 1#1) :
    (∀ (R : Fin 8320) (k : Fin 256), x (ix2 R k) = ((x (ix2 R k)).toReal : EReal)) ∧
    (∀ k : Fin 256, e (ix1 k) = ((e (ix1 k)).toReal : EReal)) ∧
    (∀ k : Fin 256, g (ix1 k) = ((g (ix1 k)).toReal : EReal)) ∧
    (∀ k : Fin 256, b (ix1 k) = ((b (ix1 k)).toReal : EReal)) ∧
    (∀ k j : Fin 256, w (ix2 k j) = ((w (ix2 k j)).toReal : EReal)) ∧
    (∀ (R : Fin 8320) (j : Fin 512), d (ix2 R j) = ((d (ix2 R j)).toReal : EReal)) := by
  have one : ∀ a : Bool, BitVec.ofBool a = 1#1 → a = true := by decide
  obtain ⟨p0, p1, p2, p3, p4, p5⟩ := hp
  refine ⟨fun R k => ?_, fun k => ?_, fun k => ?_, fun k => ?_, fun k j => ?_, fun R j => ?_⟩
  · have q := congrFun p0 (ix2 R k)
    pointwise [Cert.Pre_pw_finite.fn] at q
    rw [Sigmoid.inf_word] at q
    exact coe_toReal_of_abs (of_decide_eq_true (one _ q))
  · have q := congrFun p1 (ix1 k)
    pointwise [Cert.Pre_pw_finite.fn] at q
    rw [Sigmoid.inf_word] at q
    exact coe_toReal_of_abs (of_decide_eq_true (one _ q))
  · have q := congrFun p2 (ix1 k)
    pointwise [Cert.Pre_pw_finite.fn] at q
    rw [Sigmoid.inf_word] at q
    exact coe_toReal_of_abs (of_decide_eq_true (one _ q))
  · have q := congrFun p3 (ix1 k)
    pointwise [Cert.Pre_pw_finite.fn] at q
    rw [Sigmoid.inf_word] at q
    exact coe_toReal_of_abs (of_decide_eq_true (one _ q))
  · have q := congrFun p4 (ix2 k j)
    pointwise [Cert.Pre_pw_finite.fn] at q
    rw [Sigmoid.inf_word] at q
    exact coe_toReal_of_abs (of_decide_eq_true (one _ q))
  · have q := congrFun p5 (ix2 R j)
    pointwise [Cert.Pre_pw_finite.fn] at q
    rw [Sigmoid.inf_word] at q
    exact coe_toReal_of_abs (of_decide_eq_true (one _ q))

/-- The numbers of the arguments. -/
def convOf (x : Vec Ideal S8320x256 .f32) (e : Vec Ideal S256 .f32) (n : ℕ) (k : Fin 256) : ℝ :=
  if h : n < 8320 then (x (ix2 ⟨n, h⟩ k)).toReal + (e (ix1 k)).toReal else 0
def leftOf (d : Vec Ideal S8320x512 .f32) (n : ℕ) (k : Fin 256) : ℝ := if h : n < 8320 then (d (ix2 ⟨n, h⟩ ⟨k.val, by omega⟩)).toReal else 0
def rightOf (d : Vec Ideal S8320x512 .f32) (n : ℕ) (k : Fin 256) : EReal := if h : n < 8320 then d (ix2 ⟨n, h⟩ ⟨256 + k.val, by omega⟩) else 0
def gateOf (p : Vec Ideal S8320x1280 .f32) (n : ℕ) (k : Fin 256) : EReal := if h : n < 8320 then p (ix2 ⟨n, h⟩ ⟨512 + k.val, by omega⟩) else 0
def vecOf (g : Vec Ideal S256 .f32) (k : Fin 256) : ℝ := (g (ix1 k)).toReal
def matOf (w : Vec Ideal S256x256 .f32) (k j : Fin 256) : ℝ := (w (ix2 k j)).toReal

theorem conv_real (x : Vec Ideal S8320x256 .f32) (e : Vec Ideal S256 .f32) (hx : ∀ (R : Fin 8320) (k : Fin 256), x (ix2 R k) = ((x (ix2 R k)).toReal : EReal))
    (he : ∀ k : Fin 256, e (ix1 k) = ((e (ix1 k)).toReal : EReal)) (R : Fin 8320) (k : Fin 256) :
    x (ix2 R k) + e (ix1 k) = (convOf x e R.val k : EReal) := by
  unfold convOf
  rw [dif_pos R.isLt, EReal.coe_add]
  exact congrArg₂ (fun a b : EReal => a + b) (hx R k) (he k)

variable (m : (ℓ : Loc nD τ sig) → Buf (Elt Ideal) ℓ) (c : Dev nD)

theorem dcc_apply (R : Fin 8320) (j : Fin 512) (d : Vec Ideal S8320x512 .f32) (hd : m ((c : Thread nD τ).loc main_arg8) = d) :
    (V m c main_arg8 : Vec Ideal S8320x512 .f32) (ix2 R j) = d (ix2 R j) := by
  subst hd
  unfold V
  after_reads_at

theorem pc_apply (R : Fin 8320) (j : Fin 1280) (p : Vec Ideal S8320x1280 .f32) (hp : m ((c : Thread nD τ).loc main_arg6) = p) :
    (V m c main_arg6 : Vec Ideal S8320x1280 .f32) (ix2 R j) = p (ix2 R j) := by
  subst hp
  unfold V
  after_reads_at

theorem conv_apply (R : Fin 8320) (k : Fin 256) (x : Vec Ideal S8320x256 .f32) (e : Vec Ideal S256 .f32)
    (hx : m ((c : Thread nD τ).loc main_arg0) = x) (he : m ((c : Thread nD τ).loc main_arg1) = e) :
    (V m c main_v3 : Vec Ideal S8320x512 .f32) (ix2 R ⟨k.val, by omega⟩) = x (ix2 R k) + e (ix1 k) := by
  subst hx
  subst he
  unfold V
  after_reads_at

theorem scale_apply (k : Fin 256) (g : Vec Ideal S256 .f32) (hg : m ((c : Thread nD τ).loc main_arg2) = g) :
    (V m c main_v4 : Vec Ideal S1x256 .f32) (ix2 0 k) = g (ix1 k) := by
  subst hg
  unfold V
  after_reads_at

theorem shift_apply (k : Fin 256) (b : Vec Ideal S256 .f32) (hb : m ((c : Thread nD τ).loc main_arg3) = b) :
    (V m c main_v5 : Vec Ideal S1x256 .f32) (ix2 0 k) = b (ix1 k) := by
  subst hb
  unfold V
  after_reads_at

theorem weight_apply (k j : Fin 256) (w : Vec Ideal S256x256 .f32) (hw : m ((c : Thread nD τ).loc main_arg4) = w) :
    (V m c main_v6 : Vec Ideal S256x256 .bf16) (ix2 k j) = w (ix2 k j) := by
  subst hw
  unfold V
  after_reads_at

/-- The kernel and the reference, from memories that agree on the arguments. -/
theorem algebraic : letI := Cert.ConvPwIdeal.Gen.facts; letI := Cert.ConvPwRefIdeal.Gen.facts; letI := Cert.Pre_pw_finite.Gen.facts
    Cert.algebraic_ConvPwIdeal_ConvPwRefIdeal_pre_pw_finite := by
  intro m g m' g' hpre hagree
  let D := fun c : Dev nD => convOf (m ((c : Thread nD τ).loc main_arg0)) (m ((c : Thread nD τ).loc main_arg1))
  let U := fun c : Dev nD => leftOf (m ((c : Thread nD τ).loc main_arg8))
  let G := fun c : Dev nD => vecOf (m ((c : Thread nD τ).loc main_arg2))
  let B := fun c : Dev nD => vecOf (m ((c : Thread nD τ).loc main_arg3))
  let W := fun c : Dev nD => matOf (m ((c : Thread nD τ).loc main_arg4))
  let C := fun c : Dev nD => rightOf (m ((c : Thread nD τ).loc main_arg8))
  let P := fun c : Dev nD => gateOf (m ((c : Thread nD τ).loc main_arg6))
  have hD := fun c : Dev nD => conv_real (m ((c : Thread nD τ).loc main_arg0)) (m ((c : Thread nD τ).loc main_arg1))
    (finite_of_pre _ _ _ _ _ _ _ _ _ (hpre c)).1 (finite_of_pre _ _ _ _ _ _ _ _ _ (hpre c)).2.1
  have hG : ∀ c (k : Fin 256), (m ((c : Thread nD τ).loc main_arg2) : Vec Ideal S256 .f32) (ix1 k) = (G c k : EReal) := fun c k =>
    (finite_of_pre _ _ _ _ _ _ _ _ _ (hpre c)).2.2.1 k
  have hB : ∀ c (k : Fin 256), (m ((c : Thread nD τ).loc main_arg3) : Vec Ideal S256 .f32) (ix1 k) = (B c k : EReal) := fun c k =>
    (finite_of_pre _ _ _ _ _ _ _ _ _ (hpre c)).2.2.2.1 k
  have hW : ∀ c (k j : Fin 256), (m ((c : Thread nD τ).loc main_arg4) : Vec Ideal S256x256 .f32) (ix2 k j) = (W c k j : EReal) := fun c k j =>
    (finite_of_pre _ _ _ _ _ _ _ _ _ (hpre c)).2.2.2.2.1 k j
  have hU : ∀ c (R : Fin 8320) (k : Fin 256) (j : Fin 512), j.val = k.val →
      (m ((c : Thread nD τ).loc main_arg8) : Vec Ideal S8320x512 .f32) (ix2 R j) = (U c R.val k : EReal) := fun c R k j hj => by
    refine ((finite_of_pre _ _ _ _ _ _ _ _ _ (hpre c)).2.2.2.2.2 R j).trans ?_
    show _ = ((leftOf _ _ _ : ℝ) : EReal)
    unfold leftOf
    rw [dif_pos R.isLt]
    exact congrArg (fun j => ((EReal.toReal (m ((c : Thread nD τ).loc main_arg8) (ix2 R j)) : ℝ) : EReal)) (Fin.ext hj)
  have hC : ∀ c (R : Fin 8320) (k : Fin 256),
      (m ((c : Thread nD τ).loc main_arg8) : Vec Ideal S8320x512 .f32) (ix2 R ⟨256 + k.val, by omega⟩) = C c R.val k := fun c R k => by
    show _ = rightOf _ _ _
    unfold rightOf
    rw [dif_pos R.isLt]
  have hP : ∀ c (R : Fin 8320) (k : Fin 256),
      (m ((c : Thread nD τ).loc main_arg6) : Vec Ideal S8320x1280 .f32) (ix2 R ⟨512 + k.val, by omega⟩) = P c R.val k := fun c R k => by
    show _ = gateOf _ _ _
    unfold gateOf
    rw [dif_pos R.isLt]
  refine ⟨fun c => gcArr (D c) (U c) (G c) (B c) (W c) (C c) (P c), fun c => actArr (D c) (G c) (B c),
    fun c => pgArr (D c) (U c) (G c) (B c) (W c), ?_, ?_⟩
  · refine (θ_run Cert.ConvPwIdeal.defs _ _).mono (fun r h c => ?_) (Cert.ConvPwIdeal.Value.run_blocks m g)
    have H : Reals m c (D c) (U c) (G c) (B c) (W c) (C c) (P c) := by
      refine ⟨fun R k => ?_, fun R k => ?_, fun R k => ?_, fun R k => ?_, fun k => ?_, fun k => ?_, fun k j => ?_⟩
      · exact (dcc_apply m c R _ _ rfl).trans (hU c R k _ rfl)
      · exact (dcc_apply m c R _ _ rfl).trans (hC c R k)
      · exact (conv_apply m c R k _ _ rfl rfl).trans (hD c R k)
      · exact (pc_apply m c R _ _ rfl).trans (hP c R k)
      · exact (scale_apply m c k _ rfl).trans (hG c k)
      · exact (shift_apply m c k _ rfl).trans (hB c k)
      · exact (weight_apply m c k j _ rfl).trans (hW c k j)
    obtain ⟨h6, h7, h8, hargs⟩ := h c
    exact ⟨h6.trans (arr6 m c _ _ _ _ _ _ _ H), h7.trans (arr7 m c _ _ _ _ _ _ _ H), h8.trans (arr8 m c _ _ _ _ _ _ _ H), hargs⟩
  · refine (θ_run Cert.ConvPwRefIdeal.defs _ _).mono (fun r h c => ?_) (Cert.ConvPwRefIdeal.Value.run m' g')
    obtain ⟨a0, a1, a2, a3, a4, a5, a6, a7, a8⟩ := hagree c
    obtain ⟨r0, r1, r2, hargs⟩ := h c
    refine ⟨r0.trans ?_, r1.trans ?_, r2.trans ?_, hargs⟩
    · rw [val_main_v118_eq, a0, a1, a2, a3, a4, a6, a8]
      funext i
      obtain ⟨R, j, rfl⟩ : ∃ (R : Fin 8320) (j : Fin 512), i = ix2 R j := ⟨i 0, i 1, eq_ix2 i⟩
      by_cases hj : j.val < 256
      · exact (Cert.ConvPwRefIdeal.Hand.left_real _ _ _ _ _ _ _ (D c) (U c) (G c) (B c) (W c) (hD c) (hG c) (hB c) (hW c) (hU c) R ⟨j.val, hj⟩ j rfl).trans
          (gcArr_left _ _ _ _ _ _ _ (ix2 R j) ⟨j.val, hj⟩ rfl).symm
      · have h5 : j.val = 256 + (j.val - 256) := by omega
        exact (Cert.ConvPwRefIdeal.Hand.right_real _ _ _ _ _ _ _ R ⟨j.val - 256, by omega⟩ j h5).trans
          ((congrArg₂ (fun a b : EReal => a * b) (hC c R ⟨j.val - 256, by omega⟩) (hP c R ⟨j.val - 256, by omega⟩)).trans
            (gcArr_right _ _ _ _ _ _ _ (ix2 R j) ⟨j.val - 256, by omega⟩ h5).symm)
    · rw [val_main_v112_eq, a0, a1, a2, a3]
      funext i
      obtain ⟨R, k, rfl⟩ : ∃ (R : Fin 8320) (k : Fin 256), i = ix2 R k := ⟨i 0, i 1, eq_ix2 i⟩
      exact Cert.ConvPwRefIdeal.Hand.v112_real _ _ _ _ (D c) (G c) (B c) (hD c) (hG c) (hB c) R k
    · rw [val_main_v119_eq, a0, a1, a2, a3, a4, a8]
      funext i
      obtain ⟨a, k, rfl⟩ : ∃ (a : Fin 8) (k : Fin 256), i = ix2 a k := ⟨i 0, i 1, eq_ix2 i⟩
      exact Cert.ConvPwRefIdeal.Hand.v119_real _ _ _ _ _ _ (D c) (U c) (G c) (B c) (W c) (hD c) (hG c) (hB c) (hW c) (hU c) k a

end Cert.ConvPwIdeal.Hand
-- ==== Proof.OutProjPayload.lean ====
/- The output projection and the norm after it: the two payloads and the reference's two results at one element. -/
module

public import proofs.«01_k».proof.Proof.Gen.OutProjIdeal.Skeleton
public import proofs.«01_k».proof.Proof.NormReal
public import proofs.«01_k».proof.Proof.Sigmoid
public import Idealize.ShloMosaic.Lib.Pointwise

@[expose] public section

set_option maxRecDepth 16384

noncomputable section

namespace Cert.OutProj

open Idealize.ShloMosaic Cert.Norm

variable (H : ℕ → Fin 1024 → EReal) (O C : ℕ → Fin 512 → EReal) (W : ℕ → Fin 1024 → EReal) (G : Fin 1024 → EReal)

/-- A row of the residual stream with its projection added. -/
def sum (n : ℕ) (k : Fin 1024) : EReal := H n k + (∑ j : Fin 512, O n j * W j.val k) + ∑ j : Fin 512, C n j * W (512 + j.val) k

/-- The row after the norm. -/
def normed (n : ℕ) (k : Fin 1024) : EReal :=
  sum H O C W n k * Ideal.rsqrt (Ideal.div (∑ j, sum H O C W n j * sum H O C W n j) ((1024 : ℝ) : EReal) + (eps : EReal)) * G k

theorem sum_zero (n : ℕ) (h : ∀ k, H n k = 0) (o : ∀ j, O n j = 0) (c : ∀ j, C n j = 0) (k : Fin 1024) : sum H O C W n k = 0 := by
  simp [sum, h, o, c]

theorem normed_zero (n : ℕ) (h : ∀ k, H n k = 0) (o : ∀ j, O n j = 0) (c : ∀ j, C n j = 0) (k : Fin 1024) : normed H O C W G n k = 0 := by
  simp [normed, sum_zero H O C W n h o c]

end Cert.OutProj

namespace Cert.OutProjIdeal.Hand

open Cert.OutProjIdeal Cert.OutProjIdeal.Gen Idealize.ShloMosaic Cert.Norm Cert.OutProj

variable (n : ℕ) (x0 : Vec Ideal S640x1024 .f32) (x1 x2 : Vec Ideal S640x512 .bf16) (x3 : Vec Ideal S8x128x1024 .bf16) (x4 : Vec Ideal S1x1024 .f32)
  (H : ℕ → Fin 1024 → EReal) (O C : ℕ → Fin 512 → EReal) (W : ℕ → Fin 1024 → EReal) (G : Fin 1024 → EReal)
  (h0 : ∀ (r : Fin 640) k, x0 (ix2 r k) = H (n + r.val) k)
  (h1 : ∀ (r : Fin 640) j, x1 (ix2 r j) = O (n + r.val) j)
  (h2 : ∀ (r : Fin 640) j, x2 (ix2 r j) = C (n + r.val) j)
  (h3 : ∀ (a : Fin 8) (b : Fin 128) k, x3 (ix3 a b k) = W (128 * a.val + b.val) k)
  (h4 : ∀ k, x4 (ix2 0 k) = G k)

include h0 h1 h2 h3 in
theorem pay1_apply (r : Fin 640) (k : Fin 1024) : k0_pay1 x3 x0 x1 x2 (ix2 r k) = sum H O C W (n + r.val) k := by
  pointwise [k0_pay1]
  simp only [h0, h1, h2, h3, Nat.div_add_mod]
  rfl

include h0 h1 h2 h3 h4 in
theorem pay2_apply (r : Fin 640) (k : Fin 1024) : k0_pay2 x3 x0 x1 x2 x4 (ix2 r k) = normed H O C W G (n + r.val) k := by
  have e := pay1_apply n x0 x1 x2 x3 H O C W h0 h1 h2 h3 r
  unfold k0_pay2
  generalize k0_pay1 x3 x0 x1 x2 = s at *
  pointwise []
  simp only [e, h4, width_word, eps_word]
  rfl

end Cert.OutProjIdeal.Hand
-- ==== Proof.OutProjArray.lean ====
/- What the output projection and the norm after it leave in their two arrays, from the arrays they are launched on. -/
module

public import proofs.«01_k».proof.Proof.Gen.OutProjIdeal.Value
public import proofs.«01_k».proof.Proof.OutProjPayload

@[expose] public section

set_option maxRecDepth 16384

noncomputable section

namespace Cert.OutProjIdeal.Hand

open Cert.OutProjIdeal Cert.OutProjIdeal.Gen Idealize.ShloMosaic Idealize.ShloMosaic.TcCoe Idealize.SL.Sem
open Idealize.ShloMosaic.Pipeline (Dat)
open Cert.Norm Cert.OutProj

theorem hz2 : (![0, 0] : Fin 2 → Nat) = fun _ => 0 := funext fun a => by fin_cases a <;> rfl
theorem hz3 : (![0, 0, 0] : Fin 3 → Nat) = fun _ => 0 := funext fun a => by fin_cases a <;> rfl

section Blocks

variable {F : FTy → Type} [FloatOps F] (x0 : Vec F S640x1024 .f32) (x1 x2 : Vec F S640x512 .bf16) (x3 : Vec F S8x128x1024 .bf16) (x4 : Vec F S1x1024 .f32)

theorem out5_eq : out0_5 x0 x1 x2 x3 x4 = k0_pay1 x3 x0 x1 x2 := by
  unfold out0_5
  rw [View.canon_unit_zero hz2]
  simp only [View.ld_unit_zero (S := S640x1024) hz2, View.ld_unit_zero (S := S640x512) hz2, View.ld_unit_zero (S := S8x128x1024) hz3]

theorem out6_eq : out0_6 x0 x1 x2 x3 x4 = k0_pay2 x3 x0 x1 x2 x4 := by
  unfold out0_6
  rw [View.canon_unit_zero hz2]
  simp only [View.ld_unit_zero (S := S640x1024) hz2, View.ld_unit_zero (S := S640x512) hz2, View.ld_unit_zero (S := S8x128x1024) hz3,
    View.ld_unit_zero (S := S1x1024) hz2]

end Blocks

variable (m : (ℓ : Loc nD τ sig) → Buf (Elt Ideal) ℓ) (c : Dev nD)

theorem row_lt (t : Fin cfg0.N) (r : Fin 640) : 640 * t.val + r.val < 8320 := by
  have hN : cfg0.N = 13 := N_0
  omega

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel

theorem block0 (t : Fin cfg0.N) (r : Fin 640) (k : Fin 1024) :
    (iblk m c 0 t : Vec Ideal S640x1024 .f32) (ix2 r k) = V m c main_v0 (ix2 ⟨640 * t.val + r.val, row_lt t r⟩ k) := by
  unfold iblk
  rw [View.read_apply]
  show V m c main_v0 _ = _
  congr 1
  funext a
  apply Fin.ext
  match a with
  | 0 => show win0_0.index t 0 * 640 + 1 * r.val = _
         rw [(index0 t).1, one_mul, mul_comm]; rfl
  | 1 => show win0_0.index t 1 * 1024 + 1 * k.val = _
         rw [(index0 t).2, one_mul, Nat.zero_mul, Nat.zero_add]; rfl

theorem block1 (t : Fin cfg0.N) (r : Fin 640) (k : Fin 512) :
    (iblk m c 1 t : Vec Ideal S640x512 .bf16) (ix2 r k) = V m c main_v2 (ix2 ⟨640 * t.val + r.val, row_lt t r⟩ k) := by
  unfold iblk
  rw [View.read_apply]
  show V m c main_v2 _ = _
  congr 1
  funext a
  apply Fin.ext
  match a with
  | 0 => show win0_1.index t 0 * 640 + 1 * r.val = _
         rw [(index1 t).1, one_mul, mul_comm]; rfl
  | 1 => show win0_1.index t 1 * 512 + 1 * k.val = _
         rw [(index1 t).2, one_mul, Nat.zero_mul, Nat.zero_add]; rfl

theorem block2 (t : Fin cfg0.N) (r : Fin 640) (k : Fin 512) :
    (iblk m c 2 t : Vec Ideal S640x512 .bf16) (ix2 r k) = V m c main_v4 (ix2 ⟨640 * t.val + r.val, row_lt t r⟩ k) := by
  unfold iblk
  rw [View.read_apply]
  show V m c main_v4 _ = _
  congr 1
  funext a
  apply Fin.ext
  match a with
  | 0 => show win0_2.index t 0 * 640 + 1 * r.val = _
         rw [(index2 t).1, one_mul, mul_comm]; rfl
  | 1 => show win0_2.index t 1 * 512 + 1 * k.val = _
         rw [(index2 t).2, one_mul, Nat.zero_mul, Nat.zero_add]; rfl

theorem block3 (t : Fin cfg0.N) (a : Fin 8) (b : Fin 128) (k : Fin 1024) :
    (iblk m c 3 t : Vec Ideal S8x128x1024 .bf16) (ix3 a b k) = V m c main_v6 (ix3 a b k) := by
  unfold iblk
  rw [View.read_apply]
  show V m c main_v6 _ = _
  congr 1
  funext d
  apply Fin.ext
  match d with
  | 0 => show win0_3.index t 0 * 8 + 1 * a.val = _
         rw [(index3 t).1, one_mul, Nat.zero_mul, Nat.zero_add]; rfl
  | 1 => show win0_3.index t 1 * 128 + 1 * b.val = _
         rw [(index3 t).2.1, one_mul, Nat.zero_mul, Nat.zero_add]; rfl
  | 2 => show win0_3.index t 2 * 1024 + 1 * k.val = _
         rw [(index3 t).2.2, one_mul, Nat.zero_mul, Nat.zero_add]; rfl

theorem block4 (t : Fin cfg0.N) (k : Fin 1024) :
    (iblk m c 4 t : Vec Ideal S1x1024 .f32) (ix2 0 k) = V m c main_v7 (ix2 0 k) := by
  unfold iblk
  rw [View.read_apply]
  show V m c main_v7 _ = _
  congr 1
  funext a
  apply Fin.ext
  match a with
  | 0 => show win0_4.index t 0 * 1 + 1 * 0 = _
         rw [(index4 t).1]; rfl
  | 1 => show win0_4.index t 1 * 1024 + 1 * k.val = _
         rw [(index4 t).2, one_mul, Nat.zero_mul, Nat.zero_add]; rfl

variable (H : ℕ → Fin 1024 → EReal) (O C : ℕ → Fin 512 → EReal) (W : ℕ → Fin 1024 → EReal) (G : Fin 1024 → EReal)

/-- The arrays of the launch. -/
structure Arrays : Prop where
  h : ∀ (R : Fin 8320) k, (V m c main_v0 : Vec Ideal S8320x1024 .f32) (ix2 R k) = H R.val k
  o : ∀ (R : Fin 8320) j, (V m c main_v2 : Vec Ideal S8320x512 .bf16) (ix2 R j) = O R.val j
  q : ∀ (R : Fin 8320) j, (V m c main_v4 : Vec Ideal S8320x512 .bf16) (ix2 R j) = C R.val j
  w : ∀ (a : Fin 8) (b : Fin 128) k, (V m c main_v6 : Vec Ideal S8x128x1024 .bf16) (ix3 a b k) = W (128 * a.val + b.val) k
  g : ∀ k, (V m c main_v7 : Vec Ideal S1x1024 .f32) (ix2 0 k) = G k

variable (A : Arrays m c H O C W G)

include A in
theorem point5 (t : Fin cfg0.N) (r : Fin 640) (k : Fin 1024) :
    (k0_pay1 (F := Ideal) (iblk m c 3 t) (iblk m c 0 t) (iblk m c 1 t) (iblk m c 2 t) : Vec Ideal S640x1024 .f32) (ix2 r k) = sum H O C W (640 * t.val + r.val) k := by
  have e0 : ∀ (r : Fin 640) k, (iblk m c 0 t : Vec Ideal S640x1024 .f32) (ix2 r k) = H (640 * t.val + r.val) k :=
    fun r k => by rw [block0]; exact A.h _ k
  have e1 : ∀ (r : Fin 640) k, (iblk m c 1 t : Vec Ideal S640x512 .bf16) (ix2 r k) = O (640 * t.val + r.val) k :=
    fun r k => by rw [block1]; exact A.o _ k
  have e2 : ∀ (r : Fin 640) k, (iblk m c 2 t : Vec Ideal S640x512 .bf16) (ix2 r k) = C (640 * t.val + r.val) k :=
    fun r k => by rw [block2]; exact A.q _ k
  have e3 : ∀ (a : Fin 8) (b : Fin 128) k, (iblk m c 3 t : Vec Ideal S8x128x1024 .bf16) (ix3 a b k) = W (128 * a.val + b.val) k :=
    fun a b k => by rw [block3]; exact A.w a b k
  exact pay1_apply (640 * t.val) _ _ _ _ H O C W e0 e1 e2 e3 r k

include A in
theorem point6 (t : Fin cfg0.N) (r : Fin 640) (k : Fin 1024) :
    (k0_pay2 (F := Ideal) (iblk m c 3 t) (iblk m c 0 t) (iblk m c 1 t) (iblk m c 2 t) (iblk m c 4 t) : Vec Ideal S640x1024 .bf16) (ix2 r k) =
      normed H O C W G (640 * t.val + r.val) k := by
  have e0 : ∀ (r : Fin 640) k, (iblk m c 0 t : Vec Ideal S640x1024 .f32) (ix2 r k) = H (640 * t.val + r.val) k :=
    fun r k => by rw [block0]; exact A.h _ k
  have e1 : ∀ (r : Fin 640) k, (iblk m c 1 t : Vec Ideal S640x512 .bf16) (ix2 r k) = O (640 * t.val + r.val) k :=
    fun r k => by rw [block1]; exact A.o _ k
  have e2 : ∀ (r : Fin 640) k, (iblk m c 2 t : Vec Ideal S640x512 .bf16) (ix2 r k) = C (640 * t.val + r.val) k :=
    fun r k => by rw [block2]; exact A.q _ k
  have e3 : ∀ (a : Fin 8) (b : Fin 128) k, (iblk m c 3 t : Vec Ideal S8x128x1024 .bf16) (ix3 a b k) = W (128 * a.val + b.val) k :=
    fun a b k => by rw [block3]; exact A.w a b k
  have e4 : ∀ k, (iblk m c 4 t : Vec Ideal S1x1024 .f32) (ix2 0 k) = G k :=
    fun k => by rw [block4]; exact A.g k
  exact pay2_apply (640 * t.val) _ _ _ _ _ H O C W G e0 e1 e2 e3 e4 r k

/-! ### The arrays -/

def sumArr : Vec Ideal S8320x1024 .f32 := fun i => sum H O C W (i 0).val (i 1)
def normedArr : Vec Ideal S8320x1024 .bf16 := fun i => normed H O C W G (i 0).val (i 1)

theorem mem_blk5 (t : Fin cfg0.N) (i : S8320x1024.Idx) :
    i ∈ ((cfg0.win 5).blk t).view.set ↔ 640 * t.val ≤ (i 0).val ∧ (i 0).val < 640 * t.val + 640 := by
  show i ∈ ((View.whole main_v8_0).slice (win0_5.rect t)).set ↔ _
  rw [View.set_slice_whole, Rect.mem_set_unit]
  constructor
  · intro h
    have h0 : win0_5.index t 0 * 640 ≤ (i 0).val ∧ (i 0).val < win0_5.index t 0 * 640 + 640 := h 0
    rw [(index5 t).1] at h0
    omega
  · intro h a
    match a with
    | 0 => show win0_5.index t 0 * 640 ≤ (i 0).val ∧ (i 0).val < win0_5.index t 0 * 640 + 640
           rw [(index5 t).1]; omega
    | 1 => show win0_5.index t 1 * 1024 ≤ (i 1).val ∧ (i 1).val < win0_5.index t 1 * 1024 + 1024
           have h1 : (i 1).val < 1024 := (i 1).isLt
           rw [(index5 t).2]; omega

theorem mem_blk6 (t : Fin cfg0.N) (i : S8320x1024.Idx) :
    i ∈ ((cfg0.win 6).blk t).view.set ↔ 640 * t.val ≤ (i 0).val ∧ (i 0).val < 640 * t.val + 640 := by
  show i ∈ ((View.whole main_v8_1).slice (win0_6.rect t)).set ↔ _
  rw [View.set_slice_whole, Rect.mem_set_unit]
  constructor
  · intro h
    have h0 : win0_6.index t 0 * 640 ≤ (i 0).val ∧ (i 0).val < win0_6.index t 0 * 640 + 640 := h 0
    rw [(index6 t).1] at h0
    omega
  · intro h a
    match a with
    | 0 => show win0_6.index t 0 * 640 ≤ (i 0).val ∧ (i 0).val < win0_6.index t 0 * 640 + 640
           rw [(index6 t).1]; omega
    | 1 => show win0_6.index t 1 * 1024 ≤ (i 1).val ∧ (i 1).val < win0_6.index t 1 * 1024 + 1024
           have h1 : (i 1).val < 1024 := (i 1).isLt
           rw [(index6 t).2]; omega

include A in
theorem arr5 : (dats m 0 c).arrAt 5 cfg0.N = sumArr H O C W := by
  have hN : cfg0.N = 13 := N_0
  refine (dats m 0 c).arrAt_eq_of_cover 5 _ (fun t _ => ?_) (fun i => ?_)
  · rw [Value.flushed5, out5_eq]
    show (k0_pay1 (F := Ideal) (iblk m c 3 t) (iblk m c 0 t) (iblk m c 1 t) (iblk m c 2 t) : Vec Ideal S640x1024 .f32) = ((cfg0.win 5).blk t).view.read (Elt Ideal) (sumArr H O C W)
    funext j
    obtain ⟨r, k, rfl⟩ : ∃ (r : Fin 640) (k : Fin 1024), j = ix2 r k := ⟨j 0, j 1, eq_ix2 j⟩
    rw [point5 m c H O C W G A t r k, View.read_apply]
    show _ = sumArr H O C W _
    have e0 : 640 * t.val + r.val = win0_5.index t 0 * 640 + 1 * r.val := by rw [(index5 t).1, one_mul, mul_comm]
    have e1 : k.val = win0_5.index t 1 * 1024 + 1 * k.val := by rw [(index5 t).2, one_mul, Nat.zero_mul, Nat.zero_add]
    refine (congrFun (congrArg (sum H O C W) e0) k).trans ?_
    exact congrArg (sum H O C W _) (Fin.ext e1)
  · have hi : (i 0).val < 8320 := (i 0).isLt
    refine ⟨⟨(i 0).val / 640, by omega⟩, flush0_5 _, ?_⟩
    rw [mem_blk5]; dsimp only; omega

include A in
theorem arr6 : (dats m 0 c).arrAt 6 cfg0.N = normedArr H O C W G := by
  have hN : cfg0.N = 13 := N_0
  refine (dats m 0 c).arrAt_eq_of_cover 6 _ (fun t _ => ?_) (fun i => ?_)
  · rw [Value.flushed6, out6_eq]
    show (k0_pay2 (F := Ideal) (iblk m c 3 t) (iblk m c 0 t) (iblk m c 1 t) (iblk m c 2 t) (iblk m c 4 t) : Vec Ideal S640x1024 .bf16) = ((cfg0.win 6).blk t).view.read (Elt Ideal) (normedArr H O C W G)
    funext j
    obtain ⟨r, k, rfl⟩ : ∃ (r : Fin 640) (k : Fin 1024), j = ix2 r k := ⟨j 0, j 1, eq_ix2 j⟩
    rw [point6 m c H O C W G A t r k, View.read_apply]
    show _ = normedArr H O C W G _
    have e0 : 640 * t.val + r.val = win0_6.index t 0 * 640 + 1 * r.val := by rw [(index6 t).1, one_mul, mul_comm]
    have e1 : k.val = win0_6.index t 1 * 1024 + 1 * k.val := by rw [(index6 t).2, one_mul, Nat.zero_mul, Nat.zero_add]
    refine (congrFun (congrArg (normed H O C W G) e0) k).trans ?_
    exact congrArg (normed H O C W G _) (Fin.ext e1)
  · have hi : (i 0).val < 8320 := (i 0).isLt
    refine ⟨⟨(i 0).val / 640, by omega⟩, flush0_6 _, ?_⟩
    rw [mem_blk6]; dsimp only; omega

end Cert.OutProjIdeal.Hand
-- ==== Proof.OutProjReference.lean ====
/- The reference's output projection and the norm after it. -/
module

public import proofs.«01_k».proof.Proof.Gen.OutProjRefIdeal.Read
public import proofs.«01_k».proof.Proof.OutProjPayload

@[expose] public section

set_option maxRecDepth 16384

noncomputable section

namespace Cert.OutProjRefIdeal.Hand

open Cert.OutProjRefIdeal Cert.OutProjRefIdeal.Read Idealize.ShloMosaic Cert.Norm Cert.OutProj

variable (x0 : Vec Ideal S8208x1024 .f32) (x1 x2 : Vec Ideal S8208x512 .f32) (x3 : Vec Ideal S1024x1024 .f32) (x4 : Vec Ideal S1024 .f32)
  (H : ℕ → Fin 1024 → EReal) (O C : ℕ → Fin 512 → EReal) (W : ℕ → Fin 1024 → EReal) (G : Fin 1024 → EReal)
  (h0 : ∀ (R : Fin 8208) k, x0 (ix2 R k) = H R.val k)
  (h1 : ∀ (R : Fin 8208) j, x1 (ix2 R j) = O R.val j)
  (h2 : ∀ (R : Fin 8208) j, x2 (ix2 R j) = C R.val j)
  (h3 : ∀ (a : Fin 1024) k, x3 (ix2 a k) = W a.val k)
  (h4 : ∀ k, x4 (ix1 k) = G k)
  (z0 : ∀ n k, 8208 ≤ n → H n k = 0) (z1 : ∀ n k, 8208 ≤ n → O n k = 0) (z2 : ∀ n k, 8208 ≤ n → C n k = 0)

include h1 in
theorem left (R : Fin 8208) (j : Fin 512) : val_main_v0 (F := Ideal) x1 x2 (ix2 R ⟨j.val, by omega⟩) = O R.val j := by
  pointwise [val_main_v0]
  exact h1 R j

include h2 in
theorem right (R : Fin 8208) (j : Fin 512) : val_main_v0 (F := Ideal) x1 x2 (ix2 R ⟨512 + j.val, by omega⟩) = C R.val j := by
  pointwise [val_main_v0]
  exact h2 R j

theorem split (f : Fin 1024 → EReal) : ∑ j, f j = (∑ j : Fin 512, f ⟨j.val, by omega⟩) + ∑ j : Fin 512, f ⟨512 + j.val, by omega⟩ :=
  Fin.sum_univ_add (a := 512) (b := 512) f

include h0 h1 h2 h3 in
theorem v2_apply (R : Fin 8208) (k : Fin 1024) : val_main_v2 (F := Ideal) x0 x1 x2 x3 (ix2 R k) = sum H O C W R.val k := by
  have e1 := left x1 x2 O h1 R
  have e2 := right x1 x2 C h2 R
  unfold val_main_v2 val_main_v1
  generalize val_main_v0 (F := Ideal) x1 x2 = s at *
  pointwise []
  rw [split]
  simp only [e1, e2, h0, h3]
  exact (add_assoc _ _ _).symm

include h0 h1 h2 h3 h4 in
theorem v15_apply (R : Fin 8208) (k : Fin 1024) : val_main_v15 (F := Ideal) x0 x1 x2 x3 x4 (ix2 R k) = normed H O C W G R.val k := by
  have e := v2_apply x0 x1 x2 x3 H O C W h0 h1 h2 h3 R
  unfold val_main_v15 val_main_v12 val_main_v11 val_main_v10 val_main_v9 val_main_v7 val_main_v5 val_main_v4 val_main_v3
  generalize val_main_v2 (F := Ideal) x0 x1 x2 x3 = s at *
  pointwise [val_main_v6, val_main_v8, val_main_v13, val_main_v14, val_main_cst, val_main_cst_0, val_main_cst_1]
  simp only [e, h4, width_word, eps_word]
  rfl

include h0 h1 h2 h3 z0 z1 z2 in
theorem v16_apply (R : Fin 8320) (k : Fin 1024) : val_main_v16 (F := Ideal) x0 x1 x2 x3 (ix2 R k) = sum H O C W R.val k := by
  have e := v2_apply x0 x1 x2 x3 H O C W h0 h1 h2 h3
  unfold val_main_v16
  generalize val_main_v2 (F := Ideal) x0 x1 x2 x3 = s at *
  pointwise [val_main_call0_v0, val_main_c]
  split
  · next h => exact e ⟨R.val, by omega⟩ k
  · next h =>
    rw [sum_zero H O C W R.val (fun k => z0 _ k (by omega)) (fun k => z1 _ k (by omega)) (fun k => z2 _ k (by omega)), Sigmoid.zero_word]

include h0 h1 h2 h3 h4 z0 z1 z2 in
theorem v18_apply (R : Fin 8320) (k : Fin 1024) : val_main_v18 (F := Ideal) x0 x1 x2 x3 x4 (ix2 R k) = normed H O C W G R.val k := by
  have e := v15_apply x0 x1 x2 x3 x4 H O C W G h0 h1 h2 h3 h4
  unfold val_main_v18 val_main_v17
  generalize val_main_v15 (F := Ideal) x0 x1 x2 x3 x4 = s at *
  pointwise [val_main_call1_v0, val_main_c_2]
  split
  · next h => exact e ⟨R.val, by omega⟩ k
  · next h =>
    rw [normed_zero H O C W G R.val (fun k => z0 _ k (by omega)) (fun k => z1 _ k (by omega)) (fun k => z2 _ k (by omega)), Sigmoid.zero_word]

end Cert.OutProjRefIdeal.Hand
-- ==== Proof.OutProjEquation.lean ====
/- The output projection and the norm after it: the kernel's two arrays are the reference's, whatever the arguments hold. -/
module

public import proofs.«01_k».proof.Defs
public import proofs.«01_k».proof.Proof.OutProjArray
public import proofs.«01_k».proof.Proof.OutProjReference
public import proofs.«01_k».proof.Proof.Gen.OutProjRefIdeal.Run
public import Idealize.ShloMosaic.Lib.StableHlo.ReadAt

@[expose] public section

set_option maxRecDepth 16384

noncomputable section

namespace Cert.OutProjIdeal.Hand

open Cert.OutProjIdeal Cert.OutProjIdeal.Gen Idealize.ShloMosaic Idealize.ShloMosaic.TcCoe Idealize.SL.Sem
open Cert.OutProjRefIdeal.Read Cert.Norm Cert.OutProj

/-- The numbers of the arguments; rows past the last are zeros. -/
def wide (h : Vec Ideal S8208x1024 .f32) (n : ℕ) (k : Fin 1024) : EReal := if e : n < 8208 then h (ix2 ⟨n, e⟩ k) else 0
def narrow (o : Vec Ideal S8208x512 .f32) (n : ℕ) (k : Fin 512) : EReal := if e : n < 8208 then o (ix2 ⟨n, e⟩ k) else 0
def weight (w : Vec Ideal S1024x1024 .f32) (j : ℕ) (k : Fin 1024) : EReal := if e : j < 1024 then w (ix2 ⟨j, e⟩ k) else 0

theorem wide_at (h : Vec Ideal S8208x1024 .f32) (R : Fin 8208) (k : Fin 1024) : h (ix2 R k) = wide h R.val k := by
  unfold wide
  rw [dif_pos R.isLt]

theorem narrow_at (o : Vec Ideal S8208x512 .f32) (R : Fin 8208) (k : Fin 512) : o (ix2 R k) = narrow o R.val k := by
  unfold narrow
  rw [dif_pos R.isLt]

theorem weight_at (w : Vec Ideal S1024x1024 .f32) (j k : Fin 1024) : w (ix2 j k) = weight w j.val k := by
  unfold weight
  rw [dif_pos j.isLt]

theorem wide_zero (h : Vec Ideal S8208x1024 .f32) (n : ℕ) (k : Fin 1024) (e : 8208 ≤ n) : wide h n k = 0 := dif_neg (by omega)

theorem narrow_zero (o : Vec Ideal S8208x512 .f32) (n : ℕ) (k : Fin 512) (e : 8208 ≤ n) : narrow o n k = 0 := dif_neg (by omega)

variable (m : (ℓ : Loc nD τ sig) → Buf (Elt Ideal) ℓ) (c : Dev nD)

theorem h_apply (R : Fin 8320) (k : Fin 1024) (h : Vec Ideal S8208x1024 .f32) (hh : m ((c : Thread nD τ).loc main_arg0) = h) :
    (V m c main_v0 : Vec Ideal S8320x1024 .f32) (ix2 R k) = wide h R.val k := by
  subst hh
  unfold V
  after_reads_at
  rw [Sigmoid.zero_word]
  rfl

theorem o_apply (R : Fin 8320) (k : Fin 512) (o : Vec Ideal S8208x512 .f32) (ho : m ((c : Thread nD τ).loc main_arg1) = o) :
    (V m c main_v2 : Vec Ideal S8320x512 .bf16) (ix2 R k) = narrow o R.val k := by
  subst ho
  unfold V
  after_reads_at
  rw [Sigmoid.zero_word]
  rfl

theorem c_apply (R : Fin 8320) (k : Fin 512) (o : Vec Ideal S8208x512 .f32) (ho : m ((c : Thread nD τ).loc main_arg2) = o) :
    (V m c main_v4 : Vec Ideal S8320x512 .bf16) (ix2 R k) = narrow o R.val k := by
  subst ho
  unfold V
  after_reads_at
  rw [Sigmoid.zero_word]
  rfl

theorem w_apply (a : Fin 8) (b : Fin 128) (k : Fin 1024) (w : Vec Ideal S1024x1024 .f32) (hw : m ((c : Thread nD τ).loc main_arg3) = w) :
    (V m c main_v6 : Vec Ideal S8x128x1024 .bf16) (ix3 a b k) = weight w (128 * a.val + b.val) k := by
  subst hw
  unfold V weight
  rw [dif_pos (by omega)]
  after_reads_at
  exact congrArg (fun j => m (c, Proc.tc.devRef main_arg3) (ix2 j k)) (Fin.ext (by dsimp only; omega))

theorem g_apply (k : Fin 1024) (g : Vec Ideal S1024 .f32) (hg : m ((c : Thread nD τ).loc main_arg4) = g) :
    (V m c main_v7 : Vec Ideal S1x1024 .f32) (ix2 0 k) = g (ix1 k) := by
  subst hg
  unfold V
  after_reads_at

/-- The kernel and the reference, from memories that agree on the arguments. -/
theorem algebraic : letI := Cert.OutProjIdeal.Gen.facts; letI := Cert.OutProjRefIdeal.Gen.facts;
    Cert.algebraic_OutProjIdeal_OutProjRefIdeal := by
  intro m g m' g' hpre hagree
  let H := fun c : Dev nD => wide (m ((c : Thread nD τ).loc main_arg0))
  let O := fun c : Dev nD => narrow (m ((c : Thread nD τ).loc main_arg1))
  let C := fun c : Dev nD => narrow (m ((c : Thread nD τ).loc main_arg2))
  let W := fun c : Dev nD => weight (m ((c : Thread nD τ).loc main_arg3))
  let G := fun (c : Dev nD) (k : Fin 1024) => (m ((c : Thread nD τ).loc main_arg4) : Vec Ideal S1024 .f32) (ix1 k)
  refine ⟨fun c => sumArr (H c) (O c) (C c) (W c), fun c => normedArr (H c) (O c) (C c) (W c) (G c), ?_, ?_⟩
  · refine (θ_run Cert.OutProjIdeal.defs _ _).mono (fun r h c => ?_) (Cert.OutProjIdeal.Value.run_blocks m g)
    have A : Arrays m c (H c) (O c) (C c) (W c) (G c) :=
      ⟨fun R k => h_apply m c R k _ rfl, fun R k => o_apply m c R k _ rfl, fun R k => c_apply m c R k _ rfl,
        fun a b k => w_apply m c a b k _ rfl, fun k => g_apply m c k _ rfl⟩
    obtain ⟨h5, h6, hargs⟩ := h c
    exact ⟨h5.trans (arr5 m c _ _ _ _ _ A), h6.trans (arr6 m c _ _ _ _ _ A), hargs⟩
  · refine (θ_run Cert.OutProjRefIdeal.defs _ _).mono (fun r h c => ?_) (Cert.OutProjRefIdeal.Value.run m' g')
    obtain ⟨a0, a1, a2, a3, a4⟩ := hagree c
    obtain ⟨r0, r1, hargs⟩ := h c
    refine ⟨r0.trans ?_, r1.trans ?_, hargs⟩
    · rw [val_main_v16_eq, a0, a1, a2, a3]
      funext i
      obtain ⟨R, k, rfl⟩ : ∃ (R : Fin 8320) (k : Fin 1024), i = ix2 R k := ⟨i 0, i 1, eq_ix2 i⟩
      exact Cert.OutProjRefIdeal.Hand.v16_apply _ _ _ _ (H c) (O c) (C c) (W c) (wide_at _) (narrow_at _) (narrow_at _) (weight_at _) (wide_zero _) (narrow_zero _) (narrow_zero _) R k
    · rw [val_main_v18_eq, a0, a1, a2, a3, a4]
      funext i
      obtain ⟨R, k, rfl⟩ : ∃ (R : Fin 8320) (k : Fin 1024), i = ix2 R k := ⟨i 0, i 1, eq_ix2 i⟩
      exact Cert.OutProjRefIdeal.Hand.v18_apply _ _ _ _ _ (H c) (O c) (C c) (W c) (G c) (wide_at _) (narrow_at _) (narrow_at _) (weight_at _) (fun _ => rfl) (wide_zero _) (narrow_zero _) (narrow_zero _) R k

end Cert.OutProjIdeal.Hand
-- ==== Proof.MlpFwdCases.lean ====
/- The squared-ReLU layer going forward, point by point: what one grid point leaves in its blocks and its carried buffer, as the kernel's own payloads. -/
module

public import proofs.«01_k».proof.Proof.Gen.MlpFwdIdeal.Value

@[expose] public section

set_option maxRecDepth 16384

noncomputable section

namespace Cert.MlpFwdIdeal.Hand

open Cert.MlpFwdIdeal Cert.MlpFwdIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- The four slices of a point's first weights, and of its second. -/
abbrev up0 (x2 : Vec F S4x1024x512 .bf16) := View.ld x2 (Rect.unit ![0, 0, 0] ![1, 1024, 512] inb_S4x1024x512_S1x1024x512_0_0_0)
abbrev up1 (x2 : Vec F S4x1024x512 .bf16) := View.ld x2 (Rect.unit ![1, 0, 0] ![1, 1024, 512] inb_S4x1024x512_S1x1024x512_1_0_0)
abbrev up2 (x2 : Vec F S4x1024x512 .bf16) := View.ld x2 (Rect.unit ![2, 0, 0] ![1, 1024, 512] inb_S4x1024x512_S1x1024x512_2_0_0)
abbrev up3 (x2 : Vec F S4x1024x512 .bf16) := View.ld x2 (Rect.unit ![3, 0, 0] ![1, 1024, 512] inb_S4x1024x512_S1x1024x512_3_0_0)
abbrev down0 (x3 : Vec F S4x512x1024 .bf16) := View.ld x3 (Rect.unit ![0, 0, 0] ![1, 512, 1024] inb_S4x512x1024_S1x512x1024_0_0_0)
abbrev down1 (x3 : Vec F S4x512x1024 .bf16) := View.ld x3 (Rect.unit ![1, 0, 0] ![1, 512, 1024] inb_S4x512x1024_S1x512x1024_1_0_0)
abbrev down2 (x3 : Vec F S4x512x1024 .bf16) := View.ld x3 (Rect.unit ![2, 0, 0] ![1, 512, 1024] inb_S4x512x1024_S1x512x1024_2_0_0)
abbrev down3 (x3 : Vec F S4x512x1024 .bf16) := View.ld x3 (Rect.unit ![3, 0, 0] ![1, 512, 1024] inb_S4x512x1024_S1x512x1024_3_0_0)

/-- The sum over the four slices of a point, taken one after the other. -/
def accOf (x0 : Vec F S640x1024 .bf16) (x2 : Vec F S4x1024x512 .bf16) (x3 : Vec F S4x512x1024 .bf16) (xa : Vec F S640x1024 .f32) : Vec F S640x1024 .f32 :=
  k0_pay6 x0 (up3 x2) (k0_pay6 x0 (up2 x2) (k0_pay6 x0 (up1 x2) (k0_pay6 x0 (up0 x2) xa (down0 x3)) (down1 x3)) (down2 x3)) (down3 x3)

/-- The four slices of the ReLU, newest first, and of its square. -/
def rePieces (x0 : Vec F S640x1024 .bf16) (x2 : Vec F S4x1024x512 .bf16) : List (View.Piece (Elt F) S640x2048 .bf16) :=
    [⟨Rect.unit ![0, 1536] ![640, 512] inb_S640x2048_S640x512_0_1536, k0_pay5 x0 (up3 x2)⟩,
      ⟨Rect.unit ![0, 1024] ![640, 512] inb_S640x2048_S640x512_0_1024, k0_pay5 x0 (up2 x2)⟩,
      ⟨Rect.unit ![0, 512] ![640, 512] inb_S640x2048_S640x512_0_512, k0_pay5 x0 (up1 x2)⟩,
      ⟨Rect.unit ![0, 0] ![640, 512] inb_S640x2048_S640x512_0_0, k0_pay5 x0 (up0 x2)⟩]
def sqPieces (x0 : Vec F S640x1024 .bf16) (x2 : Vec F S4x1024x512 .bf16) : List (View.Piece (Elt F) S640x2048 .bf16) :=
    [⟨Rect.unit ![0, 1536] ![640, 512] inb_S640x2048_S640x512_0_1536, k0_pay4 x0 (up3 x2)⟩,
      ⟨Rect.unit ![0, 1024] ![640, 512] inb_S640x2048_S640x512_0_1024, k0_pay4 x0 (up2 x2)⟩,
      ⟨Rect.unit ![0, 512] ![640, 512] inb_S640x2048_S640x512_0_512, k0_pay4 x0 (up1 x2)⟩,
      ⟨Rect.unit ![0, 0] ![640, 512] inb_S640x2048_S640x512_0_0, k0_pay4 x0 (up0 x2)⟩]

/-- Side by side. -/
def reOf (x0 : Vec F S640x1024 .bf16) (x2 : Vec F S4x1024x512 .bf16) : Vec F S640x2048 .bf16 := View.canon (rePieces x0 x2)
def sqOf (x0 : Vec F S640x1024 .bf16) (x2 : Vec F S4x1024x512 .bf16) : Vec F S640x2048 .bf16 := View.canon (sqPieces x0 x2)

section Cases

variable (c : Dev nD) (i : grid0.Coords)
  (a2 : Memref sig .tc .vmem S640x1024 .bf16) (h2 : a2.IsWhole) (a3 : Memref sig .tc .vmem S640x1024 .f32) (h3 : a3.IsWhole)
  (a4 : Memref sig .tc .vmem S4x1024x512 .bf16) (h4 : a4.IsWhole) (a5 : Memref sig .tc .vmem S4x512x1024 .bf16) (h5 : a5.IsWhole)
  (a6 : Memref sig .tc .vmem S640x2048 .bf16) (h6 : a6.IsWhole) (a7 : Memref sig .tc .vmem S640x2048 .bf16) (h7 : a7.IsWhole)
  (a8 : Memref sig .tc .vmem S640x1024 .f32) (h8 : a8.IsWhole) (a9 : Memref sig .tc .vmem S640x1024 .f32) (h9 : a9.IsWhole)
  (x0 : Vec F S640x1024 .bf16) (x1 : Vec F S640x1024 .f32) (x2 : Vec F S4x1024x512 .bf16) (x3 : Vec F S4x512x1024 .bf16) (xa : Vec F S640x1024 .f32)

/-- A point that begins a block of rows. -/
theorem case_A (hc0 : cond0_0 i) (hc1 : ¬cond0_1 i) :
    out0_A_4 c i a2 h2 a3 h3 a4 h4 a5 h5 a6 h6 a7 h7 a8 h8 a9 h9 hc0 hc1 x0 x1 x2 x3 = reOf x0 x2 ∧
    out0_A_5 c i a2 h2 a3 h3 a4 h4 a5 h5 a6 h6 a7 h7 a8 h8 a9 h9 hc0 hc1 x0 x1 x2 x3 = sqOf x0 x2 ∧
    sout0_A_0 c i a2 h2 a3 h3 a4 h4 a5 h5 a6 h6 a7 h7 a8 h8 a9 h9 hc0 hc1 x0 x1 x2 x3 = accOf x0 x2 x3 k0_pay2 := by
  unfold out0_A_4 out0_A_5 sout0_A_0
  rw [View.read_writes_eq_canon _ _ _ (cover0_A_4 c i a2 h2 a3 h3 a4 h4 a5 h5 a6 h6 a7 h7 a8 h8 a9 h9 hc0 hc1 x0 x1 x2 x3),
    View.read_writes_eq_canon _ _ _ (cover0_A_5 c i a2 h2 a3 h3 a4 h4 a5 h5 a6 h6 a7 h7 a8 h8 a9 h9 hc0 hc1 x0 x1 x2 x3),
    View.read_writes_eq_canon _ _ _ (scover0_A_0 c i a2 h2 a3 h3 a4 h4 a5 h5 a6 h6 a7 h7 a8 h8 a9 h9 hc0 hc1 x0 x1 x2 x3)]
  unfold kernelRun0_A
  dsimp only
  sl_unfold_words
  rw [View.canon_cons_unit_zero (S := S640x1024) hz]
  simp only [View.readCov_cons_toLoadRect, View.readAt_eq_ld, h2.read_unread, h3.read_unread, h4.read_unread, h5.read_unread, h9.read_unread,
    View.ld_unit_zero (S := S640x1024) hz]
  exact ⟨rfl, rfl, rfl⟩

/-- A point that ends it. -/
theorem case_B (hc0 : ¬cond0_0 i) (hc1 : cond0_1 i) :
    out0_B_4 c i a2 h2 a3 h3 a4 h4 a5 h5 a6 h6 a7 h7 a8 h8 a9 h9 hc0 hc1 x0 x1 x2 x3 xa = reOf x0 x2 ∧
    out0_B_5 c i a2 h2 a3 h3 a4 h4 a5 h5 a6 h6 a7 h7 a8 h8 a9 h9 hc0 hc1 x0 x1 x2 x3 xa = sqOf x0 x2 ∧
    out0_B_6 c i a2 h2 a3 h3 a4 h4 a5 h5 a6 h6 a7 h7 a8 h8 a9 h9 hc0 hc1 x0 x1 x2 x3 xa = k0_pay1 x1 (accOf x0 x2 x3 xa) ∧
    sout0_B_0 c i a2 h2 a3 h3 a4 h4 a5 h5 a6 h6 a7 h7 a8 h8 a9 h9 hc0 hc1 x0 x1 x2 x3 xa = accOf x0 x2 x3 xa := by
  unfold out0_B_4 out0_B_5 out0_B_6 sout0_B_0
  rw [View.read_writes_eq_canon _ _ _ (cover0_B_4 c i a2 h2 a3 h3 a4 h4 a5 h5 a6 h6 a7 h7 a8 h8 a9 h9 hc0 hc1 x0 x1 x2 x3 xa),
    View.read_writes_eq_canon _ _ _ (cover0_B_5 c i a2 h2 a3 h3 a4 h4 a5 h5 a6 h6 a7 h7 a8 h8 a9 h9 hc0 hc1 x0 x1 x2 x3 xa),
    View.read_writes_eq_canon _ _ _ (cover0_B_6 c i a2 h2 a3 h3 a4 h4 a5 h5 a6 h6 a7 h7 a8 h8 a9 h9 hc0 hc1 x0 x1 x2 x3 xa),
    View.read_writes_eq_canon _ _ _ (scover0_B_0 c i a2 h2 a3 h3 a4 h4 a5 h5 a6 h6 a7 h7 a8 h8 a9 h9 hc0 hc1 x0 x1 x2 x3 xa)]
  unfold kernelRun0_B
  dsimp only
  sl_unfold_words
  rw [View.canon_cons_unit_zero (S := S640x1024) hz, View.canon_cons_unit_zero (S := S640x1024) hz]
  simp only [View.readCov_cons_toLoadRect, View.readAt_eq_ld, h2.read_unread, h3.read_unread, h4.read_unread, h5.read_unread, h9.read_unread,
    View.ld_unit_zero (S := S640x1024) hz]
  exact ⟨rfl, rfl, rfl, rfl⟩

end Cases

end Cert.MlpFwdIdeal.Hand
-- ==== Proof.MlpFwdPayload.lean ====
/- The squared-ReLU layer's payloads going forward, at an index, over arrays that hold anything. -/
module

public import proofs.«01_k».proof.Proof.MlpFwdCases
public import proofs.«01_k».proof.Proof.NormReal
public import proofs.«01_k».proof.Proof.Sigmoid
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.MlpFwd

/-- The hidden layer after the ReLU, its square, and the layer's result. -/
def re (X : ℕ → Fin 1024 → EReal) (W1 : ℕ → ℕ → EReal) (n e : ℕ) : EReal := max (∑ k : Fin 1024, X n k * W1 k.val e) 0
def sq (X : ℕ → Fin 1024 → EReal) (W1 : ℕ → ℕ → EReal) (n e : ℕ) : EReal := re X W1 n e * re X W1 n e
def upto (X : ℕ → Fin 1024 → EReal) (W1 W2 : ℕ → ℕ → EReal) (b n : ℕ) (k : Fin 1024) : EReal := ∑ e ∈ Finset.range b, sq X W1 n e * W2 e k.val
def out (X H : ℕ → Fin 1024 → EReal) (W1 W2 : ℕ → ℕ → EReal) (n : ℕ) (k : Fin 1024) : EReal := H n k + upto X W1 W2 4096 n k

end Cert.MlpFwd

namespace Cert.MlpFwdIdeal.Hand

open Cert.MlpFwdIdeal Cert.MlpFwdIdeal.Gen Idealize.ShloMosaic Cert.MlpFwd

variable (n b : ℕ) (x0 : Vec Ideal S640x1024 .bf16) (X H : ℕ → Fin 1024 → EReal) (W1 W2 : ℕ → ℕ → EReal)
  (h0 : ∀ (r : Fin 640) k, x0 (ix2 r k) = X (n + r.val) k)

section Slice

variable (y2 : Vec Ideal S1x1024x512 .bf16) (y3 : Vec Ideal S1x512x1024 .bf16)
  (g2 : ∀ (k : Fin 1024) (e : Fin 512), y2 (ix3 0 k e) = W1 k.val (b + e.val))
  (g3 : ∀ (e : Fin 512) (k : Fin 1024), y3 (ix3 0 e k) = W2 (b + e.val) k.val)

include h0 g2 in
theorem pay3_at (r : Fin 640) (e : Fin 512) : k0_pay3 x0 y2 (ix2 r e) = re X W1 (n + r.val) (b + e.val) := by
  pointwise [k0_pay3]
  simp only [h0, g2, Sigmoid.zero_word]
  rfl

include h0 g2 in
theorem pay4_at (r : Fin 640) (e : Fin 512) : k0_pay4 x0 y2 (ix2 r e) = sq X W1 (n + r.val) (b + e.val) := by
  have q := pay3_at n b x0 X W1 h0 y2 g2 r e
  unfold k0_pay4
  generalize k0_pay3 x0 y2 = s at *
  pointwise []
  rw [q]
  rfl

include h0 g2 in
theorem pay5_at (r : Fin 640) (e : Fin 512) : k0_pay5 x0 y2 (ix2 r e) = re X W1 (n + r.val) (b + e.val) := by
  have q := pay3_at n b x0 X W1 h0 y2 g2 r e
  unfold k0_pay5
  generalize k0_pay3 x0 y2 = s at *
  pointwise []
  exact q

include h0 g2 g3 in
theorem pay6_at (xa : Vec Ideal S640x1024 .f32) (r : Fin 640) (k : Fin 1024) (ha : xa (ix2 r k) = upto X W1 W2 b (n + r.val) k) :
    k0_pay6 x0 y2 xa y3 (ix2 r k) = upto X W1 W2 (b + 512) (n + r.val) k := by
  have q := pay4_at n b x0 X W1 h0 y2 g2 r
  unfold k0_pay6
  generalize k0_pay4 x0 y2 = s at *
  pointwise []
  simp only [q, ha, g3]
  unfold upto
  rw [Finset.sum_range_add, Finset.sum_range (fun e => sq X W1 (n + r.val) (b + e) * W2 (b + e) k.val)]

end Slice

section Point

variable (x2 : Vec Ideal S4x1024x512 .bf16) (x3 : Vec Ideal S4x512x1024 .bf16)
  (g2 : ∀ (s : Fin 4) (k : Fin 1024) (e : Fin 512), x2 (ix3 s k e) = W1 k.val (b + 512 * s.val + e.val))
  (g3 : ∀ (s : Fin 4) (e : Fin 512) (k : Fin 1024), x3 (ix3 s e k) = W2 (b + 512 * s.val + e.val) k.val)

include g2 in
theorem slice2 (s : Fin 4) (inb) (k : Fin 1024) (e : Fin 512) :
    View.ld x2 (Rect.unit (s := S4x1024x512) ![s.val, 0, 0] ![1, 1024, 512] inb) (ix3 0 k e) = W1 k.val (b + 512 * s.val + e.val) := by
  rw [View.ld_unit_apply_of x2 _ _ inb (ix3 0 k e) (ix3 s k e) (fun a => by
    match a with
    | 0 => rfl
    | 1 => show k.val = 0 + k.val; omega
    | 2 => show e.val = 0 + e.val; omega), g2]

include g3 in
theorem slice3 (s : Fin 4) (inb) (e : Fin 512) (k : Fin 1024) :
    View.ld x3 (Rect.unit (s := S4x512x1024) ![s.val, 0, 0] ![1, 512, 1024] inb) (ix3 0 e k) = W2 (b + 512 * s.val + e.val) k.val := by
  rw [View.ld_unit_apply_of x3 _ _ inb (ix3 0 e k) (ix3 s e k) (fun a => by
    match a with
    | 0 => rfl
    | 1 => show e.val = 0 + e.val; omega
    | 2 => show k.val = 0 + k.val; omega), g3]

include h0 g2 g3 in
theorem acc_at (xa : Vec Ideal S640x1024 .f32) (r : Fin 640) (k : Fin 1024) (ha : xa (ix2 r k) = upto X W1 W2 b (n + r.val) k) :
    accOf x0 x2 x3 xa (ix2 r k) = upto X W1 W2 (b + 2048) (n + r.val) k := by
  unfold accOf
  refine pay6_at n (b + 1536) x0 X W1 W2 h0 _ _ (slice2 b W1 x2 g2 3 _) (slice3 b W2 x3 g3 3 _) _ r k ?_
  refine pay6_at n (b + 1024) x0 X W1 W2 h0 _ _ (slice2 b W1 x2 g2 2 _) (slice3 b W2 x3 g3 2 _) _ r k ?_
  refine pay6_at n (b + 512) x0 X W1 W2 h0 _ _ (slice2 b W1 x2 g2 1 _) (slice3 b W2 x3 g3 1 _) _ r k ?_
  exact pay6_at n b x0 X W1 W2 h0 _ _ (slice2 b W1 x2 g2 0 _) (slice3 b W2 x3 g3 0 _) _ r k ha

omit h0 in
/-- A block of four slices side by side, each of which is the same function at its place. -/
theorem canon_at (f : ℕ → ℕ → EReal) (p0 p1 p2 p3 : FVec Ideal S640x512 .bf16)
    (q0 : ∀ (r : Fin 640) (e : Fin 512), p0 (ix2 r e) = f (n + r.val) (b + 512 * 0 + e.val))
    (q1 : ∀ (r : Fin 640) (e : Fin 512), p1 (ix2 r e) = f (n + r.val) (b + 512 * 1 + e.val))
    (q2 : ∀ (r : Fin 640) (e : Fin 512), p2 (ix2 r e) = f (n + r.val) (b + 512 * 2 + e.val))
    (q3 : ∀ (r : Fin 640) (e : Fin 512), p3 (ix2 r e) = f (n + r.val) (b + 512 * 3 + e.val))
    (ps : List (View.Piece (Elt Ideal) S640x2048 .bf16))
    (hps : ps = [⟨Rect.unit ![0, 1536] ![640, 512] inb_S640x2048_S640x512_0_1536, p3⟩, ⟨Rect.unit ![0, 1024] ![640, 512] inb_S640x2048_S640x512_0_1024, p2⟩,
      ⟨Rect.unit ![0, 512] ![640, 512] inb_S640x2048_S640x512_0_512, p1⟩, ⟨Rect.unit ![0, 0] ![640, 512] inb_S640x2048_S640x512_0_0, p0⟩])
    (r : Fin 640) (e : Fin 2048) : View.canon ps (ix2 r e) = f (n + r.val) (b + e.val) := by
  have piece : ∀ (s : Fin 4) (p : FVec Ideal S640x512 .bf16) (inb), (∀ (r : Fin 640) (e : Fin 512), p (ix2 r e) = f (n + r.val) (b + 512 * s.val + e.val)) →
      ∀ x : (Rect.unit (s := S640x2048) ![0, 512 * s.val] ![640, 512] inb).shape.Idx, p x
        = (fun i : S640x2048.Idx => f (n + (i 0).val) (b + (i 1).val)) ((Rect.unit (s := S640x2048) ![0, 512 * s.val] ![640, 512] inb).emb x) := by
    intro s p inb q x
    obtain ⟨r, e, rfl⟩ : ∃ (r : Fin 640) (e : Fin 512), x = ix2 r e := ⟨x 0, x 1, eq_ix2 x⟩
    have h0 : (((Rect.unit (s := S640x2048) ![0, 512 * s.val] ![640, 512] inb).emb (ix2 r e)) 0).val = r.val := by
      show 0 + 1 * r.val = r.val; omega
    have h1 : (((Rect.unit (s := S640x2048) ![0, 512 * s.val] ![640, 512] inb).emb (ix2 r e)) 1).val = 512 * s.val + e.val := by
      show 512 * s.val + 1 * e.val = _; omega
    refine (q r e).trans ?_
    dsimp only
    rw [h0, h1, Nat.add_assoc]
  have m : ∀ (o : ℕ) (inb), o ≤ e.val → e.val < o + 512 → ix2 r e ∈ (Rect.unit (s := S640x2048) ![0, o] ![640, 512] inb).set := by
    intro o inb h h'
    rw [Rect.mem_set_unit]
    intro a
    match a with
    | 0 => exact ⟨Nat.zero_le _, by show r.val < 0 + 640; omega⟩
    | 1 => exact ⟨h, h'⟩
  have he := e.isLt
  rw [← List.append_nil ps, hps]
  refine View.canon_append_of_piecesOf (Val := Elt Ideal) (s := S640x2048) (e := .bf16)
    (fun i => f (n + (i 0).val) (b + (i 1).val)) [] _
    (by exact ⟨piece 3 p3 inb_S640x2048_S640x512_0_1536 q3, piece 2 p2 inb_S640x2048_S640x512_0_1024 q2, piece 1 p1 inb_S640x2048_S640x512_0_512 q1, piece 0 p0 inb_S640x2048_S640x512_0_0 q0, trivial⟩) (ix2 r e) ?_
  by_cases q3 : 1536 ≤ e.val
  · exact ⟨_, List.mem_cons_self, m 1536 inb_S640x2048_S640x512_0_1536 q3 (by omega)⟩
  by_cases q2 : 1024 ≤ e.val
  · exact ⟨_, List.mem_cons_of_mem _ List.mem_cons_self, m 1024 inb_S640x2048_S640x512_0_1024 q2 (by omega)⟩
  by_cases q1 : 512 ≤ e.val
  · exact ⟨_, List.mem_cons_of_mem _ (List.mem_cons_of_mem _ List.mem_cons_self), m 512 inb_S640x2048_S640x512_0_512 q1 (by omega)⟩
  · exact ⟨_, List.mem_cons_of_mem _ (List.mem_cons_of_mem _ (List.mem_cons_of_mem _ List.mem_cons_self)), m 0 inb_S640x2048_S640x512_0_0 (Nat.zero_le _) (by omega)⟩

include h0 g2 in
theorem re_at (r : Fin 640) (e : Fin 2048) : reOf x0 x2 (ix2 r e) = re X W1 (n + r.val) (b + e.val) := by
  have p := fun (s : Fin 4) (inb) => pay5_at n (b + 512 * s.val) x0 X W1 h0 _ (slice2 b W1 x2 g2 s inb)
  exact canon_at n b (re X W1) _ _ _ _ (p 0 inb_S4x1024x512_S1x1024x512_0_0_0) (p 1 inb_S4x1024x512_S1x1024x512_1_0_0) (p 2 inb_S4x1024x512_S1x1024x512_2_0_0) (p 3 inb_S4x1024x512_S1x1024x512_3_0_0) (rePieces x0 x2) rfl r e

include h0 g2 in
theorem sq_at (r : Fin 640) (e : Fin 2048) : sqOf x0 x2 (ix2 r e) = sq X W1 (n + r.val) (b + e.val) := by
  have p := fun (s : Fin 4) (inb) => pay4_at n (b + 512 * s.val) x0 X W1 h0 _ (slice2 b W1 x2 g2 s inb)
  exact canon_at n b (sq X W1) _ _ _ _ (p 0 inb_S4x1024x512_S1x1024x512_0_0_0) (p 1 inb_S4x1024x512_S1x1024x512_1_0_0) (p 2 inb_S4x1024x512_S1x1024x512_2_0_0) (p 3 inb_S4x1024x512_S1x1024x512_3_0_0) (sqPieces x0 x2) rfl r e

end Point

theorem pay1_at (x1 acc : Vec Ideal S640x1024 .f32) (r : Fin 640) (k : Fin 1024) : k0_pay1 (F := Ideal) x1 acc (ix2 r k) = x1 (ix2 r k) + acc (ix2 r k) := by
  pointwise [k0_pay1]

theorem pay2_at (r : Fin 640) (k : Fin 1024) : (k0_pay2 : FVec Ideal S640x1024 .f32) (ix2 r k) = (0 : EReal) := by
  pointwise [k0_pay2]

end Cert.MlpFwdIdeal.Hand
-- ==== Proof.MlpFwdArray.lean ====
/- What the squared-ReLU layer leaves in its three arrays going forward, in terms of the arrays it is launched on. -/
module

public import proofs.«01_k».proof.Proof.MlpFwdPayload

@[expose] public section

set_option maxRecDepth 16384

noncomputable section

namespace Cert.MlpFwdIdeal.Hand

open Cert.MlpFwdIdeal Cert.MlpFwdIdeal.Gen Idealize.ShloMosaic Idealize.ShloMosaic.TcCoe Idealize.SL.Sem
open Idealize.ShloMosaic.Pipeline (Dat)
open Cert.MlpFwd

variable (m : (ℓ : Loc nD τ sig) → Buf (Elt Ideal) ℓ) (c : Dev nD)

theorem row_lt (t : Fin cfg0.N) (r : Fin 640) : 640 * (t.val / 2) + r.val < 8320 := by
  have hN : cfg0.N = 26 := N_0
  omega
theorem slice_lt (t : Fin cfg0.N) (s : Fin 4) : 4 * (t.val % 2) + s.val < 8 := by omega

theorem index0 : ∀ t : Fin grid0.N, win0_0.index t 0 = t.val / 2 ∧ win0_0.index t 1 = 0 := by decide +kernel
theorem index1 : ∀ t : Fin grid0.N, win0_1.index t 0 = t.val / 2 ∧ win0_1.index t 1 = 0 := by decide +kernel
theorem index2 : ∀ t : Fin grid0.N, win0_2.index t 0 = t.val % 2 ∧ win0_2.index t 1 = 0 ∧ win0_2.index t 2 = 0 := by decide +kernel
theorem index3 : ∀ t : Fin grid0.N, win0_3.index t 0 = t.val % 2 ∧ win0_3.index t 1 = 0 ∧ win0_3.index t 2 = 0 := by decide +kernel
theorem index4 : ∀ t : Fin grid0.N, win0_4.index t 0 = t.val / 2 ∧ win0_4.index t 1 = t.val % 2 := by decide +kernel
theorem index5 : ∀ t : Fin grid0.N, win0_5.index t 0 = t.val / 2 ∧ win0_5.index t 1 = t.val % 2 := by decide +kernel
theorem index6 : ∀ t : Fin grid0.N, win0_6.index t 0 = t.val / 2 ∧ win0_6.index t 1 = 0 := by decide +kernel

theorem block0 (t : Fin cfg0.N) (r : Fin 640) (k : Fin 1024) :
    (iblk m c 0 t : Vec Ideal S640x1024 .bf16) (ix2 r k) = V m c main_v6 (ix2 ⟨640 * (t.val / 2) + r.val, row_lt t r⟩ k) := by
  unfold iblk
  rw [View.read_apply]
  show V m c main_v6 _ = _
  congr 1
  funext a
  apply Fin.ext
  match a with
  | 0 => show win0_0.index t 0 * 640 + 1 * r.val = 640 * (t.val / 2) + r.val
         rw [(index0 t).1]; omega
  | 1 => show win0_0.index t 1 * 1024 + 1 * k.val = k.val
         rw [(index0 t).2]; omega

theorem block1 (t : Fin cfg0.N) (r : Fin 640) (k : Fin 1024) :
    (iblk m c 1 t : Vec Ideal S640x1024 .f32) (ix2 r k) = V m c main_v7 (ix2 ⟨640 * (t.val / 2) + r.val, row_lt t r⟩ k) := by
  unfold iblk
  rw [View.read_apply]
  show V m c main_v7 _ = _
  congr 1
  funext a
  apply Fin.ext
  match a with
  | 0 => show win0_1.index t 0 * 640 + 1 * r.val = 640 * (t.val / 2) + r.val
         rw [(index1 t).1]; omega
  | 1 => show win0_1.index t 1 * 1024 + 1 * k.val = k.val
         rw [(index1 t).2]; omega

theorem block2 (t : Fin cfg0.N) (s : Fin 4) (k : Fin 1024) (e : Fin 512) :
    (iblk m c 2 t : Vec Ideal S4x1024x512 .bf16) (ix3 s k e) = V m c main_v2 (ix3 ⟨4 * (t.val % 2) + s.val, slice_lt t s⟩ k e) := by
  unfold iblk
  rw [View.read_apply]
  show V m c main_v2 _ = _
  congr 1
  funext a
  apply Fin.ext
  match a with
  | 0 => show win0_2.index t 0 * 4 + 1 * s.val = 4 * (t.val % 2) + s.val
         rw [(index2 t).1]; omega
  | 1 => show win0_2.index t 1 * 1024 + 1 * k.val = k.val
         rw [(index2 t).2.1]; omega
  | 2 => show win0_2.index t 2 * 512 + 1 * e.val = e.val
         rw [(index2 t).2.2]; omega

theorem block3 (t : Fin cfg0.N) (s : Fin 4) (e : Fin 512) (k : Fin 1024) :
    (iblk m c 3 t : Vec Ideal S4x512x1024 .bf16) (ix3 s e k) = V m c main_v4 (ix3 ⟨4 * (t.val % 2) + s.val, slice_lt t s⟩ e k) := by
  unfold iblk
  rw [View.read_apply]
  show V m c main_v4 _ = _
  congr 1
  funext a
  apply Fin.ext
  match a with
  | 0 => show win0_3.index t 0 * 4 + 1 * s.val = 4 * (t.val % 2) + s.val
         rw [(index3 t).1]; omega
  | 1 => show win0_3.index t 1 * 512 + 1 * e.val = e.val
         rw [(index3 t).2.1]; omega
  | 2 => show win0_3.index t 2 * 1024 + 1 * k.val = k.val
         rw [(index3 t).2.2]; omega

variable (X H : ℕ → Fin 1024 → EReal) (W1 W2 : ℕ → ℕ → EReal)

/-- What the arrays of the launch hold. -/
structure Arrays : Prop where
  x : ∀ (R : Fin 8320) k, (V m c main_v6 : Vec Ideal S8320x1024 .bf16) (ix2 R k) = X R.val k
  h : ∀ (R : Fin 8320) k, (V m c main_v7 : Vec Ideal S8320x1024 .f32) (ix2 R k) = H R.val k
  w1 : ∀ (s : Fin 8) (k : Fin 1024) (e : Fin 512), (V m c main_v2 : Vec Ideal S8x1024x512 .bf16) (ix3 s k e) = W1 k.val (512 * s.val + e.val)
  w2 : ∀ (s : Fin 8) (e : Fin 512) (k : Fin 1024), (V m c main_v4 : Vec Ideal S8x512x1024 .bf16) (ix3 s e k) = W2 (512 * s.val + e.val) k.val

/-- What the blocks and the carried buffer hold after point `n`. -/
structure Holds (n : ℕ) (o : Vec Ideal S640x2048 .bf16 × Vec Ideal S640x2048 .bf16 × Vec Ideal S640x1024 .f32 × Vec Ideal S640x1024 .f32) : Prop where
  re : ∀ (r : Fin 640) (e : Fin 2048), o.1 (ix2 r e) = re X W1 (640 * (n / 2) + r.val) (2048 * (n % 2) + e.val)
  sq : ∀ (r : Fin 640) (e : Fin 2048), o.2.1 (ix2 r e) = sq X W1 (640 * (n / 2) + r.val) (2048 * (n % 2) + e.val)
  out : n % 2 = 1 → ∀ (r : Fin 640) (k : Fin 1024), o.2.2.1 (ix2 r k) = out X H W1 W2 (640 * (n / 2) + r.val) k
  acc : ∀ (r : Fin 640) (k : Fin 1024), o.2.2.2 (ix2 r k) = upto X W1 W2 (2048 * (n % 2) + 2048) (640 * (n / 2) + r.val) k

variable (A : Arrays m c X H W1 W2)

section Blocks

variable (t : Fin cfg0.N)

include A

theorem b0 (r : Fin 640) (k : Fin 1024) : (iblk m c 0 t : Vec Ideal S640x1024 .bf16) (ix2 r k) = X (640 * (t.val / 2) + r.val) k := by
  rw [block0]; exact A.x _ k
theorem b1 (r : Fin 640) (k : Fin 1024) : (iblk m c 1 t : Vec Ideal S640x1024 .f32) (ix2 r k) = H (640 * (t.val / 2) + r.val) k := by
  rw [block1]; exact A.h _ k
theorem b2 (s : Fin 4) (k : Fin 1024) (e : Fin 512) : (iblk m c 2 t : Vec Ideal S4x1024x512 .bf16) (ix3 s k e) = W1 k.val (2048 * (t.val % 2) + 512 * s.val + e.val) := by
  rw [block2, A.w1, show 512 * (4 * (t.val % 2) + s.val) + e.val = 2048 * (t.val % 2) + 512 * s.val + e.val by omega]
theorem b3 (s : Fin 4) (e : Fin 512) (k : Fin 1024) : (iblk m c 3 t : Vec Ideal S4x512x1024 .bf16) (ix3 s e k) = W2 (2048 * (t.val % 2) + 512 * s.val + e.val) k.val := by
  rw [block3, A.w2, show 512 * (4 * (t.val % 2) + s.val) + e.val = 2048 * (t.val % 2) + 512 * s.val + e.val by omega]

/-- The two blocks of the hidden layer, and the sum so far, after a point. -/
theorem hidden_holds (xa : Vec Ideal S640x1024 .f32)
    (ha : ∀ (r : Fin 640) (k : Fin 1024), xa (ix2 r k) = upto X W1 W2 (2048 * (t.val % 2)) (640 * (t.val / 2) + r.val) k) :
    (∀ (r : Fin 640) (e : Fin 2048), reOf (iblk m c 0 t) (iblk m c 2 t) (ix2 r e) = re X W1 (640 * (t.val / 2) + r.val) (2048 * (t.val % 2) + e.val)) ∧
    (∀ (r : Fin 640) (e : Fin 2048), sqOf (iblk m c 0 t) (iblk m c 2 t) (ix2 r e) = sq X W1 (640 * (t.val / 2) + r.val) (2048 * (t.val % 2) + e.val)) ∧
    (∀ (r : Fin 640) (k : Fin 1024), accOf (iblk m c 0 t) (iblk m c 2 t) (iblk m c 3 t) xa (ix2 r k)
      = upto X W1 W2 (2048 * (t.val % 2) + 2048) (640 * (t.val / 2) + r.val) k) :=
  ⟨re_at (640 * (t.val / 2)) (2048 * (t.val % 2)) _ X W1 (b0 m c X H W1 W2 A t) _ (b2 m c X H W1 W2 A t),
    sq_at (640 * (t.val / 2)) (2048 * (t.val % 2)) _ X W1 (b0 m c X H W1 W2 A t) _ (b2 m c X H W1 W2 A t),
    fun r k => acc_at (640 * (t.val / 2)) (2048 * (t.val % 2)) _ X W1 W2 (b0 m c X H W1 W2 A t) _ _ (b2 m c X H W1 W2 A t) (b3 m c X H W1 W2 A t) xa r k (ha r k)⟩

omit A in
/-- The four parts put together. -/
theorem holds_of (p q : Vec Ideal S640x2048 .bf16) (o acc : Vec Ideal S640x1024 .f32) (n : ℕ)
    (hp : ∀ (r : Fin 640) (e : Fin 2048), p (ix2 r e) = re X W1 (640 * (n / 2) + r.val) (2048 * (n % 2) + e.val))
    (hq : ∀ (r : Fin 640) (e : Fin 2048), q (ix2 r e) = sq X W1 (640 * (n / 2) + r.val) (2048 * (n % 2) + e.val))
    (ho : n % 2 = 1 → ∀ (r : Fin 640) (k : Fin 1024), o (ix2 r k) = out X H W1 W2 (640 * (n / 2) + r.val) k)
    (hacc : ∀ (r : Fin 640) (k : Fin 1024), acc (ix2 r k) = upto X W1 W2 (2048 * (n % 2) + 2048) (640 * (n / 2) + r.val) k) :
    Holds X H W1 W2 n (p, q, o, acc) := ⟨hp, hq, ho, hacc⟩

/-- A point that begins a block of rows. -/
theorem even_holds (ht : t.val % 2 = 0) (xo : Vec Ideal S640x1024 .f32) :
    Holds X H W1 W2 t.val (reOf (iblk m c 0 t) (iblk m c 2 t), sqOf (iblk m c 0 t) (iblk m c 2 t), xo,
      accOf (iblk m c 0 t) (iblk m c 2 t) (iblk m c 3 t) (k0_pay2 (F := Ideal))) := by
  obtain ⟨p, q, a⟩ := hidden_holds m c X H W1 W2 A t (k0_pay2 (F := Ideal)) (fun r k => by
    rw [pay2_at, ht]; simp [upto])
  exact holds_of X H W1 W2 _ _ _ _ t.val p q (fun h => absurd h (by omega)) a

/-- A point that ends it. -/
theorem odd_holds (ht : t.val % 2 = 1) (xa : Vec Ideal S640x1024 .f32)
    (ha : ∀ (r : Fin 640) (k : Fin 1024), xa (ix2 r k) = upto X W1 W2 2048 (640 * (t.val / 2) + r.val) k) :
    Holds X H W1 W2 t.val (reOf (iblk m c 0 t) (iblk m c 2 t), sqOf (iblk m c 0 t) (iblk m c 2 t),
      k0_pay1 (F := Ideal) (iblk m c 1 t) (accOf (iblk m c 0 t) (iblk m c 2 t) (iblk m c 3 t) xa),
      accOf (iblk m c 0 t) (iblk m c 2 t) (iblk m c 3 t) xa) := by
  obtain ⟨p, q, a⟩ := hidden_holds m c X H W1 W2 A t xa (fun r k => by rw [ha, ht])
  refine holds_of X H W1 W2 _ _ _ _ t.val p q (fun _ r k => ?_) a
  rw [pay1_at, a, ht, b1 m c X H W1 W2 A t]
  rfl

end Blocks

include A in
theorem holds_at (n : ℕ) (h : n < cfg0.N) : Holds X H W1 W2 n (outsAt0 m c n h) := by
  have hN : cfg0.N = 26 := N_0
  by_cases h0 : n % 2 = 0
  · rw [outsAt0_A m c ⟨n, h⟩ h0 (show ¬ n % 2 = 1 by omega), (case_A ..).1, (case_A ..).2.1, (case_A ..).2.2]
    exact even_holds m c X H W1 W2 A ⟨n, h⟩ h0 _
  · have e : (n - 1) / 2 = n / 2 := by omega
    have e' : (n - 1) % 2 = 0 := by omega
    rw [outsAt0_B m c ⟨n, h⟩ h0 (show n % 2 = 1 by omega), (case_B ..).1, (case_B ..).2.1, (case_B ..).2.2.1, (case_B ..).2.2.2]
    refine odd_holds m c X H W1 W2 A ⟨n, h⟩ (show n % 2 = 1 by omega) _ (fun r k => ?_)
    have hp : n - 1 < cfg0.N := by omega
    show (outsAt0 m c (n - 1) hp).2.2.2 (ix2 r k) = _
    rw [outsAt0_A m c ⟨n - 1, hp⟩ e' (show ¬ (n - 1) % 2 = 1 by omega), (case_A ..).1, (case_A ..).2.1, (case_A ..).2.2]
    refine ((even_holds m c X H W1 W2 A ⟨n - 1, hp⟩ e' _).acc r k).trans ?_
    dsimp only
    rw [e, e']

/-! ### The arrays -/

/-- The ReLU, its square, and the layer's result. -/
def reArr : Vec Ideal S8320x4096 .bf16 := fun i => re X W1 (i 0).val (i 1).val
def sqArr : Vec Ideal S8320x4096 .bf16 := fun i => sq X W1 (i 0).val (i 1).val
def outArr : Vec Ideal S8320x1024 .f32 := fun i => out X H W1 W2 (i 0).val (i 1)

theorem mem_blk4 (t : Fin cfg0.N) (i : S8320x4096.Idx) (h0 : 640 * (t.val / 2) ≤ (i 0).val ∧ (i 0).val < 640 * (t.val / 2) + 640)
    (h1 : 2048 * (t.val % 2) ≤ (i 1).val ∧ (i 1).val < 2048 * (t.val % 2) + 2048) : i ∈ ((cfg0.win 4).blk t).view.set := by
  show i ∈ ((View.whole main_v8_0).slice (win0_4.rect t)).set
  rw [View.set_slice_whole, Rect.mem_set_unit]
  intro a
  match a with
  | 0 => show win0_4.index t 0 * 640 ≤ (i 0).val ∧ (i 0).val < win0_4.index t 0 * 640 + 640
         rw [(index4 t).1]; omega
  | 1 => show win0_4.index t 1 * 2048 ≤ (i 1).val ∧ (i 1).val < win0_4.index t 1 * 2048 + 2048
         rw [(index4 t).2]; omega

theorem mem_blk5 (t : Fin cfg0.N) (i : S8320x4096.Idx) (h0 : 640 * (t.val / 2) ≤ (i 0).val ∧ (i 0).val < 640 * (t.val / 2) + 640)
    (h1 : 2048 * (t.val % 2) ≤ (i 1).val ∧ (i 1).val < 2048 * (t.val % 2) + 2048) : i ∈ ((cfg0.win 5).blk t).view.set := by
  show i ∈ ((View.whole main_v8_1).slice (win0_5.rect t)).set
  rw [View.set_slice_whole, Rect.mem_set_unit]
  intro a
  match a with
  | 0 => show win0_5.index t 0 * 640 ≤ (i 0).val ∧ (i 0).val < win0_5.index t 0 * 640 + 640
         rw [(index5 t).1]; omega
  | 1 => show win0_5.index t 1 * 2048 ≤ (i 1).val ∧ (i 1).val < win0_5.index t 1 * 2048 + 2048
         rw [(index5 t).2]; omega

theorem mem_blk6 (t : Fin cfg0.N) (i : S8320x1024.Idx) (h0 : 640 * (t.val / 2) ≤ (i 0).val ∧ (i 0).val < 640 * (t.val / 2) + 640) :
    i ∈ ((cfg0.win 6).blk t).view.set := by
  show i ∈ ((View.whole main_v8_2).slice (win0_6.rect t)).set
  rw [View.set_slice_whole, Rect.mem_set_unit]
  intro a
  match a with
  | 0 => show win0_6.index t 0 * 640 ≤ (i 0).val ∧ (i 0).val < win0_6.index t 0 * 640 + 640
         rw [(index6 t).1]; omega
  | 1 => show win0_6.index t 1 * 1024 ≤ (i 1).val ∧ (i 1).val < win0_6.index t 1 * 1024 + 1024
         have h1 : (i 1).val < 1024 := (i 1).isLt
         rw [(index6 t).2]; omega

/-- The point that covers a place of the hidden layer. -/
def pointOf (i : S8320x4096.Idx) : Fin cfg0.N := ⟨2 * ((i 0).val / 640) + (i 1).val / 2048, by
  have hN : cfg0.N = 26 := N_0
  have hi : (i 0).val < 8320 := (i 0).isLt
  have hj : (i 1).val < 4096 := (i 1).isLt
  omega⟩

theorem pointOf_rows (i : S8320x4096.Idx) : 640 * ((pointOf i).val / 2) ≤ (i 0).val ∧ (i 0).val < 640 * ((pointOf i).val / 2) + 640 := by
  have hj : (i 1).val < 4096 := (i 1).isLt
  unfold pointOf
  dsimp only
  omega

theorem pointOf_cols (i : S8320x4096.Idx) : 2048 * ((pointOf i).val % 2) ≤ (i 1).val ∧ (i 1).val < 2048 * ((pointOf i).val % 2) + 2048 := by
  have hj : (i 1).val < 4096 := (i 1).isLt
  unfold pointOf
  dsimp only
  omega

include A in
theorem arr4 : (dats m 0 c).arrAt 4 cfg0.N = reArr X W1 := by
  refine (dats m 0 c).arrAt_eq_of_cover 4 _ (fun t _ => ?_) (fun i => ⟨pointOf i, flush0_4 _, mem_blk4 _ _ (pointOf_rows i) (pointOf_cols i)⟩)
  rw [Value.flushed4]
  show (outsAt0 m c t.val t.isLt).1 = ((cfg0.win 4).blk t).view.read (Elt Ideal) (reArr X W1)
  funext j
  obtain ⟨r, e, rfl⟩ : ∃ (r : Fin 640) (e : Fin 2048), j = ix2 r e := ⟨j 0, j 1, eq_ix2 j⟩
  rw [(holds_at m c X H W1 W2 A t.val t.isLt).re r e, View.read_apply]
  show _ = reArr X W1 _
  have e0 : 640 * (t.val / 2) + r.val = win0_4.index t 0 * 640 + 1 * r.val := by rw [(index4 t).1]; omega
  have e1 : 2048 * (t.val % 2) + e.val = win0_4.index t 1 * 2048 + 1 * e.val := by rw [(index4 t).2]; omega
  rw [e0, e1]
  rfl

include A in
theorem arr5 : (dats m 0 c).arrAt 5 cfg0.N = sqArr X W1 := by
  refine (dats m 0 c).arrAt_eq_of_cover 5 _ (fun t _ => ?_) (fun i => ⟨pointOf i, flush0_5 _, mem_blk5 _ _ (pointOf_rows i) (pointOf_cols i)⟩)
  rw [Value.flushed5]
  show (outsAt0 m c t.val t.isLt).2.1 = ((cfg0.win 5).blk t).view.read (Elt Ideal) (sqArr X W1)
  funext j
  obtain ⟨r, e, rfl⟩ : ∃ (r : Fin 640) (e : Fin 2048), j = ix2 r e := ⟨j 0, j 1, eq_ix2 j⟩
  rw [(holds_at m c X H W1 W2 A t.val t.isLt).sq r e, View.read_apply]
  show _ = sqArr X W1 _
  have e0 : 640 * (t.val / 2) + r.val = win0_5.index t 0 * 640 + 1 * r.val := by rw [(index5 t).1]; omega
  have e1 : 2048 * (t.val % 2) + e.val = win0_5.index t 1 * 2048 + 1 * e.val := by rw [(index5 t).2]; omega
  rw [e0, e1]
  rfl

include A in
theorem arr6 : (dats m 0 c).arrAt 6 cfg0.N = outArr X H W1 W2 := by
  have hN : cfg0.N = 26 := N_0
  refine (dats m 0 c).arrAt_eq_of_cover 6 _ (fun t ht => ?_) (fun i => ?_)
  · rw [Value.flushed6]
    show (outsAt0 m c t.val t.isLt).2.2.1 = ((cfg0.win 6).blk t).view.read (Elt Ideal) (outArr X H W1 W2)
    funext j
    obtain ⟨r, k, rfl⟩ : ∃ (r : Fin 640) (k : Fin 1024), j = ix2 r k := ⟨j 0, j 1, eq_ix2 j⟩
    rw [(holds_at m c X H W1 W2 A t.val t.isLt).out ((flush0_6 t).mp ht) r k, View.read_apply]
    show _ = outArr X H W1 W2 _
    have e0 : 640 * (t.val / 2) + r.val = win0_6.index t 0 * 640 + 1 * r.val := by rw [(index6 t).1]; omega
    have e1 : k.val = win0_6.index t 1 * 1024 + 1 * k.val := by rw [(index6 t).2]; omega
    rw [e0]
    exact congrArg (fun k => out X H W1 W2 _ k) (Fin.ext e1)
  · have hi : (i 0).val < 8320 := (i 0).isLt
    refine ⟨⟨2 * ((i 0).val / 640) + 1, by omega⟩, (flush0_6 _).mpr (by dsimp only; omega), mem_blk6 _ _ ?_⟩
    dsimp only; omega

end Cert.MlpFwdIdeal.Hand
-- ==== Proof.MlpFwdReference.lean ====
/- The reference's squared-ReLU layer, going forward. -/
module

public import proofs.«01_k».proof.Proof.Gen.MlpFwdRefIdeal.Read
public import proofs.«01_k».proof.Proof.MlpFwdPayload

@[expose] public section

set_option maxRecDepth 16384

noncomputable section

namespace Cert.MlpFwdRefIdeal.Hand

open Cert.MlpFwdRefIdeal Cert.MlpFwdRefIdeal.Read Idealize.ShloMosaic Cert.MlpFwd

variable (x0 x1 : Vec Ideal S8208x1024 .f32) (x2 : Vec Ideal S1024x4096 .f32) (x3 : Vec Ideal S4096x1024 .f32)
  (X H : ℕ → Fin 1024 → EReal) (W1 W2 : ℕ → ℕ → EReal)
  (h0 : ∀ (R : Fin 8208) k, x0 (ix2 R k) = X R.val k)
  (h1 : ∀ (R : Fin 8208) k, x1 (ix2 R k) = H R.val k)
  (h2 : ∀ (k : Fin 1024) (e : Fin 4096), x2 (ix2 k e) = W1 k.val e.val)
  (h3 : ∀ (e : Fin 4096) (k : Fin 1024), x3 (ix2 e k) = W2 e.val k.val)
  (z0 : ∀ n k, 8208 ≤ n → X n k = 0) (z1 : ∀ n k, 8208 ≤ n → H n k = 0)

include z0 in
theorem re_zero (n e : ℕ) (h : 8208 ≤ n) : re X W1 n e = 0 := by
  unfold re
  simp [z0 n _ h]

include z0 in
theorem sq_zero (n e : ℕ) (h : 8208 ≤ n) : sq X W1 n e = 0 := by
  unfold MlpFwd.sq
  rw [re_zero X W1 z0 n e h, mul_zero]

include z0 z1 in
theorem out_zero (n : ℕ) (k : Fin 1024) (h : 8208 ≤ n) : out X H W1 W2 n k = 0 := by
  unfold out upto
  simp [z1 n k h, sq_zero X W1 z0 n _ h]

include h0 h2 in
theorem v1_apply (R : Fin 8208) (e : Fin 4096) : val_main_v1 (F := Ideal) x0 x2 (ix2 R e) = re X W1 R.val e.val := by
  pointwise [val_main_v1, val_main_v0, val_main_call0_v0, val_main_call0_cst]
  simp only [h0, h2, Sigmoid.zero_word]
  rfl

include h0 h2 in
theorem v2_apply (R : Fin 8208) (e : Fin 4096) : val_main_v2 (F := Ideal) x0 x2 (ix2 R e) = sq X W1 R.val e.val := by
  have q := v1_apply x0 x2 X W1 h0 h2 R e
  unfold val_main_v2
  generalize val_main_v1 (F := Ideal) x0 x2 = s at *
  pointwise []
  rw [q]
  rfl

include h0 h1 h2 h3 in
theorem v8_apply (R : Fin 8208) (k : Fin 1024) : val_main_v8 (F := Ideal) x0 x1 x2 x3 (ix2 R k) = out X H W1 W2 R.val k := by
  have q := v2_apply x0 x2 X W1 h0 h2 R
  unfold val_main_v8 val_main_v7
  generalize val_main_v2 (F := Ideal) x0 x2 = s at *
  pointwise []
  simp only [q, h1, h3]
  unfold out upto
  rw [Finset.sum_range]

include h0 h2 z0 in
theorem v4_apply (R : Fin 8320) (e : Fin 4096) : val_main_v4 (F := Ideal) x0 x2 (ix2 R e) = re X W1 R.val e.val := by
  have q := v1_apply x0 x2 X W1 h0 h2
  unfold val_main_v4 val_main_v3
  generalize val_main_v1 (F := Ideal) x0 x2 = s at *
  pointwise [val_main_call1_v0, val_main_c]
  split
  · next h => exact q ⟨R.val, by omega⟩ e
  · next h => rw [re_zero X W1 z0 R.val e.val (by omega), Sigmoid.zero_word]

include h0 h2 z0 in
theorem v6_apply (R : Fin 8320) (e : Fin 4096) : val_main_v6 (F := Ideal) x0 x2 (ix2 R e) = sq X W1 R.val e.val := by
  have q := v2_apply x0 x2 X W1 h0 h2
  unfold val_main_v6 val_main_v5
  generalize val_main_v2 (F := Ideal) x0 x2 = s at *
  pointwise [val_main_call2_v0, val_main_c_0]
  split
  · next h => exact q ⟨R.val, by omega⟩ e
  · next h => rw [sq_zero X W1 z0 R.val e.val (by omega), Sigmoid.zero_word]

include h0 h1 h2 h3 z0 z1 in
theorem v9_apply (R : Fin 8320) (k : Fin 1024) : val_main_v9 (F := Ideal) x0 x1 x2 x3 (ix2 R k) = out X H W1 W2 R.val k := by
  have q := v8_apply x0 x1 x2 x3 X H W1 W2 h0 h1 h2 h3
  unfold val_main_v9
  generalize val_main_v8 (F := Ideal) x0 x1 x2 x3 = s at *
  pointwise [val_main_call3_v0, val_main_c_1]
  split
  · next h => exact q ⟨R.val, by omega⟩ k
  · next h => rw [out_zero X H W1 W2 z0 z1 R.val k (by omega), Sigmoid.zero_word]

end Cert.MlpFwdRefIdeal.Hand
-- ==== Proof.MlpFwdEquation.lean ====
/- The squared-ReLU layer going forward: the kernel's three arrays are the reference's, whatever the arguments hold. -/
module

public import proofs.«01_k».proof.Defs
public import proofs.«01_k».proof.Proof.MlpFwdArray
public import proofs.«01_k».proof.Proof.MlpFwdReference
public import proofs.«01_k».proof.Proof.Gen.MlpFwdRefIdeal.Run
public import Idealize.ShloMosaic.Lib.StableHlo.ReadAt

@[expose] public section

set_option maxRecDepth 16384

noncomputable section

namespace Cert.MlpFwdIdeal.Hand

open Cert.MlpFwdIdeal Cert.MlpFwdIdeal.Gen Idealize.ShloMosaic Idealize.ShloMosaic.TcCoe Idealize.SL.Sem
open Cert.MlpFwdRefIdeal.Read Cert.MlpFwd

/-- The numbers of the arguments; rows past the last are zeros. -/
def rows (h : Vec Ideal S8208x1024 .f32) (n : ℕ) (k : Fin 1024) : EReal := if e : n < 8208 then h (ix2 ⟨n, e⟩ k) else 0
def weight {a b : ℕ} (w : Vec Ideal ⟨2, ![a, b]⟩ .f32) (k j : ℕ) : EReal := if e : k < a ∧ j < b then w (ix2 ⟨k, e.1⟩ ⟨j, e.2⟩) else 0

theorem rows_at (h : Vec Ideal S8208x1024 .f32) (R : Fin 8208) (k : Fin 1024) : h (ix2 R k) = rows h R.val k := by
  unfold rows
  rw [dif_pos R.isLt]

theorem rows_zero (h : Vec Ideal S8208x1024 .f32) (n : ℕ) (k : Fin 1024) (e : 8208 ≤ n) : rows h n k = 0 := dif_neg (by omega)

theorem weight_at {a b : ℕ} (w : Vec Ideal ⟨2, ![a, b]⟩ .f32) (k : Fin a) (j : Fin b) : w (ix2 k j) = weight w k.val j.val := by
  unfold weight
  rw [dif_pos ⟨k.isLt, j.isLt⟩]

variable (m : (ℓ : Loc nD τ sig) → Buf (Elt Ideal) ℓ) (c : Dev nD)

theorem w1_apply (w : Vec Ideal S1024x4096 .f32) (hw : m ((c : Thread nD τ).loc main_arg2) = w) (s : Fin 8) (k : Fin 1024) (e : Fin 512) :
    (V m c main_v2 : Vec Ideal S8x1024x512 .bf16) (ix3 s k e) = weight w k.val (512 * s.val + e.val) := by
  refine Eq.trans ?_ (weight_at (a := 1024) (b := 4096) w k ⟨512 * s.val + e.val, by omega⟩)
  subst hw
  unfold V
  after_reads_at
  exact congrArg (m ((c : Thread nD τ).loc main_arg2)) (congrArg (ix2 k) (Fin.ext (by dsimp only; omega)))

theorem w2_apply (w : Vec Ideal S4096x1024 .f32) (hw : m ((c : Thread nD τ).loc main_arg3) = w) (s : Fin 8) (e : Fin 512) (k : Fin 1024) :
    (V m c main_v4 : Vec Ideal S8x512x1024 .bf16) (ix3 s e k) = weight w (512 * s.val + e.val) k.val := by
  refine Eq.trans ?_ (weight_at (a := 4096) (b := 1024) w ⟨512 * s.val + e.val, by omega⟩ k)
  subst hw
  unfold V
  after_reads_at
  exact congrArg (fun j => m ((c : Thread nD τ).loc main_arg3) (ix2 j k)) (Fin.ext (by dsimp only; omega))

theorem x_apply (R : Fin 8320) (k : Fin 1024) (h : Vec Ideal S8208x1024 .f32) (hh : m ((c : Thread nD τ).loc main_arg0) = h) :
    (V m c main_v6 : Vec Ideal S8320x1024 .bf16) (ix2 R k) = rows h R.val k := by
  subst hh
  unfold V
  after_reads_at
  rw [Sigmoid.zero_word]
  rfl

theorem h_apply (R : Fin 8320) (k : Fin 1024) (h : Vec Ideal S8208x1024 .f32) (hh : m ((c : Thread nD τ).loc main_arg1) = h) :
    (V m c main_v7 : Vec Ideal S8320x1024 .f32) (ix2 R k) = rows h R.val k := by
  subst hh
  unfold V
  after_reads_at
  rw [Sigmoid.zero_word]
  rfl

/-- The kernel and the reference, from memories that agree on the arguments. -/
theorem algebraic : letI := Cert.MlpFwdIdeal.Gen.facts; letI := Cert.MlpFwdRefIdeal.Gen.facts;
    Cert.algebraic_MlpFwdIdeal_MlpFwdRefIdeal := by
  intro m g m' g' hpre hagree
  let X := fun c : Dev nD => rows (m ((c : Thread nD τ).loc main_arg0))
  let H := fun c : Dev nD => rows (m ((c : Thread nD τ).loc main_arg1))
  let W1 := fun c : Dev nD => weight (a := 1024) (b := 4096) (m ((c : Thread nD τ).loc main_arg2))
  let W2 := fun c : Dev nD => weight (a := 4096) (b := 1024) (m ((c : Thread nD τ).loc main_arg3))
  refine ⟨fun c => reArr (X c) (W1 c), fun c => sqArr (X c) (W1 c), fun c => outArr (X c) (H c) (W1 c) (W2 c), ?_, ?_⟩
  · refine (θ_run Cert.MlpFwdIdeal.defs _ _).mono (fun r h c => ?_) (Cert.MlpFwdIdeal.Value.run_blocks m g)
    have A : Arrays m c (X c) (H c) (W1 c) (W2 c) :=
      ⟨fun R k => x_apply m c R k _ rfl, fun R k => h_apply m c R k _ rfl, fun s k e => w1_apply m c _ rfl s k e, fun s e k => w2_apply m c _ rfl s e k⟩
    obtain ⟨h4, h5, h6, hargs⟩ := h c
    exact ⟨h4.trans (arr4 m c _ _ _ _ A), h5.trans (arr5 m c _ _ _ _ A), h6.trans (arr6 m c _ _ _ _ A), hargs⟩
  · refine (θ_run Cert.MlpFwdRefIdeal.defs _ _).mono (fun r h c => ?_) (Cert.MlpFwdRefIdeal.Value.run m' g')
    obtain ⟨a0, a1, a2, a3⟩ := hagree c
    obtain ⟨r0, r1, r2, hargs⟩ := h c
    refine ⟨r0.trans ?_, r1.trans ?_, r2.trans ?_, hargs⟩
    · rw [val_main_v4_eq, a0, a2]
      funext i
      obtain ⟨R, e, rfl⟩ : ∃ (R : Fin 8320) (e : Fin 4096), i = ix2 R e := ⟨i 0, i 1, eq_ix2 i⟩
      exact Cert.MlpFwdRefIdeal.Hand.v4_apply _ _ (X c) (W1 c) (rows_at _) (weight_at _) (rows_zero _) R e
    · rw [val_main_v6_eq, a0, a2]
      funext i
      obtain ⟨R, e, rfl⟩ : ∃ (R : Fin 8320) (e : Fin 4096), i = ix2 R e := ⟨i 0, i 1, eq_ix2 i⟩
      exact Cert.MlpFwdRefIdeal.Hand.v6_apply _ _ (X c) (W1 c) (rows_at _) (weight_at _) (rows_zero _) R e
    · rw [val_main_v9_eq, a0, a1, a2, a3]
      funext i
      obtain ⟨R, k, rfl⟩ : ∃ (R : Fin 8320) (k : Fin 1024), i = ix2 R k := ⟨i 0, i 1, eq_ix2 i⟩
      exact Cert.MlpFwdRefIdeal.Hand.v9_apply _ _ _ _ (X c) (H c) (W1 c) (W2 c) (rows_at _) (rows_at _) (weight_at _) (weight_at _) (rows_zero _) (rows_zero _) R k

end Cert.MlpFwdIdeal.Hand
-- ==== Proof.lean ====
module

public import proofs.«01_k».proof.Defs
public import proofs.«01_k».proof.Proof.Gen.FGate
public import proofs.«01_k».proof.Proof.Gen.FGate.Skeleton
public import proofs.«01_k».proof.Proof.Gen.FGate.Launch
public import proofs.«01_k».proof.Proof.Gen.FGate.Points
public import proofs.«01_k».proof.Proof.Gen.FGate.Frame
public import proofs.«01_k».proof.Proof.Gen.FGateIdeal
public import proofs.«01_k».proof.Proof.Gen.FGateIdeal.Skeleton
public import proofs.«01_k».proof.Proof.Gen.FGateIdeal.Launch
public import proofs.«01_k».proof.Proof.Gen.FGateIdeal.Points
public import proofs.«01_k».proof.Proof.Gen.FGateIdeal.Frame
public import proofs.«01_k».proof.Proof.Gen.FGateIdeal.Value
public import proofs.«01_k».proof.Proof.Gen.FGateRefIdeal.Run
public import proofs.«01_k».proof.Proof.Gen.FGateRefIdeal.Read
public import proofs.«01_k».proof.Proof.Gen.FGateRefIdeal
public import proofs.«01_k».proof.Proof.FGateEquation
public import proofs.«01_k».proof.Proof.Gen.Attn
public import proofs.«01_k».proof.Proof.Gen.Attn.Skeleton
public import proofs.«01_k».proof.Proof.Gen.Attn.Launch
public import proofs.«01_k».proof.Proof.Gen.Attn.Flash
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Flash
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.AttnFrameBits
public import proofs.«01_k».proof.Proof.AttnEquation
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Pre_loss_finite
public import proofs.«01_k».proof.Proof.LossEquation
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_inproj_finite
public import proofs.«01_k».proof.Proof.InProjEquation
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Pre_mlp_finite
public import proofs.«01_k».proof.Proof.MlpEquation
public import proofs.«01_k».proof.Proof.Gen.ConvPw
public import proofs.«01_k».proof.Proof.Gen.ConvPw.Skeleton
public import proofs.«01_k».proof.Proof.Gen.ConvPw.Launch
public import proofs.«01_k».proof.Proof.Gen.ConvPw.Points
public import proofs.«01_k».proof.Proof.Gen.ConvPw.Frame
public import proofs.«01_k».proof.Proof.Gen.ConvPwIdeal
public import proofs.«01_k».proof.Proof.Gen.ConvPwIdeal.Skeleton
public import proofs.«01_k».proof.Proof.Gen.ConvPwIdeal.Launch
public import proofs.«01_k».proof.Proof.Gen.ConvPwIdeal.Points
public import proofs.«01_k».proof.Proof.Gen.ConvPwIdeal.Frame
public import proofs.«01_k».proof.Proof.Gen.ConvPwIdeal.Value
public import proofs.«01_k».proof.Proof.Gen.ConvPwRefIdeal
public import proofs.«01_k».proof.Proof.Gen.ConvPwRefIdeal.Run
public import proofs.«01_k».proof.Proof.Gen.ConvPwRefIdeal.Read
public import proofs.«01_k».proof.Proof.Gen.Pre_pw_finite
public import proofs.«01_k».proof.Proof.ConvPwEquation
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjEquation
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdIdeal.Value
public import proofs.«01_k».proof.Proof.Gen.MlpFwdRefIdeal
public import proofs.«01_k».proof.Proof.Gen.MlpFwdRefIdeal.Run
public import proofs.«01_k».proof.Proof.Gen.MlpFwdRefIdeal.Read
public import proofs.«01_k».proof.Proof.MlpFwdEquation
public import Idealize.ShloMosaic.Adequacy
public import Idealize.ShloMosaic.Init

@[expose] public section

noncomputable section

namespace Cert.Proof

open Idealize.ShloMosaic Idealize.SL.Sem Cert.FGate

/-- The reference runs and leaves its arguments as they were. -/
theorem frame_fgateRef : letI := Cert.FGateRefIdeal.Gen.facts; Cert.quiescent_FGateRefIdeal := by
  letI := Cert.FGateRefIdeal.Gen.facts
  exact fun m ρ _ => (θ_run Cert.FGateRefIdeal.defs _ _).mono (fun r h => ⟨fun c => (h c).2.2,
    sem_eq_zero_of_no_sems (by decide) r.2⟩) (Cert.FGateRefIdeal.Value.run (F := Ideal) m ρ)

/-- The attention's reference runs and leaves its arguments as they were. -/
theorem frame_attnRef : letI := Cert.AttnRefIdeal.Gen.facts; Cert.quiescent_AttnRefIdeal := by
  letI := Cert.AttnRefIdeal.Gen.facts
  exact fun m ρ _ => (θ_run Cert.AttnRefIdeal.defs _ _).mono (fun r h => ⟨fun c => (h c).2.2.2.2.2,
    sem_eq_zero_of_no_sems (by decide) r.2⟩) (Cert.AttnRefIdeal.Value.run (F := Ideal) m ρ)

/-- The loss's reference runs and leaves its arguments as they were. -/
theorem frame_lossRef : letI := Cert.LossHeadRefIdeal.Gen.facts; Cert.quiescent_LossHeadRefIdeal := by
  letI := Cert.LossHeadRefIdeal.Gen.facts
  exact fun m ρ _ => (θ_run Cert.LossHeadRefIdeal.defs _ _).mono (fun r h => ⟨fun c => (h c).2.2.2,
    sem_eq_zero_of_no_sems (by decide) r.2⟩) (Cert.LossHeadRefIdeal.Value.run (F := Ideal) m ρ)

/-- The input projection's reference runs and leaves its arguments as they were. -/
theorem frame_inprojRef : letI := Cert.InProjRefIdeal.Gen.facts; Cert.quiescent_InProjRefIdeal := by
  letI := Cert.InProjRefIdeal.Gen.facts
  exact fun m ρ _ => (θ_run Cert.InProjRefIdeal.defs _ _).mono (fun r h => ⟨fun c => (h c).2.2,
    sem_eq_zero_of_no_sems (by decide) r.2⟩) (Cert.InProjRefIdeal.Value.run (F := Ideal) m ρ)

/-- The MLP's reference runs and leaves its arguments as they were. -/
theorem frame_mlpRef : letI := Cert.MlpRefIdeal.Gen.facts; Cert.quiescent_MlpRefIdeal := by
  letI := Cert.MlpRefIdeal.Gen.facts
  exact fun m ρ _ => (θ_run Cert.MlpRefIdeal.defs _ _).mono (fun r h => ⟨fun c => (h c).2.2.2,
    sem_eq_zero_of_no_sems (by decide) r.2⟩) (Cert.MlpRefIdeal.Value.run (F := Ideal) m ρ)

/-- The conformer's reference runs and leaves its arguments as they were. -/
theorem frame_pwRef : letI := Cert.ConvPwRefIdeal.Gen.facts; Cert.quiescent_ConvPwRefIdeal := by
  letI := Cert.ConvPwRefIdeal.Gen.facts
  exact fun m ρ _ => (θ_run Cert.ConvPwRefIdeal.defs _ _).mono (fun r h => ⟨fun c => (h c).2.2.2,
    sem_eq_zero_of_no_sems (by decide) r.2⟩) (Cert.ConvPwRefIdeal.Value.run (F := Ideal) m ρ)

/-- The output projection's reference runs and leaves its arguments as they were. -/
theorem frame_outprojRef : letI := Cert.OutProjRefIdeal.Gen.facts; Cert.quiescent_OutProjRefIdeal := by
  letI := Cert.OutProjRefIdeal.Gen.facts
  exact fun m ρ _ => (θ_run Cert.OutProjRefIdeal.defs _ _).mono (fun r h => ⟨fun c => (h c).2.2,
    sem_eq_zero_of_no_sems (by decide) r.2⟩) (Cert.OutProjRefIdeal.Value.run (F := Ideal) m ρ)

/-- The squared-ReLU layer's forward reference runs and leaves its arguments as they were. -/
theorem frame_mlpFwdRef : letI := Cert.MlpFwdRefIdeal.Gen.facts; Cert.quiescent_MlpFwdRefIdeal := by
  letI := Cert.MlpFwdRefIdeal.Gen.facts
  exact fun m ρ _ => (θ_run Cert.MlpFwdRefIdeal.defs _ _).mono (fun r h => ⟨fun c => (h c).2.2.2,
    sem_eq_zero_of_no_sems (by decide) r.2⟩) (Cert.MlpFwdRefIdeal.Value.run (F := Ideal) m ρ)

theorem claim : Cert.Claim :=
  ⟨Cert.FGate.Gen.facts, Cert.FGateIdeal.Gen.facts, Cert.FGateRefIdeal.Gen.facts,
    Cert.Attn.Gen.facts, Cert.AttnIdeal.Gen.facts, Cert.AttnRefIdeal.Gen.facts,
    Cert.LossHead.Gen.facts, Cert.LossHeadIdeal.Gen.facts, Cert.LossHeadRefIdeal.Gen.facts,
    Cert.InProj.Gen.facts, Cert.InProjIdeal.Gen.facts, Cert.InProjRefIdeal.Gen.facts,
    Cert.Mlp.Gen.facts, Cert.MlpIdeal.Gen.facts, Cert.MlpRefIdeal.Gen.facts,
    Cert.ConvPw.Gen.facts, Cert.ConvPwIdeal.Gen.facts, Cert.ConvPwRefIdeal.Gen.facts,
    Cert.OutProj.Gen.facts, Cert.OutProjIdeal.Gen.facts, Cert.OutProjRefIdeal.Gen.facts,
    Cert.MlpFwd.Gen.facts, Cert.MlpFwdIdeal.Gen.facts, Cert.MlpFwdRefIdeal.Gen.facts,
    Cert.FGateIdeal.Hand.pre_facts, Cert.Pre_attn_finite.Gen.facts, Cert.Pre_loss_finite.Gen.facts, Cert.Pre_inproj_finite.Gen.facts, Cert.Pre_mlp_finite.Gen.facts, Cert.Pre_pw_finite.Gen.facts,
    fun m ρ _ => Cert.FGate.Gen.frame m ρ, fun m ρ _ => Cert.FGateIdeal.Gen.frame m ρ,
    fun m ρ _ => Cert.FGateIdeal.Gen.frame m ρ, frame_fgateRef, fun m ρ _ => frame_fgateRef m ρ trivial,
    Cert.AttnIdeal.Hand.frame_attn, fun m ρ _ => Cert.AttnIdeal.Hand.frame m ρ, fun m ρ _ => Cert.AttnIdeal.Hand.frame m ρ,
    frame_attnRef, fun m ρ _ => frame_attnRef m ρ trivial,
    fun m ρ _ => Cert.LossHead.Gen.frame m ρ, fun m ρ _ => Cert.LossHeadIdeal.Gen.frame m ρ, fun m ρ _ => Cert.LossHeadIdeal.Gen.frame m ρ,
    frame_lossRef, fun m ρ _ => frame_lossRef m ρ trivial,
    fun m ρ _ => Cert.InProj.Gen.frame m ρ, fun m ρ _ => Cert.InProjIdeal.Gen.frame m ρ, fun m ρ _ => Cert.InProjIdeal.Gen.frame m ρ,
    frame_inprojRef, fun m ρ _ => frame_inprojRef m ρ trivial,
    fun m ρ _ => Cert.Mlp.Gen.frame m ρ, fun m ρ _ => Cert.MlpIdeal.Gen.frame m ρ, fun m ρ _ => Cert.MlpIdeal.Gen.frame m ρ,
    frame_mlpRef, fun m ρ _ => frame_mlpRef m ρ trivial,
    fun m ρ _ => Cert.ConvPw.Gen.frame m ρ, fun m ρ _ => Cert.ConvPwIdeal.Gen.frame m ρ, fun m ρ _ => Cert.ConvPwIdeal.Gen.frame m ρ,
    frame_pwRef, fun m ρ _ => frame_pwRef m ρ trivial,
    fun m ρ _ => Cert.OutProj.Gen.frame m ρ, fun m ρ _ => Cert.OutProjIdeal.Gen.frame m ρ, frame_outprojRef,
    fun m ρ _ => Cert.MlpFwd.Gen.frame m ρ, fun m ρ _ => Cert.MlpFwdIdeal.Gen.frame m ρ, frame_mlpFwdRef,
    trivial, Cert.FGateIdeal.Hand.algebraic,
    IdealRules.named_const.statement _ _ _ _ _ rfl, Cert.AttnIdeal.Hand.algebraic,
    trivial, Cert.LossHeadIdeal.Hand.algebraic,
    trivial, Cert.InProjIdeal.Hand.algebraic,
    trivial, Cert.MlpIdeal.Hand.algebraic,
    trivial, Cert.ConvPwIdeal.Hand.algebraic,
    trivial, Cert.OutProjIdeal.Hand.algebraic,
    trivial, Cert.MlpFwdIdeal.Hand.algebraic⟩

end Cert.Proof

end
